-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x20000x4 : Shape := ⟨3, ![8, 20000, 4]⟩
abbrev S8x20000 : Shape := ⟨2, ![8, 20000]⟩
abbrev S8x20000x1 : Shape := ⟨3, ![8, 20000, 1]⟩
abbrev S_ : Shape := ⟨0, ![]⟩
abbrev S8x20016 : Shape := ⟨2, ![8, 20016]⟩
abbrev S8x112 : Shape := ⟨2, ![8, 112]⟩
abbrev S20016 : Shape := ⟨1, ![20016]⟩
abbrev S1280 : Shape := ⟨1, ![1280]⟩
abbrev S80 : Shape := ⟨1, ![80]⟩
abbrev S112 : Shape := ⟨1, ![112]⟩
abbrev S32 : Shape := ⟨1, ![32]⟩
abbrev S4 : Shape := ⟨1, ![4]⟩
abbrev S16 : Shape := ⟨1, ![16]⟩
abbrev S1x20016 : Shape := ⟨2, ![1, 20016]⟩
abbrev S1 : Shape := ⟨1, ![1]⟩
abbrev S1x112 : Shape := ⟨2, ![1, 112]⟩
abbrev S8x112x1 : Shape := ⟨3, ![8, 112, 1]⟩
abbrev S8x112x4 : Shape := ⟨3, ![8, 112, 4]⟩
abbrev S8x100x4 : Shape := ⟨3, ![8, 100, 4]⟩
abbrev S8x100 : Shape := ⟨2, ![8, 100]⟩
abbrev S8 : Shape := ⟨1, ![8]⟩

abbrev nBuf : Table → Nat
  | .hbm => 55
  | .local .scVector .smem => 1
  | .local .scVector .vmem => 18
  | _ => 0

abbrev bufTy : (tb : Table) → Fin (nBuf tb) → BufTy
  | .hbm, ⟨0, _⟩ => ⟨S8x20000x4, .f32⟩
  | .hbm, ⟨1, _⟩ => ⟨S8x20000, .f32⟩
  | .hbm, ⟨2, _⟩ => ⟨S8x20000x1, .f32⟩
  | .hbm, ⟨3, _⟩ => ⟨S8x20000, .f32⟩
  | .hbm, ⟨4, _⟩ => ⟨S_, .i32⟩
  | .hbm, ⟨5, _⟩ => ⟨S_, .f32⟩
  | .hbm, ⟨6, _⟩ => ⟨S8x20016, .f32⟩
  | .hbm, ⟨7, _⟩ => ⟨S8x20000x1, .f32⟩
  | .hbm, ⟨8, _⟩ => ⟨S8x20000, .f32⟩
  | .hbm, ⟨9, _⟩ => ⟨S_, .i32⟩
  | .hbm, ⟨10, _⟩ => ⟨S_, .f32⟩
  | .hbm, ⟨11, _⟩ => ⟨S8x20016, .f32⟩
  | .hbm, ⟨12, _⟩ => ⟨S8x20000x1, .f32⟩
  | .hbm, ⟨13, _⟩ => ⟨S8x20000, .f32⟩
  | .hbm, ⟨14, _⟩ => ⟨S_, .i32⟩
  | .hbm, ⟨15, _⟩ => ⟨S_, .f32⟩
  | .hbm, ⟨16, _⟩ => ⟨S8x20016, .f32⟩
  | .hbm, ⟨17, _⟩ => ⟨S8x20000x1, .f32⟩
  | .hbm, ⟨18, _⟩ => ⟨S8x20000, .f32⟩
  | .hbm, ⟨19, _⟩ => ⟨S_, .i32⟩
  | .hbm, ⟨20, _⟩ => ⟨S_, .f32⟩
  | .hbm, ⟨21, _⟩ => ⟨S8x20016, .f32⟩
  | .hbm, ⟨22, _⟩ => ⟨S_, .i32⟩
  | .hbm, ⟨23, _⟩ => ⟨S_, .f32⟩
  | .hbm, ⟨24, _⟩ => ⟨S8x20016, .f32⟩
  | .hbm, ⟨25, _⟩ => ⟨S8x112, .f32⟩
  | .hbm, ⟨26, _⟩ => ⟨S8x112, .f32⟩
  | .hbm, ⟨27, _⟩ => ⟨S8x112, .f32⟩
  | .hbm, ⟨28, _⟩ => ⟨S8x112, .f32⟩
  | .hbm, ⟨29, _⟩ => ⟨S8x112, .f32⟩
  | .hbm, ⟨30, _⟩ => ⟨S8x112x1, .f32⟩
  | .hbm, ⟨31, _⟩ => ⟨S8x112x1, .f32⟩
  | .hbm, ⟨32, _⟩ => ⟨S8x112x1, .f32⟩
  | .hbm, ⟨33, _⟩ => ⟨S8x112x1, .f32⟩
  | .hbm, ⟨34, _⟩ => ⟨S8x112x4, .f32⟩
  | .hbm, ⟨35, _⟩ => ⟨S8x100x4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8x100x4, .f32⟩
  | .hbm, ⟨40, _⟩ => ⟨S8x100x4, .f32⟩
  | .hbm, ⟨41, _⟩ => ⟨S_, .f32⟩
  | .hbm, ⟨42, _⟩ => ⟨S8x100x4, .f32⟩
  | .hbm, ⟨43, _⟩ => ⟨S8x100x4, .f32⟩
  | .hbm, ⟨44, _⟩ => ⟨S8x100, .f32⟩
  | .hbm, ⟨45, _⟩ => ⟨S_, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S_, .f32⟩
  | .local .scVector .smem, ⟨0, _⟩ => ⟨S4, .i32⟩
  | .local .scVector .vmem, ⟨0, _⟩ => ⟨S20016, .f32⟩
  | .local .scVector .vmem, ⟨1, _⟩ => ⟨S20016, .f32⟩
  | .local .scVector .vmem, ⟨2, _⟩ => ⟨S20016, .f32⟩
  | .local .scVector .vmem, ⟨3, _⟩ => ⟨S20016, .f32⟩
  | .local .scVector .vmem, ⟨4, _⟩ => ⟨S20016, .f32⟩
  | .local .scVector .vmem, ⟨5, _⟩ => ⟨S1280, .f32⟩
  | .local .scVector .vmem, ⟨6, _⟩ => ⟨S1280, .i32⟩
  | .local .scVector .vmem, ⟨7, _⟩ => ⟨S80, .f32⟩
  | .local .scVector .vmem, ⟨8, _⟩ => ⟨S80, .i32⟩
  | .local .scVector .vmem, ⟨9, _⟩ => ⟨S112, .f32⟩
  | .local .scVector .vmem, ⟨10, _⟩ => ⟨S112, .f32⟩
  | .local .scVector .vmem, ⟨11, _⟩ => ⟨S112, .f32⟩
  | .local .scVector .vmem, ⟨12, _⟩ => ⟨S112, .f32⟩
  | .local .scVector .vmem, ⟨13, _⟩ => ⟨S112, .f32⟩
  | .local .scVector .vmem, ⟨14, _⟩ => ⟨S112, .f32⟩
  | .local .scVector .vmem, ⟨15, _⟩ => ⟨S112, .f32⟩
  | .local .scVector .vmem, ⟨16, _⟩ => ⟨S32, .f32⟩
  | .local .scVector .vmem, ⟨17, _⟩ => ⟨S32, .i32⟩
  | _, _ => ⟨S8x20000x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_call2_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_call3_v0 : Ref sig .tc := ⟨.hbm, 20, rfl⟩
abbrev main_v11 : Ref sig .tc := ⟨.hbm, 21, rfl⟩
abbrev main_c_3 : Ref sig .tc := ⟨.hbm, 22, rfl⟩
abbrev main_call4_v0 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v13_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_cst_4 : Ref sig .tc := ⟨.hbm, 37, rfl⟩
abbrev main_call5_v0 : Ref sig .tc := ⟨.hbm, 38, rfl⟩
abbrev main_call5_v1 : Ref sig .tc := ⟨.hbm, 39, rfl⟩
abbrev main_call5_v2 : Ref sig .tc := ⟨.hbm, 40, rfl⟩
abbrev main_call5_v3 : Ref sig .tc := ⟨.hbm, 41, rfl⟩
abbrev main_call5_v4 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_cst_7 : Ref sig .tc := ⟨.hbm, 50, rfl⟩
abbrev main_v25 : Ref sig .tc := ⟨.hbm, 51, rfl⟩
abbrev main_v26 : Ref sig .tc := ⟨.hbm, 52, rfl⟩
abbrev main_cst_8 : Ref sig .tc := ⟨.hbm, 53, rfl⟩
abbrev main_v27 : Ref sig .tc := ⟨.hbm, 54, rfl⟩
abbrev main_v2_scv : Ref sig .scVector := ⟨.hbm, 6, rfl⟩
abbrev main_v5_scv : Ref sig .scVector := ⟨.hbm, 11, rfl⟩
abbrev main_v8_scv : Ref sig .scVector := ⟨.hbm, 16, rfl⟩
abbrev main_v11_scv : Ref sig .scVector := ⟨.hbm, 21, rfl⟩
abbrev main_v12_scv : Ref sig .scVector := ⟨.hbm, 24, rfl⟩
abbrev main_v13_0_scv : Ref sig .scVector := ⟨.hbm, 25, rfl⟩
abbrev main_v13_1_scv : Ref sig .scVector := ⟨.hbm, 26, rfl⟩
abbrev main_v13_2_scv : Ref sig .scVector := ⟨.hbm, 27, rfl⟩
abbrev main_v13_3_scv : Ref sig .scVector := ⟨.hbm, 28, rfl⟩
abbrev main_v13_4_scv : Ref sig .scVector := ⟨.hbm, 29, rfl⟩
abbrev cc0_scratch18 : Ref sig .scVector := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v3 : BitVec 1 := Scalar.cmpi .slt v1 c8_i32
  let v4 : BitVec 32 := Scalar.extui v3
  let c0_i32 : BitVec 32 := 0#32
  let v5 : BitVec 1 := Scalar.cmpi .ne v4 c0_i32
  v5

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_230_r0 : BitVec 32 := 0#32
  ![v1.toNat, 0]
@[reducible] def k0_t1_loop : Scf.Loop 32 :=
  let c0_i32_80 : BitVec 32 := 0#32
  let c80_i32 : BitVec 32 := 80#32
  let v182 : BitVec 32 := Scalar.addi c0_i32_80 c80_i32
  let c1_i32 : BitVec 32 := 1#32
  ⟨c0_i32_80, v182, c1_i32⟩
@[reducible] def k0_t2_loop (k0_t1 : Fin k0_t1_loop.trips) : Scf.Loop 32 :=
  let c0_i32_235 : BitVec 32 := 0#32
  let c16_i32_231 : BitVec 32 := 16#32
  let c1251_i32 : BitVec 32 := 1251#32
  let c0_i32_80 : BitVec 32 := 0#32
  let c1_i32 : BitVec 32 := 1#32
  let arg31 : BitVec 32 := Scf.iv c0_i32_80 c1_i32 k0_t1
  let c16_i32_230 : BitVec 32 := 16#32
  let v576 : BitVec 32 := Scalar.muli arg31 c16_i32_230
  let v577 : BitVec 32 := Scalar.subi c1251_i32 v576
  let v578 : BitVec 32 := Scalar.minsi c16_i32_231 v577
  let c0_i32_232 : BitVec 32 := 0#32
  let v579 : BitVec 32 := Scalar.maxsi v578 c0_i32_232
  let v582 : BitVec 32 := Scalar.subi v579 c0_i32_235
  let c1_i32_236 : BitVec 32 := 1#32
  let v584 : BitVec 32 := Scalar.divsi v582 c1_i32_236
  let v585 : BitVec 32 := Scalar.muli v584 c1_i32_236
  let v586 : BitVec 32 := Scalar.addi c0_i32_235 v585
  let c1_i32_237 : BitVec 32 := 1#32
  ⟨c0_i32_235, v586, c1_i32_237⟩
def k0_off2 (k0_t1 : Fin k0_t1_loop.trips) (k0_t2 : Fin (k0_t2_loop k0_t1).trips) : Fin 1 → Nat :=
  let c0_i32_80 : BitVec 32 := 0#32
  let c1_i32 : BitVec 32 := 1#32
  let arg31 : BitVec 32 := Scf.iv c0_i32_80 c1_i32 k0_t1
  let c16_i32_241 : BitVec 32 := 16#32
  let v599 : BitVec 32 := Scalar.muli arg31 c16_i32_241
  let c0_i32_235 : BitVec 32 := 0#32
  let c1_i32_237 : BitVec 32 := 1#32
  let arg32 : BitVec 32 := Scf.iv c0_i32_235 c1_i32_237 k0_t2
  let v600 : BitVec 32 := Scalar.addi v599 arg32
  let c16_i32_242 : BitVec 32 := 16#32
  let v601 : BitVec 32 := Scalar.muli v600 c16_i32_242
  let v602 : Index := Scalar.indexCast v601
  ![v602.toNat]
@[reducible] def k0_t3_loop (k0_t1 : Fin k0_t1_loop.trips) : Scf.Loop 32 :=
  let c0_i32_235 : BitVec 32 := 0#32
  let c16_i32_231 : BitVec 32 := 16#32
  let c1251_i32 : BitVec 32 := 1251#32
  let c0_i32_80 : BitVec 32 := 0#32
  let c1_i32 : BitVec 32 := 1#32
  let arg31 : BitVec 32 := Scf.iv c0_i32_80 c1_i32 k0_t1
  let c16_i32_230 : BitVec 32 := 16#32
  let v576 : BitVec 32 := Scalar.muli arg31 c16_i32_230
  let v577 : BitVec 32 := Scalar.subi c1251_i32 v576
  let v578 : BitVec 32 := Scalar.minsi c16_i32_231 v577
  let c0_i32_232 : BitVec 32 := 0#32
  let v579 : BitVec 32 := Scalar.maxsi v578 c0_i32_232
  let v582 : BitVec 32 := Scalar.subi v579 c0_i32_235
  let c1_i32_236 : BitVec 32 := 1#32
  let v584 : BitVec 32 := Scalar.divsi v582 c1_i32_236
  let v585 : BitVec 32 := Scalar.muli v584 c1_i32_236
  let v586 : BitVec 32 := Scalar.addi c0_i32_235 v585
  let v583 : BitVec 32 := Scalar.addi c0_i32_235 v582
  let c1_i32_238 : BitVec 32 := 1#32
  ⟨v586, v583, c1_i32_238⟩
def k0_off3 (k0_t1 : Fin k0_t1_loop.trips) (k0_t3 : Fin (k0_t3_loop k0_t1).trips) : Fin 1 → Nat :=
  let c0_i32_80 : BitVec 32 := 0#32
  let c1_i32 : BitVec 32 := 1#32
  let arg31 : BitVec 32 := Scf.iv c0_i32_80 c1_i32 k0_t1
  let c16_i32_241 : BitVec 32 := 16#32
  let v599 : BitVec 32 := Scalar.muli arg31 c16_i32_241
  let c0_i32_235 : BitVec 32 := 0#32
  let c16_i32_231 : BitVec 32 := 16#32
  let c1251_i32 : BitVec 32 := 1251#32
  let c16_i32_230 : BitVec 32 := 16#32
  let v576 : BitVec 32 := Scalar.muli arg31 c16_i32_230
  let v577 : BitVec 32 := Scalar.subi c1251_i32 v576
  let v578 : BitVec 32 := Scalar.minsi c16_i32_231 v577
  let c0_i32_232 : BitVec 32 := 0#32
  let v579 : BitVec 32 := Scalar.maxsi v578 c0_i32_232
  let v582 : BitVec 32 := Scalar.subi v579 c0_i32_235
  let c1_i32_236 : BitVec 32 := 1#32
  let v584 : BitVec 32 := Scalar.divsi v582 c1_i32_236
  let v585 : BitVec 32 := Scalar.muli v584 c1_i32_236
  let v586 : BitVec 32 := Scalar.addi c0_i32_235 v585
  let c1_i32_238 : BitVec 32 := 1#32
  let arg32 : BitVec 32 := Scf.iv v586 c1_i32_238 k0_t3
  let v600 : BitVec 32 := Scalar.addi v599 arg32
  let c16_i32_242 : BitVec 32 := 16#32
  let v601 : BitVec 32 := Scalar.muli v600 c16_i32_242
  let v602 : Index := Scalar.indexCast v601
  ![v602.toNat]
def k0_off4 (k0_t1 : Fin k0_t1_loop.trips) : Fin 1 → Nat :=
  let c0_i32_80 : BitVec 32 := 0#32
  let c1_i32 : BitVec 32 := 1#32
  let arg31 : BitVec 32 := Scf.iv c0_i32_80 c1_i32 k0_t1
  let c16_i32_239 : BitVec 32 := 16#32
  let v589 : BitVec 32 := Scalar.muli arg31 c16_i32_239
  let v590 : Index := Scalar.indexCast v589
  ![v590.toNat]
@[reducible] def k0_t4_loop : Scf.Loop 32 :=
  let c0_i32_83 : BitVec 32 := 0#32
  let c5_i32 : BitVec 32 := 5#32
  let v183 : BitVec 32 := Scalar.addi c0_i32_83 c5_i32
  let c1_i32_84 : BitVec 32 := 1#32
  ⟨c0_i32_83, v183, c1_i32_84⟩
@[reducible] def k0_t5_loop : Scf.Loop 32 :=
  let c0_i32_232 : BitVec 32 := 0#32
  let c16_i32_233 : BitVec 32 := 16#32
  let v578 : BitVec 32 := Scalar.addi c0_i32_232 c16_i32_233
  let c1_i32_234 : BitVec 32 := 1#32
  ⟨c0_i32_232, v578, c1_i32_234⟩
def k0_off5 (k0_t4 : Fin k0_t4_loop.trips) (k0_t5 : Fin k0_t5_loop.trips) : Fin 1 → Nat :=
  let c0_i32_83 : BitVec 32 := 0#32
  let c1_i32_84 : BitVec 32 := 1#32
  let arg31 : BitVec 32 := Scf.iv c0_i32_83 c1_i32_84 k0_t4
  let c16_i32_238 : BitVec 32 := 16#32
  let v590 : BitVec 32 := Scalar.muli arg31 c16_i32_238
  let c0_i32_232 : BitVec 32 := 0#32
  let c1_i32_234 : BitVec 32 := 1#32
  let arg32 : BitVec 32 := Scf.iv c0_i32_232 c1_i32_234 k0_t5
  let v591 : BitVec 32 := Scalar.addi v590 arg32
  let c16_i32_239 : BitVec 32 := 16#32
  let v592 : BitVec 32 := Scalar.muli v591 c16_i32_239
  let v593 : Index := Scalar.indexCast v592
  ![v593.toNat]
def k0_off6 (k0_t4 : Fin k0_t4_loop.trips) : Fin 1 → Nat :=
  let c0_i32_83 : BitVec 32 := 0#32
  let c1_i32_84 : BitVec 32 := 1#32
  let arg31 : BitVec 32 := Scf.iv c0_i32_83 c1_i32_84 k0_t4
  let c16_i32_236 : BitVec 32 := 16#32
  let v580 : BitVec 32 := Scalar.muli arg31 c16_i32_236
  let v581 : Index := Scalar.indexCast v580
  ![v581.toNat]
@[reducible] def k0_t6_loop : Scf.Loop 32 :=
  let c0_i32_91 : BitVec 32 := 0#32
  let c21_i32 : BitVec 32 := 21#32
  let v188 : BitVec 32 := Scalar.addi c0_i32_91 c21_i32
  let c1_i32_92 : BitVec 32 := 1#32
  ⟨c0_i32_91, v188, c1_i32_92⟩
@[reducible] def k0_t7_loop (v577 : BitVec 32) : Scf.Loop 32 :=
  let c0_i32_234 : BitVec 32 := 0#32
  let c1_i32_231 : BitVec 32 := 1#32
  let v578 : BitVec 1 := Scalar.cmpi .eq v577 c1_i32_231
  let c0_i32_232 : BitVec 32 := 0#32
  let c16_i32_233 : BitVec 32 := 16#32
  let v579 : BitVec 32 := Scalar.select v578 c0_i32_232 c16_i32_233
  let v580 : BitVec 32 := Scalar.subi v579 c0_i32_234
  let c1_i32_235 : BitVec 32 := 1#32
  let v582 : BitVec 32 := Scalar.divsi v580 c1_i32_235
  let v583 : BitVec 32 := Scalar.muli v582 c1_i32_235
  let v584 : BitVec 32 := Scalar.addi c0_i32_234 v583
  let c1_i32_236 : BitVec 32 := 1#32
  ⟨c0_i32_234, v584, c1_i32_236⟩

@[reducible] def k0_t8_loop (v586 : BitVec 32) : Scf.Loop 32 :=
  let c0_i32_242 : BitVec 32 := 0#32
  let c1_i32_239 : BitVec 32 := 1#32
  let v587 : BitVec 1 := Scalar.cmpi .eq v586 c1_i32_239
  let c0_i32_240 : BitVec 32 := 0#32
  let c64_i32_241 : BitVec 32 := 64#32
  let v588 : BitVec 32 := Scalar.select v587 c0_i32_240 c64_i32_241
  let v589 : BitVec 32 := Scalar.subi v588 c0_i32_242
  let c1_i32_243 : BitVec 32 := 1#32
  let v591 : BitVec 32 := Scalar.divsi v589 c1_i32_243
  let v592 : BitVec 32 := Scalar.muli v591 c1_i32_243
  let v593 : BitVec 32 := Scalar.addi c0_i32_242 v592
  let c1_i32_244 : BitVec 32 := 1#32
  ⟨c0_i32_242, v593, c1_i32_244⟩

@[reducible] def k0_t9_loop : Scf.Loop 32 :=
  let c0_i32_252 : BitVec 32 := 0#32
  let c5_i32_253 : BitVec 32 := 5#32
  let v603 : BitVec 32 := Scalar.addi c0_i32_252 c5_i32_253
  let c1_i32_254 : BitVec 32 := 1#32
  ⟨c0_i32_252, v603, c1_i32_254⟩
def k0_off7 (k0_t9 : Fin k0_t9_loop.trips) : Fin 1 → Nat :=
  let c0_i32_252 : BitVec 32 := 0#32
  let c1_i32_254 : BitVec 32 := 1#32
  let arg34 : BitVec 32 := Scf.iv c0_i32_252 c1_i32_254 k0_t9
  let c16_i32_366 : BitVec 32 := 16#32
  let v980 : BitVec 32 := Scalar.muli arg34 c16_i32_366
  let v981 : Index := Scalar.indexCast v980
  ![v981.toNat]
def k0_off8 (v686 : BitVec 32) : Fin 1 → Nat :=
  let c20000_i32 : BitVec 32 := 20000#32
  let v687 : BitVec 32 := Scalar.minsi v686 c20000_i32
  let v689 : Index := Scalar.indexCast v687
  ![v689.toNat]
def k0_cond2 (v595 : BitVec 32) : BitVec 1 :=
  let c0_i32_247 : BitVec 32 := 0#32
  let v596 : BitVec 1 := Scalar.cmpi .eq v595 c0_i32_247
  let v597 : BitVec 32 := Scalar.extui v596
  let c0_i32_248 : BitVec 32 := 0#32
  let v598 : BitVec 1 := Scalar.cmpi .ne v597 c0_i32_248
  v598

@[reducible] def k0_t10_loop (v600 : BitVec 32) : Scf.Loop 32 :=
  let c0_i32_292 : BitVec 32 := 0#32
  let c16_i32_282 : BitVec 32 := 16#32
  let v712 : BitVec 32 := Scalar.addi v600 c16_i32_282
  let c1_i32_283 : BitVec 32 := 1#32
  let v713 : BitVec 32 := Scalar.subi v712 c1_i32_283
  let c0_i32_285 : BitVec 32 := 0#32
  let v715 : BitVec 1 := Scalar.cmpi .sgt v713 c0_i32_285
  let v716 : BitVec 32 := Scalar.extui v715
  let c0_i32_286 : BitVec 32 := 0#32
  let v717 : BitVec 1 := Scalar.cmpi .slt v713 c0_i32_286
  let v718 : BitVec 32 := Scalar.extui v717
  let v719 : BitVec 32 := Scalar.subi v716 v718
  let c16_i32_284 : BitVec 32 := 16#32
  let c0_i32_287 : BitVec 32 := 0#32
  let v720 : BitVec 1 := Scalar.cmpi .sgt c16_i32_284 c0_i32_287
  let v721 : BitVec 32 := Scalar.extui v720
  let c0_i32_288 : BitVec 32 := 0#32
  let v722 : BitVec 1 := Scalar.cmpi .slt c16_i32_284 c0_i32_288
  let v723 : BitVec 32 := Scalar.extui v722
  let v724 : BitVec 32 := Scalar.subi v721 v723
  let v725 : BitVec 1 := Scalar.cmpi .ne v719 v724
  let v726 : BitVec 32 := Scalar.remsi v713 c16_i32_284
  let c0_i32_289 : BitVec 32 := 0#32
  let v727 : BitVec 1 := Scalar.cmpi .ne v726 c0_i32_289
  let v728 : BitVec 1 := Scalar.andi v725 v727
  let v714 : BitVec 32 := Scalar.divsi v713 c16_i32_284
  let c1_i32_290 : BitVec 32 := 1#32
  let v729 : BitVec 32 := Scalar.subi v714 c1_i32_290
  let v730 : BitVec 32 := Scalar.select v728 v729 v714
  let v732 : BitVec 32 := Scalar.subi v730 c0_i32_292
  let c1_i32_293 : BitVec 32 := 1#32
  let v734 : BitVec 32 := Scalar.divsi v732 c1_i32_293
  let v735 : BitVec 32 := Scalar.muli v734 c1_i32_293
  let v736 : BitVec 32 := Scalar.addi c0_i32_292 v735
  let c1_i32_294 : BitVec 32 := 1#32
  ⟨c0_i32_292, v736, c1_i32_294⟩

def k0_off9 (v600 : BitVec 32) (k0_t10 : Fin (k0_t10_loop v600).trips) : Fin 1 → Nat :=
  let c0_i32_292 : BitVec 32 := 0#32
  let c1_i32_294 : BitVec 32 := 1#32
  let arg34 : BitVec 32 := Scf.iv c0_i32_292 c1_i32_294 k0_t10
  let c16_i32_366 : BitVec 32 := 16#32
  let v980 : BitVec 32 := Scalar.muli arg34 c16_i32_366
  let v981 : Index := Scalar.indexCast v980
  ![v981.toNat]
@[reducible] def k0_t11_loop (v600 : BitVec 32) : Scf.Loop 32 :=
  let c0_i32_292 : BitVec 32 := 0#32
  let c16_i32_282 : BitVec 32 := 16#32
  let v712 : BitVec 32 := Scalar.addi v600 c16_i32_282
  let c1_i32_283 : BitVec 32 := 1#32
  let v713 : BitVec 32 := Scalar.subi v712 c1_i32_283
  let c0_i32_285 : BitVec 32 := 0#32
  let v715 : BitVec 1 := Scalar.cmpi .sgt v713 c0_i32_285
  let v716 : BitVec 32 := Scalar.extui v715
  let c0_i32_286 : BitVec 32 := 0#32
  let v717 : BitVec 1 := Scalar.cmpi .slt v713 c0_i32_286
  let v718 : BitVec 32 := Scalar.extui v717
  let v719 : BitVec 32 := Scalar.subi v716 v718
  let c16_i32_284 : BitVec 32 := 16#32
  let c0_i32_287 : BitVec 32 := 0#32
  let v720 : BitVec 1 := Scalar.cmpi .sgt c16_i32_284 c0_i32_287
  let v721 : BitVec 32 := Scalar.extui v720
  let c0_i32_288 : BitVec 32 := 0#32
  let v722 : BitVec 1 := Scalar.cmpi .slt c16_i32_284 c0_i32_288
  let v723 : BitVec 32 := Scalar.extui v722
  let v724 : BitVec 32 := Scalar.subi v721 v723
  let v725 : BitVec 1 := Scalar.cmpi .ne v719 v724
  let v726 : BitVec 32 := Scalar.remsi v713 c16_i32_284
  let c0_i32_289 : BitVec 32 := 0#32
  let v727 : BitVec 1 := Scalar.cmpi .ne v726 c0_i32_289
  let v728 : BitVec 1 := Scalar.andi v725 v727
  let v714 : BitVec 32 := Scalar.divsi v713 c16_i32_284
  let c1_i32_290 : BitVec 32 := 1#32
  let v729 : BitVec 32 := Scalar.subi v714 c1_i32_290
  let v730 : BitVec 32 := Scalar.select v728 v729 v714
  let v732 : BitVec 32 := Scalar.subi v730 c0_i32_292
  let c1_i32_293 : BitVec 32 := 1#32
  let v734 : BitVec 32 := Scalar.divsi v732 c1_i32_293
  let v735 : BitVec 32 := Scalar.muli v734 c1_i32_293
  let v736 : BitVec 32 := Scalar.addi c0_i32_292 v735
  let v733 : BitVec 32 := Scalar.addi c0_i32_292 v732
  let c1_i32_295 : BitVec 32 := 1#32
  ⟨v736, v733, c1_i32_295⟩
def k0_off10 (v600 : BitVec 32) (k0_t11 : Fin (k0_t11_loop v600).trips) : Fin 1 → Nat :=
  let c0_i32_292 : BitVec 32 := 0#32
  let c16_i32_282 : BitVec 32 := 16#32
  let v712 : BitVec 32 := Scalar.addi v600 c16_i32_282
  let c1_i32_283 : BitVec 32 := 1#32
  let v713 : BitVec 32 := Scalar.subi v712 c1_i32_283
  let c0_i32_285 : BitVec 32 := 0#32
  let v715 : BitVec 1 := Scalar.cmpi .sgt v713 c0_i32_285
  let v716 : BitVec 32 := Scalar.extui v715
  let c0_i32_286 : BitVec 32 := 0#32
  let v717 : BitVec 1 := Scalar.cmpi .slt v713 c0_i32_286
  let v718 : BitVec 32 := Scalar.extui v717
  let v719 : BitVec 32 := Scalar.subi v716 v718
  let c16_i32_284 : BitVec 32 := 16#32
  let c0_i32_287 : BitVec 32 := 0#32
  let v720 : BitVec 1 := Scalar.cmpi .sgt c16_i32_284 c0_i32_287
  let v721 : BitVec 32 := Scalar.extui v720
  let c0_i32_288 : BitVec 32 := 0#32
  let v722 : BitVec 1 := Scalar.cmpi .slt c16_i32_284 c0_i32_288
  let v723 : BitVec 32 := Scalar.extui v722
  let v724 : BitVec 32 := Scalar.subi v721 v723
  let v725 : BitVec 1 := Scalar.cmpi .ne v719 v724
  let v726 : BitVec 32 := Scalar.remsi v713 c16_i32_284
  let c0_i32_289 : BitVec 32 := 0#32
  let v727 : BitVec 1 := Scalar.cmpi .ne v726 c0_i32_289
  let v728 : BitVec 1 := Scalar.andi v725 v727
  let v714 : BitVec 32 := Scalar.divsi v713 c16_i32_284
  let c1_i32_290 : BitVec 32 := 1#32
  let v729 : BitVec 32 := Scalar.subi v714 c1_i32_290
  let v730 : BitVec 32 := Scalar.select v728 v729 v714
  let v732 : BitVec 32 := Scalar.subi v730 c0_i32_292
  let c1_i32_293 : BitVec 32 := 1#32
  let v734 : BitVec 32 := Scalar.divsi v732 c1_i32_293
  let v735 : BitVec 32 := Scalar.muli v734 c1_i32_293
  let v736 : BitVec 32 := Scalar.addi c0_i32_292 v735
  let c1_i32_295 : BitVec 32 := 1#32
  let arg34 : BitVec 32 := Scf.iv v736 c1_i32_295 k0_t11
  let c16_i32_366 : BitVec 32 := 16#32
  let v980 : BitVec 32 := Scalar.muli arg34 c16_i32_366
  let v981 : Index := Scalar.indexCast v980
  ![v981.toNat]

def k0_chk4 (i : grid0.Coords) (v595 : BitVec 32) (v600 : BitVec 32) : Prop :=
  (∀ (k0_h1 : k0_cond1 i = 1#1), ∀ (k0_h2 : k0_cond2 v595 = 1#1), (k0_t10_loop v600).OK) ∧
  (∀ k0_t10 : Fin (k0_t10_loop v600).trips, ∀ (k0_h1 : k0_cond1 i = 1#1), ∀ (k0_h2 : k0_cond2 v595 = 1#1), ∀ a, (k0_off9 v600 k0_t10) a + S16.size a ≤ S112.size a) ∧
  (∀ (k0_h1 : k0_cond1 i = 1#1), ∀ (k0_h2 : k0_cond2 v595 = 1#1), (k0_t11_loop v600).OK) ∧
  (∀ k0_t11 : Fin (k0_t11_loop v600).trips, ∀ (k0_h1 : k0_cond1 i = 1#1), ∀ (k0_h2 : k0_cond2 v595 = 1#1), ∀ a, (k0_off10 v600 k0_t11) a + S16.size a ≤ S112.size a)
theorem k0_t10_ok : ∀ (i : grid0.Coords) (v595 : BitVec 32) (v600 : BitVec 32) (k0_hw4 : k0_chk4 i v595 v600), ∀ (k0_h1 : k0_cond1 i = 1#1), ∀ (k0_h2 : k0_cond2 v595 = 1#1), (k0_t10_loop v600).OK := fun i v595 v600 k0_hw4 k0_h1 k0_h2 => k0_hw4.1 k0_h1 k0_h2
theorem k0_off9_inb : ∀ (i : grid0.Coords) (v595 : BitVec 32) (v600 : BitVec 32) (k0_hw4 : k0_chk4 i v595 v600) (k0_t10 : Fin (k0_t10_loop v600).trips), ∀ (k0_h1 : k0_cond1 i = 1#1), ∀ (k0_h2 : k0_cond2 v595 = 1#1), ∀ a, (k0_off9 v600 k0_t10) a + S16.size a ≤ S112.size a := fun i v595 v600 k0_hw4 k0_t10 k0_h1 k0_h2 => k0_hw4.2.1 k0_t10 k0_h1 k0_h2
theorem k0_t11_ok : ∀ (i : grid0.Coords) (v595 : BitVec 32) (v600 : BitVec 32) (k0_hw4 : k0_chk4 i v595 v600), ∀ (k0_h1 : k0_cond1 i = 1#1), ∀ (k0_h2 : k0_cond2 v595 = 1#1), (k0_t11_loop v600).OK := fun i v595 v600 k0_hw4 k0_h1 k0_h2 => k0_hw4.2.2.1 k0_h1 k0_h2
theorem k0_off10_inb : ∀ (i : grid0.Coords) (v595 : BitVec 32) (v600 : BitVec 32) (k0_hw4 : k0_chk4 i v595 v600) (k0_t11 : Fin (k0_t11_loop v600).trips), ∀ (k0_h1 : k0_cond1 i = 1#1), ∀ (k0_h2 : k0_cond2 v595 = 1#1), ∀ a, (k0_off10 v600 k0_t11) a + S16.size a ≤ S112.size a := fun i v595 v600 k0_hw4 k0_t11 k0_h1 k0_h2 => k0_hw4.2.2.2 k0_t11 k0_h1 k0_h2

def k0_off11 (v686 : BitVec 32) : Fin 1 → Nat :=
  let c20000_i32 : BitVec 32 := 20000#32
  let v687 : BitVec 32 := Scalar.minsi v686 c20000_i32
  let c0_i32_312 : BitVec 32 := 0#32
  let v782 : BitVec 1 := Scalar.cmpi .sgt v687 c0_i32_312
  let v783 : BitVec 32 := Scalar.extui v782
  let c0_i32_313 : BitVec 32 := 0#32
  let v784 : BitVec 1 := Scalar.cmpi .slt v687 c0_i32_313
  let v785 : BitVec 32 := Scalar.extui v784
  let v786 : BitVec 32 := Scalar.subi v783 v785
  let c16_i32_311 : BitVec 32 := 16#32
  let c0_i32_314 : BitVec 32 := 0#32
  let v787 : BitVec 1 := Scalar.cmpi .sgt c16_i32_311 c0_i32_314
  let v788 : BitVec 32 := Scalar.extui v787
  let c0_i32_315 : BitVec 32 := 0#32
  let v789 : BitVec 1 := Scalar.cmpi .slt c16_i32_311 c0_i32_315
  let v790 : BitVec 32 := Scalar.extui v789
  let v791 : BitVec 32 := Scalar.subi v788 v790
  let v792 : BitVec 1 := Scalar.cmpi .ne v786 v791
  let v793 : BitVec 32 := Scalar.remsi v687 c16_i32_311
  let c0_i32_316 : BitVec 32 := 0#32
  let v794 : BitVec 1 := Scalar.cmpi .ne v793 c0_i32_316
  let v795 : BitVec 1 := Scalar.andi v792 v794
  let v781 : BitVec 32 := Scalar.divsi v687 c16_i32_311
  let c1_i32_317 : BitVec 32 := 1#32
  let v796 : BitVec 32 := Scalar.subi v781 c1_i32_317
  let v797 : BitVec 32 := Scalar.select v795 v796 v781
  let c16_i32_318 : BitVec 32 := 16#32
  let v798 : BitVec 32 := Scalar.muli v797 c16_i32_318
  let v800 : Index := Scalar.indexCast v798
  ![v800.toNat]
@[reducible] def k0_t12_loop (v686 : BitVec 32) : Scf.Loop 32 :=
  let c0_i32_331 : BitVec 32 := 0#32
  let c16_i32_327 : BitVec 32 := 16#32
  let c1251_i32 : BitVec 32 := 1251#32
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_326 : BitVec 32 := 16#32
  let v829 : BitVec 32 := Scalar.muli v828 c16_i32_326
  let v830 : BitVec 32 := Scalar.subi c1251_i32 v829
  let v831 : BitVec 32 := Scalar.minsi c16_i32_327 v830
  let c0_i32_328 : BitVec 32 := 0#32
  let v832 : BitVec 32 := Scalar.maxsi v831 c0_i32_328
  let v835 : BitVec 32 := Scalar.subi v832 c0_i32_331
  let c1_i32_332 : BitVec 32 := 1#32
  let v837 : BitVec 32 := Scalar.divsi v835 c1_i32_332
  let v838 : BitVec 32 := Scalar.muli v837 c1_i32_332
  let v839 : BitVec 32 := Scalar.addi c0_i32_331 v838
  let c1_i32_333 : BitVec 32 := 1#32
  ⟨c0_i32_331, v839, c1_i32_333⟩
def k0_off12 (v686 : BitVec 32) (k0_t12 : Fin (k0_t12_loop v686).trips) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_366 : BitVec 32 := 16#32
  let v980 : BitVec 32 := Scalar.muli v828 c16_i32_366
  let c0_i32_331 : BitVec 32 := 0#32
  let c1_i32_333 : BitVec 32 := 1#32
  let arg34 : BitVec 32 := Scf.iv c0_i32_331 c1_i32_333 k0_t12
  let v981 : BitVec 32 := Scalar.addi v980 arg34
  let c16_i32_367 : BitVec 32 := 16#32
  let v982 : BitVec 32 := Scalar.muli v981 c16_i32_367
  let v983 : Index := Scalar.indexCast v982
  ![v983.toNat]
@[reducible] def k0_t13_loop (v686 : BitVec 32) : Scf.Loop 32 :=
  let c0_i32_331 : BitVec 32 := 0#32
  let c16_i32_327 : BitVec 32 := 16#32
  let c1251_i32 : BitVec 32 := 1251#32
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_326 : BitVec 32 := 16#32
  let v829 : BitVec 32 := Scalar.muli v828 c16_i32_326
  let v830 : BitVec 32 := Scalar.subi c1251_i32 v829
  let v831 : BitVec 32 := Scalar.minsi c16_i32_327 v830
  let c0_i32_328 : BitVec 32 := 0#32
  let v832 : BitVec 32 := Scalar.maxsi v831 c0_i32_328
  let v835 : BitVec 32 := Scalar.subi v832 c0_i32_331
  let c1_i32_332 : BitVec 32 := 1#32
  let v837 : BitVec 32 := Scalar.divsi v835 c1_i32_332
  let v838 : BitVec 32 := Scalar.muli v837 c1_i32_332
  let v839 : BitVec 32 := Scalar.addi c0_i32_331 v838
  let v836 : BitVec 32 := Scalar.addi c0_i32_331 v835
  let c1_i32_334 : BitVec 32 := 1#32
  ⟨v839, v836, c1_i32_334⟩
def k0_off13 (v686 : BitVec 32) (k0_t13 : Fin (k0_t13_loop v686).trips) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_366 : BitVec 32 := 16#32
  let v980 : BitVec 32 := Scalar.muli v828 c16_i32_366
  let c0_i32_331 : BitVec 32 := 0#32
  let c16_i32_327 : BitVec 32 := 16#32
  let c1251_i32 : BitVec 32 := 1251#32
  let c16_i32_326 : BitVec 32 := 16#32
  let v829 : BitVec 32 := Scalar.muli v828 c16_i32_326
  let v830 : BitVec 32 := Scalar.subi c1251_i32 v829
  let v831 : BitVec 32 := Scalar.minsi c16_i32_327 v830
  let c0_i32_328 : BitVec 32 := 0#32
  let v832 : BitVec 32 := Scalar.maxsi v831 c0_i32_328
  let v835 : BitVec 32 := Scalar.subi v832 c0_i32_331
  let c1_i32_332 : BitVec 32 := 1#32
  let v837 : BitVec 32 := Scalar.divsi v835 c1_i32_332
  let v838 : BitVec 32 := Scalar.muli v837 c1_i32_332
  let v839 : BitVec 32 := Scalar.addi c0_i32_331 v838
  let c1_i32_334 : BitVec 32 := 1#32
  let arg34 : BitVec 32 := Scf.iv v839 c1_i32_334 k0_t13
  let v981 : BitVec 32 := Scalar.addi v980 arg34
  let c16_i32_367 : BitVec 32 := 16#32
  let v982 : BitVec 32 := Scalar.muli v981 c16_i32_367
  let v983 : Index := Scalar.indexCast v982
  ![v983.toNat]
def k0_off14 (v686 : BitVec 32) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_335 : BitVec 32 := 16#32
  let v842 : BitVec 32 := Scalar.muli v828 c16_i32_335
  let v843 : Index := Scalar.indexCast v842
  ![v843.toNat]
@[reducible] def k0_t14_loop : Scf.Loop 32 :=
  let c0_i32_346 : BitVec 32 := 0#32
  let c16_i32_347 : BitVec 32 := 16#32
  let v871 : BitVec 32 := Scalar.addi c0_i32_346 c16_i32_347
  let c1_i32_348 : BitVec 32 := 1#32
  ⟨c0_i32_346, v871, c1_i32_348⟩
def k0_off15 (v686 : BitVec 32) (k0_t14 : Fin k0_t14_loop.trips) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c0_i32_338 : BitVec 32 := 0#32
  let v853 : BitVec 1 := Scalar.cmpi .sgt v828 c0_i32_338
  let v854 : BitVec 32 := Scalar.extui v853
  let c0_i32_339 : BitVec 32 := 0#32
  let v855 : BitVec 1 := Scalar.cmpi .slt v828 c0_i32_339
  let v856 : BitVec 32 := Scalar.extui v855
  let v857 : BitVec 32 := Scalar.subi v854 v856
  let c16_i32_337 : BitVec 32 := 16#32
  let c0_i32_340 : BitVec 32 := 0#32
  let v858 : BitVec 1 := Scalar.cmpi .sgt c16_i32_337 c0_i32_340
  let v859 : BitVec 32 := Scalar.extui v858
  let c0_i32_341 : BitVec 32 := 0#32
  let v860 : BitVec 1 := Scalar.cmpi .slt c16_i32_337 c0_i32_341
  let v861 : BitVec 32 := Scalar.extui v860
  let v862 : BitVec 32 := Scalar.subi v859 v861
  let v863 : BitVec 1 := Scalar.cmpi .ne v857 v862
  let v864 : BitVec 32 := Scalar.remsi v828 c16_i32_337
  let c0_i32_342 : BitVec 32 := 0#32
  let v865 : BitVec 1 := Scalar.cmpi .ne v864 c0_i32_342
  let v866 : BitVec 1 := Scalar.andi v863 v865
  let v852 : BitVec 32 := Scalar.divsi v828 c16_i32_337
  let c1_i32_343 : BitVec 32 := 1#32
  let v867 : BitVec 32 := Scalar.subi v852 c1_i32_343
  let v868 : BitVec 32 := Scalar.select v866 v867 v852
  let c16_i32_366 : BitVec 32 := 16#32
  let v980 : BitVec 32 := Scalar.muli v868 c16_i32_366
  let c0_i32_346 : BitVec 32 := 0#32
  let c1_i32_348 : BitVec 32 := 1#32
  let arg34 : BitVec 32 := Scf.iv c0_i32_346 c1_i32_348 k0_t14
  let v981 : BitVec 32 := Scalar.addi v980 arg34
  let c16_i32_367 : BitVec 32 := 16#32
  let v982 : BitVec 32 := Scalar.muli v981 c16_i32_367
  let v983 : Index := Scalar.indexCast v982
  ![v983.toNat]
def k0_off16 (v686 : BitVec 32) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c0_i32_338 : BitVec 32 := 0#32
  let v853 : BitVec 1 := Scalar.cmpi .sgt v828 c0_i32_338
  let v854 : BitVec 32 := Scalar.extui v853
  let c0_i32_339 : BitVec 32 := 0#32
  let v855 : BitVec 1 := Scalar.cmpi .slt v828 c0_i32_339
  let v856 : BitVec 32 := Scalar.extui v855
  let v857 : BitVec 32 := Scalar.subi v854 v856
  let c16_i32_337 : BitVec 32 := 16#32
  let c0_i32_340 : BitVec 32 := 0#32
  let v858 : BitVec 1 := Scalar.cmpi .sgt c16_i32_337 c0_i32_340
  let v859 : BitVec 32 := Scalar.extui v858
  let c0_i32_341 : BitVec 32 := 0#32
  let v860 : BitVec 1 := Scalar.cmpi .slt c16_i32_337 c0_i32_341
  let v861 : BitVec 32 := Scalar.extui v860
  let v862 : BitVec 32 := Scalar.subi v859 v861
  let v863 : BitVec 1 := Scalar.cmpi .ne v857 v862
  let v864 : BitVec 32 := Scalar.remsi v828 c16_i32_337
  let c0_i32_342 : BitVec 32 := 0#32
  let v865 : BitVec 1 := Scalar.cmpi .ne v864 c0_i32_342
  let v866 : BitVec 1 := Scalar.andi v863 v865
  let v852 : BitVec 32 := Scalar.divsi v828 c16_i32_337
  let c1_i32_343 : BitVec 32 := 1#32
  let v867 : BitVec 32 := Scalar.subi v852 c1_i32_343
  let v868 : BitVec 32 := Scalar.select v866 v867 v852
  let c16_i32_350 : BitVec 32 := 16#32
  let v873 : BitVec 32 := Scalar.muli v868 c16_i32_350
  let v874 : Index := Scalar.indexCast v873
  ![v874.toNat]

def k0_chk3 (i : grid0.Coords) (v595 : BitVec 32) (v686 : BitVec 32) : Prop :=
  (∀ (k0_h1 : k0_cond1 i = 1#1), ∀ (k0_h2 : k0_cond2 v595 = 1#1), ∀ a, (k0_off8 v686) a + S16.size a ≤ S20016.size a) ∧
  (∀ (k0_h1 : k0_cond1 i = 1#1), ∀ (k0_h2 : k0_cond2 v595 = 1#1), ∀ a, (k0_off11 v686) a + S16.size a ≤ S20016.size a) ∧
  (∀ (k0_h1 : k0_cond1 i = 1#1), ∀ (k0_h2 : k0_cond2 v595 = 1#1), (k0_t12_loop v686).OK) ∧
  (∀ k0_t12 : Fin (k0_t12_loop v686).trips, ∀ (k0_h1 : k0_cond1 i = 1#1), ∀ (k0_h2 : k0_cond2 v595 = 1#1), ∀ a, (k0_off12 v686 k0_t12) a + S16.size a ≤ S20016.size a) ∧
  (∀ (k0_h1 : k0_cond1 i = 1#1), ∀ (k0_h2 : k0_cond2 v595 = 1#1), (k0_t13_loop v686).OK) ∧
  (∀ k0_t13 : Fin (k0_t13_loop v686).trips, ∀ (k0_h1 : k0_cond1 i = 1#1), ∀ (k0_h2 : k0_cond2 v595 = 1#1), ∀ a, (k0_off13 v686 k0_t13) a + S16.size a ≤ S20016.size a) ∧
  (∀ (k0_h1 : k0_cond1 i = 1#1), ∀ (k0_h2 : k0_cond2 v595 = 1#1), ∀ a, (k0_off14 v686) a + S16.size a ≤ S1280.size a) ∧
  (∀ k0_t14 : Fin k0_t14_loop.trips, ∀ (k0_h1 : k0_cond1 i = 1#1), ∀ (k0_h2 : k0_cond2 v595 = 1#1), ∀ a, (k0_off15 v686 k0_t14) a + S16.size a ≤ S1280.size a) ∧
  (∀ (k0_h1 : k0_cond1 i = 1#1), ∀ (k0_h2 : k0_cond2 v595 = 1#1), ∀ a, (k0_off16 v686) a + S16.size a ≤ S80.size a)
theorem k0_off8_inb : ∀ (i : grid0.Coords) (v595 : BitVec 32) (v686 : BitVec 32) (k0_hw3 : k0_chk3 i v595 v686), ∀ (k0_h1 : k0_cond1 i = 1#1), ∀ (k0_h2 : k0_cond2 v595 = 1#1), ∀ a, (k0_off8 v686) a + S16.size a ≤ S20016.size a := fun i v595 v686 k0_hw3 k0_h1 k0_h2 => k0_hw3.1 k0_h1 k0_h2
theorem k0_off11_inb : ∀ (i : grid0.Coords) (v595 : BitVec 32) (v686 : BitVec 32) (k0_hw3 : k0_chk3 i v595 v686), ∀ (k0_h1 : k0_cond1 i = 1#1), ∀ (k0_h2 : k0_cond2 v595 = 1#1), ∀ a, (k0_off11 v686) a + S16.size a ≤ S20016.size a := fun i v595 v686 k0_hw3 k0_h1 k0_h2 => k0_hw3.2.1 k0_h1 k0_h2
theorem k0_t12_ok : ∀ (i : grid0.Coords) (v595 : BitVec 32) (v686 : BitVec 32) (k0_hw3 : k0_chk3 i v595 v686), ∀ (k0_h1 : k0_cond1 i = 1#1), ∀ (k0_h2 : k0_cond2 v595 = 1#1), (k0_t12_loop v686).OK := fun i v595 v686 k0_hw3 k0_h1 k0_h2 => k0_hw3.2.2.1 k0_h1 k0_h2
theorem k0_off12_inb : ∀ (i : grid0.Coords) (v595 : BitVec 32) (v686 : BitVec 32) (k0_hw3 : k0_chk3 i v595 v686) (k0_t12 : Fin (k0_t12_loop v686).trips), ∀ (k0_h1 : k0_cond1 i = 1#1), ∀ (k0_h2 : k0_cond2 v595 = 1#1), ∀ a, (k0_off12 v686 k0_t12) a + S16.size a ≤ S20016.size a := fun i v595 v686 k0_hw3 k0_t12 k0_h1 k0_h2 => k0_hw3.2.2.2.1 k0_t12 k0_h1 k0_h2
theorem k0_t13_ok : ∀ (i : grid0.Coords) (v595 : BitVec 32) (v686 : BitVec 32) (k0_hw3 : k0_chk3 i v595 v686), ∀ (k0_h1 : k0_cond1 i = 1#1), ∀ (k0_h2 : k0_cond2 v595 = 1#1), (k0_t13_loop v686).OK := fun i v595 v686 k0_hw3 k0_h1 k0_h2 => k0_hw3.2.2.2.2.1 k0_h1 k0_h2
theorem k0_off13_inb : ∀ (i : grid0.Coords) (v595 : BitVec 32) (v686 : BitVec 32) (k0_hw3 : k0_chk3 i v595 v686) (k0_t13 : Fin (k0_t13_loop v686).trips), ∀ (k0_h1 : k0_cond1 i = 1#1), ∀ (k0_h2 : k0_cond2 v595 = 1#1), ∀ a, (k0_off13 v686 k0_t13) a + S16.size a ≤ S20016.size a := fun i v595 v686 k0_hw3 k0_t13 k0_h1 k0_h2 => k0_hw3.2.2.2.2.2.1 k0_t13 k0_h1 k0_h2
theorem k0_off14_inb : ∀ (i : grid0.Coords) (v595 : BitVec 32) (v686 : BitVec 32) (k0_hw3 : k0_chk3 i v595 v686), ∀ (k0_h1 : k0_cond1 i = 1#1), ∀ (k0_h2 : k0_cond2 v595 = 1#1), ∀ a, (k0_off14 v686) a + S16.size a ≤ S1280.size a := fun i v595 v686 k0_hw3 k0_h1 k0_h2 => k0_hw3.2.2.2.2.2.2.1 k0_h1 k0_h2
theorem k0_off15_inb : ∀ (i : grid0.Coords) (v595 : BitVec 32) (v686 : BitVec 32) (k0_hw3 : k0_chk3 i v595 v686) (k0_t14 : Fin k0_t14_loop.trips), ∀ (k0_h1 : k0_cond1 i = 1#1), ∀ (k0_h2 : k0_cond2 v595 = 1#1), ∀ a, (k0_off15 v686 k0_t14) a + S16.size a ≤ S1280.size a := fun i v595 v686 k0_hw3 k0_t14 k0_h1 k0_h2 => k0_hw3.2.2.2.2.2.2.2.1 k0_t14 k0_h1 k0_h2
theorem k0_off16_inb : ∀ (i : grid0.Coords) (v595 : BitVec 32) (v686 : BitVec 32) (k0_hw3 : k0_chk3 i v595 v686), ∀ (k0_h1 : k0_cond1 i = 1#1), ∀ (k0_h2 : k0_cond2 v595 = 1#1), ∀ a, (k0_off16 v686) a + S16.size a ≤ S80.size a := fun i v595 v686 k0_hw3 k0_h1 k0_h2 => k0_hw3.2.2.2.2.2.2.2.2 k0_h1 k0_h2

def k0_off17 (v884 : BitVec 32) : Fin 1 → Nat :=
  let c0_i32_354 : BitVec 32 := 0#32
  let v886 : BitVec 1 := Scalar.cmpi .sgt v884 c0_i32_354
  let v887 : BitVec 32 := Scalar.extui v886
  let c0_i32_355 : BitVec 32 := 0#32
  let v888 : BitVec 1 := Scalar.cmpi .slt v884 c0_i32_355
  let v889 : BitVec 32 := Scalar.extui v888
  let v890 : BitVec 32 := Scalar.subi v887 v889
  let c16_i32_353 : BitVec 32 := 16#32
  let c0_i32_356 : BitVec 32 := 0#32
  let v891 : BitVec 1 := Scalar.cmpi .sgt c16_i32_353 c0_i32_356
  let v892 : BitVec 32 := Scalar.extui v891
  let c0_i32_357 : BitVec 32 := 0#32
  let v893 : BitVec 1 := Scalar.cmpi .slt c16_i32_353 c0_i32_357
  let v894 : BitVec 32 := Scalar.extui v893
  let v895 : BitVec 32 := Scalar.subi v892 v894
  let v896 : BitVec 1 := Scalar.cmpi .ne v890 v895
  let v897 : BitVec 32 := Scalar.remsi v884 c16_i32_353
  let c0_i32_358 : BitVec 32 := 0#32
  let v898 : BitVec 1 := Scalar.cmpi .ne v897 c0_i32_358
  let v899 : BitVec 1 := Scalar.andi v896 v898
  let v885 : BitVec 32 := Scalar.divsi v884 c16_i32_353
  let c1_i32_359 : BitVec 32 := 1#32
  let v900 : BitVec 32 := Scalar.subi v885 c1_i32_359
  let v901 : BitVec 32 := Scalar.select v899 v900 v885
  let c16_i32_360 : BitVec 32 := 16#32
  let v902 : BitVec 32 := Scalar.muli v901 c16_i32_360
  let v907 : Index := Scalar.indexCast v902
  ![v907.toNat]

def k0_chk5 (i : grid0.Coords) (v595 : BitVec 32) (v884 : BitVec 32) : Prop :=
  (∀ (k0_h1 : k0_cond1 i = 1#1), ∀ (k0_h2 : k0_cond2 v595 = 1#1), ∀ a, (k0_off17 v884) a + S16.size a ≤ S112.size a)
theorem k0_off17_inb : ∀ (i : grid0.Coords) (v595 : BitVec 32) (v884 : BitVec 32) (k0_hw5 : k0_chk5 i v595 v884), ∀ (k0_h1 : k0_cond1 i = 1#1), ∀ (k0_h2 : k0_cond2 v595 = 1#1), ∀ a, (k0_off17 v884) a + S16.size a ≤ S112.size a := fun i v595 v884 k0_hw5 k0_h1 k0_h2 => k0_hw5 k0_h1 k0_h2

@[reducible] def k0_t15_loop (v586 : BitVec 32) : Scf.Loop 32 :=
  let c0_i32_242 : BitVec 32 := 0#32
  let c1_i32_239 : BitVec 32 := 1#32
  let v587 : BitVec 1 := Scalar.cmpi .eq v586 c1_i32_239
  let c0_i32_240 : BitVec 32 := 0#32
  let c64_i32_241 : BitVec 32 := 64#32
  let v588 : BitVec 32 := Scalar.select v587 c0_i32_240 c64_i32_241
  let v589 : BitVec 32 := Scalar.subi v588 c0_i32_242
  let c1_i32_243 : BitVec 32 := 1#32
  let v591 : BitVec 32 := Scalar.divsi v589 c1_i32_243
  let v592 : BitVec 32 := Scalar.muli v591 c1_i32_243
  let v593 : BitVec 32 := Scalar.addi c0_i32_242 v592
  let v590 : BitVec 32 := Scalar.addi c0_i32_242 v589
  let c1_i32_245 : BitVec 32 := 1#32
  ⟨v593, v590, c1_i32_245⟩

def k0_chk2 (i : grid0.Coords) (v586 : BitVec 32) : Prop :=
  (∀ (k0_h1 : k0_cond1 i = 1#1), (k0_t8_loop v586).OK) ∧
  (∀ (k0_h1 : k0_cond1 i = 1#1), (k0_t15_loop v586).OK)
theorem k0_t8_ok : ∀ (i : grid0.Coords) (v586 : BitVec 32) (k0_hw2 : k0_chk2 i v586), ∀ (k0_h1 : k0_cond1 i = 1#1), (k0_t8_loop v586).OK := fun i v586 k0_hw2 k0_h1 => k0_hw2.1 k0_h1
theorem k0_t15_ok : ∀ (i : grid0.Coords) (v586 : BitVec 32) (k0_hw2 : k0_chk2 i v586), ∀ (k0_h1 : k0_cond1 i = 1#1), (k0_t15_loop v586).OK := fun i v586 k0_hw2 k0_h1 => k0_hw2.2 k0_h1

@[reducible] def k0_t16_loop : Scf.Loop 32 :=
  let c0_i32_252 : BitVec 32 := 0#32
  let c5_i32_253 : BitVec 32 := 5#32
  let v603 : BitVec 32 := Scalar.addi c0_i32_252 c5_i32_253
  let c1_i32_254 : BitVec 32 := 1#32
  ⟨c0_i32_252, v603, c1_i32_254⟩
def k0_off18 (k0_t16 : Fin k0_t16_loop.trips) : Fin 1 → Nat :=
  let c0_i32_252 : BitVec 32 := 0#32
  let c1_i32_254 : BitVec 32 := 1#32
  let arg34 : BitVec 32 := Scf.iv c0_i32_252 c1_i32_254 k0_t16
  let c16_i32_366 : BitVec 32 := 16#32
  let v980 : BitVec 32 := Scalar.muli arg34 c16_i32_366
  let v981 : Index := Scalar.indexCast v980
  ![v981.toNat]
def k0_off19 (v686 : BitVec 32) : Fin 1 → Nat :=
  let c20000_i32 : BitVec 32 := 20000#32
  let v687 : BitVec 32 := Scalar.minsi v686 c20000_i32
  let v689 : Index := Scalar.indexCast v687
  ![v689.toNat]
def k0_cond3 (v595 : BitVec 32) : BitVec 1 :=
  let c0_i32_247 : BitVec 32 := 0#32
  let v596 : BitVec 1 := Scalar.cmpi .eq v595 c0_i32_247
  let v597 : BitVec 32 := Scalar.extui v596
  let c0_i32_248 : BitVec 32 := 0#32
  let v598 : BitVec 1 := Scalar.cmpi .ne v597 c0_i32_248
  v598

@[reducible] def k0_t17_loop (v600 : BitVec 32) : Scf.Loop 32 :=
  let c0_i32_292 : BitVec 32 := 0#32
  let c16_i32_282 : BitVec 32 := 16#32
  let v712 : BitVec 32 := Scalar.addi v600 c16_i32_282
  let c1_i32_283 : BitVec 32 := 1#32
  let v713 : BitVec 32 := Scalar.subi v712 c1_i32_283
  let c0_i32_285 : BitVec 32 := 0#32
  let v715 : BitVec 1 := Scalar.cmpi .sgt v713 c0_i32_285
  let v716 : BitVec 32 := Scalar.extui v715
  let c0_i32_286 : BitVec 32 := 0#32
  let v717 : BitVec 1 := Scalar.cmpi .slt v713 c0_i32_286
  let v718 : BitVec 32 := Scalar.extui v717
  let v719 : BitVec 32 := Scalar.subi v716 v718
  let c16_i32_284 : BitVec 32 := 16#32
  let c0_i32_287 : BitVec 32 := 0#32
  let v720 : BitVec 1 := Scalar.cmpi .sgt c16_i32_284 c0_i32_287
  let v721 : BitVec 32 := Scalar.extui v720
  let c0_i32_288 : BitVec 32 := 0#32
  let v722 : BitVec 1 := Scalar.cmpi .slt c16_i32_284 c0_i32_288
  let v723 : BitVec 32 := Scalar.extui v722
  let v724 : BitVec 32 := Scalar.subi v721 v723
  let v725 : BitVec 1 := Scalar.cmpi .ne v719 v724
  let v726 : BitVec 32 := Scalar.remsi v713 c16_i32_284
  let c0_i32_289 : BitVec 32 := 0#32
  let v727 : BitVec 1 := Scalar.cmpi .ne v726 c0_i32_289
  let v728 : BitVec 1 := Scalar.andi v725 v727
  let v714 : BitVec 32 := Scalar.divsi v713 c16_i32_284
  let c1_i32_290 : BitVec 32 := 1#32
  let v729 : BitVec 32 := Scalar.subi v714 c1_i32_290
  let v730 : BitVec 32 := Scalar.select v728 v729 v714
  let v732 : BitVec 32 := Scalar.subi v730 c0_i32_292
  let c1_i32_293 : BitVec 32 := 1#32
  let v734 : BitVec 32 := Scalar.divsi v732 c1_i32_293
  let v735 : BitVec 32 := Scalar.muli v734 c1_i32_293
  let v736 : BitVec 32 := Scalar.addi c0_i32_292 v735
  let c1_i32_294 : BitVec 32 := 1#32
  ⟨c0_i32_292, v736, c1_i32_294⟩

def k0_off20 (v600 : BitVec 32) (k0_t17 : Fin (k0_t17_loop v600).trips) : Fin 1 → Nat :=
  let c0_i32_292 : BitVec 32 := 0#32
  let c1_i32_294 : BitVec 32 := 1#32
  let arg34 : BitVec 32 := Scf.iv c0_i32_292 c1_i32_294 k0_t17
  let c16_i32_366 : BitVec 32 := 16#32
  let v980 : BitVec 32 := Scalar.muli arg34 c16_i32_366
  let v981 : Index := Scalar.indexCast v980
  ![v981.toNat]
@[reducible] def k0_t18_loop (v600 : BitVec 32) : Scf.Loop 32 :=
  let c0_i32_292 : BitVec 32 := 0#32
  let c16_i32_282 : BitVec 32 := 16#32
  let v712 : BitVec 32 := Scalar.addi v600 c16_i32_282
  let c1_i32_283 : BitVec 32 := 1#32
  let v713 : BitVec 32 := Scalar.subi v712 c1_i32_283
  let c0_i32_285 : BitVec 32 := 0#32
  let v715 : BitVec 1 := Scalar.cmpi .sgt v713 c0_i32_285
  let v716 : BitVec 32 := Scalar.extui v715
  let c0_i32_286 : BitVec 32 := 0#32
  let v717 : BitVec 1 := Scalar.cmpi .slt v713 c0_i32_286
  let v718 : BitVec 32 := Scalar.extui v717
  let v719 : BitVec 32 := Scalar.subi v716 v718
  let c16_i32_284 : BitVec 32 := 16#32
  let c0_i32_287 : BitVec 32 := 0#32
  let v720 : BitVec 1 := Scalar.cmpi .sgt c16_i32_284 c0_i32_287
  let v721 : BitVec 32 := Scalar.extui v720
  let c0_i32_288 : BitVec 32 := 0#32
  let v722 : BitVec 1 := Scalar.cmpi .slt c16_i32_284 c0_i32_288
  let v723 : BitVec 32 := Scalar.extui v722
  let v724 : BitVec 32 := Scalar.subi v721 v723
  let v725 : BitVec 1 := Scalar.cmpi .ne v719 v724
  let v726 : BitVec 32 := Scalar.remsi v713 c16_i32_284
  let c0_i32_289 : BitVec 32 := 0#32
  let v727 : BitVec 1 := Scalar.cmpi .ne v726 c0_i32_289
  let v728 : BitVec 1 := Scalar.andi v725 v727
  let v714 : BitVec 32 := Scalar.divsi v713 c16_i32_284
  let c1_i32_290 : BitVec 32 := 1#32
  let v729 : BitVec 32 := Scalar.subi v714 c1_i32_290
  let v730 : BitVec 32 := Scalar.select v728 v729 v714
  let v732 : BitVec 32 := Scalar.subi v730 c0_i32_292
  let c1_i32_293 : BitVec 32 := 1#32
  let v734 : BitVec 32 := Scalar.divsi v732 c1_i32_293
  let v735 : BitVec 32 := Scalar.muli v734 c1_i32_293
  let v736 : BitVec 32 := Scalar.addi c0_i32_292 v735
  let v733 : BitVec 32 := Scalar.addi c0_i32_292 v732
  let c1_i32_295 : BitVec 32 := 1#32
  ⟨v736, v733, c1_i32_295⟩
def k0_off21 (v600 : BitVec 32) (k0_t18 : Fin (k0_t18_loop v600).trips) : Fin 1 → Nat :=
  let c0_i32_292 : BitVec 32 := 0#32
  let c16_i32_282 : BitVec 32 := 16#32
  let v712 : BitVec 32 := Scalar.addi v600 c16_i32_282
  let c1_i32_283 : BitVec 32 := 1#32
  let v713 : BitVec 32 := Scalar.subi v712 c1_i32_283
  let c0_i32_285 : BitVec 32 := 0#32
  let v715 : BitVec 1 := Scalar.cmpi .sgt v713 c0_i32_285
  let v716 : BitVec 32 := Scalar.extui v715
  let c0_i32_286 : BitVec 32 := 0#32
  let v717 : BitVec 1 := Scalar.cmpi .slt v713 c0_i32_286
  let v718 : BitVec 32 := Scalar.extui v717
  let v719 : BitVec 32 := Scalar.subi v716 v718
  let c16_i32_284 : BitVec 32 := 16#32
  let c0_i32_287 : BitVec 32 := 0#32
  let v720 : BitVec 1 := Scalar.cmpi .sgt c16_i32_284 c0_i32_287
  let v721 : BitVec 32 := Scalar.extui v720
  let c0_i32_288 : BitVec 32 := 0#32
  let v722 : BitVec 1 := Scalar.cmpi .slt c16_i32_284 c0_i32_288
  let v723 : BitVec 32 := Scalar.extui v722
  let v724 : BitVec 32 := Scalar.subi v721 v723
  let v725 : BitVec 1 := Scalar.cmpi .ne v719 v724
  let v726 : BitVec 32 := Scalar.remsi v713 c16_i32_284
  let c0_i32_289 : BitVec 32 := 0#32
  let v727 : BitVec 1 := Scalar.cmpi .ne v726 c0_i32_289
  let v728 : BitVec 1 := Scalar.andi v725 v727
  let v714 : BitVec 32 := Scalar.divsi v713 c16_i32_284
  let c1_i32_290 : BitVec 32 := 1#32
  let v729 : BitVec 32 := Scalar.subi v714 c1_i32_290
  let v730 : BitVec 32 := Scalar.select v728 v729 v714
  let v732 : BitVec 32 := Scalar.subi v730 c0_i32_292
  let c1_i32_293 : BitVec 32 := 1#32
  let v734 : BitVec 32 := Scalar.divsi v732 c1_i32_293
  let v735 : BitVec 32 := Scalar.muli v734 c1_i32_293
  let v736 : BitVec 32 := Scalar.addi c0_i32_292 v735
  let c1_i32_295 : BitVec 32 := 1#32
  let arg34 : BitVec 32 := Scf.iv v736 c1_i32_295 k0_t18
  let c16_i32_366 : BitVec 32 := 16#32
  let v980 : BitVec 32 := Scalar.muli arg34 c16_i32_366
  let v981 : Index := Scalar.indexCast v980
  ![v981.toNat]

def k0_chk7 (i : grid0.Coords) (v595 : BitVec 32) (v600 : BitVec 32) : Prop :=
  (∀ (k0_h1 : k0_cond1 i = 1#1), ∀ (k0_h3 : k0_cond3 v595 = 1#1), (k0_t17_loop v600).OK) ∧
  (∀ k0_t17 : Fin (k0_t17_loop v600).trips, ∀ (k0_h1 : k0_cond1 i = 1#1), ∀ (k0_h3 : k0_cond3 v595 = 1#1), ∀ a, (k0_off20 v600 k0_t17) a + S16.size a ≤ S112.size a) ∧
  (∀ (k0_h1 : k0_cond1 i = 1#1), ∀ (k0_h3 : k0_cond3 v595 = 1#1), (k0_t18_loop v600).OK) ∧
  (∀ k0_t18 : Fin (k0_t18_loop v600).trips, ∀ (k0_h1 : k0_cond1 i = 1#1), ∀ (k0_h3 : k0_cond3 v595 = 1#1), ∀ a, (k0_off21 v600 k0_t18) a + S16.size a ≤ S112.size a)
theorem k0_t17_ok : ∀ (i : grid0.Coords) (v595 : BitVec 32) (v600 : BitVec 32) (k0_hw7 : k0_chk7 i v595 v600), ∀ (k0_h1 : k0_cond1 i = 1#1), ∀ (k0_h3 : k0_cond3 v595 = 1#1), (k0_t17_loop v600).OK := fun i v595 v600 k0_hw7 k0_h1 k0_h3 => k0_hw7.1 k0_h1 k0_h3
theorem k0_off20_inb : ∀ (i : grid0.Coords) (v595 : BitVec 32) (v600 : BitVec 32) (k0_hw7 : k0_chk7 i v595 v600) (k0_t17 : Fin (k0_t17_loop v600).trips), ∀ (k0_h1 : k0_cond1 i = 1#1), ∀ (k0_h3 : k0_cond3 v595 = 1#1), ∀ a, (k0_off20 v600 k0_t17) a + S16.size a ≤ S112.size a := fun i v595 v600 k0_hw7 k0_t17 k0_h1 k0_h3 => k0_hw7.2.1 k0_t17 k0_h1 k0_h3
theorem k0_t18_ok : ∀ (i : grid0.Coords) (v595 : BitVec 32) (v600 : BitVec 32) (k0_hw7 : k0_chk7 i v595 v600), ∀ (k0_h1 : k0_cond1 i = 1#1), ∀ (k0_h3 : k0_cond3 v595 = 1#1), (k0_t18_loop v600).OK := fun i v595 v600 k0_hw7 k0_h1 k0_h3 => k0_hw7.2.2.1 k0_h1 k0_h3
theorem k0_off21_inb : ∀ (i : grid0.Coords) (v595 : BitVec 32) (v600 : BitVec 32) (k0_hw7 : k0_chk7 i v595 v600) (k0_t18 : Fin (k0_t18_loop v600).trips), ∀ (k0_h1 : k0_cond1 i = 1#1), ∀ (k0_h3 : k0_cond3 v595 = 1#1), ∀ a, (k0_off21 v600 k0_t18) a + S16.size a ≤ S112.size a := fun i v595 v600 k0_hw7 k0_t18 k0_h1 k0_h3 => k0_hw7.2.2.2 k0_t18 k0_h1 k0_h3

def k0_off22 (v686 : BitVec 32) : Fin 1 → Nat :=
  let c20000_i32 : BitVec 32 := 20000#32
  let v687 : BitVec 32 := Scalar.minsi v686 c20000_i32
  let c0_i32_312 : BitVec 32 := 0#32
  let v782 : BitVec 1 := Scalar.cmpi .sgt v687 c0_i32_312
  let v783 : BitVec 32 := Scalar.extui v782
  let c0_i32_313 : BitVec 32 := 0#32
  let v784 : BitVec 1 := Scalar.cmpi .slt v687 c0_i32_313
  let v785 : BitVec 32 := Scalar.extui v784
  let v786 : BitVec 32 := Scalar.subi v783 v785
  let c16_i32_311 : BitVec 32 := 16#32
  let c0_i32_314 : BitVec 32 := 0#32
  let v787 : BitVec 1 := Scalar.cmpi .sgt c16_i32_311 c0_i32_314
  let v788 : BitVec 32 := Scalar.extui v787
  let c0_i32_315 : BitVec 32 := 0#32
  let v789 : BitVec 1 := Scalar.cmpi .slt c16_i32_311 c0_i32_315
  let v790 : BitVec 32 := Scalar.extui v789
  let v791 : BitVec 32 := Scalar.subi v788 v790
  let v792 : BitVec 1 := Scalar.cmpi .ne v786 v791
  let v793 : BitVec 32 := Scalar.remsi v687 c16_i32_311
  let c0_i32_316 : BitVec 32 := 0#32
  let v794 : BitVec 1 := Scalar.cmpi .ne v793 c0_i32_316
  let v795 : BitVec 1 := Scalar.andi v792 v794
  let v781 : BitVec 32 := Scalar.divsi v687 c16_i32_311
  let c1_i32_317 : BitVec 32 := 1#32
  let v796 : BitVec 32 := Scalar.subi v781 c1_i32_317
  let v797 : BitVec 32 := Scalar.select v795 v796 v781
  let c16_i32_318 : BitVec 32 := 16#32
  let v798 : BitVec 32 := Scalar.muli v797 c16_i32_318
  let v800 : Index := Scalar.indexCast v798
  ![v800.toNat]
@[reducible] def k0_t19_loop (v686 : BitVec 32) : Scf.Loop 32 :=
  let c0_i32_331 : BitVec 32 := 0#32
  let c16_i32_327 : BitVec 32 := 16#32
  let c1251_i32 : BitVec 32 := 1251#32
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_326 : BitVec 32 := 16#32
  let v829 : BitVec 32 := Scalar.muli v828 c16_i32_326
  let v830 : BitVec 32 := Scalar.subi c1251_i32 v829
  let v831 : BitVec 32 := Scalar.minsi c16_i32_327 v830
  let c0_i32_328 : BitVec 32 := 0#32
  let v832 : BitVec 32 := Scalar.maxsi v831 c0_i32_328
  let v835 : BitVec 32 := Scalar.subi v832 c0_i32_331
  let c1_i32_332 : BitVec 32 := 1#32
  let v837 : BitVec 32 := Scalar.divsi v835 c1_i32_332
  let v838 : BitVec 32 := Scalar.muli v837 c1_i32_332
  let v839 : BitVec 32 := Scalar.addi c0_i32_331 v838
  let c1_i32_333 : BitVec 32 := 1#32
  ⟨c0_i32_331, v839, c1_i32_333⟩
def k0_off23 (v686 : BitVec 32) (k0_t19 : Fin (k0_t19_loop v686).trips) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_366 : BitVec 32 := 16#32
  let v980 : BitVec 32 := Scalar.muli v828 c16_i32_366
  let c0_i32_331 : BitVec 32 := 0#32
  let c1_i32_333 : BitVec 32 := 1#32
  let arg34 : BitVec 32 := Scf.iv c0_i32_331 c1_i32_333 k0_t19
  let v981 : BitVec 32 := Scalar.addi v980 arg34
  let c16_i32_367 : BitVec 32 := 16#32
  let v982 : BitVec 32 := Scalar.muli v981 c16_i32_367
  let v983 : Index := Scalar.indexCast v982
  ![v983.toNat]
@[reducible] def k0_t20_loop (v686 : BitVec 32) : Scf.Loop 32 :=
  let c0_i32_331 : BitVec 32 := 0#32
  let c16_i32_327 : BitVec 32 := 16#32
  let c1251_i32 : BitVec 32 := 1251#32
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_326 : BitVec 32 := 16#32
  let v829 : BitVec 32 := Scalar.muli v828 c16_i32_326
  let v830 : BitVec 32 := Scalar.subi c1251_i32 v829
  let v831 : BitVec 32 := Scalar.minsi c16_i32_327 v830
  let c0_i32_328 : BitVec 32 := 0#32
  let v832 : BitVec 32 := Scalar.maxsi v831 c0_i32_328
  let v835 : BitVec 32 := Scalar.subi v832 c0_i32_331
  let c1_i32_332 : BitVec 32 := 1#32
  let v837 : BitVec 32 := Scalar.divsi v835 c1_i32_332
  let v838 : BitVec 32 := Scalar.muli v837 c1_i32_332
  let v839 : BitVec 32 := Scalar.addi c0_i32_331 v838
  let v836 : BitVec 32 := Scalar.addi c0_i32_331 v835
  let c1_i32_334 : BitVec 32 := 1#32
  ⟨v839, v836, c1_i32_334⟩
def k0_off24 (v686 : BitVec 32) (k0_t20 : Fin (k0_t20_loop v686).trips) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_366 : BitVec 32 := 16#32
  let v980 : BitVec 32 := Scalar.muli v828 c16_i32_366
  let c0_i32_331 : BitVec 32 := 0#32
  let c16_i32_327 : BitVec 32 := 16#32
  let c1251_i32 : BitVec 32 := 1251#32
  let c16_i32_326 : BitVec 32 := 16#32
  let v829 : BitVec 32 := Scalar.muli v828 c16_i32_326
  let v830 : BitVec 32 := Scalar.subi c1251_i32 v829
  let v831 : BitVec 32 := Scalar.minsi c16_i32_327 v830
  let c0_i32_328 : BitVec 32 := 0#32
  let v832 : BitVec 32 := Scalar.maxsi v831 c0_i32_328
  let v835 : BitVec 32 := Scalar.subi v832 c0_i32_331
  let c1_i32_332 : BitVec 32 := 1#32
  let v837 : BitVec 32 := Scalar.divsi v835 c1_i32_332
  let v838 : BitVec 32 := Scalar.muli v837 c1_i32_332
  let v839 : BitVec 32 := Scalar.addi c0_i32_331 v838
  let c1_i32_334 : BitVec 32 := 1#32
  let arg34 : BitVec 32 := Scf.iv v839 c1_i32_334 k0_t20
  let v981 : BitVec 32 := Scalar.addi v980 arg34
  let c16_i32_367 : BitVec 32 := 16#32
  let v982 : BitVec 32 := Scalar.muli v981 c16_i32_367
  let v983 : Index := Scalar.indexCast v982
  ![v983.toNat]
def k0_off25 (v686 : BitVec 32) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_335 : BitVec 32 := 16#32
  let v842 : BitVec 32 := Scalar.muli v828 c16_i32_335
  let v843 : Index := Scalar.indexCast v842
  ![v843.toNat]
@[reducible] def k0_t21_loop : Scf.Loop 32 :=
  let c0_i32_346 : BitVec 32 := 0#32
  let c16_i32_347 : BitVec 32 := 16#32
  let v871 : BitVec 32 := Scalar.addi c0_i32_346 c16_i32_347
  let c1_i32_348 : BitVec 32 := 1#32
  ⟨c0_i32_346, v871, c1_i32_348⟩
def k0_off26 (v686 : BitVec 32) (k0_t21 : Fin k0_t21_loop.trips) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c0_i32_338 : BitVec 32 := 0#32
  let v853 : BitVec 1 := Scalar.cmpi .sgt v828 c0_i32_338
  let v854 : BitVec 32 := Scalar.extui v853
  let c0_i32_339 : BitVec 32 := 0#32
  let v855 : BitVec 1 := Scalar.cmpi .slt v828 c0_i32_339
  let v856 : BitVec 32 := Scalar.extui v855
  let v857 : BitVec 32 := Scalar.subi v854 v856
  let c16_i32_337 : BitVec 32 := 16#32
  let c0_i32_340 : BitVec 32 := 0#32
  let v858 : BitVec 1 := Scalar.cmpi .sgt c16_i32_337 c0_i32_340
  let v859 : BitVec 32 := Scalar.extui v858
  let c0_i32_341 : BitVec 32 := 0#32
  let v860 : BitVec 1 := Scalar.cmpi .slt c16_i32_337 c0_i32_341
  let v861 : BitVec 32 := Scalar.extui v860
  let v862 : BitVec 32 := Scalar.subi v859 v861
  let v863 : BitVec 1 := Scalar.cmpi .ne v857 v862
  let v864 : BitVec 32 := Scalar.remsi v828 c16_i32_337
  let c0_i32_342 : BitVec 32 := 0#32
  let v865 : BitVec 1 := Scalar.cmpi .ne v864 c0_i32_342
  let v866 : BitVec 1 := Scalar.andi v863 v865
  let v852 : BitVec 32 := Scalar.divsi v828 c16_i32_337
  let c1_i32_343 : BitVec 32 := 1#32
  let v867 : BitVec 32 := Scalar.subi v852 c1_i32_343
  let v868 : BitVec 32 := Scalar.select v866 v867 v852
  let c16_i32_366 : BitVec 32 := 16#32
  let v980 : BitVec 32 := Scalar.muli v868 c16_i32_366
  let c0_i32_346 : BitVec 32 := 0#32
  let c1_i32_348 : BitVec 32 := 1#32
  let arg34 : BitVec 32 := Scf.iv c0_i32_346 c1_i32_348 k0_t21
  let v981 : BitVec 32 := Scalar.addi v980 arg34
  let c16_i32_367 : BitVec 32 := 16#32
  let v982 : BitVec 32 := Scalar.muli v981 c16_i32_367
  let v983 : Index := Scalar.indexCast v982
  ![v983.toNat]
def k0_off27 (v686 : BitVec 32) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c0_i32_338 : BitVec 32 := 0#32
  let v853 : BitVec 1 := Scalar.cmpi .sgt v828 c0_i32_338
  let v854 : BitVec 32 := Scalar.extui v853
  let c0_i32_339 : BitVec 32 := 0#32
  let v855 : BitVec 1 := Scalar.cmpi .slt v828 c0_i32_339
  let v856 : BitVec 32 := Scalar.extui v855
  let v857 : BitVec 32 := Scalar.subi v854 v856
  let c16_i32_337 : BitVec 32 := 16#32
  let c0_i32_340 : BitVec 32 := 0#32
  let v858 : BitVec 1 := Scalar.cmpi .sgt c16_i32_337 c0_i32_340
  let v859 : BitVec 32 := Scalar.extui v858
  let c0_i32_341 : BitVec 32 := 0#32
  let v860 : BitVec 1 := Scalar.cmpi .slt c16_i32_337 c0_i32_341
  let v861 : BitVec 32 := Scalar.extui v860
  let v862 : BitVec 32 := Scalar.subi v859 v861
  let v863 : BitVec 1 := Scalar.cmpi .ne v857 v862
  let v864 : BitVec 32 := Scalar.remsi v828 c16_i32_337
  let c0_i32_342 : BitVec 32 := 0#32
  let v865 : BitVec 1 := Scalar.cmpi .ne v864 c0_i32_342
  let v866 : BitVec 1 := Scalar.andi v863 v865
  let v852 : BitVec 32 := Scalar.divsi v828 c16_i32_337
  let c1_i32_343 : BitVec 32 := 1#32
  let v867 : BitVec 32 := Scalar.subi v852 c1_i32_343
  let v868 : BitVec 32 := Scalar.select v866 v867 v852
  let c16_i32_350 : BitVec 32 := 16#32
  let v873 : BitVec 32 := Scalar.muli v868 c16_i32_350
  let v874 : Index := Scalar.indexCast v873
  ![v874.toNat]

def k0_chk6 (i : grid0.Coords) (v595 : BitVec 32) (v686 : BitVec 32) : Prop :=
  (∀ (k0_h1 : k0_cond1 i = 1#1), ∀ (k0_h3 : k0_cond3 v595 = 1#1), ∀ a, (k0_off19 v686) a + S16.size a ≤ S20016.size a) ∧
  (∀ (k0_h1 : k0_cond1 i = 1#1), ∀ (k0_h3 : k0_cond3 v595 = 1#1), ∀ a, (k0_off22 v686) a + S16.size a ≤ S20016.size a) ∧
  (∀ (k0_h1 : k0_cond1 i = 1#1), ∀ (k0_h3 : k0_cond3 v595 = 1#1), (k0_t19_loop v686).OK) ∧
  (∀ k0_t19 : Fin (k0_t19_loop v686).trips, ∀ (k0_h1 : k0_cond1 i = 1#1), ∀ (k0_h3 : k0_cond3 v595 = 1#1), ∀ a, (k0_off23 v686 k0_t19) a + S16.size a ≤ S20016.size a) ∧
  (∀ (k0_h1 : k0_cond1 i = 1#1), ∀ (k0_h3 : k0_cond3 v595 = 1#1), (k0_t20_loop v686).OK) ∧
  (∀ k0_t20 : Fin (k0_t20_loop v686).trips, ∀ (k0_h1 : k0_cond1 i = 1#1), ∀ (k0_h3 : k0_cond3 v595 = 1#1), ∀ a, (k0_off24 v686 k0_t20) a + S16.size a ≤ S20016.size a) ∧
  (∀ (k0_h1 : k0_cond1 i = 1#1), ∀ (k0_h3 : k0_cond3 v595 = 1#1), ∀ a, (k0_off25 v686) a + S16.size a ≤ S1280.size a) ∧
  (∀ k0_t21 : Fin k0_t21_loop.trips, ∀ (k0_h1 : k0_cond1 i = 1#1), ∀ (k0_h3 : k0_cond3 v595 = 1#1), ∀ a, (k0_off26 v686 k0_t21) a + S16.size a ≤ S1280.size a) ∧
  (∀ (k0_h1 : k0_cond1 i = 1#1), ∀ (k0_h3 : k0_cond3 v595 = 1#1), ∀ a, (k0_off27 v686) a + S16.size a ≤ S80.size a)
theorem k0_off19_inb : ∀ (i : grid0.Coords) (v595 : BitVec 32) (v686 : BitVec 32) (k0_hw6 : k0_chk6 i v595 v686), ∀ (k0_h1 : k0_cond1 i = 1#1), ∀ (k0_h3 : k0_cond3 v595 = 1#1), ∀ a, (k0_off19 v686) a + S16.size a ≤ S20016.size a := fun i v595 v686 k0_hw6 k0_h1 k0_h3 => k0_hw6.1 k0_h1 k0_h3
theorem k0_off22_inb : ∀ (i : grid0.Coords) (v595 : BitVec 32) (v686 : BitVec 32) (k0_hw6 : k0_chk6 i v595 v686), ∀ (k0_h1 : k0_cond1 i = 1#1), ∀ (k0_h3 : k0_cond3 v595 = 1#1), ∀ a, (k0_off22 v686) a + S16.size a ≤ S20016.size a := fun i v595 v686 k0_hw6 k0_h1 k0_h3 => k0_hw6.2.1 k0_h1 k0_h3
theorem k0_t19_ok : ∀ (i : grid0.Coords) (v595 : BitVec 32) (v686 : BitVec 32) (k0_hw6 : k0_chk6 i v595 v686), ∀ (k0_h1 : k0_cond1 i = 1#1), ∀ (k0_h3 : k0_cond3 v595 = 1#1), (k0_t19_loop v686).OK := fun i v595 v686 k0_hw6 k0_h1 k0_h3 => k0_hw6.2.2.1 k0_h1 k0_h3
theorem k0_off23_inb : ∀ (i : grid0.Coords) (v595 : BitVec 32) (v686 : BitVec 32) (k0_hw6 : k0_chk6 i v595 v686) (k0_t19 : Fin (k0_t19_loop v686).trips), ∀ (k0_h1 : k0_cond1 i = 1#1), ∀ (k0_h3 : k0_cond3 v595 = 1#1), ∀ a, (k0_off23 v686 k0_t19) a + S16.size a ≤ S20016.size a := fun i v595 v686 k0_hw6 k0_t19 k0_h1 k0_h3 => k0_hw6.2.2.2.1 k0_t19 k0_h1 k0_h3
theorem k0_t20_ok : ∀ (i : grid0.Coords) (v595 : BitVec 32) (v686 : BitVec 32) (k0_hw6 : k0_chk6 i v595 v686), ∀ (k0_h1 : k0_cond1 i = 1#1), ∀ (k0_h3 : k0_cond3 v595 = 1#1), (k0_t20_loop v686).OK := fun i v595 v686 k0_hw6 k0_h1 k0_h3 => k0_hw6.2.2.2.2.1 k0_h1 k0_h3
theorem k0_off24_inb : ∀ (i : grid0.Coords) (v595 : BitVec 32) (v686 : BitVec 32) (k0_hw6 : k0_chk6 i v595 v686) (k0_t20 : Fin (k0_t20_loop v686).trips), ∀ (k0_h1 : k0_cond1 i = 1#1), ∀ (k0_h3 : k0_cond3 v595 = 1#1), ∀ a, (k0_off24 v686 k0_t20) a + S16.size a ≤ S20016.size a := fun i v595 v686 k0_hw6 k0_t20 k0_h1 k0_h3 => k0_hw6.2.2.2.2.2.1 k0_t20 k0_h1 k0_h3
theorem k0_off25_inb : ∀ (i : grid0.Coords) (v595 : BitVec 32) (v686 : BitVec 32) (k0_hw6 : k0_chk6 i v595 v686), ∀ (k0_h1 : k0_cond1 i = 1#1), ∀ (k0_h3 : k0_cond3 v595 = 1#1), ∀ a, (k0_off25 v686) a + S16.size a ≤ S1280.size a := fun i v595 v686 k0_hw6 k0_h1 k0_h3 => k0_hw6.2.2.2.2.2.2.1 k0_h1 k0_h3
theorem k0_off26_inb : ∀ (i : grid0.Coords) (v595 : BitVec 32) (v686 : BitVec 32) (k0_hw6 : k0_chk6 i v595 v686) (k0_t21 : Fin k0_t21_loop.trips), ∀ (k0_h1 : k0_cond1 i = 1#1), ∀ (k0_h3 : k0_cond3 v595 = 1#1), ∀ a, (k0_off26 v686 k0_t21) a + S16.size a ≤ S1280.size a := fun i v595 v686 k0_hw6 k0_t21 k0_h1 k0_h3 => k0_hw6.2.2.2.2.2.2.2.1 k0_t21 k0_h1 k0_h3
theorem k0_off27_inb : ∀ (i : grid0.Coords) (v595 : BitVec 32) (v686 : BitVec 32) (k0_hw6 : k0_chk6 i v595 v686), ∀ (k0_h1 : k0_cond1 i = 1#1), ∀ (k0_h3 : k0_cond3 v595 = 1#1), ∀ a, (k0_off27 v686) a + S16.size a ≤ S80.size a := fun i v595 v686 k0_hw6 k0_h1 k0_h3 => k0_hw6.2.2.2.2.2.2.2.2 k0_h1 k0_h3

def k0_off28 (v884 : BitVec 32) : Fin 1 → Nat :=
  let c0_i32_354 : BitVec 32 := 0#32
  let v886 : BitVec 1 := Scalar.cmpi .sgt v884 c0_i32_354
  let v887 : BitVec 32 := Scalar.extui v886
  let c0_i32_355 : BitVec 32 := 0#32
  let v888 : BitVec 1 := Scalar.cmpi .slt v884 c0_i32_355
  let v889 : BitVec 32 := Scalar.extui v888
  let v890 : BitVec 32 := Scalar.subi v887 v889
  let c16_i32_353 : BitVec 32 := 16#32
  let c0_i32_356 : BitVec 32 := 0#32
  let v891 : BitVec 1 := Scalar.cmpi .sgt c16_i32_353 c0_i32_356
  let v892 : BitVec 32 := Scalar.extui v891
  let c0_i32_357 : BitVec 32 := 0#32
  let v893 : BitVec 1 := Scalar.cmpi .slt c16_i32_353 c0_i32_357
  let v894 : BitVec 32 := Scalar.extui v893
  let v895 : BitVec 32 := Scalar.subi v892 v894
  let v896 : BitVec 1 := Scalar.cmpi .ne v890 v895
  let v897 : BitVec 32 := Scalar.remsi v884 c16_i32_353
  let c0_i32_358 : BitVec 32 := 0#32
  let v898 : BitVec 1 := Scalar.cmpi .ne v897 c0_i32_358
  let v899 : BitVec 1 := Scalar.andi v896 v898
  let v885 : BitVec 32 := Scalar.divsi v884 c16_i32_353
  let c1_i32_359 : BitVec 32 := 1#32
  let v900 : BitVec 32 := Scalar.subi v885 c1_i32_359
  let v901 : BitVec 32 := Scalar.select v899 v900 v885
  let c16_i32_360 : BitVec 32 := 16#32
  let v902 : BitVec 32 := Scalar.muli v901 c16_i32_360
  let v907 : Index := Scalar.indexCast v902
  ![v907.toNat]

def k0_chk8 (i : grid0.Coords) (v595 : BitVec 32) (v884 : BitVec 32) : Prop :=
  (∀ (k0_h1 : k0_cond1 i = 1#1), ∀ (k0_h3 : k0_cond3 v595 = 1#1), ∀ a, (k0_off28 v884) a + S16.size a ≤ S112.size a)
theorem k0_off28_inb : ∀ (i : grid0.Coords) (v595 : BitVec 32) (v884 : BitVec 32) (k0_hw8 : k0_chk8 i v595 v884), ∀ (k0_h1 : k0_cond1 i = 1#1), ∀ (k0_h3 : k0_cond3 v595 = 1#1), ∀ a, (k0_off28 v884) a + S16.size a ≤ S112.size a := fun i v595 v884 k0_hw8 k0_h1 k0_h3 => k0_hw8 k0_h1 k0_h3

@[reducible] def k0_t22_loop (v577 : BitVec 32) : Scf.Loop 32 :=
  let c0_i32_234 : BitVec 32 := 0#32
  let c1_i32_231 : BitVec 32 := 1#32
  let v578 : BitVec 1 := Scalar.cmpi .eq v577 c1_i32_231
  let c0_i32_232 : BitVec 32 := 0#32
  let c16_i32_233 : BitVec 32 := 16#32
  let v579 : BitVec 32 := Scalar.select v578 c0_i32_232 c16_i32_233
  let v580 : BitVec 32 := Scalar.subi v579 c0_i32_234
  let c1_i32_235 : BitVec 32 := 1#32
  let v582 : BitVec 32 := Scalar.divsi v580 c1_i32_235
  let v583 : BitVec 32 := Scalar.muli v582 c1_i32_235
  let v584 : BitVec 32 := Scalar.addi c0_i32_234 v583
  let v581 : BitVec 32 := Scalar.addi c0_i32_234 v580
  let c1_i32_237 : BitVec 32 := 1#32
  ⟨v584, v581, c1_i32_237⟩

def k0_chk1 (i : grid0.Coords) (v577 : BitVec 32) : Prop :=
  (∀ (k0_h1 : k0_cond1 i = 1#1), (k0_t7_loop v577).OK) ∧
  (∀ (k0_h1 : k0_cond1 i = 1#1), (k0_t22_loop v577).OK)
theorem k0_t7_ok : ∀ (i : grid0.Coords) (v577 : BitVec 32) (k0_hw1 : k0_chk1 i v577), ∀ (k0_h1 : k0_cond1 i = 1#1), (k0_t7_loop v577).OK := fun i v577 k0_hw1 k0_h1 => k0_hw1.1 k0_h1
theorem k0_t22_ok : ∀ (i : grid0.Coords) (v577 : BitVec 32) (k0_hw1 : k0_chk1 i v577), ∀ (k0_h1 : k0_cond1 i = 1#1), (k0_t22_loop v577).OK := fun i v577 k0_hw1 k0_h1 => k0_hw1.2 k0_h1

@[reducible] def k0_t23_loop (v586 : BitVec 32) : Scf.Loop 32 :=
  let c0_i32_242 : BitVec 32 := 0#32
  let c1_i32_239 : BitVec 32 := 1#32
  let v587 : BitVec 1 := Scalar.cmpi .eq v586 c1_i32_239
  let c0_i32_240 : BitVec 32 := 0#32
  let c64_i32_241 : BitVec 32 := 64#32
  let v588 : BitVec 32 := Scalar.select v587 c0_i32_240 c64_i32_241
  let v589 : BitVec 32 := Scalar.subi v588 c0_i32_242
  let c1_i32_243 : BitVec 32 := 1#32
  let v591 : BitVec 32 := Scalar.divsi v589 c1_i32_243
  let v592 : BitVec 32 := Scalar.muli v591 c1_i32_243
  let v593 : BitVec 32 := Scalar.addi c0_i32_242 v592
  let c1_i32_244 : BitVec 32 := 1#32
  ⟨c0_i32_242, v593, c1_i32_244⟩

@[reducible] def k0_t24_loop : Scf.Loop 32 :=
  let c0_i32_252 : BitVec 32 := 0#32
  let c5_i32_253 : BitVec 32 := 5#32
  let v603 : BitVec 32 := Scalar.addi c0_i32_252 c5_i32_253
  let c1_i32_254 : BitVec 32 := 1#32
  ⟨c0_i32_252, v603, c1_i32_254⟩
def k0_off29 (k0_t24 : Fin k0_t24_loop.trips) : Fin 1 → Nat :=
  let c0_i32_252 : BitVec 32 := 0#32
  let c1_i32_254 : BitVec 32 := 1#32
  let arg34 : BitVec 32 := Scf.iv c0_i32_252 c1_i32_254 k0_t24
  let c16_i32_366 : BitVec 32 := 16#32
  let v980 : BitVec 32 := Scalar.muli arg34 c16_i32_366
  let v981 : Index := Scalar.indexCast v980
  ![v981.toNat]
def k0_off30 (v686 : BitVec 32) : Fin 1 → Nat :=
  let c20000_i32 : BitVec 32 := 20000#32
  let v687 : BitVec 32 := Scalar.minsi v686 c20000_i32
  let v689 : Index := Scalar.indexCast v687
  ![v689.toNat]
def k0_cond4 (v595 : BitVec 32) : BitVec 1 :=
  let c0_i32_247 : BitVec 32 := 0#32
  let v596 : BitVec 1 := Scalar.cmpi .eq v595 c0_i32_247
  let v597 : BitVec 32 := Scalar.extui v596
  let c0_i32_248 : BitVec 32 := 0#32
  let v598 : BitVec 1 := Scalar.cmpi .ne v597 c0_i32_248
  v598

@[reducible] def k0_t25_loop (v600 : BitVec 32) : Scf.Loop 32 :=
  let c0_i32_292 : BitVec 32 := 0#32
  let c16_i32_282 : BitVec 32 := 16#32
  let v712 : BitVec 32 := Scalar.addi v600 c16_i32_282
  let c1_i32_283 : BitVec 32 := 1#32
  let v713 : BitVec 32 := Scalar.subi v712 c1_i32_283
  let c0_i32_285 : BitVec 32 := 0#32
  let v715 : BitVec 1 := Scalar.cmpi .sgt v713 c0_i32_285
  let v716 : BitVec 32 := Scalar.extui v715
  let c0_i32_286 : BitVec 32 := 0#32
  let v717 : BitVec 1 := Scalar.cmpi .slt v713 c0_i32_286
  let v718 : BitVec 32 := Scalar.extui v717
  let v719 : BitVec 32 := Scalar.subi v716 v718
  let c16_i32_284 : BitVec 32 := 16#32
  let c0_i32_287 : BitVec 32 := 0#32
  let v720 : BitVec 1 := Scalar.cmpi .sgt c16_i32_284 c0_i32_287
  let v721 : BitVec 32 := Scalar.extui v720
  let c0_i32_288 : BitVec 32 := 0#32
  let v722 : BitVec 1 := Scalar.cmpi .slt c16_i32_284 c0_i32_288
  let v723 : BitVec 32 := Scalar.extui v722
  let v724 : BitVec 32 := Scalar.subi v721 v723
  let v725 : BitVec 1 := Scalar.cmpi .ne v719 v724
  let v726 : BitVec 32 := Scalar.remsi v713 c16_i32_284
  let c0_i32_289 : BitVec 32 := 0#32
  let v727 : BitVec 1 := Scalar.cmpi .ne v726 c0_i32_289
  let v728 : BitVec 1 := Scalar.andi v725 v727
  let v714 : BitVec 32 := Scalar.divsi v713 c16_i32_284
  let c1_i32_290 : BitVec 32 := 1#32
  let v729 : BitVec 32 := Scalar.subi v714 c1_i32_290
  let v730 : BitVec 32 := Scalar.select v728 v729 v714
  let v732 : BitVec 32 := Scalar.subi v730 c0_i32_292
  let c1_i32_293 : BitVec 32 := 1#32
  let v734 : BitVec 32 := Scalar.divsi v732 c1_i32_293
  let v735 : BitVec 32 := Scalar.muli v734 c1_i32_293
  let v736 : BitVec 32 := Scalar.addi c0_i32_292 v735
  let c1_i32_294 : BitVec 32 := 1#32
  ⟨c0_i32_292, v736, c1_i32_294⟩

def k0_off31 (v600 : BitVec 32) (k0_t25 : Fin (k0_t25_loop v600).trips) : Fin 1 → Nat :=
  let c0_i32_292 : BitVec 32 := 0#32
  let c1_i32_294 : BitVec 32 := 1#32
  let arg34 : BitVec 32 := Scf.iv c0_i32_292 c1_i32_294 k0_t25
  let c16_i32_366 : BitVec 32 := 16#32
  let v980 : BitVec 32 := Scalar.muli arg34 c16_i32_366
  let v981 : Index := Scalar.indexCast v980
  ![v981.toNat]
@[reducible] def k0_t26_loop (v600 : BitVec 32) : Scf.Loop 32 :=
  let c0_i32_292 : BitVec 32 := 0#32
  let c16_i32_282 : BitVec 32 := 16#32
  let v712 : BitVec 32 := Scalar.addi v600 c16_i32_282
  let c1_i32_283 : BitVec 32 := 1#32
  let v713 : BitVec 32 := Scalar.subi v712 c1_i32_283
  let c0_i32_285 : BitVec 32 := 0#32
  let v715 : BitVec 1 := Scalar.cmpi .sgt v713 c0_i32_285
  let v716 : BitVec 32 := Scalar.extui v715
  let c0_i32_286 : BitVec 32 := 0#32
  let v717 : BitVec 1 := Scalar.cmpi .slt v713 c0_i32_286
  let v718 : BitVec 32 := Scalar.extui v717
  let v719 : BitVec 32 := Scalar.subi v716 v718
  let c16_i32_284 : BitVec 32 := 16#32
  let c0_i32_287 : BitVec 32 := 0#32
  let v720 : BitVec 1 := Scalar.cmpi .sgt c16_i32_284 c0_i32_287
  let v721 : BitVec 32 := Scalar.extui v720
  let c0_i32_288 : BitVec 32 := 0#32
  let v722 : BitVec 1 := Scalar.cmpi .slt c16_i32_284 c0_i32_288
  let v723 : BitVec 32 := Scalar.extui v722
  let v724 : BitVec 32 := Scalar.subi v721 v723
  let v725 : BitVec 1 := Scalar.cmpi .ne v719 v724
  let v726 : BitVec 32 := Scalar.remsi v713 c16_i32_284
  let c0_i32_289 : BitVec 32 := 0#32
  let v727 : BitVec 1 := Scalar.cmpi .ne v726 c0_i32_289
  let v728 : BitVec 1 := Scalar.andi v725 v727
  let v714 : BitVec 32 := Scalar.divsi v713 c16_i32_284
  let c1_i32_290 : BitVec 32 := 1#32
  let v729 : BitVec 32 := Scalar.subi v714 c1_i32_290
  let v730 : BitVec 32 := Scalar.select v728 v729 v714
  let v732 : BitVec 32 := Scalar.subi v730 c0_i32_292
  let c1_i32_293 : BitVec 32 := 1#32
  let v734 : BitVec 32 := Scalar.divsi v732 c1_i32_293
  let v735 : BitVec 32 := Scalar.muli v734 c1_i32_293
  let v736 : BitVec 32 := Scalar.addi c0_i32_292 v735
  let v733 : BitVec 32 := Scalar.addi c0_i32_292 v732
  let c1_i32_295 : BitVec 32 := 1#32
  ⟨v736, v733, c1_i32_295⟩
def k0_off32 (v600 : BitVec 32) (k0_t26 : Fin (k0_t26_loop v600).trips) : Fin 1 → Nat :=
  let c0_i32_292 : BitVec 32 := 0#32
  let c16_i32_282 : BitVec 32 := 16#32
  let v712 : BitVec 32 := Scalar.addi v600 c16_i32_282
  let c1_i32_283 : BitVec 32 := 1#32
  let v713 : BitVec 32 := Scalar.subi v712 c1_i32_283
  let c0_i32_285 : BitVec 32 := 0#32
  let v715 : BitVec 1 := Scalar.cmpi .sgt v713 c0_i32_285
  let v716 : BitVec 32 := Scalar.extui v715
  let c0_i32_286 : BitVec 32 := 0#32
  let v717 : BitVec 1 := Scalar.cmpi .slt v713 c0_i32_286
  let v718 : BitVec 32 := Scalar.extui v717
  let v719 : BitVec 32 := Scalar.subi v716 v718
  let c16_i32_284 : BitVec 32 := 16#32
  let c0_i32_287 : BitVec 32 := 0#32
  let v720 : BitVec 1 := Scalar.cmpi .sgt c16_i32_284 c0_i32_287
  let v721 : BitVec 32 := Scalar.extui v720
  let c0_i32_288 : BitVec 32 := 0#32
  let v722 : BitVec 1 := Scalar.cmpi .slt c16_i32_284 c0_i32_288
  let v723 : BitVec 32 := Scalar.extui v722
  let v724 : BitVec 32 := Scalar.subi v721 v723
  let v725 : BitVec 1 := Scalar.cmpi .ne v719 v724
  let v726 : BitVec 32 := Scalar.remsi v713 c16_i32_284
  let c0_i32_289 : BitVec 32 := 0#32
  let v727 : BitVec 1 := Scalar.cmpi .ne v726 c0_i32_289
  let v728 : BitVec 1 := Scalar.andi v725 v727
  let v714 : BitVec 32 := Scalar.divsi v713 c16_i32_284
  let c1_i32_290 : BitVec 32 := 1#32
  let v729 : BitVec 32 := Scalar.subi v714 c1_i32_290
  let v730 : BitVec 32 := Scalar.select v728 v729 v714
  let v732 : BitVec 32 := Scalar.subi v730 c0_i32_292
  let c1_i32_293 : BitVec 32 := 1#32
  let v734 : BitVec 32 := Scalar.divsi v732 c1_i32_293
  let v735 : BitVec 32 := Scalar.muli v734 c1_i32_293
  let v736 : BitVec 32 := Scalar.addi c0_i32_292 v735
  let c1_i32_295 : BitVec 32 := 1#32
  let arg34 : BitVec 32 := Scf.iv v736 c1_i32_295 k0_t26
  let c16_i32_366 : BitVec 32 := 16#32
  let v980 : BitVec 32 := Scalar.muli arg34 c16_i32_366
  let v981 : Index := Scalar.indexCast v980
  ![v981.toNat]

def k0_chk11 (i : grid0.Coords) (v595 : BitVec 32) (v600 : BitVec 32) : Prop :=
  (∀ (k0_h1 : k0_cond1 i = 1#1), ∀ (k0_h4 : k0_cond4 v595 = 1#1), (k0_t25_loop v600).OK) ∧
  (∀ k0_t25 : Fin (k0_t25_loop v600).trips, ∀ (k0_h1 : k0_cond1 i = 1#1), ∀ (k0_h4 : k0_cond4 v595 = 1#1), ∀ a, (k0_off31 v600 k0_t25) a + S16.size a ≤ S112.size a) ∧
  (∀ (k0_h1 : k0_cond1 i = 1#1), ∀ (k0_h4 : k0_cond4 v595 = 1#1), (k0_t26_loop v600).OK) ∧
  (∀ k0_t26 : Fin (k0_t26_loop v600).trips, ∀ (k0_h1 : k0_cond1 i = 1#1), ∀ (k0_h4 : k0_cond4 v595 = 1#1), ∀ a, (k0_off32 v600 k0_t26) a + S16.size a ≤ S112.size a)
theorem k0_t25_ok : ∀ (i : grid0.Coords) (v595 : BitVec 32) (v600 : BitVec 32) (k0_hw11 : k0_chk11 i v595 v600), ∀ (k0_h1 : k0_cond1 i = 1#1), ∀ (k0_h4 : k0_cond4 v595 = 1#1), (k0_t25_loop v600).OK := fun i v595 v600 k0_hw11 k0_h1 k0_h4 => k0_hw11.1 k0_h1 k0_h4
theorem k0_off31_inb : ∀ (i : grid0.Coords) (v595 : BitVec 32) (v600 : BitVec 32) (k0_hw11 : k0_chk11 i v595 v600) (k0_t25 : Fin (k0_t25_loop v600).trips), ∀ (k0_h1 : k0_cond1 i = 1#1), ∀ (k0_h4 : k0_cond4 v595 = 1#1), ∀ a, (k0_off31 v600 k0_t25) a + S16.size a ≤ S112.size a := fun i v595 v600 k0_hw11 k0_t25 k0_h1 k0_h4 => k0_hw11.2.1 k0_t25 k0_h1 k0_h4
theorem k0_t26_ok : ∀ (i : grid0.Coords) (v595 : BitVec 32) (v600 : BitVec 32) (k0_hw11 : k0_chk11 i v595 v600), ∀ (k0_h1 : k0_cond1 i = 1#1), ∀ (k0_h4 : k0_cond4 v595 = 1#1), (k0_t26_loop v600).OK := fun i v595 v600 k0_hw11 k0_h1 k0_h4 => k0_hw11.2.2.1 k0_h1 k0_h4
theorem k0_off32_inb : ∀ (i : grid0.Coords) (v595 : BitVec 32) (v600 : BitVec 32) (k0_hw11 : k0_chk11 i v595 v600) (k0_t26 : Fin (k0_t26_loop v600).trips), ∀ (k0_h1 : k0_cond1 i = 1#1), ∀ (k0_h4 : k0_cond4 v595 = 1#1), ∀ a, (k0_off32 v600 k0_t26) a + S16.size a ≤ S112.size a := fun i v595 v600 k0_hw11 k0_t26 k0_h1 k0_h4 => k0_hw11.2.2.2 k0_t26 k0_h1 k0_h4

def k0_off33 (v686 : BitVec 32) : Fin 1 → Nat :=
  let c20000_i32 : BitVec 32 := 20000#32
  let v687 : BitVec 32 := Scalar.minsi v686 c20000_i32
  let c0_i32_312 : BitVec 32 := 0#32
  let v782 : BitVec 1 := Scalar.cmpi .sgt v687 c0_i32_312
  let v783 : BitVec 32 := Scalar.extui v782
  let c0_i32_313 : BitVec 32 := 0#32
  let v784 : BitVec 1 := Scalar.cmpi .slt v687 c0_i32_313
  let v785 : BitVec 32 := Scalar.extui v784
  let v786 : BitVec 32 := Scalar.subi v783 v785
  let c16_i32_311 : BitVec 32 := 16#32
  let c0_i32_314 : BitVec 32 := 0#32
  let v787 : BitVec 1 := Scalar.cmpi .sgt c16_i32_311 c0_i32_314
  let v788 : BitVec 32 := Scalar.extui v787
  let c0_i32_315 : BitVec 32 := 0#32
  let v789 : BitVec 1 := Scalar.cmpi .slt c16_i32_311 c0_i32_315
  let v790 : BitVec 32 := Scalar.extui v789
  let v791 : BitVec 32 := Scalar.subi v788 v790
  let v792 : BitVec 1 := Scalar.cmpi .ne v786 v791
  let v793 : BitVec 32 := Scalar.remsi v687 c16_i32_311
  let c0_i32_316 : BitVec 32 := 0#32
  let v794 : BitVec 1 := Scalar.cmpi .ne v793 c0_i32_316
  let v795 : BitVec 1 := Scalar.andi v792 v794
  let v781 : BitVec 32 := Scalar.divsi v687 c16_i32_311
  let c1_i32_317 : BitVec 32 := 1#32
  let v796 : BitVec 32 := Scalar.subi v781 c1_i32_317
  let v797 : BitVec 32 := Scalar.select v795 v796 v781
  let c16_i32_318 : BitVec 32 := 16#32
  let v798 : BitVec 32 := Scalar.muli v797 c16_i32_318
  let v800 : Index := Scalar.indexCast v798
  ![v800.toNat]
@[reducible] def k0_t27_loop (v686 : BitVec 32) : Scf.Loop 32 :=
  let c0_i32_331 : BitVec 32 := 0#32
  let c16_i32_327 : BitVec 32 := 16#32
  let c1251_i32 : BitVec 32 := 1251#32
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_326 : BitVec 32 := 16#32
  let v829 : BitVec 32 := Scalar.muli v828 c16_i32_326
  let v830 : BitVec 32 := Scalar.subi c1251_i32 v829
  let v831 : BitVec 32 := Scalar.minsi c16_i32_327 v830
  let c0_i32_328 : BitVec 32 := 0#32
  let v832 : BitVec 32 := Scalar.maxsi v831 c0_i32_328
  let v835 : BitVec 32 := Scalar.subi v832 c0_i32_331
  let c1_i32_332 : BitVec 32 := 1#32
  let v837 : BitVec 32 := Scalar.divsi v835 c1_i32_332
  let v838 : BitVec 32 := Scalar.muli v837 c1_i32_332
  let v839 : BitVec 32 := Scalar.addi c0_i32_331 v838
  let c1_i32_333 : BitVec 32 := 1#32
  ⟨c0_i32_331, v839, c1_i32_333⟩
def k0_off34 (v686 : BitVec 32) (k0_t27 : Fin (k0_t27_loop v686).trips) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_366 : BitVec 32 := 16#32
  let v980 : BitVec 32 := Scalar.muli v828 c16_i32_366
  let c0_i32_331 : BitVec 32 := 0#32
  let c1_i32_333 : BitVec 32 := 1#32
  let arg34 : BitVec 32 := Scf.iv c0_i32_331 c1_i32_333 k0_t27
  let v981 : BitVec 32 := Scalar.addi v980 arg34
  let c16_i32_367 : BitVec 32 := 16#32
  let v982 : BitVec 32 := Scalar.muli v981 c16_i32_367
  let v983 : Index := Scalar.indexCast v982
  ![v983.toNat]
@[reducible] def k0_t28_loop (v686 : BitVec 32) : Scf.Loop 32 :=
  let c0_i32_331 : BitVec 32 := 0#32
  let c16_i32_327 : BitVec 32 := 16#32
  let c1251_i32 : BitVec 32 := 1251#32
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_326 : BitVec 32 := 16#32
  let v829 : BitVec 32 := Scalar.muli v828 c16_i32_326
  let v830 : BitVec 32 := Scalar.subi c1251_i32 v829
  let v831 : BitVec 32 := Scalar.minsi c16_i32_327 v830
  let c0_i32_328 : BitVec 32 := 0#32
  let v832 : BitVec 32 := Scalar.maxsi v831 c0_i32_328
  let v835 : BitVec 32 := Scalar.subi v832 c0_i32_331
  let c1_i32_332 : BitVec 32 := 1#32
  let v837 : BitVec 32 := Scalar.divsi v835 c1_i32_332
  let v838 : BitVec 32 := Scalar.muli v837 c1_i32_332
  let v839 : BitVec 32 := Scalar.addi c0_i32_331 v838
  let v836 : BitVec 32 := Scalar.addi c0_i32_331 v835
  let c1_i32_334 : BitVec 32 := 1#32
  ⟨v839, v836, c1_i32_334⟩
def k0_off35 (v686 : BitVec 32) (k0_t28 : Fin (k0_t28_loop v686).trips) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_366 : BitVec 32 := 16#32
  let v980 : BitVec 32 := Scalar.muli v828 c16_i32_366
  let c0_i32_331 : BitVec 32 := 0#32
  let c16_i32_327 : BitVec 32 := 16#32
  let c1251_i32 : BitVec 32 := 1251#32
  let c16_i32_326 : BitVec 32 := 16#32
  let v829 : BitVec 32 := Scalar.muli v828 c16_i32_326
  let v830 : BitVec 32 := Scalar.subi c1251_i32 v829
  let v831 : BitVec 32 := Scalar.minsi c16_i32_327 v830
  let c0_i32_328 : BitVec 32 := 0#32
  let v832 : BitVec 32 := Scalar.maxsi v831 c0_i32_328
  let v835 : BitVec 32 := Scalar.subi v832 c0_i32_331
  let c1_i32_332 : BitVec 32 := 1#32
  let v837 : BitVec 32 := Scalar.divsi v835 c1_i32_332
  let v838 : BitVec 32 := Scalar.muli v837 c1_i32_332
  let v839 : BitVec 32 := Scalar.addi c0_i32_331 v838
  let c1_i32_334 : BitVec 32 := 1#32
  let arg34 : BitVec 32 := Scf.iv v839 c1_i32_334 k0_t28
  let v981 : BitVec 32 := Scalar.addi v980 arg34
  let c16_i32_367 : BitVec 32 := 16#32
  let v982 : BitVec 32 := Scalar.muli v981 c16_i32_367
  let v983 : Index := Scalar.indexCast v982
  ![v983.toNat]
def k0_off36 (v686 : BitVec 32) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_335 : BitVec 32 := 16#32
  let v842 : BitVec 32 := Scalar.muli v828 c16_i32_335
  let v843 : Index := Scalar.indexCast v842
  ![v843.toNat]
@[reducible] def k0_t29_loop : Scf.Loop 32 :=
  let c0_i32_346 : BitVec 32 := 0#32
  let c16_i32_347 : BitVec 32 := 16#32
  let v871 : BitVec 32 := Scalar.addi c0_i32_346 c16_i32_347
  let c1_i32_348 : BitVec 32 := 1#32
  ⟨c0_i32_346, v871, c1_i32_348⟩
def k0_off37 (v686 : BitVec 32) (k0_t29 : Fin k0_t29_loop.trips) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c0_i32_338 : BitVec 32 := 0#32
  let v853 : BitVec 1 := Scalar.cmpi .sgt v828 c0_i32_338
  let v854 : BitVec 32 := Scalar.extui v853
  let c0_i32_339 : BitVec 32 := 0#32
  let v855 : BitVec 1 := Scalar.cmpi .slt v828 c0_i32_339
  let v856 : BitVec 32 := Scalar.extui v855
  let v857 : BitVec 32 := Scalar.subi v854 v856
  let c16_i32_337 : BitVec 32 := 16#32
  let c0_i32_340 : BitVec 32 := 0#32
  let v858 : BitVec 1 := Scalar.cmpi .sgt c16_i32_337 c0_i32_340
  let v859 : BitVec 32 := Scalar.extui v858
  let c0_i32_341 : BitVec 32 := 0#32
  let v860 : BitVec 1 := Scalar.cmpi .slt c16_i32_337 c0_i32_341
  let v861 : BitVec 32 := Scalar.extui v860
  let v862 : BitVec 32 := Scalar.subi v859 v861
  let v863 : BitVec 1 := Scalar.cmpi .ne v857 v862
  let v864 : BitVec 32 := Scalar.remsi v828 c16_i32_337
  let c0_i32_342 : BitVec 32 := 0#32
  let v865 : BitVec 1 := Scalar.cmpi .ne v864 c0_i32_342
  let v866 : BitVec 1 := Scalar.andi v863 v865
  let v852 : BitVec 32 := Scalar.divsi v828 c16_i32_337
  let c1_i32_343 : BitVec 32 := 1#32
  let v867 : BitVec 32 := Scalar.subi v852 c1_i32_343
  let v868 : BitVec 32 := Scalar.select v866 v867 v852
  let c16_i32_366 : BitVec 32 := 16#32
  let v980 : BitVec 32 := Scalar.muli v868 c16_i32_366
  let c0_i32_346 : BitVec 32 := 0#32
  let c1_i32_348 : BitVec 32 := 1#32
  let arg34 : BitVec 32 := Scf.iv c0_i32_346 c1_i32_348 k0_t29
  let v981 : BitVec 32 := Scalar.addi v980 arg34
  let c16_i32_367 : BitVec 32 := 16#32
  let v982 : BitVec 32 := Scalar.muli v981 c16_i32_367
  let v983 : Index := Scalar.indexCast v982
  ![v983.toNat]
def k0_off38 (v686 : BitVec 32) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c0_i32_338 : BitVec 32 := 0#32
  let v853 : BitVec 1 := Scalar.cmpi .sgt v828 c0_i32_338
  let v854 : BitVec 32 := Scalar.extui v853
  let c0_i32_339 : BitVec 32 := 0#32
  let v855 : BitVec 1 := Scalar.cmpi .slt v828 c0_i32_339
  let v856 : BitVec 32 := Scalar.extui v855
  let v857 : BitVec 32 := Scalar.subi v854 v856
  let c16_i32_337 : BitVec 32 := 16#32
  let c0_i32_340 : BitVec 32 := 0#32
  let v858 : BitVec 1 := Scalar.cmpi .sgt c16_i32_337 c0_i32_340
  let v859 : BitVec 32 := Scalar.extui v858
  let c0_i32_341 : BitVec 32 := 0#32
  let v860 : BitVec 1 := Scalar.cmpi .slt c16_i32_337 c0_i32_341
  let v861 : BitVec 32 := Scalar.extui v860
  let v862 : BitVec 32 := Scalar.subi v859 v861
  let v863 : BitVec 1 := Scalar.cmpi .ne v857 v862
  let v864 : BitVec 32 := Scalar.remsi v828 c16_i32_337
  let c0_i32_342 : BitVec 32 := 0#32
  let v865 : BitVec 1 := Scalar.cmpi .ne v864 c0_i32_342
  let v866 : BitVec 1 := Scalar.andi v863 v865
  let v852 : BitVec 32 := Scalar.divsi v828 c16_i32_337
  let c1_i32_343 : BitVec 32 := 1#32
  let v867 : BitVec 32 := Scalar.subi v852 c1_i32_343
  let v868 : BitVec 32 := Scalar.select v866 v867 v852
  let c16_i32_350 : BitVec 32 := 16#32
  let v873 : BitVec 32 := Scalar.muli v868 c16_i32_350
  let v874 : Index := Scalar.indexCast v873
  ![v874.toNat]

def k0_chk10 (i : grid0.Coords) (v595 : BitVec 32) (v686 : BitVec 32) : Prop :=
  (∀ (k0_h1 : k0_cond1 i = 1#1), ∀ (k0_h4 : k0_cond4 v595 = 1#1), ∀ a, (k0_off30 v686) a + S16.size a ≤ S20016.size a) ∧
  (∀ (k0_h1 : k0_cond1 i = 1#1), ∀ (k0_h4 : k0_cond4 v595 = 1#1), ∀ a, (k0_off33 v686) a + S16.size a ≤ S20016.size a) ∧
  (∀ (k0_h1 : k0_cond1 i = 1#1), ∀ (k0_h4 : k0_cond4 v595 = 1#1), (k0_t27_loop v686).OK) ∧
  (∀ k0_t27 : Fin (k0_t27_loop v686).trips, ∀ (k0_h1 : k0_cond1 i = 1#1), ∀ (k0_h4 : k0_cond4 v595 = 1#1), ∀ a, (k0_off34 v686 k0_t27) a + S16.size a ≤ S20016.size a) ∧
  (∀ (k0_h1 : k0_cond1 i = 1#1), ∀ (k0_h4 : k0_cond4 v595 = 1#1), (k0_t28_loop v686).OK) ∧
  (∀ k0_t28 : Fin (k0_t28_loop v686).trips, ∀ (k0_h1 : k0_cond1 i = 1#1), ∀ (k0_h4 : k0_cond4 v595 = 1#1), ∀ a, (k0_off35 v686 k0_t28) a + S16.size a ≤ S20016.size a) ∧
  (∀ (k0_h1 : k0_cond1 i = 1#1), ∀ (k0_h4 : k0_cond4 v595 = 1#1), ∀ a, (k0_off36 v686) a + S16.size a ≤ S1280.size a) ∧
  (∀ k0_t29 : Fin k0_t29_loop.trips, ∀ (k0_h1 : k0_cond1 i = 1#1), ∀ (k0_h4 : k0_cond4 v595 = 1#1), ∀ a, (k0_off37 v686 k0_t29) a + S16.size a ≤ S1280.size a) ∧
  (∀ (k0_h1 : k0_cond1 i = 1#1), ∀ (k0_h4 : k0_cond4 v595 = 1#1), ∀ a, (k0_off38 v686) a + S16.size a ≤ S80.size a)
theorem k0_off30_inb : ∀ (i : grid0.Coords) (v595 : BitVec 32) (v686 : BitVec 32) (k0_hw10 : k0_chk10 i v595 v686), ∀ (k0_h1 : k0_cond1 i = 1#1), ∀ (k0_h4 : k0_cond4 v595 = 1#1), ∀ a, (k0_off30 v686) a + S16.size a ≤ S20016.size a := fun i v595 v686 k0_hw10 k0_h1 k0_h4 => k0_hw10.1 k0_h1 k0_h4
theorem k0_off33_inb : ∀ (i : grid0.Coords) (v595 : BitVec 32) (v686 : BitVec 32) (k0_hw10 : k0_chk10 i v595 v686), ∀ (k0_h1 : k0_cond1 i = 1#1), ∀ (k0_h4 : k0_cond4 v595 = 1#1), ∀ a, (k0_off33 v686) a + S16.size a ≤ S20016.size a := fun i v595 v686 k0_hw10 k0_h1 k0_h4 => k0_hw10.2.1 k0_h1 k0_h4
theorem k0_t27_ok : ∀ (i : grid0.Coords) (v595 : BitVec 32) (v686 : BitVec 32) (k0_hw10 : k0_chk10 i v595 v686), ∀ (k0_h1 : k0_cond1 i = 1#1), ∀ (k0_h4 : k0_cond4 v595 = 1#1), (k0_t27_loop v686).OK := fun i v595 v686 k0_hw10 k0_h1 k0_h4 => k0_hw10.2.2.1 k0_h1 k0_h4
theorem k0_off34_inb : ∀ (i : grid0.Coords) (v595 : BitVec 32) (v686 : BitVec 32) (k0_hw10 : k0_chk10 i v595 v686) (k0_t27 : Fin (k0_t27_loop v686).trips), ∀ (k0_h1 : k0_cond1 i = 1#1), ∀ (k0_h4 : k0_cond4 v595 = 1#1), ∀ a, (k0_off34 v686 k0_t27) a + S16.size a ≤ S20016.size a := fun i v595 v686 k0_hw10 k0_t27 k0_h1 k0_h4 => k0_hw10.2.2.2.1 k0_t27 k0_h1 k0_h4
theorem k0_t28_ok : ∀ (i : grid0.Coords) (v595 : BitVec 32) (v686 : BitVec 32) (k0_hw10 : k0_chk10 i v595 v686), ∀ (k0_h1 : k0_cond1 i = 1#1), ∀ (k0_h4 : k0_cond4 v595 = 1#1), (k0_t28_loop v686).OK := fun i v595 v686 k0_hw10 k0_h1 k0_h4 => k0_hw10.2.2.2.2.1 k0_h1 k0_h4
theorem k0_off35_inb : ∀ (i : grid0.Coords) (v595 : BitVec 32) (v686 : BitVec 32) (k0_hw10 : k0_chk10 i v595 v686) (k0_t28 : Fin (k0_t28_loop v686).trips), ∀ (k0_h1 : k0_cond1 i = 1#1), ∀ (k0_h4 : k0_cond4 v595 = 1#1), ∀ a, (k0_off35 v686 k0_t28) a + S16.size a ≤ S20016.size a := fun i v595 v686 k0_hw10 k0_t28 k0_h1 k0_h4 => k0_hw10.2.2.2.2.2.1 k0_t28 k0_h1 k0_h4
theorem k0_off36_inb : ∀ (i : grid0.Coords) (v595 : BitVec 32) (v686 : BitVec 32) (k0_hw10 : k0_chk10 i v595 v686), ∀ (k0_h1 : k0_cond1 i = 1#1), ∀ (k0_h4 : k0_cond4 v595 = 1#1), ∀ a, (k0_off36 v686) a + S16.size a ≤ S1280.size a := fun i v595 v686 k0_hw10 k0_h1 k0_h4 => k0_hw10.2.2.2.2.2.2.1 k0_h1 k0_h4
theorem k0_off37_inb : ∀ (i : grid0.Coords) (v595 : BitVec 32) (v686 : BitVec 32) (k0_hw10 : k0_chk10 i v595 v686) (k0_t29 : Fin k0_t29_loop.trips), ∀ (k0_h1 : k0_cond1 i = 1#1), ∀ (k0_h4 : k0_cond4 v595 = 1#1), ∀ a, (k0_off37 v686 k0_t29) a + S16.size a ≤ S1280.size a := fun i v595 v686 k0_hw10 k0_t29 k0_h1 k0_h4 => k0_hw10.2.2.2.2.2.2.2.1 k0_t29 k0_h1 k0_h4
theorem k0_off38_inb : ∀ (i : grid0.Coords) (v595 : BitVec 32) (v686 : BitVec 32) (k0_hw10 : k0_chk10 i v595 v686), ∀ (k0_h1 : k0_cond1 i = 1#1), ∀ (k0_h4 : k0_cond4 v595 = 1#1), ∀ a, (k0_off38 v686) a + S16.size a ≤ S80.size a := fun i v595 v686 k0_hw10 k0_h1 k0_h4 => k0_hw10.2.2.2.2.2.2.2.2 k0_h1 k0_h4

def k0_off39 (v884 : BitVec 32) : Fin 1 → Nat :=
  let c0_i32_354 : BitVec 32 := 0#32
  let v886 : BitVec 1 := Scalar.cmpi .sgt v884 c0_i32_354
  let v887 : BitVec 32 := Scalar.extui v886
  let c0_i32_355 : BitVec 32 := 0#32
  let v888 : BitVec 1 := Scalar.cmpi .slt v884 c0_i32_355
  let v889 : BitVec 32 := Scalar.extui v888
  let v890 : BitVec 32 := Scalar.subi v887 v889
  let c16_i32_353 : BitVec 32 := 16#32
  let c0_i32_356 : BitVec 32 := 0#32
  let v891 : BitVec 1 := Scalar.cmpi .sgt c16_i32_353 c0_i32_356
  let v892 : BitVec 32 := Scalar.extui v891
  let c0_i32_357 : BitVec 32 := 0#32
  let v893 : BitVec 1 := Scalar.cmpi .slt c16_i32_353 c0_i32_357
  let v894 : BitVec 32 := Scalar.extui v893
  let v895 : BitVec 32 := Scalar.subi v892 v894
  let v896 : BitVec 1 := Scalar.cmpi .ne v890 v895
  let v897 : BitVec 32 := Scalar.remsi v884 c16_i32_353
  let c0_i32_358 : BitVec 32 := 0#32
  let v898 : BitVec 1 := Scalar.cmpi .ne v897 c0_i32_358
  let v899 : BitVec 1 := Scalar.andi v896 v898
  let v885 : BitVec 32 := Scalar.divsi v884 c16_i32_353
  let c1_i32_359 : BitVec 32 := 1#32
  let v900 : BitVec 32 := Scalar.subi v885 c1_i32_359
  let v901 : BitVec 32 := Scalar.select v899 v900 v885
  let c16_i32_360 : BitVec 32 := 16#32
  let v902 : BitVec 32 := Scalar.muli v901 c16_i32_360
  let v907 : Index := Scalar.indexCast v902
  ![v907.toNat]

def k0_chk12 (i : grid0.Coords) (v595 : BitVec 32) (v884 : BitVec 32) : Prop :=
  (∀ (k0_h1 : k0_cond1 i = 1#1), ∀ (k0_h4 : k0_cond4 v595 = 1#1), ∀ a, (k0_off39 v884) a + S16.size a ≤ S112.size a)
theorem k0_off39_inb : ∀ (i : grid0.Coords) (v595 : BitVec 32) (v884 : BitVec 32) (k0_hw12 : k0_chk12 i v595 v884), ∀ (k0_h1 : k0_cond1 i = 1#1), ∀ (k0_h4 : k0_cond4 v595 = 1#1), ∀ a, (k0_off39 v884) a + S16.size a ≤ S112.size a := fun i v595 v884 k0_hw12 k0_h1 k0_h4 => k0_hw12 k0_h1 k0_h4

@[reducible] def k0_t30_loop (v586 : BitVec 32) : Scf.Loop 32 :=
  let c0_i32_242 : BitVec 32 := 0#32
  let c1_i32_239 : BitVec 32 := 1#32
  let v587 : BitVec 1 := Scalar.cmpi .eq v586 c1_i32_239
  let c0_i32_240 : BitVec 32 := 0#32
  let c64_i32_241 : BitVec 32 := 64#32
  let v588 : BitVec 32 := Scalar.select v587 c0_i32_240 c64_i32_241
  let v589 : BitVec 32 := Scalar.subi v588 c0_i32_242
  let c1_i32_243 : BitVec 32 := 1#32
  let v591 : BitVec 32 := Scalar.divsi v589 c1_i32_243
  let v592 : BitVec 32 := Scalar.muli v591 c1_i32_243
  let v593 : BitVec 32 := Scalar.addi c0_i32_242 v592
  let v590 : BitVec 32 := Scalar.addi c0_i32_242 v589
  let c1_i32_245 : BitVec 32 := 1#32
  ⟨v593, v590, c1_i32_245⟩

def k0_chk9 (i : grid0.Coords) (v586 : BitVec 32) : Prop :=
  (∀ (k0_h1 : k0_cond1 i = 1#1), (k0_t23_loop v586).OK) ∧
  (∀ (k0_h1 : k0_cond1 i = 1#1), (k0_t30_loop v586).OK)
theorem k0_t23_ok : ∀ (i : grid0.Coords) (v586 : BitVec 32) (k0_hw9 : k0_chk9 i v586), ∀ (k0_h1 : k0_cond1 i = 1#1), (k0_t23_loop v586).OK := fun i v586 k0_hw9 k0_h1 => k0_hw9.1 k0_h1
theorem k0_t30_ok : ∀ (i : grid0.Coords) (v586 : BitVec 32) (k0_hw9 : k0_chk9 i v586), ∀ (k0_h1 : k0_cond1 i = 1#1), (k0_t30_loop v586).OK := fun i v586 k0_hw9 k0_h1 => k0_hw9.2 k0_h1

@[reducible] def k0_t31_loop : Scf.Loop 32 :=
  let c0_i32_252 : BitVec 32 := 0#32
  let c5_i32_253 : BitVec 32 := 5#32
  let v603 : BitVec 32 := Scalar.addi c0_i32_252 c5_i32_253
  let c1_i32_254 : BitVec 32 := 1#32
  ⟨c0_i32_252, v603, c1_i32_254⟩
def k0_off40 (k0_t31 : Fin k0_t31_loop.trips) : Fin 1 → Nat :=
  let c0_i32_252 : BitVec 32 := 0#32
  let c1_i32_254 : BitVec 32 := 1#32
  let arg34 : BitVec 32 := Scf.iv c0_i32_252 c1_i32_254 k0_t31
  let c16_i32_366 : BitVec 32 := 16#32
  let v980 : BitVec 32 := Scalar.muli arg34 c16_i32_366
  let v981 : Index := Scalar.indexCast v980
  ![v981.toNat]
def k0_off41 (v686 : BitVec 32) : Fin 1 → Nat :=
  let c20000_i32 : BitVec 32 := 20000#32
  let v687 : BitVec 32 := Scalar.minsi v686 c20000_i32
  let v689 : Index := Scalar.indexCast v687
  ![v689.toNat]
def k0_cond5 (v595 : BitVec 32) : BitVec 1 :=
  let c0_i32_247 : BitVec 32 := 0#32
  let v596 : BitVec 1 := Scalar.cmpi .eq v595 c0_i32_247
  let v597 : BitVec 32 := Scalar.extui v596
  let c0_i32_248 : BitVec 32 := 0#32
  let v598 : BitVec 1 := Scalar.cmpi .ne v597 c0_i32_248
  v598

@[reducible] def k0_t32_loop (v600 : BitVec 32) : Scf.Loop 32 :=
  let c0_i32_292 : BitVec 32 := 0#32
  let c16_i32_282 : BitVec 32 := 16#32
  let v712 : BitVec 32 := Scalar.addi v600 c16_i32_282
  let c1_i32_283 : BitVec 32 := 1#32
  let v713 : BitVec 32 := Scalar.subi v712 c1_i32_283
  let c0_i32_285 : BitVec 32 := 0#32
  let v715 : BitVec 1 := Scalar.cmpi .sgt v713 c0_i32_285
  let v716 : BitVec 32 := Scalar.extui v715
  let c0_i32_286 : BitVec 32 := 0#32
  let v717 : BitVec 1 := Scalar.cmpi .slt v713 c0_i32_286
  let v718 : BitVec 32 := Scalar.extui v717
  let v719 : BitVec 32 := Scalar.subi v716 v718
  let c16_i32_284 : BitVec 32 := 16#32
  let c0_i32_287 : BitVec 32 := 0#32
  let v720 : BitVec 1 := Scalar.cmpi .sgt c16_i32_284 c0_i32_287
  let v721 : BitVec 32 := Scalar.extui v720
  let c0_i32_288 : BitVec 32 := 0#32
  let v722 : BitVec 1 := Scalar.cmpi .slt c16_i32_284 c0_i32_288
  let v723 : BitVec 32 := Scalar.extui v722
  let v724 : BitVec 32 := Scalar.subi v721 v723
  let v725 : BitVec 1 := Scalar.cmpi .ne v719 v724
  let v726 : BitVec 32 := Scalar.remsi v713 c16_i32_284
  let c0_i32_289 : BitVec 32 := 0#32
  let v727 : BitVec 1 := Scalar.cmpi .ne v726 c0_i32_289
  let v728 : BitVec 1 := Scalar.andi v725 v727
  let v714 : BitVec 32 := Scalar.divsi v713 c16_i32_284
  let c1_i32_290 : BitVec 32 := 1#32
  let v729 : BitVec 32 := Scalar.subi v714 c1_i32_290
  let v730 : BitVec 32 := Scalar.select v728 v729 v714
  let v732 : BitVec 32 := Scalar.subi v730 c0_i32_292
  let c1_i32_293 : BitVec 32 := 1#32
  let v734 : BitVec 32 := Scalar.divsi v732 c1_i32_293
  let v735 : BitVec 32 := Scalar.muli v734 c1_i32_293
  let v736 : BitVec 32 := Scalar.addi c0_i32_292 v735
  let c1_i32_294 : BitVec 32 := 1#32
  ⟨c0_i32_292, v736, c1_i32_294⟩

def k0_off42 (v600 : BitVec 32) (k0_t32 : Fin (k0_t32_loop v600).trips) : Fin 1 → Nat :=
  let c0_i32_292 : BitVec 32 := 0#32
  let c1_i32_294 : BitVec 32 := 1#32
  let arg34 : BitVec 32 := Scf.iv c0_i32_292 c1_i32_294 k0_t32
  let c16_i32_366 : BitVec 32 := 16#32
  let v980 : BitVec 32 := Scalar.muli arg34 c16_i32_366
  let v981 : Index := Scalar.indexCast v980
  ![v981.toNat]
@[reducible] def k0_t33_loop (v600 : BitVec 32) : Scf.Loop 32 :=
  let c0_i32_292 : BitVec 32 := 0#32
  let c16_i32_282 : BitVec 32 := 16#32
  let v712 : BitVec 32 := Scalar.addi v600 c16_i32_282
  let c1_i32_283 : BitVec 32 := 1#32
  let v713 : BitVec 32 := Scalar.subi v712 c1_i32_283
  let c0_i32_285 : BitVec 32 := 0#32
  let v715 : BitVec 1 := Scalar.cmpi .sgt v713 c0_i32_285
  let v716 : BitVec 32 := Scalar.extui v715
  let c0_i32_286 : BitVec 32 := 0#32
  let v717 : BitVec 1 := Scalar.cmpi .slt v713 c0_i32_286
  let v718 : BitVec 32 := Scalar.extui v717
  let v719 : BitVec 32 := Scalar.subi v716 v718
  let c16_i32_284 : BitVec 32 := 16#32
  let c0_i32_287 : BitVec 32 := 0#32
  let v720 : BitVec 1 := Scalar.cmpi .sgt c16_i32_284 c0_i32_287
  let v721 : BitVec 32 := Scalar.extui v720
  let c0_i32_288 : BitVec 32 := 0#32
  let v722 : BitVec 1 := Scalar.cmpi .slt c16_i32_284 c0_i32_288
  let v723 : BitVec 32 := Scalar.extui v722
  let v724 : BitVec 32 := Scalar.subi v721 v723
  let v725 : BitVec 1 := Scalar.cmpi .ne v719 v724
  let v726 : BitVec 32 := Scalar.remsi v713 c16_i32_284
  let c0_i32_289 : BitVec 32 := 0#32
  let v727 : BitVec 1 := Scalar.cmpi .ne v726 c0_i32_289
  let v728 : BitVec 1 := Scalar.andi v725 v727
  let v714 : BitVec 32 := Scalar.divsi v713 c16_i32_284
  let c1_i32_290 : BitVec 32 := 1#32
  let v729 : BitVec 32 := Scalar.subi v714 c1_i32_290
  let v730 : BitVec 32 := Scalar.select v728 v729 v714
  let v732 : BitVec 32 := Scalar.subi v730 c0_i32_292
  let c1_i32_293 : BitVec 32 := 1#32
  let v734 : BitVec 32 := Scalar.divsi v732 c1_i32_293
  let v735 : BitVec 32 := Scalar.muli v734 c1_i32_293
  let v736 : BitVec 32 := Scalar.addi c0_i32_292 v735
  let v733 : BitVec 32 := Scalar.addi c0_i32_292 v732
  let c1_i32_295 : BitVec 32 := 1#32
  ⟨v736, v733, c1_i32_295⟩
def k0_off43 (v600 : BitVec 32) (k0_t33 : Fin (k0_t33_loop v600).trips) : Fin 1 → Nat :=
  let c0_i32_292 : BitVec 32 := 0#32
  let c16_i32_282 : BitVec 32 := 16#32
  let v712 : BitVec 32 := Scalar.addi v600 c16_i32_282
  let c1_i32_283 : BitVec 32 := 1#32
  let v713 : BitVec 32 := Scalar.subi v712 c1_i32_283
  let c0_i32_285 : BitVec 32 := 0#32
  let v715 : BitVec 1 := Scalar.cmpi .sgt v713 c0_i32_285
  let v716 : BitVec 32 := Scalar.extui v715
  let c0_i32_286 : BitVec 32 := 0#32
  let v717 : BitVec 1 := Scalar.cmpi .slt v713 c0_i32_286
  let v718 : BitVec 32 := Scalar.extui v717
  let v719 : BitVec 32 := Scalar.subi v716 v718
  let c16_i32_284 : BitVec 32 := 16#32
  let c0_i32_287 : BitVec 32 := 0#32
  let v720 : BitVec 1 := Scalar.cmpi .sgt c16_i32_284 c0_i32_287
  let v721 : BitVec 32 := Scalar.extui v720
  let c0_i32_288 : BitVec 32 := 0#32
  let v722 : BitVec 1 := Scalar.cmpi .slt c16_i32_284 c0_i32_288
  let v723 : BitVec 32 := Scalar.extui v722
  let v724 : BitVec 32 := Scalar.subi v721 v723
  let v725 : BitVec 1 := Scalar.cmpi .ne v719 v724
  let v726 : BitVec 32 := Scalar.remsi v713 c16_i32_284
  let c0_i32_289 : BitVec 32 := 0#32
  let v727 : BitVec 1 := Scalar.cmpi .ne v726 c0_i32_289
  let v728 : BitVec 1 := Scalar.andi v725 v727
  let v714 : BitVec 32 := Scalar.divsi v713 c16_i32_284
  let c1_i32_290 : BitVec 32 := 1#32
  let v729 : BitVec 32 := Scalar.subi v714 c1_i32_290
  let v730 : BitVec 32 := Scalar.select v728 v729 v714
  let v732 : BitVec 32 := Scalar.subi v730 c0_i32_292
  let c1_i32_293 : BitVec 32 := 1#32
  let v734 : BitVec 32 := Scalar.divsi v732 c1_i32_293
  let v735 : BitVec 32 := Scalar.muli v734 c1_i32_293
  let v736 : BitVec 32 := Scalar.addi c0_i32_292 v735
  let c1_i32_295 : BitVec 32 := 1#32
  let arg34 : BitVec 32 := Scf.iv v736 c1_i32_295 k0_t33
  let c16_i32_366 : BitVec 32 := 16#32
  let v980 : BitVec 32 := Scalar.muli arg34 c16_i32_366
  let v981 : Index := Scalar.indexCast v980
  ![v981.toNat]

def k0_chk14 (i : grid0.Coords) (v595 : BitVec 32) (v600 : BitVec 32) : Prop :=
  (∀ (k0_h1 : k0_cond1 i = 1#1), ∀ (k0_h5 : k0_cond5 v595 = 1#1), (k0_t32_loop v600).OK) ∧
  (∀ k0_t32 : Fin (k0_t32_loop v600).trips, ∀ (k0_h1 : k0_cond1 i = 1#1), ∀ (k0_h5 : k0_cond5 v595 = 1#1), ∀ a, (k0_off42 v600 k0_t32) a + S16.size a ≤ S112.size a) ∧
  (∀ (k0_h1 : k0_cond1 i = 1#1), ∀ (k0_h5 : k0_cond5 v595 = 1#1), (k0_t33_loop v600).OK) ∧
  (∀ k0_t33 : Fin (k0_t33_loop v600).trips, ∀ (k0_h1 : k0_cond1 i = 1#1), ∀ (k0_h5 : k0_cond5 v595 = 1#1), ∀ a, (k0_off43 v600 k0_t33) a + S16.size a ≤ S112.size a)
theorem k0_t32_ok : ∀ (i : grid0.Coords) (v595 : BitVec 32) (v600 : BitVec 32) (k0_hw14 : k0_chk14 i v595 v600), ∀ (k0_h1 : k0_cond1 i = 1#1), ∀ (k0_h5 : k0_cond5 v595 = 1#1), (k0_t32_loop v600).OK := fun i v595 v600 k0_hw14 k0_h1 k0_h5 => k0_hw14.1 k0_h1 k0_h5
theorem k0_off42_inb : ∀ (i : grid0.Coords) (v595 : BitVec 32) (v600 : BitVec 32) (k0_hw14 : k0_chk14 i v595 v600) (k0_t32 : Fin (k0_t32_loop v600).trips), ∀ (k0_h1 : k0_cond1 i = 1#1), ∀ (k0_h5 : k0_cond5 v595 = 1#1), ∀ a, (k0_off42 v600 k0_t32) a + S16.size a ≤ S112.size a := fun i v595 v600 k0_hw14 k0_t32 k0_h1 k0_h5 => k0_hw14.2.1 k0_t32 k0_h1 k0_h5
theorem k0_t33_ok : ∀ (i : grid0.Coords) (v595 : BitVec 32) (v600 : BitVec 32) (k0_hw14 : k0_chk14 i v595 v600), ∀ (k0_h1 : k0_cond1 i = 1#1), ∀ (k0_h5 : k0_cond5 v595 = 1#1), (k0_t33_loop v600).OK := fun i v595 v600 k0_hw14 k0_h1 k0_h5 => k0_hw14.2.2.1 k0_h1 k0_h5
theorem k0_off43_inb : ∀ (i : grid0.Coords) (v595 : BitVec 32) (v600 : BitVec 32) (k0_hw14 : k0_chk14 i v595 v600) (k0_t33 : Fin (k0_t33_loop v600).trips), ∀ (k0_h1 : k0_cond1 i = 1#1), ∀ (k0_h5 : k0_cond5 v595 = 1#1), ∀ a, (k0_off43 v600 k0_t33) a + S16.size a ≤ S112.size a := fun i v595 v600 k0_hw14 k0_t33 k0_h1 k0_h5 => k0_hw14.2.2.2 k0_t33 k0_h1 k0_h5

def k0_off44 (v686 : BitVec 32) : Fin 1 → Nat :=
  let c20000_i32 : BitVec 32 := 20000#32
  let v687 : BitVec 32 := Scalar.minsi v686 c20000_i32
  let c0_i32_312 : BitVec 32 := 0#32
  let v782 : BitVec 1 := Scalar.cmpi .sgt v687 c0_i32_312
  let v783 : BitVec 32 := Scalar.extui v782
  let c0_i32_313 : BitVec 32 := 0#32
  let v784 : BitVec 1 := Scalar.cmpi .slt v687 c0_i32_313
  let v785 : BitVec 32 := Scalar.extui v784
  let v786 : BitVec 32 := Scalar.subi v783 v785
  let c16_i32_311 : BitVec 32 := 16#32
  let c0_i32_314 : BitVec 32 := 0#32
  let v787 : BitVec 1 := Scalar.cmpi .sgt c16_i32_311 c0_i32_314
  let v788 : BitVec 32 := Scalar.extui v787
  let c0_i32_315 : BitVec 32 := 0#32
  let v789 : BitVec 1 := Scalar.cmpi .slt c16_i32_311 c0_i32_315
  let v790 : BitVec 32 := Scalar.extui v789
  let v791 : BitVec 32 := Scalar.subi v788 v790
  let v792 : BitVec 1 := Scalar.cmpi .ne v786 v791
  let v793 : BitVec 32 := Scalar.remsi v687 c16_i32_311
  let c0_i32_316 : BitVec 32 := 0#32
  let v794 : BitVec 1 := Scalar.cmpi .ne v793 c0_i32_316
  let v795 : BitVec 1 := Scalar.andi v792 v794
  let v781 : BitVec 32 := Scalar.divsi v687 c16_i32_311
  let c1_i32_317 : BitVec 32 := 1#32
  let v796 : BitVec 32 := Scalar.subi v781 c1_i32_317
  let v797 : BitVec 32 := Scalar.select v795 v796 v781
  let c16_i32_318 : BitVec 32 := 16#32
  let v798 : BitVec 32 := Scalar.muli v797 c16_i32_318
  let v800 : Index := Scalar.indexCast v798
  ![v800.toNat]
@[reducible] def k0_t34_loop (v686 : BitVec 32) : Scf.Loop 32 :=
  let c0_i32_331 : BitVec 32 := 0#32
  let c16_i32_327 : BitVec 32 := 16#32
  let c1251_i32 : BitVec 32 := 1251#32
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_326 : BitVec 32 := 16#32
  let v829 : BitVec 32 := Scalar.muli v828 c16_i32_326
  let v830 : BitVec 32 := Scalar.subi c1251_i32 v829
  let v831 : BitVec 32 := Scalar.minsi c16_i32_327 v830
  let c0_i32_328 : BitVec 32 := 0#32
  let v832 : BitVec 32 := Scalar.maxsi v831 c0_i32_328
  let v835 : BitVec 32 := Scalar.subi v832 c0_i32_331
  let c1_i32_332 : BitVec 32 := 1#32
  let v837 : BitVec 32 := Scalar.divsi v835 c1_i32_332
  let v838 : BitVec 32 := Scalar.muli v837 c1_i32_332
  let v839 : BitVec 32 := Scalar.addi c0_i32_331 v838
  let c1_i32_333 : BitVec 32 := 1#32
  ⟨c0_i32_331, v839, c1_i32_333⟩
def k0_off45 (v686 : BitVec 32) (k0_t34 : Fin (k0_t34_loop v686).trips) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_366 : BitVec 32 := 16#32
  let v980 : BitVec 32 := Scalar.muli v828 c16_i32_366
  let c0_i32_331 : BitVec 32 := 0#32
  let c1_i32_333 : BitVec 32 := 1#32
  let arg34 : BitVec 32 := Scf.iv c0_i32_331 c1_i32_333 k0_t34
  let v981 : BitVec 32 := Scalar.addi v980 arg34
  let c16_i32_367 : BitVec 32 := 16#32
  let v982 : BitVec 32 := Scalar.muli v981 c16_i32_367
  let v983 : Index := Scalar.indexCast v982
  ![v983.toNat]
@[reducible] def k0_t35_loop (v686 : BitVec 32) : Scf.Loop 32 :=
  let c0_i32_331 : BitVec 32 := 0#32
  let c16_i32_327 : BitVec 32 := 16#32
  let c1251_i32 : BitVec 32 := 1251#32
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_326 : BitVec 32 := 16#32
  let v829 : BitVec 32 := Scalar.muli v828 c16_i32_326
  let v830 : BitVec 32 := Scalar.subi c1251_i32 v829
  let v831 : BitVec 32 := Scalar.minsi c16_i32_327 v830
  let c0_i32_328 : BitVec 32 := 0#32
  let v832 : BitVec 32 := Scalar.maxsi v831 c0_i32_328
  let v835 : BitVec 32 := Scalar.subi v832 c0_i32_331
  let c1_i32_332 : BitVec 32 := 1#32
  let v837 : BitVec 32 := Scalar.divsi v835 c1_i32_332
  let v838 : BitVec 32 := Scalar.muli v837 c1_i32_332
  let v839 : BitVec 32 := Scalar.addi c0_i32_331 v838
  let v836 : BitVec 32 := Scalar.addi c0_i32_331 v835
  let c1_i32_334 : BitVec 32 := 1#32
  ⟨v839, v836, c1_i32_334⟩
def k0_off46 (v686 : BitVec 32) (k0_t35 : Fin (k0_t35_loop v686).trips) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_366 : BitVec 32 := 16#32
  let v980 : BitVec 32 := Scalar.muli v828 c16_i32_366
  let c0_i32_331 : BitVec 32 := 0#32
  let c16_i32_327 : BitVec 32 := 16#32
  let c1251_i32 : BitVec 32 := 1251#32
  let c16_i32_326 : BitVec 32 := 16#32
  let v829 : BitVec 32 := Scalar.muli v828 c16_i32_326
  let v830 : BitVec 32 := Scalar.subi c1251_i32 v829
  let v831 : BitVec 32 := Scalar.minsi c16_i32_327 v830
  let c0_i32_328 : BitVec 32 := 0#32
  let v832 : BitVec 32 := Scalar.maxsi v831 c0_i32_328
  let v835 : BitVec 32 := Scalar.subi v832 c0_i32_331
  let c1_i32_332 : BitVec 32 := 1#32
  let v837 : BitVec 32 := Scalar.divsi v835 c1_i32_332
  let v838 : BitVec 32 := Scalar.muli v837 c1_i32_332
  let v839 : BitVec 32 := Scalar.addi c0_i32_331 v838
  let c1_i32_334 : BitVec 32 := 1#32
  let arg34 : BitVec 32 := Scf.iv v839 c1_i32_334 k0_t35
  let v981 : BitVec 32 := Scalar.addi v980 arg34
  let c16_i32_367 : BitVec 32 := 16#32
  let v982 : BitVec 32 := Scalar.muli v981 c16_i32_367
  let v983 : Index := Scalar.indexCast v982
  ![v983.toNat]
def k0_off47 (v686 : BitVec 32) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c16_i32_335 : BitVec 32 := 16#32
  let v842 : BitVec 32 := Scalar.muli v828 c16_i32_335
  let v843 : Index := Scalar.indexCast v842
  ![v843.toNat]
@[reducible] def k0_t36_loop : Scf.Loop 32 :=
  let c0_i32_346 : BitVec 32 := 0#32
  let c16_i32_347 : BitVec 32 := 16#32
  let v871 : BitVec 32 := Scalar.addi c0_i32_346 c16_i32_347
  let c1_i32_348 : BitVec 32 := 1#32
  ⟨c0_i32_346, v871, c1_i32_348⟩
def k0_off48 (v686 : BitVec 32) (k0_t36 : Fin k0_t36_loop.trips) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c0_i32_338 : BitVec 32 := 0#32
  let v853 : BitVec 1 := Scalar.cmpi .sgt v828 c0_i32_338
  let v854 : BitVec 32 := Scalar.extui v853
  let c0_i32_339 : BitVec 32 := 0#32
  let v855 : BitVec 1 := Scalar.cmpi .slt v828 c0_i32_339
  let v856 : BitVec 32 := Scalar.extui v855
  let v857 : BitVec 32 := Scalar.subi v854 v856
  let c16_i32_337 : BitVec 32 := 16#32
  let c0_i32_340 : BitVec 32 := 0#32
  let v858 : BitVec 1 := Scalar.cmpi .sgt c16_i32_337 c0_i32_340
  let v859 : BitVec 32 := Scalar.extui v858
  let c0_i32_341 : BitVec 32 := 0#32
  let v860 : BitVec 1 := Scalar.cmpi .slt c16_i32_337 c0_i32_341
  let v861 : BitVec 32 := Scalar.extui v860
  let v862 : BitVec 32 := Scalar.subi v859 v861
  let v863 : BitVec 1 := Scalar.cmpi .ne v857 v862
  let v864 : BitVec 32 := Scalar.remsi v828 c16_i32_337
  let c0_i32_342 : BitVec 32 := 0#32
  let v865 : BitVec 1 := Scalar.cmpi .ne v864 c0_i32_342
  let v866 : BitVec 1 := Scalar.andi v863 v865
  let v852 : BitVec 32 := Scalar.divsi v828 c16_i32_337
  let c1_i32_343 : BitVec 32 := 1#32
  let v867 : BitVec 32 := Scalar.subi v852 c1_i32_343
  let v868 : BitVec 32 := Scalar.select v866 v867 v852
  let c16_i32_366 : BitVec 32 := 16#32
  let v980 : BitVec 32 := Scalar.muli v868 c16_i32_366
  let c0_i32_346 : BitVec 32 := 0#32
  let c1_i32_348 : BitVec 32 := 1#32
  let arg34 : BitVec 32 := Scf.iv c0_i32_346 c1_i32_348 k0_t36
  let v981 : BitVec 32 := Scalar.addi v980 arg34
  let c16_i32_367 : BitVec 32 := 16#32
  let v982 : BitVec 32 := Scalar.muli v981 c16_i32_367
  let v983 : Index := Scalar.indexCast v982
  ![v983.toNat]
def k0_off49 (v686 : BitVec 32) : Fin 1 → Nat :=
  let c20000_i32 : BitVec 32 := 20000#32
  let v687 : BitVec 32 := Scalar.minsi v686 c20000_i32
  let c0_i32_320 : BitVec 32 := 0#32
  let v813 : BitVec 1 := Scalar.cmpi .sgt v687 c0_i32_320
  let v814 : BitVec 32 := Scalar.extui v813
  let c0_i32_321 : BitVec 32 := 0#32
  let v815 : BitVec 1 := Scalar.cmpi .slt v687 c0_i32_321
  let v816 : BitVec 32 := Scalar.extui v815
  let v817 : BitVec 32 := Scalar.subi v814 v816
  let c256_i32 : BitVec 32 := 256#32
  let c0_i32_322 : BitVec 32 := 0#32
  let v818 : BitVec 1 := Scalar.cmpi .sgt c256_i32 c0_i32_322
  let v819 : BitVec 32 := Scalar.extui v818
  let c0_i32_323 : BitVec 32 := 0#32
  let v820 : BitVec 1 := Scalar.cmpi .slt c256_i32 c0_i32_323
  let v821 : BitVec 32 := Scalar.extui v820
  let v822 : BitVec 32 := Scalar.subi v819 v821
  let v823 : BitVec 1 := Scalar.cmpi .ne v817 v822
  let v824 : BitVec 32 := Scalar.remsi v687 c256_i32
  let c0_i32_324 : BitVec 32 := 0#32
  let v825 : BitVec 1 := Scalar.cmpi .ne v824 c0_i32_324
  let v826 : BitVec 1 := Scalar.andi v823 v825
  let v812 : BitVec 32 := Scalar.divsi v687 c256_i32
  let c1_i32_325 : BitVec 32 := 1#32
  let v827 : BitVec 32 := Scalar.subi v812 c1_i32_325
  let v828 : BitVec 32 := Scalar.select v826 v827 v812
  let c0_i32_338 : BitVec 32 := 0#32
  let v853 : BitVec 1 := Scalar.cmpi .sgt v828 c0_i32_338
  let v854 : BitVec 32 := Scalar.extui v853
  let c0_i32_339 : BitVec 32 := 0#32
  let v855 : BitVec 1 := Scalar.cmpi .slt v828 c0_i32_339
  let v856 : BitVec 32 := Scalar.extui v855
  let v857 : BitVec 32 := Scalar.subi v854 v856
  let c16_i32_337 : BitVec 32 := 16#32
  let c0_i32_340 : BitVec 32 := 0#32
  let v858 : BitVec 1 := Scalar.cmpi .sgt c16_i32_337 c0_i32_340
  let v859 : BitVec 32 := Scalar.extui v858
  let c0_i32_341 : BitVec 32 := 0#32
  let v860 : BitVec 1 := Scalar.cmpi .slt c16_i32_337 c0_i32_341
  let v861 : BitVec 32 := Scalar.extui v860
  let v862 : BitVec 32 := Scalar.subi v859 v861
  let v863 : BitVec 1 := Scalar.cmpi .ne v857 v862
  let v864 : BitVec 32 := Scalar.remsi v828 c16_i32_337
  let c0_i32_342 : BitVec 32 := 0#32
  let v865 : BitVec 1 := Scalar.cmpi .ne v864 c0_i32_342
  let v866 : BitVec 1 := Scalar.andi v863 v865
  let v852 : BitVec 32 := Scalar.divsi v828 c16_i32_337
  let c1_i32_343 : BitVec 32 := 1#32
  let v867 : BitVec 32 := Scalar.subi v852 c1_i32_343
  let v868 : BitVec 32 := Scalar.select v866 v867 v852
  let c16_i32_350 : BitVec 32 := 16#32
  let v873 : BitVec 32 := Scalar.muli v868 c16_i32_350
  let v874 : Index := Scalar.indexCast v873
  ![v874.toNat]

def k0_chk13 (i : grid0.Coords) (v595 : BitVec 32) (v686 : BitVec 32) : Prop :=
  (∀ (k0_h1 : k0_cond1 i = 1#1), ∀ (k0_h5 : k0_cond5 v595 = 1#1), ∀ a, (k0_off41 v686) a + S16.size a ≤ S20016.size a) ∧
  (∀ (k0_h1 : k0_cond1 i = 1#1), ∀ (k0_h5 : k0_cond5 v595 = 1#1), ∀ a, (k0_off44 v686) a + S16.size a ≤ S20016.size a) ∧
  (∀ (k0_h1 : k0_cond1 i = 1#1), ∀ (k0_h5 : k0_cond5 v595 = 1#1), (k0_t34_loop v686).OK) ∧
  (∀ k0_t34 : Fin (k0_t34_loop v686).trips, ∀ (k0_h1 : k0_cond1 i = 1#1), ∀ (k0_h5 : k0_cond5 v595 = 1#1), ∀ a, (k0_off45 v686 k0_t34) a + S16.size a ≤ S20016.size a) ∧
  (∀ (k0_h1 : k0_cond1 i = 1#1), ∀ (k0_h5 : k0_cond5 v595 = 1#1), (k0_t35_loop v686).OK) ∧
  (∀ k0_t35 : Fin (k0_t35_loop v686).trips, ∀ (k0_h1 : k0_cond1 i = 1#1), ∀ (k0_h5 : k0_cond5 v595 = 1#1), ∀ a, (k0_off46 v686 k0_t35) a + S16.size a ≤ S20016.size a) ∧
  (∀ (k0_h1 : k0_cond1 i = 1#1), ∀ (k0_h5 : k0_cond5 v595 = 1#1), ∀ a, (k0_off47 v686) a + S16.size a ≤ S1280.size a) ∧
  (∀ k0_t36 : Fin k0_t36_loop.trips, ∀ (k0_h1 : k0_cond1 i = 1#1), ∀ (k0_h5 : k0_cond5 v595 = 1#1), ∀ a, (k0_off48 v686 k0_t36) a + S16.size a ≤ S1280.size a) ∧
  (∀ (k0_h1 : k0_cond1 i = 1#1), ∀ (k0_h5 : k0_cond5 v595 = 1#1), ∀ a, (k0_off49 v686) a + S16.size a ≤ S80.size a)
theorem k0_off41_inb : ∀ (i : grid0.Coords) (v595 : BitVec 32) (v686 : BitVec 32) (k0_hw13 : k0_chk13 i v595 v686), ∀ (k0_h1 : k0_cond1 i = 1#1), ∀ (k0_h5 : k0_cond5 v595 = 1#1), ∀ a, (k0_off41 v686) a + S16.size a ≤ S20016.size a := fun i v595 v686 k0_hw13 k0_h1 k0_h5 => k0_hw13.1 k0_h1 k0_h5
theorem k0_off44_inb : ∀ (i : grid0.Coords) (v595 : BitVec 32) (v686 : BitVec 32) (k0_hw13 : k0_chk13 i v595 v686), ∀ (k0_h1 : k0_cond1 i = 1#1), ∀ (k0_h5 : k0_cond5 v595 = 1#1), ∀ a, (k0_off44 v686) a + S16.size a ≤ S20016.size a := fun i v595 v686 k0_hw13 k0_h1 k0_h5 => k0_hw13.2.1 k0_h1 k0_h5
theorem k0_t34_ok : ∀ (i : grid0.Coords) (v595 : BitVec 32) (v686 : BitVec 32) (k0_hw13 : k0_chk13 i v595 v686), ∀ (k0_h1 : k0_cond1 i = 1#1), ∀ (k0_h5 : k0_cond5 v595 = 1#1), (k0_t34_loop v686).OK := fun i v595 v686 k0_hw13 k0_h1 k0_h5 => k0_hw13.2.2.1 k0_h1 k0_h5
theorem k0_off45_inb : ∀ (i : grid0.Coords) (v595 : BitVec 32) (v686 : BitVec 32) (k0_hw13 : k0_chk13 i v595 v686) (k0_t34 : Fin (k0_t34_loop v686).trips), ∀ (k0_h1 : k0_cond1 i = 1#1), ∀ (k0_h5 : k0_cond5 v595 = 1#1), ∀ a, (k0_off45 v686 k0_t34) a + S16.size a ≤ S20016.size a := fun i v595 v686 k0_hw13 k0_t34 k0_h1 k0_h5 => k0_hw13.2.2.2.1 k0_t34 k0_h1 k0_h5
theorem k0_t35_ok : ∀ (i : grid0.Coords) (v595 : BitVec 32) (v686 : BitVec 32) (k0_hw13 : k0_chk13 i v595 v686), ∀ (k0_h1 : k0_cond1 i = 1#1), ∀ (k0_h5 : k0_cond5 v595 = 1#1), (k0_t35_loop v686).OK := fun i v595 v686 k0_hw13 k0_h1 k0_h5 => k0_hw13.2.2.2.2.1 k0_h1 k0_h5
theorem k0_off46_inb : ∀ (i : grid0.Coords) (v595 : BitVec 32) (v686 : BitVec 32) (k0_hw13 : k0_chk13 i v595 v686) (k0_t35 : Fin (k0_t35_loop v686).trips), ∀ (k0_h1 : k0_cond1 i = 1#1), ∀ (k0_h5 : k0_cond5 v595 = 1#1), ∀ a, (k0_off46 v686 k0_t35) a + S16.size a ≤ S20016.size a := fun i v595 v686 k0_hw13 k0_t35 k0_h1 k0_h5 => k0_hw13.2.2.2.2.2.1 k0_t35 k0_h1 k0_h5
theorem k0_off47_inb : ∀ (i : grid0.Coords) (v595 : BitVec 32) (v686 : BitVec 32) (k0_hw13 : k0_chk13 i v595 v686), ∀ (k0_h1 : k0_cond1 i = 1#1), ∀ (k0_h5 : k0_cond5 v595 = 1#1), ∀ a, (k0_off47 v686) a + S16.size a ≤ S1280.size a := fun i v595 v686 k0_hw13 k0_h1 k0_h5 => k0_hw13.2.2.2.2.2.2.1 k0_h1 k0_h5
theorem k0_off48_inb : ∀ (i : grid0.Coords) (v595 : BitVec 32) (v686 : BitVec 32) (k0_hw13 : k0_chk13 i v595 v686) (k0_t36 : Fin k0_t36_loop.trips), ∀ (k0_h1 : k0_cond1 i = 1#1), ∀ (k0_h5 : k0_cond5 v595 = 1#1), ∀ a, (k0_off48 v686 k0_t36) a + S16.size a ≤ S1280.size a := fun i v595 v686 k0_hw13 k0_t36 k0_h1 k0_h5 => k0_hw13.2.2.2.2.2.2.2.1 k0_t36 k0_h1 k0_h5
theorem k0_off49_inb : ∀ (i : grid0.Coords) (v595 : BitVec 32) (v686 : BitVec 32) (k0_hw13 : k0_chk13 i v595 v686), ∀ (k0_h1 : k0_cond1 i = 1#1), ∀ (k0_h5 : k0_cond5 v595 = 1#1), ∀ a, (k0_off49 v686) a + S16.size a ≤ S80.size a := fun i v595 v686 k0_hw13 k0_h1 k0_h5 => k0_hw13.2.2.2.2.2.2.2.2 k0_h1 k0_h5

def k0_off50 (v884 : BitVec 32) : Fin 1 → Nat :=
  let c0_i32_354 : BitVec 32 := 0#32
  let v886 : BitVec 1 := Scalar.cmpi .sgt v884 c0_i32_354
  let v887 : BitVec 32 := Scalar.extui v886
  let c0_i32_355 : BitVec 32 := 0#32
  let v888 : BitVec 1 := Scalar.cmpi .slt v884 c0_i32_355
  let v889 : BitVec 32 := Scalar.extui v888
  let v890 : BitVec 32 := Scalar.subi v887 v889
  let c16_i32_353 : BitVec 32 := 16#32
  let c0_i32_356 : BitVec 32 := 0#32
  let v891 : BitVec 1 := Scalar.cmpi .sgt c16_i32_353 c0_i32_356
  let v892 : BitVec 32 := Scalar.extui v891
  let c0_i32_357 : BitVec 32 := 0#32
  let v893 : BitVec 1 := Scalar.cmpi .slt c16_i32_353 c0_i32_357
  let v894 : BitVec 32 := Scalar.extui v893
  let v895 : BitVec 32 := Scalar.subi v892 v894
  let v896 : BitVec 1 := Scalar.cmpi .ne v890 v895
  let v897 : BitVec 32 := Scalar.remsi v884 c16_i32_353
  let c0_i32_358 : BitVec 32 := 0#32
  let v898 : BitVec 1 := Scalar.cmpi .ne v897 c0_i32_358
  let v899 : BitVec 1 := Scalar.andi v896 v898
  let v885 : BitVec 32 := Scalar.divsi v884 c16_i32_353
  let c1_i32_359 : BitVec 32 := 1#32
  let v900 : BitVec 32 := Scalar.subi v885 c1_i32_359
  let v901 : BitVec 32 := Scalar.select v899 v900 v885
  let c16_i32_360 : BitVec 32 := 16#32
  let v902 : BitVec 32 := Scalar.muli v901 c16_i32_360
  let v907 : Index := Scalar.indexCast v902
  ![v907.toNat]

def k0_chk15 (i : grid0.Coords) (v595 : BitVec 32) (v884 : BitVec 32) : Prop :=
  (∀ (k0_h1 : k0_cond1 i = 1#1), ∀ (k0_h5 : k0_cond5 v595 = 1#1), ∀ a, (k0_off50 v884) a + S16.size a ≤ S112.size a)
theorem k0_off50_inb : ∀ (i : grid0.Coords) (v595 : BitVec 32) (v884 : BitVec 32) (k0_hw15 : k0_chk15 i v595 v884), ∀ (k0_h1 : k0_cond1 i = 1#1), ∀ (k0_h5 : k0_cond5 v595 = 1#1), ∀ a, (k0_off50 v884) a + S16.size a ≤ S112.size a := fun i v595 v884 k0_hw15 k0_h1 k0_h5 => k0_hw15 k0_h1 k0_h5

def k0_off51 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_230_r5 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x20000x4 : Shape := ⟨3, ![8, 20000, 4]⟩
abbrev S8x20000 : Shape := ⟨2, ![8, 20000]⟩
abbrev S8x20000x1 : Shape := ⟨3, ![8, 20000, 1]⟩
abbrev S_ : Shape := ⟨0, ![]⟩
abbrev S20000 : Shape := ⟨1, ![20000]⟩
abbrev S1x20000 : Shape := ⟨2, ![1, 20000]⟩
abbrev S100x8 : Shape := ⟨2, ![100, 8]⟩
abbrev S8 : Shape := ⟨1, ![8]⟩
abbrev S8x1 : Shape := ⟨2, ![8, 1]⟩
abbrev S8x1x1 : Shape := ⟨3, ![8, 1, 1]⟩
abbrev S1 : Shape := ⟨1, ![1]⟩
abbrev S1x1x1 : Shape := ⟨3, ![1, 1, 1]⟩
abbrev S8x1x4 : Shape := ⟨3, ![8, 1, 4]⟩
abbrev S1x8 : Shape := ⟨2, ![1, 8]⟩
abbrev S8x100 : Shape := ⟨2, ![8, 100]⟩
abbrev S8x100x1 : Shape := ⟨3, ![8, 100, 1]⟩
abbrev S8x100x4 : Shape := ⟨3, ![8, 100, 4]⟩

abbrev nBuf : Space → Nat
  | .hbm => 265
  | .vmem => 0
  | .smem => 0
  | _ => 0

abbrev hbmTy0_0 (i : Nat) : BufTy := match i % 128 with
  | 0 => ⟨S8x20000x4, .f32⟩
  | 1 => ⟨S8x20000, .f32⟩
  | 2 => ⟨S8x20000x1, .f32⟩
  | 3 => ⟨S8x20000, .f32⟩
  | 4 => ⟨S8x20000x1, .f32⟩
  | 5 => ⟨S8x20000, .f32⟩
  | 6 => ⟨S8x20000, .f32⟩
  | 7 => ⟨S8x20000x1, .f32⟩
  | 8 => ⟨S8x20000, .f32⟩
  | 9 => ⟨S8x20000x1, .f32⟩
  | 10 => ⟨S8x20000, .f32⟩
  | 11 => ⟨S8x20000, .f32⟩
  | 12 => ⟨S8x20000, .f32⟩
  | 13 => ⟨S_, .f32⟩
  | 14 => ⟨S8x20000, .f32⟩
  | 15 => ⟨S8x20000, .f32⟩
  | 16 => ⟨S_, .f32⟩
  | 17 => ⟨S8x20000, .f32⟩
  | 18 => ⟨S8x20000, .i1⟩
  | 19 => ⟨S_, .f32⟩
  | 20 => ⟨S8x20000, .f32⟩
  | 21 => ⟨S8x20000, .f32⟩
  | 22 => ⟨S_, .f32⟩
  | 23 => ⟨S8x20000, .f32⟩
  | 24 => ⟨S8x20000, .i1⟩
  | 25 => ⟨S8x20000, .i1⟩
  | 26 => ⟨S_, .f32⟩
  | 27 => ⟨S8x20000, .f32⟩
  | 28 => ⟨S8x20000, .i1⟩
  | 29 => ⟨S8x20000, .i1⟩
  | 30 => ⟨S_, .f32⟩
  | 31 => ⟨S8x20000, .f32⟩
  | 32 => ⟨S8x20000, .i1⟩
  | 33 => ⟨S8x20000, .i1⟩
  | 34 => ⟨S_, .f32⟩
  | 35 => ⟨S_, .f32⟩
  | 36 => ⟨S8x20000, .f32⟩
  | 37 => ⟨S8x20000, .f32⟩
  | 38 => ⟨S20000, .i32⟩
  | 39 => ⟨S1x20000, .i32⟩
  | 40 => ⟨S_, .i32⟩
  | 41 => ⟨S100x8, .i32⟩
  | 42 => ⟨S_, .f32⟩
  | 43 => ⟨S100x8, .f32⟩
  | 44 => ⟨S_, .i32⟩
  | 45 => ⟨S8x20000x4, .f32⟩
  | 46 => ⟨S1x20000, .i32⟩
  | 47 => ⟨S_, .i32⟩
  | 48 => ⟨S8x20000, .f32⟩
  | 49 => ⟨S100x8, .i32⟩
  | 50 => ⟨S100x8, .f32⟩
  | 51 => ⟨S_, .i32⟩
  | 52 => ⟨S_, .i1⟩
  | 53 => ⟨S8x20000, .i32⟩
  | 54 => ⟨S_, .f32⟩
  | 55 => ⟨S_, .i32⟩
  | 56 => ⟨S8, .f32⟩
  | 57 => ⟨S8, .i32⟩
  | 58 => ⟨S8x1, .i32⟩
  | 59 => ⟨S_, .i32⟩
  | 60 => ⟨S8x1, .i32⟩
  | 61 => ⟨S8x1, .i1⟩
  | 62 => ⟨S_, .i32⟩
  | 63 => ⟨S8x1, .i32⟩
  | 64 => ⟨S8x1, .i32⟩
  | 65 => ⟨S8x1, .i32⟩
  | 66 => ⟨S8x1x1, .i32⟩
  | 67 => ⟨S1, .i32⟩
  | 68 => ⟨S_, .i32⟩
  | 69 => ⟨S8x1x1, .i32⟩
  | 70 => ⟨S8x1x1, .i1⟩
  | 71 => ⟨S1x1x1, .i32⟩
  | 72 => ⟨S8x1x1, .i32⟩
  | 73 => ⟨S8x1x1, .i1⟩
  | 74 => ⟨S8x1x1, .i1⟩
  | 75 => ⟨S_, .i1⟩
  | 76 => ⟨S8x1, .i1⟩
  | 77 => ⟨S8x1, .f32⟩
  | 78 => ⟨S_, .f32⟩
  | 79 => ⟨S8x1, .f32⟩
  | 80 => ⟨S8x1, .f32⟩
  | 81 => ⟨S8x1x1, .i32⟩
  | 82 => ⟨S_, .i32⟩
  | 83 => ⟨S8x1x1, .i32⟩
  | 84 => ⟨S8x1x1, .i1⟩
  | 85 => ⟨S_, .i32⟩
  | 86 => ⟨S8x1x1, .i32⟩
  | 87 => ⟨S8x1x1, .i32⟩
  | 88 => ⟨S8x1x1, .i32⟩
  | 89 => ⟨S1, .i32⟩
  | 90 => ⟨S_, .i32⟩
  | 91 => ⟨S8x1x1, .i32⟩
  | 92 => ⟨S8x1x1, .i1⟩
  | 93 => ⟨S1x1x1, .i32⟩
  | 94 => ⟨S8x1x1, .i32⟩
  | 95 => ⟨S8x1x1, .i1⟩
  | 96 => ⟨S8x1x1, .i1⟩
  | 97 => ⟨S_, .i1⟩
  | 98 => ⟨S8x1, .i1⟩
  | 99 => ⟨S8x1x4, .f32⟩
  | 100 => ⟨S8x1x4, .i1⟩
  | 101 => ⟨S_, .f32⟩
  | 102 => ⟨S8x1x4, .f32⟩
  | 103 => ⟨S8x1x4, .f32⟩
  | 104 => ⟨S8x1x1, .f32⟩
  | 105 => ⟨S8x1, .f32⟩
  | 106 => ⟨S8x20000x1, .f32⟩
  | 107 => ⟨S8x20000, .f32⟩
  | 108 => ⟨S8x20000, .f32⟩
  | 109 => ⟨S8x20000, .f32⟩
  | 110 => ⟨S8x1x1, .f32⟩
  | 111 => ⟨S8x1, .f32⟩
  | 112 => ⟨S8x20000x1, .f32⟩
  | 113 => ⟨S8x20000, .f32⟩
  | 114 => ⟨S8x20000, .f32⟩
  | 115 => ⟨S8x20000, .f32⟩
  | 116 => ⟨S8x1x1, .f32⟩
  | 117 => ⟨S8x1, .f32⟩
  | 118 => ⟨S8x20000x1, .f32⟩
  | 119 => ⟨S8x20000, .f32⟩
  | 120 => ⟨S8x20000, .f32⟩
  | 121 => ⟨S8x20000, .f32⟩
  | 122 => ⟨S8x1x1, .f32⟩
  | 123 => ⟨S8x1, .f32⟩
  | 124 => ⟨S8x20000x1, .f32⟩
  | 125 => ⟨S8x20000, .f32⟩
  | 126 => ⟨S8x20000, .f32⟩
  | 127 => ⟨S8x20000, .f32⟩
  | _ => ⟨S8x20000x4, .f32⟩

abbrev hbmTy0_1 (i : Nat) : BufTy := match i % 128 with
  | 0 => ⟨S8x20000, .f32⟩
  | 1 => ⟨S_, .f32⟩
  | 2 => ⟨S8x20000, .f32⟩
  | 3 => ⟨S8x20000, .f32⟩
  | 4 => ⟨S8x20000, .f32⟩
  | 5 => ⟨S_, .f32⟩
  | 6 => ⟨S8x20000, .f32⟩
  | 7 => ⟨S8x20000, .f32⟩
  | 8 => ⟨S8x20000, .f32⟩
  | 9 => ⟨S8x1x1, .f32⟩
  | 10 => ⟨S8x1, .f32⟩
  | 11 => ⟨S8x1x1, .f32⟩
  | 12 => ⟨S8x1, .f32⟩
  | 13 => ⟨S8x1, .f32⟩
  | 14 => ⟨S8x1x1, .f32⟩
  | 15 => ⟨S8x1, .f32⟩
  | 16 => ⟨S8x1x1, .f32⟩
  | 17 => ⟨S8x1, .f32⟩
  | 18 => ⟨S8x1, .f32⟩
  | 19 => ⟨S8x1, .f32⟩
  | 20 => ⟨S8x20000x1, .f32⟩
  | 21 => ⟨S8x20000, .f32⟩
  | 22 => ⟨S8x20000x1, .f32⟩
  | 23 => ⟨S8x20000, .f32⟩
  | 24 => ⟨S8x20000, .f32⟩
  | 25 => ⟨S8x20000x1, .f32⟩
  | 26 => ⟨S8x20000, .f32⟩
  | 27 => ⟨S8x20000x1, .f32⟩
  | 28 => ⟨S8x20000, .f32⟩
  | 29 => ⟨S8x20000, .f32⟩
  | 30 => ⟨S8x20000, .f32⟩
  | 31 => ⟨S8x20000, .f32⟩
  | 32 => ⟨S8x20000, .f32⟩
  | 33 => ⟨S8x20000, .f32⟩
  | 34 => ⟨S_, .f32⟩
  | 35 => ⟨S8x20000, .f32⟩
  | 36 => ⟨S8x20000, .f32⟩
  | 37 => ⟨S8x20000, .f32⟩
  | 38 => ⟨S_, .f32⟩
  | 39 => ⟨S8x20000, .f32⟩
  | 40 => ⟨S8x20000, .i1⟩
  | 41 => ⟨S8x20000, .i32⟩
  | 42 => ⟨S8x20000, .i32⟩
  | 43 => ⟨S8x20000, .i1⟩
  | 44 => ⟨S8x20000, .i1⟩
  | 45 => ⟨S_, .f32⟩
  | 46 => ⟨S_, .f32⟩
  | 47 => ⟨S8x20000, .f32⟩
  | 48 => ⟨S8x20000, .f32⟩
  | 49 => ⟨S8, .i32⟩
  | 50 => ⟨S8, .f32⟩
  | 51 => ⟨S1x8, .i32⟩
  | 52 => ⟨S_, .i32⟩
  | 53 => ⟨S100x8, .i32⟩
  | 54 => ⟨S1x8, .f32⟩
  | 55 => ⟨S_, .i32⟩
  | 56 => ⟨S100x8, .f32⟩
  | 57 => ⟨S_, .i32⟩
  | 58 => ⟨S_, .i32⟩
  | 59 => ⟨S8x100, .i32⟩
  | 60 => ⟨S8x100, .f32⟩
  | 61 => ⟨S_, .f32⟩
  | 62 => ⟨S8x100, .f32⟩
  | 63 => ⟨S8x100, .i1⟩
  | 64 => ⟨S8x100x1, .i1⟩
  | 65 => ⟨S8x100x1, .i32⟩
  | 66 => ⟨S_, .i32⟩
  | 67 => ⟨S8x100x1, .i32⟩
  | 68 => ⟨S8x100x1, .i1⟩
  | 69 => ⟨S_, .i32⟩
  | 70 => ⟨S8x100x1, .i32⟩
  | 71 => ⟨S8x100x1, .i32⟩
  | 72 => ⟨S8x100x1, .i32⟩
  | 73 => ⟨S1, .i32⟩
  | 74 => ⟨S_, .i32⟩
  | 75 => ⟨S8x100x1, .i32⟩
  | 76 => ⟨S8x100x1, .i1⟩
  | 77 => ⟨S1x1x1, .i32⟩
  | 78 => ⟨S8x100x1, .i32⟩
  | 79 => ⟨S8x100x1, .i1⟩
  | 80 => ⟨S8x100x1, .i1⟩
  | 81 => ⟨S_, .i1⟩
  | 82 => ⟨S8x100, .i1⟩
  | 83 => ⟨S8x100x4, .f32⟩
  | 84 => ⟨S8x100x4, .i1⟩
  | 85 => ⟨S_, .f32⟩
  | 86 => ⟨S8x100x4, .f32⟩
  | 87 => ⟨S8x100x4, .f32⟩
  | 88 => ⟨S_, .f32⟩
  | 89 => ⟨S_, .f32⟩
  | 90 => ⟨S_, .f32⟩
  | 91 => ⟨S8x100x4, .f32⟩
  | 92 => ⟨S8x100x4, .f32⟩
  | 93 => ⟨S_, .f32⟩
  | 94 => ⟨S8x100x4, .f32⟩
  | 95 => ⟨S8x100x4, .f32⟩
  | 96 => ⟨S_, .f32⟩
  | 97 => ⟨S_, .f32⟩
  | 98 => ⟨S8x100x4, .i1⟩
  | 99 => ⟨S8x100x4, .f32⟩
  | 100 => ⟨S8x100x4, .f32⟩
  | 101 => ⟨S_, .i32⟩
  | 102 => ⟨S8x100, .i32⟩
  | 103 => ⟨S8x100, .i1⟩
  | 104 => ⟨S_, .i32⟩
  | 105 => ⟨S8x100, .i32⟩
  | 106 => ⟨S8x100, .i32⟩
  | 107 => ⟨S8x100, .i32⟩
  | 108 => ⟨S8x100x1, .i32⟩
  | 109 => ⟨S1, .i32⟩
  | 110 => ⟨S_, .i32⟩
  | 111 => ⟨S8x100x1, .i32⟩
  | 112 => ⟨S8x100x1, .i1⟩
  | 113 => ⟨S1x1x1, .i32⟩
  | 114 => ⟨S8x100x1, .i32⟩
  | 115 => ⟨S8x100x1, .i1⟩
  | 116 => ⟨S8x100x1, .i1⟩
  | 117 => ⟨S_, .i1⟩
  | 118 => ⟨S8x100, .i1⟩
  | 119 => ⟨S8x100, .f32⟩
  | 120 => ⟨S_, .f32⟩
  | 121 => ⟨S8x100, .f32⟩
  | 122 => ⟨S8x100, .f32⟩
  | 123 => ⟨S_, .f32⟩
  | 124 => ⟨S_, .f32⟩
  | 125 => ⟨S8x100, .f32⟩
  | 126 => ⟨S8x100, .f32⟩
  | 127 => ⟨S_, .f32⟩
  | _ => ⟨S8x20000x4, .f32⟩

abbrev hbmTy0_2 (i : Nat) : BufTy := match i % 128 with
  | 0 => ⟨S8, .f32⟩
  | 1 => ⟨S_, .f32⟩
  | 2 => ⟨S8, .f32⟩
  | 3 => ⟨S8, .f32⟩
  | 4 => ⟨S_, .f32⟩
  | 5 => ⟨S8, .f32⟩
  | 6 => ⟨S8, .f32⟩
  | 7 => ⟨S_, .f32⟩
  | 8 => ⟨S_, .f32⟩
  | _ => ⟨S8x20000x4, .f32⟩

abbrev hbmTy (i : Nat) : BufTy := match i / 128 with
  | 0 => hbmTy0_0 i
  | 1 => hbmTy0_1 i
  | 2 => hbmTy0_2 i
  | _ => ⟨S8x20000x4, .f32⟩

abbrev bufTy : (tb : Table) → Fin (tcTables nBuf tb) → BufTy
  | .hbm, ⟨i, _⟩ => hbmTy i
  | _, _ => ⟨S8x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_c_7 : Ref sig .tc := ⟨.hbm, 44, rfl⟩
abbrev main_v31_0 : Ref sig .tc := ⟨.hbm, 45, rfl⟩
abbrev main_v31_1 : Ref sig .tc := ⟨.hbm, 46, rfl⟩
abbrev main_v31_2 : Ref sig .tc := ⟨.hbm, 47, rfl⟩
abbrev main_v31_3 : Ref sig .tc := ⟨.hbm, 48, rfl⟩
abbrev main_v31_4 : Ref sig .tc := ⟨.hbm, 49, rfl⟩
abbrev main_v31_5 : Ref sig .tc := ⟨.hbm, 50, rfl⟩
abbrev main_while0c_c_22 : Ref sig .tc := ⟨.hbm, 51, rfl⟩
abbrev main_while0c_v49 : Ref sig .tc := ⟨.hbm, 52, rfl⟩
abbrev main_while0b_call1_v0 : Ref sig .tc := ⟨.hbm, 53, rfl⟩
abbrev main_while0b_call1_cst : Ref sig .tc := ⟨.hbm, 54, rfl⟩
abbrev main_while0b_call1_c : Ref sig .tc := ⟨.hbm, 55, rfl⟩
abbrev main_while0b_call1_v1_0 : Ref sig .tc := ⟨.hbm, 56, rfl⟩
abbrev main_while0b_v49 : Ref sig .tc := ⟨.hbm, 57, rfl⟩
abbrev main_while0b_v50 : Ref sig .tc := ⟨.hbm, 58, rfl⟩
abbrev main_while0b_call2_c : Ref sig .tc := ⟨.hbm, 59, rfl⟩
abbrev main_while0b_call2_v0 : Ref sig .tc := ⟨.hbm, 60, rfl⟩
abbrev main_while0b_call2_v1 : Ref sig .tc := ⟨.hbm, 61, rfl⟩
abbrev main_while0b_call2_c_0 : Ref sig .tc := ⟨.hbm, 62, rfl⟩
abbrev main_while0b_call2_v2 : Ref sig .tc := ⟨.hbm, 63, rfl⟩
abbrev main_while0b_call2_v3 : Ref sig .tc := ⟨.hbm, 64, rfl⟩
abbrev main_while0b_call2_v4 : Ref sig .tc := ⟨.hbm, 65, rfl⟩
abbrev main_while0b_call2_v5 : Ref sig .tc := ⟨.hbm, 66, rfl⟩
abbrev main_while0b_call2_c_1 : Ref sig .tc := ⟨.hbm, 67, rfl⟩
abbrev main_while0b_call2_c_2 : Ref sig .tc := ⟨.hbm, 68, rfl⟩
abbrev main_while0b_call2_v6 : Ref sig .tc := ⟨.hbm, 69, rfl⟩
abbrev main_while0b_call2_v7 : Ref sig .tc := ⟨.hbm, 70, rfl⟩
abbrev main_while0b_call2_v8 : Ref sig .tc := ⟨.hbm, 71, rfl⟩
abbrev main_while0b_call2_v9 : Ref sig .tc := ⟨.hbm, 72, rfl⟩
abbrev main_while0b_call2_v10 : Ref sig .tc := ⟨.hbm, 73, rfl⟩
abbrev main_while0b_call2_v11 : Ref sig .tc := ⟨.hbm, 74, rfl⟩
abbrev main_while0b_call2_c_3 : Ref sig .tc := ⟨.hbm, 75, rfl⟩
abbrev main_while0b_call2_v12 : Ref sig .tc := ⟨.hbm, 76, rfl⟩
abbrev main_while0b_call2_v13 : Ref sig .tc := ⟨.hbm, 77, rfl⟩
abbrev main_while0b_call2_cst : Ref sig .tc := ⟨.hbm, 78, rfl⟩
abbrev main_while0b_call2_v14 : Ref sig .tc := ⟨.hbm, 79, rfl⟩
abbrev main_while0b_v51 : Ref sig .tc := ⟨.hbm, 80, rfl⟩
abbrev main_while0b_v52 : Ref sig .tc := ⟨.hbm, 81, rfl⟩
abbrev main_while0b_call3_c : Ref sig .tc := ⟨.hbm, 82, rfl⟩
abbrev main_while0b_call3_v0 : Ref sig .tc := ⟨.hbm, 83, rfl⟩
abbrev main_while0b_call3_v1 : Ref sig .tc := ⟨.hbm, 84, rfl⟩
abbrev main_while0b_call3_c_0 : Ref sig .tc := ⟨.hbm, 85, rfl⟩
abbrev main_while0b_call3_v2 : Ref sig .tc := ⟨.hbm, 86, rfl⟩
abbrev main_while0b_call3_v3 : Ref sig .tc := ⟨.hbm, 87, rfl⟩
abbrev main_while0b_call3_v4 : Ref sig .tc := ⟨.hbm, 88, rfl⟩
abbrev main_while0b_call3_c_1 : Ref sig .tc := ⟨.hbm, 89, rfl⟩
abbrev main_while0b_call3_c_2 : Ref sig .tc := ⟨.hbm, 90, rfl⟩
abbrev main_while0b_call3_v5 : Ref sig .tc := ⟨.hbm, 91, rfl⟩
abbrev main_while0b_call3_v6 : Ref sig .tc := ⟨.hbm, 92, rfl⟩
abbrev main_while0b_call3_v7 : Ref sig .tc := ⟨.hbm, 93, rfl⟩
abbrev main_while0b_call3_v8 : Ref sig .tc := ⟨.hbm, 94, rfl⟩
abbrev main_while0b_call3_v9 : Ref sig .tc := ⟨.hbm, 95, rfl⟩
abbrev main_while0b_call3_v10 : Ref sig .tc := ⟨.hbm, 96, rfl⟩
abbrev main_while0b_call3_c_3 : Ref sig .tc := ⟨.hbm, 97, rfl⟩
abbrev main_while0b_call3_v11 : Ref sig .tc := ⟨.hbm, 98, rfl⟩
abbrev main_while0b_call3_v12 : Ref sig .tc := ⟨.hbm, 99, rfl⟩
abbrev main_while0b_call3_v13 : Ref sig .tc := ⟨.hbm, 100, rfl⟩
abbrev main_while0b_call3_cst : Ref sig .tc := ⟨.hbm, 101, rfl⟩
abbrev main_while0b_call3_v14 : Ref sig .tc := ⟨.hbm, 102, rfl⟩
abbrev main_while0b_v53 : Ref sig .tc := ⟨.hbm, 103, rfl⟩
abbrev main_while0b_v54 : Ref sig .tc := ⟨.hbm, 104, rfl⟩
abbrev main_while0b_v55 : Ref sig .tc := ⟨.hbm, 105, rfl⟩
abbrev main_while0b_v56 : Ref sig .tc := ⟨.hbm, 106, rfl⟩
abbrev main_while0b_v57 : Ref sig .tc := ⟨.hbm, 107, rfl⟩
abbrev main_while0b_v58 : Ref sig .tc := ⟨.hbm, 108, rfl⟩
abbrev main_while0b_v59 : Ref sig .tc := ⟨.hbm, 109, rfl⟩
abbrev main_while0b_v60 : Ref sig .tc := ⟨.hbm, 110, rfl⟩
abbrev main_while0b_v61 : Ref sig .tc := ⟨.hbm, 111, rfl⟩
abbrev main_while0b_v62 : Ref sig .tc := ⟨.hbm, 112, rfl⟩
abbrev main_while0b_v63 : Ref sig .tc := ⟨.hbm, 113, rfl⟩
abbrev main_while0b_v64 : Ref sig .tc := ⟨.hbm, 114, rfl⟩
abbrev main_while0b_v65 : Ref sig .tc := ⟨.hbm, 115, rfl⟩
abbrev main_while0b_v66 : Ref sig .tc := ⟨.hbm, 116, rfl⟩
abbrev main_while0b_v67 : Ref sig .tc := ⟨.hbm, 117, rfl⟩
abbrev main_while0b_v68 : Ref sig .tc := ⟨.hbm, 118, rfl⟩
abbrev main_while0b_v69 : Ref sig .tc := ⟨.hbm, 119, rfl⟩
abbrev main_while0b_v70 : Ref sig .tc := ⟨.hbm, 120, rfl⟩
abbrev main_while0b_v71 : Ref sig .tc := ⟨.hbm, 121, rfl⟩
abbrev main_while0b_v72 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_v77 : Ref sig .tc := ⟨.hbm, 127, rfl⟩
abbrev main_while0b_v78 : Ref sig .tc := ⟨.hbm, 128, rfl⟩
abbrev main_while0b_cst_22 : Ref sig .tc := ⟨.hbm, 129, rfl⟩
abbrev main_while0b_v79 : Ref sig .tc := ⟨.hbm, 130, rfl⟩
abbrev main_while0b_v80 : Ref sig .tc := ⟨.hbm, 131, rfl⟩
abbrev main_while0b_v81 : Ref sig .tc := ⟨.hbm, 132, rfl⟩
abbrev main_while0b_cst_23 : Ref sig .tc := ⟨.hbm, 133, rfl⟩
abbrev main_while0b_v82 : Ref sig .tc := ⟨.hbm, 134, rfl⟩
abbrev main_while0b_v83 : Ref sig .tc := ⟨.hbm, 135, rfl⟩
abbrev main_while0b_v84 : Ref sig .tc := ⟨.hbm, 136, rfl⟩
abbrev main_while0b_v85 : Ref sig .tc := ⟨.hbm, 137, rfl⟩
abbrev main_while0b_v86 : Ref sig .tc := ⟨.hbm, 138, rfl⟩
abbrev main_while0b_v87 : Ref sig .tc := ⟨.hbm, 139, rfl⟩
abbrev main_while0b_v88 : Ref sig .tc := ⟨.hbm, 140, rfl⟩
abbrev main_while0b_v89 : Ref sig .tc := ⟨.hbm, 141, rfl⟩
abbrev main_while0b_v90 : Ref sig .tc := ⟨.hbm, 142, rfl⟩
abbrev main_while0b_v91 : Ref sig .tc := ⟨.hbm, 143, rfl⟩
abbrev main_while0b_v92 : Ref sig .tc := ⟨.hbm, 144, rfl⟩
abbrev main_while0b_v93 : Ref sig .tc := ⟨.hbm, 145, rfl⟩
abbrev main_while0b_v94 : Ref sig .tc := ⟨.hbm, 146, rfl⟩
abbrev main_while0b_v95 : Ref sig .tc := ⟨.hbm, 147, rfl⟩
abbrev main_while0b_v96 : Ref sig .tc := ⟨.hbm, 148, rfl⟩
abbrev main_while0b_v97 : Ref sig .tc := ⟨.hbm, 149, rfl⟩
abbrev main_while0b_v98 : Ref sig .tc := ⟨.hbm, 150, rfl⟩
abbrev main_while0b_v99 : Ref sig .tc := ⟨.hbm, 151, rfl⟩
abbrev main_while0b_v100 : Ref sig .tc := ⟨.hbm, 152, rfl⟩
abbrev main_while0b_v101 : Ref sig .tc := ⟨.hbm, 153, rfl⟩
abbrev main_while0b_v102 : Ref sig .tc := ⟨.hbm, 154, rfl⟩
abbrev main_while0b_v103 : Ref sig .tc := ⟨.hbm, 155, rfl⟩
abbrev main_while0b_v104 : Ref sig .tc := ⟨.hbm, 156, rfl⟩
abbrev main_while0b_v105 : Ref sig .tc := ⟨.hbm, 157, rfl⟩
abbrev main_while0b_v106 : Ref sig .tc := ⟨.hbm, 158, rfl⟩
abbrev main_while0b_v107 : Ref sig .tc := ⟨.hbm, 159, rfl⟩
abbrev main_while0b_v108 : Ref sig .tc := ⟨.hbm, 160, rfl⟩
abbrev main_while0b_v109 : Ref sig .tc := ⟨.hbm, 161, rfl⟩
abbrev main_while0b_cst_24 : Ref sig .tc := ⟨.hbm, 162, rfl⟩
abbrev main_while0b_v110 : Ref sig .tc := ⟨.hbm, 163, rfl⟩
abbrev main_while0b_v111 : Ref sig .tc := ⟨.hbm, 164, rfl⟩
abbrev main_while0b_v112 : Ref sig .tc := ⟨.hbm, 165, rfl⟩
abbrev main_while0b_cst_25 : Ref sig .tc := ⟨.hbm, 166, rfl⟩
abbrev main_while0b_v113 : Ref sig .tc := ⟨.hbm, 167, rfl⟩
abbrev main_while0b_v114 : Ref sig .tc := ⟨.hbm, 168, rfl⟩
abbrev main_while0b_v115 : Ref sig .tc := ⟨.hbm, 169, rfl⟩
abbrev main_while0b_v116 : Ref sig .tc := ⟨.hbm, 170, rfl⟩
abbrev main_while0b_v117 : Ref sig .tc := ⟨.hbm, 171, rfl⟩
abbrev main_while0b_v118 : Ref sig .tc := ⟨.hbm, 172, rfl⟩
abbrev main_while0b_cst_26 : Ref sig .tc := ⟨.hbm, 173, rfl⟩
abbrev main_while0b_call4_v0 : Ref sig .tc := ⟨.hbm, 174, rfl⟩
abbrev main_while0b_call4_v1 : Ref sig .tc := ⟨.hbm, 175, rfl⟩
abbrev main_while0b_v119 : Ref sig .tc := ⟨.hbm, 176, rfl⟩
abbrev main_while0b_v120 : Ref sig .tc := ⟨.hbm, 177, rfl⟩
abbrev main_while0b_v121 : Ref sig .tc := ⟨.hbm, 178, rfl⟩
abbrev main_while0b_call5_v0 : Ref sig .tc := ⟨.hbm, 179, rfl⟩
abbrev main_while0b_call5_c : Ref sig .tc := ⟨.hbm, 180, rfl⟩
abbrev main_while0b_v122 : Ref sig .tc := ⟨.hbm, 181, rfl⟩
abbrev main_while0b_call6_v0 : Ref sig .tc := ⟨.hbm, 182, rfl⟩
abbrev main_while0b_call6_c : Ref sig .tc := ⟨.hbm, 183, rfl⟩
abbrev main_while0b_v123 : Ref sig .tc := ⟨.hbm, 184, rfl⟩
abbrev main_while0b_c_27 : Ref sig .tc := ⟨.hbm, 185, rfl⟩
abbrev main_while0b_v124 : Ref sig .tc := ⟨.hbm, 186, rfl⟩
abbrev main_v32 : Ref sig .tc := ⟨.hbm, 187, rfl⟩
abbrev main_v33 : Ref sig .tc := ⟨.hbm, 188, rfl⟩
abbrev main_cst_8 : Ref sig .tc := ⟨.hbm, 189, rfl⟩
abbrev main_v34 : Ref sig .tc := ⟨.hbm, 190, rfl⟩
abbrev main_v35 : Ref sig .tc := ⟨.hbm, 191, rfl⟩
abbrev main_v36 : Ref sig .tc := ⟨.hbm, 192, rfl⟩
abbrev main_v37 : Ref sig .tc := ⟨.hbm, 193, rfl⟩
abbrev main_call7_c : Ref sig .tc := ⟨.hbm, 194, rfl⟩
abbrev main_call7_v0 : Ref sig .tc := ⟨.hbm, 195, rfl⟩
abbrev main_call7_v1 : Ref sig .tc := ⟨.hbm, 196, rfl⟩
abbrev main_call7_c_0 : Ref sig .tc := ⟨.hbm, 197, rfl⟩
abbrev main_call7_v2 : Ref sig .tc := ⟨.hbm, 198, rfl⟩
abbrev main_call7_v3 : Ref sig .tc := ⟨.hbm, 199, rfl⟩
abbrev main_call7_v4 : Ref sig .tc := ⟨.hbm, 200, rfl⟩
abbrev main_call7_c_1 : Ref sig .tc := ⟨.hbm, 201, rfl⟩
abbrev main_call7_c_2 : Ref sig .tc := ⟨.hbm, 202, rfl⟩
abbrev main_call7_v5 : Ref sig .tc := ⟨.hbm, 203, rfl⟩
abbrev main_call7_v6 : Ref sig .tc := ⟨.hbm, 204, rfl⟩
abbrev main_call7_v7 : Ref sig .tc := ⟨.hbm, 205, rfl⟩
abbrev main_call7_v8 : Ref sig .tc := ⟨.hbm, 206, rfl⟩
abbrev main_call7_v9 : Ref sig .tc := ⟨.hbm, 207, rfl⟩
abbrev main_call7_v10 : Ref sig .tc := ⟨.hbm, 208, rfl⟩
abbrev main_call7_c_3 : Ref sig .tc := ⟨.hbm, 209, rfl⟩
abbrev main_call7_v11 : Ref sig .tc := ⟨.hbm, 210, rfl⟩
abbrev main_call7_v12 : Ref sig .tc := ⟨.hbm, 211, rfl⟩
abbrev main_call7_v13 : Ref sig .tc := ⟨.hbm, 212, rfl⟩
abbrev main_call7_cst : Ref sig .tc := ⟨.hbm, 213, rfl⟩
abbrev main_call7_v14 : Ref sig .tc := ⟨.hbm, 214, rfl⟩
abbrev main_v38 : Ref sig .tc := ⟨.hbm, 215, rfl⟩
abbrev main_cst_9 : Ref sig .tc := ⟨.hbm, 216, rfl⟩
abbrev main_cst_10 : Ref sig .tc := ⟨.hbm, 217, rfl⟩
abbrev main_call8_v0 : Ref sig .tc := ⟨.hbm, 218, rfl⟩
abbrev main_call8_v1 : Ref sig .tc := ⟨.hbm, 219, rfl⟩
abbrev main_call8_v2 : Ref sig .tc := ⟨.hbm, 220, rfl⟩
abbrev main_call8_v3 : Ref sig .tc := ⟨.hbm, 221, rfl⟩
abbrev main_call8_v4 : Ref sig .tc := ⟨.hbm, 222, rfl⟩
abbrev main_v39 : Ref sig .tc := ⟨.hbm, 223, rfl⟩
abbrev main_cst_11 : Ref sig .tc := ⟨.hbm, 224, rfl⟩
abbrev main_call9_v0 : Ref sig .tc := ⟨.hbm, 225, rfl⟩
abbrev main_call9_v1 : Ref sig .tc := ⟨.hbm, 226, rfl⟩
abbrev main_call9_v2 : Ref sig .tc := ⟨.hbm, 227, rfl⟩
abbrev main_v40 : Ref sig .tc := ⟨.hbm, 228, rfl⟩
abbrev main_call10_c : Ref sig .tc := ⟨.hbm, 229, rfl⟩
abbrev main_call10_v0 : Ref sig .tc := ⟨.hbm, 230, rfl⟩
abbrev main_call10_v1 : Ref sig .tc := ⟨.hbm, 231, rfl⟩
abbrev main_call10_c_0 : Ref sig .tc := ⟨.hbm, 232, rfl⟩
abbrev main_call10_v2 : Ref sig .tc := ⟨.hbm, 233, rfl⟩
abbrev main_call10_v3 : Ref sig .tc := ⟨.hbm, 234, rfl⟩
abbrev main_call10_v4 : Ref sig .tc := ⟨.hbm, 235, rfl⟩
abbrev main_call10_v5 : Ref sig .tc := ⟨.hbm, 236, rfl⟩
abbrev main_call10_c_1 : Ref sig .tc := ⟨.hbm, 237, rfl⟩
abbrev main_call10_c_2 : Ref sig .tc := ⟨.hbm, 238, rfl⟩
abbrev main_call10_v6 : Ref sig .tc := ⟨.hbm, 239, rfl⟩
abbrev main_call10_v7 : Ref sig .tc := ⟨.hbm, 240, rfl⟩
abbrev main_call10_v8 : Ref sig .tc := ⟨.hbm, 241, rfl⟩
abbrev main_call10_v9 : Ref sig .tc := ⟨.hbm, 242, rfl⟩
abbrev main_call10_v10 : Ref sig .tc := ⟨.hbm, 243, rfl⟩
abbrev main_call10_v11 : Ref sig .tc := ⟨.hbm, 244, rfl⟩
abbrev main_call10_c_3 : Ref sig .tc := ⟨.hbm, 245, rfl⟩
abbrev main_call10_v12 : Ref sig .tc := ⟨.hbm, 246, rfl⟩
abbrev main_call10_v13 : Ref sig .tc := ⟨.hbm, 247, rfl⟩
abbrev main_call10_cst : Ref sig .tc := ⟨.hbm, 248, rfl⟩
abbrev main_call10_v14 : Ref sig .tc := ⟨.hbm, 249, rfl⟩
abbrev main_v41 : Ref sig .tc := ⟨.hbm, 250, rfl⟩
abbrev main_cst_12 : Ref sig .tc := ⟨.hbm, 251, rfl⟩
abbrev main_call11_v0 : Ref sig .tc := ⟨.hbm, 252, rfl⟩
abbrev main_call11_v1 : Ref sig .tc := ⟨.hbm, 253, rfl⟩
abbrev main_v42 : Ref sig .tc := ⟨.hbm, 254, rfl⟩
abbrev main_cst_13 : Ref sig .tc := ⟨.hbm, 255, rfl⟩
abbrev main_v43 : Ref sig .tc := ⟨.hbm, 256, rfl⟩
abbrev main_cst_14 : Ref sig .tc := ⟨.hbm, 257, rfl⟩
abbrev main_v44 : Ref sig .tc := ⟨.hbm, 258, rfl⟩
abbrev main_v45 : Ref sig .tc := ⟨.hbm, 259, rfl⟩
abbrev main_cst_15 : Ref sig .tc := ⟨.hbm, 260, rfl⟩
abbrev main_v46 : Ref sig .tc := ⟨.hbm, 261, rfl⟩
abbrev main_v47 : Ref sig .tc := ⟨.hbm, 262, rfl⟩
abbrev main_cst_16 : Ref sig .tc := ⟨.hbm, 263, rfl⟩
abbrev main_v48 : Ref sig .tc := ⟨.hbm, 264, rfl⟩

abbrev nD : Nat := 1
abbrev τ : Topo := Topo.v7x

variable {F : FTy → Type} [FloatOps F]

abbrev main_while0_count : Scf.Loop 32 := ⟨0#32, 100#32, 1#32⟩
-- ==== Proof.Wp.lean ====
/-
  The run of one tile of the kernel, as a logic over NAMED contents. A tile's nineteen scratch buffers are read as
  functions of the position (`St`), held together (`own`), and a program is said to take a state to a postcondition
  (`W`) through one rule per operation: a load of sixteen consecutive elements (`ld`), a store of sixteen (`st`), a
  scalar read or written, a check, a loop by an invariant.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.LoopRemainder
public import Idealize.ShloMosaic.Lib.Tactic
public import proofs.«01_k».proof.Proof.Gen.KernelIdeal
public import proofs.«01_k».proof.Proof.Gen.KernelIdeal.Skeleton

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The launch program's labels. -/
abbrev ΛP : Labels := Pipeline.Sig Λ₀ (Fin 0) fun p => (pcfgs (F := F) p).Adm
/-- The SparseCore configuration. -/
abbrev K : SparseCore.Cfg τ sig (ΛP (F := F)) 1 := sc (F := F)
/-- The defined labels under the launch. -/
abbrev D [FloatOps F] : Defs nD τ sig (Elt F) (ΛP (F := F)) := Pipeline.defs pcfgs defs₀
/-- No loop variants are needed. -/
abbrev 𝒱₀ : Variants := Variants.none
/-- The lifted variants. -/
abbrev 𝒱 : Variants := 𝒱₀.lift
/-- The one starting variant. -/
abbrev v₀ : 𝒱.V := Sum.inl none

/-- The handshakes' rounds. -/
abbrev UH : Type := URounds (GSem nD τ sig) ℕ
/-- With the transfers' counters. -/
abbrev UU : Type := UH × Counters

local notation "𝕄" => MT nD τ sig (HIx 1) (Elt F) ℕ UU ℕ

/-- The rounds' place in the algebra. -/
abbrev EH : Emb UH (MT nD τ sig (HIx 1) (Elt F) ℕ UU ℕ) := embL

/-- The thread of the tile at the coordinates `i`. -/
abbrev thr (d : Dev nD) (i : grid0.Coords) : Thread nD τ := V d ((i 0).castLE hcore0) ((i 1).castLE hsub0)

/-! ## The contents of the scratch, by position -/

/-- The contents of a tile's scratch buffers, each by position. -/
structure St (F : FTy → Type) where
  /-- The contents of the scratch buffer `y0v`. -/
  y0v : ℕ → F .f32
  /-- The contents of the scratch buffer `x0v`. -/
  x0v : ℕ → F .f32
  /-- The contents of the scratch buffer `y1v`. -/
  y1v : ℕ → F .f32
  /-- The contents of the scratch buffer `x1v`. -/
  x1v : ℕ → F .f32
  /-- The contents of the scratch buffer `mv`. -/
  mv : ℕ → F .f32
  /-- The contents of the scratch buffer `l1v`. -/
  l1v : ℕ → F .f32
  /-- The contents of the scratch buffer `l1i`. -/
  l1i : ℕ → BitVec 32
  /-- The contents of the scratch buffer `l2v`. -/
  l2v : ℕ → F .f32
  /-- The contents of the scratch buffer `l2i`. -/
  l2i : ℕ → BitVec 32
  /-- The contents of the scratch buffer `ky0`. -/
  ky0 : ℕ → F .f32
  /-- The contents of the scratch buffer `kx0`. -/
  kx0 : ℕ → F .f32
  /-- The contents of the scratch buffer `ky1`. -/
  ky1 : ℕ → F .f32
  /-- The contents of the scratch buffer `kx1`. -/
  kx1 : ℕ → F .f32
  /-- The contents of the scratch buffer `ka`. -/
  ka : ℕ → F .f32
  /-- The contents of the scratch buffer `ksc`. -/
  ksc : ℕ → F .f32
  /-- The contents of the scratch buffer `qv`. -/
  qv : ℕ → F .f32
  /-- The contents of the scratch buffer `hb`. -/
  hb : ℕ → F .f32
  /-- The contents of the scratch buffer `ib`. -/
  ib : ℕ → BitVec 32
  /-- The contents of the scratch buffer `sm`. -/
  sm : ℕ → BitVec 32

/-- Sixteen consecutive elements from position `o` on. -/
def ld {α : Type} (f : ℕ → α) (o : ℕ) : S16.Idx → α := fun x => f (o + (x 0).val)

/-- Lane `n` of a vector of sixteen. -/
def lane (n : ℕ) : S16.Idx := fun a => ⟨n % 16, by obtain rfl : a = 0 := Subsingleton.elim _ _; exact Nat.mod_lt _ (by decide)⟩

/-- The contents after sixteen elements `w` are stored from position `o` on. -/
def st {α : Type} (f : ℕ → α) (o : ℕ) (w : S16.Idx → α) : ℕ → α :=
  fun n => if o ≤ n ∧ n < o + 16 then w (lane (n - o)) else f n

/-- What a view's write leaves, named: contents reading the payload, unchanged elsewhere. -/
theorem write_by {κ : Kind} {sp : Space} {s : Shape} {e : EltTy} {Val : EltTy → Type} (v : View sig κ sp s e)
    (f G : v.ty.Contents Val) (w : s.Idx → Val e) (h1 : ∀ x, v.read Val G x = w x)
    (h2 : ∀ i, (∀ x, v.emb x ≠ i) → G i = f i) : v.write Val f w Finset.univ = G := by
  funext i
  by_cases h : ∃ x, v.emb x = i
  · obtain ⟨x, rfl⟩ := h
    rw [View.write_emb_of_mem _ _ (Finset.mem_univ x), ← h1 x]
    simp [View.read]
  · have h' : ∀ x, v.emb x ≠ i := fun x hx => h ⟨x, hx⟩
    rw [View.write_of_not_mem _ _ _ (by simp only [View.setOn, Finset.mem_map]; rintro ⟨x, _, hx⟩; exact h' x hx)]
    exact (h2 i h').symm

/-- A position of `n` elements, at a rank-one index. -/
theorem lane_eq (x : S16.Idx) : lane (x 0).val = x := by
  funext a
  obtain rfl : a = 0 := Subsingleton.elim _ _
  exact Fin.ext (Nat.mod_eq_of_lt (x 0).isLt)

theorem lane_back {n o : ℕ} (h1 : o ≤ n) (h2 : n < o + 16) : o + ((lane (n - o)) 0).val = n := by
  have h : ((lane (n - o)) 0).val = (n - o) % 16 := rfl
  rw [h]; omega

theorem ld_st {α : Type} (f : ℕ → α) (o : ℕ) (w : S16.Idx → α) : ld (st f o w) o = w := by
  funext x
  have hx : (x 0).val < 16 := (x 0).isLt
  have h : o ≤ o + (x 0).val ∧ o + (x 0).val < o + 16 := ⟨by omega, by omega⟩
  simp only [ld, st, h, and_self, if_true, Nat.add_sub_cancel_left, lane_eq]

section Run
variable [FloatOps F] (d : Dev nD) (i : grid0.Coords)

/-- The tile's scratch buffers, held whole with the contents `s`. -/
def own (s : St F) : sProp (MT nD τ sig (HIx 1) (Elt F) ℕ UU ℕ) := iprop(
  (((Memref.whole cc0_scratch0 : Memref sig .scVector .vmem S20016 .f32).view.loc (thr d i)) ↦{fullShare} (fun j => s.y0v (j 0).val)) ∗
  (((Memref.whole cc0_scratch1 : Memref sig .scVector .vmem S20016 .f32).view.loc (thr d i)) ↦{fullShare} (fun j => s.x0v (j 0).val)) ∗
  (((Memref.whole cc0_scratch2 : Memref sig .scVector .vmem S20016 .f32).view.loc (thr d i)) ↦{fullShare} (fun j => s.y1v (j 0).val)) ∗
  (((Memref.whole cc0_scratch3 : Memref sig .scVector .vmem S20016 .f32).view.loc (thr d i)) ↦{fullShare} (fun j => s.x1v (j 0).val)) ∗
  (((Memref.whole cc0_scratch4 : Memref sig .scVector .vmem S20016 .f32).view.loc (thr d i)) ↦{fullShare} (fun j => s.mv (j 0).val)) ∗
  (((Memref.whole cc0_scratch5 : Memref sig .scVector .vmem S1280 .f32).view.loc (thr d i)) ↦{fullShare} (fun j => s.l1v (j 0).val)) ∗
  (((Memref.whole cc0_scratch6 : Memref sig .scVector .vmem S1280 .i32).view.loc (thr d i)) ↦{fullShare} (fun j => s.l1i (j 0).val)) ∗
  (((Memref.whole cc0_scratch7 : Memref sig .scVector .vmem S80 .f32).view.loc (thr d i)) ↦{fullShare} (fun j => s.l2v (j 0).val)) ∗
  (((Memref.whole cc0_scratch8 : Memref sig .scVector .vmem S80 .i32).view.loc (thr d i)) ↦{fullShare} (fun j => s.l2i (j 0).val)) ∗
  (((Memref.whole cc0_scratch9 : Memref sig .scVector .vmem S112 .f32).view.loc (thr d i)) ↦{fullShare} (fun j => s.ky0 (j 0).val)) ∗
  (((Memref.whole cc0_scratch10 : Memref sig .scVector .vmem S112 .f32).view.loc (thr d i)) ↦{fullShare} (fun j => s.kx0 (j 0).val)) ∗
  (((Memref.whole cc0_scratch11 : Memref sig .scVector .vmem S112 .f32).view.loc (thr d i)) ↦{fullShare} (fun j => s.ky1 (j 0).val)) ∗
  (((Memref.whole cc0_scratch12 : Memref sig .scVector .vmem S112 .f32).view.loc (thr d i)) ↦{fullShare} (fun j => s.kx1 (j 0).val)) ∗
  (((Memref.whole cc0_scratch13 : Memref sig .scVector .vmem S112 .f32).view.loc (thr d i)) ↦{fullShare} (fun j => s.ka (j 0).val)) ∗
  (((Memref.whole cc0_scratch14 : Memref sig .scVector .vmem S112 .f32).view.loc (thr d i)) ↦{fullShare} (fun j => s.ksc (j 0).val)) ∗
  (((Memref.whole cc0_scratch15 : Memref sig .scVector .vmem S112 .f32).view.loc (thr d i)) ↦{fullShare} (fun j => s.qv (j 0).val)) ∗
  (((Memref.whole cc0_scratch16 : Memref sig .scVector .vmem S32 .f32).view.loc (thr d i)) ↦{fullShare} (fun j => s.hb (j 0).val)) ∗
  (((Memref.whole cc0_scratch17 : Memref sig .scVector .vmem S32 .i32).view.loc (thr d i)) ↦{fullShare} (fun j => s.ib (j 0).val)) ∗
  (((Memref.whole cc0_scratch18 : Memref sig .scVector .smem S4 .i32).view.loc (thr d i)) ↦{fullShare} (fun j => s.sm (j 0).val)))

/-- From the state `s`, the program runs and ends in a result and a state of `Q`. -/
def W {α : Type} (p : Prog (TpuEff nD τ sig (Elt F) Λ₀ (thr d i).2) α) (s : St F) (Q : α → St F → Prop) : Prop :=
  (own d i s : sProp 𝕄) ⊢ wp frame (wpE (defs₀ (F := F)) 𝒱₀ (thr d i) none) Set.univ p (fun a => iprop(∃ s', ⌜Q a s'⌝ ∗ own d i s'))

variable {d i}

theorem W_ret {α : Type} {a : α} {s : St F} {Q : α → St F → Prop} (h : Q a s) :
    W d i (pure a) s Q := by
  unfold W
  iintro Hs
  rw [show (pure a : Prog (TpuEff nD τ sig (Elt F) Λ₀ (thr d i).2) α) = .ret a from rfl, wp_ret]
  imodintro
  iexists s
  isplitr
  · ipureintro; exact h
  · iexact Hs

theorem W_mono {α : Type} {p : Prog (TpuEff nD τ sig (Elt F) Λ₀ (thr d i).2) α} {s : St F} {Q Q' : α → St F → Prop}
    (h : W d i p s Q) (hQ : ∀ a s', Q a s' → Q' a s') : W d i p s Q' := by
  unfold W at *
  refine h.trans (wp_mono _ _ _ fun a => ?_)
  iintro ⟨%s', %hq, Hs⟩
  iexists s'
  isplitr
  · ipureintro; exact hQ _ _ hq
  · iexact Hs

theorem W_bind {α β : Type} {p : Prog (TpuEff nD τ sig (Elt F) Λ₀ (thr d i).2) α}
    {k : α → Prog (TpuEff nD τ sig (Elt F) Λ₀ (thr d i).2) β} {s : St F} {R : α → St F → Prop} {Q : β → St F → Prop}
    (h : W d i p s R) (hk : ∀ a s', R a s' → W d i (k a) s' Q) : W d i (p >>= k) s Q := by
  unfold W at *
  rw [wp_bind]
  refine h.trans (wp_mono _ _ _ fun a => ?_)
  iintro ⟨%s', %hq, Hs⟩
  have hw := hk a s' hq
  iapply hw
  iexact Hs

/-- A program whose run is known at one result and one state. -/
theorem W_bind1 {α β : Type} {p : Prog (TpuEff nD τ sig (Elt F) Λ₀ (thr d i).2) α}
    {k : α → Prog (TpuEff nD τ sig (Elt F) Λ₀ (thr d i).2) β} {s s' : St F} {a : α} {Q : β → St F → Prop}
    (h : W d i p s (fun b t => b = a ∧ t = s')) (hk : W d i (k a) s' Q) : W d i (p >>= k) s Q :=
  W_bind h (by rintro _ _ ⟨rfl, rfl⟩; exact hk)

theorem W_assume {β : Type} {P : Prop} {dec : Decidable P}
    {k : PLift P → Prog (TpuEff nD τ sig (Elt F) Λ₀ (thr d i).2) β} {s : St F} {Q : β → St F → Prop}
    (h : P) (hk : W d i (k ⟨h⟩) s Q) : W d i (Prog.lift (TpuEff.assume P dec) >>= k) s Q := by
  unfold W at *
  exact hk.trans (wp_assume 𝒱₀ (thr d i) none Set.univ h)

/-- A loop, by an invariant. -/
theorem W_for {σ : Type} {w : ℕ} (lb ub stp : BitVec w) (hok : Scf.OK lb ub stp) (init : σ)
    (body : Fin (Scf.trips lb ub stp) → σ → Prog (TpuEff nD τ sig (Elt F) Λ₀ (thr d i).2) σ) {s : St F} {Q : σ → St F → Prop}
    (I : ℕ → σ → St F → Prop) (h0 : I 0 init s)
    (hb : ∀ (k : Fin (Scf.trips lb ub stp)) acc s, I k.val acc s → W d i (body k acc) s (I (k.val + 1)))
    (hQ : ∀ acc s, I (Scf.trips lb ub stp) acc s → Q acc s) :
    W d i (Scf.for lb ub stp hok init body) s Q := by
  unfold W
  have hb' : ∀ (k : Fin (Scf.trips lb ub stp)) (acc : σ),
      (iprop(∃ s', ⌜I k.val acc s'⌝ ∗ own d i s') : sProp 𝕄) ⊢ wp frame (wpE (defs₀ (F := F)) 𝒱₀ (thr d i) none) Set.univ (body k acc)
        (fun a => iprop(∃ s', ⌜I (k.val + 1) a s'⌝ ∗ own d i s')) := by
    intro k acc
    iintro ⟨%s', %hi, Hs⟩
    have hw := hb k acc s' hi
    unfold W at hw
    iapply hw
    iexact Hs
  iintro Hs
  iapply (Scf.wp_for frame (wpE (defs₀ (F := F)) 𝒱₀ (thr d i) none) Set.univ lb ub stp hok init body
    (fun n acc => (iprop(∃ s', ⌜I n acc s'⌝ ∗ own d i s') : sProp 𝕄)) hb')
  isplitl [Hs]
  · iexists s
    isplitr
    · ipureintro; exact h0
    · iexact Hs
  · iintro %acc ⟨%s', %hi, Hs⟩
    iexists s'
    isplitr
    · ipureintro; exact hQ _ _ hi
    · iexact Hs

/-- A loop of no trips. -/
theorem W_for0 {σ : Type} {w : ℕ} (lb ub stp : BitVec w) (hok : Scf.OK lb ub stp) (init : σ)
    (body : Fin (Scf.trips lb ub stp) → σ → Prog (TpuEff nD τ sig (Elt F) Λ₀ (thr d i).2) σ) {s : St F} {Q : σ → St F → Prop}
    (h0 : Scf.trips lb ub stp = 0) (h : Q init s) : W d i (Scf.for lb ub stp hok init body) s Q :=
  W_for lb ub stp hok init body (fun _ a t => Q a t) h (fun k => absurd k.isLt (by omega)) (fun _ _ h => h)

/-- A load at the head, from the points-to taken out of the state and put back. -/
theorem ld_gen {cs : CoreSpace} {sh : Shape} {e : EltTy} {β : Type} {m : Memref sig .scVector cs sh e} {r : Rect sh} {hl : m.view.LoadsAt r}
    {k : (r.shape.Idx → Elt F e) → Prog (TpuEff nD τ sig (Elt F) Λ₀ (thr d i).2) β} {s : St F} {Q : β → St F → Prop}
    {f : Buf (Elt F) ((m.access r).loc (thr d i))}
    (ho : (own d i s : sProp 𝕄) ⊢ iprop(((m.access r).loc (thr d i) ↦{fullShare} f) ∗ (((m.access r).loc (thr d i) ↦{fullShare} f) -∗ own d i s)))
    (v : r.shape.Idx → Elt F e) (he : (m.access r).read (Elt F) f = v) (h : W d i (k v) s Q) :
    W d i (Prog.lift (.load m r hl) >>= k) s Q := by
  subst he
  unfold W at *
  have h0 := wp_load_rect (defs := defs₀ (F := F)) 𝒱₀ (thr d i) none (Γ := .empty) (hl := hl) (k := k) (f := f) (q := fullShare) (S := Finset.univ) Set.univ
    (Q := fun a => (iprop(∃ s', ⌜Q a s'⌝ ∗ own d i s') : sProp 𝕄)) (Finset.subset_univ _)
  refine ho.trans ?_
  iintro ⟨Hp, Hr⟩
  iapply h0 $$ Hp
  iintro Hp
  iapply h
  iapply Hr
  iexact Hp

/-- A store at the head, from the points-to taken out of the state and put back. -/
theorem st_gen {cs : CoreSpace} {sh : Shape} {e : EltTy} {β : Type} {m : Memref sig .scVector cs sh e} {r : Rect sh} {w : r.shape.Idx → Elt F e}
    {hx : (m.access r).Stores Finset.univ} {hm}
    {k : PUnit → Prog (TpuEff nD τ sig (Elt F) Λ₀ (thr d i).2) β} {s s' : St F} {Q : β → St F → Prop}
    {f g : Buf (Elt F) ((m.access r).loc (thr d i))}
    (ho : (own d i s : sProp 𝕄) ⊢ iprop(((m.access r).loc (thr d i) ↦{fullShare} f) ∗
      (((m.access r).loc (thr d i) ↦{fullShare} g) -∗ own d i s')))
    (he : (m.access r).write (Elt F) f w Finset.univ = g)
    (h : W d i (k ⟨⟩) s' Q) : W d i (Prog.lift (.store m r w Finset.univ hx hm) >>= k) s Q := by
  subst he
  unfold W at *
  have h0 := wp_store (defs := defs₀ (F := F)) 𝒱₀ (thr d i) none (Γ := .empty) (w := w) (hx := hx) (hm := hm) (k := k) (f := f) (S := Finset.univ) Set.univ
    (Q := fun a => (iprop(∃ s', ⌜Q a s'⌝ ∗ own d i s') : sProp 𝕄)) (Finset.subset_univ _)
  refine ho.trans ?_
  iintro ⟨Hp, Hr⟩
  iapply h0 $$ Hp
  iintro Hp
  iapply h
  iapply Hr
  iexact Hp

/-! ### The loads and the stores, buffer by buffer -/

theorem own_y0v (s : St F) (g : ℕ → F .f32) : (own d i s : sProp 𝕄) ⊢
    iprop((((Memref.whole cc0_scratch0 : Memref sig .scVector .vmem S20016 .f32).view.loc (thr d i)) ↦{fullShare} (fun j => s.y0v (j 0).val)) ∗
      ((((Memref.whole cc0_scratch0 : Memref sig .scVector .vmem S20016 .f32).view.loc (thr d i)) ↦{fullShare} (fun j => g (j 0).val)) -∗ own d i { s with y0v := g })) := by
  unfold own
  iintro ⟨H0, H1, H2, H3, H4, H5, H6, H7, H8, H9, H10, H11, H12, H13, H14, H15, H16, H17, H18⟩
  isplitl [H0]
  · iexact H0
  · iintro Hg
    isplitl [Hg]; iexact Hg
    isplitl [H1]; iexact H1
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [H17]; iexact H17
    iexact H18

theorem W_ld_y0v {β : Type} {off : Fin 1 → ℕ} {inb : ∀ a, off a + S16.size a ≤ S20016.size a}
    {hl : (Memref.whole cc0_scratch0 : Memref sig .scVector .vmem S20016 .f32).view.LoadsAt (Rect.unit (s := S20016) off S16.size inb).toLoadRect}
    {k : Vec F S16 .f32 → Prog (TpuEff nD τ sig (Elt F) Λ₀ (thr d i).2) β} {s : St F} {Q : β → St F → Prop}
    (h : W d i (k (ld s.y0v (off 0))) s Q) :
    W d i (Prog.lift (.load (Memref.whole cc0_scratch0 : Memref sig .scVector .vmem S20016 .f32) (Rect.unit (s := S20016) off S16.size inb).toLoadRect hl) >>= k) s Q := by
  refine ld_gen (f := fun j : S20016.Idx => s.y0v (j 0).val) (own_y0v s s.y0v) (ld s.y0v (off 0)) ?_ h
  funext x; exact congrArg s.y0v (show off 0 + 1 * (x 0).val = off 0 + (x 0).val by omega)

theorem W_st_y0v {β : Type} {off : Fin 1 → ℕ} {inb : ∀ a, off a + S16.size a ≤ S20016.size a} {w : Vec F S16 .f32}
    {hx : ((Memref.whole cc0_scratch0 : Memref sig .scVector .vmem S20016 .f32).access (Rect.unit (s := S20016) off S16.size inb)).Stores Finset.univ} {hm}
    {k : PUnit → Prog (TpuEff nD τ sig (Elt F) Λ₀ (thr d i).2) β} {s : St F} {Q : β → St F → Prop}
    (h : W d i (k ⟨⟩) { s with y0v := st s.y0v (off 0) w } Q) :
    W d i (Prog.lift (.store (Memref.whole cc0_scratch0 : Memref sig .scVector .vmem S20016 .f32) (Rect.unit (s := S20016) off S16.size inb) w Finset.univ hx hm) >>= k) s Q := by
  have e : ((Memref.whole cc0_scratch0 : Memref sig .scVector .vmem S20016 .f32).access (Rect.unit (s := S20016) off S16.size inb)).write (Elt F) (fun j => s.y0v (j 0).val) w Finset.univ
      = (fun j => st s.y0v (off 0) w (j 0).val) := by
    refine write_by _ _ _ _ (fun x => ?_) (fun j hj => ?_)
    · exact (show st s.y0v (off 0) w (off 0 + 1 * (x 0).val) = w x by rw [Nat.one_mul]; exact congrFun (ld_st s.y0v (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch0 : Memref sig .scVector .vmem S20016 .f32).access (Rect.unit (s := S20016) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S20016.Idx => s.y0v (j 0).val) (g := fun j : S20016.Idx => st s.y0v (off 0) w (j 0).val)
    (s' := { s with y0v := st s.y0v (off 0) w }) (own_y0v s (st s.y0v (off 0) w)) e h

theorem own_x0v (s : St F) (g : ℕ → F .f32) : (own d i s : sProp 𝕄) ⊢
    iprop((((Memref.whole cc0_scratch1 : Memref sig .scVector .vmem S20016 .f32).view.loc (thr d i)) ↦{fullShare} (fun j => s.x0v (j 0).val)) ∗
      ((((Memref.whole cc0_scratch1 : Memref sig .scVector .vmem S20016 .f32).view.loc (thr d i)) ↦{fullShare} (fun j => g (j 0).val)) -∗ own d i { s with x0v := g })) := by
  unfold own
  iintro ⟨H0, H1, H2, H3, H4, H5, H6, H7, H8, H9, H10, H11, H12, H13, H14, H15, H16, H17, H18⟩
  isplitl [H1]
  · iexact H1
  · iintro Hg
    isplitl [H0]; iexact H0
    isplitl [Hg]; iexact Hg
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [H17]; iexact H17
    iexact H18

theorem W_ld_x0v {β : Type} {off : Fin 1 → ℕ} {inb : ∀ a, off a + S16.size a ≤ S20016.size a}
    {hl : (Memref.whole cc0_scratch1 : Memref sig .scVector .vmem S20016 .f32).view.LoadsAt (Rect.unit (s := S20016) off S16.size inb).toLoadRect}
    {k : Vec F S16 .f32 → Prog (TpuEff nD τ sig (Elt F) Λ₀ (thr d i).2) β} {s : St F} {Q : β → St F → Prop}
    (h : W d i (k (ld s.x0v (off 0))) s Q) :
    W d i (Prog.lift (.load (Memref.whole cc0_scratch1 : Memref sig .scVector .vmem S20016 .f32) (Rect.unit (s := S20016) off S16.size inb).toLoadRect hl) >>= k) s Q := by
  refine ld_gen (f := fun j : S20016.Idx => s.x0v (j 0).val) (own_x0v s s.x0v) (ld s.x0v (off 0)) ?_ h
  funext x; exact congrArg s.x0v (show off 0 + 1 * (x 0).val = off 0 + (x 0).val by omega)

theorem W_st_x0v {β : Type} {off : Fin 1 → ℕ} {inb : ∀ a, off a + S16.size a ≤ S20016.size a} {w : Vec F S16 .f32}
    {hx : ((Memref.whole cc0_scratch1 : Memref sig .scVector .vmem S20016 .f32).access (Rect.unit (s := S20016) off S16.size inb)).Stores Finset.univ} {hm}
    {k : PUnit → Prog (TpuEff nD τ sig (Elt F) Λ₀ (thr d i).2) β} {s : St F} {Q : β → St F → Prop}
    (h : W d i (k ⟨⟩) { s with x0v := st s.x0v (off 0) w } Q) :
    W d i (Prog.lift (.store (Memref.whole cc0_scratch1 : Memref sig .scVector .vmem S20016 .f32) (Rect.unit (s := S20016) off S16.size inb) w Finset.univ hx hm) >>= k) s Q := by
  have e : ((Memref.whole cc0_scratch1 : Memref sig .scVector .vmem S20016 .f32).access (Rect.unit (s := S20016) off S16.size inb)).write (Elt F) (fun j => s.x0v (j 0).val) w Finset.univ
      = (fun j => st s.x0v (off 0) w (j 0).val) := by
    refine write_by _ _ _ _ (fun x => ?_) (fun j hj => ?_)
    · exact (show st s.x0v (off 0) w (off 0 + 1 * (x 0).val) = w x by rw [Nat.one_mul]; exact congrFun (ld_st s.x0v (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch1 : Memref sig .scVector .vmem S20016 .f32).access (Rect.unit (s := S20016) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S20016.Idx => s.x0v (j 0).val) (g := fun j : S20016.Idx => st s.x0v (off 0) w (j 0).val)
    (s' := { s with x0v := st s.x0v (off 0) w }) (own_x0v s (st s.x0v (off 0) w)) e h

theorem own_y1v (s : St F) (g : ℕ → F .f32) : (own d i s : sProp 𝕄) ⊢
    iprop((((Memref.whole cc0_scratch2 : Memref sig .scVector .vmem S20016 .f32).view.loc (thr d i)) ↦{fullShare} (fun j => s.y1v (j 0).val)) ∗
      ((((Memref.whole cc0_scratch2 : Memref sig .scVector .vmem S20016 .f32).view.loc (thr d i)) ↦{fullShare} (fun j => g (j 0).val)) -∗ own d i { s with y1v := g })) := by
  unfold own
  iintro ⟨H0, H1, H2, H3, H4, H5, H6, H7, H8, H9, H10, H11, H12, H13, H14, H15, H16, H17, H18⟩
  isplitl [H2]
  · iexact H2
  · iintro Hg
    isplitl [H0]; iexact H0
    isplitl [H1]; iexact H1
    isplitl [Hg]; iexact Hg
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [H17]; iexact H17
    iexact H18

theorem W_ld_y1v {β : Type} {off : Fin 1 → ℕ} {inb : ∀ a, off a + S16.size a ≤ S20016.size a}
    {hl : (Memref.whole cc0_scratch2 : Memref sig .scVector .vmem S20016 .f32).view.LoadsAt (Rect.unit (s := S20016) off S16.size inb).toLoadRect}
    {k : Vec F S16 .f32 → Prog (TpuEff nD τ sig (Elt F) Λ₀ (thr d i).2) β} {s : St F} {Q : β → St F → Prop}
    (h : W d i (k (ld s.y1v (off 0))) s Q) :
    W d i (Prog.lift (.load (Memref.whole cc0_scratch2 : Memref sig .scVector .vmem S20016 .f32) (Rect.unit (s := S20016) off S16.size inb).toLoadRect hl) >>= k) s Q := by
  refine ld_gen (f := fun j : S20016.Idx => s.y1v (j 0).val) (own_y1v s s.y1v) (ld s.y1v (off 0)) ?_ h
  funext x; exact congrArg s.y1v (show off 0 + 1 * (x 0).val = off 0 + (x 0).val by omega)

theorem W_st_y1v {β : Type} {off : Fin 1 → ℕ} {inb : ∀ a, off a + S16.size a ≤ S20016.size a} {w : Vec F S16 .f32}
    {hx : ((Memref.whole cc0_scratch2 : Memref sig .scVector .vmem S20016 .f32).access (Rect.unit (s := S20016) off S16.size inb)).Stores Finset.univ} {hm}
    {k : PUnit → Prog (TpuEff nD τ sig (Elt F) Λ₀ (thr d i).2) β} {s : St F} {Q : β → St F → Prop}
    (h : W d i (k ⟨⟩) { s with y1v := st s.y1v (off 0) w } Q) :
    W d i (Prog.lift (.store (Memref.whole cc0_scratch2 : Memref sig .scVector .vmem S20016 .f32) (Rect.unit (s := S20016) off S16.size inb) w Finset.univ hx hm) >>= k) s Q := by
  have e : ((Memref.whole cc0_scratch2 : Memref sig .scVector .vmem S20016 .f32).access (Rect.unit (s := S20016) off S16.size inb)).write (Elt F) (fun j => s.y1v (j 0).val) w Finset.univ
      = (fun j => st s.y1v (off 0) w (j 0).val) := by
    refine write_by _ _ _ _ (fun x => ?_) (fun j hj => ?_)
    · exact (show st s.y1v (off 0) w (off 0 + 1 * (x 0).val) = w x by rw [Nat.one_mul]; exact congrFun (ld_st s.y1v (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch2 : Memref sig .scVector .vmem S20016 .f32).access (Rect.unit (s := S20016) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S20016.Idx => s.y1v (j 0).val) (g := fun j : S20016.Idx => st s.y1v (off 0) w (j 0).val)
    (s' := { s with y1v := st s.y1v (off 0) w }) (own_y1v s (st s.y1v (off 0) w)) e h

theorem own_x1v (s : St F) (g : ℕ → F .f32) : (own d i s : sProp 𝕄) ⊢
    iprop((((Memref.whole cc0_scratch3 : Memref sig .scVector .vmem S20016 .f32).view.loc (thr d i)) ↦{fullShare} (fun j => s.x1v (j 0).val)) ∗
      ((((Memref.whole cc0_scratch3 : Memref sig .scVector .vmem S20016 .f32).view.loc (thr d i)) ↦{fullShare} (fun j => g (j 0).val)) -∗ own d i { s with x1v := g })) := by
  unfold own
  iintro ⟨H0, H1, H2, H3, H4, H5, H6, H7, H8, H9, H10, H11, H12, H13, H14, H15, H16, H17, H18⟩
  isplitl [H3]
  · iexact H3
  · iintro Hg
    isplitl [H0]; iexact H0
    isplitl [H1]; iexact H1
    isplitl [H2]; iexact H2
    isplitl [Hg]; iexact Hg
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [H17]; iexact H17
    iexact H18

theorem W_ld_x1v {β : Type} {off : Fin 1 → ℕ} {inb : ∀ a, off a + S16.size a ≤ S20016.size a}
    {hl : (Memref.whole cc0_scratch3 : Memref sig .scVector .vmem S20016 .f32).view.LoadsAt (Rect.unit (s := S20016) off S16.size inb).toLoadRect}
    {k : Vec F S16 .f32 → Prog (TpuEff nD τ sig (Elt F) Λ₀ (thr d i).2) β} {s : St F} {Q : β → St F → Prop}
    (h : W d i (k (ld s.x1v (off 0))) s Q) :
    W d i (Prog.lift (.load (Memref.whole cc0_scratch3 : Memref sig .scVector .vmem S20016 .f32) (Rect.unit (s := S20016) off S16.size inb).toLoadRect hl) >>= k) s Q := by
  refine ld_gen (f := fun j : S20016.Idx => s.x1v (j 0).val) (own_x1v s s.x1v) (ld s.x1v (off 0)) ?_ h
  funext x; exact congrArg s.x1v (show off 0 + 1 * (x 0).val = off 0 + (x 0).val by omega)

theorem W_st_x1v {β : Type} {off : Fin 1 → ℕ} {inb : ∀ a, off a + S16.size a ≤ S20016.size a} {w : Vec F S16 .f32}
    {hx : ((Memref.whole cc0_scratch3 : Memref sig .scVector .vmem S20016 .f32).access (Rect.unit (s := S20016) off S16.size inb)).Stores Finset.univ} {hm}
    {k : PUnit → Prog (TpuEff nD τ sig (Elt F) Λ₀ (thr d i).2) β} {s : St F} {Q : β → St F → Prop}
    (h : W d i (k ⟨⟩) { s with x1v := st s.x1v (off 0) w } Q) :
    W d i (Prog.lift (.store (Memref.whole cc0_scratch3 : Memref sig .scVector .vmem S20016 .f32) (Rect.unit (s := S20016) off S16.size inb) w Finset.univ hx hm) >>= k) s Q := by
  have e : ((Memref.whole cc0_scratch3 : Memref sig .scVector .vmem S20016 .f32).access (Rect.unit (s := S20016) off S16.size inb)).write (Elt F) (fun j => s.x1v (j 0).val) w Finset.univ
      = (fun j => st s.x1v (off 0) w (j 0).val) := by
    refine write_by _ _ _ _ (fun x => ?_) (fun j hj => ?_)
    · exact (show st s.x1v (off 0) w (off 0 + 1 * (x 0).val) = w x by rw [Nat.one_mul]; exact congrFun (ld_st s.x1v (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch3 : Memref sig .scVector .vmem S20016 .f32).access (Rect.unit (s := S20016) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S20016.Idx => s.x1v (j 0).val) (g := fun j : S20016.Idx => st s.x1v (off 0) w (j 0).val)
    (s' := { s with x1v := st s.x1v (off 0) w }) (own_x1v s (st s.x1v (off 0) w)) e h

theorem own_mv (s : St F) (g : ℕ → F .f32) : (own d i s : sProp 𝕄) ⊢
    iprop((((Memref.whole cc0_scratch4 : Memref sig .scVector .vmem S20016 .f32).view.loc (thr d i)) ↦{fullShare} (fun j => s.mv (j 0).val)) ∗
      ((((Memref.whole cc0_scratch4 : Memref sig .scVector .vmem S20016 .f32).view.loc (thr d i)) ↦{fullShare} (fun j => g (j 0).val)) -∗ own d i { s with mv := g })) := by
  unfold own
  iintro ⟨H0, H1, H2, H3, H4, H5, H6, H7, H8, H9, H10, H11, H12, H13, H14, H15, H16, H17, H18⟩
  isplitl [H4]
  · iexact H4
  · iintro Hg
    isplitl [H0]; iexact H0
    isplitl [H1]; iexact H1
    isplitl [H2]; iexact H2
    isplitl [H3]; iexact H3
    isplitl [Hg]; iexact Hg
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [H17]; iexact H17
    iexact H18

theorem W_ld_mv {β : Type} {off : Fin 1 → ℕ} {inb : ∀ a, off a + S16.size a ≤ S20016.size a}
    {hl : (Memref.whole cc0_scratch4 : Memref sig .scVector .vmem S20016 .f32).view.LoadsAt (Rect.unit (s := S20016) off S16.size inb).toLoadRect}
    {k : Vec F S16 .f32 → Prog (TpuEff nD τ sig (Elt F) Λ₀ (thr d i).2) β} {s : St F} {Q : β → St F → Prop}
    (h : W d i (k (ld s.mv (off 0))) s Q) :
    W d i (Prog.lift (.load (Memref.whole cc0_scratch4 : Memref sig .scVector .vmem S20016 .f32) (Rect.unit (s := S20016) off S16.size inb).toLoadRect hl) >>= k) s Q := by
  refine ld_gen (f := fun j : S20016.Idx => s.mv (j 0).val) (own_mv s s.mv) (ld s.mv (off 0)) ?_ h
  funext x; exact congrArg s.mv (show off 0 + 1 * (x 0).val = off 0 + (x 0).val by omega)

theorem W_st_mv {β : Type} {off : Fin 1 → ℕ} {inb : ∀ a, off a + S16.size a ≤ S20016.size a} {w : Vec F S16 .f32}
    {hx : ((Memref.whole cc0_scratch4 : Memref sig .scVector .vmem S20016 .f32).access (Rect.unit (s := S20016) off S16.size inb)).Stores Finset.univ} {hm}
    {k : PUnit → Prog (TpuEff nD τ sig (Elt F) Λ₀ (thr d i).2) β} {s : St F} {Q : β → St F → Prop}
    (h : W d i (k ⟨⟩) { s with mv := st s.mv (off 0) w } Q) :
    W d i (Prog.lift (.store (Memref.whole cc0_scratch4 : Memref sig .scVector .vmem S20016 .f32) (Rect.unit (s := S20016) off S16.size inb) w Finset.univ hx hm) >>= k) s Q := by
  have e : ((Memref.whole cc0_scratch4 : Memref sig .scVector .vmem S20016 .f32).access (Rect.unit (s := S20016) off S16.size inb)).write (Elt F) (fun j => s.mv (j 0).val) w Finset.univ
      = (fun j => st s.mv (off 0) w (j 0).val) := by
    refine write_by _ _ _ _ (fun x => ?_) (fun j hj => ?_)
    · exact (show st s.mv (off 0) w (off 0 + 1 * (x 0).val) = w x by rw [Nat.one_mul]; exact congrFun (ld_st s.mv (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch4 : Memref sig .scVector .vmem S20016 .f32).access (Rect.unit (s := S20016) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S20016.Idx => s.mv (j 0).val) (g := fun j : S20016.Idx => st s.mv (off 0) w (j 0).val)
    (s' := { s with mv := st s.mv (off 0) w }) (own_mv s (st s.mv (off 0) w)) e h

theorem own_l1v (s : St F) (g : ℕ → F .f32) : (own d i s : sProp 𝕄) ⊢
    iprop((((Memref.whole cc0_scratch5 : Memref sig .scVector .vmem S1280 .f32).view.loc (thr d i)) ↦{fullShare} (fun j => s.l1v (j 0).val)) ∗
      ((((Memref.whole cc0_scratch5 : Memref sig .scVector .vmem S1280 .f32).view.loc (thr d i)) ↦{fullShare} (fun j => g (j 0).val)) -∗ own d i { s with l1v := g })) := by
  unfold own
  iintro ⟨H0, H1, H2, H3, H4, H5, H6, H7, H8, H9, H10, H11, H12, H13, H14, H15, H16, H17, H18⟩
  isplitl [H5]
  · iexact H5
  · iintro Hg
    isplitl [H0]; iexact H0
    isplitl [H1]; iexact H1
    isplitl [H2]; iexact H2
    isplitl [H3]; iexact H3
    isplitl [H4]; iexact H4
    isplitl [Hg]; iexact Hg
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [H17]; iexact H17
    iexact H18

theorem W_ld_l1v {β : Type} {off : Fin 1 → ℕ} {inb : ∀ a, off a + S16.size a ≤ S1280.size a}
    {hl : (Memref.whole cc0_scratch5 : Memref sig .scVector .vmem S1280 .f32).view.LoadsAt (Rect.unit (s := S1280) off S16.size inb).toLoadRect}
    {k : Vec F S16 .f32 → Prog (TpuEff nD τ sig (Elt F) Λ₀ (thr d i).2) β} {s : St F} {Q : β → St F → Prop}
    (h : W d i (k (ld s.l1v (off 0))) s Q) :
    W d i (Prog.lift (.load (Memref.whole cc0_scratch5 : Memref sig .scVector .vmem S1280 .f32) (Rect.unit (s := S1280) off S16.size inb).toLoadRect hl) >>= k) s Q := by
  refine ld_gen (f := fun j : S1280.Idx => s.l1v (j 0).val) (own_l1v s s.l1v) (ld s.l1v (off 0)) ?_ h
  funext x; exact congrArg s.l1v (show off 0 + 1 * (x 0).val = off 0 + (x 0).val by omega)

theorem W_st_l1v {β : Type} {off : Fin 1 → ℕ} {inb : ∀ a, off a + S16.size a ≤ S1280.size a} {w : Vec F S16 .f32}
    {hx : ((Memref.whole cc0_scratch5 : Memref sig .scVector .vmem S1280 .f32).access (Rect.unit (s := S1280) off S16.size inb)).Stores Finset.univ} {hm}
    {k : PUnit → Prog (TpuEff nD τ sig (Elt F) Λ₀ (thr d i).2) β} {s : St F} {Q : β → St F → Prop}
    (h : W d i (k ⟨⟩) { s with l1v := st s.l1v (off 0) w } Q) :
    W d i (Prog.lift (.store (Memref.whole cc0_scratch5 : Memref sig .scVector .vmem S1280 .f32) (Rect.unit (s := S1280) off S16.size inb) w Finset.univ hx hm) >>= k) s Q := by
  have e : ((Memref.whole cc0_scratch5 : Memref sig .scVector .vmem S1280 .f32).access (Rect.unit (s := S1280) off S16.size inb)).write (Elt F) (fun j => s.l1v (j 0).val) w Finset.univ
      = (fun j => st s.l1v (off 0) w (j 0).val) := by
    refine write_by _ _ _ _ (fun x => ?_) (fun j hj => ?_)
    · exact (show st s.l1v (off 0) w (off 0 + 1 * (x 0).val) = w x by rw [Nat.one_mul]; exact congrFun (ld_st s.l1v (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch5 : Memref sig .scVector .vmem S1280 .f32).access (Rect.unit (s := S1280) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S1280.Idx => s.l1v (j 0).val) (g := fun j : S1280.Idx => st s.l1v (off 0) w (j 0).val)
    (s' := { s with l1v := st s.l1v (off 0) w }) (own_l1v s (st s.l1v (off 0) w)) e h

theorem own_l1i (s : St F) (g : ℕ → BitVec 32) : (own d i s : sProp 𝕄) ⊢
    iprop((((Memref.whole cc0_scratch6 : Memref sig .scVector .vmem S1280 .i32).view.loc (thr d i)) ↦{fullShare} (fun j => s.l1i (j 0).val)) ∗
      ((((Memref.whole cc0_scratch6 : Memref sig .scVector .vmem S1280 .i32).view.loc (thr d i)) ↦{fullShare} (fun j => g (j 0).val)) -∗ own d i { s with l1i := g })) := by
  unfold own
  iintro ⟨H0, H1, H2, H3, H4, H5, H6, H7, H8, H9, H10, H11, H12, H13, H14, H15, H16, H17, H18⟩
  isplitl [H6]
  · iexact H6
  · iintro Hg
    isplitl [H0]; iexact H0
    isplitl [H1]; iexact H1
    isplitl [H2]; iexact H2
    isplitl [H3]; iexact H3
    isplitl [H4]; iexact H4
    isplitl [H5]; iexact H5
    isplitl [Hg]; iexact Hg
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [H17]; iexact H17
    iexact H18

theorem W_ld_l1i {β : Type} {off : Fin 1 → ℕ} {inb : ∀ a, off a + S16.size a ≤ S1280.size a}
    {hl : (Memref.whole cc0_scratch6 : Memref sig .scVector .vmem S1280 .i32).view.LoadsAt (Rect.unit (s := S1280) off S16.size inb).toLoadRect}
    {k : Vec F S16 .i32 → Prog (TpuEff nD τ sig (Elt F) Λ₀ (thr d i).2) β} {s : St F} {Q : β → St F → Prop}
    (h : W d i (k (ld s.l1i (off 0))) s Q) :
    W d i (Prog.lift (.load (Memref.whole cc0_scratch6 : Memref sig .scVector .vmem S1280 .i32) (Rect.unit (s := S1280) off S16.size inb).toLoadRect hl) >>= k) s Q := by
  refine ld_gen (f := fun j : S1280.Idx => s.l1i (j 0).val) (own_l1i s s.l1i) (ld s.l1i (off 0)) ?_ h
  funext x; exact congrArg s.l1i (show off 0 + 1 * (x 0).val = off 0 + (x 0).val by omega)

theorem W_st_l1i {β : Type} {off : Fin 1 → ℕ} {inb : ∀ a, off a + S16.size a ≤ S1280.size a} {w : Vec F S16 .i32}
    {hx : ((Memref.whole cc0_scratch6 : Memref sig .scVector .vmem S1280 .i32).access (Rect.unit (s := S1280) off S16.size inb)).Stores Finset.univ} {hm}
    {k : PUnit → Prog (TpuEff nD τ sig (Elt F) Λ₀ (thr d i).2) β} {s : St F} {Q : β → St F → Prop}
    (h : W d i (k ⟨⟩) { s with l1i := st s.l1i (off 0) w } Q) :
    W d i (Prog.lift (.store (Memref.whole cc0_scratch6 : Memref sig .scVector .vmem S1280 .i32) (Rect.unit (s := S1280) off S16.size inb) w Finset.univ hx hm) >>= k) s Q := by
  have e : ((Memref.whole cc0_scratch6 : Memref sig .scVector .vmem S1280 .i32).access (Rect.unit (s := S1280) off S16.size inb)).write (Elt F) (fun j => s.l1i (j 0).val) w Finset.univ
      = (fun j => st s.l1i (off 0) w (j 0).val) := by
    refine write_by _ _ _ _ (fun x => ?_) (fun j hj => ?_)
    · exact (show st s.l1i (off 0) w (off 0 + 1 * (x 0).val) = w x by rw [Nat.one_mul]; exact congrFun (ld_st s.l1i (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch6 : Memref sig .scVector .vmem S1280 .i32).access (Rect.unit (s := S1280) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S1280.Idx => s.l1i (j 0).val) (g := fun j : S1280.Idx => st s.l1i (off 0) w (j 0).val)
    (s' := { s with l1i := st s.l1i (off 0) w }) (own_l1i s (st s.l1i (off 0) w)) e h

theorem own_l2v (s : St F) (g : ℕ → F .f32) : (own d i s : sProp 𝕄) ⊢
    iprop((((Memref.whole cc0_scratch7 : Memref sig .scVector .vmem S80 .f32).view.loc (thr d i)) ↦{fullShare} (fun j => s.l2v (j 0).val)) ∗
      ((((Memref.whole cc0_scratch7 : Memref sig .scVector .vmem S80 .f32).view.loc (thr d i)) ↦{fullShare} (fun j => g (j 0).val)) -∗ own d i { s with l2v := g })) := by
  unfold own
  iintro ⟨H0, H1, H2, H3, H4, H5, H6, H7, H8, H9, H10, H11, H12, H13, H14, H15, H16, H17, H18⟩
  isplitl [H7]
  · iexact H7
  · iintro Hg
    isplitl [H0]; iexact H0
    isplitl [H1]; iexact H1
    isplitl [H2]; iexact H2
    isplitl [H3]; iexact H3
    isplitl [H4]; iexact H4
    isplitl [H5]; iexact H5
    isplitl [H6]; iexact H6
    isplitl [Hg]; iexact Hg
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [H17]; iexact H17
    iexact H18

theorem W_ld_l2v {β : Type} {off : Fin 1 → ℕ} {inb : ∀ a, off a + S16.size a ≤ S80.size a}
    {hl : (Memref.whole cc0_scratch7 : Memref sig .scVector .vmem S80 .f32).view.LoadsAt (Rect.unit (s := S80) off S16.size inb).toLoadRect}
    {k : Vec F S16 .f32 → Prog (TpuEff nD τ sig (Elt F) Λ₀ (thr d i).2) β} {s : St F} {Q : β → St F → Prop}
    (h : W d i (k (ld s.l2v (off 0))) s Q) :
    W d i (Prog.lift (.load (Memref.whole cc0_scratch7 : Memref sig .scVector .vmem S80 .f32) (Rect.unit (s := S80) off S16.size inb).toLoadRect hl) >>= k) s Q := by
  refine ld_gen (f := fun j : S80.Idx => s.l2v (j 0).val) (own_l2v s s.l2v) (ld s.l2v (off 0)) ?_ h
  funext x; exact congrArg s.l2v (show off 0 + 1 * (x 0).val = off 0 + (x 0).val by omega)

theorem W_st_l2v {β : Type} {off : Fin 1 → ℕ} {inb : ∀ a, off a + S16.size a ≤ S80.size a} {w : Vec F S16 .f32}
    {hx : ((Memref.whole cc0_scratch7 : Memref sig .scVector .vmem S80 .f32).access (Rect.unit (s := S80) off S16.size inb)).Stores Finset.univ} {hm}
    {k : PUnit → Prog (TpuEff nD τ sig (Elt F) Λ₀ (thr d i).2) β} {s : St F} {Q : β → St F → Prop}
    (h : W d i (k ⟨⟩) { s with l2v := st s.l2v (off 0) w } Q) :
    W d i (Prog.lift (.store (Memref.whole cc0_scratch7 : Memref sig .scVector .vmem S80 .f32) (Rect.unit (s := S80) off S16.size inb) w Finset.univ hx hm) >>= k) s Q := by
  have e : ((Memref.whole cc0_scratch7 : Memref sig .scVector .vmem S80 .f32).access (Rect.unit (s := S80) off S16.size inb)).write (Elt F) (fun j => s.l2v (j 0).val) w Finset.univ
      = (fun j => st s.l2v (off 0) w (j 0).val) := by
    refine write_by _ _ _ _ (fun x => ?_) (fun j hj => ?_)
    · exact (show st s.l2v (off 0) w (off 0 + 1 * (x 0).val) = w x by rw [Nat.one_mul]; exact congrFun (ld_st s.l2v (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch7 : Memref sig .scVector .vmem S80 .f32).access (Rect.unit (s := S80) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S80.Idx => s.l2v (j 0).val) (g := fun j : S80.Idx => st s.l2v (off 0) w (j 0).val)
    (s' := { s with l2v := st s.l2v (off 0) w }) (own_l2v s (st s.l2v (off 0) w)) e h

theorem own_l2i (s : St F) (g : ℕ → BitVec 32) : (own d i s : sProp 𝕄) ⊢
    iprop((((Memref.whole cc0_scratch8 : Memref sig .scVector .vmem S80 .i32).view.loc (thr d i)) ↦{fullShare} (fun j => s.l2i (j 0).val)) ∗
      ((((Memref.whole cc0_scratch8 : Memref sig .scVector .vmem S80 .i32).view.loc (thr d i)) ↦{fullShare} (fun j => g (j 0).val)) -∗ own d i { s with l2i := g })) := by
  unfold own
  iintro ⟨H0, H1, H2, H3, H4, H5, H6, H7, H8, H9, H10, H11, H12, H13, H14, H15, H16, H17, H18⟩
  isplitl [H8]
  · iexact H8
  · iintro Hg
    isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [Hg]; iexact Hg
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [H17]; iexact H17
    iexact H18

theorem W_ld_l2i {β : Type} {off : Fin 1 → ℕ} {inb : ∀ a, off a + S16.size a ≤ S80.size a}
    {hl : (Memref.whole cc0_scratch8 : Memref sig .scVector .vmem S80 .i32).view.LoadsAt (Rect.unit (s := S80) off S16.size inb).toLoadRect}
    {k : Vec F S16 .i32 → Prog (TpuEff nD τ sig (Elt F) Λ₀ (thr d i).2) β} {s : St F} {Q : β → St F → Prop}
    (h : W d i (k (ld s.l2i (off 0))) s Q) :
    W d i (Prog.lift (.load (Memref.whole cc0_scratch8 : Memref sig .scVector .vmem S80 .i32) (Rect.unit (s := S80) off S16.size inb).toLoadRect hl) >>= k) s Q := by
  refine ld_gen (f := fun j : S80.Idx => s.l2i (j 0).val) (own_l2i s s.l2i) (ld s.l2i (off 0)) ?_ h
  funext x; exact congrArg s.l2i (show off 0 + 1 * (x 0).val = off 0 + (x 0).val by omega)

theorem W_st_l2i {β : Type} {off : Fin 1 → ℕ} {inb : ∀ a, off a + S16.size a ≤ S80.size a} {w : Vec F S16 .i32}
    {hx : ((Memref.whole cc0_scratch8 : Memref sig .scVector .vmem S80 .i32).access (Rect.unit (s := S80) off S16.size inb)).Stores Finset.univ} {hm}
    {k : PUnit → Prog (TpuEff nD τ sig (Elt F) Λ₀ (thr d i).2) β} {s : St F} {Q : β → St F → Prop}
    (h : W d i (k ⟨⟩) { s with l2i := st s.l2i (off 0) w } Q) :
    W d i (Prog.lift (.store (Memref.whole cc0_scratch8 : Memref sig .scVector .vmem S80 .i32) (Rect.unit (s := S80) off S16.size inb) w Finset.univ hx hm) >>= k) s Q := by
  have e : ((Memref.whole cc0_scratch8 : Memref sig .scVector .vmem S80 .i32).access (Rect.unit (s := S80) off S16.size inb)).write (Elt F) (fun j => s.l2i (j 0).val) w Finset.univ
      = (fun j => st s.l2i (off 0) w (j 0).val) := by
    refine write_by _ _ _ _ (fun x => ?_) (fun j hj => ?_)
    · exact (show st s.l2i (off 0) w (off 0 + 1 * (x 0).val) = w x by rw [Nat.one_mul]; exact congrFun (ld_st s.l2i (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch8 : Memref sig .scVector .vmem S80 .i32).access (Rect.unit (s := S80) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S80.Idx => s.l2i (j 0).val) (g := fun j : S80.Idx => st s.l2i (off 0) w (j 0).val)
    (s' := { s with l2i := st s.l2i (off 0) w }) (own_l2i s (st s.l2i (off 0) w)) e h

theorem own_ky0 (s : St F) (g : ℕ → F .f32) : (own d i s : sProp 𝕄) ⊢
    iprop((((Memref.whole cc0_scratch9 : Memref sig .scVector .vmem S112 .f32).view.loc (thr d i)) ↦{fullShare} (fun j => s.ky0 (j 0).val)) ∗
      ((((Memref.whole cc0_scratch9 : Memref sig .scVector .vmem S112 .f32).view.loc (thr d i)) ↦{fullShare} (fun j => g (j 0).val)) -∗ own d i { s with ky0 := g })) := by
  unfold own
  iintro ⟨H0, H1, H2, H3, H4, H5, H6, H7, H8, H9, H10, H11, H12, H13, H14, H15, H16, H17, H18⟩
  isplitl [H9]
  · iexact H9
  · iintro Hg
    isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [H8]; iexact H8
    isplitl [Hg]; iexact Hg
    isplitl [H10]; iexact H10
    isplitl [H11]; iexact H11
    isplitl [H12]; iexact H12
    isplitl [H13]; iexact H13
    isplitl [H14]; iexact H14
    isplitl [H15]; iexact H15
    isplitl [H16]; iexact H16
    isplitl [H17]; iexact H17
    iexact H18

theorem W_ld_ky0 {β : Type} {off : Fin 1 → ℕ} {inb : ∀ a, off a + S16.size a ≤ S112.size a}
    {hl : (Memref.whole cc0_scratch9 : Memref sig .scVector .vmem S112 .f32).view.LoadsAt (Rect.unit (s := S112) off S16.size inb).toLoadRect}
    {k : Vec F S16 .f32 → Prog (TpuEff nD τ sig (Elt F) Λ₀ (thr d i).2) β} {s : St F} {Q : β → St F → Prop}
    (h : W d i (k (ld s.ky0 (off 0))) s Q) :
    W d i (Prog.lift (.load (Memref.whole cc0_scratch9 : Memref sig .scVector .vmem S112 .f32) (Rect.unit (s := S112) off S16.size inb).toLoadRect hl) >>= k) s Q := by
  refine ld_gen (f := fun j : S112.Idx => s.ky0 (j 0).val) (own_ky0 s s.ky0) (ld s.ky0 (off 0)) ?_ h
  funext x; exact congrArg s.ky0 (show off 0 + 1 * (x 0).val = off 0 + (x 0).val by omega)

theorem W_st_ky0 {β : Type} {off : Fin 1 → ℕ} {inb : ∀ a, off a + S16.size a ≤ S112.size a} {w : Vec F S16 .f32}
    {hx : ((Memref.whole cc0_scratch9 : Memref sig .scVector .vmem S112 .f32).access (Rect.unit (s := S112) off S16.size inb)).Stores Finset.univ} {hm}
    {k : PUnit → Prog (TpuEff nD τ sig (Elt F) Λ₀ (thr d i).2) β} {s : St F} {Q : β → St F → Prop}
    (h : W d i (k ⟨⟩) { s with ky0 := st s.ky0 (off 0) w } Q) :
    W d i (Prog.lift (.store (Memref.whole cc0_scratch9 : Memref sig .scVector .vmem S112 .f32) (Rect.unit (s := S112) off S16.size inb) w Finset.univ hx hm) >>= k) s Q := by
  have e : ((Memref.whole cc0_scratch9 : Memref sig .scVector .vmem S112 .f32).access (Rect.unit (s := S112) off S16.size inb)).write (Elt F) (fun j => s.ky0 (j 0).val) w Finset.univ
      = (fun j => st s.ky0 (off 0) w (j 0).val) := by
    refine write_by _ _ _ _ (fun x => ?_) (fun j hj => ?_)
    · exact (show st s.ky0 (off 0) w (off 0 + 1 * (x 0).val) = w x by rw [Nat.one_mul]; exact congrFun (ld_st s.ky0 (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch9 : Memref sig .scVector .vmem S112 .f32).access (Rect.unit (s := S112) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S112.Idx => s.ky0 (j 0).val) (g := fun j : S112.Idx => st s.ky0 (off 0) w (j 0).val)
    (s' := { s with ky0 := st s.ky0 (off 0) w }) (own_ky0 s (st s.ky0 (off 0) w)) e h

theorem own_kx0 (s : St F) (g : ℕ → F .f32) : (own d i s : sProp 𝕄) ⊢
    iprop((((Memref.whole cc0_scratch10 : Memref sig .scVector .vmem S112 .f32).view.loc (thr d i)) ↦{fullShare} (fun j => s.kx0 (j 0).val)) ∗
      ((((Memref.whole cc0_scratch10 : Memref sig .scVector .vmem S112 .f32).view.loc (thr d i)) ↦{fullShare} (fun j => g (j 0).val)) -∗ own d i { s with kx0 := g })) := by
  unfold own
  iintro ⟨H0, H1, H2, H3, H4, H5, H6, H7, H8, H9, H10, H11, H12, H13, H14, H15, H16, H17, H18⟩
  isplitl [H10]
  · iexact H10
  · iintro Hg
    isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [Hg]; iexact Hg
    isplitl [H11]; iexact H11
    isplitl [H12]; iexact H12
    isplitl [H13]; iexact H13
    isplitl [H14]; iexact H14
    isplitl [H15]; iexact H15
    isplitl [H16]; iexact H16
    isplitl [H17]; iexact H17
    iexact H18

theorem W_ld_kx0 {β : Type} {off : Fin 1 → ℕ} {inb : ∀ a, off a + S16.size a ≤ S112.size a}
    {hl : (Memref.whole cc0_scratch10 : Memref sig .scVector .vmem S112 .f32).view.LoadsAt (Rect.unit (s := S112) off S16.size inb).toLoadRect}
    {k : Vec F S16 .f32 → Prog (TpuEff nD τ sig (Elt F) Λ₀ (thr d i).2) β} {s : St F} {Q : β → St F → Prop}
    (h : W d i (k (ld s.kx0 (off 0))) s Q) :
    W d i (Prog.lift (.load (Memref.whole cc0_scratch10 : Memref sig .scVector .vmem S112 .f32) (Rect.unit (s := S112) off S16.size inb).toLoadRect hl) >>= k) s Q := by
  refine ld_gen (f := fun j : S112.Idx => s.kx0 (j 0).val) (own_kx0 s s.kx0) (ld s.kx0 (off 0)) ?_ h
  funext x; exact congrArg s.kx0 (show off 0 + 1 * (x 0).val = off 0 + (x 0).val by omega)

theorem W_st_kx0 {β : Type} {off : Fin 1 → ℕ} {inb : ∀ a, off a + S16.size a ≤ S112.size a} {w : Vec F S16 .f32}
    {hx : ((Memref.whole cc0_scratch10 : Memref sig .scVector .vmem S112 .f32).access (Rect.unit (s := S112) off S16.size inb)).Stores Finset.univ} {hm}
    {k : PUnit → Prog (TpuEff nD τ sig (Elt F) Λ₀ (thr d i).2) β} {s : St F} {Q : β → St F → Prop}
    (h : W d i (k ⟨⟩) { s with kx0 := st s.kx0 (off 0) w } Q) :
    W d i (Prog.lift (.store (Memref.whole cc0_scratch10 : Memref sig .scVector .vmem S112 .f32) (Rect.unit (s := S112) off S16.size inb) w Finset.univ hx hm) >>= k) s Q := by
  have e : ((Memref.whole cc0_scratch10 : Memref sig .scVector .vmem S112 .f32).access (Rect.unit (s := S112) off S16.size inb)).write (Elt F) (fun j => s.kx0 (j 0).val) w Finset.univ
      = (fun j => st s.kx0 (off 0) w (j 0).val) := by
    refine write_by _ _ _ _ (fun x => ?_) (fun j hj => ?_)
    · exact (show st s.kx0 (off 0) w (off 0 + 1 * (x 0).val) = w x by rw [Nat.one_mul]; exact congrFun (ld_st s.kx0 (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch10 : Memref sig .scVector .vmem S112 .f32).access (Rect.unit (s := S112) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S112.Idx => s.kx0 (j 0).val) (g := fun j : S112.Idx => st s.kx0 (off 0) w (j 0).val)
    (s' := { s with kx0 := st s.kx0 (off 0) w }) (own_kx0 s (st s.kx0 (off 0) w)) e h

theorem own_ky1 (s : St F) (g : ℕ → F .f32) : (own d i s : sProp 𝕄) ⊢
    iprop((((Memref.whole cc0_scratch11 : Memref sig .scVector .vmem S112 .f32).view.loc (thr d i)) ↦{fullShare} (fun j => s.ky1 (j 0).val)) ∗
      ((((Memref.whole cc0_scratch11 : Memref sig .scVector .vmem S112 .f32).view.loc (thr d i)) ↦{fullShare} (fun j => g (j 0).val)) -∗ own d i { s with ky1 := g })) := by
  unfold own
  iintro ⟨H0, H1, H2, H3, H4, H5, H6, H7, H8, H9, H10, H11, H12, H13, H14, H15, H16, H17, H18⟩
  isplitl [H11]
  · iexact H11
  · iintro Hg
    isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [Hg]; iexact Hg
    isplitl [H12]; iexact H12
    isplitl [H13]; iexact H13
    isplitl [H14]; iexact H14
    isplitl [H15]; iexact H15
    isplitl [H16]; iexact H16
    isplitl [H17]; iexact H17
    iexact H18

theorem W_ld_ky1 {β : Type} {off : Fin 1 → ℕ} {inb : ∀ a, off a + S16.size a ≤ S112.size a}
    {hl : (Memref.whole cc0_scratch11 : Memref sig .scVector .vmem S112 .f32).view.LoadsAt (Rect.unit (s := S112) off S16.size inb).toLoadRect}
    {k : Vec F S16 .f32 → Prog (TpuEff nD τ sig (Elt F) Λ₀ (thr d i).2) β} {s : St F} {Q : β → St F → Prop}
    (h : W d i (k (ld s.ky1 (off 0))) s Q) :
    W d i (Prog.lift (.load (Memref.whole cc0_scratch11 : Memref sig .scVector .vmem S112 .f32) (Rect.unit (s := S112) off S16.size inb).toLoadRect hl) >>= k) s Q := by
  refine ld_gen (f := fun j : S112.Idx => s.ky1 (j 0).val) (own_ky1 s s.ky1) (ld s.ky1 (off 0)) ?_ h
  funext x; exact congrArg s.ky1 (show off 0 + 1 * (x 0).val = off 0 + (x 0).val by omega)

theorem W_st_ky1 {β : Type} {off : Fin 1 → ℕ} {inb : ∀ a, off a + S16.size a ≤ S112.size a} {w : Vec F S16 .f32}
    {hx : ((Memref.whole cc0_scratch11 : Memref sig .scVector .vmem S112 .f32).access (Rect.unit (s := S112) off S16.size inb)).Stores Finset.univ} {hm}
    {k : PUnit → Prog (TpuEff nD τ sig (Elt F) Λ₀ (thr d i).2) β} {s : St F} {Q : β → St F → Prop}
    (h : W d i (k ⟨⟩) { s with ky1 := st s.ky1 (off 0) w } Q) :
    W d i (Prog.lift (.store (Memref.whole cc0_scratch11 : Memref sig .scVector .vmem S112 .f32) (Rect.unit (s := S112) off S16.size inb) w Finset.univ hx hm) >>= k) s Q := by
  have e : ((Memref.whole cc0_scratch11 : Memref sig .scVector .vmem S112 .f32).access (Rect.unit (s := S112) off S16.size inb)).write (Elt F) (fun j => s.ky1 (j 0).val) w Finset.univ
      = (fun j => st s.ky1 (off 0) w (j 0).val) := by
    refine write_by _ _ _ _ (fun x => ?_) (fun j hj => ?_)
    · exact (show st s.ky1 (off 0) w (off 0 + 1 * (x 0).val) = w x by rw [Nat.one_mul]; exact congrFun (ld_st s.ky1 (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch11 : Memref sig .scVector .vmem S112 .f32).access (Rect.unit (s := S112) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S112.Idx => s.ky1 (j 0).val) (g := fun j : S112.Idx => st s.ky1 (off 0) w (j 0).val)
    (s' := { s with ky1 := st s.ky1 (off 0) w }) (own_ky1 s (st s.ky1 (off 0) w)) e h

theorem own_kx1 (s : St F) (g : ℕ → F .f32) : (own d i s : sProp 𝕄) ⊢
    iprop((((Memref.whole cc0_scratch12 : Memref sig .scVector .vmem S112 .f32).view.loc (thr d i)) ↦{fullShare} (fun j => s.kx1 (j 0).val)) ∗
      ((((Memref.whole cc0_scratch12 : Memref sig .scVector .vmem S112 .f32).view.loc (thr d i)) ↦{fullShare} (fun j => g (j 0).val)) -∗ own d i { s with kx1 := g })) := by
  unfold own
  iintro ⟨H0, H1, H2, H3, H4, H5, H6, H7, H8, H9, H10, H11, H12, H13, H14, H15, H16, H17, H18⟩
  isplitl [H12]
  · iexact H12
  · iintro Hg
    isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [Hg]; iexact Hg
    isplitl [H13]; iexact H13
    isplitl [H14]; iexact H14
    isplitl [H15]; iexact H15
    isplitl [H16]; iexact H16
    isplitl [H17]; iexact H17
    iexact H18

theorem W_ld_kx1 {β : Type} {off : Fin 1 → ℕ} {inb : ∀ a, off a + S16.size a ≤ S112.size a}
    {hl : (Memref.whole cc0_scratch12 : Memref sig .scVector .vmem S112 .f32).view.LoadsAt (Rect.unit (s := S112) off S16.size inb).toLoadRect}
    {k : Vec F S16 .f32 → Prog (TpuEff nD τ sig (Elt F) Λ₀ (thr d i).2) β} {s : St F} {Q : β → St F → Prop}
    (h : W d i (k (ld s.kx1 (off 0))) s Q) :
    W d i (Prog.lift (.load (Memref.whole cc0_scratch12 : Memref sig .scVector .vmem S112 .f32) (Rect.unit (s := S112) off S16.size inb).toLoadRect hl) >>= k) s Q := by
  refine ld_gen (f := fun j : S112.Idx => s.kx1 (j 0).val) (own_kx1 s s.kx1) (ld s.kx1 (off 0)) ?_ h
  funext x; exact congrArg s.kx1 (show off 0 + 1 * (x 0).val = off 0 + (x 0).val by omega)

theorem W_st_kx1 {β : Type} {off : Fin 1 → ℕ} {inb : ∀ a, off a + S16.size a ≤ S112.size a} {w : Vec F S16 .f32}
    {hx : ((Memref.whole cc0_scratch12 : Memref sig .scVector .vmem S112 .f32).access (Rect.unit (s := S112) off S16.size inb)).Stores Finset.univ} {hm}
    {k : PUnit → Prog (TpuEff nD τ sig (Elt F) Λ₀ (thr d i).2) β} {s : St F} {Q : β → St F → Prop}
    (h : W d i (k ⟨⟩) { s with kx1 := st s.kx1 (off 0) w } Q) :
    W d i (Prog.lift (.store (Memref.whole cc0_scratch12 : Memref sig .scVector .vmem S112 .f32) (Rect.unit (s := S112) off S16.size inb) w Finset.univ hx hm) >>= k) s Q := by
  have e : ((Memref.whole cc0_scratch12 : Memref sig .scVector .vmem S112 .f32).access (Rect.unit (s := S112) off S16.size inb)).write (Elt F) (fun j => s.kx1 (j 0).val) w Finset.univ
      = (fun j => st s.kx1 (off 0) w (j 0).val) := by
    refine write_by _ _ _ _ (fun x => ?_) (fun j hj => ?_)
    · exact (show st s.kx1 (off 0) w (off 0 + 1 * (x 0).val) = w x by rw [Nat.one_mul]; exact congrFun (ld_st s.kx1 (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch12 : Memref sig .scVector .vmem S112 .f32).access (Rect.unit (s := S112) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S112.Idx => s.kx1 (j 0).val) (g := fun j : S112.Idx => st s.kx1 (off 0) w (j 0).val)
    (s' := { s with kx1 := st s.kx1 (off 0) w }) (own_kx1 s (st s.kx1 (off 0) w)) e h

theorem own_ka (s : St F) (g : ℕ → F .f32) : (own d i s : sProp 𝕄) ⊢
    iprop((((Memref.whole cc0_scratch13 : Memref sig .scVector .vmem S112 .f32).view.loc (thr d i)) ↦{fullShare} (fun j => s.ka (j 0).val)) ∗
      ((((Memref.whole cc0_scratch13 : Memref sig .scVector .vmem S112 .f32).view.loc (thr d i)) ↦{fullShare} (fun j => g (j 0).val)) -∗ own d i { s with ka := g })) := by
  unfold own
  iintro ⟨H0, H1, H2, H3, H4, H5, H6, H7, H8, H9, H10, H11, H12, H13, H14, H15, H16, H17, H18⟩
  isplitl [H13]
  · iexact H13
  · iintro Hg
    isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [Hg]; iexact Hg
    isplitl [H14]; iexact H14
    isplitl [H15]; iexact H15
    isplitl [H16]; iexact H16
    isplitl [H17]; iexact H17
    iexact H18

theorem W_ld_ka {β : Type} {off : Fin 1 → ℕ} {inb : ∀ a, off a + S16.size a ≤ S112.size a}
    {hl : (Memref.whole cc0_scratch13 : Memref sig .scVector .vmem S112 .f32).view.LoadsAt (Rect.unit (s := S112) off S16.size inb).toLoadRect}
    {k : Vec F S16 .f32 → Prog (TpuEff nD τ sig (Elt F) Λ₀ (thr d i).2) β} {s : St F} {Q : β → St F → Prop}
    (h : W d i (k (ld s.ka (off 0))) s Q) :
    W d i (Prog.lift (.load (Memref.whole cc0_scratch13 : Memref sig .scVector .vmem S112 .f32) (Rect.unit (s := S112) off S16.size inb).toLoadRect hl) >>= k) s Q := by
  refine ld_gen (f := fun j : S112.Idx => s.ka (j 0).val) (own_ka s s.ka) (ld s.ka (off 0)) ?_ h
  funext x; exact congrArg s.ka (show off 0 + 1 * (x 0).val = off 0 + (x 0).val by omega)

theorem W_st_ka {β : Type} {off : Fin 1 → ℕ} {inb : ∀ a, off a + S16.size a ≤ S112.size a} {w : Vec F S16 .f32}
    {hx : ((Memref.whole cc0_scratch13 : Memref sig .scVector .vmem S112 .f32).access (Rect.unit (s := S112) off S16.size inb)).Stores Finset.univ} {hm}
    {k : PUnit → Prog (TpuEff nD τ sig (Elt F) Λ₀ (thr d i).2) β} {s : St F} {Q : β → St F → Prop}
    (h : W d i (k ⟨⟩) { s with ka := st s.ka (off 0) w } Q) :
    W d i (Prog.lift (.store (Memref.whole cc0_scratch13 : Memref sig .scVector .vmem S112 .f32) (Rect.unit (s := S112) off S16.size inb) w Finset.univ hx hm) >>= k) s Q := by
  have e : ((Memref.whole cc0_scratch13 : Memref sig .scVector .vmem S112 .f32).access (Rect.unit (s := S112) off S16.size inb)).write (Elt F) (fun j => s.ka (j 0).val) w Finset.univ
      = (fun j => st s.ka (off 0) w (j 0).val) := by
    refine write_by _ _ _ _ (fun x => ?_) (fun j hj => ?_)
    · exact (show st s.ka (off 0) w (off 0 + 1 * (x 0).val) = w x by rw [Nat.one_mul]; exact congrFun (ld_st s.ka (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch13 : Memref sig .scVector .vmem S112 .f32).access (Rect.unit (s := S112) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S112.Idx => s.ka (j 0).val) (g := fun j : S112.Idx => st s.ka (off 0) w (j 0).val)
    (s' := { s with ka := st s.ka (off 0) w }) (own_ka s (st s.ka (off 0) w)) e h

theorem own_ksc (s : St F) (g : ℕ → F .f32) : (own d i s : sProp 𝕄) ⊢
    iprop((((Memref.whole cc0_scratch14 : Memref sig .scVector .vmem S112 .f32).view.loc (thr d i)) ↦{fullShare} (fun j => s.ksc (j 0).val)) ∗
      ((((Memref.whole cc0_scratch14 : Memref sig .scVector .vmem S112 .f32).view.loc (thr d i)) ↦{fullShare} (fun j => g (j 0).val)) -∗ own d i { s with ksc := g })) := by
  unfold own
  iintro ⟨H0, H1, H2, H3, H4, H5, H6, H7, H8, H9, H10, H11, H12, H13, H14, H15, H16, H17, H18⟩
  isplitl [H14]
  · iexact H14
  · iintro Hg
    isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [Hg]; iexact Hg
    isplitl [H15]; iexact H15
    isplitl [H16]; iexact H16
    isplitl [H17]; iexact H17
    iexact H18

theorem W_ld_ksc {β : Type} {off : Fin 1 → ℕ} {inb : ∀ a, off a + S16.size a ≤ S112.size a}
    {hl : (Memref.whole cc0_scratch14 : Memref sig .scVector .vmem S112 .f32).view.LoadsAt (Rect.unit (s := S112) off S16.size inb).toLoadRect}
    {k : Vec F S16 .f32 → Prog (TpuEff nD τ sig (Elt F) Λ₀ (thr d i).2) β} {s : St F} {Q : β → St F → Prop}
    (h : W d i (k (ld s.ksc (off 0))) s Q) :
    W d i (Prog.lift (.load (Memref.whole cc0_scratch14 : Memref sig .scVector .vmem S112 .f32) (Rect.unit (s := S112) off S16.size inb).toLoadRect hl) >>= k) s Q := by
  refine ld_gen (f := fun j : S112.Idx => s.ksc (j 0).val) (own_ksc s s.ksc) (ld s.ksc (off 0)) ?_ h
  funext x; exact congrArg s.ksc (show off 0 + 1 * (x 0).val = off 0 + (x 0).val by omega)

theorem W_st_ksc {β : Type} {off : Fin 1 → ℕ} {inb : ∀ a, off a + S16.size a ≤ S112.size a} {w : Vec F S16 .f32}
    {hx : ((Memref.whole cc0_scratch14 : Memref sig .scVector .vmem S112 .f32).access (Rect.unit (s := S112) off S16.size inb)).Stores Finset.univ} {hm}
    {k : PUnit → Prog (TpuEff nD τ sig (Elt F) Λ₀ (thr d i).2) β} {s : St F} {Q : β → St F → Prop}
    (h : W d i (k ⟨⟩) { s with ksc := st s.ksc (off 0) w } Q) :
    W d i (Prog.lift (.store (Memref.whole cc0_scratch14 : Memref sig .scVector .vmem S112 .f32) (Rect.unit (s := S112) off S16.size inb) w Finset.univ hx hm) >>= k) s Q := by
  have e : ((Memref.whole cc0_scratch14 : Memref sig .scVector .vmem S112 .f32).access (Rect.unit (s := S112) off S16.size inb)).write (Elt F) (fun j => s.ksc (j 0).val) w Finset.univ
      = (fun j => st s.ksc (off 0) w (j 0).val) := by
    refine write_by _ _ _ _ (fun x => ?_) (fun j hj => ?_)
    · exact (show st s.ksc (off 0) w (off 0 + 1 * (x 0).val) = w x by rw [Nat.one_mul]; exact congrFun (ld_st s.ksc (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch14 : Memref sig .scVector .vmem S112 .f32).access (Rect.unit (s := S112) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S112.Idx => s.ksc (j 0).val) (g := fun j : S112.Idx => st s.ksc (off 0) w (j 0).val)
    (s' := { s with ksc := st s.ksc (off 0) w }) (own_ksc s (st s.ksc (off 0) w)) e h

theorem own_qv (s : St F) (g : ℕ → F .f32) : (own d i s : sProp 𝕄) ⊢
    iprop((((Memref.whole cc0_scratch15 : Memref sig .scVector .vmem S112 .f32).view.loc (thr d i)) ↦{fullShare} (fun j => s.qv (j 0).val)) ∗
      ((((Memref.whole cc0_scratch15 : Memref sig .scVector .vmem S112 .f32).view.loc (thr d i)) ↦{fullShare} (fun j => g (j 0).val)) -∗ own d i { s with qv := g })) := by
  unfold own
  iintro ⟨H0, H1, H2, H3, H4, H5, H6, H7, H8, H9, H10, H11, H12, H13, H14, H15, H16, H17, H18⟩
  isplitl [H15]
  · iexact H15
  · iintro Hg
    isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [Hg]; iexact Hg
    isplitl [H16]; iexact H16
    isplitl [H17]; iexact H17
    iexact H18

theorem W_ld_qv {β : Type} {off : Fin 1 → ℕ} {inb : ∀ a, off a + S16.size a ≤ S112.size a}
    {hl : (Memref.whole cc0_scratch15 : Memref sig .scVector .vmem S112 .f32).view.LoadsAt (Rect.unit (s := S112) off S16.size inb).toLoadRect}
    {k : Vec F S16 .f32 → Prog (TpuEff nD τ sig (Elt F) Λ₀ (thr d i).2) β} {s : St F} {Q : β → St F → Prop}
    (h : W d i (k (ld s.qv (off 0))) s Q) :
    W d i (Prog.lift (.load (Memref.whole cc0_scratch15 : Memref sig .scVector .vmem S112 .f32) (Rect.unit (s := S112) off S16.size inb).toLoadRect hl) >>= k) s Q := by
  refine ld_gen (f := fun j : S112.Idx => s.qv (j 0).val) (own_qv s s.qv) (ld s.qv (off 0)) ?_ h
  funext x; exact congrArg s.qv (show off 0 + 1 * (x 0).val = off 0 + (x 0).val by omega)

theorem W_st_qv {β : Type} {off : Fin 1 → ℕ} {inb : ∀ a, off a + S16.size a ≤ S112.size a} {w : Vec F S16 .f32}
    {hx : ((Memref.whole cc0_scratch15 : Memref sig .scVector .vmem S112 .f32).access (Rect.unit (s := S112) off S16.size inb)).Stores Finset.univ} {hm}
    {k : PUnit → Prog (TpuEff nD τ sig (Elt F) Λ₀ (thr d i).2) β} {s : St F} {Q : β → St F → Prop}
    (h : W d i (k ⟨⟩) { s with qv := st s.qv (off 0) w } Q) :
    W d i (Prog.lift (.store (Memref.whole cc0_scratch15 : Memref sig .scVector .vmem S112 .f32) (Rect.unit (s := S112) off S16.size inb) w Finset.univ hx hm) >>= k) s Q := by
  have e : ((Memref.whole cc0_scratch15 : Memref sig .scVector .vmem S112 .f32).access (Rect.unit (s := S112) off S16.size inb)).write (Elt F) (fun j => s.qv (j 0).val) w Finset.univ
      = (fun j => st s.qv (off 0) w (j 0).val) := by
    refine write_by _ _ _ _ (fun x => ?_) (fun j hj => ?_)
    · exact (show st s.qv (off 0) w (off 0 + 1 * (x 0).val) = w x by rw [Nat.one_mul]; exact congrFun (ld_st s.qv (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch15 : Memref sig .scVector .vmem S112 .f32).access (Rect.unit (s := S112) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S112.Idx => s.qv (j 0).val) (g := fun j : S112.Idx => st s.qv (off 0) w (j 0).val)
    (s' := { s with qv := st s.qv (off 0) w }) (own_qv s (st s.qv (off 0) w)) e h

theorem own_hb (s : St F) (g : ℕ → F .f32) : (own d i s : sProp 𝕄) ⊢
    iprop((((Memref.whole cc0_scratch16 : Memref sig .scVector .vmem S32 .f32).view.loc (thr d i)) ↦{fullShare} (fun j => s.hb (j 0).val)) ∗
      ((((Memref.whole cc0_scratch16 : Memref sig .scVector .vmem S32 .f32).view.loc (thr d i)) ↦{fullShare} (fun j => g (j 0).val)) -∗ own d i { s with hb := g })) := by
  unfold own
  iintro ⟨H0, H1, H2, H3, H4, H5, H6, H7, H8, H9, H10, H11, H12, H13, H14, H15, H16, H17, H18⟩
  isplitl [H16]
  · iexact H16
  · iintro Hg
    isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [Hg]; iexact Hg
    isplitl [H17]; iexact H17
    iexact H18

theorem W_ld_hb {β : Type} {off : Fin 1 → ℕ} {inb : ∀ a, off a + S16.size a ≤ S32.size a}
    {hl : (Memref.whole cc0_scratch16 : Memref sig .scVector .vmem S32 .f32).view.LoadsAt (Rect.unit (s := S32) off S16.size inb).toLoadRect}
    {k : Vec F S16 .f32 → Prog (TpuEff nD τ sig (Elt F) Λ₀ (thr d i).2) β} {s : St F} {Q : β → St F → Prop}
    (h : W d i (k (ld s.hb (off 0))) s Q) :
    W d i (Prog.lift (.load (Memref.whole cc0_scratch16 : Memref sig .scVector .vmem S32 .f32) (Rect.unit (s := S32) off S16.size inb).toLoadRect hl) >>= k) s Q := by
  refine ld_gen (f := fun j : S32.Idx => s.hb (j 0).val) (own_hb s s.hb) (ld s.hb (off 0)) ?_ h
  funext x; exact congrArg s.hb (show off 0 + 1 * (x 0).val = off 0 + (x 0).val by omega)

theorem W_st_hb {β : Type} {off : Fin 1 → ℕ} {inb : ∀ a, off a + S16.size a ≤ S32.size a} {w : Vec F S16 .f32}
    {hx : ((Memref.whole cc0_scratch16 : Memref sig .scVector .vmem S32 .f32).access (Rect.unit (s := S32) off S16.size inb)).Stores Finset.univ} {hm}
    {k : PUnit → Prog (TpuEff nD τ sig (Elt F) Λ₀ (thr d i).2) β} {s : St F} {Q : β → St F → Prop}
    (h : W d i (k ⟨⟩) { s with hb := st s.hb (off 0) w } Q) :
    W d i (Prog.lift (.store (Memref.whole cc0_scratch16 : Memref sig .scVector .vmem S32 .f32) (Rect.unit (s := S32) off S16.size inb) w Finset.univ hx hm) >>= k) s Q := by
  have e : ((Memref.whole cc0_scratch16 : Memref sig .scVector .vmem S32 .f32).access (Rect.unit (s := S32) off S16.size inb)).write (Elt F) (fun j => s.hb (j 0).val) w Finset.univ
      = (fun j => st s.hb (off 0) w (j 0).val) := by
    refine write_by _ _ _ _ (fun x => ?_) (fun j hj => ?_)
    · exact (show st s.hb (off 0) w (off 0 + 1 * (x 0).val) = w x by rw [Nat.one_mul]; exact congrFun (ld_st s.hb (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch16 : Memref sig .scVector .vmem S32 .f32).access (Rect.unit (s := S32) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S32.Idx => s.hb (j 0).val) (g := fun j : S32.Idx => st s.hb (off 0) w (j 0).val)
    (s' := { s with hb := st s.hb (off 0) w }) (own_hb s (st s.hb (off 0) w)) e h

theorem own_ib (s : St F) (g : ℕ → BitVec 32) : (own d i s : sProp 𝕄) ⊢
    iprop((((Memref.whole cc0_scratch17 : Memref sig .scVector .vmem S32 .i32).view.loc (thr d i)) ↦{fullShare} (fun j => s.ib (j 0).val)) ∗
      ((((Memref.whole cc0_scratch17 : Memref sig .scVector .vmem S32 .i32).view.loc (thr d i)) ↦{fullShare} (fun j => g (j 0).val)) -∗ own d i { s with ib := g })) := by
  unfold own
  iintro ⟨H0, H1, H2, H3, H4, H5, H6, H7, H8, H9, H10, H11, H12, H13, H14, H15, H16, H17, H18⟩
  isplitl [H17]
  · iexact H17
  · iintro Hg
    isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [Hg]; iexact Hg
    iexact H18

theorem W_ld_ib {β : Type} {off : Fin 1 → ℕ} {inb : ∀ a, off a + S16.size a ≤ S32.size a}
    {hl : (Memref.whole cc0_scratch17 : Memref sig .scVector .vmem S32 .i32).view.LoadsAt (Rect.unit (s := S32) off S16.size inb).toLoadRect}
    {k : Vec F S16 .i32 → Prog (TpuEff nD τ sig (Elt F) Λ₀ (thr d i).2) β} {s : St F} {Q : β → St F → Prop}
    (h : W d i (k (ld s.ib (off 0))) s Q) :
    W d i (Prog.lift (.load (Memref.whole cc0_scratch17 : Memref sig .scVector .vmem S32 .i32) (Rect.unit (s := S32) off S16.size inb).toLoadRect hl) >>= k) s Q := by
  refine ld_gen (f := fun j : S32.Idx => s.ib (j 0).val) (own_ib s s.ib) (ld s.ib (off 0)) ?_ h
  funext x; exact congrArg s.ib (show off 0 + 1 * (x 0).val = off 0 + (x 0).val by omega)

theorem W_st_ib {β : Type} {off : Fin 1 → ℕ} {inb : ∀ a, off a + S16.size a ≤ S32.size a} {w : Vec F S16 .i32}
    {hx : ((Memref.whole cc0_scratch17 : Memref sig .scVector .vmem S32 .i32).access (Rect.unit (s := S32) off S16.size inb)).Stores Finset.univ} {hm}
    {k : PUnit → Prog (TpuEff nD τ sig (Elt F) Λ₀ (thr d i).2) β} {s : St F} {Q : β → St F → Prop}
    (h : W d i (k ⟨⟩) { s with ib := st s.ib (off 0) w } Q) :
    W d i (Prog.lift (.store (Memref.whole cc0_scratch17 : Memref sig .scVector .vmem S32 .i32) (Rect.unit (s := S32) off S16.size inb) w Finset.univ hx hm) >>= k) s Q := by
  have e : ((Memref.whole cc0_scratch17 : Memref sig .scVector .vmem S32 .i32).access (Rect.unit (s := S32) off S16.size inb)).write (Elt F) (fun j => s.ib (j 0).val) w Finset.univ
      = (fun j => st s.ib (off 0) w (j 0).val) := by
    refine write_by _ _ _ _ (fun x => ?_) (fun j hj => ?_)
    · exact (show st s.ib (off 0) w (off 0 + 1 * (x 0).val) = w x by rw [Nat.one_mul]; exact congrFun (ld_st s.ib (off 0) w) x)
    · refine if_neg fun hh => hj (lane ((j 0).val - off 0)) ?_
      funext a
      obtain rfl : a = (0 : Fin 1) := Subsingleton.elim (α := Fin 1) _ _
      have hx : ∀ x : S16.Idx, ((((Memref.whole cc0_scratch17 : Memref sig .scVector .vmem S32 .i32).access (Rect.unit (s := S32) off S16.size inb)).emb x) (0 : Fin 1)).val = off 0 + (x 0).val :=
        fun x => (show off 0 + 1 * (x 0).val = off 0 + (x 0).val by omega)
      exact Fin.ext ((hx _).trans (lane_back hh.1 hh.2))
  refine st_gen (f := fun j : S32.Idx => s.ib (j 0).val) (g := fun j : S32.Idx => st s.ib (off 0) w (j 0).val)
    (s' := { s with ib := st s.ib (off 0) w }) (own_ib s (st s.ib (off 0) w)) e h

theorem own_sm (s : St F) (g : ℕ → BitVec 32) : (own d i s : sProp 𝕄) ⊢
    iprop((((Memref.whole cc0_scratch18 : Memref sig .scVector .smem S4 .i32).view.loc (thr d i)) ↦{fullShare} (fun j => s.sm (j 0).val)) ∗
      ((((Memref.whole cc0_scratch18 : Memref sig .scVector .smem S4 .i32).view.loc (thr d i)) ↦{fullShare} (fun j => g (j 0).val)) -∗ own d i { s with sm := g })) := by
  unfold own
  iintro ⟨H0, H1, H2, H3, H4, H5, H6, H7, H8, H9, H10, H11, H12, H13, H14, H15, H16, H17, H18⟩
  isplitl [H18]
  · iexact H18
  · iintro Hg
    isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [H17]; iexact H17
    iexact Hg

/-! ### The scalars -/

theorem W_ld_sm {β : Type} (o : ℕ) {off : Fin 1 → ℕ} {inb : ∀ a, off a + S1.size a ≤ S4.size a} (ho : off 0 = o)
    {h1 : (Rect.unit (s := S4) off S1.size inb).shape.numel = 1} {hp}
    {k : BitVec 32 → Prog (TpuEff nD τ sig (Elt F) Λ₀ (thr d i).2) β} {s : St F} {Q : β → St F → Prop}
    (h : W d i (k (s.sm o)) s Q) :
    W d i (smemLoad (Memref.whole cc0_scratch18 : Memref sig .scVector .smem S4 .i32) (Rect.unit (s := S4) off S1.size inb) h1 hp >>= k) s Q := by
  subst ho
  have e : ∀ x, ((Memref.whole cc0_scratch18 : Memref sig .scVector .smem S4 .i32).access (Rect.unit (s := S4) off S1.size inb)).read (Elt F) (fun j => s.sm (j 0).val) x = s.sm (off 0) := by
    intro x
    have hx : (x 0).val = 0 := Nat.lt_one_iff.1 (x 0).isLt
    exact congrArg s.sm (show off 0 + 1 * (x 0).val = off 0 by omega)
  show W d i (Prog.lift (.load (Memref.whole cc0_scratch18 : Memref sig .scVector .smem S4 .i32) (Rect.unit (s := S4) off S1.size inb).toLoadRect _)
    >>= fun f => k (f (Shape.Idx.first (h1.symm ▸ Nat.one_pos)))) s Q
  exact ld_gen (f := fun j : S4.Idx => s.sm (j 0).val) (own_sm s s.sm) (fun _ => s.sm (off 0)) (funext e) h

theorem W_st_sm {β : Type} (o : ℕ) {off : Fin 1 → ℕ} {inb : ∀ a, off a + S1.size a ≤ S4.size a} (ho : off 0 = o) {v : BitVec 32}
    {hx : ((Memref.whole cc0_scratch18 : Memref sig .scVector .smem S4 .i32).access (Rect.unit (s := S4) off S1.size inb)).Stores Finset.univ} {hm}
    {k : PUnit → Prog (TpuEff nD τ sig (Elt F) Λ₀ (thr d i).2) β} {s : St F} {Q : β → St F → Prop}
    (h : W d i (k ⟨⟩) { s with sm := Function.update s.sm o v } Q) :
    W d i (Prog.lift (.store (Memref.whole cc0_scratch18 : Memref sig .scVector .smem S4 .i32) (Rect.unit (s := S4) off S1.size inb) (fun _ => v) Finset.univ hx hm) >>= k) s Q := by
  subst ho
  have e : ((Memref.whole cc0_scratch18 : Memref sig .scVector .smem S4 .i32).access (Rect.unit (s := S4) off S1.size inb)).write (Elt F) (fun j => s.sm (j 0).val) (fun _ => v) Finset.univ
      = (fun j => Function.update s.sm (off 0) v (j 0).val) := by
    refine write_by _ _ _ _ (fun x => ?_) (fun j hj => ?_)
    · have hx : (x 0).val = 0 := Nat.lt_one_iff.1 (x 0).isLt
      exact (show Function.update s.sm (off 0) v (off 0 + 1 * (x 0).val) = v by rw [hx]; simp)
    · refine Function.update_of_ne (fun hh => hj ((fun a => ⟨0, by obtain rfl : a = (0 : Fin 1) := Subsingleton.elim (α := Fin 1) _ _; exact Nat.one_pos⟩ : S1.Idx)) ?_) _ _
      funext a
      obtain rfl : a = (0 : Fin 1) := Subsingleton.elim (α := Fin 1) _ _
      exact Fin.ext (show off 0 + 1 * 0 = (j 0).val by omega)
  refine st_gen (f := fun j : S4.Idx => s.sm (j 0).val) (g := fun j : S4.Idx => Function.update s.sm (off 0) v (j 0).val)
    (s' := { s with sm := Function.update s.sm (off 0) v }) (own_sm s (Function.update s.sm (off 0) v)) e h

end Run

end Cert.Proof.Nms
-- ==== Proof.Words.lean ====
/-
  The kernel's index arithmetic, in closed form: the floored quotients its address computations take of a nonnegative
  word, the offsets and the trip counts they make.
-/
module

public import proofs.«01_k».proof.Proof.Wp

@[expose] public section

noncomputable section

namespace Cert.Proof.Nms

open Cert.KernelIdeal Cert.KernelIdeal.Gen
open Idealize.ShloMosaic

theorem toInt_small {x : BitVec 32} (hx : x.toNat < 2 ^ 31) : x.toInt = x.toNat := by
  rw [BitVec.toInt_eq_toNat_cond, if_pos (by omega)]

theorem msb_small {x : BitVec 32} (hx : x.toNat < 2 ^ 31) : x.msb = false := by
  rw [BitVec.msb_eq_decide]; simp; omega

theorem slt_small {x y : BitVec 32} (hx : x.toNat < 2 ^ 31) (hy : y.toNat < 2 ^ 31) : x.slt y = decide (x.toNat < y.toNat) := by
  rw [BitVec.slt_eq_decide, toInt_small hx, toInt_small hy]; simp

theorem corner_small {x c : BitVec 32} (hx : x.toNat < 2 ^ 31) (hc : 0 < c.toNat) : ¬ IntOp.SDivCorner x c := by
  unfold IntOp.SDivCorner
  rintro (h | ⟨h, _⟩)
  · rw [h] at hc; simp at hc
  · rw [h] at hx; simp [BitVec.toNat_intMin] at hx

/-- The signed quotient of nonnegative words. -/
theorem divsi_small {x c : BitVec 32} (hx : x.toNat < 2 ^ 31) (hc : 0 < c.toNat) (hc' : c.toNat < 2 ^ 31) :
    Scalar.divsi x c = BitVec.ofNat 32 (x.toNat / c.toNat) := by
  unfold Scalar.divsi IntOp.divsi
  rw [if_neg (corner_small hx hc), BitVec.sdiv_eq, msb_small hx, msb_small hc']
  apply BitVec.eq_of_toNat_eq
  have := Nat.div_le_self x.toNat c.toNat
  simp only [BitVec.udiv_eq, BitVec.toNat_udiv, BitVec.toNat_ofNat]
  exact (Nat.mod_eq_of_lt (by omega)).symm

/-- The signed remainder of nonnegative words. -/
theorem remsi_small {x c : BitVec 32} (hx : x.toNat < 2 ^ 31) (hc : 0 < c.toNat) (hc' : c.toNat < 2 ^ 31) :
    Scalar.remsi x c = BitVec.ofNat 32 (x.toNat % c.toNat) := by
  unfold Scalar.remsi IntOp.remsi
  rw [if_neg (corner_small hx hc), BitVec.srem_eq, msb_small hx, msb_small hc']
  apply BitVec.eq_of_toNat_eq
  have := Nat.mod_lt x.toNat hc
  simp only [BitVec.umod_eq, BitVec.toNat_umod, BitVec.toNat_ofNat]
  omega

/-- The floored quotient, as the kernel computes it: of a nonnegative word it is the quotient. -/
theorem fdiv_small {x c : BitVec 32} (hx : x.toNat < 2 ^ 31) (hc : 0 < c.toNat) (hc' : c.toNat < 2 ^ 31) :
    Scalar.select (Scalar.andi (Scalar.cmpi .ne (Scalar.subi (Scalar.extui (Scalar.cmpi .sgt x 0#32)) (Scalar.extui (Scalar.cmpi .slt x 0#32)))
        (Scalar.subi (Scalar.extui (Scalar.cmpi .sgt c 0#32)) (Scalar.extui (Scalar.cmpi .slt c 0#32))))
        (Scalar.cmpi .ne (Scalar.remsi x c) 0#32)) (Scalar.subi (Scalar.divsi x c) 1#32) (Scalar.divsi x c)
      = BitVec.ofNat 32 (x.toNat / c.toNat) := by
  rw [← divsi_small hx hc hc']
  have z : (0#32 : BitVec 32).toNat < 2 ^ 31 := by decide
  have h1 : Scalar.cmpi .slt x 0#32 = 0#1 := by
    unfold Scalar.cmpi IntOp.cmpi; simp only [slt_small hx z]; simp
  have h2 : Scalar.cmpi .slt c 0#32 = 0#1 := by
    unfold Scalar.cmpi IntOp.cmpi; simp only [slt_small hc' z]; simp
  have h3 : Scalar.cmpi .sgt c 0#32 = 1#1 := by
    unfold Scalar.cmpi IntOp.cmpi; simp only [slt_small z hc']; simp [hc]
  by_cases h0 : x.toNat = 0
  · have hr : Scalar.cmpi .ne (Scalar.remsi x c) 0#32 = 0#1 := by
      rw [remsi_small hx hc hc', h0]; simp [Scalar.cmpi, IntOp.cmpi]
    rw [hr]
    have e : ∀ b : BitVec 1, Scalar.andi b 0#1 = 0#1 := by decide
    rw [e]; rfl
  · have h4 : Scalar.cmpi .sgt x 0#32 = 1#1 := by
      unfold Scalar.cmpi IntOp.cmpi; simp only [slt_small z hx]; simp [Nat.pos_of_ne_zero h0]
    rw [h1, h2, h3, h4]
    have e : ∀ b : BitVec 1, Scalar.andi (Scalar.cmpi .ne (Scalar.subi (Scalar.extui 1#1) (Scalar.extui 0#1)) (Scalar.subi (Scalar.extui 1#1) (Scalar.extui 0#1))) b = 0#1 := by decide
    rw [e]; rfl

/-- The position an address is computed from: at most the first of the padding. -/
def pos (v : BitVec 32) : ℕ := min v.toNat 20000

theorem pos_le (v : BitVec 32) : pos v ≤ 20000 := Nat.min_le_right _ _

theorem minsi_small {x y : BitVec 32} (hx : x.toNat < 2 ^ 31) (hy : y.toNat < 2 ^ 31) :
    Scalar.minsi x y = BitVec.ofNat 32 (min x.toNat y.toNat) := by
  unfold Scalar.minsi IntOp.minsi
  rw [slt_small hx hy]
  apply BitVec.eq_of_toNat_eq
  rw [BitVec.toNat_ofNat, Nat.mod_eq_of_lt (by omega)]
  by_cases h : x.toNat < y.toNat
  · rw [decide_eq_true h, if_pos rfl]; omega
  · rw [decide_eq_false h, if_neg (by decide)]; omega

theorem maxsi_small {x y : BitVec 32} (hx : x.toNat < 2 ^ 31) (hy : y.toNat < 2 ^ 31) :
    Scalar.maxsi x y = BitVec.ofNat 32 (max x.toNat y.toNat) := by
  unfold Scalar.maxsi IntOp.maxsi
  rw [slt_small hy hx]
  apply BitVec.eq_of_toNat_eq
  rw [BitVec.toNat_ofNat, Nat.mod_eq_of_lt (by omega)]
  by_cases h : y.toNat < x.toNat
  · rw [decide_eq_true h, if_pos rfl]; omega
  · rw [decide_eq_false h, if_neg (by decide)]; omega

theorem min_pos {v : BitVec 32} (hv : v.toNat < 2 ^ 31) : Scalar.minsi v 20000#32 = BitVec.ofNat 32 (pos v) :=
  minsi_small hv (by decide)

/-- The floored quotient of a small number. -/
theorem fdiv_ofNat (n k : ℕ) (hn : n < 2 ^ 31) (hk : 0 < k) (hk' : k < 2 ^ 31) :
    Scalar.select (Scalar.andi (Scalar.cmpi .ne (Scalar.subi (Scalar.extui (Scalar.cmpi .sgt (BitVec.ofNat 32 n) 0#32)) (Scalar.extui (Scalar.cmpi .slt (BitVec.ofNat 32 n) 0#32)))
        (Scalar.subi (Scalar.extui (Scalar.cmpi .sgt (BitVec.ofNat 32 k) 0#32)) (Scalar.extui (Scalar.cmpi .slt (BitVec.ofNat 32 k) 0#32))))
        (Scalar.cmpi .ne (Scalar.remsi (BitVec.ofNat 32 n) (BitVec.ofNat 32 k)) 0#32)) (Scalar.subi (Scalar.divsi (BitVec.ofNat 32 n) (BitVec.ofNat 32 k)) 1#32)
        (Scalar.divsi (BitVec.ofNat 32 n) (BitVec.ofNat 32 k))
      = BitVec.ofNat 32 (n / k) := by
  have h1 : (BitVec.ofNat 32 n).toNat = n := by rw [BitVec.toNat_ofNat]; exact Nat.mod_eq_of_lt (by omega)
  have h2 : (BitVec.ofNat 32 k).toNat = k := by rw [BitVec.toNat_ofNat]; exact Nat.mod_eq_of_lt (by omega)
  rw [fdiv_small (by omega) (by omega) (by omega), h1, h2]

theorem toNat_small {n : ℕ} (hn : n < 2 ^ 32) : (BitVec.ofNat 32 n).toNat = n := by
  rw [BitVec.toNat_ofNat]; exact Nat.mod_eq_of_lt hn

theorem mul_ofNat (a b : ℕ) : Scalar.muli (BitVec.ofNat 32 a) (BitVec.ofNat 32 b) = BitVec.ofNat 32 (a * b) := by
  unfold Scalar.muli IntOp.muli; exact (BitVec.ofNat_mul a b).symm

theorem add_ofNat (a b : ℕ) : Scalar.addi (BitVec.ofNat 32 a) (BitVec.ofNat 32 b) = BitVec.ofNat 32 (a + b) := by
  unfold Scalar.addi IntOp.addi; exact (BitVec.ofNat_add a b).symm

theorem sub_ofNat (a b : ℕ) (h : b ≤ a) : Scalar.subi (BitVec.ofNat 32 a) (BitVec.ofNat 32 b) = BitVec.ofNat 32 (a - b) := by
  unfold Scalar.subi IntOp.subi
  apply BitVec.eq_of_toNat_eq
  simp only [BitVec.toNat_sub, BitVec.toNat_ofNat]
  omega

theorem iv_ofNat (k : ℕ) : Scf.iv 0#32 1#32 k = BitVec.ofNat 32 k := by
  unfold Scf.iv; simp

variable {v : BitVec 32}

theorem off8_eq (hv : v.toNat < 2 ^ 31) : k0_off8 v 0 = pos v := by
  have := pos_le v
  simp only [k0_off8, min_pos hv, Scalar.indexCast]
  exact toNat_small (by omega)

theorem off11_eq (hv : v.toNat < 2 ^ 31) : k0_off11 v 0 = pos v / 16 * 16 := by
  have := pos_le v
  simp only [k0_off11, min_pos hv, Scalar.indexCast, fdiv_ofNat (pos v) 16 (by omega) (by omega) (by omega), mul_ofNat]
  exact toNat_small (by omega)

theorem off12_eq (hv : v.toNat < 2 ^ 31) (t : Fin (k0_t12_loop v).trips) (ht : t.val < 16) :
    k0_off12 v t 0 = (pos v / 256 * 16 + t.val) * 16 := by
  have := pos_le v
  simp only [k0_off12, min_pos hv, Scalar.indexCast, fdiv_ofNat (pos v) 256 (by omega) (by omega) (by omega), mul_ofNat, iv_ofNat, add_ofNat]
  exact toNat_small (by omega)

theorem off14_eq (hv : v.toNat < 2 ^ 31) : k0_off14 v 0 = pos v / 256 * 16 := by
  have := pos_le v
  simp only [k0_off14, min_pos hv, Scalar.indexCast, fdiv_ofNat (pos v) 256 (by omega) (by omega) (by omega), mul_ofNat]
  exact toNat_small (by omega)

theorem off15_eq (hv : v.toNat < 2 ^ 31) (t : Fin k0_t14_loop.trips) (ht : t.val < 16) :
    k0_off15 v t 0 = (pos v / 4096 * 16 + t.val) * 16 := by
  have := pos_le v
  have e : pos v / 256 / 16 = pos v / 4096 := by rw [Nat.div_div_eq_div_mul]
  simp only [k0_off15, min_pos hv, Scalar.indexCast, fdiv_ofNat (pos v) 256 (by omega) (by omega) (by omega),
    fdiv_ofNat (pos v / 256) 16 (by omega) (by omega) (by omega), mul_ofNat, iv_ofNat, add_ofNat, e]
  exact toNat_small (by omega)

theorem off16_eq (hv : v.toNat < 2 ^ 31) : k0_off16 v 0 = pos v / 4096 * 16 := by
  have := pos_le v
  have e : pos v / 256 / 16 = pos v / 4096 := by rw [Nat.div_div_eq_div_mul]
  simp only [k0_off16, min_pos hv, Scalar.indexCast, fdiv_ofNat (pos v) 256 (by omega) (by omega) (by omega),
    fdiv_ofNat (pos v / 256) 16 (by omega) (by omega) (by omega), mul_ofNat, e]
  exact toNat_small (by omega)

theorem off17_eq (hv : v.toNat < 112) : k0_off17 v 0 = v.toNat / 16 * 16 := by
  obtain ⟨n, hn, rfl⟩ : ∃ n, n < 112 ∧ v = BitVec.ofNat 32 n := ⟨v.toNat, hv, by simp⟩
  rw [toNat_small (by omega)]
  simp only [k0_off17, Scalar.indexCast, fdiv_ofNat n 16 (by omega) (by omega) (by omega), mul_ofNat]
  exact toNat_small (by omega)

theorem trips_ofNat (n : ℕ) (hn : n < 2 ^ 31) : Scf.trips (0#32) (BitVec.ofNat 32 n) (1#32) = n := by
  unfold Scf.trips
  have h1 : (BitVec.ofNat 32 n).toInt = n := by rw [toInt_small (by rw [toNat_small]; omega; omega), toNat_small (by omega)]
  rw [h1]
  simp

theorem ok_ofNat (n : ℕ) (hn : n < 2 ^ 31) : Scf.OK (0#32) (BitVec.ofNat 32 n) (1#32) := by
  refine ⟨by decide, ?_⟩
  rw [trips_ofNat n hn]
  simp
  omega

theorem trips_self (n : ℕ) (hn : n < 2 ^ 31) : Scf.trips (BitVec.ofNat 32 n) (BitVec.ofNat 32 n) (1#32) = 0 := by
  unfold Scf.trips
  simp

theorem ok_self (n : ℕ) (hn : n < 2 ^ 31) : Scf.OK (BitVec.ofNat 32 n) (BitVec.ofNat 32 n) (1#32) := by
  refine ⟨by decide, ?_⟩
  rw [trips_self n hn]
  have h1 : (BitVec.ofNat 32 n).toInt = n := by rw [toInt_small (by rw [toNat_small]; omega; omega), toNat_small (by omega)]
  rw [h1]
  simp
  omega

theorem div1_ofNat (n : ℕ) (hn : n < 2 ^ 31) : Scalar.divsi (BitVec.ofNat 32 n) 1#32 = BitVec.ofNat 32 n := by
  rw [divsi_small (by rw [toNat_small]; omega; omega) (by decide) (by decide), toNat_small (by omega)]
  simp

theorem mul1_ofNat (n : ℕ) : Scalar.muli (BitVec.ofNat 32 n) 1#32 = BitVec.ofNat 32 n := by
  rw [show (1#32 : BitVec 32) = BitVec.ofNat 32 1 from rfl, mul_ofNat, Nat.mul_one]

theorem sub0_ofNat (n : ℕ) : Scalar.subi (BitVec.ofNat 32 n) 0#32 = BitVec.ofNat 32 n := by
  rw [show (0#32 : BitVec 32) = BitVec.ofNat 32 0 from rfl, sub_ofNat _ _ (by omega), Nat.sub_zero]

theorem add0_ofNat (n : ℕ) : Scalar.addi 0#32 (BitVec.ofNat 32 n) = BitVec.ofNat 32 n := by
  rw [show (0#32 : BitVec 32) = BitVec.ofNat 32 0 from rfl, add_ofNat, Nat.zero_add]

/-- The trips of the scan of the kept boxes: a group of sixteen each. -/
theorem t10_eq (hv : v.toNat ≤ 100) : k0_t10_loop v = ⟨0#32, BitVec.ofNat 32 ((v.toNat + 15) / 16), 1#32⟩ := by
  obtain ⟨n, hn, rfl⟩ : ∃ n, n ≤ 100 ∧ v = BitVec.ofNat 32 n := ⟨v.toNat, hv, by simp⟩
  rw [toNat_small (by omega)]
  have e : n + 16 - 1 = n + 15 := by omega
  simp only [k0_t10_loop, add_ofNat, sub_ofNat (n + 16) 1 (by omega), e, fdiv_ofNat (n + 15) 16 (by omega) (by omega) (by omega),
    sub0_ofNat, div1_ofNat ((n + 15) / 16) (by omega), mul1_ofNat, add0_ofNat, Nat.zero_add]

theorem t11_eq (hv : v.toNat ≤ 100) : k0_t11_loop v = ⟨BitVec.ofNat 32 ((v.toNat + 15) / 16), BitVec.ofNat 32 ((v.toNat + 15) / 16), 1#32⟩ := by
  obtain ⟨n, hn, rfl⟩ : ∃ n, n ≤ 100 ∧ v = BitVec.ofNat 32 n := ⟨v.toNat, hv, by simp⟩
  rw [toNat_small (by omega)]
  have e : n + 16 - 1 = n + 15 := by omega
  simp only [k0_t11_loop, add_ofNat, sub_ofNat (n + 16) 1 (by omega), e, fdiv_ofNat (n + 15) 16 (by omega) (by omega) (by omega),
    sub0_ofNat, div1_ofNat ((n + 15) / 16) (by omega), mul1_ofNat, add0_ofNat, Nat.zero_add]

/-- The rows of sixteen the group of position `p` holds. -/
def rowsOf (g : ℕ) : ℕ := min 16 (1251 - g * 16)

theorem t12_eq (hv : v.toNat < 2 ^ 31) : k0_t12_loop v = ⟨0#32, BitVec.ofNat 32 (rowsOf (pos v / 256)), 1#32⟩ := by
  have := pos_le v
  have h1 : max (min 16 (1251 - pos v / 256 * 16)) 0 = rowsOf (pos v / 256) := by unfold rowsOf; omega
  have h2 : rowsOf (pos v / 256) ≤ 16 := by unfold rowsOf; omega
  have e1 : Scalar.minsi 16#32 (BitVec.ofNat 32 (1251 - pos v / 256 * 16)) = BitVec.ofNat 32 (min 16 (1251 - pos v / 256 * 16)) := by
    rw [minsi_small (by decide) (by rw [toNat_small] <;> omega), toNat_small (n := 1251 - pos v / 256 * 16) (by omega)]; rfl
  have e2 : Scalar.maxsi (BitVec.ofNat 32 (min 16 (1251 - pos v / 256 * 16))) 0#32 = BitVec.ofNat 32 (rowsOf (pos v / 256)) := by
    rw [maxsi_small (by rw [toNat_small] <;> omega) (by decide), toNat_small (n := min 16 (1251 - pos v / 256 * 16)) (by omega), ← h1]; rfl
  simp only [k0_t12_loop, min_pos hv, fdiv_ofNat (pos v) 256 (by omega) (by omega) (by omega), mul_ofNat, sub_ofNat 1251 (pos v / 256 * 16) (by omega),
    e1, e2, sub0_ofNat, div1_ofNat (rowsOf (pos v / 256)) (by omega), mul1_ofNat, add0_ofNat, Nat.mul_one]

theorem t13_eq (hv : v.toNat < 2 ^ 31) : k0_t13_loop v = ⟨BitVec.ofNat 32 (rowsOf (pos v / 256)), BitVec.ofNat 32 (rowsOf (pos v / 256)), 1#32⟩ := by
  have := pos_le v
  have h1 : max (min 16 (1251 - pos v / 256 * 16)) 0 = rowsOf (pos v / 256) := by unfold rowsOf; omega
  have h2 : rowsOf (pos v / 256) ≤ 16 := by unfold rowsOf; omega
  have e1 : Scalar.minsi 16#32 (BitVec.ofNat 32 (1251 - pos v / 256 * 16)) = BitVec.ofNat 32 (min 16 (1251 - pos v / 256 * 16)) := by
    rw [minsi_small (by decide) (by rw [toNat_small] <;> omega), toNat_small (n := 1251 - pos v / 256 * 16) (by omega)]; rfl
  have e2 : Scalar.maxsi (BitVec.ofNat 32 (min 16 (1251 - pos v / 256 * 16))) 0#32 = BitVec.ofNat 32 (rowsOf (pos v / 256)) := by
    rw [maxsi_small (by rw [toNat_small] <;> omega) (by decide), toNat_small (n := min 16 (1251 - pos v / 256 * 16)) (by omega), ← h1]; rfl
  simp only [k0_t13_loop, min_pos hv, fdiv_ofNat (pos v) 256 (by omega) (by omega) (by omega), mul_ofNat, sub_ofNat 1251 (pos v / 256 * 16) (by omega),
    e1, e2, sub0_ofNat, div1_ofNat (rowsOf (pos v / 256)) (by omega), mul1_ofNat, add0_ofNat, Nat.mul_one]

theorem rowsOf_le (g : ℕ) : rowsOf g ≤ 16 := Nat.min_le_left _ _

theorem off9_eq (hv : v.toNat ≤ 100) (t : Fin (k0_t10_loop v).trips) (ht : t.val < 7) : k0_off9 v t 0 = t.val * 16 := by
  simp only [k0_off9, Scalar.indexCast, iv_ofNat, mul_ofNat]
  exact toNat_small (by omega)

theorem off7_eq (t : Fin k0_t9_loop.trips) (ht : t.val < 5) : k0_off7 t 0 = t.val * 16 := by
  simp only [k0_off7, Scalar.indexCast, iv_ofNat, mul_ofNat]
  exact toNat_small (by omega)

theorem t2_eq (t : Fin k0_t1_loop.trips) (ht : t.val < 80) : k0_t2_loop t = ⟨0#32, BitVec.ofNat 32 (rowsOf t.val), 1#32⟩ ∧
    k0_t3_loop t = ⟨BitVec.ofNat 32 (rowsOf t.val), BitVec.ofNat 32 (rowsOf t.val), 1#32⟩ := by
  obtain ⟨n, hn⟩ := t
  have ht : n < 80 := ht
  by_cases h79 : n = 79
  · subst h79
    have e : rowsOf 79 = 0 := by decide
    have f : Scalar.maxsi (Scalar.minsi 16#32 (Scalar.subi 1251#32 (BitVec.ofNat 32 1264))) 0#32 = 0#32 := by decide
    constructor <;>
    simp only [k0_t2_loop, k0_t3_loop, iv_ofNat, mul_ofNat, Nat.reduceMul, f, e] <;> congr 1
  have h1 : max (min 16 (1251 - n * 16)) 0 = rowsOf n := by unfold rowsOf; omega
  have h2 : rowsOf n ≤ 16 := by unfold rowsOf; omega
  have e1 : Scalar.minsi 16#32 (BitVec.ofNat 32 (1251 - n * 16)) = BitVec.ofNat 32 (min 16 (1251 - n * 16)) := by
    rw [minsi_small (by decide) (by rw [toNat_small] <;> omega), toNat_small (n := 1251 - n * 16) (by omega)]; rfl
  have e2 : Scalar.maxsi (BitVec.ofNat 32 (min 16 (1251 - n * 16))) 0#32 = BitVec.ofNat 32 (rowsOf n) := by
    rw [maxsi_small (by rw [toNat_small] <;> omega) (by decide), toNat_small (n := min 16 (1251 - n * 16)) (by omega), ← h1]; rfl
  constructor <;>
  simp only [k0_t2_loop, k0_t3_loop, iv_ofNat, mul_ofNat, sub_ofNat 1251 (n * 16) (by omega),
    e1, e2, sub0_ofNat, div1_ofNat (rowsOf n) (by omega), mul1_ofNat, add0_ofNat, Nat.mul_one]

theorem off2_eq (t : Fin k0_t1_loop.trips) (u : Fin (k0_t2_loop t).trips) (ht : t.val < 80) (hu : u.val < 16) :
    k0_off2 t u 0 = (t.val * 16 + u.val) * 16 := by
  simp only [k0_off2, Scalar.indexCast, iv_ofNat, mul_ofNat, add_ofNat]
  exact toNat_small (by omega)

theorem off4_eq (t : Fin k0_t1_loop.trips) (ht : t.val < 80) : k0_off4 t 0 = t.val * 16 := by
  simp only [k0_off4, Scalar.indexCast, iv_ofNat, mul_ofNat]
  exact toNat_small (by omega)

theorem off5_eq (t : Fin k0_t4_loop.trips) (u : Fin k0_t5_loop.trips) (ht : t.val < 5) (hu : u.val < 16) :
    k0_off5 t u 0 = (t.val * 16 + u.val) * 16 := by
  simp only [k0_off5, Scalar.indexCast, iv_ofNat, mul_ofNat, add_ofNat]
  exact toNat_small (by omega)

theorem off6_eq (t : Fin k0_t4_loop.trips) (ht : t.val < 5) : k0_off6 t 0 = t.val * 16 := by
  simp only [k0_off6, Scalar.indexCast, iv_ofNat, mul_ofNat]
  exact toNat_small (by omega)

/-! ### The checks -/

variable (i : grid0.Coords) (w : BitVec 32)

theorem chk4_of (hv : v.toNat ≤ 100) : k0_chk4 i w v := by
  have ht : (k0_t10_loop v).trips = (v.toNat + 15) / 16 := by rw [t10_eq hv]; exact trips_ofNat _ (by omega)
  have ht' : (k0_t11_loop v).trips = 0 := by rw [t11_eq hv]; exact trips_self _ (by omega)
  refine ⟨fun _ _ => ?_, fun t _ _ => ?_, fun _ _ => ?_, fun t _ _ => ?_⟩
  · rw [t10_eq hv]; exact ok_ofNat _ (by omega)
  · have h := t.isLt
    refine Fin.forall_fin_one.2 ?_
    rw [off9_eq hv t (by omega)]
    show t.val * 16 + 16 ≤ 112
    omega
  · rw [t11_eq hv]; exact ok_self _ (by omega)
  · exact absurd t.isLt (by omega)

theorem chk5_of (hv : v.toNat < 112) : k0_chk5 i w v := by
  refine fun _ _ => Fin.forall_fin_one.2 ?_
  rw [off17_eq hv]
  show v.toNat / 16 * 16 + 16 ≤ 112
  omega

theorem chk3_of (hv : v.toNat < 2 ^ 31) : k0_chk3 i w v := by
  have hp := pos_le v
  have hr := rowsOf_le (pos v / 256)
  have ht : (k0_t12_loop v).trips = rowsOf (pos v / 256) := by rw [t12_eq hv]; exact trips_ofNat _ (by omega)
  have ht' : (k0_t13_loop v).trips = 0 := by rw [t13_eq hv]; exact trips_self _ (by omega)
  refine ⟨fun _ _ => Fin.forall_fin_one.2 ?_, fun _ _ => Fin.forall_fin_one.2 ?_, fun _ _ => ?_, fun t _ _ => Fin.forall_fin_one.2 ?_, fun _ _ => ?_,
    fun t _ _ => ?_, fun _ _ => Fin.forall_fin_one.2 ?_, fun t _ _ => Fin.forall_fin_one.2 ?_, fun _ _ => Fin.forall_fin_one.2 ?_⟩
  · rw [off8_eq hv]; show pos v + 16 ≤ 20016; omega
  · rw [off11_eq hv]; show pos v / 16 * 16 + 16 ≤ 20016; omega
  · rw [t12_eq hv]; exact ok_ofNat _ (by omega)
  · have h := t.isLt
    rw [off12_eq hv t (by omega)]
    show (pos v / 256 * 16 + t.val) * 16 + 16 ≤ 20016
    unfold rowsOf at ht
    omega
  · rw [t13_eq hv]; exact ok_self _ (by omega)
  · exact absurd t.isLt (by omega)
  · rw [off14_eq hv]; show pos v / 256 * 16 + 16 ≤ 1280; omega
  · have h : t.val < 16 := t.isLt
    rw [off15_eq hv t h]
    show (pos v / 4096 * 16 + t.val) * 16 + 16 ≤ 1280
    omega
  · rw [off16_eq hv]; show pos v / 4096 * 16 + 16 ≤ 80; omega

theorem chk2_of (hv : v = 0#32 ∨ v = 1#32) : k0_chk2 i v := by
  rcases hv with rfl | rfl <;> exact ⟨fun _ => by decide, fun _ => by decide⟩

theorem chk1_of (hv : v = 0#32 ∨ v = 1#32) : k0_chk1 i v := by
  rcases hv with rfl | rfl <;> exact ⟨fun _ => by decide, fun _ => by decide⟩

end Cert.Proof.Nms
-- ==== Proof.Model.lean ====
/-
  One pop of the kernel as a function of the scratch contents (`pop`): the best candidate of the top level, its box, its
  overlaps with the kept boxes, the decision, and the refreshed scores. Over any float values.
-/
module

public import proofs.«01_k».proof.Proof.Words
public import Idealize.ShloMosaic.Lib.Pointwise.Reshape

@[expose] public section

noncomputable section

namespace Cert.Proof.Nms

open Cert.KernelIdeal Cert.KernelIdeal.Gen
open Idealize.ShloMosaic

variable {F : FTy → Type} [FloatOps F]

/-- Sixteen values with their positions. -/
abbrev Pairs (F : FTy → Type) : Type := (S16.Idx → F .f32) × (S16.Idx → BitVec 32)

/-- Lane by lane, the larger of two values with its position; the first stays where they tie. -/
def up (a : Pairs F) (w : S16.Idx → F .f32) (n : S16.Idx → BitVec 32) : Pairs F :=
  (fun x => Scalar.select (FloatOps.cmpf .ogt (w x) (a.1 x)) (w x) (a.1 x),
   fun x => Scalar.select (FloatOps.cmpf .ogt (w x) (a.1 x)) (n x) (a.2 x))

/-- The best of each lane over `n` rows of sixteen from `o` on, starting from −3. -/
def fold (v : ℕ → F .f32) (ix : ℕ → BitVec 32) (o : ℕ) : ℕ → Pairs F
  | 0 => (fun _ => Scalar.ofBits .f32 0xC0400000#32, fun _ => 0#32)
  | n + 1 => up (fold v ix o n) (ld v (o + n * 16)) (ld ix (o + n * 16))

/-- One stage of the tree over sixteen lanes: each lane with the one `k` further. -/
def stg {α : Type} (op : α → α → α) (f : ℕ → α) (k : ℕ) : ℕ → α := st f 0 (fun x => op (ld f 0 x) (ld f k x))

/-- The tree's value over sixteen lanes. -/
def tree {α : Type} (op : α → α → α) (w : S16.Idx → α) : α :=
  op (op (op (op (w (lane 0)) (w (lane 8))) (op (w (lane 4)) (w (lane 12)))) (op (op (w (lane 2)) (w (lane 10))) (op (w (lane 6)) (w (lane 14)))))
    (op (op (op (w (lane 1)) (w (lane 9))) (op (w (lane 5)) (w (lane 13)))) (op (op (w (lane 3)) (w (lane 11))) (op (w (lane 7)) (w (lane 15)))))

theorem st_in {α : Type} (f : ℕ → α) (w : S16.Idx → α) {n : ℕ} (h : n < 16) : st f 0 w n = w (lane n) := if_pos ⟨Nat.zero_le n, by omega⟩

theorem stg_in {α : Type} (op : α → α → α) (f : ℕ → α) (k : ℕ) {n : ℕ} (h : n < 16) : stg op f k n = op (f n) (f (n + k)) := by
  unfold stg
  rw [st_in _ _ h]
  show op (f (0 + n % 16)) (f (k + n % 16)) = _
  rw [Nat.mod_eq_of_lt h, Nat.zero_add, Nat.add_comm k n]

/-- After the four stages lane zero holds the tree's value. -/
theorem tree_eq {α : Type} (op : α → α → α) (f : ℕ → α) (w : S16.Idx → α) :
    stg op (stg op (stg op (stg op (st f 0 w) 8) 4) 2) 1 0 = tree op w := by
  simp only [stg_in, st_in, Nat.reduceAdd, Nat.reduceLT]
  rfl

theorem pick_eq {α : Type} (v : S16.Idx → α) (h) (h') : extractAt (s := S1) ![0] (extractStridedSlice (s := S16) S1 ![0] v h) h' = v (lane 0) := by
  unfold extractAt extractStridedSlice
  refine congrArg v ?_
  funext a
  obtain rfl : a = (0 : Fin 1) := Subsingleton.elim (α := Fin 1) _ _
  rfl

theorem sc_id {s : Shape} {α : Type} (x : s.Idx → α) (h : s.ShapeCasts s) : shapeCast s x h = x := shapeCast_id x h

/-- The overlap of a kept box (lane values `y0 x0 y1 x1`, area `a`) with the candidate. -/
def iouV (cy0 cx0 cy1 cx1 ca y0 x0 y1 x1 a : F .f32) : F .f32 :=
  let i : F .f32 := FloatOps.mulf (FloatOps.maximumf (FloatOps.subf (FloatOps.minimumf y1 cy1) (FloatOps.maximumf y0 cy0)) (Scalar.ofBits .f32 0x00000000#32))
    (FloatOps.maximumf (FloatOps.subf (FloatOps.minimumf x1 cx1) (FloatOps.maximumf x0 cx0)) (Scalar.ofBits .f32 0x00000000#32))
  FloatOps.divf i (FloatOps.addf (FloatOps.subf (FloatOps.addf a ca) i) (Scalar.ofBits .f32 0x322BCC77#32))

/-- The area of the box at position `p`. -/
def areaAt (s : St F) (p : ℕ) : F .f32 := Scalar.mulf (Scalar.subf (s.y1v p) (s.y0v p)) (Scalar.subf (s.x1v p) (s.x0v p))

/-- The largest overlap, lane by lane, of the box at `p` with the kept boxes of `n` rows of sixteen. -/
def wfold (s : St F) (p : ℕ) : ℕ → S16.Idx → F .f32
  | 0 => fun _ => Scalar.ofBits .f32 0x00000000#32
  | n + 1 => fun x => FloatOps.maximumf (wfold s p n x) (iouV (s.y0v p) (s.x0v p) (s.y1v p) (s.x1v p) (areaAt s p)
      (ld s.ky0 (n * 16) x) (ld s.kx0 (n * 16) x) (ld s.ky1 (n * 16) x) (ld s.kx1 (n * 16) x) (ld s.ka (n * 16) x))

/-- The top level's best of each lane. -/
def top (s : St F) : Pairs F := fold s.l2v s.l2i 0 5
/-- The best score left. -/
def best (s : St F) : F .f32 := tree FloatOps.maximumf (top s).1
/-- The positions of the lanes holding `m`; a large number elsewhere. -/
def cand (a : Pairs F) (m : F .f32) : S16.Idx → BitVec 32 := fun x => Scalar.select (FloatOps.cmpf .oeq (a.1 x) m) (a.2 x) 1073741824#32
/-- The candidate's position as a word. -/
def atW (s : St F) : BitVec 32 := tree IntOp.minsi (cand (top s) (best s))
/-- The candidate's position. -/
abbrev at' (s : St F) : ℕ := pos (atW s)
/-- How many boxes are kept, as a word. -/
abbrev kn (s : St F) : BitVec 32 := s.sm 0
/-- The candidate's largest overlap with the kept boxes. -/
def worst (s : St F) : F .f32 := tree FloatOps.maximumf (wfold s (at' s) (((kn s).toNat + 15) / 16))
/-- Whether the best score left is below the threshold. -/
def dead (s : St F) : BitVec 1 := Scalar.cmpf .olt (best s) (Scalar.ofBits .f32 0x3ECCCCCD#32)
/-- Whether the candidate is kept. -/
def okB (s : St F) : BitVec 1 := Scalar.andi (Scalar.cmpf .ole (worst s) (Scalar.ofBits .f32 0x3F000000#32)) (Scalar.xori (dead s) 1#1)

/-- One element replaced if the condition holds. -/
def put {α : Type} (c : BitVec 1) (f : ℕ → α) (n : ℕ) (v : α) : ℕ → α := if c = 1#1 then Function.update f n v else f

/-- The scores after the pop. -/
def mv1 (s : St F) : ℕ → F .f32 := put (Scalar.xori (dead s) 1#1) s.mv (at' s) (Scalar.ofBits .f32 0xBF800000#32)
/-- The refreshed group of the first level. -/
def grp1 (s : St F) : Pairs F := fold (mv1 s) (fun n => BitVec.ofNat 32 n) (at' s / 256 * 256) (rowsOf (at' s / 256))
def l1v1 (s : St F) : ℕ → F .f32 := st s.l1v (at' s / 256 * 16) (grp1 s).1
def l1i1 (s : St F) : ℕ → BitVec 32 := st s.l1i (at' s / 256 * 16) (grp1 s).2
/-- The refreshed group of the second level. -/
def grp2 (s : St F) : Pairs F := fold (l1v1 s) (l1i1 s) (at' s / 4096 * 256) 16

/-- One pop, but for the two staging buffers. -/
def pop (s : St F) : St F :=
  { s with
    mv := mv1 s, l1v := l1v1 s, l1i := l1i1 s,
    l2v := st s.l2v (at' s / 4096 * 16) (grp2 s).1, l2i := st s.l2i (at' s / 4096 * 16) (grp2 s).2,
    ky0 := put (okB s) s.ky0 (kn s).toNat (s.y0v (at' s)), kx0 := put (okB s) s.kx0 (kn s).toNat (s.x0v (at' s)),
    ky1 := put (okB s) s.ky1 (kn s).toNat (s.y1v (at' s)), kx1 := put (okB s) s.kx1 (kn s).toNat (s.x1v (at' s)),
    ka := put (okB s) s.ka (kn s).toNat (areaAt s (at' s)), ksc := put (okB s) s.ksc (kn s).toNat (best s),
    sm := Function.update s.sm 0 (Scalar.addi (kn s) (Scalar.extui (okB s))) }

/-- Whether the pop ends the search. -/
def stop (s : St F) : BitVec 1 := Scalar.ori (dead s) (Scalar.cmpi .sge (Scalar.addi (kn s) (Scalar.extui (okB s))) 100#32)

/-! ### The stores of one lane -/

theorem lane_ofNat_ne (x : S16.Idx) : BitVec.ofNat 32 (x 0).val ≠ 4294967295#32 := by
  intro h
  have h16 : (x 0).val < 16 := (x 0).isLt
  have := congrArg BitVec.toNat h
  rw [toNat_small (by omega)] at this
  simp at this
  omega

theorem eq1_iff {w : ℕ} (x y : BitVec w) : (IntOp.cmpi .eq x y = 1) ↔ x = y := by
  unfold IntOp.cmpi
  by_cases h : x = y
  · subst h; simp [BitVec.ofBool]
  · have : (x == y) = false := by simpa using h
    simp [this, h, BitVec.ofBool]

/-- No lane is replaced. -/
theorem st_none {α : Type} (f : ℕ → α) (o : ℕ) (v : α) :
    st f o (fun x => Scalar.select (IntOp.cmpi .eq (BitVec.ofNat 32 (x 0).val) 4294967295#32) v (ld f o x)) = f := by
  funext n
  unfold st
  split
  · next h =>
    unfold Scalar.select
    beta_reduce
    rw [if_neg (fun e => lane_ofNat_ne _ ((eq1_iff _ _).1 e))]
    exact congrArg f (lane_back h.1 h.2)
  · rfl

/-- One lane is replaced. -/
theorem st_one {α : Type} (f : ℕ → α) (n : ℕ) (v : α) :
    st f (n / 16 * 16) (fun x => Scalar.select (IntOp.cmpi .eq (BitVec.ofNat 32 (x 0).val) (BitVec.ofNat 32 (n % 16))) v (ld f (n / 16 * 16) x)) = Function.update f n v := by
  funext m
  unfold st
  split
  · next h =>
    have hb := lane_back h.1 h.2
    unfold Scalar.select
    beta_reduce
    by_cases e : m = n
    · subst e
      rw [if_pos, Function.update_self]
      refine (eq1_iff _ _).2 (congrArg _ ?_)
      omega
    · rw [if_neg, Function.update_of_ne e]
      · exact congrArg f hb
      · intro e'
        have h16 : ((lane (m - n / 16 * 16)) 0).val < 16 := ((lane (m - n / 16 * 16)) 0).isLt
        have := congrArg BitVec.toNat ((eq1_iff _ _).1 e')
        rw [toNat_small (by omega), toNat_small (by omega)] at this
        omega
  · next h =>
    rw [Function.update_of_ne]
    rintro rfl
    exact h ⟨by omega, by omega⟩

theorem st_put {α : Type} (c : BitVec 1) (f : ℕ → α) (n : ℕ) (v : α) (w : BitVec 32)
    (hw : w = Scalar.select c (BitVec.ofNat 32 (n % 16)) 4294967295#32) :
    st f (n / 16 * 16) (fun x => Scalar.select (IntOp.cmpi .eq (BitVec.ofNat 32 (x 0).val) w) v (ld f (n / 16 * 16) x)) = put c f n v := by
  unfold put
  by_cases h : c = 1#1
  · rw [if_pos h, hw, show Scalar.select c (BitVec.ofNat 32 (n % 16)) 4294967295#32 = BitVec.ofNat 32 (n % 16) from if_pos h]; exact st_one f n v
  · rw [if_neg h, hw, show Scalar.select c (BitVec.ofNat 32 (n % 16)) 4294967295#32 = 4294967295#32 from if_neg h]; exact st_none f _ v

theorem sub_mod (n : ℕ) : Scalar.subi (BitVec.ofNat 32 n) (BitVec.ofNat 32 (n / 16 * 16)) = BitVec.ofNat 32 (n % 16) := by
  rw [sub_ofNat _ _ (by omega)]; exact congrArg _ (by omega)

/-! ### The payloads of the pop -/

theorem up_eq_pay6 (a : Pairs F) (v : S16.Idx → F .f32) (n : S16.Idx → BitVec 32) : (k0_pay6 a.1 v, k0_pay7 a.1 a.2 v n) = up a v n := by
  simp only [k0_pay6, k0_pay7, k0_pay5, k0_pay4, sc_id]; rfl

theorem up_eq_pay55 (a : Pairs F) (v : S16.Idx → F .f32) (n : S16.Idx → BitVec 32) : (k0_pay55 a.1 v, k0_pay56 a.1 a.2 v n) = up a v n := by
  simp only [k0_pay55, k0_pay56, k0_pay54, k0_pay53, sc_id]; rfl

theorem up_eq_pay43 (v2 : IVec S16 32) (h2 : ∀ x, v2 x = BitVec.ofNat 32 (x 0).val) {w : BitVec 32} (hw : w.toNat < 2 ^ 31) (t : Fin (k0_t12_loop w).trips) (a : Pairs F) (v : S16.Idx → F .f32) :
    (k0_pay43 a.1 v, k0_pay44 v2 w (Scalar.minsi w 20000#32) t a.1 a.2 v) = up a v (ld (fun n => BitVec.ofNat 32 n) (pos w / 256 * 256 + t.val * 16)) := by
  have := pos_le w
  simp only [k0_pay43, k0_pay44, k0_pay42, k0_pay41, sc_id, min_pos hw, fdiv_ofNat (pos w) 256 (by omega) (by omega) (by omega), iv_ofNat, mul_ofNat, add_ofNat]
  refine Prod.ext rfl ?_
  funext x
  have e : IntOp.addi (BitVec.ofNat 32 ((pos w / 256 * 16 + t.val) * 16)) (v2 x) = BitVec.ofNat 32 (pos w / 256 * 256 + t.val * 16 + (x 0).val) := by
    rw [h2]
    refine (add_ofNat _ _).trans (congrArg _ ?_)
    omega
  exact congrArg (fun y => Scalar.select (FloatOps.cmpf .ogt (v x) (a.1 x)) y (a.2 x)) e

theorem pay27_eq (a b c e g : F .f32) (w y0 x0 y1 x1 ka : S16.Idx → F .f32) :
    k0_pay27 a b c e g w y0 x0 y1 x1 ka = fun x => FloatOps.maximumf (w x) (iouV a b c e g (y0 x) (x0 x) (y1 x) (x1 x) (ka x)) := by
  simp only [k0_pay27, sc_id]; rfl

end Cert.Proof.Nms
-- ==== Proof.PopA.lean ====
/-
  The parts of one pop: what each reads, computes and stores.
-/
module

public import proofs.«01_k».proof.Proof.Model

@[expose] public section

set_option maxRecDepth 65536
set_option maxHeartbeats 4000000

noncomputable section

namespace Cert.Proof.Nms

open Cert.KernelIdeal Cert.KernelIdeal.Gen
open Idealize.ShloMosaic
open Idealize.ShloMosaic.SparseCore (S V T)
open Idealize.SL Idealize.SL.RA Idealize.SL.BI

variable {F : FTy → Type} [FloatOps F]
variable {d : Dev nD} {i : grid0.Coords}
variable {a2 : Memref sig .scVector .hbm S8x20016 .f32} {h2 : a2.IsWhole}
variable {a3 : Memref sig .scVector .hbm S8x20016 .f32} {h3 : a3.IsWhole}
variable {a4 : Memref sig .scVector .hbm S8x20016 .f32} {h4 : a4.IsWhole}
variable {a5 : Memref sig .scVector .hbm S8x20016 .f32} {h5 : a5.IsWhole}
variable {a6 : Memref sig .scVector .hbm S8x20016 .f32} {h6 : a6.IsWhole}
variable {a7 : Memref sig .scVector .hbm S8x112 .f32} {h7 : a7.IsWhole}
variable {a8 : Memref sig .scVector .hbm S8x112 .f32} {h8 : a8.IsWhole}
variable {a9 : Memref sig .scVector .hbm S8x112 .f32} {h9 : a9.IsWhole}
variable {a10 : Memref sig .scVector .hbm S8x112 .f32} {h10 : a10.IsWhole}
variable {a11 : Memref sig .scVector .hbm S8x112 .f32} {h11 : a11.IsWhole}
variable {h12 : (Memref.whole cc0_scratch0 : Memref sig .scVector .vmem S20016 .f32).IsWhole}
variable {h13 : (Memref.whole cc0_scratch1 : Memref sig .scVector .vmem S20016 .f32).IsWhole}
variable {h14 : (Memref.whole cc0_scratch2 : Memref sig .scVector .vmem S20016 .f32).IsWhole}
variable {h15 : (Memref.whole cc0_scratch3 : Memref sig .scVector .vmem S20016 .f32).IsWhole}
variable {h16 : (Memref.whole cc0_scratch4 : Memref sig .scVector .vmem S20016 .f32).IsWhole}
variable {h17 : (Memref.whole cc0_scratch5 : Memref sig .scVector .vmem S1280 .f32).IsWhole}
variable {h18 : (Memref.whole cc0_scratch6 : Memref sig .scVector .vmem S1280 .i32).IsWhole}
variable {h19 : (Memref.whole cc0_scratch7 : Memref sig .scVector .vmem S80 .f32).IsWhole}
variable {h20 : (Memref.whole cc0_scratch8 : Memref sig .scVector .vmem S80 .i32).IsWhole}
variable {h21 : (Memref.whole cc0_scratch9 : Memref sig .scVector .vmem S112 .f32).IsWhole}
variable {h22 : (Memref.whole cc0_scratch10 : Memref sig .scVector .vmem S112 .f32).IsWhole}
variable {h23 : (Memref.whole cc0_scratch11 : Memref sig .scVector .vmem S112 .f32).IsWhole}
variable {h24 : (Memref.whole cc0_scratch12 : Memref sig .scVector .vmem S112 .f32).IsWhole}
variable {h25 : (Memref.whole cc0_scratch13 : Memref sig .scVector .vmem S112 .f32).IsWhole}
variable {h26 : (Memref.whole cc0_scratch14 : Memref sig .scVector .vmem S112 .f32).IsWhole}
variable {h27 : (Memref.whole cc0_scratch15 : Memref sig .scVector .vmem S112 .f32).IsWhole}
variable {h28 : (Memref.whole cc0_scratch16 : Memref sig .scVector .vmem S32 .f32).IsWhole}
variable {h29 : (Memref.whole cc0_scratch17 : Memref sig .scVector .vmem S32 .i32).IsWhole}
variable {h30 : (Memref.whole cc0_scratch18 : Memref sig .scVector .smem S4 .i32).IsWhole}
variable {q0 q1 q2 q3 q4 q5 q6 q7 q8 q9 : DmaSems sig S_}

/-- The scan of the top level finds each lane's best. -/
theorem t9_run (hb : k0_cond1 i = 1#1) (v595 : Elt F .i32) (s : St F) :
    W d i (Scf.Loop.for k0_t9_loop (k0_t9_ok i hb) (k0_pay2 (F := F), k0_pay3) (k0_t9_body i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 hb v595)) s
      (fun a t => a = ((top s).1, (top s).2) ∧ t = s) := by
  refine W_for _ _ _ _ _ _ (fun k a t => a = ((fold s.l2v s.l2i 0 k).1, (fold s.l2v s.l2i 0 k).2) ∧ t = s) ⟨rfl, rfl⟩ ?_ (fun _ _ h => h)
  rintro k acc t ⟨rfl, rfl⟩
  have hk : k.val < 5 := k.isLt
  unfold k0_t9_body
  refine W_ld_l2v ?_
  refine W_ld_l2i ?_
  refine W_ret ⟨?_, rfl⟩
  rw [off7_eq k hk, up_eq_pay6]
  show up _ _ _ = up _ (ld t.l2v (0 + k.val * 16)) (ld t.l2i (0 + k.val * 16))
  rw [Nat.zero_add]

/-- The first half of the maximum's tree. -/
theorem part1_run (hb : k0_cond1 i = 1#1) (v595 : Elt F .i32) (s : St F) (hk : (kn s).toNat ≤ 100) :
    W d i (k0_part1 i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 hb v595) s (fun r t => r.1 = kn s ∧ r.2.2.1 = (top s).1 ∧ r.2.2.2.1 = (top s).2 ∧
      r.2.2.2.2.1 = ld t.hb 0 ∧ r.2.2.2.2.2 = ld t.hb 1 ∧
      t = { s with hb := stg FloatOps.maximumf (stg FloatOps.maximumf (stg FloatOps.maximumf (st s.hb 0 (top s).1) 8) 4) 2 }) := by
  rw [k0_part1_eq_skeleton]
  unfold k0_part1_skel
  refine W_ld_sm 0 rfl ?_
  refine W_assume (chk4_of i v595 hk) ?_
  refine W_bind1 (t9_run hb v595 s) ?_
  refine W_ld_hb ?_
  refine W_st_hb ?_
  refine W_ld_hb ?_
  refine W_ld_hb ?_
  refine W_ld_hb ?_
  refine W_st_hb ?_
  refine W_ld_hb ?_
  refine W_ld_hb ?_
  refine W_ld_hb ?_
  refine W_st_hb ?_
  refine W_ld_hb ?_
  refine W_ld_hb ?_
  refine W_ld_hb ?_
  refine W_st_hb ?_
  refine W_ld_hb ?_
  refine W_ld_hb ?_
  refine W_ret ⟨rfl, rfl, rfl, ?_, rfl, ?_⟩
  · simp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay29, k0_pay30, k0_pay31, k0_pay32, k0_pay33, k0_pay34, k0_pay35, k0_pay36, sc_id]
    rfl
  · simp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay29, k0_pay30, k0_pay31, k0_pay32, k0_pay33, k0_pay34, k0_pay35, k0_pay36, sc_id]
    rfl

/-- The maximum, and the first half of the tree of positions. -/
theorem part2_run (a : Pairs F) (x y : S16.Idx → F .f32) (s : St F) (hx : x = ld s.hb 0) (hy : y = ld s.hb 1) :
    W d i (k0_part2 i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 a.1 a.2 x y) s (fun r t => r.1 = stg FloatOps.maximumf s.hb 1 0 ∧ r.2 = ld t.ib 0 ∧
      t = { s with hb := stg FloatOps.maximumf s.hb 1, ib := stg IntOp.minsi (stg IntOp.minsi (stg IntOp.minsi (st s.ib 0 (cand a (stg FloatOps.maximumf s.hb 1 0))) 8) 4) 2 }) := by
  subst hx hy
  rw [k0_part2_eq_skeleton]
  unfold k0_part2_skel
  refine W_ld_hb ?_
  refine W_st_hb ?_
  refine W_ld_hb ?_
  refine W_ld_ib ?_
  refine W_st_ib ?_
  refine W_ld_ib ?_
  refine W_ld_ib ?_
  refine W_ld_ib ?_
  refine W_st_ib ?_
  refine W_ld_ib ?_
  refine W_ld_ib ?_
  refine W_ld_ib ?_
  refine W_st_ib ?_
  refine W_ld_ib ?_
  refine W_ld_ib ?_
  refine W_ld_ib ?_
  refine W_st_ib ?_
  refine W_ld_ib ?_
  refine W_ret ⟨?_, rfl, ?_⟩
  · simp only [k0_pay14, k0_pay13, sc_id, pick_eq]
    rfl
  · simp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay29, k0_pay30, k0_pay31, k0_pay32, k0_pay33, k0_pay34, k0_pay35, k0_pay36, sc_id, pick_eq]
    rfl

/-- The candidate's position, its threshold test and its box. -/
theorem part3_run (hb : k0_cond1 i = 1#1) (v595 : Elt F .i32) (hc : k0_cond2 v595 = 1#1) (v600 : Elt F .i32) (m : F .f32) (z : S16.Idx → BitVec 32) (s : St F) (hz : z = ld s.ib 0)
    (hw : (stg IntOp.minsi s.ib 1 0).toNat < 2 ^ 31) :
    W d i (k0_part3 i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 hb v595 hc v600 m z) s (fun r t => r.1 = stg IntOp.minsi s.ib 1 0 ∧
      r.2.2.1 = Scalar.minsi (stg IntOp.minsi s.ib 1 0) 20000#32 ∧ r.2.2.2.1 = Scalar.cmpf .olt m (Scalar.ofBits .f32 0x3ECCCCCD#32) ∧
      r.2.2.2.2.1 = s.y0v (pos (stg IntOp.minsi s.ib 1 0)) ∧ r.2.2.2.2.2.1 = s.x0v (pos (stg IntOp.minsi s.ib 1 0)) ∧
      r.2.2.2.2.2.2.1 = s.y1v (pos (stg IntOp.minsi s.ib 1 0)) ∧ r.2.2.2.2.2.2.2.1 = s.x1v (pos (stg IntOp.minsi s.ib 1 0)) ∧
      r.2.2.2.2.2.2.2.2.1 = areaAt s (pos (stg IntOp.minsi s.ib 1 0)) ∧
      t = { s with ib := stg IntOp.minsi s.ib 1 }) := by
  subst hz
  have e : st s.ib 0 (k0_pay19 (F := F) (ld s.ib 0) (ld s.ib 1)) = stg IntOp.minsi s.ib 1 := by
    simp only [k0_pay19, sc_id]
    rfl
  have e' : extractAt ![0] (k0_pay20 (F := F) (ld (stg IntOp.minsi s.ib 1) 0)) inpos_S1_p0 = stg IntOp.minsi s.ib 1 0 := by
    simp only [k0_pay20, sc_id, pick_eq]
    rfl
  rw [k0_part3_eq_skeleton]
  unfold k0_part3_skel
  refine W_ld_ib ?_
  refine W_ld_ib ?_
  refine W_st_ib ?_
  refine W_ld_ib ?_
  simp only [Matrix.cons_val_fin_one, Matrix.cons_val_zero, e, e']
  refine W_assume (chk3_of i v595 hw) ?_
  refine W_ld_y0v ?_
  refine W_ld_x0v ?_
  refine W_ld_y1v ?_
  refine W_ld_x1v ?_
  have hl : ∀ f : ℕ → F .f32, ld f (k0_off8 (stg IntOp.minsi s.ib 1 0) 0) (lane 0) = f (pos (stg IntOp.minsi s.ib 1 0)) := fun f => by
    rw [off8_eq hw]; rfl
  refine W_ret ⟨rfl, rfl, rfl, ?_, ?_, ?_, ?_, ?_, rfl⟩
  · simp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay29, k0_pay30, k0_pay31, k0_pay32, k0_pay33, k0_pay34, k0_pay35, k0_pay36, sc_id, pick_eq]; exact hl _
  · simp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay29, k0_pay30, k0_pay31, k0_pay32, k0_pay33, k0_pay34, k0_pay35, k0_pay36, sc_id, pick_eq]; exact hl _
  · simp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay29, k0_pay30, k0_pay31, k0_pay32, k0_pay33, k0_pay34, k0_pay35, k0_pay36, sc_id, pick_eq]; exact hl _
  · simp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay29, k0_pay30, k0_pay31, k0_pay32, k0_pay33, k0_pay34, k0_pay35, k0_pay36, sc_id, pick_eq]; exact hl _
  · simp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay29, k0_pay30, k0_pay31, k0_pay32, k0_pay33, k0_pay34, k0_pay35, k0_pay36, sc_id, pick_eq]
    unfold areaAt
    rw [← hl s.y1v, ← hl s.y0v, ← hl s.x1v, ← hl s.x0v]
    rfl

end Cert.Proof.Nms
-- ==== Proof.PopB.lean ====
/-
  The second half of a pop: the overlaps, the refreshed scores, the kept box.
-/
module

public import proofs.«01_k».proof.Proof.PopA

@[expose] public section

set_option maxRecDepth 65536
set_option maxHeartbeats 4000000

noncomputable section

namespace Cert.Proof.Nms

open Cert.KernelIdeal Cert.KernelIdeal.Gen
open Idealize.ShloMosaic
open Idealize.ShloMosaic.SparseCore (S V T)
open Idealize.SL Idealize.SL.RA Idealize.SL.BI

variable {F : FTy → Type} [FloatOps F]
variable {d : Dev nD} {i : grid0.Coords}
variable {a2 : Memref sig .scVector .hbm S8x20016 .f32} {h2 : a2.IsWhole}
variable {a3 : Memref sig .scVector .hbm S8x20016 .f32} {h3 : a3.IsWhole}
variable {a4 : Memref sig .scVector .hbm S8x20016 .f32} {h4 : a4.IsWhole}
variable {a5 : Memref sig .scVector .hbm S8x20016 .f32} {h5 : a5.IsWhole}
variable {a6 : Memref sig .scVector .hbm S8x20016 .f32} {h6 : a6.IsWhole}
variable {a7 : Memref sig .scVector .hbm S8x112 .f32} {h7 : a7.IsWhole}
variable {a8 : Memref sig .scVector .hbm S8x112 .f32} {h8 : a8.IsWhole}
variable {a9 : Memref sig .scVector .hbm S8x112 .f32} {h9 : a9.IsWhole}
variable {a10 : Memref sig .scVector .hbm S8x112 .f32} {h10 : a10.IsWhole}
variable {a11 : Memref sig .scVector .hbm S8x112 .f32} {h11 : a11.IsWhole}
variable {h12 : (Memref.whole cc0_scratch0 : Memref sig .scVector .vmem S20016 .f32).IsWhole}
variable {h13 : (Memref.whole cc0_scratch1 : Memref sig .scVector .vmem S20016 .f32).IsWhole}
variable {h14 : (Memref.whole cc0_scratch2 : Memref sig .scVector .vmem S20016 .f32).IsWhole}
variable {h15 : (Memref.whole cc0_scratch3 : Memref sig .scVector .vmem S20016 .f32).IsWhole}
variable {h16 : (Memref.whole cc0_scratch4 : Memref sig .scVector .vmem S20016 .f32).IsWhole}
variable {h17 : (Memref.whole cc0_scratch5 : Memref sig .scVector .vmem S1280 .f32).IsWhole}
variable {h18 : (Memref.whole cc0_scratch6 : Memref sig .scVector .vmem S1280 .i32).IsWhole}
variable {h19 : (Memref.whole cc0_scratch7 : Memref sig .scVector .vmem S80 .f32).IsWhole}
variable {h20 : (Memref.whole cc0_scratch8 : Memref sig .scVector .vmem S80 .i32).IsWhole}
variable {h21 : (Memref.whole cc0_scratch9 : Memref sig .scVector .vmem S112 .f32).IsWhole}
variable {h22 : (Memref.whole cc0_scratch10 : Memref sig .scVector .vmem S112 .f32).IsWhole}
variable {h23 : (Memref.whole cc0_scratch11 : Memref sig .scVector .vmem S112 .f32).IsWhole}
variable {h24 : (Memref.whole cc0_scratch12 : Memref sig .scVector .vmem S112 .f32).IsWhole}
variable {h25 : (Memref.whole cc0_scratch13 : Memref sig .scVector .vmem S112 .f32).IsWhole}
variable {h26 : (Memref.whole cc0_scratch14 : Memref sig .scVector .vmem S112 .f32).IsWhole}
variable {h27 : (Memref.whole cc0_scratch15 : Memref sig .scVector .vmem S112 .f32).IsWhole}
variable {h28 : (Memref.whole cc0_scratch16 : Memref sig .scVector .vmem S32 .f32).IsWhole}
variable {h29 : (Memref.whole cc0_scratch17 : Memref sig .scVector .vmem S32 .i32).IsWhole}
variable {h30 : (Memref.whole cc0_scratch18 : Memref sig .scVector .smem S4 .i32).IsWhole}
variable {q0 q1 q2 q3 q4 q5 q6 q7 q8 q9 : DmaSems sig S_}

/-- The scan of the kept boxes finds each lane's largest overlap. -/
theorem t10_run (hb : k0_cond1 i = 1#1) (v595 : Elt F .i32) (hc : k0_cond2 v595 = 1#1) (w : Elt F .i32) (hw : k0_chk4 i v595 w) (hk : BitVec.toNat w ≤ 100) (p : ℕ) (s : St F) (b1 b2 b3 b4 b5 b6 : BitVec 32) :
    W d i (Scf.Loop.for (k0_t10_loop w) (k0_t10_ok i v595 w hw hb hc) (k0_pay26 (F := F)) (k0_t10_body i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 hb v595 hc w hw (s.y0v p) (s.x0v p) (s.y1v p) (s.x1v p) (areaAt s p) b1 b2 b3 b4 b5 b6)) s
      (fun a t => a = wfold s p ((BitVec.toNat w + 15) / 16) ∧ t = s) := by
  have ht : Scf.trips (k0_t10_loop w).lb (k0_t10_loop w).ub (k0_t10_loop w).st = (BitVec.toNat w + 15) / 16 := by
    rw [t10_eq hk]; exact trips_ofNat _ (by omega)
  refine W_for _ _ _ _ _ _ (fun k a t => a = wfold s p k ∧ t = s) ⟨rfl, rfl⟩ ?_ (fun _ _ h => ht ▸ h)
  rintro k acc t ⟨rfl, rfl⟩
  have hk7 : k.val < 7 := by have := k.isLt; omega
  unfold k0_t10_body
  refine W_ld_ky0 ?_
  refine W_ld_kx0 ?_
  refine W_ld_ky1 ?_
  refine W_ld_kx1 ?_
  refine W_ld_ka ?_
  refine W_ret ⟨?_, rfl⟩
  rw [off9_eq hk k hk7, pay27_eq]
  rfl

/-- The overlaps, and the first half of their maximum's tree. -/
theorem part4_run (hb : k0_cond1 i = 1#1) (v595 : Elt F .i32) (hc : k0_cond2 v595 = 1#1) (w : Elt F .i32) (hw : k0_chk4 i v595 w) (hk : BitVec.toNat w ≤ 100) (p : ℕ) (s : St F) (b1 b2 b3 b4 b5 b6 : BitVec 32) :
    W d i (k0_part4 i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 hb v595 hc w hw (s.y0v p) (s.x0v p) (s.y1v p) (s.x1v p) (areaAt s p) b1 b2 b3 b4 b5 b6) s
      (fun a t => a = (fun x => FloatOps.maximumf (ld t.hb 0 x) (ld t.hb 2 x)) ∧
        t = { s with hb := stg FloatOps.maximumf (stg FloatOps.maximumf (st s.hb 0 (wfold s p ((BitVec.toNat w + 15) / 16))) 8) 4 }) := by
  have ht : Scf.trips (k0_t11_loop w).lb (k0_t11_loop w).ub (k0_t11_loop w).st = 0 := by
    rw [t11_eq hk]; exact trips_self _ (by omega)
  rw [k0_part4_eq_skeleton]
  unfold k0_part4_skel
  refine W_bind1 (t10_run hb v595 hc w hw hk p s b1 b2 b3 b4 b5 b6) ?_
  refine W_bind1 (W_for0 _ _ _ _ _ _ ht ⟨rfl, rfl⟩) ?_
  refine W_ld_hb ?_
  refine W_st_hb ?_
  refine W_ld_hb ?_
  refine W_ld_hb ?_
  refine W_ld_hb ?_
  refine W_st_hb ?_
  refine W_ld_hb ?_
  refine W_ld_hb ?_
  refine W_ld_hb ?_
  refine W_st_hb ?_
  refine W_ld_hb ?_
  refine W_ld_hb ?_
  refine W_ret ⟨?_, ?_⟩
  · simp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay29, k0_pay30, k0_pay31, k0_pay32, k0_pay33, k0_pay34, k0_pay35, k0_pay36, sc_id]
    rfl
  · simp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay29, k0_pay30, k0_pay31, k0_pay32, k0_pay33, k0_pay34, k0_pay35, k0_pay36, sc_id]
    rfl

/-- The decision, and the row of scores the candidate lies in. -/
theorem part5_run (hb : k0_cond1 i = 1#1) (v595 : Elt F .i32) (hc : k0_cond2 v595 = 1#1) (w : BitVec 32) (hw : k0_chk3 i v595 w) (hlt : w.toNat < 2 ^ 31) (c : BitVec 1) (z : S16.Idx → F .f32) (s : St F)
    (hz : z = fun x => FloatOps.maximumf (ld s.hb 0 x) (ld s.hb 2 x)) :
    W d i (k0_part5 i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 hb v595 hc w hw (Scalar.minsi w 20000#32) c z) s
      (fun r t => r.1 = Scalar.andi (Scalar.cmpf .ole (stg FloatOps.maximumf (stg FloatOps.maximumf s.hb 2) 1 0) (Scalar.ofBits .f32 0x3F000000#32)) (Scalar.xori c 1#1) ∧
        r.2.2.1 = ld s.mv (pos w / 16 * 16) ∧ r.2.2.2 = (fun _ => Scalar.select c 4294967295#32 (BitVec.ofNat 32 (pos w % 16))) ∧
        t = { s with hb := stg FloatOps.maximumf (stg FloatOps.maximumf s.hb 2) 1 }) := by
  subst hz
  have hp := pos_le w
  rw [k0_part5_eq_skeleton]
  unfold k0_part5_skel
  refine W_ld_hb ?_
  refine W_st_hb ?_
  refine W_ld_hb ?_
  refine W_ld_hb ?_
  refine W_ld_hb ?_
  refine W_st_hb ?_
  refine W_ld_hb ?_
  refine W_ld_mv ?_
  refine W_ret ⟨?_, ?_, ?_, ?_⟩
  · simp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay29, k0_pay30, k0_pay31, k0_pay32, k0_pay33, k0_pay34, k0_pay35, k0_pay36, sc_id, pick_eq]
    rfl
  · simp only [k0_pay36, sc_id, off11_eq hlt]
  · simp only [k0_pay37, min_pos hlt, fdiv_ofNat (pos w) 16 (by omega) (by omega) (by omega), mul_ofNat, sub_mod]
    rfl
  · simp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay29, k0_pay30, k0_pay31, k0_pay32, k0_pay33, k0_pay34, k0_pay35, k0_pay36, sc_id]
    rfl

theorem select_flip {α : Type} (c : BitVec 1) (a b : α) : Scalar.select c a b = Scalar.select (Scalar.xori c 1#1) b a := by
  obtain rfl | rfl : c = 0#1 ∨ c = 1#1 := by
    rcases c with ⟨⟨n, hn⟩⟩
    have hn' : n < 2 := by simpa using hn
    interval_cases n
    · exact .inl rfl
    · exact .inr rfl
  all_goals rfl

/-- The rescan of a group finds each lane's best. -/
theorem t12_run (v2 : IVec S16 32) (hv2 : ∀ x, v2 x = BitVec.ofNat 32 (x 0).val) (hb : k0_cond1 i = 1#1) (v595 : Elt F .i32) (hc : k0_cond2 v595 = 1#1) (w : BitVec 32) (hw : k0_chk3 i v595 w) (hlt : w.toNat < 2 ^ 31) (v798 : BitVec 32) (v802 : FVec F S16 .f32) (v804 : IVec S16 32) (s : St F) :
    W d i (Scf.Loop.for (k0_t12_loop w) (k0_t12_ok i v595 w hw hb hc) (k0_pay39 (F := F), k0_pay40) (k0_t12_body i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v2 hb v595 hc w hw (Scalar.minsi w 20000#32) v798 v802 v804)) s
      (fun a t => a = ((fold s.mv (fun n => BitVec.ofNat 32 n) (pos w / 256 * 256) (rowsOf (pos w / 256))).1, (fold s.mv (fun n => BitVec.ofNat 32 n) (pos w / 256 * 256) (rowsOf (pos w / 256))).2) ∧ t = s) := by
  have ht : Scf.trips (k0_t12_loop w).lb (k0_t12_loop w).ub (k0_t12_loop w).st = rowsOf (pos w / 256) := by
    rw [t12_eq hlt]; exact trips_ofNat _ (by have := rowsOf_le (pos w / 256); omega)
  refine W_for _ _ _ _ _ _ (fun k a t => a = ((fold s.mv (fun n => BitVec.ofNat 32 n) (pos w / 256 * 256) k).1, (fold s.mv (fun n => BitVec.ofNat 32 n) (pos w / 256 * 256) k).2) ∧ t = s) ⟨rfl, rfl⟩ ?_ (fun _ _ h => ht ▸ h)
  rintro k acc t ⟨rfl, rfl⟩
  have hk : k.val < 16 := by have := k.isLt; have := rowsOf_le (pos w / 256); omega
  unfold k0_t12_body
  refine W_ld_mv ?_
  refine W_ret ⟨?_, rfl⟩
  rw [off12_eq hlt k hk, up_eq_pay43 v2 hv2 hlt k (fold t.mv (fun n => BitVec.ofNat 32 n) (pos w / 256 * 256) k.val), show (pos w / 256 * 16 + k.val) * 16 = pos w / 256 * 256 + k.val * 16 by omega]
  rfl

/-- The candidate's score is taken out, and its group rescanned. -/
theorem part6_run (v2 : IVec S16 32) (hv2 : ∀ x, v2 x = BitVec.ofNat 32 (x 0).val) (hb : k0_cond1 i = 1#1) (v595 : Elt F .i32) (hc : k0_cond2 v595 = 1#1) (w : BitVec 32) (hw : k0_chk3 i v595 w) (hlt : w.toNat < 2 ^ 31) (c : BitVec 1) (v798 : BitVec 32) (v802 : S16.Idx → F .f32) (v804 : S16.Idx → BitVec 32) (s : St F)
    (h802 : v802 = ld s.mv (pos w / 16 * 16)) (h804 : v804 = fun _ => Scalar.select c 4294967295#32 (BitVec.ofNat 32 (pos w % 16))) :
    W d i (k0_part6 i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v2 hb v595 hc w hw (Scalar.minsi w 20000#32) v798 v802 v804) s
      (fun r t => r.2.1 = (fold t.mv (fun n => BitVec.ofNat 32 n) (pos w / 256 * 256) (rowsOf (pos w / 256))).1 ∧
        r.2.2.1 = (fold t.mv (fun n => BitVec.ofNat 32 n) (pos w / 256 * 256) (rowsOf (pos w / 256))).2 ∧
        t = { s with mv := put (Scalar.xori c 1#1) s.mv (pos w) (Scalar.ofBits .f32 0xBF800000#32) }) := by
  have ht : Scf.trips (k0_t13_loop w).lb (k0_t13_loop w).ub (k0_t13_loop w).st = 0 := by
    rw [t13_eq hlt]; exact trips_self _ (by have := rowsOf_le (pos w / 256); omega)
  have e : st s.mv (k0_off11 w 0) (k0_pay38 v2 v802 v804) = put (Scalar.xori c 1#1) s.mv (pos w) (Scalar.ofBits .f32 0xBF800000#32) := by
    rw [h802, h804, off11_eq hlt, ← st_put (Scalar.xori c 1#1) s.mv (pos w) _ _ (select_flip c _ _)]
    refine congrArg (st s.mv _) ?_
    simp only [k0_pay38, sc_id]
    funext x
    rw [← hv2]
    rfl
  rw [k0_part6_eq_skeleton]
  unfold k0_part6_skel
  refine W_ld_mv ?_
  refine W_st_mv ?_
  rw [e]
  refine W_bind1 (t12_run v2 hv2 hb v595 hc w hw hlt v798 v802 v804 _) ?_
  refine W_bind1 (W_for0 _ _ _ _ _ _ ht ⟨rfl, rfl⟩) ?_
  refine W_ld_l1v ?_
  exact W_ret ⟨rfl, rfl, rfl⟩

/-- The rescan of a group of the first level. -/
theorem t14_run (hb : k0_cond1 i = 1#1) (v595 : Elt F .i32) (hc : k0_cond2 v595 = 1#1) (w : BitVec 32) (hw : k0_chk3 i v595 w) (hlt : w.toNat < 2 ^ 31) (b : BitVec 32) (x : FVec F S16 .f32) (y : IVec S16 32) (z : Vec F S16 .f32) (s : St F) :
    W d i (Scf.Loop.for k0_t14_loop (k0_t14_ok i hb) (k0_pay51 (F := F), k0_pay52) (k0_t14_body i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 hb v595 hc w hw b x y z)) s
      (fun a t => a = ((fold s.l1v s.l1i (pos w / 4096 * 256) 16).1, (fold s.l1v s.l1i (pos w / 4096 * 256) 16).2) ∧ t = s) := by
  refine W_for _ _ _ _ _ _ (fun k a t => a = ((fold s.l1v s.l1i (pos w / 4096 * 256) k).1, (fold s.l1v s.l1i (pos w / 4096 * 256) k).2) ∧ t = s) ⟨rfl, rfl⟩ ?_ (fun _ _ h => h)
  rintro k acc t ⟨rfl, rfl⟩
  have hk : k.val < 16 := k.isLt
  unfold k0_t14_body
  refine W_ld_l1v ?_
  refine W_ld_l1i ?_
  refine W_ret ⟨?_, rfl⟩
  rw [off15_eq hlt k hk, up_eq_pay55, show (pos w / 4096 * 16 + k.val) * 16 = pos w / 4096 * 256 + k.val * 16 by omega]
  rfl

/-- The two levels above are refreshed. -/
theorem part7_run (hb : k0_cond1 i = 1#1) (v595 : Elt F .i32) (hc : k0_cond2 v595 = 1#1) (w : BitVec 32) (hw : k0_chk3 i v595 w) (hlt : w.toNat < 2 ^ 31) (b : BitVec 32) (a : Pairs F) (z : Vec F S16 .f32) (s : St F) :
    W d i (k0_part7 i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 hb v595 hc w hw b a.1 a.2 z) s (fun _ t =>
      t = { s with l1v := st s.l1v (pos w / 256 * 16) a.1, l1i := st s.l1i (pos w / 256 * 16) a.2, l2v := st s.l2v (pos w / 4096 * 16) (fold (st s.l1v (pos w / 256 * 16) a.1) (st s.l1i (pos w / 256 * 16) a.2) (pos w / 4096 * 256) 16).1, l2i := st s.l2i (pos w / 4096 * 16) (fold (st s.l1v (pos w / 256 * 16) a.1) (st s.l1i (pos w / 256 * 16) a.2) (pos w / 4096 * 256) 16).2 }) := by
  rw [k0_part7_eq_skeleton]
  unfold k0_part7_skel
  refine W_st_l1v ?_
  refine W_ld_l1i ?_
  refine W_st_l1i ?_
  refine W_bind1 (t14_run hb v595 hc w hw hlt b a.1 a.2 z _) ?_
  refine W_ld_l2v ?_
  refine W_st_l2v ?_
  refine W_ld_l2i ?_
  refine W_st_l2i ?_
  refine W_ret ?_
  simp only [k0_pay49, k0_pay50, k0_pay57, k0_pay58, sc_id, off14_eq hlt, off16_eq hlt]

/-- The kept box's first two coordinates. -/
theorem part8_run (v2 : IVec S16 32) (hv2 : ∀ x, v2 x = BitVec.ofNat 32 (x 0).val) (hb : k0_cond1 i = 1#1) (v595 : Elt F .i32) (hc : k0_cond2 v595 = 1#1) (x y : F .f32) (c : BitVec 1) (s : St F) (hk : (kn s).toNat ≤ 100) :
    W d i (k0_part8 i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v2 hb v595 hc x y c) s (fun r t => r.1 = kn s ∧
      r.2.2.2.1 = Scalar.select c (BitVec.ofNat 32 ((kn s).toNat % 16)) 4294967295#32 ∧
      r.2.2.2.2.1 = (fun l => IntOp.cmpi .eq (v2 l) (Scalar.select c (BitVec.ofNat 32 ((kn s).toNat % 16)) 4294967295#32)) ∧
      r.2.2.2.2.2 = ld s.ky1 ((kn s).toNat / 16 * 16) ∧
      t = { s with ky0 := put c s.ky0 (kn s).toNat x, kx0 := put c s.kx0 (kn s).toNat y }) := by
  obtain ⟨n, hn, hs⟩ : ∃ n, n ≤ 100 ∧ kn s = BitVec.ofNat 32 n := ⟨(kn s).toNat, hk, by simp⟩
  have hs' : (kn s).toNat = n := by rw [hs]; exact toNat_small (by omega)
  have hf := fdiv_ofNat n 16 (by omega) (by omega) (by omega)
  have ho : k0_off17 (kn s) 0 = n / 16 * 16 := by rw [off17_eq (show (kn s).toNat < 112 by omega), hs']
  rw [k0_part8_eq_skeleton]
  unfold k0_part8_skel
  refine W_ld_sm 0 rfl ?_
  refine W_assume (chk5_of i v595 (show (kn s).toNat < 112 by omega)) ?_
  refine W_ld_ky0 ?_
  refine W_ld_ky0 ?_
  refine W_st_ky0 ?_
  refine W_ld_kx0 ?_
  refine W_ld_kx0 ?_
  refine W_st_kx0 ?_
  refine W_ld_ky1 ?_
  simp only [ho, hs']
  have ew := (fun f (v : F .f32) => st_put c f n v _ rfl)
  refine W_ret ⟨rfl, ?_, ?_, ?_, ?_⟩
  · simp only [hs, hf, mul_ofNat, sub_mod]
  · simp only [k0_pay61, hs, hf, mul_ofNat, sub_mod]
    rfl
  · simp only [k0_pay62, sc_id]
  · simp only [k0_pay59, k0_pay60, hs, hf, mul_ofNat, sub_mod, sc_id]
    rw [← ew, ← ew]
    simp only [← hv2]
    rfl

end Cert.Proof.Nms
-- ==== Proof.PopC.lean ====
/-
  One pop as a whole.
-/
module

public import proofs.«01_k».proof.Proof.PopB

@[expose] public section

set_option maxRecDepth 65536
set_option maxHeartbeats 4000000

noncomputable section

namespace Cert.Proof.Nms

open Cert.KernelIdeal Cert.KernelIdeal.Gen
open Idealize.ShloMosaic
open Idealize.ShloMosaic.SparseCore (S V T)
open Idealize.SL Idealize.SL.RA Idealize.SL.BI

variable {F : FTy → Type} [FloatOps F]
variable {d : Dev nD} {i : grid0.Coords}
variable {a2 : Memref sig .scVector .hbm S8x20016 .f32} {h2 : a2.IsWhole}
variable {a3 : Memref sig .scVector .hbm S8x20016 .f32} {h3 : a3.IsWhole}
variable {a4 : Memref sig .scVector .hbm S8x20016 .f32} {h4 : a4.IsWhole}
variable {a5 : Memref sig .scVector .hbm S8x20016 .f32} {h5 : a5.IsWhole}
variable {a6 : Memref sig .scVector .hbm S8x20016 .f32} {h6 : a6.IsWhole}
variable {a7 : Memref sig .scVector .hbm S8x112 .f32} {h7 : a7.IsWhole}
variable {a8 : Memref sig .scVector .hbm S8x112 .f32} {h8 : a8.IsWhole}
variable {a9 : Memref sig .scVector .hbm S8x112 .f32} {h9 : a9.IsWhole}
variable {a10 : Memref sig .scVector .hbm S8x112 .f32} {h10 : a10.IsWhole}
variable {a11 : Memref sig .scVector .hbm S8x112 .f32} {h11 : a11.IsWhole}
variable {h12 : (Memref.whole cc0_scratch0 : Memref sig .scVector .vmem S20016 .f32).IsWhole}
variable {h13 : (Memref.whole cc0_scratch1 : Memref sig .scVector .vmem S20016 .f32).IsWhole}
variable {h14 : (Memref.whole cc0_scratch2 : Memref sig .scVector .vmem S20016 .f32).IsWhole}
variable {h15 : (Memref.whole cc0_scratch3 : Memref sig .scVector .vmem S20016 .f32).IsWhole}
variable {h16 : (Memref.whole cc0_scratch4 : Memref sig .scVector .vmem S20016 .f32).IsWhole}
variable {h17 : (Memref.whole cc0_scratch5 : Memref sig .scVector .vmem S1280 .f32).IsWhole}
variable {h18 : (Memref.whole cc0_scratch6 : Memref sig .scVector .vmem S1280 .i32).IsWhole}
variable {h19 : (Memref.whole cc0_scratch7 : Memref sig .scVector .vmem S80 .f32).IsWhole}
variable {h20 : (Memref.whole cc0_scratch8 : Memref sig .scVector .vmem S80 .i32).IsWhole}
variable {h21 : (Memref.whole cc0_scratch9 : Memref sig .scVector .vmem S112 .f32).IsWhole}
variable {h22 : (Memref.whole cc0_scratch10 : Memref sig .scVector .vmem S112 .f32).IsWhole}
variable {h23 : (Memref.whole cc0_scratch11 : Memref sig .scVector .vmem S112 .f32).IsWhole}
variable {h24 : (Memref.whole cc0_scratch12 : Memref sig .scVector .vmem S112 .f32).IsWhole}
variable {h25 : (Memref.whole cc0_scratch13 : Memref sig .scVector .vmem S112 .f32).IsWhole}
variable {h26 : (Memref.whole cc0_scratch14 : Memref sig .scVector .vmem S112 .f32).IsWhole}
variable {h27 : (Memref.whole cc0_scratch15 : Memref sig .scVector .vmem S112 .f32).IsWhole}
variable {h28 : (Memref.whole cc0_scratch16 : Memref sig .scVector .vmem S32 .f32).IsWhole}
variable {h29 : (Memref.whole cc0_scratch17 : Memref sig .scVector .vmem S32 .i32).IsWhole}
variable {h30 : (Memref.whole cc0_scratch18 : Memref sig .scVector .smem S4 .i32).IsWhole}
variable {q0 q1 q2 q3 q4 q5 q6 q7 q8 q9 : DmaSems sig S_}

/-- The staging buffers do not matter to the overlaps. -/
theorem wfold_stage (s : St F) (b : ℕ → F .f32) (c : ℕ → BitVec 32) (p n : ℕ) : wfold { s with hb := b, ib := c } p n = wfold s p n := by
  induction n with
  | zero => rfl
  | succ n ih => unfold wfold; rw [ih]; rfl

/-- One pop: the state becomes `pop` of it, but for the two staging buffers, and the answer is `stop`. -/
theorem part9_run (v2 : IVec S16 32) (hv2 : ∀ x, v2 x = BitVec.ofNat 32 (x 0).val) (hb : k0_cond1 i = 1#1) (v595 : Elt F .i32) (hc : k0_cond2 v595 = 1#1) (s : St F)
    (hk : (kn s).toNat ≤ 100) (hw : (atW s).toNat < 2 ^ 31) :
    W d i (k0_part9 i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v2 hb v595 hc) s (fun r t => r = stop s ∧ ∃ b c, t = { pop s with hb := b, ib := c }) := by
  rw [k0_part9_eq_skeleton]
  unfold k0_part9_skel
  refine W_bind (part1_run hb v595 s hk) ?_
  rintro ⟨v600, hw4, a1, a2, v633, v634⟩ t1 ⟨rfl, rfl, rfl, h3, h4, ht1⟩
  refine W_bind (part2_run (top s) v633 v634 t1 h3 h4) ?_
  rintro ⟨v643, v675⟩ t2 ⟨h1, h5, ht2⟩
  have e1 : stg FloatOps.maximumf t1.hb 1 0 = best s := by rw [ht1]; exact tree_eq _ _ _
  rw [e1] at h1 ht2
  have e0 : stg IntOp.minsi t2.ib 1 0 = atW s := by rw [ht2]; exact tree_eq _ _ _
  obtain ⟨d2, c2, rfl⟩ : ∃ b c, t2 = { s with hb := b, ib := c } := by rw [ht2, ht1]; exact ⟨_, _, rfl⟩
  clear h3 h4 ht1 ht2 e1
  refine W_bind (part3_run hb v595 hc _ v643 v675 _ h5 (by rw [e0]; exact hw)) ?_
  rintro ⟨v686, hw3, v687, v688, v693, v698, v703, v708, v711, b1, b2, b3, b4, b5, b6⟩ t3 ⟨h6, h7, h8, h9, h10, h11, h12, h13, ht3⟩
  rw [e0] at h6 h7 h9 h10 h11 h12 h13
  replace h1 : v643 = best s := h1
  replace h6 : v686 = atW s := h6
  replace h7 : v687 = Scalar.minsi (atW s) 20000#32 := h7
  replace h8 : v688 = Scalar.cmpf .olt v643 (Scalar.ofBits .f32 0x3ECCCCCD#32) := h8
  replace h9 : v693 = s.y0v (at' s) := h9
  replace h10 : v698 = s.x0v (at' s) := h10
  replace h11 : v703 = s.y1v (at' s) := h11
  replace h12 : v708 = s.x1v (at' s) := h12
  replace h13 : v711 = areaAt s (at' s) := h13
  rw [h1] at h8
  replace h8 : v688 = dead s := h8
  obtain ⟨c3, rfl⟩ : ∃ c, t3 = { s with hb := d2, ib := c } := ⟨_, ht3⟩
  clear ht3 e0 h5
  subst h1 h6 h7 h8 h9 h10 h11 h12 h13
  refine W_bind (part4_run hb v595 hc _ hw4 hk (at' s) _ b1 b2 b3 b4 b5 b6) ?_
  rintro v762 t4 ⟨h14, ht4⟩
  rw [wfold_stage] at ht4
  refine W_bind (part5_run hb v595 hc _ hw3 hw _ v762 t4 h14) ?_
  rintro ⟨v780, v798, v802, v804⟩ t5 ⟨h15, h16, h17, ht5⟩
  have e2 : stg FloatOps.maximumf (stg FloatOps.maximumf t4.hb 2) 1 0 = worst s := by rw [ht4]; exact tree_eq _ _ _
  rw [e2] at h15
  replace h15 : v780 = okB s := h15
  rw [ht4] at h16
  replace h16 : v802 = ld s.mv (at' s / 16 * 16) := h16
  obtain ⟨b5, rfl⟩ : ∃ b, t5 = { s with hb := b, ib := c3 } := by rw [ht5, ht4]; exact ⟨_, rfl⟩
  clear h14 ht4 ht5 e2
  subst h15
  refine W_bind (part6_run v2 hv2 hb v595 hc _ hw3 hw (dead s) v798 v802 v804 _ h16 h17) ?_
  rintro ⟨v828, v841_0, v841_1, v844⟩ t6 ⟨h18, h19, ht6⟩
  replace ht6 : t6 = { s with hb := b5, ib := c3, mv := mv1 s } := ht6
  subst ht6
  replace h18 : v841_0 = (grp1 s).1 := h18
  replace h19 : v841_1 = (grp1 s).2 := h19
  subst h18 h19
  refine W_bind (part7_run hb v595 hc _ hw3 hw v828 (grp1 s) v844 _) ?_
  rintro _ t7 ht7
  replace ht7 : t7 = { s with hb := b5, ib := c3, mv := mv1 s, l1v := l1v1 s, l1i := l1i1 s, l2v := st s.l2v (at' s / 4096 * 16) (grp2 s).1, l2i := st s.l2i (at' s / 4096 * 16) (grp2 s).2 } := ht7
  subst ht7
  generalize hst : ({ s with hb := b5, ib := c3, mv := mv1 s, l1v := l1v1 s, l1i := l1i1 s, l2v := st s.l2v (at' s / 4096 * 16) (grp2 s).1, l2i := st s.l2i (at' s / 4096 * 16) (grp2 s).2 } : St F) = t7
  have hk7 : kn t7 = kn s := by subst hst; rfl
  refine W_bind (part8_run v2 hv2 hb v595 hc _ _ (okB s) t7 (by rw [hk7]; exact hk)) ?_
  rintro ⟨v884, hw5, v902, v904, v928, v931⟩ t8 ⟨h20, h21, h22, h23, ht8⟩
  rw [hk7] at h20 h21 h22 h23 ht8
  subst ht8 h21 h22 h23
  replace h20 : v884 = kn s := h20
  subst h20
  obtain ⟨n, hn, hs⟩ : ∃ n, n ≤ 100 ∧ kn s = BitVec.ofNat 32 n := ⟨(kn s).toNat, hk, by simp⟩
  have ho : k0_off17 (kn s) 0 = (kn s).toNat / 16 * 16 := off17_eq (show (kn s).toNat < 112 by omega)
  refine W_ld_ky1 ?_
  refine W_st_ky1 ?_
  refine W_ld_kx1 ?_
  refine W_ld_kx1 ?_
  refine W_st_kx1 ?_
  refine W_ld_ka ?_
  refine W_ld_ka ?_
  refine W_st_ka ?_
  refine W_ld_ksc ?_
  refine W_ld_ksc ?_
  refine W_st_ksc ?_
  refine W_ld_sm 0 rfl ?_
  refine W_st_sm 0 rfl ?_
  simp only [ho]
  have ew := (fun f (v : F .f32) => st_put (okB s) f (kn s).toNat v _ rfl)
  refine W_ret ⟨rfl, b5, c3, ?_⟩
  simp only [k0_pay63, k0_pay64, k0_pay65, k0_pay66, sc_id]
  unfold pop
  subst hst
  rw [← ew, ← ew, ← ew, ← ew, ← ew, ← ew]
  simp only [← hv2]
  rfl

end Cert.Proof.Nms
-- ==== Proof.Phase.lean ====
/-
  The whole search as a function of the state, and the bounds it keeps.
-/
module

public import proofs.«01_k».proof.Proof.PopC

@[expose] public section

set_option maxRecDepth 65536
set_option maxHeartbeats 4000000

noncomputable section

namespace Cert.Proof.Nms

open Cert.KernelIdeal Cert.KernelIdeal.Gen
open Idealize.ShloMosaic
open Idealize.ShloMosaic.SparseCore (S V T)
open Idealize.SL Idealize.SL.RA Idealize.SL.BI

variable {F : FTy → Type} [FloatOps F]

/-- One turn of the search: a pop unless the search has ended. -/
def step (s : St F) : St F :=
  if s.sm 1 = 0#32 then { pop s with sm := Function.update (pop s).sm 1 (Scalar.select (stop s) 1#32 0#32) } else s

/-- A score, or −1 if its box is not to be considered. -/
def msc (s y0 x0 y1 x1 : F .f32) : F .f32 :=
  Scalar.select (IntOp.andi (IntOp.andi (IntOp.andi
      (FloatOps.cmpf .ole (FloatOps.divf (FloatOps.subf x1 x0) (Scalar.ofBits .f32 0x44000000#32)) (Scalar.ofBits .f32 0x3F800000#32))
      (FloatOps.cmpf .ole (FloatOps.divf (FloatOps.subf y1 y0) (Scalar.ofBits .f32 0x44000000#32)) (Scalar.ofBits .f32 0x3F800000#32)))
      (FloatOps.cmpf .ogt (FloatOps.mulf (FloatOps.subf y1 y0) (FloatOps.subf x1 x0)) (Scalar.ofBits .f32 0x42C80000#32)))
      (FloatOps.cmpf .oge s (Scalar.ofBits .f32 0x3ECCCCCD#32)))
    s (Scalar.ofBits .f32 0xBF800000#32)

/-- The masked score of position `n`. -/
def mscAt (s : St F) (n : ℕ) : F .f32 := msc (s.mv n) (s.y0v n) (s.x0v n) (s.y1v n) (s.x1v n)

/-- Blocks of sixteen, the first `g` of them stored. -/
def blk {α : Type} (f : ℕ → α) (w : ℕ → S16.Idx → α) : ℕ → ℕ → α
  | 0 => f
  | g + 1 => st (blk f w g) (g * 16) (w g)

theorem blk_at {α : Type} (f : ℕ → α) (w : ℕ → S16.Idx → α) (G n : ℕ) :
    blk f w G n = if n < 16 * G then w (n / 16) (lane n) else f n := by
  induction G with
  | zero => simp [blk]
  | succ g ih =>
    unfold blk st
    by_cases h : g * 16 ≤ n ∧ n < g * 16 + 16
    · rw [if_pos h, if_pos (by omega), show n / 16 = g by omega]
      refine congrArg (w g) (funext fun a => Fin.ext ?_)
      show (n - g * 16) % 16 = n % 16
      omega
    · rw [if_neg h, ih]
      by_cases h2 : n < 16 * g
      · rw [if_pos h2, if_pos (by omega)]
      · rw [if_neg h2, if_neg (by omega)]

/-- The scores masked up to position `k`. -/
def mvF (s : St F) (k : ℕ) : ℕ → F .f32 := fun n => if n < k then mscAt s n else s.mv n

theorem mvF_st (s : St F) (k : ℕ) : st (mvF s (k * 16)) (k * 16) (ld (mscAt s) (k * 16)) = mvF s ((k + 1) * 16) := by
  funext n
  unfold st
  by_cases h : k * 16 ≤ n ∧ n < k * 16 + 16
  · rw [if_pos h]
    unfold mvF
    rw [if_pos (by omega)]
    exact congrArg (mscAt s) (lane_back h.1 h.2)
  · rw [if_neg h]
    unfold mvF
    by_cases h2 : n < k * 16
    · rw [if_pos h2, if_pos (by omega)]
    · rw [if_neg h2, if_neg (by omega)]

/-- The first level's groups. -/
def lev1 (s : St F) (g : ℕ) : Pairs F := fold (mscAt s) (fun n => BitVec.ofNat 32 n) (g * 256) (rowsOf g)
/-- The first level once `g` groups are built. -/
def l1vB (s : St F) (g : ℕ) : ℕ → F .f32 := blk s.l1v (fun g => (lev1 s g).1) g
def l1iB (s : St F) (g : ℕ) : ℕ → BitVec 32 := blk s.l1i (fun g => (lev1 s g).2) g
/-- The second level's groups. -/
def lev2 (s : St F) (g : ℕ) : Pairs F := fold s.l1v s.l1i (g * 256) 16
def l2vB (s : St F) (g : ℕ) : ℕ → F .f32 := blk s.l2v (fun g => (lev2 s g).1) g
def l2iB (s : St F) (g : ℕ) : ℕ → BitVec 32 := blk s.l2i (fun g => (lev2 s g).2) g

/-- After the first level is built. -/
def built1 (s : St F) : St F := { s with mv := mvF s 20016, l1v := l1vB s 80, l1i := l1iB s 80 }
/-- After the second level is built. -/
def built2 (s : St F) : St F := { s with l2v := l2vB s 5, l2i := l2iB s 5 }
/-- After the kept boxes' slots are filled. -/
def filled (s : St F) : St F :=
  { s with
    ky0 := blk s.ky0 (fun _ _ => Scalar.ofBits .f32 0x4EEE6B28#32) 7, kx0 := blk s.kx0 (fun _ _ => Scalar.ofBits .f32 0x4EEE6B28#32) 7,
    ky1 := blk s.ky1 (fun _ _ => Scalar.ofBits .f32 0x4E6E6B28#32) 7, kx1 := blk s.kx1 (fun _ _ => Scalar.ofBits .f32 0x4E6E6B28#32) 7,
    ka := blk s.ka (fun _ _ => Scalar.ofBits .f32 0x00000000#32) 7, ksc := blk s.ksc (fun _ _ => Scalar.ofBits .f32 0x00000000#32) 7 }
/-- The search begins. -/
def begun (s : St F) : St F := { s with sm := Function.update (Function.update s.sm 0 0#32) 1 0#32 }
/-- The state the search starts from. -/
def start (s : St F) : St F := begun (built2 (built1 (filled s)))

/-- What the checks need: the flag and the count in range, the positions kept small. -/
structure Good (s : St F) : Prop where
  flag : s.sm 1 = 0#32 ∨ s.sm 1 = 1#32
  cnt : (kn s).toNat ≤ 100
  room : s.sm 1 = 0#32 → (kn s).toNat ≤ 99
  i1 : ∀ n < 1280, (s.l1i n).toNat < 2 ^ 30
  i2 : ∀ n < 80, (s.l2i n).toNat < 2 ^ 30

theorem fold_lt (v : ℕ → F .f32) (ix : ℕ → BitVec 32) (o n : ℕ) (h : ∀ m < o + n * 16, (ix m).toNat < 2 ^ 30) (x : S16.Idx) :
    ((fold v ix o n).2 x).toNat < 2 ^ 30 := by
  have hx : (x 0).val < 16 := (x 0).isLt
  induction n with
  | zero => show (0#32).toNat < _; decide
  | succ n ih =>
    show (Scalar.select _ _ _ : BitVec 32).toNat < _
    unfold Scalar.select
    split
    · exact h _ (by show o + n * 16 + (x 0).val < _; omega)
    · exact ih (fun m hm => h m (by omega))

theorem minsi_lt {x y : BitVec 32} (hx : x.toNat < 2 ^ 31) (hy : y.toNat < 2 ^ 31) : (IntOp.minsi x y).toNat < 2 ^ 31 := by
  unfold IntOp.minsi
  split <;> assumption

theorem tree_lt (w : S16.Idx → BitVec 32) (h : ∀ x, (w x).toNat < 2 ^ 31) : (tree IntOp.minsi w).toNat < 2 ^ 31 := by
  unfold tree
  repeat' apply minsi_lt
  all_goals exact h _

theorem Good.atW_lt {s : St F} (h : Good s) : (atW s).toNat < 2 ^ 31 := by
  refine tree_lt _ fun x => ?_
  unfold cand Scalar.select
  split
  · exact lt_trans (fold_lt _ _ _ _ (fun m hm => h.i2 m (by omega)) x) (by norm_num)
  · decide

theorem st_lt (f : ℕ → BitVec 32) (o N : ℕ) (w : S16.Idx → BitVec 32) (hf : ∀ n < N, (f n).toNat < 2 ^ 30) (hw : ∀ x, (w x).toNat < 2 ^ 30) :
    ∀ n < N, (st f o w n).toNat < 2 ^ 30 := by
  intro n hn
  unfold st
  split
  · exact hw _
  · exact hf n hn

theorem blk_lt (f : ℕ → BitVec 32) (w : ℕ → S16.Idx → BitVec 32) (G : ℕ) (hw : ∀ g < G, ∀ x, (w g x).toNat < 2 ^ 30) :
    ∀ n < G * 16, (blk f w G n).toNat < 2 ^ 30 := by
  intro n hn
  rw [blk_at, if_pos (by omega)]
  exact hw _ (by omega) _

theorem bit_cases (c : BitVec 1) : c = 0#1 ∨ c = 1#1 := by
  rcases c with ⟨⟨n, hn⟩⟩
  have hn' : n < 2 := by simpa using hn
  interval_cases n
  · exact .inl rfl
  · exact .inr rfl

theorem succ_kn {k : BitVec 32} (hk : k.toNat ≤ 99) (c : BitVec 1) : (Scalar.addi k (Scalar.extui c)).toNat = k.toNat + c.toNat := by
  have hc : c.toNat < 2 := c.isLt
  have e : (Scalar.extui c : BitVec 32) = BitVec.ofNat 32 c.toNat := by
    rcases bit_cases c with rfl | rfl <;> rfl
  rw [e, show k = BitVec.ofNat 32 k.toNat by simp, add_ofNat]
  rw [toNat_small (by simp; omega)]
  simp

theorem stop_zero {s : St F} (hk : (kn s).toNat ≤ 99) (h : stop s = 0#1) : (Scalar.addi (kn s) (Scalar.extui (okB s))).toNat ≤ 99 := by
  have e := succ_kn hk (okB s)
  have hc : (okB s).toNat < 2 := (okB s).isLt
  by_contra hlt
  have h100 : (Scalar.addi (kn s) (Scalar.extui (okB s)) : BitVec 32) = 100#32 := by
    apply BitVec.eq_of_toNat_eq
    show _ = 100
    omega
  unfold stop at h
  rw [h100] at h
  rcases bit_cases (dead s) with e | e <;> rw [e] at h <;> exact absurd h (by decide)

theorem Good.step {s : St F} (h : Good s) : Good (step s) := by
  unfold Nms.step
  split
  next h0 =>
    have hk := h.room h0
    have hp : at' s ≤ 20000 := pos_le (atW s)
    have i1 : ∀ n < 1280, (l1i1 s n).toNat < 2 ^ 30 := st_lt _ _ _ _ h.i1 (fun x => fold_lt _ _ _ _ (fun m hm => by
      have := rowsOf_le (at' s / 256)
      beta_reduce
      rw [toNat_small (by omega)]
      omega) x)
    have i2 : ∀ n < 80, ((pop s).l2i n).toNat < 2 ^ 30 := st_lt _ _ _ _ h.i2 (fun x => fold_lt _ _ _ _ (fun m hm => i1 m (by omega)) x)
    have c : (Scalar.addi (kn s) (Scalar.extui (okB s))).toNat ≤ 100 := by
      have e := succ_kn hk (okB s)
      have hc : (okB s).toNat < 2 := (okB s).isLt
      omega
    refine ⟨?_, c, ?_, i1, i2⟩
    · show Scalar.select (stop s) 1#32 0#32 = 0#32 ∨ Scalar.select (stop s) 1#32 0#32 = 1#32
      rcases bit_cases (stop s) with e | e <;> rw [e]
      · exact .inl rfl
      · exact .inr rfl
    · show Scalar.select (stop s) 1#32 0#32 = 0#32 → (Scalar.addi (kn s) (Scalar.extui (okB s))).toNat ≤ 99
      rcases bit_cases (stop s) with e | e
      · exact fun _ => stop_zero hk e
      · rw [e]; exact fun h => absurd h (by decide)
  · exact h

theorem Good.iter {s : St F} (h : Good s) (n : ℕ) : Good (Nms.step^[n] s) := by
  induction n with
  | zero => exact h
  | succ n ih => rw [Function.iterate_succ_apply']; exact ih.step

theorem good_start' (s : St F) : Good (begun (built2 (built1 s))) := by
  have h1 : ∀ n < 1280, ((built1 s).l1i n).toNat < 2 ^ 30 := blk_lt _ _ 80 (fun g hg x => fold_lt _ _ _ _ (fun m hm => by
      have := rowsOf_le g
      beta_reduce
      rw [toNat_small (by omega)]
      omega) x)
  refine ⟨.inl rfl, ?_, fun _ => ?_, h1, ?_⟩
  · show (0#32).toNat ≤ 100; decide
  · show (0#32).toNat ≤ 99; decide
  · exact blk_lt _ _ 5 (fun g hg x => fold_lt _ _ _ _ (fun m hm => h1 m (by omega)) x)

theorem good_start (s : St F) : Good (start s) := good_start' _

/-- A search that has ended stays as it is. -/
theorem step_done {s : St F} (h : s.sm 1 ≠ 0#32) : step s = s := if_neg h

theorem iter_done {s : St F} (h : s.sm 1 ≠ 0#32) (n : ℕ) : step^[n] s = s := by
  induction n with
  | zero => rfl
  | succ n ih => rw [Function.iterate_succ_apply', ih, step_done h]

/-- The same state but for the two staging buffers. -/
def Like (s t : St F) : Prop := ∃ b c, t = { s with hb := b, ib := c }

theorem Like.rfl {s : St F} : Like s s := ⟨s.hb, s.ib, by cases s; exact Eq.refl _⟩

theorem Like.trans {s t u : St F} (h : Like s t) (h' : Like t u) : Like s u := by
  obtain ⟨b, c, e⟩ := h
  obtain ⟨b', c', e'⟩ := h'
  subst e
  exact ⟨b', c', e'⟩

theorem atW_stage (s : St F) (b : ℕ → F .f32) (c : ℕ → BitVec 32) : atW { s with hb := b, ib := c } = atW s := rfl
theorem mv1_stage (s : St F) (b : ℕ → F .f32) (c : ℕ → BitVec 32) : mv1 { s with hb := b, ib := c } = mv1 s := rfl
theorem grp1_stage (s : St F) (b : ℕ → F .f32) (c : ℕ → BitVec 32) : grp1 { s with hb := b, ib := c } = grp1 s := by
  unfold grp1
  simp only [at', atW_stage, mv1_stage]
theorem l1v1_stage (s : St F) (b : ℕ → F .f32) (c : ℕ → BitVec 32) : l1v1 { s with hb := b, ib := c } = l1v1 s := by
  unfold l1v1
  simp only [at', atW_stage, grp1_stage]
theorem l1i1_stage (s : St F) (b : ℕ → F .f32) (c : ℕ → BitVec 32) : l1i1 { s with hb := b, ib := c } = l1i1 s := by
  unfold l1i1
  simp only [at', atW_stage, grp1_stage]
theorem grp2_stage (s : St F) (b : ℕ → F .f32) (c : ℕ → BitVec 32) : grp2 { s with hb := b, ib := c } = grp2 s := by
  unfold grp2
  simp only [at', atW_stage, l1v1_stage, l1i1_stage]

theorem pop_stage (s : St F) (b : ℕ → F .f32) (c : ℕ → BitVec 32) : pop { s with hb := b, ib := c } = { pop s with hb := b, ib := c } := by
  have e : worst { s with hb := b, ib := c } = worst s := congrArg (tree FloatOps.maximumf) (wfold_stage s b c _ _)
  have e' : okB { s with hb := b, ib := c } = okB s := by
    unfold okB
    rw [e]
    rfl
  have eb : best { s with hb := b, ib := c } = best s := rfl
  unfold pop
  simp only [e', eb, at', kn, atW_stage, mv1_stage, l1v1_stage, l1i1_stage, grp2_stage, areaAt]

theorem stop_stage (s : St F) (b : ℕ → F .f32) (c : ℕ → BitVec 32) : stop { s with hb := b, ib := c } = stop s := by
  have e : worst { s with hb := b, ib := c } = worst s := congrArg (tree FloatOps.maximumf) (wfold_stage s b c _ _)
  have e' : okB { s with hb := b, ib := c } = okB s := by
    unfold okB
    rw [e]
    rfl
  unfold stop
  rw [e']
  rfl

theorem Like.good {s t : St F} (h : Like s t) (g : Good s) : Good t := by
  obtain ⟨b, c, e⟩ := h
  subst e
  exact ⟨g.flag, g.cnt, g.room, g.i1, g.i2⟩

end Cert.Proof.Nms
-- ==== Proof.Run.lean ====
/-
  The levels are built, and the search is run.
-/
module

public import proofs.«01_k».proof.Proof.Phase

@[expose] public section

set_option maxRecDepth 65536
set_option maxHeartbeats 4000000

noncomputable section

namespace Cert.Proof.Nms

open Cert.KernelIdeal Cert.KernelIdeal.Gen
open Idealize.ShloMosaic
open Idealize.ShloMosaic.SparseCore (S V T)
open Idealize.SL Idealize.SL.RA Idealize.SL.BI

variable {F : FTy → Type} [FloatOps F]
variable {d : Dev nD} {i : grid0.Coords}
variable {a2 : Memref sig .scVector .hbm S8x20016 .f32} {h2 : a2.IsWhole}
variable {a3 : Memref sig .scVector .hbm S8x20016 .f32} {h3 : a3.IsWhole}
variable {a4 : Memref sig .scVector .hbm S8x20016 .f32} {h4 : a4.IsWhole}
variable {a5 : Memref sig .scVector .hbm S8x20016 .f32} {h5 : a5.IsWhole}
variable {a6 : Memref sig .scVector .hbm S8x20016 .f32} {h6 : a6.IsWhole}
variable {a7 : Memref sig .scVector .hbm S8x112 .f32} {h7 : a7.IsWhole}
variable {a8 : Memref sig .scVector .hbm S8x112 .f32} {h8 : a8.IsWhole}
variable {a9 : Memref sig .scVector .hbm S8x112 .f32} {h9 : a9.IsWhole}
variable {a10 : Memref sig .scVector .hbm S8x112 .f32} {h10 : a10.IsWhole}
variable {a11 : Memref sig .scVector .hbm S8x112 .f32} {h11 : a11.IsWhole}
variable {h12 : (Memref.whole cc0_scratch0 : Memref sig .scVector .vmem S20016 .f32).IsWhole}
variable {h13 : (Memref.whole cc0_scratch1 : Memref sig .scVector .vmem S20016 .f32).IsWhole}
variable {h14 : (Memref.whole cc0_scratch2 : Memref sig .scVector .vmem S20016 .f32).IsWhole}
variable {h15 : (Memref.whole cc0_scratch3 : Memref sig .scVector .vmem S20016 .f32).IsWhole}
variable {h16 : (Memref.whole cc0_scratch4 : Memref sig .scVector .vmem S20016 .f32).IsWhole}
variable {h17 : (Memref.whole cc0_scratch5 : Memref sig .scVector .vmem S1280 .f32).IsWhole}
variable {h18 : (Memref.whole cc0_scratch6 : Memref sig .scVector .vmem S1280 .i32).IsWhole}
variable {h19 : (Memref.whole cc0_scratch7 : Memref sig .scVector .vmem S80 .f32).IsWhole}
variable {h20 : (Memref.whole cc0_scratch8 : Memref sig .scVector .vmem S80 .i32).IsWhole}
variable {h21 : (Memref.whole cc0_scratch9 : Memref sig .scVector .vmem S112 .f32).IsWhole}
variable {h22 : (Memref.whole cc0_scratch10 : Memref sig .scVector .vmem S112 .f32).IsWhole}
variable {h23 : (Memref.whole cc0_scratch11 : Memref sig .scVector .vmem S112 .f32).IsWhole}
variable {h24 : (Memref.whole cc0_scratch12 : Memref sig .scVector .vmem S112 .f32).IsWhole}
variable {h25 : (Memref.whole cc0_scratch13 : Memref sig .scVector .vmem S112 .f32).IsWhole}
variable {h26 : (Memref.whole cc0_scratch14 : Memref sig .scVector .vmem S112 .f32).IsWhole}
variable {h27 : (Memref.whole cc0_scratch15 : Memref sig .scVector .vmem S112 .f32).IsWhole}
variable {h28 : (Memref.whole cc0_scratch16 : Memref sig .scVector .vmem S32 .f32).IsWhole}
variable {h29 : (Memref.whole cc0_scratch17 : Memref sig .scVector .vmem S32 .i32).IsWhole}
variable {h30 : (Memref.whole cc0_scratch18 : Memref sig .scVector .smem S4 .i32).IsWhole}
variable {q0 q1 q2 q3 q4 q5 q6 q7 q8 q9 : DmaSems sig S_}

/-- A float held in all lanes. -/
abbrev all16 (b : BitVec 32) : S16.Idx → F .f32 := fun _ => Scalar.ofBits .f32 b

/-- Slots are filled. -/
theorem part39_run (cst_10 : F .f32) (hcst : cst_10 = Scalar.ofBits .f32 0x00000000#32) (s : St F) :
    W d i (k0_part39 i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 cst_10) s (fun a t => a = all16 0x4EEE6B28#32 ∧
      t = { s with ksc := st (st s.ksc 0 (fun _ => Scalar.ofBits .f32 0x00000000#32)) 16 (fun _ => Scalar.ofBits .f32 0x00000000#32), ky0 := st (st s.ky0 16 (fun _ => Scalar.ofBits .f32 0x4EEE6B28#32)) 32 (fun _ => Scalar.ofBits .f32 0x4EEE6B28#32), kx0 := st s.kx0 16 (fun _ => Scalar.ofBits .f32 0x4EEE6B28#32), ky1 := st s.ky1 16 (fun _ => Scalar.ofBits .f32 0x4E6E6B28#32), kx1 := st s.kx1 16 (fun _ => Scalar.ofBits .f32 0x4E6E6B28#32), ka := st s.ka 16 (fun _ => Scalar.ofBits .f32 0x00000000#32) }) := by
  subst hcst
  rw [k0_part39_eq_skeleton]
  unfold k0_part39_skel
  refine W_ld_ksc ?_
  refine W_st_ksc ?_
  refine W_ld_ky0 ?_
  refine W_st_ky0 ?_
  refine W_ld_kx0 ?_
  refine W_st_kx0 ?_
  refine W_ld_ky1 ?_
  refine W_st_ky1 ?_
  refine W_ld_kx1 ?_
  refine W_st_kx1 ?_
  refine W_ld_ka ?_
  refine W_st_ka ?_
  refine W_ld_ksc ?_
  refine W_st_ksc ?_
  refine W_ld_ky0 ?_
  refine W_st_ky0 ?_
  refine W_ld_kx0 ?_
  refine W_ret ⟨?_, ?_⟩
  · rfl
  · simp only [k0_pay269, k0_pay270, k0_pay271, k0_pay272, k0_pay273, k0_pay274, k0_pay275, k0_pay276, k0_pay277, sc_id]
    rfl

/-- Slots are filled. -/
theorem part40_run (v66 : S16.Idx → F .f32) (hin : v66 = all16 0x4EEE6B28#32) (s : St F) :
    W d i (k0_part40 i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v66) s (fun a t => a = all16 0x00000000#32 ∧
      t = { s with kx0 := st (st s.kx0 32 (fun _ => Scalar.ofBits .f32 0x4EEE6B28#32)) 48 (fun _ => Scalar.ofBits .f32 0x4EEE6B28#32), ky1 := st (st s.ky1 32 (fun _ => Scalar.ofBits .f32 0x4E6E6B28#32)) 48 (fun _ => Scalar.ofBits .f32 0x4E6E6B28#32), kx1 := st (st s.kx1 32 (fun _ => Scalar.ofBits .f32 0x4E6E6B28#32)) 48 (fun _ => Scalar.ofBits .f32 0x4E6E6B28#32), ka := st s.ka 32 (fun _ => Scalar.ofBits .f32 0x00000000#32), ksc := st s.ksc 32 (fun _ => Scalar.ofBits .f32 0x00000000#32), ky0 := st s.ky0 48 (fun _ => Scalar.ofBits .f32 0x4EEE6B28#32) }) := by
  subst hin
  rw [k0_part40_eq_skeleton]
  unfold k0_part40_skel
  refine W_st_kx0 ?_
  refine W_ld_ky1 ?_
  refine W_st_ky1 ?_
  refine W_ld_kx1 ?_
  refine W_st_kx1 ?_
  refine W_ld_ka ?_
  refine W_st_ka ?_
  refine W_ld_ksc ?_
  refine W_st_ksc ?_
  refine W_ld_ky0 ?_
  refine W_st_ky0 ?_
  refine W_ld_kx0 ?_
  refine W_st_kx0 ?_
  refine W_ld_ky1 ?_
  refine W_st_ky1 ?_
  refine W_ld_kx1 ?_
  refine W_st_kx1 ?_
  refine W_ret ⟨?_, ?_⟩
  · rfl
  · simp only [k0_pay278, k0_pay279, k0_pay280, k0_pay281, k0_pay282, k0_pay283, k0_pay284, k0_pay285, k0_pay286, k0_pay287, sc_id]
    rfl

/-- Slots are filled. -/
theorem part41_run (v102 : S16.Idx → F .f32) (hin : v102 = all16 0x00000000#32) (s : St F) :
    W d i (k0_part41 i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v102) s (fun a t => a = all16 0x4EEE6B28#32 ∧
      t = { s with ka := st (st s.ka 48 (fun _ => Scalar.ofBits .f32 0x00000000#32)) 64 (fun _ => Scalar.ofBits .f32 0x00000000#32), ksc := st (st s.ksc 48 (fun _ => Scalar.ofBits .f32 0x00000000#32)) 64 (fun _ => Scalar.ofBits .f32 0x00000000#32), ky0 := st s.ky0 64 (fun _ => Scalar.ofBits .f32 0x4EEE6B28#32), kx0 := st s.kx0 64 (fun _ => Scalar.ofBits .f32 0x4EEE6B28#32), ky1 := st s.ky1 64 (fun _ => Scalar.ofBits .f32 0x4E6E6B28#32), kx1 := st s.kx1 64 (fun _ => Scalar.ofBits .f32 0x4E6E6B28#32) }) := by
  subst hin
  rw [k0_part41_eq_skeleton]
  unfold k0_part41_skel
  refine W_ld_ka ?_
  refine W_st_ka ?_
  refine W_ld_ksc ?_
  refine W_st_ksc ?_
  refine W_ld_ky0 ?_
  refine W_st_ky0 ?_
  refine W_ld_kx0 ?_
  refine W_st_kx0 ?_
  refine W_ld_ky1 ?_
  refine W_st_ky1 ?_
  refine W_ld_kx1 ?_
  refine W_st_kx1 ?_
  refine W_ld_ka ?_
  refine W_st_ka ?_
  refine W_ld_ksc ?_
  refine W_st_ksc ?_
  refine W_ld_ky0 ?_
  refine W_ret ⟨?_, ?_⟩
  · rfl
  · simp only [k0_pay288, k0_pay289, k0_pay290, k0_pay291, k0_pay292, k0_pay293, k0_pay294, k0_pay295, k0_pay296, sc_id]
    rfl

/-- Slots are filled. -/
theorem part42_run (v137 : S16.Idx → F .f32) (hin : v137 = all16 0x4EEE6B28#32) (s : St F) :
    W d i (k0_part42 i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v137) s (fun a t => a = all16 0x4E6E6B28#32 ∧
      t = { s with ky0 := st (st s.ky0 80 (fun _ => Scalar.ofBits .f32 0x4EEE6B28#32)) 96 (fun _ => Scalar.ofBits .f32 0x4EEE6B28#32), kx0 := st (st s.kx0 80 (fun _ => Scalar.ofBits .f32 0x4EEE6B28#32)) 96 (fun _ => Scalar.ofBits .f32 0x4EEE6B28#32), ky1 := st (st s.ky1 80 (fun _ => Scalar.ofBits .f32 0x4E6E6B28#32)) 96 (fun _ => Scalar.ofBits .f32 0x4E6E6B28#32), kx1 := st s.kx1 80 (fun _ => Scalar.ofBits .f32 0x4E6E6B28#32), ka := st s.ka 80 (fun _ => Scalar.ofBits .f32 0x00000000#32), ksc := st s.ksc 80 (fun _ => Scalar.ofBits .f32 0x00000000#32) }) := by
  subst hin
  rw [k0_part42_eq_skeleton]
  unfold k0_part42_skel
  refine W_st_ky0 ?_
  refine W_ld_kx0 ?_
  refine W_st_kx0 ?_
  refine W_ld_ky1 ?_
  refine W_st_ky1 ?_
  refine W_ld_kx1 ?_
  refine W_st_kx1 ?_
  refine W_ld_ka ?_
  refine W_st_ka ?_
  refine W_ld_ksc ?_
  refine W_st_ksc ?_
  refine W_ld_ky0 ?_
  refine W_st_ky0 ?_
  refine W_ld_kx0 ?_
  refine W_st_kx0 ?_
  refine W_ld_ky1 ?_
  refine W_st_ky1 ?_
  refine W_ret ⟨?_, ?_⟩
  · rfl
  · simp only [k0_pay297, k0_pay298, k0_pay299, k0_pay300, k0_pay301, k0_pay302, k0_pay303, k0_pay304, k0_pay305, sc_id]
    rfl

/-- The masked scores of a row. -/
theorem pay311_eq (s : St F) (o : ℕ) : k0_pay311 (ld s.mv o) (ld s.y0v o) (ld s.x0v o) (ld s.y1v o) (ld s.x1v o) = ld (mscAt s) o := by
  simp only [k0_pay311, sc_id]
  rfl

theorem up_eq_pay315 (v2 : IVec S16 32) (hv2 : ∀ x, v2 x = BitVec.ofNat 32 (x 0).val) (t : Fin k0_t1_loop.trips) (u : Fin (k0_t2_loop t).trips) (a : Pairs F) (s : St F) (o : ℕ) :
    (k0_pay314 a.1 (ld s.mv o) (ld s.y0v o) (ld s.x0v o) (ld s.y1v o) (ld s.x1v o), k0_pay315 v2 t u a.1 a.2 (ld s.mv o) (ld s.y0v o) (ld s.x0v o) (ld s.y1v o) (ld s.x1v o))
      = up a (ld (mscAt s) o) (ld (fun n => BitVec.ofNat 32 n) (t.val * 256 + u.val * 16)) := by
  simp only [k0_pay314, k0_pay315, k0_pay313, iv_ofNat, mul_ofNat, add_ofNat]
  have e0 := pay311_eq s o
  generalize k0_pay311 (ld s.mv o) (ld s.y0v o) (ld s.x0v o) (ld s.y1v o) (ld s.x1v o) = z at e0 ⊢
  subst e0
  refine Prod.ext rfl ?_
  funext x
  have e : IntOp.addi (BitVec.ofNat 32 ((t.val * 16 + u.val) * 16)) (v2 x) = BitVec.ofNat 32 (t.val * 256 + u.val * 16 + (x 0).val) := by
    rw [hv2]
    refine (add_ofNat _ _).trans (congrArg _ ?_)
    omega
  show Scalar.select _ (IntOp.addi (BitVec.ofNat 32 ((t.val * 16 + u.val) * 16)) (v2 x)) _ = Scalar.select _ _ _
  rw [e]
  rfl

theorem ld_mvF (s : St F) (k : ℕ) : ld (mvF s (k * 16)) (k * 16) = ld s.mv (k * 16) := by
  funext x
  show mvF s (k * 16) (k * 16 + (x 0).val) = s.mv (k * 16 + (x 0).val)
  unfold mvF
  rw [if_neg (by omega)]

/-- A group's rows are masked, and its lanes' best found. -/
theorem t2_run (v2 : IVec S16 32) (hv2 : ∀ x, v2 x = BitVec.ofNat 32 (x 0).val) (hb : k0_cond1 i = 1#1) (v170 : FVec F S16 .f32) (k : Fin k0_t1_loop.trips) (s : St F) (x : ℕ → F .f32) (y : ℕ → BitVec 32) :
    W d i (Scf.Loop.for (k0_t2_loop k) (k0_t2_ok i k hb) (k0_pay309 (F := F), k0_pay310) (k0_t2_body i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v2 hb v170 k))
      { s with mv := mvF s (min (k.val * 16) 1251 * 16), l1v := x, l1i := y }
      (fun a t => a = ((lev1 s k.val).1, (lev1 s k.val).2) ∧ t = { s with mv := mvF s (min ((k.val + 1) * 16) 1251 * 16), l1v := x, l1i := y }) := by
  have hk : k.val < 80 := k.isLt
  have ht : Scf.trips (k0_t2_loop k).lb (k0_t2_loop k).ub (k0_t2_loop k).st = rowsOf k.val := by
    rw [(t2_eq k hk).1]; exact trips_ofNat _ (by have := rowsOf_le k.val; omega)
  have hr : min (k.val * 16) 1251 + rowsOf k.val = min ((k.val + 1) * 16) 1251 := by
    unfold rowsOf; omega
  refine W_for _ _ _ _ _ _ (fun n a t => a = ((fold (mscAt s) (fun n => BitVec.ofNat 32 n) (k.val * 256) n).1, (fold (mscAt s) (fun n => BitVec.ofNat 32 n) (k.val * 256) n).2) ∧
      t = { s with mv := mvF s ((min (k.val * 16) 1251 + n) * 16), l1v := x, l1i := y }) ⟨rfl, rfl⟩ ?_ (fun a t h => ?_)
  · rintro u acc t ⟨rfl, rfl⟩
    have hu' : u.val < rowsOf k.val := by have := u.isLt; omega
    have hu : u.val < 16 := by have := rowsOf_le k.val; omega
    have hm : min (k.val * 16) 1251 = k.val * 16 := by unfold rowsOf at hu'; omega
    rw [hm]
    have ho : k0_off2 k u 0 = (k.val * 16 + u.val) * 16 := off2_eq k u hk hu
    unfold k0_t2_body
    refine W_ld_mv ?_
    refine W_ld_y0v ?_
    refine W_ld_x0v ?_
    refine W_ld_y1v ?_
    refine W_ld_x1v ?_
    refine W_ld_mv ?_
    refine W_st_mv ?_
    refine W_ret ⟨?_, ?_⟩
    · simp only [ho, ld_mvF]
      rw [up_eq_pay315 v2 hv2 k u (fold (mscAt s) (fun n => BitVec.ofNat 32 n) (k.val * 256) u.val), show (k.val * 16 + u.val) * 16 = k.val * 256 + u.val * 16 by omega]
      rfl
    · simp only [ho, ld_mvF, k0_pay312, sc_id]
      have e := mvF_st s (k.val * 16 + u.val)
      rw [← pay311_eq] at e
      exact congrArg (fun z => ({ s with mv := z, l1v := x, l1i := y } : St F)) e
  · obtain ⟨rfl, rfl⟩ := h
    rw [ht, hr]
    exact ⟨rfl, rfl⟩

/-- The scores are masked and the first level is built. -/
theorem t1_run (v2 : IVec S16 32) (hv2 : ∀ x, v2 x = BitVec.ofNat 32 (x 0).val) (hb : k0_cond1 i = 1#1) (v170 : FVec F S16 .f32) (s : St F) :
    W d i (Scf.Loop.for k0_t1_loop (k0_t1_ok i hb) ⟨⟩ (k0_t1_body i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v2 hb v170)) s (fun a t => a = ⟨⟩ ∧ t = built1 s) := by
  refine W_for _ _ _ _ _ _ (fun n a t => t = { s with mv := mvF s (min (n * 16) 1251 * 16), l1v := l1vB s n, l1i := l1iB s n }) ?_ ?_ (fun a t h => ⟨rfl, h⟩)
  · show s = { s with mv := mvF s 0, l1v := s.l1v, l1i := s.l1i }
    have : mvF s 0 = s.mv := by funext n; exact if_neg (by omega)
    rw [this]
  · rintro k acc t rfl
    have hk : k.val < 80 := k.isLt
    have ht : Scf.trips (k0_t3_loop k).lb (k0_t3_loop k).ub (k0_t3_loop k).st = 0 := by
      rw [(t2_eq k hk).2]; exact trips_self _ (by have := rowsOf_le k.val; omega)
    unfold k0_t1_body
    refine W_bind1 (t2_run v2 hv2 hb v170 k s _ _) ?_
    refine W_bind1 (W_for0 _ _ _ _ _ _ ht ⟨rfl, rfl⟩) ?_
    refine W_ld_l1v ?_
    refine W_st_l1v ?_
    refine W_ld_l1i ?_
    refine W_st_l1i ?_
    refine W_ret ?_
    simp only [k0_pay321, k0_pay322, sc_id, off4_eq k hk]
    rfl

theorem up_eq_pay328 (a : Pairs F) (v : S16.Idx → F .f32) (n : S16.Idx → BitVec 32) : (k0_pay327 a.1 v, k0_pay328 a.1 a.2 v n) = up a v n := by
  simp only [k0_pay327, k0_pay328, k0_pay326, k0_pay325, sc_id]; rfl

/-- A group of the second level is found. -/
theorem t5_run (v2 : IVec S16 32) (hb : k0_cond1 i = 1#1) (v170 : FVec F S16 .f32) (k : Fin k0_t4_loop.trips) (s : St F) :
    W d i (Scf.Loop.for k0_t5_loop (k0_t5_ok i hb) (k0_pay323 (F := F), k0_pay324) (k0_t5_body i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v2 hb v170 k)) s
      (fun a t => a = ((fold s.l1v s.l1i (k.val * 256) 16).1, (fold s.l1v s.l1i (k.val * 256) 16).2) ∧ t = s) := by
  have hk : k.val < 5 := k.isLt
  refine W_for _ _ _ _ _ _ (fun n a t => a = ((fold s.l1v s.l1i (k.val * 256) n).1, (fold s.l1v s.l1i (k.val * 256) n).2) ∧ t = s) ⟨rfl, rfl⟩ ?_ (fun _ _ h => h)
  rintro u acc t ⟨rfl, rfl⟩
  have hu : u.val < 16 := u.isLt
  unfold k0_t5_body
  refine W_ld_l1v ?_
  refine W_ld_l1i ?_
  refine W_ret ⟨?_, rfl⟩
  rw [off5_eq k u hk hu, up_eq_pay328, show (k.val * 16 + u.val) * 16 = k.val * 256 + u.val * 16 by omega]
  rfl

/-- The second level is built. -/
theorem t4_run (v2 : IVec S16 32) (hb : k0_cond1 i = 1#1) (v170 : FVec F S16 .f32) (s : St F) :
    W d i (Scf.Loop.for k0_t4_loop (k0_t4_ok i hb) ⟨⟩ (k0_t4_body i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v2 hb v170)) s (fun a t => a = ⟨⟩ ∧ t = built2 s) := by
  refine W_for _ _ _ _ _ _ (fun n a t => t = { s with l2v := l2vB s n, l2i := l2iB s n }) rfl ?_ (fun a t h => ⟨rfl, h⟩)
  rintro k acc t rfl
  have hk : k.val < 5 := k.isLt
  unfold k0_t4_body
  refine W_bind1 (t5_run v2 hb v170 k _) ?_
  refine W_ld_l2v ?_
  refine W_st_l2v ?_
  refine W_ld_l2i ?_
  refine W_st_l2i ?_
  refine W_ret ?_
  simp only [k0_pay329, k0_pay330, sc_id, off6_eq k hk]
  rfl

/-- One turn of the search. -/
theorem t8_turn (v2 : IVec S16 32) (hv2 : ∀ x, v2 x = BitVec.ofNat 32 (x 0).val) (hb : k0_cond1 i = 1#1) (v170 : FVec F S16 .f32) (v577 v586 : Elt F .i32) (hc : k0_chk2 i v586) (u : Fin (k0_t8_loop v586).trips) (s t : St F) (hg : Good s) (hl : Like s t) :
    W d i (k0_t8_body i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v2 hb v170 v577 v586 hc u ⟨⟩) t (fun _ t' => Like (step s) t') := by
  have hgt := hl.good hg
  obtain ⟨b, c, e⟩ := hl
  unfold k0_t8_body
  refine W_ld_sm 1 rfl ?_
  dsimp only
  by_cases h0 : s.sm 1 = 0#32
  · have h0' : t.sm 1 = 0#32 := by rw [e]; exact h0
    have hk : (kn t).toNat ≤ 100 := hgt.cnt
    have hcond : k0_cond2 (t.sm 1) = 1#1 := by rw [h0']; decide
    rw [dif_pos hcond]
    refine W_bind (part9_run v2 hv2 hb _ hcond t hk hgt.atW_lt) ?_
    rintro r t' ⟨rfl, b', c', rfl⟩
    refine W_ld_sm 1 rfl ?_
    refine W_st_sm 1 rfl ?_
    refine W_ret ?_
    subst e
    refine ⟨b', c', ?_⟩
    unfold step
    rw [if_pos h0, stop_stage, pop_stage]
  · have hcond : ¬ k0_cond2 (t.sm 1) = 1#1 := by
      have h1 : t.sm 1 = 1#32 := by rw [e]; exact hg.flag.resolve_left h0
      rw [h1]; decide
    rw [dif_neg hcond]
    refine W_ret ?_
    rw [step_done h0]
    exact ⟨b, c, e⟩

/-- Sixty-four turns. -/
theorem t7_turn (v2 : IVec S16 32) (hv2 : ∀ x, v2 x = BitVec.ofNat 32 (x 0).val) (hb : k0_cond1 i = 1#1) (v170 : FVec F S16 .f32) (v577 : Elt F .i32) (hc : k0_chk1 i v577) (u : Fin (k0_t7_loop v577).trips) (s t : St F) (hg : Good s) (hl : Like s t) :
    W d i (k0_t7_body i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v2 hb v170 v577 hc u ⟨⟩) t (fun _ t' => Like (step^[64] s) t') := by
  have hgt := hl.good hg
  unfold k0_t7_body
  refine W_ld_sm 1 rfl ?_
  refine W_assume (chk2_of i hgt.flag) ?_
  have hs : t.sm 1 = s.sm 1 := by obtain ⟨b, c, e⟩ := hl; rw [e]
  have h15 : Scf.trips (k0_t15_loop (t.sm 1)).lb (k0_t15_loop (t.sm 1)).ub (k0_t15_loop (t.sm 1)).st = 0 := by
    rcases hgt.flag with h | h <;> rw [h] <;> decide
  refine W_bind (R := fun _ t' => Like (step^[64] s) t') ?_ (fun _ t' h => W_bind (W_for0 (Q := fun _ t' => Like (step^[64] s) t') _ _ _ _ _ _ h15 h) (fun _ _ h => W_ret h))
  refine W_for _ _ _ _ _ _ (fun n _ t' => Like (step^[n] s) t') hl ?_ ?_
  · intro k acc t' h
    rw [Function.iterate_succ_apply']
    exact t8_turn v2 hv2 hb v170 v577 _ _ k _ t' (hg.iter k.val) h
  · intro _ t' h
    rcases hgt.flag with h0 | h1
    · have ht : Scf.trips (k0_t8_loop (t.sm 1)).lb (k0_t8_loop (t.sm 1)).ub (k0_t8_loop (t.sm 1)).st = 64 := by rw [h0]; decide
      rw [ht] at h
      exact h
    · have hne : s.sm 1 ≠ 0#32 := by rw [← hs, h1]; decide
      rw [iter_done hne] at h ⊢
      exact h

/-- A thousand and twenty-four turns. -/
theorem t6_turn (v2 : IVec S16 32) (hv2 : ∀ x, v2 x = BitVec.ofNat 32 (x 0).val) (hb : k0_cond1 i = 1#1) (v170 : FVec F S16 .f32) (u : Fin k0_t6_loop.trips) (s t : St F) (hg : Good s) (hl : Like s t) :
    W d i (k0_t6_body i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v2 hb v170 u ⟨⟩) t (fun _ t' => Like ((step^[64])^[16] s) t') := by
  have hgt := hl.good hg
  unfold k0_t6_body
  refine W_ld_sm 1 rfl ?_
  refine W_assume (chk1_of i hgt.flag) ?_
  have hs : t.sm 1 = s.sm 1 := by obtain ⟨b, c, e⟩ := hl; rw [e]
  have h22 : Scf.trips (k0_t22_loop (t.sm 1)).lb (k0_t22_loop (t.sm 1)).ub (k0_t22_loop (t.sm 1)).st = 0 := by
    rcases hgt.flag with h | h <;> rw [h] <;> decide
  refine W_bind (R := fun _ t' => Like ((step^[64])^[16] s) t') ?_ (fun _ t' h => W_bind (W_for0 (Q := fun _ t' => Like ((step^[64])^[16] s) t') _ _ _ _ _ _ h22 h) (fun _ _ h => W_ret h))
  refine W_for _ _ _ _ _ _ (fun n _ t' => Like ((step^[64])^[n] s) t') hl ?_ ?_
  · intro k acc t' h
    rw [Function.iterate_succ_apply']
    refine t7_turn v2 hv2 hb v170 _ _ k _ t' ?_ h
    rw [← Function.iterate_mul]
    exact hg.iter _
  · intro _ t' h
    rcases hgt.flag with h0 | h1
    · have ht : Scf.trips (k0_t7_loop (t.sm 1)).lb (k0_t7_loop (t.sm 1)).ub (k0_t7_loop (t.sm 1)).st = 16 := by rw [h0]; decide
      rw [ht] at h
      exact h
    · have hne : s.sm 1 ≠ 0#32 := by rw [← hs, h1]; decide
      rw [← Function.iterate_mul, iter_done hne] at h ⊢
      exact h

/-- The whole search. -/
theorem t6_run (v2 : IVec S16 32) (hv2 : ∀ x, v2 x = BitVec.ofNat 32 (x 0).val) (hb : k0_cond1 i = 1#1) (v170 : FVec F S16 .f32) (s : St F) (hg : Good s) :
    W d i (Scf.Loop.for k0_t6_loop (k0_t6_ok i hb) ⟨⟩ (k0_t6_body i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v2 hb v170)) s (fun _ t => Like (step^[21504] s) t) := by
  refine W_for _ _ _ _ _ _ (fun n _ t' => Like (((step^[64])^[16])^[n] s) t') Like.rfl ?_ ?_
  · intro k acc t' h
    rw [Function.iterate_succ_apply']
    refine t6_turn v2 hv2 hb v170 k _ t' ?_ h
    rw [← Function.iterate_mul, ← Function.iterate_mul]
    exact hg.iter _
  · intro _ t' h
    have ht : Scf.trips k0_t6_loop.lb k0_t6_loop.ub k0_t6_loop.st = 21 := by decide
    rw [ht, ← Function.iterate_mul, ← Function.iterate_mul] at h
    exact h

/-- The last slots are filled, the levels are built and the search is run. -/
theorem part43_run (v2 : IVec S16 32) (hv2 : ∀ x, v2 x = BitVec.ofNat 32 (x 0).val) (hb : k0_cond1 i = 1#1) (v170 : FVec F S16 .f32) (hin : v170 = all16 0x4E6E6B28#32) (s s' : St F) (hs' : s' = { s with kx1 := st s.kx1 96 (fun _ => Scalar.ofBits .f32 0x4E6E6B28#32), ka := st s.ka 96 (fun _ => Scalar.ofBits .f32 0x00000000#32), ksc := st s.ksc 96 (fun _ => Scalar.ofBits .f32 0x00000000#32) }) :
    W d i (k0_part43 i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v2 hb v170) s (fun r t => r.1 = kn t ∧ r.2.1 = k0_pay331 (F := F) v2 (kn t) ∧ r.2.2 = ld t.ky0 0 ∧ Like (step^[21504] (begun (built2 (built1 s')))) t) := by
  subst hin
  rw [k0_part43_eq_skeleton]
  unfold k0_part43_skel
  refine W_ld_kx1 ?_
  refine W_st_kx1 ?_
  refine W_ld_ka ?_
  refine W_st_ka ?_
  refine W_ld_ksc ?_
  refine W_st_ksc ?_
  simp only [k0_pay306, k0_pay307, k0_pay308, sc_id]
  have e : ∀ z : St F, z = s' → W d i (Scf.Loop.for k0_t1_loop (k0_t1_ok i hb) ⟨⟩ (k0_t1_body i a2 h2 a3 h3 a4 h4 a5 h5 a6 h6 a7 h7 a8 h8 a9 h9 a10 h10 a11 h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 q0 q1 q2 q3 q4 q5 q6 q7 q8 q9 v2 hb (all16 0x4E6E6B28#32))) z (fun a t => a = ⟨⟩ ∧ t = built1 s') := by
    rintro z rfl; exact t1_run v2 hv2 hb _ _
  refine W_bind1 (e _ (by rw [hs']; rfl)) ?_

  refine W_bind1 (t4_run v2 hb _ _) ?_
  refine W_ld_sm 0 rfl ?_
  refine W_st_sm 0 rfl ?_
  refine W_ld_sm 1 rfl ?_
  refine W_st_sm 1 rfl ?_
  have hg : Good (begun (built2 (built1 s'))) := good_start' _
  refine W_bind (t6_run v2 hv2 hb _ (begun (built2 (built1 s'))) hg) ?_
  intro _ t h
  refine W_ld_sm 0 rfl ?_
  refine W_ld_ky0 ?_
  refine W_ret ⟨rfl, rfl, ?_, h⟩
  simp only [k0_pay332, sc_id]
  rfl

end Cert.Proof.Nms
-- ==== Proof.Tile.lean ====
/-
  One tile from its copies in to its copies out.
-/
module

public import proofs.«01_k».proof.Proof.Run

@[expose] public section

set_option maxRecDepth 65536
set_option maxHeartbeats 4000000

noncomputable section

namespace Cert.Proof.Nms

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic

variable {F : FTy → Type} [FloatOps F]
variable {d : Dev nD} {i : grid0.Coords}
variable {h12 : (Memref.whole cc0_scratch0 : Memref sig .scVector .vmem S20016 .f32).IsWhole}
variable {h13 : (Memref.whole cc0_scratch1 : Memref sig .scVector .vmem S20016 .f32).IsWhole}
variable {h14 : (Memref.whole cc0_scratch2 : Memref sig .scVector .vmem S20016 .f32).IsWhole}
variable {h15 : (Memref.whole cc0_scratch3 : Memref sig .scVector .vmem S20016 .f32).IsWhole}
variable {h16 : (Memref.whole cc0_scratch4 : Memref sig .scVector .vmem S20016 .f32).IsWhole}
variable {h17 : (Memref.whole cc0_scratch5 : Memref sig .scVector .vmem S1280 .f32).IsWhole}
variable {h18 : (Memref.whole cc0_scratch6 : Memref sig .scVector .vmem S1280 .i32).IsWhole}
variable {h19 : (Memref.whole cc0_scratch7 : Memref sig .scVector .vmem S80 .f32).IsWhole}
variable {h20 : (Memref.whole cc0_scratch8 : Memref sig .scVector .vmem S80 .i32).IsWhole}
variable {h21 : (Memref.whole cc0_scratch9 : Memref sig .scVector .vmem S112 .f32).IsWhole}
variable {h22 : (Memref.whole cc0_scratch10 : Memref sig .scVector .vmem S112 .f32).IsWhole}
variable {h23 : (Memref.whole cc0_scratch11 : Memref sig .scVector .vmem S112 .f32).IsWhole}
variable {h24 : (Memref.whole cc0_scratch12 : Memref sig .scVector .vmem S112 .f32).IsWhole}
variable {h25 : (Memref.whole cc0_scratch13 : Memref sig .scVector .vmem S112 .f32).IsWhole}
variable {h26 : (Memref.whole cc0_scratch14 : Memref sig .scVector .vmem S112 .f32).IsWhole}
variable {h27 : (Memref.whole cc0_scratch15 : Memref sig .scVector .vmem S112 .f32).IsWhole}
variable {h28 : (Memref.whole cc0_scratch16 : Memref sig .scVector .vmem S32 .f32).IsWhole}
variable {h29 : (Memref.whole cc0_scratch17 : Memref sig .scVector .vmem S32 .i32).IsWhole}
variable {h30 : (Memref.whole cc0_scratch18 : Memref sig .scVector .smem S4 .i32).IsWhole}
variable {h2 : (Memref.whole main_v2_scv : Memref sig .scVector .hbm S8x20016 .f32).IsWhole}
variable {h3 : (Memref.whole main_v5_scv : Memref sig .scVector .hbm S8x20016 .f32).IsWhole}
variable {h4 : (Memref.whole main_v8_scv : Memref sig .scVector .hbm S8x20016 .f32).IsWhole}
variable {h5 : (Memref.whole main_v11_scv : Memref sig .scVector .hbm S8x20016 .f32).IsWhole}
variable {h6 : (Memref.whole main_v12_scv : Memref sig .scVector .hbm S8x20016 .f32).IsWhole}
variable {h7 : (Memref.whole main_v13_0_scv : Memref sig .scVector .hbm S8x112 .f32).IsWhole}
variable {h8 : (Memref.whole main_v13_1_scv : Memref sig .scVector .hbm S8x112 .f32).IsWhole}
variable {h9 : (Memref.whole main_v13_2_scv : Memref sig .scVector .hbm S8x112 .f32).IsWhole}
variable {h10 : (Memref.whole main_v13_3_scv : Memref sig .scVector .hbm S8x112 .f32).IsWhole}
variable {h11 : (Memref.whole main_v13_4_scv : Memref sig .scVector .hbm S8x112 .f32).IsWhole}

local notation "𝕄" => MT nD τ sig (HIx 1) (Elt F) ℕ UU ℕ

/-- The five rows a tile reads, by position: the corners of the boxes and the scores. -/
structure In (F : FTy → Type) where
  (i0 i1 i2 i3 i4 : ℕ → F .f32)
/-- The five rows a tile writes, by position: the corners of the kept boxes and their scores. -/
structure Out (F : FTy → Type) where
  (o0 o1 o2 o3 o4 : ℕ → F .f32)

/-- A tile's row of an array it reads. -/
abbrev rowIn (m : Memref sig .scVector .hbm S8x20016 .f32) (i : grid0.Coords) (hb : k0_cond1 i = 1#1) : Memref sig .scVector .hbm S20016 .f32 :=
  (m.slice (Rect.unit (s := S8x20016) (k0_off1 i) S1x20016.size (k0_off1_inb i hb)) (fun _ => rfl)).squeeze S20016 squeezes_S1x20016_S20016
/-- A tile's row of an array it writes. -/
abbrev rowOut (m : Memref sig .scVector .hbm S8x112 .f32) (i : grid0.Coords) (hb : k0_cond1 i = 1#1) : Memref sig .scVector .hbm S112 .f32 :=
  (m.slice (Rect.unit (s := S8x112) (k0_off51 i) S1x112.size (k0_off51_inb i hb)) (fun _ => rfl)).squeeze S112 squeezes_S1x112_S112

/-- Where a position of a row lies in the array. -/
theorem rowIn_at (i : grid0.Coords) (hb : k0_cond1 i = 1#1) (x : S20016.Idx) :
    (((Rect.unit (s := S8x20016) (k0_off1 i) S1x20016.size (k0_off1_inb i hb)).emb (Shape.reshapeEquiv (s := S1x20016) (s' := S20016) squeezes_S1x20016_S20016.numel_eq x) 1).val = (x 0).val) ∧
    (((Rect.unit (s := S8x20016) (k0_off1 i) S1x20016.size (k0_off1_inb i hb)).emb (Shape.reshapeEquiv (s := S1x20016) (s' := S20016) squeezes_S1x20016_S20016.numel_eq x) 0).val = k0_off1 i 0) := by
  have e : Shape.reshapeEquiv (s := S1x20016) (s' := S20016) squeezes_S1x20016_S20016.numel_eq x = (Fin.cons ⟨0, Nat.one_pos⟩ x : S1x20016.Idx) :=
    Shape.reshapeEquiv_eq_of_rowMajor _ (by
      rw [Shape.rowMajor_val_two, Shape.rowMajor_val_one]
      show 0 * _ + (x 0).val = (x 0).val
      rw [Nat.zero_mul, Nat.zero_add])
  rw [e]
  constructor
  · show k0_off1 i 1 + 1 * (x 0).val = _
    show 0 + 1 * (x 0).val = _
    omega
  · show k0_off1 i 0 + 1 * 0 = _
    omega

/-- Where a position of a row lies in the array. -/
theorem rowOut_at (i : grid0.Coords) (hb : k0_cond1 i = 1#1) (x : S112.Idx) :
    (((Rect.unit (s := S8x112) (k0_off51 i) S1x112.size (k0_off51_inb i hb)).emb (Shape.reshapeEquiv (s := S1x112) (s' := S112) squeezes_S1x112_S112.numel_eq x) 1).val = (x 0).val) ∧
    (((Rect.unit (s := S8x112) (k0_off51 i) S1x112.size (k0_off51_inb i hb)).emb (Shape.reshapeEquiv (s := S1x112) (s' := S112) squeezes_S1x112_S112.numel_eq x) 0).val = k0_off51 i 0) := by
  have e : Shape.reshapeEquiv (s := S1x112) (s' := S112) squeezes_S1x112_S112.numel_eq x = (Fin.cons ⟨0, Nat.one_pos⟩ x : S1x112.Idx) :=
    Shape.reshapeEquiv_eq_of_rowMajor _ (by
      rw [Shape.rowMajor_val_two, Shape.rowMajor_val_one]
      show 0 * _ + (x 0).val = (x 0).val
      rw [Nat.zero_mul, Nat.zero_add])
  rw [e]
  constructor
  · show k0_off51 i 1 + 1 * (x 0).val = _
    show 0 + 1 * (x 0).val = _
    omega
  · show k0_off51 i 0 + 1 * 0 = _
    omega

/-- What a tile owes and may wait for. -/
def wt (d : Dev nD) (i : grid0.Coords) (O : CellTallies nD τ sig (HIx 1)) (W : Waits sig (HIx 1)) : sProp 𝕄 :=
  iprop(Transfers.MayWaits (thr d i) (default : HIx 1) O ∗ ∃ W', ⌜∀ p ∈ W', p ∈ W ∨ p.2 = none⌝ ∗ owes (thr d i) O W')

/-- The rows a tile reads and writes, its semaphores at zero, and what it owes. -/
def io (d : Dev nD) (i : grid0.Coords) (O : CellTallies nD τ sig (HIx 1)) (Wt : Waits sig (HIx 1)) (hb : k0_cond1 i = 1#1) (a : In F) (z : Out F) : sProp 𝕄 := iprop(
  ((rowIn (Memref.whole main_v2_scv) i hb).view.loc (thr d i) ↦[(rowIn (Memref.whole main_v2_scv) i hb).view.set]{fullShare} (fun j => a.i0 (j 1).val)) ∗
  ((rowIn (Memref.whole main_v5_scv) i hb).view.loc (thr d i) ↦[(rowIn (Memref.whole main_v5_scv) i hb).view.set]{fullShare} (fun j => a.i1 (j 1).val)) ∗
  ((rowIn (Memref.whole main_v8_scv) i hb).view.loc (thr d i) ↦[(rowIn (Memref.whole main_v8_scv) i hb).view.set]{fullShare} (fun j => a.i2 (j 1).val)) ∗
  ((rowIn (Memref.whole main_v11_scv) i hb).view.loc (thr d i) ↦[(rowIn (Memref.whole main_v11_scv) i hb).view.set]{fullShare} (fun j => a.i3 (j 1).val)) ∗
  ((rowIn (Memref.whole main_v12_scv) i hb).view.loc (thr d i) ↦[(rowIn (Memref.whole main_v12_scv) i hb).view.set]{fullShare} (fun j => a.i4 (j 1).val)) ∗
  ((rowOut (Memref.whole main_v13_0_scv) i hb).view.loc (thr d i) ↦[(rowOut (Memref.whole main_v13_0_scv) i hb).view.set]{fullShare} (fun j => z.o0 (j 1).val)) ∗
  ((rowOut (Memref.whole main_v13_1_scv) i hb).view.loc (thr d i) ↦[(rowOut (Memref.whole main_v13_1_scv) i hb).view.set]{fullShare} (fun j => z.o1 (j 1).val)) ∗
  ((rowOut (Memref.whole main_v13_2_scv) i hb).view.loc (thr d i) ↦[(rowOut (Memref.whole main_v13_2_scv) i hb).view.set]{fullShare} (fun j => z.o2 (j 1).val)) ∗
  ((rowOut (Memref.whole main_v13_3_scv) i hb).view.loc (thr d i) ↦[(rowOut (Memref.whole main_v13_3_scv) i hb).view.set]{fullShare} (fun j => z.o3 (j 1).val)) ∗
  ((rowOut (Memref.whole main_v13_4_scv) i hb).view.loc (thr d i) ↦[(rowOut (Memref.whole main_v13_4_scv) i hb).view.set]{fullShare} (fun j => z.o4 (j 1).val)) ∗
  semVal (thr d i, .dma cc0_scoped0.sem) 0 ∗
  semVal (thr d i, .dma cc0_scoped1.sem) 0 ∗
  semVal (thr d i, .dma cc0_scoped2.sem) 0 ∗
  semVal (thr d i, .dma cc0_scoped3.sem) 0 ∗
  semVal (thr d i, .dma cc0_scoped4.sem) 0 ∗
  semVal (thr d i, .dma cc0_scoped5.sem) 0 ∗
  semVal (thr d i, .dma cc0_scoped6.sem) 0 ∗
  semVal (thr d i, .dma cc0_scoped7.sem) 0 ∗
  semVal (thr d i, .dma cc0_scoped8.sem) 0 ∗
  semVal (thr d i, .dma cc0_scoped9.sem) 0 ∗
  wt d i O Wt)

variable {O : CellTallies nD τ sig (HIx 1)} {Wt : Waits sig (HIx 1)} {hb : k0_cond1 i = 1#1} {a : In F}

/-- A copy: started, then waited for. -/
theorem copy_core {β : Type} {sp sp' : Space} {sh : Shape} {e : EltTy} {src : Memref sig .scVector sp sh e} {dst : Memref sig .scVector sp' sh e} {sem : DmaSem sig}
    {hsrc : src.view.WordExact} {hdst : dst.view.WordExact} {hsem : DmaTarget.Typed (nD := nD) (τ := τ) (p := (thr d i).2) sp (.dma sem) (.here dst)}
    {hsrc' : src.view.WordExact} {hdst' : dst.view.WordExact}
    {fs : Buf (Elt F) (src.view.loc (thr d i))} {Sd : Finset (Idx (dst.view.loc (thr d i)))} {fd : Buf (Elt F) (dst.view.loc (thr d i))}
    {k : PUnit → Prog (TpuEff nD τ sig (Elt F) Λ₀ (thr d i).2) β} {Φ : β → sProp 𝕄} (hN : 0 < dst.view.amount (.dma sem)) (hS : dst.view.set ⊆ Sd)
    {gd : Buf (Elt F) (dst.view.loc (thr d i))} (he : ∀ j ∈ Sd, dst.view.write (Elt F) fd (src.view.read (Elt F) fs) Finset.univ j = gd j) :
    iprop((src.view.loc (thr d i) ↦[src.view.set]{fullShare} fs) ∗ (dst.view.loc (thr d i) ↦[Sd]{fullShare} fd) ∗ semVal (thr d i, .dma sem) 0 ∗ wt d i O Wt) ⊢
      (iprop(((src.view.loc (thr d i) ↦[src.view.set]{fullShare} fs) ∗ (dst.view.loc (thr d i) ↦[Sd]{fullShare} gd) ∗ semVal (thr d i, .dma sem) 0 ∗ wt d i O Wt)
          -∗ wp frame (wpE (defs₀ (F := F)) 𝒱₀ (thr d i) none) Set.univ (k ⟨⟩) Φ)
        -∗ wp frame (wpE (defs₀ (F := F)) 𝒱₀ (thr d i) none) Set.univ
          (Prog.lift (.enqueueDma src (.here dst) (.dma sem) hsrc hdst hsem) >>= fun _ => Prog.lift (.waitDma2 sem src dst hsrc' hdst') >>= k) Φ) := by
  have he' : ((dst.view.loc (thr d i) ↦[Sd]{fullShare} (dst.view.write (Elt F) fd (src.view.read (Elt F) fs) Finset.univ)) : sProp 𝕄) = (dst.view.loc (thr d i) ↦[Sd]{fullShare} gd) := pointsTo_congr he
  unfold wt
  iintro ⟨Hs, Hd, Hv, #Hmw, %W', %hW, HO⟩ Hk
  iapply (Transfers.wp_dmaLocal countersEmb 𝒱₀ (thr d i) none (default : HIx 1) _ rfl hN hS) $$ [Hs Hd Hv]
  · isplitl [Hs]; iexact Hs
    isplitl [Hd]; iexact Hd
    iexact Hv
  iintro Hfl
  ihave Hw := (Transfers.MayWaits.elim (c := thr d i) (ι := (default : HIx 1)) (O := O) (SemLoc.dma sem)) $$ Hmw
  iapply (Transfers.wp_waitLocalO countersEmb 𝒱₀ (thr d i) none (default : HIx 1) (rfl : dst.view.dmaCredit = _)) $$ [Hfl HO Hw]
  · isplitl [Hfl]; iexact Hfl
    isplitl [HO]; iexact HO
    iexact Hw
  iintro ⟨⟨Hd, Hs⟩, Hv, HO⟩
  iapply Hk
  isplitl [Hs]; iexact Hs
  isplitl [Hd]
  · rw [← he']; iexact Hd
  isplitl [Hv]; iexact Hv
  isplitr
  · iexact Hmw
  iexists (insert (SemLoc.dma sem, (default : HIx 1)) W')
  isplitr
  · ipureintro
    intro p hp
    rcases Finset.mem_insert.1 hp with rfl | hp
    · exact .inr rfl
    · exact hW p hp
  · iexact HO

/-- From the state `s` and the rows `z` the program runs and ends in a result, a state and rows of `Q`. -/
def X (d : Dev nD) (i : grid0.Coords) (O : CellTallies nD τ sig (HIx 1)) (Wt : Waits sig (HIx 1)) (hb : k0_cond1 i = 1#1) (a : In F) {α : Type} (p : Prog (TpuEff nD τ sig (Elt F) Λ₀ (thr d i).2) α) (s : St F) (z : Out F) (Q : α → St F → Out F → Prop) : Prop :=
  (iprop(own d i s ∗ io d i O Wt hb a z) : sProp 𝕄) ⊢ wp frame (wpE (defs₀ (F := F)) 𝒱₀ (thr d i) none) Set.univ p (fun b => iprop(∃ s' z', ⌜Q b s' z'⌝ ∗ own d i s' ∗ io d i O Wt hb a z'))

theorem X_bind {α β : Type} {p : Prog (TpuEff nD τ sig (Elt F) Λ₀ (thr d i).2) α}
    {k : α → Prog (TpuEff nD τ sig (Elt F) Λ₀ (thr d i).2) β} {s : St F} {z : Out F} {R : α → St F → Out F → Prop} {Q : β → St F → Out F → Prop}
    (h : X d i O Wt hb a p s z R) (hk : ∀ b s' z', R b s' z' → X d i O Wt hb a (k b) s' z' Q) : X d i O Wt hb a (p >>= k) s z Q := by
  unfold X at *
  rw [wp_bind]
  refine h.trans (wp_mono _ _ _ fun b => ?_)
  iintro ⟨%s', %z', %hq, Hs⟩
  have hw := hk b s' z' hq
  iapply hw
  iexact Hs

theorem X_mono {α : Type} {p : Prog (TpuEff nD τ sig (Elt F) Λ₀ (thr d i).2) α} {s : St F} {z : Out F} {Q Q' : α → St F → Out F → Prop}
    (h : X d i O Wt hb a p s z Q) (hQ : ∀ b s' z', Q b s' z' → Q' b s' z') : X d i O Wt hb a p s z Q' := by
  unfold X at *
  refine h.trans (wp_mono _ _ _ fun b => ?_)
  iintro ⟨%s', %z', %hq, Hs⟩
  iexists s', z'
  isplitr
  · ipureintro; exact hQ _ _ _ hq
  · iexact Hs

/-- What runs on the scratch alone leaves the rows. -/
theorem X_of {α : Type} {p : Prog (TpuEff nD τ sig (Elt F) Λ₀ (thr d i).2) α} {s : St F} {z : Out F} {R : α → St F → Prop}
    (h : W d i p s R) : X d i O Wt hb a p s z (fun b t z' => R b t ∧ z' = z) := by
  unfold X W at *
  iintro ⟨Hs, Hz⟩
  iapply (wp_wand frame (wpE (defs₀ (F := F)) 𝒱₀ (thr d i) none) Set.univ (Q := fun b => iprop(∃ s', ⌜R b s'⌝ ∗ own d i s'))) $$ [Hs]
  · iapply h; iexact Hs
  iintro %b ⟨%s', %hq, Hs⟩
  iexists s', z
  isplitr
  · ipureintro; exact ⟨hq, rfl⟩
  · isplitl [Hs]; iexact Hs
    iexact Hz

theorem X_ret {α : Type} {b : α} {s : St F} {z : Out F} {Q : α → St F → Out F → Prop} (h : Q b s z) : X d i O Wt hb a (pure b) s z Q :=
  X_mono (X_of (W_ret (Q := fun c t => c = b ∧ t = s) ⟨rfl, rfl⟩)) (by rintro _ _ _ ⟨⟨rfl, rfl⟩, rfl⟩; exact h)

/-- One operation on the scratch, at the head. -/
theorem X_op {α β : Type} {p : Prog (TpuEff nD τ sig (Elt F) Λ₀ (thr d i).2) α} {b : α} {s t : St F} {z : Out F}
    {k : α → Prog (TpuEff nD τ sig (Elt F) Λ₀ (thr d i).2) β} {Q : β → St F → Out F → Prop}
    (h : ∀ {γ : Type} {k : α → Prog (TpuEff nD τ sig (Elt F) Λ₀ (thr d i).2) γ} {Q : γ → St F → Prop}, W d i (k b) t Q → W d i (p >>= k) s Q)
    (hk : X d i O Wt hb a (k b) t z Q) : X d i O Wt hb a (p >>= k) s z Q := by
  have h0 : W d i p s (fun c u => c = b ∧ u = t) := by
    have := h (k := pure) (Q := fun c u => c = b ∧ u = t) (W_ret ⟨rfl, rfl⟩)
    rwa [bind_pure] at this
  exact X_bind (X_of h0) (by rintro _ _ _ ⟨⟨rfl, rfl⟩, rfl⟩; exact hk)

/-- The copy into `y0v`. -/
theorem X_in0 {β : Type} {s : St F} {z : Out F} {k : PUnit → Prog (TpuEff nD τ sig (Elt F) Λ₀ (thr d i).2) β} {Q : β → St F → Out F → Prop}
    {hsrc : (rowIn (Memref.whole main_v2_scv) i hb).view.WordExact} {hdst : (Memref.whole cc0_scratch0 : Memref sig .scVector .vmem S20016 .f32).view.WordExact} {hsem} {hsrc' : (rowIn (Memref.whole main_v2_scv) i hb).view.WordExact} {hdst' : (Memref.whole cc0_scratch0 : Memref sig .scVector .vmem S20016 .f32).view.WordExact}
    (h : X d i O Wt hb a (k ⟨⟩) { s with y0v := a.i0 } z Q) :
    X d i O Wt hb a (Prog.lift (.enqueueDma (rowIn (Memref.whole main_v2_scv) i hb) (.here (Memref.whole cc0_scratch0 : Memref sig .scVector .vmem S20016 .f32)) (.dma cc0_scoped0.sem) hsrc hdst hsem) >>= fun _ =>
      Prog.lift (.waitDma2 cc0_scoped0.sem (rowIn (Memref.whole main_v2_scv) i hb) (Memref.whole cc0_scratch0 : Memref sig .scVector .vmem S20016 .f32) hsrc' hdst') >>= k) s z Q := by
  unfold X at *
  have ho := own_y0v (d := d) (i := i) s a.i0
  have hc := copy_core (F := F) (d := d) (i := i) (O := O) (Wt := Wt) (src := rowIn (Memref.whole main_v2_scv) i hb) (dst := (Memref.whole cc0_scratch0 : Memref sig .scVector .vmem S20016 .f32)) (sem := cc0_scoped0.sem) (hsrc := hsrc) (hdst := hdst) (hsem := hsem) (hsrc' := hsrc') (hdst' := hdst')
    (fs := fun j => a.i0 (j 1).val) (Sd := Finset.univ) (fd := fun j => s.y0v (j 0).val) (gd := fun j => a.i0 (j 0).val) (k := k)
    (Φ := fun b => iprop(∃ s' z', ⌜Q b s' z'⌝ ∗ own d i s' ∗ io d i O Wt hb a z')) (View.amount_pos _ _ (show 0 < _ by decide)) (Finset.subset_univ _) (by
      intro j _
      rw [show ((Memref.whole cc0_scratch0 : Memref sig .scVector .vmem S20016 .f32).view.write (Elt F) (fun j => s.y0v (j 0).val) ((rowIn (Memref.whole main_v2_scv) i hb).view.read (Elt F) (fun j => a.i0 (j 1).val)) Finset.univ) = ((rowIn (Memref.whole main_v2_scv) i hb).view.read (Elt F) (fun j => a.i0 (j 1).val)) from View.write_whole_univ _ _ _]
      exact congrArg a.i0 (rowIn_at i hb j).1)
  iintro ⟨Hs, Hz⟩
  ihave Ho := ho $$ Hs
  icases Ho with ⟨Hp, Hr⟩
  unfold io
  icases Hz with ⟨G0, G1, G2, G3, G4, G5, G6, G7, G8, G9, G10, G11, G12, G13, G14, G15, G16, G17, G18, G19, G20⟩
  iapply hc $$ [G0 Hp G10 G20]
  · isplitl [G0]; iexact G0
    isplitl [Hp]; iexact Hp
    isplitl [G10]; iexact G10
    iexact G20
  iintro ⟨G0, Hp, G10, G20⟩
  iapply h
  isplitl [Hp Hr]
  · iapply Hr; iexact Hp
  unfold io
  isplitl [G0]; iexact G0
  isplitl [G1]; iexact G1
  isplitl [G2]; iexact G2
  isplitl [G3]; iexact G3
  isplitl [G4]; iexact G4
  isplitl [G5]; iexact G5
  isplitl [G6]; iexact G6
  isplitl [G7]; iexact G7
  isplitl [G8]; iexact G8
  isplitl [G9]; iexact G9
  isplitl [G10]; iexact G10
  isplitl [G11]; iexact G11
  isplitl [G12]; iexact G12
  isplitl [G13]; iexact G13
  isplitl [G14]; iexact G14
  isplitl [G15]; iexact G15
  isplitl [G16]; iexact G16
  isplitl [G17]; iexact G17
  isplitl [G18]; iexact G18
  isplitl [G19]; iexact G19
  iexact G20

/-- The copy into `x0v`. -/
theorem X_in1 {β : Type} {s : St F} {z : Out F} {k : PUnit → Prog (TpuEff nD τ sig (Elt F) Λ₀ (thr d i).2) β} {Q : β → St F → Out F → Prop}
    {hsrc : (rowIn (Memref.whole main_v5_scv) i hb).view.WordExact} {hdst : (Memref.whole cc0_scratch1 : Memref sig .scVector .vmem S20016 .f32).view.WordExact} {hsem} {hsrc' : (rowIn (Memref.whole main_v5_scv) i hb).view.WordExact} {hdst' : (Memref.whole cc0_scratch1 : Memref sig .scVector .vmem S20016 .f32).view.WordExact}
    (h : X d i O Wt hb a (k ⟨⟩) { s with x0v := a.i1 } z Q) :
    X d i O Wt hb a (Prog.lift (.enqueueDma (rowIn (Memref.whole main_v5_scv) i hb) (.here (Memref.whole cc0_scratch1 : Memref sig .scVector .vmem S20016 .f32)) (.dma cc0_scoped1.sem) hsrc hdst hsem) >>= fun _ =>
      Prog.lift (.waitDma2 cc0_scoped1.sem (rowIn (Memref.whole main_v5_scv) i hb) (Memref.whole cc0_scratch1 : Memref sig .scVector .vmem S20016 .f32) hsrc' hdst') >>= k) s z Q := by
  unfold X at *
  have ho := own_x0v (d := d) (i := i) s a.i1
  have hc := copy_core (F := F) (d := d) (i := i) (O := O) (Wt := Wt) (src := rowIn (Memref.whole main_v5_scv) i hb) (dst := (Memref.whole cc0_scratch1 : Memref sig .scVector .vmem S20016 .f32)) (sem := cc0_scoped1.sem) (hsrc := hsrc) (hdst := hdst) (hsem := hsem) (hsrc' := hsrc') (hdst' := hdst')
    (fs := fun j => a.i1 (j 1).val) (Sd := Finset.univ) (fd := fun j => s.x0v (j 0).val) (gd := fun j => a.i1 (j 0).val) (k := k)
    (Φ := fun b => iprop(∃ s' z', ⌜Q b s' z'⌝ ∗ own d i s' ∗ io d i O Wt hb a z')) (View.amount_pos _ _ (show 0 < _ by decide)) (Finset.subset_univ _) (by
      intro j _
      rw [show ((Memref.whole cc0_scratch1 : Memref sig .scVector .vmem S20016 .f32).view.write (Elt F) (fun j => s.x0v (j 0).val) ((rowIn (Memref.whole main_v5_scv) i hb).view.read (Elt F) (fun j => a.i1 (j 1).val)) Finset.univ) = ((rowIn (Memref.whole main_v5_scv) i hb).view.read (Elt F) (fun j => a.i1 (j 1).val)) from View.write_whole_univ _ _ _]
      exact congrArg a.i1 (rowIn_at i hb j).1)
  iintro ⟨Hs, Hz⟩
  ihave Ho := ho $$ Hs
  icases Ho with ⟨Hp, Hr⟩
  unfold io
  icases Hz with ⟨G0, G1, G2, G3, G4, G5, G6, G7, G8, G9, G10, G11, G12, G13, G14, G15, G16, G17, G18, G19, G20⟩
  iapply hc $$ [G1 Hp G11 G20]
  · isplitl [G1]; iexact G1
    isplitl [Hp]; iexact Hp
    isplitl [G11]; iexact G11
    iexact G20
  iintro ⟨G1, Hp, G11, G20⟩
  iapply h
  isplitl [Hp Hr]
  · iapply Hr; iexact Hp
  unfold io
  isplitl [G0]; iexact G0
  isplitl [G1]; iexact G1
  isplitl [G2]; iexact G2
  isplitl [G3]; iexact G3
  isplitl [G4]; iexact G4
  isplitl [G5]; iexact G5
  isplitl [G6]; iexact G6
  isplitl [G7]; iexact G7
  isplitl [G8]; iexact G8
  isplitl [G9]; iexact G9
  isplitl [G10]; iexact G10
  isplitl [G11]; iexact G11
  isplitl [G12]; iexact G12
  isplitl [G13]; iexact G13
  isplitl [G14]; iexact G14
  isplitl [G15]; iexact G15
  isplitl [G16]; iexact G16
  isplitl [G17]; iexact G17
  isplitl [G18]; iexact G18
  isplitl [G19]; iexact G19
  iexact G20

/-- The copy into `y1v`. -/
theorem X_in2 {β : Type} {s : St F} {z : Out F} {k : PUnit → Prog (TpuEff nD τ sig (Elt F) Λ₀ (thr d i).2) β} {Q : β → St F → Out F → Prop}
    {hsrc : (rowIn (Memref.whole main_v8_scv) i hb).view.WordExact} {hdst : (Memref.whole cc0_scratch2 : Memref sig .scVector .vmem S20016 .f32).view.WordExact} {hsem} {hsrc' : (rowIn (Memref.whole main_v8_scv) i hb).view.WordExact} {hdst' : (Memref.whole cc0_scratch2 : Memref sig .scVector .vmem S20016 .f32).view.WordExact}
    (h : X d i O Wt hb a (k ⟨⟩) { s with y1v := a.i2 } z Q) :
    X d i O Wt hb a (Prog.lift (.enqueueDma (rowIn (Memref.whole main_v8_scv) i hb) (.here (Memref.whole cc0_scratch2 : Memref sig .scVector .vmem S20016 .f32)) (.dma cc0_scoped2.sem) hsrc hdst hsem) >>= fun _ =>
      Prog.lift (.waitDma2 cc0_scoped2.sem (rowIn (Memref.whole main_v8_scv) i hb) (Memref.whole cc0_scratch2 : Memref sig .scVector .vmem S20016 .f32) hsrc' hdst') >>= k) s z Q := by
  unfold X at *
  have ho := own_y1v (d := d) (i := i) s a.i2
  have hc := copy_core (F := F) (d := d) (i := i) (O := O) (Wt := Wt) (src := rowIn (Memref.whole main_v8_scv) i hb) (dst := (Memref.whole cc0_scratch2 : Memref sig .scVector .vmem S20016 .f32)) (sem := cc0_scoped2.sem) (hsrc := hsrc) (hdst := hdst) (hsem := hsem) (hsrc' := hsrc') (hdst' := hdst')
    (fs := fun j => a.i2 (j 1).val) (Sd := Finset.univ) (fd := fun j => s.y1v (j 0).val) (gd := fun j => a.i2 (j 0).val) (k := k)
    (Φ := fun b => iprop(∃ s' z', ⌜Q b s' z'⌝ ∗ own d i s' ∗ io d i O Wt hb a z')) (View.amount_pos _ _ (show 0 < _ by decide)) (Finset.subset_univ _) (by
      intro j _
      rw [show ((Memref.whole cc0_scratch2 : Memref sig .scVector .vmem S20016 .f32).view.write (Elt F) (fun j => s.y1v (j 0).val) ((rowIn (Memref.whole main_v8_scv) i hb).view.read (Elt F) (fun j => a.i2 (j 1).val)) Finset.univ) = ((rowIn (Memref.whole main_v8_scv) i hb).view.read (Elt F) (fun j => a.i2 (j 1).val)) from View.write_whole_univ _ _ _]
      exact congrArg a.i2 (rowIn_at i hb j).1)
  iintro ⟨Hs, Hz⟩
  ihave Ho := ho $$ Hs
  icases Ho with ⟨Hp, Hr⟩
  unfold io
  icases Hz with ⟨G0, G1, G2, G3, G4, G5, G6, G7, G8, G9, G10, G11, G12, G13, G14, G15, G16, G17, G18, G19, G20⟩
  iapply hc $$ [G2 Hp G12 G20]
  · isplitl [G2]; iexact G2
    isplitl [Hp]; iexact Hp
    isplitl [G12]; iexact G12
    iexact G20
  iintro ⟨G2, Hp, G12, G20⟩
  iapply h
  isplitl [Hp Hr]
  · iapply Hr; iexact Hp
  unfold io
  isplitl [G0]; iexact G0
  isplitl [G1]; iexact G1
  isplitl [G2]; iexact G2
  isplitl [G3]; iexact G3
  isplitl [G4]; iexact G4
  isplitl [G5]; iexact G5
  isplitl [G6]; iexact G6
  isplitl [G7]; iexact G7
  isplitl [G8]; iexact G8
  isplitl [G9]; iexact G9
  isplitl [G10]; iexact G10
  isplitl [G11]; iexact G11
  isplitl [G12]; iexact G12
  isplitl [G13]; iexact G13
  isplitl [G14]; iexact G14
  isplitl [G15]; iexact G15
  isplitl [G16]; iexact G16
  isplitl [G17]; iexact G17
  isplitl [G18]; iexact G18
  isplitl [G19]; iexact G19
  iexact G20

/-- The copy into `x1v`. -/
theorem X_in3 {β : Type} {s : St F} {z : Out F} {k : PUnit → Prog (TpuEff nD τ sig (Elt F) Λ₀ (thr d i).2) β} {Q : β → St F → Out F → Prop}
    {hsrc : (rowIn (Memref.whole main_v11_scv) i hb).view.WordExact} {hdst : (Memref.whole cc0_scratch3 : Memref sig .scVector .vmem S20016 .f32).view.WordExact} {hsem} {hsrc' : (rowIn (Memref.whole main_v11_scv) i hb).view.WordExact} {hdst' : (Memref.whole cc0_scratch3 : Memref sig .scVector .vmem S20016 .f32).view.WordExact}
    (h : X d i O Wt hb a (k ⟨⟩) { s with x1v := a.i3 } z Q) :
    X d i O Wt hb a (Prog.lift (.enqueueDma (rowIn (Memref.whole main_v11_scv) i hb) (.here (Memref.whole cc0_scratch3 : Memref sig .scVector .vmem S20016 .f32)) (.dma cc0_scoped3.sem) hsrc hdst hsem) >>= fun _ =>
      Prog.lift (.waitDma2 cc0_scoped3.sem (rowIn (Memref.whole main_v11_scv) i hb) (Memref.whole cc0_scratch3 : Memref sig .scVector .vmem S20016 .f32) hsrc' hdst') >>= k) s z Q := by
  unfold X at *
  have ho := own_x1v (d := d) (i := i) s a.i3
  have hc := copy_core (F := F) (d := d) (i := i) (O := O) (Wt := Wt) (src := rowIn (Memref.whole main_v11_scv) i hb) (dst := (Memref.whole cc0_scratch3 : Memref sig .scVector .vmem S20016 .f32)) (sem := cc0_scoped3.sem) (hsrc := hsrc) (hdst := hdst) (hsem := hsem) (hsrc' := hsrc') (hdst' := hdst')
    (fs := fun j => a.i3 (j 1).val) (Sd := Finset.univ) (fd := fun j => s.x1v (j 0).val) (gd := fun j => a.i3 (j 0).val) (k := k)
    (Φ := fun b => iprop(∃ s' z', ⌜Q b s' z'⌝ ∗ own d i s' ∗ io d i O Wt hb a z')) (View.amount_pos _ _ (show 0 < _ by decide)) (Finset.subset_univ _) (by
      intro j _
      rw [show ((Memref.whole cc0_scratch3 : Memref sig .scVector .vmem S20016 .f32).view.write (Elt F) (fun j => s.x1v (j 0).val) ((rowIn (Memref.whole main_v11_scv) i hb).view.read (Elt F) (fun j => a.i3 (j 1).val)) Finset.univ) = ((rowIn (Memref.whole main_v11_scv) i hb).view.read (Elt F) (fun j => a.i3 (j 1).val)) from View.write_whole_univ _ _ _]
      exact congrArg a.i3 (rowIn_at i hb j).1)
  iintro ⟨Hs, Hz⟩
  ihave Ho := ho $$ Hs
  icases Ho with ⟨Hp, Hr⟩
  unfold io
  icases Hz with ⟨G0, G1, G2, G3, G4, G5, G6, G7, G8, G9, G10, G11, G12, G13, G14, G15, G16, G17, G18, G19, G20⟩
  iapply hc $$ [G3 Hp G13 G20]
  · isplitl [G3]; iexact G3
    isplitl [Hp]; iexact Hp
    isplitl [G13]; iexact G13
    iexact G20
  iintro ⟨G3, Hp, G13, G20⟩
  iapply h
  isplitl [Hp Hr]
  · iapply Hr; iexact Hp
  unfold io
  isplitl [G0]; iexact G0
  isplitl [G1]; iexact G1
  isplitl [G2]; iexact G2
  isplitl [G3]; iexact G3
  isplitl [G4]; iexact G4
  isplitl [G5]; iexact G5
  isplitl [G6]; iexact G6
  isplitl [G7]; iexact G7
  isplitl [G8]; iexact G8
  isplitl [G9]; iexact G9
  isplitl [G10]; iexact G10
  isplitl [G11]; iexact G11
  isplitl [G12]; iexact G12
  isplitl [G13]; iexact G13
  isplitl [G14]; iexact G14
  isplitl [G15]; iexact G15
  isplitl [G16]; iexact G16
  isplitl [G17]; iexact G17
  isplitl [G18]; iexact G18
  isplitl [G19]; iexact G19
  iexact G20

/-- The copy into `mv`. -/
theorem X_in4 {β : Type} {s : St F} {z : Out F} {k : PUnit → Prog (TpuEff nD τ sig (Elt F) Λ₀ (thr d i).2) β} {Q : β → St F → Out F → Prop}
    {hsrc : (rowIn (Memref.whole main_v12_scv) i hb).view.WordExact} {hdst : (Memref.whole cc0_scratch4 : Memref sig .scVector .vmem S20016 .f32).view.WordExact} {hsem} {hsrc' : (rowIn (Memref.whole main_v12_scv) i hb).view.WordExact} {hdst' : (Memref.whole cc0_scratch4 : Memref sig .scVector .vmem S20016 .f32).view.WordExact}
    (h : X d i O Wt hb a (k ⟨⟩) { s with mv := a.i4 } z Q) :
    X d i O Wt hb a (Prog.lift (.enqueueDma (rowIn (Memref.whole main_v12_scv) i hb) (.here (Memref.whole cc0_scratch4 : Memref sig .scVector .vmem S20016 .f32)) (.dma cc0_scoped4.sem) hsrc hdst hsem) >>= fun _ =>
      Prog.lift (.waitDma2 cc0_scoped4.sem (rowIn (Memref.whole main_v12_scv) i hb) (Memref.whole cc0_scratch4 : Memref sig .scVector .vmem S20016 .f32) hsrc' hdst') >>= k) s z Q := by
  unfold X at *
  have ho := own_mv (d := d) (i := i) s a.i4
  have hc := copy_core (F := F) (d := d) (i := i) (O := O) (Wt := Wt) (src := rowIn (Memref.whole main_v12_scv) i hb) (dst := (Memref.whole cc0_scratch4 : Memref sig .scVector .vmem S20016 .f32)) (sem := cc0_scoped4.sem) (hsrc := hsrc) (hdst := hdst) (hsem := hsem) (hsrc' := hsrc') (hdst' := hdst')
    (fs := fun j => a.i4 (j 1).val) (Sd := Finset.univ) (fd := fun j => s.mv (j 0).val) (gd := fun j => a.i4 (j 0).val) (k := k)
    (Φ := fun b => iprop(∃ s' z', ⌜Q b s' z'⌝ ∗ own d i s' ∗ io d i O Wt hb a z')) (View.amount_pos _ _ (show 0 < _ by decide)) (Finset.subset_univ _) (by
      intro j _
      rw [show ((Memref.whole cc0_scratch4 : Memref sig .scVector .vmem S20016 .f32).view.write (Elt F) (fun j => s.mv (j 0).val) ((rowIn (Memref.whole main_v12_scv) i hb).view.read (Elt F) (fun j => a.i4 (j 1).val)) Finset.univ) = ((rowIn (Memref.whole main_v12_scv) i hb).view.read (Elt F) (fun j => a.i4 (j 1).val)) from View.write_whole_univ _ _ _]
      exact congrArg a.i4 (rowIn_at i hb j).1)
  iintro ⟨Hs, Hz⟩
  ihave Ho := ho $$ Hs
  icases Ho with ⟨Hp, Hr⟩
  unfold io
  icases Hz with ⟨G0, G1, G2, G3, G4, G5, G6, G7, G8, G9, G10, G11, G12, G13, G14, G15, G16, G17, G18, G19, G20⟩
  iapply hc $$ [G4 Hp G14 G20]
  · isplitl [G4]; iexact G4
    isplitl [Hp]; iexact Hp
    isplitl [G14]; iexact G14
    iexact G20
  iintro ⟨G4, Hp, G14, G20⟩
  iapply h
  isplitl [Hp Hr]
  · iapply Hr; iexact Hp
  unfold io
  isplitl [G0]; iexact G0
  isplitl [G1]; iexact G1
  isplitl [G2]; iexact G2
  isplitl [G3]; iexact G3
  isplitl [G4]; iexact G4
  isplitl [G5]; iexact G5
  isplitl [G6]; iexact G6
  isplitl [G7]; iexact G7
  isplitl [G8]; iexact G8
  isplitl [G9]; iexact G9
  isplitl [G10]; iexact G10
  isplitl [G11]; iexact G11
  isplitl [G12]; iexact G12
  isplitl [G13]; iexact G13
  isplitl [G14]; iexact G14
  isplitl [G15]; iexact G15
  isplitl [G16]; iexact G16
  isplitl [G17]; iexact G17
  isplitl [G18]; iexact G18
  isplitl [G19]; iexact G19
  iexact G20

/-- The copy of the staged row out, number 0. -/
theorem X_out0 {β : Type} {s : St F} {z : Out F} {k : PUnit → Prog (TpuEff nD τ sig (Elt F) Λ₀ (thr d i).2) β} {Q : β → St F → Out F → Prop}
    {hsrc : (Memref.whole cc0_scratch15 : Memref sig .scVector .vmem S112 .f32).view.WordExact} {hdst : (rowOut (Memref.whole main_v13_0_scv) i hb).view.WordExact} {hsem} {hsrc' : (Memref.whole cc0_scratch15 : Memref sig .scVector .vmem S112 .f32).view.WordExact} {hdst' : (rowOut (Memref.whole main_v13_0_scv) i hb).view.WordExact}
    (g : ℕ → F .f32) (hg : ∀ n < 112, s.qv n = g n) (h : X d i O Wt hb a (k ⟨⟩) s { z with o0 := g } Q) :
    X d i O Wt hb a (Prog.lift (.enqueueDma (Memref.whole cc0_scratch15 : Memref sig .scVector .vmem S112 .f32) (.here (rowOut (Memref.whole main_v13_0_scv) i hb)) (.dma cc0_scoped5.sem) hsrc hdst hsem) >>= fun _ =>
      Prog.lift (.waitDma2 cc0_scoped5.sem (Memref.whole cc0_scratch15 : Memref sig .scVector .vmem S112 .f32) (rowOut (Memref.whole main_v13_0_scv) i hb) hsrc' hdst') >>= k) s z Q := by
  unfold X at *
  have ho := own_qv (d := d) (i := i) s s.qv
  have hc := copy_core (F := F) (d := d) (i := i) (O := O) (Wt := Wt) (dst := rowOut (Memref.whole main_v13_0_scv) i hb) (src := (Memref.whole cc0_scratch15 : Memref sig .scVector .vmem S112 .f32)) (sem := cc0_scoped5.sem) (hsrc := hsrc) (hdst := hdst) (hsem := hsem) (hsrc' := hsrc') (hdst' := hdst')
    (fd := fun j => z.o0 (j 1).val) (Sd := (rowOut (Memref.whole main_v13_0_scv) i hb).view.set) (fs := fun j => s.qv (j 0).val) (gd := fun j => g (j 1).val) (k := k)
    (Φ := fun b => iprop(∃ s' z', ⌜Q b s' z'⌝ ∗ own d i s' ∗ io d i O Wt hb a z')) (View.amount_pos _ _ (show 0 < _ by decide)) (Finset.Subset.refl _) (by
      intro j hj
      obtain ⟨x, _, rfl⟩ := Finset.mem_map.1 hj
      rw [View.write_emb_of_mem _ _ (Finset.mem_univ x)]
      refine (hg _ (x 0).isLt).trans (congrArg g ?_)
      exact (rowOut_at i hb x).1.symm)
  iintro ⟨Hs, Hz⟩
  ihave Ho := ho $$ Hs
  icases Ho with ⟨Hp, Hr⟩
  unfold io
  icases Hz with ⟨G0, G1, G2, G3, G4, G5, G6, G7, G8, G9, G10, G11, G12, G13, G14, G15, G16, G17, G18, G19, G20⟩
  rw [show (Memref.whole cc0_scratch15 : Memref sig .scVector .vmem S112 .f32).view.set = Finset.univ from View.set_whole _] at hc
  iapply hc $$ [G5 Hp G15 G20]
  · isplitl [Hp]; iexact Hp
    isplitl [G5]; iexact G5
    isplitl [G15]; iexact G15
    iexact G20
  iintro ⟨Hp, G5, G15, G20⟩
  iapply h
  isplitl [Hp Hr]
  · iapply Hr; iexact Hp
  unfold io
  isplitl [G0]; iexact G0
  isplitl [G1]; iexact G1
  isplitl [G2]; iexact G2
  isplitl [G3]; iexact G3
  isplitl [G4]; iexact G4
  isplitl [G5]; iexact G5
  isplitl [G6]; iexact G6
  isplitl [G7]; iexact G7
  isplitl [G8]; iexact G8
  isplitl [G9]; iexact G9
  isplitl [G10]; iexact G10
  isplitl [G11]; iexact G11
  isplitl [G12]; iexact G12
  isplitl [G13]; iexact G13
  isplitl [G14]; iexact G14
  isplitl [G15]; iexact G15
  isplitl [G16]; iexact G16
  isplitl [G17]; iexact G17
  isplitl [G18]; iexact G18
  isplitl [G19]; iexact G19
  iexact G20

/-- The copy of the staged row out, number 1. -/
theorem X_out1 {β : Type} {s : St F} {z : Out F} {k : PUnit → Prog (TpuEff nD τ sig (Elt F) Λ₀ (thr d i).2) β} {Q : β → St F → Out F → Prop}
    {hsrc : (Memref.whole cc0_scratch15 : Memref sig .scVector .vmem S112 .f32).view.WordExact} {hdst : (rowOut (Memref.whole main_v13_1_scv) i hb).view.WordExact} {hsem} {hsrc' : (Memref.whole cc0_scratch15 : Memref sig .scVector .vmem S112 .f32).view.WordExact} {hdst' : (rowOut (Memref.whole main_v13_1_scv) i hb).view.WordExact}
    (g : ℕ → F .f32) (hg : ∀ n < 112, s.qv n = g n) (h : X d i O Wt hb a (k ⟨⟩) s { z with o1 := g } Q) :
    X d i O Wt hb a (Prog.lift (.enqueueDma (Memref.whole cc0_scratch15 : Memref sig .scVector .vmem S112 .f32) (.here (rowOut (Memref.whole main_v13_1_scv) i hb)) (.dma cc0_scoped6.sem) hsrc hdst hsem) >>= fun _ =>
      Prog.lift (.waitDma2 cc0_scoped6.sem (Memref.whole cc0_scratch15 : Memref sig .scVector .vmem S112 .f32) (rowOut (Memref.whole main_v13_1_scv) i hb) hsrc' hdst') >>= k) s z Q := by
  unfold X at *
  have ho := own_qv (d := d) (i := i) s s.qv
  have hc := copy_core (F := F) (d := d) (i := i) (O := O) (Wt := Wt) (dst := rowOut (Memref.whole main_v13_1_scv) i hb) (src := (Memref.whole cc0_scratch15 : Memref sig .scVector .vmem S112 .f32)) (sem := cc0_scoped6.sem) (hsrc := hsrc) (hdst := hdst) (hsem := hsem) (hsrc' := hsrc') (hdst' := hdst')
    (fd := fun j => z.o1 (j 1).val) (Sd := (rowOut (Memref.whole main_v13_1_scv) i hb).view.set) (fs := fun j => s.qv (j 0).val) (gd := fun j => g (j 1).val) (k := k)
    (Φ := fun b => iprop(∃ s' z', ⌜Q b s' z'⌝ ∗ own d i s' ∗ io d i O Wt hb a z')) (View.amount_pos _ _ (show 0 < _ by decide)) (Finset.Subset.refl _) (by
      intro j hj
      obtain ⟨x, _, rfl⟩ := Finset.mem_map.1 hj
      rw [View.write_emb_of_mem _ _ (Finset.mem_univ x)]
      refine (hg _ (x 0).isLt).trans (congrArg g ?_)
      exact (rowOut_at i hb x).1.symm)
  iintro ⟨Hs, Hz⟩
  ihave Ho := ho $$ Hs
  icases Ho with ⟨Hp, Hr⟩
  unfold io
  icases Hz with ⟨G0, G1, G2, G3, G4, G5, G6, G7, G8, G9, G10, G11, G12, G13, G14, G15, G16, G17, G18, G19, G20⟩
  rw [show (Memref.whole cc0_scratch15 : Memref sig .scVector .vmem S112 .f32).view.set = Finset.univ from View.set_whole _] at hc
  iapply hc $$ [G6 Hp G16 G20]
  · isplitl [Hp]; iexact Hp
    isplitl [G6]; iexact G6
    isplitl [G16]; iexact G16
    iexact G20
  iintro ⟨Hp, G6, G16, G20⟩
  iapply h
  isplitl [Hp Hr]
  · iapply Hr; iexact Hp
  unfold io
  isplitl [G0]; iexact G0
  isplitl [G1]; iexact G1
  isplitl [G2]; iexact G2
  isplitl [G3]; iexact G3
  isplitl [G4]; iexact G4
  isplitl [G5]; iexact G5
  isplitl [G6]; iexact G6
  isplitl [G7]; iexact G7
  isplitl [G8]; iexact G8
  isplitl [G9]; iexact G9
  isplitl [G10]; iexact G10
  isplitl [G11]; iexact G11
  isplitl [G12]; iexact G12
  isplitl [G13]; iexact G13
  isplitl [G14]; iexact G14
  isplitl [G15]; iexact G15
  isplitl [G16]; iexact G16
  isplitl [G17]; iexact G17
  isplitl [G18]; iexact G18
  isplitl [G19]; iexact G19
  iexact G20

/-- The copy of the staged row out, number 2. -/
theorem X_out2 {β : Type} {s : St F} {z : Out F} {k : PUnit → Prog (TpuEff nD τ sig (Elt F) Λ₀ (thr d i).2) β} {Q : β → St F → Out F → Prop}
    {hsrc : (Memref.whole cc0_scratch15 : Memref sig .scVector .vmem S112 .f32).view.WordExact} {hdst : (rowOut (Memref.whole main_v13_2_scv) i hb).view.WordExact} {hsem} {hsrc' : (Memref.whole cc0_scratch15 : Memref sig .scVector .vmem S112 .f32).view.WordExact} {hdst' : (rowOut (Memref.whole main_v13_2_scv) i hb).view.WordExact}
    (g : ℕ → F .f32) (hg : ∀ n < 112, s.qv n = g n) (h : X d i O Wt hb a (k ⟨⟩) s { z with o2 := g } Q) :
    X d i O Wt hb a (Prog.lift (.enqueueDma (Memref.whole cc0_scratch15 : Memref sig .scVector .vmem S112 .f32) (.here (rowOut (Memref.whole main_v13_2_scv) i hb)) (.dma cc0_scoped7.sem) hsrc hdst hsem) >>= fun _ =>
      Prog.lift (.waitDma2 cc0_scoped7.sem (Memref.whole cc0_scratch15 : Memref sig .scVector .vmem S112 .f32) (rowOut (Memref.whole main_v13_2_scv) i hb) hsrc' hdst') >>= k) s z Q := by
  unfold X at *
  have ho := own_qv (d := d) (i := i) s s.qv
  have hc := copy_core (F := F) (d := d) (i := i) (O := O) (Wt := Wt) (dst := rowOut (Memref.whole main_v13_2_scv) i hb) (src := (Memref.whole cc0_scratch15 : Memref sig .scVector .vmem S112 .f32)) (sem := cc0_scoped7.sem) (hsrc := hsrc) (hdst := hdst) (hsem := hsem) (hsrc' := hsrc') (hdst' := hdst')
    (fd := fun j => z.o2 (j 1).val) (Sd := (rowOut (Memref.whole main_v13_2_scv) i hb).view.set) (fs := fun j => s.qv (j 0).val) (gd := fun j => g (j 1).val) (k := k)
    (Φ := fun b => iprop(∃ s' z', ⌜Q b s' z'⌝ ∗ own d i s' ∗ io d i O Wt hb a z')) (View.amount_pos _ _ (show 0 < _ by decide)) (Finset.Subset.refl _) (by
      intro j hj
      obtain ⟨x, _, rfl⟩ := Finset.mem_map.1 hj
      rw [View.write_emb_of_mem _ _ (Finset.mem_univ x)]
      refine (hg _ (x 0).isLt).trans (congrArg g ?_)
      exact (rowOut_at i hb x).1.symm)
  iintro ⟨Hs, Hz⟩
  ihave Ho := ho $$ Hs
  icases Ho with ⟨Hp, Hr⟩
  unfold io
  icases Hz with ⟨G0, G1, G2, G3, G4, G5, G6, G7, G8, G9, G10, G11, G12, G13, G14, G15, G16, G17, G18, G19, G20⟩
  rw [show (Memref.whole cc0_scratch15 : Memref sig .scVector .vmem S112 .f32).view.set = Finset.univ from View.set_whole _] at hc
  iapply hc $$ [G7 Hp G17 G20]
  · isplitl [Hp]; iexact Hp
    isplitl [G7]; iexact G7
    isplitl [G17]; iexact G17
    iexact G20
  iintro ⟨Hp, G7, G17, G20⟩
  iapply h
  isplitl [Hp Hr]
  · iapply Hr; iexact Hp
  unfold io
  isplitl [G0]; iexact G0
  isplitl [G1]; iexact G1
  isplitl [G2]; iexact G2
  isplitl [G3]; iexact G3
  isplitl [G4]; iexact G4
  isplitl [G5]; iexact G5
  isplitl [G6]; iexact G6
  isplitl [G7]; iexact G7
  isplitl [G8]; iexact G8
  isplitl [G9]; iexact G9
  isplitl [G10]; iexact G10
  isplitl [G11]; iexact G11
  isplitl [G12]; iexact G12
  isplitl [G13]; iexact G13
  isplitl [G14]; iexact G14
  isplitl [G15]; iexact G15
  isplitl [G16]; iexact G16
  isplitl [G17]; iexact G17
  isplitl [G18]; iexact G18
  isplitl [G19]; iexact G19
  iexact G20

/-- The copy of the staged row out, number 3. -/
theorem X_out3 {β : Type} {s : St F} {z : Out F} {k : PUnit → Prog (TpuEff nD τ sig (Elt F) Λ₀ (thr d i).2) β} {Q : β → St F → Out F → Prop}
    {hsrc : (Memref.whole cc0_scratch15 : Memref sig .scVector .vmem S112 .f32).view.WordExact} {hdst : (rowOut (Memref.whole main_v13_3_scv) i hb).view.WordExact} {hsem} {hsrc' : (Memref.whole cc0_scratch15 : Memref sig .scVector .vmem S112 .f32).view.WordExact} {hdst' : (rowOut (Memref.whole main_v13_3_scv) i hb).view.WordExact}
    (g : ℕ → F .f32) (hg : ∀ n < 112, s.qv n = g n) (h : X d i O Wt hb a (k ⟨⟩) s { z with o3 := g } Q) :
    X d i O Wt hb a (Prog.lift (.enqueueDma (Memref.whole cc0_scratch15 : Memref sig .scVector .vmem S112 .f32) (.here (rowOut (Memref.whole main_v13_3_scv) i hb)) (.dma cc0_scoped8.sem) hsrc hdst hsem) >>= fun _ =>
      Prog.lift (.waitDma2 cc0_scoped8.sem (Memref.whole cc0_scratch15 : Memref sig .scVector .vmem S112 .f32) (rowOut (Memref.whole main_v13_3_scv) i hb) hsrc' hdst') >>= k) s z Q := by
  unfold X at *
  have ho := own_qv (d := d) (i := i) s s.qv
  have hc := copy_core (F := F) (d := d) (i := i) (O := O) (Wt := Wt) (dst := rowOut (Memref.whole main_v13_3_scv) i hb) (src := (Memref.whole cc0_scratch15 : Memref sig .scVector .vmem S112 .f32)) (sem := cc0_scoped8.sem) (hsrc := hsrc) (hdst := hdst) (hsem := hsem) (hsrc' := hsrc') (hdst' := hdst')
    (fd := fun j => z.o3 (j 1).val) (Sd := (rowOut (Memref.whole main_v13_3_scv) i hb).view.set) (fs := fun j => s.qv (j 0).val) (gd := fun j => g (j 1).val) (k := k)
    (Φ := fun b => iprop(∃ s' z', ⌜Q b s' z'⌝ ∗ own d i s' ∗ io d i O Wt hb a z')) (View.amount_pos _ _ (show 0 < _ by decide)) (Finset.Subset.refl _) (by
      intro j hj
      obtain ⟨x, _, rfl⟩ := Finset.mem_map.1 hj
      rw [View.write_emb_of_mem _ _ (Finset.mem_univ x)]
      refine (hg _ (x 0).isLt).trans (congrArg g ?_)
      exact (rowOut_at i hb x).1.symm)
  iintro ⟨Hs, Hz⟩
  ihave Ho := ho $$ Hs
  icases Ho with ⟨Hp, Hr⟩
  unfold io
  icases Hz with ⟨G0, G1, G2, G3, G4, G5, G6, G7, G8, G9, G10, G11, G12, G13, G14, G15, G16, G17, G18, G19, G20⟩
  rw [show (Memref.whole cc0_scratch15 : Memref sig .scVector .vmem S112 .f32).view.set = Finset.univ from View.set_whole _] at hc
  iapply hc $$ [G8 Hp G18 G20]
  · isplitl [Hp]; iexact Hp
    isplitl [G8]; iexact G8
    isplitl [G18]; iexact G18
    iexact G20
  iintro ⟨Hp, G8, G18, G20⟩
  iapply h
  isplitl [Hp Hr]
  · iapply Hr; iexact Hp
  unfold io
  isplitl [G0]; iexact G0
  isplitl [G1]; iexact G1
  isplitl [G2]; iexact G2
  isplitl [G3]; iexact G3
  isplitl [G4]; iexact G4
  isplitl [G5]; iexact G5
  isplitl [G6]; iexact G6
  isplitl [G7]; iexact G7
  isplitl [G8]; iexact G8
  isplitl [G9]; iexact G9
  isplitl [G10]; iexact G10
  isplitl [G11]; iexact G11
  isplitl [G12]; iexact G12
  isplitl [G13]; iexact G13
  isplitl [G14]; iexact G14
  isplitl [G15]; iexact G15
  isplitl [G16]; iexact G16
  isplitl [G17]; iexact G17
  isplitl [G18]; iexact G18
  isplitl [G19]; iexact G19
  iexact G20

/-- The copy of the staged row out, number 4. -/
theorem X_out4 {β : Type} {s : St F} {z : Out F} {k : PUnit → Prog (TpuEff nD τ sig (Elt F) Λ₀ (thr d i).2) β} {Q : β → St F → Out F → Prop}
    {hsrc : (Memref.whole cc0_scratch15 : Memref sig .scVector .vmem S112 .f32).view.WordExact} {hdst : (rowOut (Memref.whole main_v13_4_scv) i hb).view.WordExact} {hsem} {hsrc' : (Memref.whole cc0_scratch15 : Memref sig .scVector .vmem S112 .f32).view.WordExact} {hdst' : (rowOut (Memref.whole main_v13_4_scv) i hb).view.WordExact}
    (g : ℕ → F .f32) (hg : ∀ n < 112, s.qv n = g n) (h : X d i O Wt hb a (k ⟨⟩) s { z with o4 := g } Q) :
    X d i O Wt hb a (Prog.lift (.enqueueDma (Memref.whole cc0_scratch15 : Memref sig .scVector .vmem S112 .f32) (.here (rowOut (Memref.whole main_v13_4_scv) i hb)) (.dma cc0_scoped9.sem) hsrc hdst hsem) >>= fun _ =>
      Prog.lift (.waitDma2 cc0_scoped9.sem (Memref.whole cc0_scratch15 : Memref sig .scVector .vmem S112 .f32) (rowOut (Memref.whole main_v13_4_scv) i hb) hsrc' hdst') >>= k) s z Q := by
  unfold X at *
  have ho := own_qv (d := d) (i := i) s s.qv
  have hc := copy_core (F := F) (d := d) (i := i) (O := O) (Wt := Wt) (dst := rowOut (Memref.whole main_v13_4_scv) i hb) (src := (Memref.whole cc0_scratch15 : Memref sig .scVector .vmem S112 .f32)) (sem := cc0_scoped9.sem) (hsrc := hsrc) (hdst := hdst) (hsem := hsem) (hsrc' := hsrc') (hdst' := hdst')
    (fd := fun j => z.o4 (j 1).val) (Sd := (rowOut (Memref.whole main_v13_4_scv) i hb).view.set) (fs := fun j => s.qv (j 0).val) (gd := fun j => g (j 1).val) (k := k)
    (Φ := fun b => iprop(∃ s' z', ⌜Q b s' z'⌝ ∗ own d i s' ∗ io d i O Wt hb a z')) (View.amount_pos _ _ (show 0 < _ by decide)) (Finset.Subset.refl _) (by
      intro j hj
      obtain ⟨x, _, rfl⟩ := Finset.mem_map.1 hj
      rw [View.write_emb_of_mem _ _ (Finset.mem_univ x)]
      refine (hg _ (x 0).isLt).trans (congrArg g ?_)
      exact (rowOut_at i hb x).1.symm)
  iintro ⟨Hs, Hz⟩
  ihave Ho := ho $$ Hs
  icases Ho with ⟨Hp, Hr⟩
  unfold io
  icases Hz with ⟨G0, G1, G2, G3, G4, G5, G6, G7, G8, G9, G10, G11, G12, G13, G14, G15, G16, G17, G18, G19, G20⟩
  rw [show (Memref.whole cc0_scratch15 : Memref sig .scVector .vmem S112 .f32).view.set = Finset.univ from View.set_whole _] at hc
  iapply hc $$ [G9 Hp G19 G20]
  · isplitl [Hp]; iexact Hp
    isplitl [G9]; iexact G9
    isplitl [G19]; iexact G19
    iexact G20
  iintro ⟨Hp, G9, G19, G20⟩
  iapply h
  isplitl [Hp Hr]
  · iapply Hr; iexact Hp
  unfold io
  isplitl [G0]; iexact G0
  isplitl [G1]; iexact G1
  isplitl [G2]; iexact G2
  isplitl [G3]; iexact G3
  isplitl [G4]; iexact G4
  isplitl [G5]; iexact G5
  isplitl [G6]; iexact G6
  isplitl [G7]; iexact G7
  isplitl [G8]; iexact G8
  isplitl [G9]; iexact G9
  isplitl [G10]; iexact G10
  isplitl [G11]; iexact G11
  isplitl [G12]; iexact G12
  isplitl [G13]; iexact G13
  isplitl [G14]; iexact G14
  isplitl [G15]; iexact G15
  isplitl [G16]; iexact G16
  isplitl [G17]; iexact G17
  isplitl [G18]; iexact G18
  isplitl [G19]; iexact G19
  iexact G20

end Cert.Proof.Nms
-- ==== Proof.Parts.lean ====
/-
  One tile from its copies in to its copies out.
-/
module

public import proofs.«01_k».proof.Proof.Tile

@[expose] public section

set_option maxRecDepth 65536
set_option maxHeartbeats 4000000

noncomputable section

namespace Cert.Proof.Nms

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic

variable {F : FTy → Type} [FloatOps F]
variable {d : Dev nD} {i : grid0.Coords}
variable {h12 : (Memref.whole cc0_scratch0 : Memref sig .scVector .vmem S20016 .f32).IsWhole}
variable {h13 : (Memref.whole cc0_scratch1 : Memref sig .scVector .vmem S20016 .f32).IsWhole}
variable {h14 : (Memref.whole cc0_scratch2 : Memref sig .scVector .vmem S20016 .f32).IsWhole}
variable {h15 : (Memref.whole cc0_scratch3 : Memref sig .scVector .vmem S20016 .f32).IsWhole}
variable {h16 : (Memref.whole cc0_scratch4 : Memref sig .scVector .vmem S20016 .f32).IsWhole}
variable {h17 : (Memref.whole cc0_scratch5 : Memref sig .scVector .vmem S1280 .f32).IsWhole}
variable {h18 : (Memref.whole cc0_scratch6 : Memref sig .scVector .vmem S1280 .i32).IsWhole}
variable {h19 : (Memref.whole cc0_scratch7 : Memref sig .scVector .vmem S80 .f32).IsWhole}
variable {h20 : (Memref.whole cc0_scratch8 : Memref sig .scVector .vmem S80 .i32).IsWhole}
variable {h21 : (Memref.whole cc0_scratch9 : Memref sig .scVector .vmem S112 .f32).IsWhole}
variable {h22 : (Memref.whole cc0_scratch10 : Memref sig .scVector .vmem S112 .f32).IsWhole}
variable {h23 : (Memref.whole cc0_scratch11 : Memref sig .scVector .vmem S112 .f32).IsWhole}
variable {h24 : (Memref.whole cc0_scratch12 : Memref sig .scVector .vmem S112 .f32).IsWhole}
variable {h25 : (Memref.whole cc0_scratch13 : Memref sig .scVector .vmem S112 .f32).IsWhole}
variable {h26 : (Memref.whole cc0_scratch14 : Memref sig .scVector .vmem S112 .f32).IsWhole}
variable {h27 : (Memref.whole cc0_scratch15 : Memref sig .scVector .vmem S112 .f32).IsWhole}
variable {h28 : (Memref.whole cc0_scratch16 : Memref sig .scVector .vmem S32 .f32).IsWhole}
variable {h29 : (Memref.whole cc0_scratch17 : Memref sig .scVector .vmem S32 .i32).IsWhole}
variable {h30 : (Memref.whole cc0_scratch18 : Memref sig .scVector .smem S4 .i32).IsWhole}
variable {h2 : (Memref.whole main_v2_scv : Memref sig .scVector .hbm S8x20016 .f32).IsWhole}
variable {h3 : (Memref.whole main_v5_scv : Memref sig .scVector .hbm S8x20016 .f32).IsWhole}
variable {h4 : (Memref.whole main_v8_scv : Memref sig .scVector .hbm S8x20016 .f32).IsWhole}
variable {h5 : (Memref.whole main_v11_scv : Memref sig .scVector .hbm S8x20016 .f32).IsWhole}
variable {h6 : (Memref.whole main_v12_scv : Memref sig .scVector .hbm S8x20016 .f32).IsWhole}
variable {h7 : (Memref.whole main_v13_0_scv : Memref sig .scVector .hbm S8x112 .f32).IsWhole}
variable {h8 : (Memref.whole main_v13_1_scv : Memref sig .scVector .hbm S8x112 .f32).IsWhole}
variable {h9 : (Memref.whole main_v13_2_scv : Memref sig .scVector .hbm S8x112 .f32).IsWhole}
variable {h10 : (Memref.whole main_v13_3_scv : Memref sig .scVector .hbm S8x112 .f32).IsWhole}
variable {h11 : (Memref.whole main_v13_4_scv : Memref sig .scVector .hbm S8x112 .f32).IsWhole}

local notation "𝕄" => MT nD τ sig (HIx 1) (Elt F) ℕ UU ℕ

variable {O : CellTallies nD τ sig (HIx 1)} {Wt : Waits sig (HIx 1)} {hb : k0_cond1 i = 1#1} {a : In F}

/-- The first `k` positions as they are, zero after. -/
def cut (k : BitVec 32) (f : ℕ → F .f32) (n : ℕ) : F .f32 :=
  Scalar.select (IntOp.cmpi .slt (BitVec.ofNat 32 n) k) (f n) (Scalar.ofBits .f32 0x00000000#32)

/-- The first `m` positions agree. -/
def Fil (q g : ℕ → F .f32) (m : ℕ) : Prop := ∀ n < m, q n = g n

theorem Fil.zero (q g : ℕ → F .f32) : Fil q g 0 := fun _ h => absurd h (by omega)
theorem Fil.st {q g : ℕ → F .f32} {m : ℕ} (h : Fil q g m) (w : S16.Idx → F .f32) (hw : w = ld g m) : Fil (Nms.st q m w) g (m + 16) := by
  subst hw
  intro n hn
  unfold Nms.st
  split
  · next h' => exact congrArg g (lane_back h'.1 h'.2)
  · exact h n (by omega)

variable (v2 : IVec S16 32) (hv2 : ∀ x, v2 x = BitVec.ofNat 32 (x 0).val) (k : BitVec 32)
include hv2

theorem cut_core (f : ℕ → F .f32) (o : ℕ) :
    (fun x => Scalar.select (IntOp.cmpi .slt (IntOp.addi (v2 x) (BitVec.ofNat 32 o)) k) (ld f o x) (Scalar.ofBits .f32 0x00000000#32)) = ld (cut k f) o := by
  funext x
  show Scalar.select (IntOp.cmpi .slt (IntOp.addi (v2 x) (BitVec.ofNat 32 o)) k) (f (o + (x 0).val)) _ = Scalar.select (IntOp.cmpi .slt (BitVec.ofNat 32 (o + (x 0).val)) k) (f (o + (x 0).val)) _
  rw [hv2, show IntOp.addi (BitVec.ofNat 32 (x 0).val) (BitVec.ofNat 32 o) = BitVec.ofNat 32 (o + (x 0).val) from (add_ofNat _ _).trans (congrArg _ (Nat.add_comm _ _))]

omit hv2
/-- The rows read, and the slots filled so far. -/
structure Fd (a : In F) (s : St F) (n0 n1 n2 n3 n4 n5 : ℕ) : Prop where
  y0v : s.y0v = a.i0
  x0v : s.x0v = a.i1
  y1v : s.y1v = a.i2
  x1v : s.x1v = a.i3
  mv : s.mv = a.i4
  ky0 : Fil s.ky0 (fun _ => Scalar.ofBits .f32 0x4EEE6B28#32) n0
  kx0 : Fil s.kx0 (fun _ => Scalar.ofBits .f32 0x4EEE6B28#32) n1
  ky1 : Fil s.ky1 (fun _ => Scalar.ofBits .f32 0x4E6E6B28#32) n2
  kx1 : Fil s.kx1 (fun _ => Scalar.ofBits .f32 0x4E6E6B28#32) n3
  ka : Fil s.ka (fun _ => Scalar.ofBits .f32 0x00000000#32) n4
  ksc : Fil s.ksc (fun _ => Scalar.ofBits .f32 0x00000000#32) n5

/-- The four rows of corners are read. -/
theorem part37_run (s : St F) (z : Out F) :
    X d i O Wt hb a (k0_part37 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 hb) s z (fun _ t z' => (t.y0v = a.i0 ∧ t.x0v = a.i1 ∧ t.y1v = a.i2 ∧ t.x1v = a.i3) ∧ z' = z) := by
  rw [k0_part37_eq_skeleton]
  unfold k0_part37_skel
  refine X_in0 ?_
  refine X_in1 ?_
  refine X_in2 ?_
  refine X_in3 ?_
  exact X_ret ⟨⟨rfl, rfl, rfl, rfl⟩, rfl⟩

/-- The row of scores is read, and the first slots are filled. -/
theorem part38_run (s : St F) (z : Out F) (h : s.y0v = a.i0 ∧ s.x0v = a.i1 ∧ s.y1v = a.i2 ∧ s.x1v = a.i3) :
    X d i O Wt hb a (k0_part38 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 hb) s z (fun b t z' => (b = Scalar.ofBits .f32 0x00000000#32 ∧ Fd a t 16 16 16 16 16 0) ∧ z' = z) := by
  rw [k0_part38_eq_skeleton]
  unfold k0_part38_skel
  refine X_in4 ?_
  refine X_op (fun h => W_ld_hb h) ?_
  refine X_op (fun h => W_st_hb h) ?_
  refine X_op (fun h => W_ld_ib h) ?_
  refine X_op (fun h => W_st_ib h) ?_
  refine X_op (fun h => W_ld_ky0 h) ?_
  refine X_op (fun h => W_st_ky0 h) ?_
  refine X_op (fun h => W_ld_kx0 h) ?_
  refine X_op (fun h => W_st_kx0 h) ?_
  refine X_op (fun h => W_ld_ky1 h) ?_
  refine X_op (fun h => W_st_ky1 h) ?_
  refine X_op (fun h => W_ld_kx1 h) ?_
  refine X_op (fun h => W_st_kx1 h) ?_
  refine X_op (fun h => W_ld_ka h) ?_
  refine X_op (fun h => W_st_ka h) ?_
  refine X_ret ⟨⟨rfl, ⟨h.1, h.2.1, h.2.2.1, h.2.2.2, rfl, (Fil.zero _ _).st _ ?_, (Fil.zero _ _).st _ ?_, (Fil.zero _ _).st _ ?_, (Fil.zero _ _).st _ ?_, (Fil.zero _ _).st _ ?_, Fil.zero _ _⟩⟩, rfl⟩
  all_goals simp only [k0_pay264, k0_pay265, k0_pay266, k0_pay267, k0_pay268, sc_id]; rfl

theorem part39_fd (cst_10 : F .f32) (hcst : cst_10 = Scalar.ofBits .f32 0x00000000#32) (s : St F) (h : Fd a s 16 16 16 16 16 0) :
    W d i (k0_part39 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 cst_10) s (fun b t => b = all16 0x4EEE6B28#32 ∧ Fd a t 48 32 32 32 32 32) := by
  refine W_mono (part39_run cst_10 hcst s) ?_
  rintro b t ⟨e, rfl⟩
  exact ⟨e, ⟨h.y0v, h.x0v, h.y1v, h.x1v, h.mv, Fil.st (Fil.st (h.ky0) _ rfl) _ rfl, Fil.st (h.kx0) _ rfl, Fil.st (h.ky1) _ rfl, Fil.st (h.kx1) _ rfl, Fil.st (h.ka) _ rfl, Fil.st (Fil.st (h.ksc) _ rfl) _ rfl⟩⟩

theorem part40_fd (v66 : S16.Idx → F .f32) (hin : v66 = all16 0x4EEE6B28#32) (s : St F) (h : Fd a s 48 32 32 32 32 32) :
    W d i (k0_part40 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 v66) s (fun b t => b = all16 0x00000000#32 ∧ Fd a t 64 64 64 64 48 48) := by
  refine W_mono (part40_run v66 hin s) ?_
  rintro b t ⟨e, rfl⟩
  exact ⟨e, ⟨h.y0v, h.x0v, h.y1v, h.x1v, h.mv, Fil.st (h.ky0) _ rfl, Fil.st (Fil.st (h.kx0) _ rfl) _ rfl, Fil.st (Fil.st (h.ky1) _ rfl) _ rfl, Fil.st (Fil.st (h.kx1) _ rfl) _ rfl, Fil.st (h.ka) _ rfl, Fil.st (h.ksc) _ rfl⟩⟩

theorem part41_fd (v102 : S16.Idx → F .f32) (hin : v102 = all16 0x00000000#32) (s : St F) (h : Fd a s 64 64 64 64 48 48) :
    W d i (k0_part41 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 v102) s (fun b t => b = all16 0x4EEE6B28#32 ∧ Fd a t 80 80 80 80 80 80) := by
  refine W_mono (part41_run v102 hin s) ?_
  rintro b t ⟨e, rfl⟩
  exact ⟨e, ⟨h.y0v, h.x0v, h.y1v, h.x1v, h.mv, Fil.st (h.ky0) _ rfl, Fil.st (h.kx0) _ rfl, Fil.st (h.ky1) _ rfl, Fil.st (h.kx1) _ rfl, Fil.st (Fil.st (h.ka) _ rfl) _ rfl, Fil.st (Fil.st (h.ksc) _ rfl) _ rfl⟩⟩

theorem part42_fd (v137 : S16.Idx → F .f32) (hin : v137 = all16 0x4EEE6B28#32) (s : St F) (h : Fd a s 80 80 80 80 80 80) :
    W d i (k0_part42 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 v137) s (fun b t => b = all16 0x4E6E6B28#32 ∧ Fd a t 112 112 112 96 96 96) := by
  refine W_mono (part42_run v137 hin s) ?_
  rintro b t ⟨e, rfl⟩
  exact ⟨e, ⟨h.y0v, h.x0v, h.y1v, h.x1v, h.mv, Fil.st (Fil.st (h.ky0) _ rfl) _ rfl, Fil.st (Fil.st (h.kx0) _ rfl) _ rfl, Fil.st (Fil.st (h.ky1) _ rfl) _ rfl, Fil.st (h.kx1) _ rfl, Fil.st (h.ka) _ rfl, Fil.st (h.ksc) _ rfl⟩⟩

/-- The search, from the rows read. -/
theorem part43_fd (v2 : IVec S16 32) (hv2 : ∀ x, v2 x = BitVec.ofNat 32 (x 0).val) (v170 : S16.Idx → F .f32) (hin : v170 = all16 0x4E6E6B28#32) (s : St F) (h : Fd a s 112 112 112 96 96 96) :
    W d i (k0_part43 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 v2 hb v170) s (fun r t => r = ⟨kn t, k0_pay331 (F := F) v2 (kn t), ld t.ky0 0⟩ ∧
      ∃ s', Fd a s' 112 112 112 112 112 112 ∧ Like (step^[21504] (begun (built2 (built1 s')))) t) := by
  obtain ⟨s', hs'⟩ : ∃ s' : St F, s' = { s with kx1 := st s.kx1 96 (fun _ => Scalar.ofBits .f32 0x4E6E6B28#32), ka := st s.ka 96 (fun _ => Scalar.ofBits .f32 0x00000000#32), ksc := st s.ksc 96 (fun _ => Scalar.ofBits .f32 0x00000000#32) } := ⟨_, rfl⟩
  refine W_mono (part43_run v2 hv2 hb v170 hin s s' hs') ?_
  rintro ⟨r0, r1, r2⟩ t ⟨e0, e1, e2, hl⟩
  dsimp only at e0 e1 e2
  subst e0 e1 e2
  refine ⟨rfl, s', ?_, hl⟩
  rw [hs']
  exact ⟨h.y0v, h.x0v, h.y1v, h.x1v, h.mv, h.ky0, h.kx0, h.ky1, Fil.st (h.kx1) _ rfl, Fil.st (h.ka) _ rfl, Fil.st (h.ksc) _ rfl⟩

include hv2
/-- Four blocks are staged. -/
theorem part44_run (s : St F) (z : Out F) (v196 : S16.Idx → F .f32) (h196 : v196 = ld s.ky0 0) :
    X d i O Wt hb a (k0_part44 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 v2 k (k0_pay331 (F := F) v2 k) v196) s z (fun b t z' => b = ⟨k0_pay337 v2, k0_pay338 (F := F) k⟩ ∧ (∃ q, t = { s with qv := q } ∧ Fil q (cut k s.ky0) 64) ∧ z' = z) := by
  rw [k0_part44_eq_skeleton]
  unfold k0_part44_skel
  refine X_op (fun h => W_ld_qv h) ?_
  refine X_op (fun h => W_st_qv h) ?_
  refine X_op (fun h => W_ld_ky0 h) ?_
  refine X_op (fun h => W_ld_qv h) ?_
  refine X_op (fun h => W_st_qv h) ?_
  refine X_op (fun h => W_ld_ky0 h) ?_
  refine X_op (fun h => W_ld_qv h) ?_
  refine X_op (fun h => W_st_qv h) ?_
  refine X_op (fun h => W_ld_ky0 h) ?_
  refine X_op (fun h => W_ld_qv h) ?_
  refine X_op (fun h => W_st_qv h) ?_
  exact X_ret ⟨rfl, ⟨_, rfl, (((((Fil.zero _ _).st _ (by simp only [k0_pay333, k0_pay331, h196, sc_id]; exact cut_core v2 hv2 k _ _)).st _ (by simp only [k0_pay334, sc_id]; exact cut_core v2 hv2 k _ _)).st _ (by simp only [k0_pay335, sc_id]; exact cut_core v2 hv2 k _ _)).st _ (by simp only [k0_pay336, sc_id]; exact cut_core v2 hv2 k _ _))⟩, rfl⟩

/-- The first row is staged and written. -/
theorem part45_run (s : St F) (z : Out F) (hF : Fil s.qv (cut k s.ky0) 64) :
    X d i O Wt hb a (k0_part45 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 v2 hb k (k0_pay337 v2) (k0_pay338 (F := F) k)) s z (fun b t z' => b = k0_pay342 ∧ (∃ q, t = { s with qv := q }) ∧ z' = { z with o0 := cut k s.ky0 }) := by
  rw [k0_part45_eq_skeleton]
  unfold k0_part45_skel
  refine X_op (fun h => W_ld_ky0 h) ?_
  refine X_op (fun h => W_ld_qv h) ?_
  refine X_op (fun h => W_st_qv h) ?_
  refine X_op (fun h => W_ld_ky0 h) ?_
  refine X_op (fun h => W_ld_qv h) ?_
  refine X_op (fun h => W_st_qv h) ?_
  refine X_op (fun h => W_ld_ky0 h) ?_
  refine X_op (fun h => W_ld_qv h) ?_
  refine X_op (fun h => W_st_qv h) ?_
  refine X_out0 (cut k s.ky0) (show Fil _ _ 112 from (((hF.st _ (by simp only [k0_pay339, k0_pay337, k0_pay338, sc_id]; exact cut_core v2 hv2 k _ _)).st _ (by simp only [k0_pay340, sc_id]; exact cut_core v2 hv2 k _ _)).st _ (by simp only [k0_pay341, sc_id]; exact cut_core v2 hv2 k _ _))) ?_
  exact X_ret ⟨rfl, ⟨_, rfl⟩, rfl⟩

/-- Three blocks are staged. -/
theorem part46_run (s : St F) (z : Out F)  :
    X d i O Wt hb a (k0_part46 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 v2 k k0_pay342) s z (fun b t z' => b = ld (cut k s.kx0) 48 ∧ (∃ q, t = { s with qv := q } ∧ Fil q (cut k s.kx0) 48) ∧ z' = z) := by
  rw [k0_part46_eq_skeleton]
  unfold k0_part46_skel
  refine X_op (fun h => W_ld_kx0 h) ?_
  refine X_op (fun h => W_ld_qv h) ?_
  refine X_op (fun h => W_st_qv h) ?_
  refine X_op (fun h => W_ld_kx0 h) ?_
  refine X_op (fun h => W_ld_qv h) ?_
  refine X_op (fun h => W_st_qv h) ?_
  refine X_op (fun h => W_ld_kx0 h) ?_
  refine X_op (fun h => W_ld_qv h) ?_
  refine X_op (fun h => W_st_qv h) ?_
  refine X_op (fun h => W_ld_kx0 h) ?_
  refine X_op (fun h => W_ld_qv h) ?_
  exact X_ret ⟨by simp only [k0_pay346, sc_id]; exact cut_core v2 hv2 k _ _, ⟨_, rfl, ((((Fil.zero _ _).st _ (by simp only [k0_pay343, k0_pay342, sc_id]; exact cut_core v2 hv2 k _ _)).st _ (by simp only [k0_pay344, sc_id]; exact cut_core v2 hv2 k _ _)).st _ (by simp only [k0_pay345, sc_id]; exact cut_core v2 hv2 k _ _))⟩, rfl⟩

/-- The second row is staged and written, and three blocks of the third are staged. -/
theorem part47_48_run (s : St F) (z : Out F) (hF : Fil s.qv (cut k s.kx0) 48) (v308 : S16.Idx → F .f32) (h308 : v308 = ld (cut k s.kx0) 48) :
    X d i O Wt hb a (k0_part47 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 v2 hb k v308 >>= fun _ => k0_part48 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 v2 hb k) s z (fun b t z' => b = ⟨k0_pay354 (F := F) v2 k, ld s.ky1 48⟩ ∧ (∃ q, t = { s with qv := q } ∧ Fil q (cut k s.ky1) 48) ∧ z' = { z with o1 := cut k s.kx0 }) := by
  rw [k0_part47_eq_skeleton, k0_part48_eq_skeleton]
  unfold k0_part47_skel k0_part48_skel
  simp only [bind_assoc, pure_bind]
  refine X_op (fun h => W_st_qv h) ?_
  refine X_op (fun h => W_ld_kx0 h) ?_
  refine X_op (fun h => W_ld_qv h) ?_
  refine X_op (fun h => W_st_qv h) ?_
  refine X_op (fun h => W_ld_kx0 h) ?_
  refine X_op (fun h => W_ld_qv h) ?_
  refine X_op (fun h => W_st_qv h) ?_
  refine X_op (fun h => W_ld_kx0 h) ?_
  refine X_op (fun h => W_ld_qv h) ?_
  refine X_op (fun h => W_st_qv h) ?_
  refine X_out1 (cut k s.kx0) (show Fil _ _ 112 from ((((hF.st _ (by simp only [k0_pay347, sc_id]; exact h308)).st _ (by simp only [k0_pay348, sc_id]; exact cut_core v2 hv2 k _ _)).st _ (by simp only [k0_pay349, sc_id]; exact cut_core v2 hv2 k _ _)).st _ (by simp only [k0_pay350, sc_id]; exact cut_core v2 hv2 k _ _))) ?_
  refine X_op (fun h => W_ld_ky1 h) ?_
  refine X_op (fun h => W_ld_qv h) ?_
  refine X_op (fun h => W_st_qv h) ?_
  refine X_op (fun h => W_ld_ky1 h) ?_
  refine X_op (fun h => W_ld_qv h) ?_
  refine X_op (fun h => W_st_qv h) ?_
  refine X_op (fun h => W_ld_ky1 h) ?_
  refine X_op (fun h => W_ld_qv h) ?_
  refine X_op (fun h => W_st_qv h) ?_
  refine X_op (fun h => W_ld_ky1 h) ?_
  exact X_ret ⟨by simp only [k0_pay355, sc_id]; rfl, ⟨_, rfl, ((((Fil.zero _ _).st _ (by simp only [k0_pay351, sc_id]; exact cut_core v2 hv2 k _ _)).st _ (by simp only [k0_pay352, sc_id]; exact cut_core v2 hv2 k _ _)).st _ (by simp only [k0_pay353, sc_id]; exact cut_core v2 hv2 k _ _))⟩, rfl⟩

/-- The third row is staged. -/
theorem part49_run (s : St F) (z : Out F) (hF : Fil s.qv (cut k s.ky1) 48) (v383 : S16.Idx → F .f32) (h383 : v383 = ld s.ky1 48) :
    X d i O Wt hb a (k0_part49 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 v2 hb k (k0_pay354 (F := F) v2 k) v383) s z (fun b t z' => (∃ q, t = { s with qv := q } ∧ Fil q (cut k s.ky1) 112) ∧ z' = z) := by
  rw [k0_part49_eq_skeleton]
  unfold k0_part49_skel
  refine X_op (fun h => W_ld_qv h) ?_
  refine X_op (fun h => W_st_qv h) ?_
  refine X_op (fun h => W_ld_ky1 h) ?_
  refine X_op (fun h => W_ld_qv h) ?_
  refine X_op (fun h => W_st_qv h) ?_
  refine X_op (fun h => W_ld_ky1 h) ?_
  refine X_op (fun h => W_ld_qv h) ?_
  refine X_op (fun h => W_st_qv h) ?_
  refine X_op (fun h => W_ld_ky1 h) ?_
  refine X_op (fun h => W_ld_qv h) ?_
  refine X_op (fun h => W_st_qv h) ?_
  exact X_ret ⟨⟨_, rfl, ((((hF.st _ (by simp only [k0_pay356, k0_pay354, h383, sc_id]; exact cut_core v2 hv2 k _ _)).st _ (by simp only [k0_pay357, sc_id]; exact cut_core v2 hv2 k _ _)).st _ (by simp only [k0_pay358, sc_id]; exact cut_core v2 hv2 k _ _)).st _ (by simp only [k0_pay359, sc_id]; exact cut_core v2 hv2 k _ _))⟩, rfl⟩

/-- The third row is written, and three blocks of the fourth are staged. -/
theorem part50_run (s : St F) (z : Out F) (hF : Fil s.qv (cut k s.ky1) 112) :
    X d i O Wt hb a (k0_part50 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 v2 hb k) s z (fun b t z' => b = k0_pay363 ∧ (∃ q, t = { s with qv := q } ∧ Fil q (cut k s.kx1) 48) ∧ z' = { z with o2 := cut k s.ky1 }) := by
  rw [k0_part50_eq_skeleton]
  unfold k0_part50_skel
  refine X_out2 (cut k s.ky1) (show Fil _ _ 112 from hF) ?_
  refine X_op (fun h => W_ld_kx1 h) ?_
  refine X_op (fun h => W_ld_qv h) ?_
  refine X_op (fun h => W_st_qv h) ?_
  refine X_op (fun h => W_ld_kx1 h) ?_
  refine X_op (fun h => W_ld_qv h) ?_
  refine X_op (fun h => W_st_qv h) ?_
  refine X_op (fun h => W_ld_kx1 h) ?_
  refine X_op (fun h => W_ld_qv h) ?_
  refine X_op (fun h => W_st_qv h) ?_
  exact X_ret ⟨rfl, ⟨_, rfl, ((((Fil.zero _ _).st _ (by simp only [k0_pay360, sc_id]; exact cut_core v2 hv2 k _ _)).st _ (by simp only [k0_pay361, sc_id]; exact cut_core v2 hv2 k _ _)).st _ (by simp only [k0_pay362, sc_id]; exact cut_core v2 hv2 k _ _))⟩, rfl⟩

/-- Three more blocks are staged. -/
theorem part51_run (s : St F) (z : Out F) (hF : Fil s.qv (cut k s.kx1) 48) :
    X d i O Wt hb a (k0_part51 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 v2 k k0_pay363) s z (fun b t z' => b = ld (cut k s.kx1) 96 ∧ (∃ q, t = { s with qv := q } ∧ Fil q (cut k s.kx1) 96) ∧ z' = z) := by
  rw [k0_part51_eq_skeleton]
  unfold k0_part51_skel
  refine X_op (fun h => W_ld_kx1 h) ?_
  refine X_op (fun h => W_ld_qv h) ?_
  refine X_op (fun h => W_st_qv h) ?_
  refine X_op (fun h => W_ld_kx1 h) ?_
  refine X_op (fun h => W_ld_qv h) ?_
  refine X_op (fun h => W_st_qv h) ?_
  refine X_op (fun h => W_ld_kx1 h) ?_
  refine X_op (fun h => W_ld_qv h) ?_
  refine X_op (fun h => W_st_qv h) ?_
  refine X_op (fun h => W_ld_kx1 h) ?_
  refine X_op (fun h => W_ld_qv h) ?_
  exact X_ret ⟨by simp only [k0_pay367, sc_id]; exact cut_core v2 hv2 k _ _, ⟨_, rfl, (((hF.st _ (by simp only [k0_pay364, k0_pay363, sc_id]; exact cut_core v2 hv2 k _ _)).st _ (by simp only [k0_pay365, sc_id]; exact cut_core v2 hv2 k _ _)).st _ (by simp only [k0_pay366, sc_id]; exact cut_core v2 hv2 k _ _))⟩, rfl⟩

/-- The fourth row is written, and two blocks of the fifth are staged. -/
theorem part52_run (s : St F) (z : Out F) (hF : Fil s.qv (cut k s.kx1) 96) (v495 : S16.Idx → F .f32) (h495 : v495 = ld (cut k s.kx1) 96) :
    X d i O Wt hb a (k0_part52 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 v2 hb k v495) s z (fun b t z' => b = ld (cut k s.ksc) 32 ∧ (∃ q, t = { s with qv := q } ∧ Fil q (cut k s.ksc) 32) ∧ z' = { z with o3 := cut k s.kx1 }) := by
  rw [k0_part52_eq_skeleton]
  unfold k0_part52_skel
  refine X_op (fun h => W_st_qv h) ?_
  refine X_out3 (cut k s.kx1) (show Fil _ _ 112 from (hF.st _ (by simp only [k0_pay368, sc_id]; exact h495))) ?_
  refine X_op (fun h => W_ld_ksc h) ?_
  refine X_op (fun h => W_ld_qv h) ?_
  refine X_op (fun h => W_st_qv h) ?_
  refine X_op (fun h => W_ld_ksc h) ?_
  refine X_op (fun h => W_ld_qv h) ?_
  refine X_op (fun h => W_st_qv h) ?_
  refine X_op (fun h => W_ld_ksc h) ?_
  exact X_ret ⟨by simp only [k0_pay371, sc_id]; exact cut_core v2 hv2 k _ _, ⟨_, rfl, (((Fil.zero _ _).st _ (by simp only [k0_pay369, sc_id]; exact cut_core v2 hv2 k _ _)).st _ (by simp only [k0_pay370, sc_id]; exact cut_core v2 hv2 k _ _))⟩, rfl⟩

/-- Three more blocks are staged. -/
theorem part53_run (s : St F) (z : Out F) (hF : Fil s.qv (cut k s.ksc) 32) (v528 : S16.Idx → F .f32) (h528 : v528 = ld (cut k s.ksc) 32) :
    X d i O Wt hb a (k0_part53 i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9 v2 k v528) s z (fun b t z' => b = ⟨k0_pay376 (F := F) v2 k, ld s.ksc 96⟩ ∧ (∃ q, t = { s with qv := q } ∧ Fil q (cut k s.ksc) 96) ∧ z' = z) := by
  rw [k0_part53_eq_skeleton]
  unfold k0_part53_skel
  refine X_op (fun h => W_ld_qv h) ?_
  refine X_op (fun h => W_st_qv h) ?_
  refine X_op (fun h => W_ld_ksc h) ?_
  refine X_op (fun h => W_ld_qv h) ?_
  refine X_op (fun h => W_st_qv h) ?_
  refine X_op (fun h => W_ld_ksc h) ?_
  refine X_op (fun h => W_ld_qv h) ?_
  refine X_op (fun h => W_st_qv h) ?_
  refine X_op (fun h => W_ld_ksc h) ?_
  refine X_op (fun h => W_ld_qv h) ?_
  refine X_op (fun h => W_st_qv h) ?_
  refine X_op (fun h => W_ld_ksc h) ?_
  exact X_ret ⟨by simp only [k0_pay377, sc_id]; rfl, ⟨_, rfl, ((((hF.st _ (by simp only [k0_pay372, sc_id]; exact h528)).st _ (by simp only [k0_pay373, sc_id]; exact cut_core v2 hv2 k _ _)).st _ (by simp only [k0_pay374, sc_id]; exact cut_core v2 hv2 k _ _)).st _ (by simp only [k0_pay375, sc_id]; exact cut_core v2 hv2 k _ _))⟩, rfl⟩

end Cert.Proof.Nms
-- ==== Proof.Body.lean ====
/-
  The whole run of one tile.
-/
module

public import proofs.«01_k».proof.Proof.Parts

@[expose] public section

set_option maxRecDepth 65536
set_option maxHeartbeats 4000000

noncomputable section

namespace Cert.Proof.Nms

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic

variable {F : FTy → Type} [FloatOps F]
variable {d : Dev nD} {i : grid0.Coords}
variable {h12 : (Memref.whole cc0_scratch0 : Memref sig .scVector .vmem S20016 .f32).IsWhole}
variable {h13 : (Memref.whole cc0_scratch1 : Memref sig .scVector .vmem S20016 .f32).IsWhole}
variable {h14 : (Memref.whole cc0_scratch2 : Memref sig .scVector .vmem S20016 .f32).IsWhole}
variable {h15 : (Memref.whole cc0_scratch3 : Memref sig .scVector .vmem S20016 .f32).IsWhole}
variable {h16 : (Memref.whole cc0_scratch4 : Memref sig .scVector .vmem S20016 .f32).IsWhole}
variable {h17 : (Memref.whole cc0_scratch5 : Memref sig .scVector .vmem S1280 .f32).IsWhole}
variable {h18 : (Memref.whole cc0_scratch6 : Memref sig .scVector .vmem S1280 .i32).IsWhole}
variable {h19 : (Memref.whole cc0_scratch7 : Memref sig .scVector .vmem S80 .f32).IsWhole}
variable {h20 : (Memref.whole cc0_scratch8 : Memref sig .scVector .vmem S80 .i32).IsWhole}
variable {h21 : (Memref.whole cc0_scratch9 : Memref sig .scVector .vmem S112 .f32).IsWhole}
variable {h22 : (Memref.whole cc0_scratch10 : Memref sig .scVector .vmem S112 .f32).IsWhole}
variable {h23 : (Memref.whole cc0_scratch11 : Memref sig .scVector .vmem S112 .f32).IsWhole}
variable {h24 : (Memref.whole cc0_scratch12 : Memref sig .scVector .vmem S112 .f32).IsWhole}
variable {h25 : (Memref.whole cc0_scratch13 : Memref sig .scVector .vmem S112 .f32).IsWhole}
variable {h26 : (Memref.whole cc0_scratch14 : Memref sig .scVector .vmem S112 .f32).IsWhole}
variable {h27 : (Memref.whole cc0_scratch15 : Memref sig .scVector .vmem S112 .f32).IsWhole}
variable {h28 : (Memref.whole cc0_scratch16 : Memref sig .scVector .vmem S32 .f32).IsWhole}
variable {h29 : (Memref.whole cc0_scratch17 : Memref sig .scVector .vmem S32 .i32).IsWhole}
variable {h30 : (Memref.whole cc0_scratch18 : Memref sig .scVector .smem S4 .i32).IsWhole}
variable {h2 : (Memref.whole main_v2_scv : Memref sig .scVector .hbm S8x20016 .f32).IsWhole}
variable {h3 : (Memref.whole main_v5_scv : Memref sig .scVector .hbm S8x20016 .f32).IsWhole}
variable {h4 : (Memref.whole main_v8_scv : Memref sig .scVector .hbm S8x20016 .f32).IsWhole}
variable {h5 : (Memref.whole main_v11_scv : Memref sig .scVector .hbm S8x20016 .f32).IsWhole}
variable {h6 : (Memref.whole main_v12_scv : Memref sig .scVector .hbm S8x20016 .f32).IsWhole}
variable {h7 : (Memref.whole main_v13_0_scv : Memref sig .scVector .hbm S8x112 .f32).IsWhole}
variable {h8 : (Memref.whole main_v13_1_scv : Memref sig .scVector .hbm S8x112 .f32).IsWhole}
variable {h9 : (Memref.whole main_v13_2_scv : Memref sig .scVector .hbm S8x112 .f32).IsWhole}
variable {h10 : (Memref.whole main_v13_3_scv : Memref sig .scVector .hbm S8x112 .f32).IsWhole}
variable {h11 : (Memref.whole main_v13_4_scv : Memref sig .scVector .hbm S8x112 .f32).IsWhole}

local notation "𝕄" => MT nD τ sig (HIx 1) (Elt F) ℕ UU ℕ

variable {O : CellTallies nD τ sig (HIx 1)} {Wt : Waits sig (HIx 1)} {hb : k0_cond1 i = 1#1} {a : In F}

/-- What a tile writes of the rows it reads: the search's kept boxes and scores, as many as were kept. -/
def Res (a : In F) (z : Out F) : Prop := ∃ s : St F, Fd a s 112 112 112 112 112 112 ∧
  z.o0 = cut (kn (step^[21504] (begun (built2 (built1 s))))) (step^[21504] (begun (built2 (built1 s)))).ky0 ∧
  z.o1 = cut (kn (step^[21504] (begun (built2 (built1 s))))) (step^[21504] (begun (built2 (built1 s)))).kx0 ∧
  z.o2 = cut (kn (step^[21504] (begun (built2 (built1 s))))) (step^[21504] (begun (built2 (built1 s)))).ky1 ∧
  z.o3 = cut (kn (step^[21504] (begun (built2 (built1 s))))) (step^[21504] (begun (built2 (built1 s)))).kx1 ∧
  z.o4 = cut (kn (step^[21504] (begun (built2 (built1 s))))) (step^[21504] (begun (built2 (built1 s)))).ksc

theorem Like.fields {u t : St F} (h : Like u t) : kn t = kn u ∧ t.ky0 = u.ky0 ∧ t.kx0 = u.kx0 ∧ t.ky1 = u.ky1 ∧ t.kx1 = u.kx1 ∧ t.ksc = u.ksc := by
  obtain ⟨b, c, e⟩ := h
  subst e
  exact ⟨Eq.refl _, Eq.refl _, Eq.refl _, Eq.refl _, Eq.refl _, Eq.refl _⟩

/-- A tile's whole run. -/
theorem body_run (s : St F) (z : Out F) :
    X d i O Wt hb a (cc0__sc_body i (Memref.whole main_v2_scv) h2 (Memref.whole main_v5_scv) h3 (Memref.whole main_v8_scv) h4 (Memref.whole main_v11_scv) h5 (Memref.whole main_v12_scv) h6 (Memref.whole main_v13_0_scv) h7 (Memref.whole main_v13_1_scv) h8 (Memref.whole main_v13_2_scv) h9 (Memref.whole main_v13_3_scv) h10 (Memref.whole main_v13_4_scv) h11 (Memref.whole cc0_scratch0) h12 (Memref.whole cc0_scratch1) h13 (Memref.whole cc0_scratch2) h14 (Memref.whole cc0_scratch3) h15 (Memref.whole cc0_scratch4) h16 (Memref.whole cc0_scratch5) h17 (Memref.whole cc0_scratch6) h18 (Memref.whole cc0_scratch7) h19 (Memref.whole cc0_scratch8) h20 (Memref.whole cc0_scratch9) h21 (Memref.whole cc0_scratch10) h22 (Memref.whole cc0_scratch11) h23 (Memref.whole cc0_scratch12) h24 (Memref.whole cc0_scratch13) h25 (Memref.whole cc0_scratch14) h26 (Memref.whole cc0_scratch15) h27 (Memref.whole cc0_scratch16) h28 (Memref.whole cc0_scratch17) h29 (Memref.whole cc0_scratch18) h30 cc0_scoped0 cc0_scoped1 cc0_scoped2 cc0_scoped3 cc0_scoped4 cc0_scoped5 cc0_scoped6 cc0_scoped7 cc0_scoped8 cc0_scoped9) s z (fun _ _ z' => Res a z') := by
  rw [cc0__sc_body_eq_skeleton]
  unfold cc0__sc_body_skel
  have hv2 : ∀ x, (iota .scVector S16 32 [0] iota_S16_d0_w32_scVector : IVec S16 32) x = BitVec.ofNat 32 (x 0).val := by intro x; simp [iota]
  generalize (iota .scVector S16 32 [0] iota_S16_d0_w32_scVector : IVec S16 32) = v2 at hv2 ⊢
  dsimp only
  rw [dif_pos hb]
  refine X_bind (part37_run s z) ?_
  rintro _ s1 _ ⟨e37, rfl⟩
  refine X_bind (part38_run s1 _ e37) ?_
  rintro _ s2 _ ⟨⟨rfl, f2⟩, rfl⟩
  refine X_bind (X_of (part39_fd _ rfl s2 f2)) ?_
  rintro _ s3 _ ⟨⟨e39, f3⟩, rfl⟩
  refine X_bind (X_of (part40_fd _ e39 s3 f3)) ?_
  rintro _ s4 _ ⟨⟨e40, f4⟩, rfl⟩
  refine X_bind (X_of (part41_fd _ e40 s4 f4)) ?_
  rintro _ s5 _ ⟨⟨e41, f5⟩, rfl⟩
  refine X_bind (X_of (part42_fd _ e41 s5 f5)) ?_
  rintro _ s6 _ ⟨⟨e42, f6⟩, rfl⟩
  refine X_bind (X_of (part43_fd v2 hv2 _ e42 s6 f6)) ?_
  rintro _ t _ ⟨⟨rfl, s', fs, hl⟩, rfl⟩
  dsimp only
  generalize hk : kn t = k
  refine X_bind (part44_run v2 hv2 k t _ _ rfl) ?_
  rintro _ _ _ ⟨rfl, ⟨q0, rfl, f44⟩, rfl⟩
  refine X_bind (part45_run v2 hv2 k _ _ f44) ?_
  rintro _ _ _ ⟨rfl, ⟨q1, rfl⟩, rfl⟩
  refine X_bind (part46_run v2 hv2 k _ _) ?_
  rintro _ _ _ ⟨e46, ⟨q2, rfl, f46⟩, rfl⟩
  rw [← bind_assoc]
  refine X_bind (part47_48_run v2 hv2 k _ _ f46 _ e46) ?_
  rintro _ _ _ ⟨rfl, ⟨q3, rfl, f48⟩, rfl⟩
  refine X_bind (part49_run v2 hv2 k _ _ f48 _ rfl) ?_
  rintro _ _ _ ⟨⟨q4, rfl, f49⟩, rfl⟩
  refine X_bind (part50_run v2 hv2 k _ _ f49) ?_
  rintro _ _ _ ⟨rfl, ⟨q5, rfl, f50⟩, rfl⟩
  refine X_bind (part51_run v2 hv2 k _ _ f50) ?_
  rintro _ _ _ ⟨e51, ⟨q6, rfl, f51⟩, rfl⟩
  refine X_bind (part52_run v2 hv2 k _ _ f51 _ e51) ?_
  rintro _ _ _ ⟨e52, ⟨q7, rfl, f52⟩, rfl⟩
  refine X_bind (part53_run v2 hv2 k _ _ f52 _ e52) ?_
  rintro _ _ _ ⟨rfl, ⟨q8, rfl, f53⟩, rfl⟩
  dsimp only
  refine X_op (fun h => W_ld_qv h) ?_
  refine X_op (fun h => W_st_qv h) ?_
  refine X_out4 (cut k t.ksc) (show Fil _ _ 112 from f53.st _ (by simp only [k0_pay1, k0_pay376, sc_id]; exact cut_core v2 hv2 k _ _)) ?_
  refine X_ret ⟨s', fs, ?_⟩
  obtain ⟨l0, l1, l2, l3, l4, l5⟩ := hl.fields
  subst hk
  rw [← l0, ← l1, ← l2, ← l3, ← l4, ← l5]
  exact ⟨rfl, rfl, rfl, rfl, rfl⟩

end Cert.Proof.Nms
-- ==== Proof.Task.lean ====
/-
  One tile's task as the launch hands it out: its rows of the ten arrays, its scratch, its semaphores.
-/
module

public import proofs.«01_k».proof.Proof.Body

@[expose] public section

set_option maxRecDepth 16384
set_option maxHeartbeats 4000000

noncomputable section

namespace Cert.Proof.Nms

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay ownBufs ownSems0 ownCells ownRefs mem_ownCells mem_ownRefs)
open Idealize.ShloMosaic.Tactic

variable {F : FTy → Type} [FloatOps F]

local notation "𝕄" => MT nD τ sig (HIx 1) (Elt F) ℕ UU ℕ

/-! ## The arrays the call reads and writes -/

/-- The five arrays the call reads. -/
structure Ins (F : FTy → Type) where
  (A0 A1 A2 A3 A4 : S8x20016.Idx → F .f32)
/-- The five arrays the call writes. -/
structure Outs (F : FTy → Type) where
  (B0 B1 B2 B3 B4 : S8x112.Idx → F .f32)

/-- Row `r`, position `n` of an array the call reads. -/
def pin (r n : ℕ) : S8x20016.Idx := fun a => match a with
  | 0 => ⟨r % 8, Nat.mod_lt _ (by decide)⟩
  | 1 => ⟨n % 20016, Nat.mod_lt _ (by decide)⟩
/-- Row `r`, position `n` of an array the call writes. -/
def pout (r n : ℕ) : S8x112.Idx := fun a => match a with
  | 0 => ⟨r % 8, Nat.mod_lt _ (by decide)⟩
  | 1 => ⟨n % 112, Nat.mod_lt _ (by decide)⟩

/-- An index of an array the call reads is the row and the position it names. -/
theorem pin_eq (j : S8x20016.Idx) (r : ℕ) (h : (j 0).val = r) : pin r (j 1).val = j := by
  subst h
  funext a
  match a with
  | 0 => exact Fin.ext (Nat.mod_eq_of_lt (j 0).isLt)
  | 1 => exact Fin.ext (Nat.mod_eq_of_lt (j 1).isLt)
/-- An index of an array the call writes is the row and the position it names. -/
theorem pout_eq (j : S8x112.Idx) (r : ℕ) (h : (j 0).val = r) : pout r (j 1).val = j := by
  subst h
  funext a
  match a with
  | 0 => exact Fin.ext (Nat.mod_eq_of_lt (j 0).isLt)
  | 1 => exact Fin.ext (Nat.mod_eq_of_lt (j 1).isLt)

/-- Row `r` of the five arrays the call reads. -/
def Ins.row (A : Ins F) (r : ℕ) : In F := ⟨fun n => A.A0 (pin r n), fun n => A.A1 (pin r n), fun n => A.A2 (pin r n), fun n => A.A3 (pin r n), fun n => A.A4 (pin r n)⟩

/-- The elements of row `r`. -/
def rin (r : ℕ) : Finset S8x20016.Idx := Finset.univ.filter fun j => (j 0).val = r
/-- The elements of row `r`. -/
def rout (r : ℕ) : Finset S8x112.Idx := Finset.univ.filter fun j => (j 0).val = r

/-- A tile's row. -/
abbrev rw_ (i : grid0.Coords) : ℕ := 2 * (i 1).val + (i 0).val

/-- Where the device's array `b` lies. -/
abbrev hL (d : Dev nD) (b : Ref sig .tc) : Loc nD τ sig := (SparseCore.T d).loc b

/-- Row `r` of the arrays the call reads, held. -/
def tin (d : Dev nD) (A : Ins F) (r : ℕ) : sProp 𝕄 := iprop(
  (hL d main_v2 ↦[rin r]{fullShare} A.A0) ∗
  (hL d main_v5 ↦[rin r]{fullShare} A.A1) ∗
  (hL d main_v8 ↦[rin r]{fullShare} A.A2) ∗
  (hL d main_v11 ↦[rin r]{fullShare} A.A3) ∗
  (hL d main_v12 ↦[rin r]{fullShare} A.A4))
/-- Row `r` of the arrays the call writes, held. -/
def tout (d : Dev nD) (r : ℕ) (z : Out F) : sProp 𝕄 := iprop(
  (hL d main_v13_0 ↦[rout r]{fullShare} (fun j => z.o0 (j 1).val)) ∗
  (hL d main_v13_1 ↦[rout r]{fullShare} (fun j => z.o1 (j 1).val)) ∗
  (hL d main_v13_2 ↦[rout r]{fullShare} (fun j => z.o2 (j 1).val)) ∗
  (hL d main_v13_3 ↦[rout r]{fullShare} (fun j => z.o3 (j 1).val)) ∗
  (hL d main_v13_4 ↦[rout r]{fullShare} (fun j => z.o4 (j 1).val)))

/-- A row's rectangle holds the row's elements. -/
theorem rin_set (i : grid0.Coords) (hb : k0_cond1 i = 1#1) : (Rect.unit (s := S8x20016) (k0_off1 i) S1x20016.size (k0_off1_inb i hb)).set = rin (rw_ i) := by
  ext j
  rw [Rect.mem_set_unit, rin, Finset.mem_filter, Fin.forall_fin_two, k0_off1_eq]
  have h1 := (j 1).isLt
  change (j 1).val < 20016 at h1
  show ((2 * (i 1).val + (i 0).val ≤ (j 0).val ∧ (j 0).val < 2 * (i 1).val + (i 0).val + 1) ∧ 0 ≤ (j 1).val ∧ (j 1).val < 0 + 20016) ↔ _
  simp only [Finset.mem_univ, true_and, rw_]
  omega
/-- A row's rectangle holds the row's elements. -/
theorem rout_set (i : grid0.Coords) (hb : k0_cond1 i = 1#1) : (Rect.unit (s := S8x112) (k0_off51 i) S1x112.size (k0_off51_inb i hb)).set = rout (rw_ i) := by
  ext j
  rw [Rect.mem_set_unit, rout, Finset.mem_filter, Fin.forall_fin_two, k0_off51_eq]
  have h1 := (j 1).isLt
  change (j 1).val < 112 at h1
  show ((2 * (i 1).val + (i 0).val ≤ (j 0).val ∧ (j 0).val < 2 * (i 1).val + (i 0).val + 1) ∧ 0 ≤ (j 1).val ∧ (j 1).val < 0 + 112) ↔ _
  simp only [Finset.mem_univ, true_and, rw_]
  omega

theorem in0_pts (d : Dev nD) (i : grid0.Coords) (hb : k0_cond1 i = 1#1) (A : Ins F) :
    ((rowIn (Memref.whole main_v2_scv) i hb).view.loc (thr d i) ↦[(rowIn (Memref.whole main_v2_scv) i hb).view.set]{fullShare} (fun j => (A.row (rw_ i)).i0 (j 1).val) : sProp 𝕄)
      = hL d main_v2 ↦[rin (rw_ i)]{fullShare} A.A0 := by
  have hs : (rowIn (Memref.whole main_v2_scv) i hb).view.set = rin (rw_ i) := by
    show (((Memref.whole main_v2_scv).view.slice (Rect.unit (s := S8x20016) (k0_off1 i) S1x20016.size (k0_off1_inb i hb))).reshape S20016 squeezes_S1x20016_S20016.numel_eq).set = _
    rw [View.set_reshape]
    show ((View.whole (main_v2_scv : Ref sig .scVector)).slice (Rect.unit (s := S8x20016) (k0_off1 i) S1x20016.size (k0_off1_inb i hb))).set = _
    rw [View.set_slice]
    exact Finset.map_refl.trans (rin_set i hb)
  rw [hs]
  refine pointsTo_congr fun j hj => ?_
  exact congrArg A.A0 (pin_eq j _ (Finset.mem_filter.mp hj).2)
theorem in1_pts (d : Dev nD) (i : grid0.Coords) (hb : k0_cond1 i = 1#1) (A : Ins F) :
    ((rowIn (Memref.whole main_v5_scv) i hb).view.loc (thr d i) ↦[(rowIn (Memref.whole main_v5_scv) i hb).view.set]{fullShare} (fun j => (A.row (rw_ i)).i1 (j 1).val) : sProp 𝕄)
      = hL d main_v5 ↦[rin (rw_ i)]{fullShare} A.A1 := by
  have hs : (rowIn (Memref.whole main_v5_scv) i hb).view.set = rin (rw_ i) := by
    show (((Memref.whole main_v5_scv).view.slice (Rect.unit (s := S8x20016) (k0_off1 i) S1x20016.size (k0_off1_inb i hb))).reshape S20016 squeezes_S1x20016_S20016.numel_eq).set = _
    rw [View.set_reshape]
    show ((View.whole (main_v5_scv : Ref sig .scVector)).slice (Rect.unit (s := S8x20016) (k0_off1 i) S1x20016.size (k0_off1_inb i hb))).set = _
    rw [View.set_slice]
    exact Finset.map_refl.trans (rin_set i hb)
  rw [hs]
  refine pointsTo_congr fun j hj => ?_
  exact congrArg A.A1 (pin_eq j _ (Finset.mem_filter.mp hj).2)
theorem in2_pts (d : Dev nD) (i : grid0.Coords) (hb : k0_cond1 i = 1#1) (A : Ins F) :
    ((rowIn (Memref.whole main_v8_scv) i hb).view.loc (thr d i) ↦[(rowIn (Memref.whole main_v8_scv) i hb).view.set]{fullShare} (fun j => (A.row (rw_ i)).i2 (j 1).val) : sProp 𝕄)
      = hL d main_v8 ↦[rin (rw_ i)]{fullShare} A.A2 := by
  have hs : (rowIn (Memref.whole main_v8_scv) i hb).view.set = rin (rw_ i) := by
    show (((Memref.whole main_v8_scv).view.slice (Rect.unit (s := S8x20016) (k0_off1 i) S1x20016.size (k0_off1_inb i hb))).reshape S20016 squeezes_S1x20016_S20016.numel_eq).set = _
    rw [View.set_reshape]
    show ((View.whole (main_v8_scv : Ref sig .scVector)).slice (Rect.unit (s := S8x20016) (k0_off1 i) S1x20016.size (k0_off1_inb i hb))).set = _
    rw [View.set_slice]
    exact Finset.map_refl.trans (rin_set i hb)
  rw [hs]
  refine pointsTo_congr fun j hj => ?_
  exact congrArg A.A2 (pin_eq j _ (Finset.mem_filter.mp hj).2)
theorem in3_pts (d : Dev nD) (i : grid0.Coords) (hb : k0_cond1 i = 1#1) (A : Ins F) :
    ((rowIn (Memref.whole main_v11_scv) i hb).view.loc (thr d i) ↦[(rowIn (Memref.whole main_v11_scv) i hb).view.set]{fullShare} (fun j => (A.row (rw_ i)).i3 (j 1).val) : sProp 𝕄)
      = hL d main_v11 ↦[rin (rw_ i)]{fullShare} A.A3 := by
  have hs : (rowIn (Memref.whole main_v11_scv) i hb).view.set = rin (rw_ i) := by
    show (((Memref.whole main_v11_scv).view.slice (Rect.unit (s := S8x20016) (k0_off1 i) S1x20016.size (k0_off1_inb i hb))).reshape S20016 squeezes_S1x20016_S20016.numel_eq).set = _
    rw [View.set_reshape]
    show ((View.whole (main_v11_scv : Ref sig .scVector)).slice (Rect.unit (s := S8x20016) (k0_off1 i) S1x20016.size (k0_off1_inb i hb))).set = _
    rw [View.set_slice]
    exact Finset.map_refl.trans (rin_set i hb)
  rw [hs]
  refine pointsTo_congr fun j hj => ?_
  exact congrArg A.A3 (pin_eq j _ (Finset.mem_filter.mp hj).2)
theorem in4_pts (d : Dev nD) (i : grid0.Coords) (hb : k0_cond1 i = 1#1) (A : Ins F) :
    ((rowIn (Memref.whole main_v12_scv) i hb).view.loc (thr d i) ↦[(rowIn (Memref.whole main_v12_scv) i hb).view.set]{fullShare} (fun j => (A.row (rw_ i)).i4 (j 1).val) : sProp 𝕄)
      = hL d main_v12 ↦[rin (rw_ i)]{fullShare} A.A4 := by
  have hs : (rowIn (Memref.whole main_v12_scv) i hb).view.set = rin (rw_ i) := by
    show (((Memref.whole main_v12_scv).view.slice (Rect.unit (s := S8x20016) (k0_off1 i) S1x20016.size (k0_off1_inb i hb))).reshape S20016 squeezes_S1x20016_S20016.numel_eq).set = _
    rw [View.set_reshape]
    show ((View.whole (main_v12_scv : Ref sig .scVector)).slice (Rect.unit (s := S8x20016) (k0_off1 i) S1x20016.size (k0_off1_inb i hb))).set = _
    rw [View.set_slice]
    exact Finset.map_refl.trans (rin_set i hb)
  rw [hs]
  refine pointsTo_congr fun j hj => ?_
  exact congrArg A.A4 (pin_eq j _ (Finset.mem_filter.mp hj).2)
theorem out0_pts (d : Dev nD) (i : grid0.Coords) (hb : k0_cond1 i = 1#1) (z : Out F) :
    ((rowOut (Memref.whole main_v13_0_scv) i hb).view.loc (thr d i) ↦[(rowOut (Memref.whole main_v13_0_scv) i hb).view.set]{fullShare} (fun j => z.o0 (j 1).val) : sProp 𝕄)
      = hL d main_v13_0 ↦[rout (rw_ i)]{fullShare} (fun j => z.o0 (j 1).val) := by
  have hs : (rowOut (Memref.whole main_v13_0_scv) i hb).view.set = rout (rw_ i) := by
    show (((Memref.whole main_v13_0_scv).view.slice (Rect.unit (s := S8x112) (k0_off51 i) S1x112.size (k0_off51_inb i hb))).reshape S112 squeezes_S1x112_S112.numel_eq).set = _
    rw [View.set_reshape]
    show ((View.whole (main_v13_0_scv : Ref sig .scVector)).slice (Rect.unit (s := S8x112) (k0_off51 i) S1x112.size (k0_off51_inb i hb))).set = _
    rw [View.set_slice]
    exact Finset.map_refl.trans (rout_set i hb)
  rw [hs]
theorem out1_pts (d : Dev nD) (i : grid0.Coords) (hb : k0_cond1 i = 1#1) (z : Out F) :
    ((rowOut (Memref.whole main_v13_1_scv) i hb).view.loc (thr d i) ↦[(rowOut (Memref.whole main_v13_1_scv) i hb).view.set]{fullShare} (fun j => z.o1 (j 1).val) : sProp 𝕄)
      = hL d main_v13_1 ↦[rout (rw_ i)]{fullShare} (fun j => z.o1 (j 1).val) := by
  have hs : (rowOut (Memref.whole main_v13_1_scv) i hb).view.set = rout (rw_ i) := by
    show (((Memref.whole main_v13_1_scv).view.slice (Rect.unit (s := S8x112) (k0_off51 i) S1x112.size (k0_off51_inb i hb))).reshape S112 squeezes_S1x112_S112.numel_eq).set = _
    rw [View.set_reshape]
    show ((View.whole (main_v13_1_scv : Ref sig .scVector)).slice (Rect.unit (s := S8x112) (k0_off51 i) S1x112.size (k0_off51_inb i hb))).set = _
    rw [View.set_slice]
    exact Finset.map_refl.trans (rout_set i hb)
  rw [hs]
theorem out2_pts (d : Dev nD) (i : grid0.Coords) (hb : k0_cond1 i = 1#1) (z : Out F) :
    ((rowOut (Memref.whole main_v13_2_scv) i hb).view.loc (thr d i) ↦[(rowOut (Memref.whole main_v13_2_scv) i hb).view.set]{fullShare} (fun j => z.o2 (j 1).val) : sProp 𝕄)
      = hL d main_v13_2 ↦[rout (rw_ i)]{fullShare} (fun j => z.o2 (j 1).val) := by
  have hs : (rowOut (Memref.whole main_v13_2_scv) i hb).view.set = rout (rw_ i) := by
    show (((Memref.whole main_v13_2_scv).view.slice (Rect.unit (s := S8x112) (k0_off51 i) S1x112.size (k0_off51_inb i hb))).reshape S112 squeezes_S1x112_S112.numel_eq).set = _
    rw [View.set_reshape]
    show ((View.whole (main_v13_2_scv : Ref sig .scVector)).slice (Rect.unit (s := S8x112) (k0_off51 i) S1x112.size (k0_off51_inb i hb))).set = _
    rw [View.set_slice]
    exact Finset.map_refl.trans (rout_set i hb)
  rw [hs]
theorem out3_pts (d : Dev nD) (i : grid0.Coords) (hb : k0_cond1 i = 1#1) (z : Out F) :
    ((rowOut (Memref.whole main_v13_3_scv) i hb).view.loc (thr d i) ↦[(rowOut (Memref.whole main_v13_3_scv) i hb).view.set]{fullShare} (fun j => z.o3 (j 1).val) : sProp 𝕄)
      = hL d main_v13_3 ↦[rout (rw_ i)]{fullShare} (fun j => z.o3 (j 1).val) := by
  have hs : (rowOut (Memref.whole main_v13_3_scv) i hb).view.set = rout (rw_ i) := by
    show (((Memref.whole main_v13_3_scv).view.slice (Rect.unit (s := S8x112) (k0_off51 i) S1x112.size (k0_off51_inb i hb))).reshape S112 squeezes_S1x112_S112.numel_eq).set = _
    rw [View.set_reshape]
    show ((View.whole (main_v13_3_scv : Ref sig .scVector)).slice (Rect.unit (s := S8x112) (k0_off51 i) S1x112.size (k0_off51_inb i hb))).set = _
    rw [View.set_slice]
    exact Finset.map_refl.trans (rout_set i hb)
  rw [hs]
theorem out4_pts (d : Dev nD) (i : grid0.Coords) (hb : k0_cond1 i = 1#1) (z : Out F) :
    ((rowOut (Memref.whole main_v13_4_scv) i hb).view.loc (thr d i) ↦[(rowOut (Memref.whole main_v13_4_scv) i hb).view.set]{fullShare} (fun j => z.o4 (j 1).val) : sProp 𝕄)
      = hL d main_v13_4 ↦[rout (rw_ i)]{fullShare} (fun j => z.o4 (j 1).val) := by
  have hs : (rowOut (Memref.whole main_v13_4_scv) i hb).view.set = rout (rw_ i) := by
    show (((Memref.whole main_v13_4_scv).view.slice (Rect.unit (s := S8x112) (k0_off51 i) S1x112.size (k0_off51_inb i hb))).reshape S112 squeezes_S1x112_S112.numel_eq).set = _
    rw [View.set_reshape]
    show ((View.whole (main_v13_4_scv : Ref sig .scVector)).slice (Rect.unit (s := S8x112) (k0_off51 i) S1x112.size (k0_off51_inb i hb))).set = _
    rw [View.set_slice]
    exact Finset.map_refl.trans (rout_set i hb)
  rw [hs]

/-! ## A tile's scratch and semaphores -/

/-- The scratch buffers of a tile. -/
def scr : Finset (Ref sig .scVector) := {cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18}
/-- The semaphores of a tile. -/
def sems : Finset (SemLoc sig) := {.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem}

theorem scr_own (d : Dev nD) (i : grid0.Coords) : scr.map ⟨(Proc.scVector ((i 0).castLE hcore0) ((i 1).castLE hsub0)).devRef, Proc.devRef_injective _⟩ ⊆ ownRefs (τ := τ) (sig := sig) (.scVector ((i 0).castLE hcore0) ((i 1).castLE hsub0)) := by
  intro b hb
  obtain ⟨r, hr, rfl⟩ := Finset.mem_map.mp hb
  simp only [scr, Finset.mem_insert, Finset.mem_singleton] at hr
  rcases hr with rfl | rfl | rfl | rfl | rfl | rfl | rfl | rfl | rfl | rfl | rfl | rfl | rfl | rfl | rfl | rfl | rfl | rfl | rfl <;> exact SparseCore.Cfg.mem_ownRefs_of_owner rfl

theorem sems_own (d : Dev nD) (i : grid0.Coords) : sems.map ⟨fun s => ((thr d i, s) : GSem nD τ sig), fun a b h => (Prod.mk.inj h).2⟩ ⊆ ownCells (thr d i) := by
  intro b hb
  obtain ⟨r, hr, rfl⟩ := Finset.mem_map.mp hb
  have hsc : r.isScoped .scVector = true := by
    clear hb
    revert r
    unfold sems
    decide
  exact mem_ownCells.mpr ⟨rfl, hsc⟩

/-- The scratch, one by one. -/
theorem scr_split (Φ : Ref sig .scVector → sProp 𝕄) : bigSep scr Φ = iprop(Φ cc0_scratch0 ∗ Φ cc0_scratch1 ∗ Φ cc0_scratch2 ∗ Φ cc0_scratch3 ∗ Φ cc0_scratch4 ∗ Φ cc0_scratch5 ∗ Φ cc0_scratch6 ∗ Φ cc0_scratch7 ∗ Φ cc0_scratch8 ∗ Φ cc0_scratch9 ∗ Φ cc0_scratch10 ∗ Φ cc0_scratch11 ∗ Φ cc0_scratch12 ∗ Φ cc0_scratch13 ∗ Φ cc0_scratch14 ∗ Φ cc0_scratch15 ∗ Φ cc0_scratch16 ∗ Φ cc0_scratch17 ∗ Φ cc0_scratch18) := by
  unfold scr
  rw [SparseCore.bigSep_insert' (show (cc0_scratch0 : Ref sig .scVector) ∉ ({cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18} : Finset (Ref sig .scVector)) by decide), SparseCore.bigSep_insert' (show (cc0_scratch1 : Ref sig .scVector) ∉ ({cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18} : Finset (Ref sig .scVector)) by decide), SparseCore.bigSep_insert' (show (cc0_scratch2 : Ref sig .scVector) ∉ ({cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18} : Finset (Ref sig .scVector)) by decide), SparseCore.bigSep_insert' (show (cc0_scratch3 : Ref sig .scVector) ∉ ({cc0_scratch4, cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18} : Finset (Ref sig .scVector)) by decide), SparseCore.bigSep_insert' (show (cc0_scratch4 : Ref sig .scVector) ∉ ({cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18} : Finset (Ref sig .scVector)) by decide), SparseCore.bigSep_insert' (show (cc0_scratch5 : Ref sig .scVector) ∉ ({cc0_scratch6, cc0_scratch7, cc0_scratch8, cc0_scratch9, cc0_scratch10, cc0_scratch11, cc0_scratch12, cc0_scratch13, cc0_scratch14, cc0_scratch15, cc0_scratch16, cc0_scratch17, cc0_scratch18} : Finset (Ref sig .scVector)) by decide), SparseCore.bigSep_insert' (show (cc0_scratch6 : Ref sig .scVector) ∉ ({cc0_scratch7, cc0_scratch8, cc0_scratch9, cc0_scratch10, cc0_scratch11, cc0_scratch12, cc0_scratch13, cc0_scratch14, cc0_scratch15, cc0_scratch16, cc0_scratch17, cc0_scratch18} : Finset (Ref sig .scVector)) by decide), SparseCore.bigSep_insert' (show (cc0_scratch7 : Ref sig .scVector) ∉ ({cc0_scratch8, cc0_scratch9, cc0_scratch10, cc0_scratch11, cc0_scratch12, cc0_scratch13, cc0_scratch14, cc0_scratch15, cc0_scratch16, cc0_scratch17, cc0_scratch18} : Finset (Ref sig .scVector)) by decide), SparseCore.bigSep_insert' (show (cc0_scratch8 : Ref sig .scVector) ∉ ({cc0_scratch9, cc0_scratch10, cc0_scratch11, cc0_scratch12, cc0_scratch13, cc0_scratch14, cc0_scratch15, cc0_scratch16, cc0_scratch17, cc0_scratch18} : Finset (Ref sig .scVector)) by decide), SparseCore.bigSep_insert' (show (cc0_scratch9 : Ref sig .scVector) ∉ ({cc0_scratch10, cc0_scratch11, cc0_scratch12, cc0_scratch13, cc0_scratch14, cc0_scratch15, cc0_scratch16, cc0_scratch17, cc0_scratch18} : Finset (Ref sig .scVector)) by decide), SparseCore.bigSep_insert' (show (cc0_scratch10 : Ref sig .scVector) ∉ ({cc0_scratch11, cc0_scratch12, cc0_scratch13, cc0_scratch14, cc0_scratch15, cc0_scratch16, cc0_scratch17, cc0_scratch18} : Finset (Ref sig .scVector)) by decide), SparseCore.bigSep_insert' (show (cc0_scratch11 : Ref sig .scVector) ∉ ({cc0_scratch12, cc0_scratch13, cc0_scratch14, cc0_scratch15, cc0_scratch16, cc0_scratch17, cc0_scratch18} : Finset (Ref sig .scVector)) by decide), SparseCore.bigSep_insert' (show (cc0_scratch12 : Ref sig .scVector) ∉ ({cc0_scratch13, cc0_scratch14, cc0_scratch15, cc0_scratch16, cc0_scratch17, cc0_scratch18} : Finset (Ref sig .scVector)) by decide), SparseCore.bigSep_insert' (show (cc0_scratch13 : Ref sig .scVector) ∉ ({cc0_scratch14, cc0_scratch15, cc0_scratch16, cc0_scratch17, cc0_scratch18} : Finset (Ref sig .scVector)) by decide), SparseCore.bigSep_insert' (show (cc0_scratch14 : Ref sig .scVector) ∉ ({cc0_scratch15, cc0_scratch16, cc0_scratch17, cc0_scratch18} : Finset (Ref sig .scVector)) by decide), SparseCore.bigSep_insert' (show (cc0_scratch15 : Ref sig .scVector) ∉ ({cc0_scratch16, cc0_scratch17, cc0_scratch18} : Finset (Ref sig .scVector)) by decide), SparseCore.bigSep_insert' (show (cc0_scratch16 : Ref sig .scVector) ∉ ({cc0_scratch17, cc0_scratch18} : Finset (Ref sig .scVector)) by decide), SparseCore.bigSep_insert' (show (cc0_scratch17 : Ref sig .scVector) ∉ ({cc0_scratch18} : Finset (Ref sig .scVector)) by decide), bigSep_singleton]
/-- The semaphores, one by one. -/
theorem sems_split (Φ : SemLoc sig → sProp 𝕄) : bigSep sems Φ = iprop(Φ (.dma cc0_scoped0.sem) ∗ Φ (.dma cc0_scoped1.sem) ∗ Φ (.dma cc0_scoped2.sem) ∗ Φ (.dma cc0_scoped3.sem) ∗ Φ (.dma cc0_scoped4.sem) ∗ Φ (.dma cc0_scoped5.sem) ∗ Φ (.dma cc0_scoped6.sem) ∗ Φ (.dma cc0_scoped7.sem) ∗ Φ (.dma cc0_scoped8.sem) ∗ Φ (.dma cc0_scoped9.sem)) := by
  unfold sems
  rw [SparseCore.bigSep_insert' (show (SemLoc.dma cc0_scoped0.sem : SemLoc sig) ∉ ({.dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem} : Finset (SemLoc sig)) by decide), SparseCore.bigSep_insert' (show (SemLoc.dma cc0_scoped1.sem : SemLoc sig) ∉ ({.dma cc0_scoped2.sem, .dma cc0_scoped3.sem, .dma cc0_scoped4.sem, .dma cc0_scoped5.sem, .dma cc0_scoped6.sem, .dma cc0_scoped7.sem, .dma cc0_scoped8.sem, .dma cc0_scoped9.sem} : Finset (SemLoc sig)) by decide), SparseCore.bigSep_insert' (show (SemLoc.dma cc0_scoped2.sem : SemLoc sig) ∉ ({.dma cc0_scoped3.sem, .dma cc0_scoped4.sem, .dma cc0_scoped5.sem, .dma cc0_scoped6.sem, .dma cc0_scoped7.sem, .dma cc0_scoped8.sem, .dma cc0_scoped9.sem} : Finset (SemLoc sig)) by decide), SparseCore.bigSep_insert' (show (SemLoc.dma cc0_scoped3.sem : SemLoc sig) ∉ ({.dma cc0_scoped4.sem, .dma cc0_scoped5.sem, .dma cc0_scoped6.sem, .dma cc0_scoped7.sem, .dma cc0_scoped8.sem, .dma cc0_scoped9.sem} : Finset (SemLoc sig)) by decide), SparseCore.bigSep_insert' (show (SemLoc.dma cc0_scoped4.sem : SemLoc sig) ∉ ({.dma cc0_scoped5.sem, .dma cc0_scoped6.sem, .dma cc0_scoped7.sem, .dma cc0_scoped8.sem, .dma cc0_scoped9.sem} : Finset (SemLoc sig)) by decide), SparseCore.bigSep_insert' (show (SemLoc.dma cc0_scoped5.sem : SemLoc sig) ∉ ({.dma cc0_scoped6.sem, .dma cc0_scoped7.sem, .dma cc0_scoped8.sem, .dma cc0_scoped9.sem} : Finset (SemLoc sig)) by decide), SparseCore.bigSep_insert' (show (SemLoc.dma cc0_scoped6.sem : SemLoc sig) ∉ ({.dma cc0_scoped7.sem, .dma cc0_scoped8.sem, .dma cc0_scoped9.sem} : Finset (SemLoc sig)) by decide), SparseCore.bigSep_insert' (show (SemLoc.dma cc0_scoped7.sem : SemLoc sig) ∉ ({.dma cc0_scoped8.sem, .dma cc0_scoped9.sem} : Finset (SemLoc sig)) by decide), SparseCore.bigSep_insert' (show (SemLoc.dma cc0_scoped8.sem : SemLoc sig) ∉ ({.dma cc0_scoped9.sem} : Finset (SemLoc sig)) by decide), bigSep_singleton]

/-- The tile's buffers are its scratch and the rest. -/
theorem own_bufs (d : Dev nD) (i : grid0.Coords) :
    (ownBufs (thr d i) : sProp 𝕄) = iprop(((∃ f, (thr d i).loc cc0_scratch0 ↦{fullShare} f) ∗ (∃ f, (thr d i).loc cc0_scratch1 ↦{fullShare} f) ∗ (∃ f, (thr d i).loc cc0_scratch2 ↦{fullShare} f) ∗ (∃ f, (thr d i).loc cc0_scratch3 ↦{fullShare} f) ∗ (∃ f, (thr d i).loc cc0_scratch4 ↦{fullShare} f) ∗ (∃ f, (thr d i).loc cc0_scratch5 ↦{fullShare} f) ∗ (∃ f, (thr d i).loc cc0_scratch6 ↦{fullShare} f) ∗ (∃ f, (thr d i).loc cc0_scratch7 ↦{fullShare} f) ∗ (∃ f, (thr d i).loc cc0_scratch8 ↦{fullShare} f) ∗ (∃ f, (thr d i).loc cc0_scratch9 ↦{fullShare} f) ∗ (∃ f, (thr d i).loc cc0_scratch10 ↦{fullShare} f) ∗ (∃ f, (thr d i).loc cc0_scratch11 ↦{fullShare} f) ∗ (∃ f, (thr d i).loc cc0_scratch12 ↦{fullShare} f) ∗ (∃ f, (thr d i).loc cc0_scratch13 ↦{fullShare} f) ∗ (∃ f, (thr d i).loc cc0_scratch14 ↦{fullShare} f) ∗ (∃ f, (thr d i).loc cc0_scratch15 ↦{fullShare} f) ∗ (∃ f, (thr d i).loc cc0_scratch16 ↦{fullShare} f) ∗ (∃ f, (thr d i).loc cc0_scratch17 ↦{fullShare} f) ∗ (∃ f, (thr d i).loc cc0_scratch18 ↦{fullShare} f))
      ∗ bigSep (ownRefs (τ := τ) (sig := sig) (.scVector ((i 0).castLE hcore0) ((i 1).castLE hsub0)) \ scr.map ⟨(Proc.scVector ((i 0).castLE hcore0) ((i 1).castLE hsub0)).devRef, Proc.devRef_injective _⟩) fun b => iprop(∃ f, ((d, b) : Loc nD τ sig) ↦{fullShare} f)) := by
  unfold SparseCore.Cfg.ownBufs
  show bigSep (ownRefs (τ := τ) (sig := sig) (.scVector ((i 0).castLE hcore0) ((i 1).castLE hsub0))) (fun b => iprop(∃ f, ((d, b) : Loc nD τ sig) ↦{fullShare} f)) = _
  conv_lhs => rw [← Finset.union_sdiff_of_subset (scr_own d i)]
  refine (bigSep_union Finset.disjoint_sdiff).trans ?_
  congr 1
  rw [bigSep_map]
  rw [scr_split]
  rfl

/-- The tile's semaphores are the ten of its copies and the rest. -/
theorem own_sems (d : Dev nD) (i : grid0.Coords) :
    (ownSems0 (thr d i) : sProp 𝕄) = iprop((semVal (thr d i, .dma cc0_scoped0.sem) 0 ∗ semVal (thr d i, .dma cc0_scoped1.sem) 0 ∗ semVal (thr d i, .dma cc0_scoped2.sem) 0 ∗ semVal (thr d i, .dma cc0_scoped3.sem) 0 ∗ semVal (thr d i, .dma cc0_scoped4.sem) 0 ∗ semVal (thr d i, .dma cc0_scoped5.sem) 0 ∗ semVal (thr d i, .dma cc0_scoped6.sem) 0 ∗ semVal (thr d i, .dma cc0_scoped7.sem) 0 ∗ semVal (thr d i, .dma cc0_scoped8.sem) 0 ∗ semVal (thr d i, .dma cc0_scoped9.sem) 0)
      ∗ bigSep (ownCells (thr d i) \ sems.map ⟨fun s => ((thr d i, s) : GSem nD τ sig), fun a b h => (Prod.mk.inj h).2⟩) fun g => semVal g 0) := by
  unfold SparseCore.Cfg.ownSems0
  conv_lhs => rw [← Finset.union_sdiff_of_subset (sems_own d i)]
  refine (bigSep_union Finset.disjoint_sdiff).trans ?_
  congr 1
  rw [bigSep_map]
  rw [sems_split]
  rfl

/-- Position `n` of a buffer of one axis. -/
def pos1 (k : ℕ) (hk : 0 < k) (n : ℕ) : (⟨1, ![k]⟩ : Shape).Idx := fun a => ⟨n % (⟨1, ![k]⟩ : Shape).size a, Nat.mod_lt _ (by obtain rfl : a = 0 := Subsingleton.elim _ _; exact hk)⟩
theorem pos1_eq (k : ℕ) (hk : 0 < k) (j : (⟨1, ![k]⟩ : Shape).Idx) : pos1 k hk (j 0).val = j := by
  funext a
  obtain rfl : a = 0 := Subsingleton.elim _ _
  exact Fin.ext (Nat.mod_eq_of_lt (j 0).isLt)

/-- The scratch at any contents is a state. -/
theorem own_intro (d : Dev nD) (i : grid0.Coords) :
    iprop((∃ f, (thr d i).loc cc0_scratch0 ↦{fullShare} f) ∗ (∃ f, (thr d i).loc cc0_scratch1 ↦{fullShare} f) ∗ (∃ f, (thr d i).loc cc0_scratch2 ↦{fullShare} f) ∗ (∃ f, (thr d i).loc cc0_scratch3 ↦{fullShare} f) ∗ (∃ f, (thr d i).loc cc0_scratch4 ↦{fullShare} f) ∗ (∃ f, (thr d i).loc cc0_scratch5 ↦{fullShare} f) ∗ (∃ f, (thr d i).loc cc0_scratch6 ↦{fullShare} f) ∗ (∃ f, (thr d i).loc cc0_scratch7 ↦{fullShare} f) ∗ (∃ f, (thr d i).loc cc0_scratch8 ↦{fullShare} f) ∗ (∃ f, (thr d i).loc cc0_scratch9 ↦{fullShare} f) ∗ (∃ f, (thr d i).loc cc0_scratch10 ↦{fullShare} f) ∗ (∃ f, (thr d i).loc cc0_scratch11 ↦{fullShare} f) ∗ (∃ f, (thr d i).loc cc0_scratch12 ↦{fullShare} f) ∗ (∃ f, (thr d i).loc cc0_scratch13 ↦{fullShare} f) ∗ (∃ f, (thr d i).loc cc0_scratch14 ↦{fullShare} f) ∗ (∃ f, (thr d i).loc cc0_scratch15 ↦{fullShare} f) ∗ (∃ f, (thr d i).loc cc0_scratch16 ↦{fullShare} f) ∗ (∃ f, (thr d i).loc cc0_scratch17 ↦{fullShare} f) ∗ (∃ f, (thr d i).loc cc0_scratch18 ↦{fullShare} f)) ⊢ (iprop(∃ s : St F, own d i s) : sProp 𝕄) := by
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  iexists (⟨fun n => f0 (pos1 20016 (Nat.succ_pos _) n), fun n => f1 (pos1 20016 (Nat.succ_pos _) n), fun n => f2 (pos1 20016 (Nat.succ_pos _) n), fun n => f3 (pos1 20016 (Nat.succ_pos _) n), fun n => f4 (pos1 20016 (Nat.succ_pos _) n), fun n => f5 (pos1 1280 (Nat.succ_pos _) n), fun n => f6 (pos1 1280 (Nat.succ_pos _) n), fun n => f7 (pos1 80 (Nat.succ_pos _) n), fun n => f8 (pos1 80 (Nat.succ_pos _) n), fun n => f9 (pos1 112 (Nat.succ_pos _) n), fun n => f10 (pos1 112 (Nat.succ_pos _) n), fun n => f11 (pos1 112 (Nat.succ_pos _) n), fun n => f12 (pos1 112 (Nat.succ_pos _) n), fun n => f13 (pos1 112 (Nat.succ_pos _) n), fun n => f14 (pos1 112 (Nat.succ_pos _) n), fun n => f15 (pos1 112 (Nat.succ_pos _) n), fun n => f16 (pos1 32 (Nat.succ_pos _) n), fun n => f17 (pos1 32 (Nat.succ_pos _) n), fun n => f18 (pos1 4 (Nat.succ_pos _) n)⟩ : St F)
  unfold own
  isplitl [H0]; · iapply (Entails.of_eq (show ((thr d i).loc cc0_scratch0 ↦{fullShare} f0 : sProp 𝕄) = (thr d i).loc cc0_scratch0 ↦{fullShare} (fun j => f0 (pos1 20016 (Nat.succ_pos _) (j 0).val)) from congrArg _ (funext fun j => (congrArg f0 (pos1_eq 20016 (Nat.succ_pos _) j)).symm))); iexact H0
  isplitl [H1]; · iapply (Entails.of_eq (show ((thr d i).loc cc0_scratch1 ↦{fullShare} f1 : sProp 𝕄) = (thr d i).loc cc0_scratch1 ↦{fullShare} (fun j => f1 (pos1 20016 (Nat.succ_pos _) (j 0).val)) from congrArg _ (funext fun j => (congrArg f1 (pos1_eq 20016 (Nat.succ_pos _) j)).symm))); iexact H1
  isplitl [H2]; · iapply (Entails.of_eq (show ((thr d i).loc cc0_scratch2 ↦{fullShare} f2 : sProp 𝕄) = (thr d i).loc cc0_scratch2 ↦{fullShare} (fun j => f2 (pos1 20016 (Nat.succ_pos _) (j 0).val)) from congrArg _ (funext fun j => (congrArg f2 (pos1_eq 20016 (Nat.succ_pos _) j)).symm))); iexact H2
  isplitl [H3]; · iapply (Entails.of_eq (show ((thr d i).loc cc0_scratch3 ↦{fullShare} f3 : sProp 𝕄) = (thr d i).loc cc0_scratch3 ↦{fullShare} (fun j => f3 (pos1 20016 (Nat.succ_pos _) (j 0).val)) from congrArg _ (funext fun j => (congrArg f3 (pos1_eq 20016 (Nat.succ_pos _) j)).symm))); iexact H3
  isplitl [H4]; · iapply (Entails.of_eq (show ((thr d i).loc cc0_scratch4 ↦{fullShare} f4 : sProp 𝕄) = (thr d i).loc cc0_scratch4 ↦{fullShare} (fun j => f4 (pos1 20016 (Nat.succ_pos _) (j 0).val)) from congrArg _ (funext fun j => (congrArg f4 (pos1_eq 20016 (Nat.succ_pos _) j)).symm))); iexact H4
  isplitl [H5]; · iapply (Entails.of_eq (show ((thr d i).loc cc0_scratch5 ↦{fullShare} f5 : sProp 𝕄) = (thr d i).loc cc0_scratch5 ↦{fullShare} (fun j => f5 (pos1 1280 (Nat.succ_pos _) (j 0).val)) from congrArg _ (funext fun j => (congrArg f5 (pos1_eq 1280 (Nat.succ_pos _) j)).symm))); iexact H5
  isplitl [H6]; · iapply (Entails.of_eq (show ((thr d i).loc cc0_scratch6 ↦{fullShare} f6 : sProp 𝕄) = (thr d i).loc cc0_scratch6 ↦{fullShare} (fun j => f6 (pos1 1280 (Nat.succ_pos _) (j 0).val)) from congrArg _ (funext fun j => (congrArg f6 (pos1_eq 1280 (Nat.succ_pos _) j)).symm))); iexact H6
  isplitl [H7]; · iapply (Entails.of_eq (show ((thr d i).loc cc0_scratch7 ↦{fullShare} f7 : sProp 𝕄) = (thr d i).loc cc0_scratch7 ↦{fullShare} (fun j => f7 (pos1 80 (Nat.succ_pos _) (j 0).val)) from congrArg _ (funext fun j => (congrArg f7 (pos1_eq 80 (Nat.succ_pos _) j)).symm))); iexact H7
  isplitl [H8]; · iapply (Entails.of_eq (show ((thr d i).loc cc0_scratch8 ↦{fullShare} f8 : sProp 𝕄) = (thr d i).loc cc0_scratch8 ↦{fullShare} (fun j => f8 (pos1 80 (Nat.succ_pos _) (j 0).val)) from congrArg _ (funext fun j => (congrArg f8 (pos1_eq 80 (Nat.succ_pos _) j)).symm))); iexact H8
  isplitl [H9]; · iapply (Entails.of_eq (show ((thr d i).loc cc0_scratch9 ↦{fullShare} f9 : sProp 𝕄) = (thr d i).loc cc0_scratch9 ↦{fullShare} (fun j => f9 (pos1 112 (Nat.succ_pos _) (j 0).val)) from congrArg _ (funext fun j => (congrArg f9 (pos1_eq 112 (Nat.succ_pos _) j)).symm))); iexact H9
  isplitl [H10]; · iapply (Entails.of_eq (show ((thr d i).loc cc0_scratch10 ↦{fullShare} f10 : sProp 𝕄) = (thr d i).loc cc0_scratch10 ↦{fullShare} (fun j => f10 (pos1 112 (Nat.succ_pos _) (j 0).val)) from congrArg _ (funext fun j => (congrArg f10 (pos1_eq 112 (Nat.succ_pos _) j)).symm))); iexact H10
  isplitl [H11]; · iapply (Entails.of_eq (show ((thr d i).loc cc0_scratch11 ↦{fullShare} f11 : sProp 𝕄) = (thr d i).loc cc0_scratch11 ↦{fullShare} (fun j => f11 (pos1 112 (Nat.succ_pos _) (j 0).val)) from congrArg _ (funext fun j => (congrArg f11 (pos1_eq 112 (Nat.succ_pos _) j)).symm))); iexact H11
  isplitl [H12]; · iapply (Entails.of_eq (show ((thr d i).loc cc0_scratch12 ↦{fullShare} f12 : sProp 𝕄) = (thr d i).loc cc0_scratch12 ↦{fullShare} (fun j => f12 (pos1 112 (Nat.succ_pos _) (j 0).val)) from congrArg _ (funext fun j => (congrArg f12 (pos1_eq 112 (Nat.succ_pos _) j)).symm))); iexact H12
  isplitl [H13]; · iapply (Entails.of_eq (show ((thr d i).loc cc0_scratch13 ↦{fullShare} f13 : sProp 𝕄) = (thr d i).loc cc0_scratch13 ↦{fullShare} (fun j => f13 (pos1 112 (Nat.succ_pos _) (j 0).val)) from congrArg _ (funext fun j => (congrArg f13 (pos1_eq 112 (Nat.succ_pos _) j)).symm))); iexact H13
  isplitl [H14]; · iapply (Entails.of_eq (show ((thr d i).loc cc0_scratch14 ↦{fullShare} f14 : sProp 𝕄) = (thr d i).loc cc0_scratch14 ↦{fullShare} (fun j => f14 (pos1 112 (Nat.succ_pos _) (j 0).val)) from congrArg _ (funext fun j => (congrArg f14 (pos1_eq 112 (Nat.succ_pos _) j)).symm))); iexact H14
  isplitl [H15]; · iapply (Entails.of_eq (show ((thr d i).loc cc0_scratch15 ↦{fullShare} f15 : sProp 𝕄) = (thr d i).loc cc0_scratch15 ↦{fullShare} (fun j => f15 (pos1 112 (Nat.succ_pos _) (j 0).val)) from congrArg _ (funext fun j => (congrArg f15 (pos1_eq 112 (Nat.succ_pos _) j)).symm))); iexact H15
  isplitl [H16]; · iapply (Entails.of_eq (show ((thr d i).loc cc0_scratch16 ↦{fullShare} f16 : sProp 𝕄) = (thr d i).loc cc0_scratch16 ↦{fullShare} (fun j => f16 (pos1 32 (Nat.succ_pos _) (j 0).val)) from congrArg _ (funext fun j => (congrArg f16 (pos1_eq 32 (Nat.succ_pos _) j)).symm))); iexact H16
  isplitl [H17]; · iapply (Entails.of_eq (show ((thr d i).loc cc0_scratch17 ↦{fullShare} f17 : sProp 𝕄) = (thr d i).loc cc0_scratch17 ↦{fullShare} (fun j => f17 (pos1 32 (Nat.succ_pos _) (j 0).val)) from congrArg _ (funext fun j => (congrArg f17 (pos1_eq 32 (Nat.succ_pos _) j)).symm))); iexact H17
  iapply (Entails.of_eq (show ((thr d i).loc cc0_scratch18 ↦{fullShare} f18 : sProp 𝕄) = (thr d i).loc cc0_scratch18 ↦{fullShare} (fun j => f18 (pos1 4 (Nat.succ_pos _) (j 0).val)) from congrArg _ (funext fun j => (congrArg f18 (pos1_eq 4 (Nat.succ_pos _) j)).symm))); iexact H18

/-- A state is the scratch at some contents. -/
theorem own_elim (d : Dev nD) (i : grid0.Coords) (s : St F) :
    (own d i s : sProp 𝕄) ⊢ iprop((∃ f, (thr d i).loc cc0_scratch0 ↦{fullShare} f) ∗ (∃ f, (thr d i).loc cc0_scratch1 ↦{fullShare} f) ∗ (∃ f, (thr d i).loc cc0_scratch2 ↦{fullShare} f) ∗ (∃ f, (thr d i).loc cc0_scratch3 ↦{fullShare} f) ∗ (∃ f, (thr d i).loc cc0_scratch4 ↦{fullShare} f) ∗ (∃ f, (thr d i).loc cc0_scratch5 ↦{fullShare} f) ∗ (∃ f, (thr d i).loc cc0_scratch6 ↦{fullShare} f) ∗ (∃ f, (thr d i).loc cc0_scratch7 ↦{fullShare} f) ∗ (∃ f, (thr d i).loc cc0_scratch8 ↦{fullShare} f) ∗ (∃ f, (thr d i).loc cc0_scratch9 ↦{fullShare} f) ∗ (∃ f, (thr d i).loc cc0_scratch10 ↦{fullShare} f) ∗ (∃ f, (thr d i).loc cc0_scratch11 ↦{fullShare} f) ∗ (∃ f, (thr d i).loc cc0_scratch12 ↦{fullShare} f) ∗ (∃ f, (thr d i).loc cc0_scratch13 ↦{fullShare} f) ∗ (∃ f, (thr d i).loc cc0_scratch14 ↦{fullShare} f) ∗ (∃ f, (thr d i).loc cc0_scratch15 ↦{fullShare} f) ∗ (∃ f, (thr d i).loc cc0_scratch16 ↦{fullShare} f) ∗ (∃ f, (thr d i).loc cc0_scratch17 ↦{fullShare} f) ∗ (∃ f, (thr d i).loc cc0_scratch18 ↦{fullShare} f)) := by
  unfold own
  iintro ⟨H0, H1, H2, H3, H4, H5, H6, H7, H8, H9, H10, H11, H12, H13, H14, H15, H16, H17, H18⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

/-- A tile's rows, its semaphores and what it owes, gathered. -/
theorem io_intro (d : Dev nD) (i : grid0.Coords) (hb : k0_cond1 i = 1#1) (O : CellTallies nD τ sig (HIx 1)) (Wt : Waits sig (HIx 1)) (A : Ins F) (z : Out F) :
    iprop(tin d A (rw_ i) ∗ tout d (rw_ i) z ∗ (semVal (thr d i, .dma cc0_scoped0.sem) 0 ∗ semVal (thr d i, .dma cc0_scoped1.sem) 0 ∗ semVal (thr d i, .dma cc0_scoped2.sem) 0 ∗ semVal (thr d i, .dma cc0_scoped3.sem) 0 ∗ semVal (thr d i, .dma cc0_scoped4.sem) 0 ∗ semVal (thr d i, .dma cc0_scoped5.sem) 0 ∗ semVal (thr d i, .dma cc0_scoped6.sem) 0 ∗ semVal (thr d i, .dma cc0_scoped7.sem) 0 ∗ semVal (thr d i, .dma cc0_scoped8.sem) 0 ∗ semVal (thr d i, .dma cc0_scoped9.sem) 0) ∗ wt d i O Wt) ⊢ (io d i O Wt hb (A.row (rw_ i)) z : sProp 𝕄) := by
  unfold io tin tout
  rw [in0_pts, in1_pts, in2_pts, in3_pts, in4_pts, out0_pts, out1_pts, out2_pts, out3_pts, out4_pts]
  iintro ⟨⟨Hi0, Hi1, Hi2, Hi3, Hi4⟩, ⟨Ho0, Ho1, Ho2, Ho3, Ho4⟩, ⟨Hs0, Hs1, Hs2, Hs3, Hs4, Hs5, Hs6, Hs7, Hs8, Hs9⟩, Hw⟩
  isplitl [Hi0]; · iexact Hi0
  isplitl [Hi1]; · iexact Hi1
  isplitl [Hi2]; · iexact Hi2
  isplitl [Hi3]; · iexact Hi3
  isplitl [Hi4]; · iexact Hi4
  isplitl [Ho0]; · iexact Ho0
  isplitl [Ho1]; · iexact Ho1
  isplitl [Ho2]; · iexact Ho2
  isplitl [Ho3]; · iexact Ho3
  isplitl [Ho4]; · iexact Ho4
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  iexact Hw

/-- The same, taken apart. -/
theorem io_elim (d : Dev nD) (i : grid0.Coords) (hb : k0_cond1 i = 1#1) (O : CellTallies nD τ sig (HIx 1)) (Wt : Waits sig (HIx 1)) (A : Ins F) (z : Out F) :
    (io d i O Wt hb (A.row (rw_ i)) z : sProp 𝕄) ⊢ iprop(tin d A (rw_ i) ∗ tout d (rw_ i) z ∗ (semVal (thr d i, .dma cc0_scoped0.sem) 0 ∗ semVal (thr d i, .dma cc0_scoped1.sem) 0 ∗ semVal (thr d i, .dma cc0_scoped2.sem) 0 ∗ semVal (thr d i, .dma cc0_scoped3.sem) 0 ∗ semVal (thr d i, .dma cc0_scoped4.sem) 0 ∗ semVal (thr d i, .dma cc0_scoped5.sem) 0 ∗ semVal (thr d i, .dma cc0_scoped6.sem) 0 ∗ semVal (thr d i, .dma cc0_scoped7.sem) 0 ∗ semVal (thr d i, .dma cc0_scoped8.sem) 0 ∗ semVal (thr d i, .dma cc0_scoped9.sem) 0) ∗ wt d i O Wt) := by
  unfold io tin tout
  rw [in0_pts, in1_pts, in2_pts, in3_pts, in4_pts, out0_pts, out1_pts, out2_pts, out3_pts, out4_pts]
  iintro ⟨Hi0, Hi1, Hi2, Hi3, Hi4, Ho0, Ho1, Ho2, Ho3, Ho4, Hs0, Hs1, Hs2, Hs3, Hs4, Hs5, Hs6, Hs7, Hs8, Hs9, Hw⟩
  isplitl [Hi0 Hi1 Hi2 Hi3 Hi4]
  · isplitl [Hi0]; · iexact Hi0
    isplitl [Hi1]; · iexact Hi1
    isplitl [Hi2]; · iexact Hi2
    isplitl [Hi3]; · iexact Hi3
    iexact Hi4
  isplitl [Ho0 Ho1 Ho2 Ho3 Ho4]
  · isplitl [Ho0]; · iexact Ho0
    isplitl [Ho1]; · iexact Ho1
    isplitl [Ho2]; · iexact Ho2
    isplitl [Ho3]; · iexact Ho3
    iexact Ho4
  isplitl [Hs0 Hs1 Hs2 Hs3 Hs4 Hs5 Hs6 Hs7 Hs8 Hs9]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hs9
  iexact Hw

/-- What a tile is handed: its rows. -/
def tgo (d : Dev nD) (A : Ins F) (r : ℕ) : sProp 𝕄 := iprop(tin d A r ∗ ∃ z : Out F, tout d r z)
/-- What a tile hands back: its rows, those written as the run leaves them. -/
def ttd (d : Dev nD) (A : Ins F) (r : ℕ) : sProp 𝕄 := iprop(tin d A r ∗ ∃ z : Out F, ⌜r < 8 → Res (A.row r) z⌝ ∗ tout d r z)

theorem cond_of_lt : ∀ i : grid0.Coords, rw_ i < 8 → k0_cond1 i = 1#1 := by decide +kernel

/-- The task of any tile. -/
theorem tile_body (d : Dev nD) (i : grid0.Coords) (A : Ins F) (hF : (K (F := F)).Facts) (O : CellTallies nD τ sig (HIx 1)) (W : Waits sig (HIx 1)) (hO : ∀ g, O g none = 0) :
    iprop(levAts (K (F := F)).L (K (F := F)).lev ∗ emp ∗ tgo d A (rw_ i) ∗ scopedBufs (thr d i) ∗ scopedSems0 (thr d i) ∗ owes (thr d i) O W)
      ⊢ wp frame (wpE (defs₀ (F := F)) 𝒱₀ (thr d i) none) Set.univ
          (cc0__sc_body i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_0_scv) (Memref.isWhole_whole _) (Memref.whole main_v13_1_scv) (Memref.isWhole_whole _) (Memref.whole main_v13_2_scv) (Memref.isWhole_whole _) (Memref.whole main_v13_3_scv) (Memref.isWhole_whole _) (Memref.whole main_v13_4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scoped0 cc0_scoped1 cc0_scoped2 cc0_scoped3 cc0_scoped4 cc0_scoped5 cc0_scoped6 cc0_scoped7 cc0_scoped8 cc0_scoped9)
          fun _ => (iprop(ttd d A (rw_ i) ∗ scopedBufs (thr d i) ∗ scopedSems0 (thr d i) ∗ ∃ W', ⌜∀ p ∈ W', p ∈ W ∨ p.2 = none⌝ ∗ owes (thr d i) O W') : sProp 𝕄) := by
  by_cases hb : k0_cond1 i = 1#1
  · rw [(K (F := F)).scopedBufs_V hF d ((i 0).castLE hcore0) ((i 1).castLE hsub0), SparseCore.Cfg.scopedSems0_V (Val := Elt F) d ((i 0).castLE hcore0) ((i 1).castLE hsub0), own_sems, own_bufs]
    unfold tgo ttd
    iintro ⟨#Hlv, -, ⟨Hin, %z, Hout⟩, ⟨Hscr, Hbufs⟩, ⟨Hsem, Hsems⟩, HO⟩
    ihave Hmw := (show levAts (K (F := F)).L (K (F := F)).lev ⊢ Transfers.MayWaits (thr d i) (default : HIx 1) O from
      (K (F := F)).mayWaits_none (thr := thr d i) hO) $$ Hlv
    ihave Ho := (own_intro (F := F) d i) $$ Hscr
    icases Ho with ⟨%s, Hown⟩
    ihave Hio := (io_intro d i hb O W A z) $$ [Hin Hout Hsem Hmw HO]
    · isplitl [Hin]; · iexact Hin
      isplitl [Hout]; · iexact Hout
      isplitl [Hsem]; · iexact Hsem
      unfold wt
      isplitl [Hmw]; · iexact Hmw
      iexists W
      isplitr
      · ipureintro; exact fun p hp => Or.inl hp
      iexact HO
    iapply (wp_wand frame (wpE (defs₀ (F := F)) 𝒱₀ (thr d i) none) Set.univ (Q := fun _ => iprop(∃ s' z', ⌜Res (A.row (rw_ i)) z'⌝ ∗ own d i s' ∗ io d i O W hb (A.row (rw_ i)) z'))) $$ [Hown Hio]
    · iapply (show iprop(own d i s ∗ io d i O W hb (A.row (rw_ i)) z) ⊢ wp frame (wpE (defs₀ (F := F)) 𝒱₀ (thr d i) none) Set.univ (cc0__sc_body i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_0_scv) (Memref.isWhole_whole _) (Memref.whole main_v13_1_scv) (Memref.isWhole_whole _) (Memref.whole main_v13_2_scv) (Memref.isWhole_whole _) (Memref.whole main_v13_3_scv) (Memref.isWhole_whole _) (Memref.whole main_v13_4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scoped0 cc0_scoped1 cc0_scoped2 cc0_scoped3 cc0_scoped4 cc0_scoped5 cc0_scoped6 cc0_scoped7 cc0_scoped8 cc0_scoped9) (fun _ => iprop(∃ s' z', ⌜Res (A.row (rw_ i)) z'⌝ ∗ own d i s' ∗ io d i O W hb (A.row (rw_ i)) z')) from body_run (hb := hb) s z)
      isplitl [Hown]; · iexact Hown
      iexact Hio
    iintro %_ ⟨%s', %z', %hR, Hown, Hio⟩
    ihave Hio := (io_elim d i hb O W A z') $$ Hio
    icases Hio with ⟨Hin, Hout, Hsem, Hw⟩
    ihave Hscr := (own_elim d i s') $$ Hown
    unfold wt
    icases Hw with ⟨-, Hw⟩
    isplitl [Hin Hout]
    · isplitl [Hin]; · iexact Hin
      iexists z'
      isplitr; · ipureintro; exact fun _ => hR
      iexact Hout
    isplitl [Hscr Hbufs]
    · isplitl [Hscr]; · iexact Hscr
      iexact Hbufs
    isplitl [Hsem Hsems]
    · isplitl [Hsem]; · iexact Hsem
      iexact Hsems
    iexact Hw
  · simp only [cc0__sc_body_eq_skeleton]
    unfold cc0__sc_body_skel
    dsimp only
    rw [dif_neg hb]
    iintro ⟨-, -, Hgo, Hb, Hs, HO⟩
    rw [wp_pure]; imodintro
    unfold tgo ttd
    icases Hgo with ⟨Hin, %z, Hout⟩
    isplitl [Hin Hout]
    · isplitl [Hin]; · iexact Hin
      iexists z
      isplitr; · ipureintro; exact fun h => absurd (cond_of_lt i h) hb
      iexact Hout
    isplitl [Hb]; · iexact Hb
    isplitl [Hs]; · iexact Hs
    iexists W
    isplitr
    · ipureintro; exact fun p hp => Or.inl hp
    iexact HO

end Cert.Proof.Nms
-- ==== Proof.Launch.lean ====
/-
  The launch: the operations around the call, what the call is handed and hands back, the whole program's run.
-/
module

public import proofs.«01_k».proof.Proof.Task
public import Idealize.ShloMosaic.Lib.Pipeline.Frame

@[expose] public section

set_option maxRecDepth 16384
set_option maxHeartbeats 4000000

noncomputable section

namespace Cert.Proof.Nms

open Cert.KernelIdeal Cert.KernelIdeal.Gen
open Idealize.ShloMosaic
open Idealize.ShloMosaic.SparseCore (S V)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay ownBufs ownSems0 ownCells ownRefs)
open Idealize.ShloMosaic.Rounds
open Idealize.ShloMosaic.StableHlo (held after seq)
open Idealize.ShloMosaic.Tactic

variable {F : FTy → Type} [FloatOps F]

local notation "𝕄" => MT nD τ sig (HIx 1) (Elt F) ℕ UU ℕ

/-! ## The program's operations around the call -/

/-- The operations before the call: the corners taken apart, each array padded. -/
def pre : List (HloOp τ sig (Elt F)) := [
    StableHlo.unary main_arg0 main_v0 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    StableHlo.reshape main_v0 main_v1 (rfl : (.f32 : EltTy) = .f32) shapeCasts_S8x20000x1_S8x20000,
    StableHlo.nullary main_c (constantI S_ 32 0#32),
    StableHlo.TRef.unary (.of main_c : StableHlo.TRef sig ⟨S_, .i32⟩) main_call0.v0 (sitofp .f32),
    StableHlo.TRef.binary (.of main_v1 : StableHlo.TRef sig ⟨S8x20000, .f32⟩) main_call0.v0 main_call0.v1 (fun x v => pad S8x20016 ![0, 0] ![0, 16] ![0, 0] x v pads_S8x20000_S8x20016_000_0160 h_S_),
    StableHlo.unary main_arg0 main_v3 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    StableHlo.reshape main_v3 main_v4 (rfl : (.f32 : EltTy) = .f32) shapeCasts_S8x20000x1_S8x20000,
    StableHlo.nullary main_c_0 (constantI S_ 32 0#32),
    StableHlo.TRef.unary (.of main_c_0 : StableHlo.TRef sig ⟨S_, .i32⟩) main_call1.v0 (sitofp .f32),
    StableHlo.TRef.binary (.of main_v4 : StableHlo.TRef sig ⟨S8x20000, .f32⟩) main_call1.v0 main_call1.v1 (fun x v => pad S8x20016 ![0, 0] ![0, 16] ![0, 0] x v pads_S8x20000_S8x20016_000_0160 h_S_),
    StableHlo.unary main_arg0 main_v6 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    StableHlo.reshape main_v6 main_v7 (rfl : (.f32 : EltTy) = .f32) shapeCasts_S8x20000x1_S8x20000,
    StableHlo.nullary main_c_1 (constantI S_ 32 0#32),
    StableHlo.TRef.unary (.of main_c_1 : StableHlo.TRef sig ⟨S_, .i32⟩) main_call2.v0 (sitofp .f32),
    StableHlo.TRef.binary (.of main_v7 : StableHlo.TRef sig ⟨S8x20000, .f32⟩) main_call2.v0 main_call2.v1 (fun x v => pad S8x20016 ![0, 0] ![0, 16] ![0, 0] x v pads_S8x20000_S8x20016_000_0160 h_S_),
    StableHlo.unary main_arg0 main_v9 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    StableHlo.reshape main_v9 main_v10 (rfl : (.f32 : EltTy) = .f32) shapeCasts_S8x20000x1_S8x20000,
    StableHlo.nullary main_c_2 (constantI S_ 32 0#32),
    StableHlo.TRef.unary (.of main_c_2 : StableHlo.TRef sig ⟨S_, .i32⟩) main_call3.v0 (sitofp .f32),
    StableHlo.TRef.binary (.of main_v10 : StableHlo.TRef sig ⟨S8x20000, .f32⟩) main_call3.v0 main_call3.v1 (fun x v => pad S8x20016 ![0, 0] ![0, 16] ![0, 0] x v pads_S8x20000_S8x20016_000_0160 h_S_),
    StableHlo.nullary main_c_3 (constantI S_ 32 0#32),
    StableHlo.TRef.unary (.of main_c_3 : StableHlo.TRef sig ⟨S_, .i32⟩) main_call4.v0 (sitofp .f32),
    StableHlo.TRef.binary (.of main_arg1 : StableHlo.TRef sig ⟨S8x20000, .f32⟩) main_call4.v0 main_call4.v1 (fun x v => pad S8x20016 ![0, 0] ![0, 16] ![0, 0] x v pads_S8x20000_S8x20016_000_0160 h_S_)]
/-- The operations after the call: the boxes put together and clamped, the scores cut, the loss. -/
def post : List (HloOp τ sig (Elt F)) := [
    StableHlo.unary main_v13_0 main_v14 (broadcastInDim S8x112x1 ![0, 1] bcast_S8x112_S8x112x1_0_1 : (⟨S8x112, .f32⟩ : BufTy).Contents (Elt F) → (⟨S8x112x1, .f32⟩ : BufTy).Contents (Elt F)),
    StableHlo.unary main_v13_1 main_v15 (broadcastInDim S8x112x1 ![0, 1] bcast_S8x112_S8x112x1_0_1 : (⟨S8x112, .f32⟩ : BufTy).Contents (Elt F) → (⟨S8x112x1, .f32⟩ : BufTy).Contents (Elt F)),
    StableHlo.unary main_v13_2 main_v16 (broadcastInDim S8x112x1 ![0, 1] bcast_S8x112_S8x112x1_0_1 : (⟨S8x112, .f32⟩ : BufTy).Contents (Elt F) → (⟨S8x112x1, .f32⟩ : BufTy).Contents (Elt F)),
    StableHlo.unary main_v13_3 main_v17 (broadcastInDim S8x112x1 ![0, 1] bcast_S8x112_S8x112x1_0_1 : (⟨S8x112, .f32⟩ : BufTy).Contents (Elt F) → (⟨S8x112x1, .f32⟩ : BufTy).Contents (Elt F)),
    StableHlo.nary ![main_v14, main_v15, main_v16, main_v17] main_v18 (fun u => (concatenate S8x112x4 2 [⟨S8x112x1, (u 0 : (⟨S8x112x1, .f32⟩ : BufTy).Contents (Elt F))⟩, ⟨S8x112x1, (u 1 : (⟨S8x112x1, .f32⟩ : BufTy).Contents (Elt F))⟩, ⟨S8x112x1, (u 2 : (⟨S8x112x1, .f32⟩ : BufTy).Contents (Elt F))⟩, ⟨S8x112x1, (u 3 : (⟨S8x112x1, .f32⟩ : BufTy).Contents (Elt F))⟩] concatenates_S8x112x1_S8x112x1_S8x112x1_S8x112x1_S8x112x4_d2 : (⟨S8x112x4, .f32⟩ : BufTy).Contents (Elt F))),
    StableHlo.unary main_v18 main_v19 ((extractStridedSlice S8x100x4 ![0, 0, 0] · slices_S8x112x4_S8x100x4_0_0_0) : (⟨S8x112x4, .f32⟩ : BufTy).Contents (Elt F) → (⟨S8x100x4, .f32⟩ : BufTy).Contents (Elt F)),
    StableHlo.nullary main_cst (constant S_ .f32 0x00000000#32),
    StableHlo.nullary main_cst_4 (constant S_ .f32 0x44000000#32),
    StableHlo.TRef.unary (.of main_cst : StableHlo.TRef sig ⟨S_, .f32⟩) main_call5.v0 id,
    StableHlo.TRef.unary main_call5.v0 main_call5.v1 (broadcastInDim S8x100x4 ![] bcast_S_S8x100x4),
    StableHlo.TRef.binary main_call5.v1 (.of main_v19 : StableHlo.TRef sig ⟨S8x100x4, .f32⟩) main_call5.v2 maximumf,
    StableHlo.TRef.unary (.of main_cst_4 : StableHlo.TRef sig ⟨S_, .f32⟩) main_call5.v3 id,
    StableHlo.TRef.unary main_call5.v3 main_call5.v4 (broadcastInDim S8x100x4 ![] bcast_S_S8x100x4),
    StableHlo.TRef.binary main_call5.v4 main_call5.v2 main_call5.v5 minimumf,
    StableHlo.unary main_v13_4 main_v21 ((extractStridedSlice S8x100 ![0, 0] · slices_S8x112_S8x100_0_0) : (⟨S8x112, .f32⟩ : BufTy).Contents (Elt F) → (⟨S8x100, .f32⟩ : BufTy).Contents (Elt F)),
    StableHlo.nullary main_cst_5 (constant S_ .f32 0xFF800000#32),
    StableHlo.binary main_v21 main_cst_5 main_v22 ((fun x v => Host.reduce FloatOps.maximumf x v reducesTo_S8x100_S8_d1 h_S_) : (⟨S8x100, .f32⟩ : BufTy).Contents (Elt F) → (⟨S_, .f32⟩ : BufTy).Contents (Elt F) → (⟨S8, .f32⟩ : BufTy).Contents (Elt F)),
    StableHlo.nullary main_cst_6 (constant S_ .f32 0x00000000#32),
    StableHlo.unary main_cst_6 main_v23 (broadcastInDim S8 ![] bcast_S_S8 : (⟨S_, .f32⟩ : BufTy).Contents (Elt F) → (⟨S8, .f32⟩ : BufTy).Contents (Elt F)),
    StableHlo.binary main_v22 main_v23 main_v24 (maximumf : (⟨S8, .f32⟩ : BufTy).Contents (Elt F) → (⟨S8, .f32⟩ : BufTy).Contents (Elt F) → (⟨S8, .f32⟩ : BufTy).Contents (Elt F)),
    StableHlo.nullary main_cst_7 (constant S_ .f32 0x40000000#32),
    StableHlo.unary main_cst_7 main_v25 (broadcastInDim S8 ![] bcast_S_S8 : (⟨S_, .f32⟩ : BufTy).Contents (Elt F) → (⟨S8, .f32⟩ : BufTy).Contents (Elt F)),
    StableHlo.binary main_v24 main_v25 main_v26 (Host.powf : (⟨S8, .f32⟩ : BufTy).Contents (Elt F) → (⟨S8, .f32⟩ : BufTy).Contents (Elt F) → (⟨S8, .f32⟩ : BufTy).Contents (Elt F)),
    StableHlo.nullary main_cst_8 (constant S_ .f32 0x00000000#32),
    StableHlo.binary main_v26 main_cst_8 main_v27 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F))]

/-- What the first operations write. -/
def preW : List (Ref sig .tc) := [main_v0, main_v1, main_c, main_call0_v0, main_v2, main_v3, main_v4, main_c_0, main_call1_v0, main_v5, main_v6, main_v7, main_c_1, main_call2_v0, main_v8, main_v9, main_v10, main_c_2, main_call3_v0, main_v11, main_c_3, main_call4_v0, main_v12]
/-- What the last operations write. -/
def postW : List (Ref sig .tc) := [main_v14, main_v15, main_v16, main_v17, main_v18, main_v19, main_cst, main_cst_4, main_call5_v0, main_call5_v1, main_call5_v2, main_call5_v3, main_call5_v4, main_v20, main_v21, main_cst_5, main_v22, main_cst_6, main_v23, main_v24, main_cst_7, main_v25, main_v26, main_cst_8, main_v27]

/-- The program is these operations around the call. -/
theorem main_eq (d : Dev nD) : main (F := F) d = (seq pre >>= fun _ => ((K (F := F)).run d 0 >>= fun _ => seq post >>= fun u => Pure.pure u)) := by
  simp only [bind_pure]
  rfl

theorem pre_writes : (pre (F := F)).Forall fun op => op.writes ⊆ (preW.map (Proc.devRef (τ := τ) .tc)).toFinset :=
  StableHlo.forall_writes_sub_of_map rfl
theorem post_writes : (post (F := F)).Forall fun op => op.writes ⊆ (postW.map (Proc.devRef (τ := τ) .tc)).toFinset :=
  StableHlo.forall_writes_sub_of_map rfl
theorem pre_fresh : ∀ op ∈ (pre (F := F)), op.fresh = ∅ := List.forall_iff_forall_mem.mp (StableHlo.forall_fresh_of_map rfl)
theorem post_fresh : ∀ op ∈ (post (F := F)), op.fresh = ∅ := List.forall_iff_forall_mem.mp (StableHlo.forall_fresh_of_map rfl)
theorem pre_bufs : ∀ op ∈ (pre (F := F)), op.bufs ⊆ Pipeline.ucRefs τ sig := by
  intro op h
  refine Pipeline.sub_ucRefs op ?_
  revert op
  simp only [pre, List.forall_mem_cons, StableHlo.TRef.unary, StableHlo.TRef.binary, StableHlo.nullary_bufs_sub, StableHlo.unary_bufs_sub, StableHlo.binary_bufs_sub, StableHlo.reshape_bufs_sub, List.not_mem_nil, _root_.true_and, _root_.and_true, IsEmpty.forall_iff, implies_true]
theorem post_bufs : ∀ op ∈ (post (F := F)), op.bufs ⊆ Pipeline.ucRefs τ sig := by
  intro op h
  refine Pipeline.sub_ucRefs op ?_
  revert op
  simp only [post, List.forall_mem_cons, StableHlo.TRef.unary, StableHlo.TRef.binary, StableHlo.nullary_bufs_sub, StableHlo.unary_bufs_sub, StableHlo.binary_bufs_sub, StableHlo.reshape_bufs_sub, StableHlo.nary_bufs_sub, List.not_mem_nil, _root_.true_and, _root_.and_true, IsEmpty.forall_iff, implies_true]

/-! ## What the call is handed -/

/-- The call's payloads: each tile its rows, back as its run leaves them. -/
def P (A : Dev nD → Ins F) : (K (F := F)).Pay (nD := nD) (Val := Elt F) (Name := ℕ) (U := UU) where
  st := fun q d c => match q with | 0 => bigSep Finset.univ fun i : Fin ((K (F := F)).nSub 0) => tgo d (A d) (2 * i.val + c.val)
  dn := fun q d c => match q with | 0 => bigSep Finset.univ fun i : Fin ((K (F := F)).nSub 0) => ttd d (A d) (2 * i.val + c.val)
  go := fun q d c i => match q with | 0 => tgo d (A d) (2 * i.val + c.val)
  td := fun q d c i => match q with | 0 => ttd d (A d) (2 * i.val + c.val)
  x := fun _ _ => iprop(emp)

instance tgo_storable (d : Dev nD) (A : Ins F) (r : ℕ) : BI.Storable (upEmb : UEmb _ 𝕄) (tgo d A r) := by
  unfold tgo tin tout; infer_instance
instance ttd_storable (d : Dev nD) (A : Ins F) (r : ℕ) : BI.Storable (upEmb : UEmb _ 𝕄) (ttd d A r) := by
  unfold ttd tin tout; infer_instance

instance P_storable (A : Dev nD → Ins F) : (P A).IsStorable where
  st q d c := match q with
    | 0 => (inferInstance : BI.Storable (upEmb : UEmb _ 𝕄) (bigSep Finset.univ fun i : Fin ((K (F := F)).nSub 0) => tgo d (A d) (2 * i.val + c.val)))
  dn q d c := match q with
    | 0 => (inferInstance : BI.Storable (upEmb : UEmb _ 𝕄) (bigSep Finset.univ fun i : Fin ((K (F := F)).nSub 0) => ttd d (A d) (2 * i.val + c.val)))
  go q d c i := match q with | 0 => (inferInstance : BI.Storable (upEmb : UEmb _ 𝕄) (tgo d (A d) (2 * i.val + c.val)))
  td q d c i := match q with | 0 => (inferInstance : BI.Storable (upEmb : UEmb _ 𝕄) (ttd d (A d) (2 * i.val + c.val)))

/-- The launch's facts of the configuration. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_0_scv) (Memref.isWhole_whole _) (Memref.whole main_v13_1_scv) (Memref.isWhole_whole _) (Memref.whole main_v13_2_scv) (Memref.isWhole_whole _) (Memref.whole main_v13_3_scv) (Memref.isWhole_whole _) (Memref.whole main_v13_4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scoped0 cc0_scoped1 cc0_scoped2 cc0_scoped3 cc0_scoped4 cc0_scoped5 cc0_scoped6 cc0_scoped7 cc0_scoped8 cc0_scoped9) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each task does what the launch asks of it. -/
theorem tileObl (A : Dev nD → Ins F) (hF : (K (F := F)).Facts) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (A d) hF O W hO).trans (wp_mono frame _ _ fun _ => obl_post)

theorem star_assoc (P Q R : sProp 𝕄) : iprop((P ∗ Q) ∗ R) = iprop(P ∗ Q ∗ R) := BI.Entails.antisymm BI.sep_assoc BI.sep_assoc'

/-- A core's rows are its tiles' rows. -/
theorem vecSplit (A : Dev nD → Ins F) : (K (F := F)).VecSplit' (P A) 0 := by
  intro d c
  show (bigSep Finset.univ fun i : Fin ((K (F := F)).nSub 0) => tgo d (A d) (2 * i.val + c.val) : sProp 𝕄) ⊢ |={Set.univ}=> iprop((bigSep Finset.univ fun i : Fin ((K (F := F)).nSub 0) => tgo d (A d) (2 * i.val + c.val)) ∗ ((bigSep Finset.univ fun i : Fin ((K (F := F)).nSub 0) => ttd d (A d) (2 * i.val + c.val)) -∗ bigSep Finset.univ fun i : Fin ((K (F := F)).nSub 0) => ttd d (A d) (2 * i.val + c.val)))
  iintro H; imodintro
  isplitl [H]; · iexact H
  iintro H; iexact H

/-! ## The arrays, row by row -/

/-- An array of at most 32 rows is its rows over the cores and tiles. -/
theorem rows_eq {ℓ : Loc nD τ sig} (g : Idx ℓ → ℕ) (hg : ∀ j, g j < 32) (R : ℕ → Finset (Idx ℓ)) (hR : ∀ r j, j ∈ R r ↔ g j = r) (f : Buf (Elt F) ℓ) :
    (ℓ ↦{fullShare} f : sProp 𝕄) = bigSep Finset.univ fun p : Fin 2 × Fin 16 => ℓ ↦[R (2 * p.2.val + p.1.val)]{fullShare} f := by
  rw [← pointsTo_biUnion Finset.univ (ℓ := ℓ) (fun p : Fin 2 × Fin 16 => R (2 * p.2.val + p.1.val))]
  · congr 1
    ext j
    simp only [Finset.mem_univ, Finset.mem_biUnion, _root_.true_and, _root_.true_iff, hR]
    exact ⟨(⟨g j % 2, Nat.mod_lt _ (by decide)⟩, ⟨g j / 2, by have := hg j; omega⟩), by show g j = 2 * (g j / 2) + g j % 2; omega⟩
  · intro p _ p' _ hne
    rw [Finset.disjoint_left]
    intro j h h'
    rw [hR] at h h'
    refine hne (Prod.ext (Fin.ext ?_) (Fin.ext ?_)) <;> have := p.1.isLt <;> have := p'.1.isLt <;> omega

theorem in0_rows (d : Dev nD) (f : S8x20016.Idx → F .f32) :
    (hL d main_v2 ↦{fullShare} f : sProp 𝕄) = bigSep Finset.univ fun p : Fin 2 × Fin 16 => hL d main_v2 ↦[rin (2 * p.2.val + p.1.val)]{fullShare} f :=
  rows_eq (ℓ := hL d main_v2) (fun j => (j 0).val) (fun j => Nat.lt_of_lt_of_le (j 0).isLt (show 8 ≤ 32 by decide)) rin (fun r j => by simp only [rin, Finset.mem_filter, Finset.mem_univ, _root_.true_and]) f
theorem in1_rows (d : Dev nD) (f : S8x20016.Idx → F .f32) :
    (hL d main_v5 ↦{fullShare} f : sProp 𝕄) = bigSep Finset.univ fun p : Fin 2 × Fin 16 => hL d main_v5 ↦[rin (2 * p.2.val + p.1.val)]{fullShare} f :=
  rows_eq (ℓ := hL d main_v5) (fun j => (j 0).val) (fun j => Nat.lt_of_lt_of_le (j 0).isLt (show 8 ≤ 32 by decide)) rin (fun r j => by simp only [rin, Finset.mem_filter, Finset.mem_univ, _root_.true_and]) f
theorem in2_rows (d : Dev nD) (f : S8x20016.Idx → F .f32) :
    (hL d main_v8 ↦{fullShare} f : sProp 𝕄) = bigSep Finset.univ fun p : Fin 2 × Fin 16 => hL d main_v8 ↦[rin (2 * p.2.val + p.1.val)]{fullShare} f :=
  rows_eq (ℓ := hL d main_v8) (fun j => (j 0).val) (fun j => Nat.lt_of_lt_of_le (j 0).isLt (show 8 ≤ 32 by decide)) rin (fun r j => by simp only [rin, Finset.mem_filter, Finset.mem_univ, _root_.true_and]) f
theorem in3_rows (d : Dev nD) (f : S8x20016.Idx → F .f32) :
    (hL d main_v11 ↦{fullShare} f : sProp 𝕄) = bigSep Finset.univ fun p : Fin 2 × Fin 16 => hL d main_v11 ↦[rin (2 * p.2.val + p.1.val)]{fullShare} f :=
  rows_eq (ℓ := hL d main_v11) (fun j => (j 0).val) (fun j => Nat.lt_of_lt_of_le (j 0).isLt (show 8 ≤ 32 by decide)) rin (fun r j => by simp only [rin, Finset.mem_filter, Finset.mem_univ, _root_.true_and]) f
theorem in4_rows (d : Dev nD) (f : S8x20016.Idx → F .f32) :
    (hL d main_v12 ↦{fullShare} f : sProp 𝕄) = bigSep Finset.univ fun p : Fin 2 × Fin 16 => hL d main_v12 ↦[rin (2 * p.2.val + p.1.val)]{fullShare} f :=
  rows_eq (ℓ := hL d main_v12) (fun j => (j 0).val) (fun j => Nat.lt_of_lt_of_le (j 0).isLt (show 8 ≤ 32 by decide)) rin (fun r j => by simp only [rin, Finset.mem_filter, Finset.mem_univ, _root_.true_and]) f
theorem out0_rows (d : Dev nD) (f : S8x112.Idx → F .f32) :
    (hL d main_v13_0 ↦{fullShare} f : sProp 𝕄) = bigSep Finset.univ fun p : Fin 2 × Fin 16 => hL d main_v13_0 ↦[rout (2 * p.2.val + p.1.val)]{fullShare} f :=
  rows_eq (ℓ := hL d main_v13_0) (fun j => (j 0).val) (fun j => Nat.lt_of_lt_of_le (j 0).isLt (show 8 ≤ 32 by decide)) rout (fun r j => by simp only [rout, Finset.mem_filter, Finset.mem_univ, _root_.true_and]) f
theorem out1_rows (d : Dev nD) (f : S8x112.Idx → F .f32) :
    (hL d main_v13_1 ↦{fullShare} f : sProp 𝕄) = bigSep Finset.univ fun p : Fin 2 × Fin 16 => hL d main_v13_1 ↦[rout (2 * p.2.val + p.1.val)]{fullShare} f :=
  rows_eq (ℓ := hL d main_v13_1) (fun j => (j 0).val) (fun j => Nat.lt_of_lt_of_le (j 0).isLt (show 8 ≤ 32 by decide)) rout (fun r j => by simp only [rout, Finset.mem_filter, Finset.mem_univ, _root_.true_and]) f
theorem out2_rows (d : Dev nD) (f : S8x112.Idx → F .f32) :
    (hL d main_v13_2 ↦{fullShare} f : sProp 𝕄) = bigSep Finset.univ fun p : Fin 2 × Fin 16 => hL d main_v13_2 ↦[rout (2 * p.2.val + p.1.val)]{fullShare} f :=
  rows_eq (ℓ := hL d main_v13_2) (fun j => (j 0).val) (fun j => Nat.lt_of_lt_of_le (j 0).isLt (show 8 ≤ 32 by decide)) rout (fun r j => by simp only [rout, Finset.mem_filter, Finset.mem_univ, _root_.true_and]) f
theorem out3_rows (d : Dev nD) (f : S8x112.Idx → F .f32) :
    (hL d main_v13_3 ↦{fullShare} f : sProp 𝕄) = bigSep Finset.univ fun p : Fin 2 × Fin 16 => hL d main_v13_3 ↦[rout (2 * p.2.val + p.1.val)]{fullShare} f :=
  rows_eq (ℓ := hL d main_v13_3) (fun j => (j 0).val) (fun j => Nat.lt_of_lt_of_le (j 0).isLt (show 8 ≤ 32 by decide)) rout (fun r j => by simp only [rout, Finset.mem_filter, Finset.mem_univ, _root_.true_and]) f
theorem out4_rows (d : Dev nD) (f : S8x112.Idx → F .f32) :
    (hL d main_v13_4 ↦{fullShare} f : sProp 𝕄) = bigSep Finset.univ fun p : Fin 2 × Fin 16 => hL d main_v13_4 ↦[rout (2 * p.2.val + p.1.val)]{fullShare} f :=
  rows_eq (ℓ := hL d main_v13_4) (fun j => (j 0).val) (fun j => Nat.lt_of_lt_of_le (j 0).isLt (show 8 ≤ 32 by decide)) rout (fun r j => by simp only [rout, Finset.mem_filter, Finset.mem_univ, _root_.true_and]) f

/-- The arrays the call reads, whole. -/
def inW (d : Dev nD) (A : Ins F) : sProp 𝕄 := iprop((hL d main_v2 ↦{fullShare} A.A0) ∗ (hL d main_v5 ↦{fullShare} A.A1) ∗ (hL d main_v8 ↦{fullShare} A.A2) ∗ (hL d main_v11 ↦{fullShare} A.A3) ∗ (hL d main_v12 ↦{fullShare} A.A4))
/-- The arrays the call writes, whole. -/
def outW (d : Dev nD) (G : Outs F) : sProp 𝕄 := iprop((hL d main_v13_0 ↦{fullShare} G.B0) ∗ (hL d main_v13_1 ↦{fullShare} G.B1) ∗ (hL d main_v13_2 ↦{fullShare} G.B2) ∗ (hL d main_v13_3 ↦{fullShare} G.B3) ∗ (hL d main_v13_4 ↦{fullShare} G.B4))

theorem inW_rows (d : Dev nD) (A : Ins F) : (inW d A : sProp 𝕄) = bigSep Finset.univ fun p : Fin 2 × Fin 16 => tin d A (2 * p.2.val + p.1.val) := by
  unfold inW tin
  rw [bigSep_sep', bigSep_sep', bigSep_sep', bigSep_sep', in0_rows, in1_rows, in2_rows, in3_rows, in4_rows]

/-- The rows of the arrays written, at whole arrays. -/
def toutG (d : Dev nD) (G : Outs F) (r : ℕ) : sProp 𝕄 := iprop((hL d main_v13_0 ↦[rout r]{fullShare} G.B0) ∗ (hL d main_v13_1 ↦[rout r]{fullShare} G.B1) ∗ (hL d main_v13_2 ↦[rout r]{fullShare} G.B2) ∗ (hL d main_v13_3 ↦[rout r]{fullShare} G.B3) ∗ (hL d main_v13_4 ↦[rout r]{fullShare} G.B4))

theorem outW_rows (d : Dev nD) (G : Outs F) : (outW d G : sProp 𝕄) = bigSep Finset.univ fun p : Fin 2 × Fin 16 => toutG d G (2 * p.2.val + p.1.val) := by
  unfold outW toutG
  rw [bigSep_sep', bigSep_sep', bigSep_sep', bigSep_sep', out0_rows, out1_rows, out2_rows, out3_rows, out4_rows]

/-- The arrays made of the tiles' rows. -/
def gather (Z : ℕ → Out F) : Outs F := ⟨fun j => (Z (j 0).val).o0 (j 1).val, fun j => (Z (j 0).val).o1 (j 1).val, fun j => (Z (j 0).val).o2 (j 1).val, fun j => (Z (j 0).val).o3 (j 1).val, fun j => (Z (j 0).val).o4 (j 1).val⟩

theorem tout_gather (d : Dev nD) (Z : ℕ → Out F) (r : ℕ) : (tout d r (Z r) : sProp 𝕄) = toutG d (gather Z) r := by
  have h : ∀ (k : Out F → ℕ → F .f32) (j : S8x112.Idx), j ∈ rout r → k (Z r) (j 1).val = k (Z (j 0).val) (j 1).val := by
    intro k j hj
    rw [(Finset.mem_filter.mp hj).2]
  unfold tout toutG gather
  rw [pointsTo_congr (ℓ := hL d main_v13_0) (h Out.o0), pointsTo_congr (ℓ := hL d main_v13_1) (h Out.o1), pointsTo_congr (ℓ := hL d main_v13_2) (h Out.o2), pointsTo_congr (ℓ := hL d main_v13_3) (h Out.o3), pointsTo_congr (ℓ := hL d main_v13_4) (h Out.o4)]

theorem toutG_some (d : Dev nD) (G : Outs F) (r : ℕ) : (toutG d G r : sProp 𝕄) = tout d r ⟨fun n => G.B0 (pout r n), fun n => G.B1 (pout r n), fun n => G.B2 (pout r n), fun n => G.B3 (pout r n), fun n => G.B4 (pout r n)⟩ := by
  have h : ∀ (k : S8x112.Idx → F .f32) (j : S8x112.Idx), j ∈ rout r → k j = k (pout r (j 1).val) := by
    intro k j hj
    rw [pout_eq j r (Finset.mem_filter.mp hj).2]
  unfold tout toutG
  rw [pointsTo_congr (ℓ := hL d main_v13_0) (h G.B0), pointsTo_congr (ℓ := hL d main_v13_1) (h G.B1), pointsTo_congr (ℓ := hL d main_v13_2) (h G.B2), pointsTo_congr (ℓ := hL d main_v13_3) (h G.B3), pointsTo_congr (ℓ := hL d main_v13_4) (h G.B4)]

instance : Nonempty (Out F) := ⟨⟨fun _ => Scalar.ofBits .f32 0#32, fun _ => Scalar.ofBits .f32 0#32, fun _ => Scalar.ofBits .f32 0#32, fun _ => Scalar.ofBits .f32 0#32, fun _ => Scalar.ofBits .f32 0#32⟩⟩

/-- What the call leaves: every row of the arrays written is a tile's result. -/
def Post (A : Ins F) (G : Outs F) : Prop := ∃ Z : ℕ → Out F, G = gather Z ∧ ∀ r < 8, Res (A.row r) (Z r)

/-- What the call is handed, all tiles together. -/
theorem st_eq (A : Dev nD → Ins F) (d : Dev nD) :
    (bigSep Finset.univ fun c : Fin ((K (F := F)).nCore 0) => (P A).st 0 d c) = (bigSep Finset.univ fun p : Fin 2 × Fin 16 => tgo d (A d) (2 * p.2.val + p.1.val) : sProp 𝕄) :=
  (bigSep_univ_prod (fun p : Fin 2 × Fin 16 => tgo (F := F) d (A d) (2 * p.2.val + p.1.val))).symm
/-- What the call hands back, all tiles together. -/
theorem dn_eq (A : Dev nD → Ins F) (d : Dev nD) :
    (bigSep Finset.univ fun c : Fin ((K (F := F)).nCore 0) => (P A).dn 0 d c) = (bigSep Finset.univ fun p : Fin 2 × Fin 16 => ttd d (A d) (2 * p.2.val + p.1.val) : sProp 𝕄) :=
  (bigSep_univ_prod (fun p : Fin 2 × Fin 16 => ttd (F := F) d (A d) (2 * p.2.val + p.1.val))).symm

theorem toutG_ex (d : Dev nD) (G : Outs F) (r : ℕ) : (toutG d G r : sProp 𝕄) ⊢ iprop(∃ z : Out F, tout d r z) := by
  rw [toutG_some]
  iintro H
  iexists _
  iexact H

theorem st_intro (A : Ins F) (d : Dev nD) (G : Outs F) :
    iprop(inW d A ∗ outW d G) ⊢ (bigSep Finset.univ fun p : Fin 2 × Fin 16 => tgo d A (2 * p.2.val + p.1.val) : sProp 𝕄) := by
  have h : (bigSep Finset.univ fun p : Fin 2 × Fin 16 => toutG d G (2 * p.2.val + p.1.val) : sProp 𝕄) ⊢ bigSep Finset.univ fun p : Fin 2 × Fin 16 => iprop(∃ z : Out F, tout d (2 * p.2.val + p.1.val) z) :=
    bigSep_mono fun p _ => toutG_ex d G _
  unfold tgo
  rw [bigSep_sep', inW_rows, outW_rows]
  iintro ⟨Hi, Ho⟩
  isplitl [Hi]; · iexact Hi
  iapply h; iexact Ho

/-- The tile of a row. -/
def tileOf (r : ℕ) : Fin 2 × Fin 16 := (⟨r % 2, Nat.mod_lt _ (by decide)⟩, ⟨r / 2 % 16, Nat.mod_lt _ (by decide)⟩)

theorem dn_elim (A : Ins F) (d : Dev nD) :
    (bigSep Finset.univ fun p : Fin 2 × Fin 16 => ttd d A (2 * p.2.val + p.1.val) : sProp 𝕄) ⊢ iprop(inW d A ∗ ∃ G, ⌜Post A G⌝ ∗ outW d G) := by
  unfold ttd
  rw [bigSep_sep', ← inW_rows]
  iintro ⟨Hi, Ho⟩
  isplitl [Hi]; · iexact Hi
  ihave H := (bigSep_exists_pi Finset.univ (fun (p : Fin 2 × Fin 16) (z : Out F) => iprop(⌜2 * p.2.val + p.1.val < 8 → Res (A.row (2 * p.2.val + p.1.val)) z⌝ ∗ tout d (2 * p.2.val + p.1.val) z))) $$ Ho
  icases H with ⟨%Z, H⟩
  ihave H := (bigSep_pure_sep Finset.univ (fun p : Fin 2 × Fin 16 => 2 * p.2.val + p.1.val < 8 → Res (A.row (2 * p.2.val + p.1.val)) (Z p)) (fun p => tout d (2 * p.2.val + p.1.val) (Z p))) $$ H
  icases H with ⟨%hZ, H⟩
  have ht : ∀ p : Fin 2 × Fin 16, tileOf (2 * p.2.val + p.1.val) = p := by decide
  have he : (bigSep Finset.univ fun p : Fin 2 × Fin 16 => tout (F := F) d (2 * p.2.val + p.1.val) (Z p) : sProp 𝕄) = outW d (gather fun r => Z (tileOf r)) := by
    rw [outW_rows]
    exact bigSep_congr fun p _ => by rw [← tout_gather d (fun r => Z (tileOf r)), ht p]
  iexists gather fun r => Z (tileOf r)
  isplitr
  · ipureintro
    refine ⟨_, rfl, fun r hr => ?_⟩
    have h := hZ (tileOf r) (Finset.mem_univ _)
    have e : 2 * (tileOf r).2.val + (tileOf r).1.val = r := by show 2 * (r / 2 % 16) + r % 2 = r; omega
    rw [e] at h
    exact h hr
  · iapply (Entails.of_eq he); iexact H

/-! ## The program's buffers -/

/-- The ten arrays of the call. -/
def ten : Finset (Ref sig .tc) := {main_v2, main_v5, main_v8, main_v11, main_v12, main_v13_0, main_v13_1, main_v13_2, main_v13_3, main_v13_4}
/-- The same, as buffers of the device. -/
def ten' : Finset (DevRef τ sig) := ten.map ⟨Proc.devRef .tc, Proc.devRef_injective _⟩
theorem ten_sub : ten' ⊆ Pipeline.ucRefs τ sig := by
  intro b hb
  obtain ⟨r, hr, rfl⟩ := Finset.mem_map.mp hb
  refine Finset.mem_filter.mpr ⟨StableHlo.devRef_mem_tcRefs r, ?_⟩
  have hs : r.isScoped = false := by
    clear hb
    revert r
    unfold ten
    decide
  show ¬ (Proc.devRef (τ := τ) .tc r).isScoped = true
  intro h
  exact Bool.false_ne_true (hs.symm.trans h)

/-- A reading of the five arrays read. -/
def insOf (V : Valuation τ sig (Elt F)) : Ins F := ⟨V (Proc.devRef .tc main_v2), V (Proc.devRef .tc main_v5), V (Proc.devRef .tc main_v8), V (Proc.devRef .tc main_v11), V (Proc.devRef .tc main_v12)⟩
/-- A reading of the five arrays written. -/
def outsOf (V : Valuation τ sig (Elt F)) : Outs F := ⟨V (Proc.devRef .tc main_v13_0), V (Proc.devRef .tc main_v13_1), V (Proc.devRef .tc main_v13_2), V (Proc.devRef .tc main_v13_3), V (Proc.devRef .tc main_v13_4)⟩

theorem held_ten (d : Dev nD) (V : Valuation τ sig (Elt F)) : (held (SparseCore.T d) ten' V : sProp 𝕄) = iprop(inW d (insOf V) ∗ outW d (outsOf V)) := by
  unfold held ten'
  rw [bigSep_map]
  unfold ten inW outW insOf outsOf
  rw [SparseCore.bigSep_insert' (show (main_v2 : Ref sig .tc) ∉ ({main_v5, main_v8, main_v11, main_v12, main_v13_0, main_v13_1, main_v13_2, main_v13_3, main_v13_4} : Finset (Ref sig .tc)) by decide), SparseCore.bigSep_insert' (show (main_v5 : Ref sig .tc) ∉ ({main_v8, main_v11, main_v12, main_v13_0, main_v13_1, main_v13_2, main_v13_3, main_v13_4} : Finset (Ref sig .tc)) by decide), SparseCore.bigSep_insert' (show (main_v8 : Ref sig .tc) ∉ ({main_v11, main_v12, main_v13_0, main_v13_1, main_v13_2, main_v13_3, main_v13_4} : Finset (Ref sig .tc)) by decide), SparseCore.bigSep_insert' (show (main_v11 : Ref sig .tc) ∉ ({main_v12, main_v13_0, main_v13_1, main_v13_2, main_v13_3, main_v13_4} : Finset (Ref sig .tc)) by decide), SparseCore.bigSep_insert' (show (main_v12 : Ref sig .tc) ∉ ({main_v13_0, main_v13_1, main_v13_2, main_v13_3, main_v13_4} : Finset (Ref sig .tc)) by decide), SparseCore.bigSep_insert' (show (main_v13_0 : Ref sig .tc) ∉ ({main_v13_1, main_v13_2, main_v13_3, main_v13_4} : Finset (Ref sig .tc)) by decide), SparseCore.bigSep_insert' (show (main_v13_1 : Ref sig .tc) ∉ ({main_v13_2, main_v13_3, main_v13_4} : Finset (Ref sig .tc)) by decide), SparseCore.bigSep_insert' (show (main_v13_2 : Ref sig .tc) ∉ ({main_v13_3, main_v13_4} : Finset (Ref sig .tc)) by decide), SparseCore.bigSep_insert' (show (main_v13_3 : Ref sig .tc) ∉ ({main_v13_4} : Finset (Ref sig .tc)) by decide), bigSep_singleton]
  show (iprop((hL d main_v2 ↦{fullShare} V (Proc.devRef .tc main_v2)) ∗ (hL d main_v5 ↦{fullShare} V (Proc.devRef .tc main_v5)) ∗ (hL d main_v8 ↦{fullShare} V (Proc.devRef .tc main_v8)) ∗ (hL d main_v11 ↦{fullShare} V (Proc.devRef .tc main_v11)) ∗ (hL d main_v12 ↦{fullShare} V (Proc.devRef .tc main_v12)) ∗ (hL d main_v13_0 ↦{fullShare} V (Proc.devRef .tc main_v13_0)) ∗ (hL d main_v13_1 ↦{fullShare} V (Proc.devRef .tc main_v13_1)) ∗ (hL d main_v13_2 ↦{fullShare} V (Proc.devRef .tc main_v13_2)) ∗ (hL d main_v13_3 ↦{fullShare} V (Proc.devRef .tc main_v13_3)) ∗ (hL d main_v13_4 ↦{fullShare} V (Proc.devRef .tc main_v13_4))) : sProp 𝕄) = (iprop(((hL d main_v2 ↦{fullShare} V (Proc.devRef .tc main_v2)) ∗ (hL d main_v5 ↦{fullShare} V (Proc.devRef .tc main_v5)) ∗ (hL d main_v8 ↦{fullShare} V (Proc.devRef .tc main_v8)) ∗ (hL d main_v11 ↦{fullShare} V (Proc.devRef .tc main_v11)) ∗ (hL d main_v12 ↦{fullShare} V (Proc.devRef .tc main_v12))) ∗ (hL d main_v13_0 ↦{fullShare} V (Proc.devRef .tc main_v13_0)) ∗ (hL d main_v13_1 ↦{fullShare} V (Proc.devRef .tc main_v13_1)) ∗ (hL d main_v13_2 ↦{fullShare} V (Proc.devRef .tc main_v13_2)) ∗ (hL d main_v13_3 ↦{fullShare} V (Proc.devRef .tc main_v13_3)) ∗ (hL d main_v13_4 ↦{fullShare} V (Proc.devRef .tc main_v13_4))) : sProp 𝕄)
  simp only [star_assoc]

/-- The device's buffers with the arrays written replaced. -/
def putOuts (V : Valuation τ sig (Elt F)) (G : Outs F) : Valuation τ sig (Elt F) :=
  Function.update (Function.update (Function.update (Function.update (Function.update (V) (Proc.devRef .tc main_v13_0) G.B0) (Proc.devRef .tc main_v13_1) G.B1) (Proc.devRef .tc main_v13_2) G.B2) (Proc.devRef .tc main_v13_3) G.B3) (Proc.devRef .tc main_v13_4) G.B4

theorem putOuts_ne (V : Valuation τ sig (Elt F)) (G : Outs F) (r : Ref sig .tc) (h : r ∉ ({main_v13_0, main_v13_1, main_v13_2, main_v13_3, main_v13_4} : Finset (Ref sig .tc))) :
    putOuts V G (Proc.devRef .tc r) = V (Proc.devRef .tc r) := by
  simp only [Finset.mem_insert, Finset.mem_singleton, not_or] at h
  obtain ⟨h0, h1, h2, h3, h4⟩ := h
  unfold putOuts
  rw [Function.update_of_ne (StableHlo.devRef_ne_of_ne h4), Function.update_of_ne (StableHlo.devRef_ne_of_ne h3), Function.update_of_ne (StableHlo.devRef_ne_of_ne h2), Function.update_of_ne (StableHlo.devRef_ne_of_ne h1), Function.update_of_ne (StableHlo.devRef_ne_of_ne h0)]

theorem putOuts_0 (V : Valuation τ sig (Elt F)) (G : Outs F) : putOuts V G (Proc.devRef .tc main_v13_0) = G.B0 := by
  unfold putOuts
  rw [Function.update_of_ne (StableHlo.devRef_ne_of_ne (show (main_v13_0 : Ref sig .tc) ≠ main_v13_4 by decide)), Function.update_of_ne (StableHlo.devRef_ne_of_ne (show (main_v13_0 : Ref sig .tc) ≠ main_v13_3 by decide)), Function.update_of_ne (StableHlo.devRef_ne_of_ne (show (main_v13_0 : Ref sig .tc) ≠ main_v13_2 by decide)), Function.update_of_ne (StableHlo.devRef_ne_of_ne (show (main_v13_0 : Ref sig .tc) ≠ main_v13_1 by decide)), Function.update_self]
theorem putOuts_1 (V : Valuation τ sig (Elt F)) (G : Outs F) : putOuts V G (Proc.devRef .tc main_v13_1) = G.B1 := by
  unfold putOuts
  rw [Function.update_of_ne (StableHlo.devRef_ne_of_ne (show (main_v13_1 : Ref sig .tc) ≠ main_v13_4 by decide)), Function.update_of_ne (StableHlo.devRef_ne_of_ne (show (main_v13_1 : Ref sig .tc) ≠ main_v13_3 by decide)), Function.update_of_ne (StableHlo.devRef_ne_of_ne (show (main_v13_1 : Ref sig .tc) ≠ main_v13_2 by decide)), Function.update_self]
theorem putOuts_2 (V : Valuation τ sig (Elt F)) (G : Outs F) : putOuts V G (Proc.devRef .tc main_v13_2) = G.B2 := by
  unfold putOuts
  rw [Function.update_of_ne (StableHlo.devRef_ne_of_ne (show (main_v13_2 : Ref sig .tc) ≠ main_v13_4 by decide)), Function.update_of_ne (StableHlo.devRef_ne_of_ne (show (main_v13_2 : Ref sig .tc) ≠ main_v13_3 by decide)), Function.update_self]
theorem putOuts_3 (V : Valuation τ sig (Elt F)) (G : Outs F) : putOuts V G (Proc.devRef .tc main_v13_3) = G.B3 := by
  unfold putOuts
  rw [Function.update_of_ne (StableHlo.devRef_ne_of_ne (show (main_v13_3 : Ref sig .tc) ≠ main_v13_4 by decide)), Function.update_self]
theorem putOuts_4 (V : Valuation τ sig (Elt F)) (G : Outs F) : putOuts V G (Proc.devRef .tc main_v13_4) = G.B4 := by
  unfold putOuts
  rw [Function.update_self]

theorem insOf_putOuts (V : Valuation τ sig (Elt F)) (G : Outs F) : insOf (putOuts V G) = insOf V := by
  unfold insOf
  rw [putOuts_ne V G main_v2 (by decide), putOuts_ne V G main_v5 (by decide), putOuts_ne V G main_v8 (by decide), putOuts_ne V G main_v11 (by decide), putOuts_ne V G main_v12 (by decide)]
theorem outsOf_putOuts (V : Valuation τ sig (Elt F)) (G : Outs F) : outsOf (putOuts V G) = G := by
  unfold outsOf
  rw [putOuts_0, putOuts_1, putOuts_2, putOuts_3, putOuts_4]

theorem rest_putOuts (d : Dev nD) (V : Valuation τ sig (Elt F)) (G : Outs F) :
    (held (SparseCore.T d) (Pipeline.ucRefs τ sig \ ten') (putOuts V G) : sProp 𝕄) = held (SparseCore.T d) (Pipeline.ucRefs τ sig \ ten') V := by
  refine StableHlo.held_congr _ fun b hb => ?_
  have hb' := (Finset.mem_sdiff.mp hb).2
  have h : ∀ r ∈ ten, b ≠ Proc.devRef .tc r := fun r hr e => hb' (e ▸ Finset.mem_map_of_mem _ hr)
  unfold putOuts
  rw [Function.update_of_ne (h main_v13_4 (by decide)), Function.update_of_ne (h main_v13_3 (by decide)), Function.update_of_ne (h main_v13_2 (by decide)), Function.update_of_ne (h main_v13_1 (by decide)), Function.update_of_ne (h main_v13_0 (by decide))]

/-! ## The program's run -/

variable (m : (ℓ : Loc nD τ sig) → Buf (Elt F) ℓ) (ρ : Dev nD → PrngReg)

/-- The buffers when the call starts. -/
abbrev V1 (d : Dev nD) : Valuation τ sig (Elt F) := after pre fun b => m (d, b)
/-- The arrays the call reads. -/
def insM (d : Dev nD) : Ins F := insOf (V1 m d)
/-- The buffers when the program ends. -/
def V3 (d : Dev nD) (G : Outs F) : Valuation τ sig (Elt F) := after post (putOuts (V1 m d) G)

/-- What the program's thread ends holding. -/
def FIN (d : Dev nD) : sProp 𝕄 := iprop(∃ G, ⌜Post (insM m d) G⌝ ∗ held (SparseCore.T d) (Pipeline.ucRefs τ sig) (V3 m d G))

/-- The launch's ghost state. -/
def u₀ : UU := (initOf (K (F := F)).hsCells (K (F := F)).hsToks, 1)

theorem none_held {I : Type} (s : Finset I) : (bigSep s fun _ => iprop(emp)) = (iprop(emp) : sProp 𝕄) := bigSep_emp_const s

theorem hu₀ (A : Dev nD → Ins F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [none_held]; iempintro
  rw [show (bigSep Finset.univ fun thr : Thread nD τ => bigSep Finset.univ fun q : Fin 1 => (P A).x q thr) = bigSep Finset.univ fun _ => (iprop(emp) : sProp 𝕄) from
    bigSep_congr fun _ _ => bigSep_univ_of_subsingleton (0 : Fin 1), none_held]
  iempintro

set_option backward.isDefEq.respectTransparency.types false in
/-- The program on the device's main thread. -/
theorem hmain (κ : GSem nD τ sig → ℕ) (d : Dev nD) :
    iprop((K (F := F)).ctx EH (P (insM m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (fun b => m (d, b)) from Pipeline.unscopedBufs_held d (fun b => m (d, b))]
  rw [main_eq]
  iintro ⟨#Hctx, Hst, ⟨Hb, Hheld, Hts, -⟩, -⟩
  iapply (StableHlo.wp_seq 𝒱 none Set.univ d (Pipeline.ucRefs τ sig) (fun _ => ((K (F := F)).run d 0 >>= fun _ => seq post >>= fun u => Pure.pure u)) pre pre_bufs pre_fresh (fun b => m (d, b))) $$ [Hb Hheld]
  · isplitl [Hb]; · iexact Hb
    iexact Hheld
  iintro ⟨Hb, Hheld⟩
  ihave Hh := (Entails.of_eq ((StableHlo.held_sub_split (SparseCore.T d) ten_sub (V1 m d)).trans (by rw [held_ten]))) $$ Hheld
  icases Hh with ⟨⟨Hi, Ho⟩, Hrest⟩
  rw [wp_bind]
  iapply ((K (F := F)).wp_run (D (F := F)) 𝒱 (EH := EH) (P := P (insM m)) κ d 0) $$ [Hst Hi Ho Hb Hrest Hts]
  isplitr; · iexact Hctx
  isplitl [Hst]; · iexact Hst
  isplitl [Hi Ho]
  · rw [st_eq]
    iapply (st_intro (insM m d) d (outsOf (V1 m d)))
    isplitl [Hi]; · iexact Hi
    iexact Ho
  iintro ⟨Hst, Hdn⟩
  ihave Hdn := (Entails.of_eq (dn_eq (insM m) d)) $$ Hdn
  ihave Hdn' := (dn_elim (insM m d) d) $$ Hdn
  icases Hdn' with ⟨Hi, %G, %hG, Ho⟩
  iapply (StableHlo.wp_seq 𝒱 none Set.univ d (Pipeline.ucRefs τ sig) (fun u => Pure.pure u) post post_bufs post_fresh (putOuts (V1 m d) G)) $$ [Hb Hi Ho Hrest]
  · isplitl [Hb]; · iexact Hb
    iapply (Entails.of_eq (((StableHlo.held_sub_split (SparseCore.T d) ten_sub (putOuts (V1 m d) G)).trans (by rw [held_ten, insOf_putOuts, outsOf_putOuts, rest_putOuts])).symm))
    isplitl [Hi Ho]
    · isplitl [Hi]; · iexact Hi
      iexact Ho
    iexact Hrest
  iintro ⟨Hb, Hheld⟩
  rw [wp_pure]; imodintro
  isplitl [Hst]; · iexact Hst
  isplitr [Hb Hts]
  · unfold FIN
    iexists G
    isplitr; · ipureintro; exact hG
    iexact Hheld
  isplitl [Hb] <;> iassumption

/-- What the memory holds when the program has ended. -/
def Ends (d : Dev nD) (mem : (ℓ : Loc nD τ sig) → Buf (Elt F) ℓ) : Prop :=
  ∃ G, Post (insM m d) G ∧ ∀ b ∈ Pipeline.ucRefs τ sig, mem (d, b) = V3 m d G b

theorem hfin (d : Dev nD) (s' : Phys nD τ sig (Elt F)) : iprop(FIN m d ∗ SI s') ⊢ (⌜Ends m d s'.mem.mem⌝ : sProp 𝕄) := by
  unfold FIN held
  iintro ⟨⟨%G, %hG, H⟩, HSI⟩
  ihave %h := (SI_pointsTo_bufs_agree (qs := fun _ => fullShare) (Pipeline.ucRefs τ sig)) $$ [HSI H]
  · isplitl [HSI]; · iexact HSI
    iexact H
  ipureintro
  exact ⟨G, hG, h⟩

/-- What the program's run is shown to end in. -/
def QC : PUnit × MemSt nD τ sig (Elt F) → Prop := fun r => (∀ d : Dev nD, Ends m d r.2.mem) ∧ r.2.sem = fun _ => 0

/-- Every run of the program ends, and so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (insM m)) (A := ∅) facts v₀
    (fun q hq => match q with | 0 => nomatch hq)
    (fun q _ => match q with | 0 => tileObl (insM m) facts)
    (fun q _ => match q with | 0 => SparseCore.Cfg.VecSplit.of_plain (vecSplit (insM m)))
    m ρ main (fun _ => iprop(emp)) (FIN m) (u₀ (F := F)) (sep_elim_left.trans (hu₀ (insM m))) (hmain m ρ) (fun d s' => Ends m d s'.mem.mem) (hfin m) (QC m) (fun _ h hz => ⟨h, hz⟩)

theorem mem_uc (r : Ref sig .tc) (h : r.isScoped = false) : Proc.devRef (τ := τ) .tc r ∈ Pipeline.ucRefs τ sig :=
  Finset.mem_filter.mpr ⟨StableHlo.devRef_mem_tcRefs r, fun h' => Bool.false_ne_true (h.symm.trans h')⟩

/-- A buffer that the program writes nowhere ends as it was. -/
theorem ends_kept (d : Dev nD) (mem : (ℓ : Loc nD τ sig) → Buf (Elt F) ℓ) (h : Ends m d mem) (r : Ref sig .tc) (hs : r.isScoped = false)
    (h1 : r ∉ preW) (h2 : r ∉ postW) (h3 : r ∉ ({main_v13_0, main_v13_1, main_v13_2, main_v13_3, main_v13_4} : Finset (Ref sig .tc))) : mem (d, Proc.devRef .tc r) = m (d, Proc.devRef .tc r) := by
  obtain ⟨G, -, h⟩ := h
  rw [h _ (mem_uc r hs), V3, StableHlo.after_of_writes_sub post _ post_writes h2, putOuts_ne _ _ _ h3, V1, StableHlo.after_of_writes_sub pre _ pre_writes h1]

end Cert.Proof.Nms
-- ==== Proof.Frames.lean ====
/-
  The frames of the kernel: it ends, its arguments are as they were, no counter is left standing.
-/
module

public import proofs.«01_k».proof.Defs
public import proofs.«01_k».proof.Proof.Gen.Kernel
public import proofs.«01_k».proof.Proof.Launch

@[expose] public section

set_option maxHeartbeats 8000000
set_option maxRecDepth 16384

noncomputable section

namespace Cert.Proof.Nms

open Idealize.ShloMosaic Idealize.SL.Sem

/-- The program over the ideal numbers ends with its two arguments unchanged and every counter at zero. -/
theorem frame_ideal : Cert.quiescent_KernelIdeal := fun m ρ _ =>
  (θ_run Cert.KernelIdeal.defs _ _).mono
    (fun _ h => ⟨fun d => ⟨ends_kept m d _ (h.1 d) Cert.KernelIdeal.main_arg0 (by decide) (by decide) (by decide) (by decide),
      ends_kept m d _ (h.1 d) Cert.KernelIdeal.main_arg1 (by decide) (by decide) (by decide) (by decide)⟩, h.2⟩)
    (run_main m ρ)

/-- The program over the machine's own numbers ends with its two arguments unchanged and every counter at zero. -/
theorem frame_kernel : Cert.quiescent_Kernel := fun m ρ _ =>
  (θ_run Cert.KernelIdeal.defs _ _).mono
    (fun _ h => ⟨fun d => ⟨ends_kept (F := Bits) m d _ (h.1 d) Cert.KernelIdeal.main_arg0 (by decide) (by decide) (by decide) (by decide),
      ends_kept (F := Bits) m d _ (h.1 d) Cert.KernelIdeal.main_arg1 (by decide) (by decide) (by decide) (by decide)⟩, h.2⟩)
    (run_main (F := Bits) m ρ)

end Cert.Proof.Nms
-- ==== Proof.Ref.lean ====
/-
  The reference's run: the operations before its loop, a hundred trips, the operations after it.
-/
module

public import proofs.«01_k».proof.Defs
public import proofs.«01_k».proof.Proof.Gen.ReferenceIdeal
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.QuiescentFlight
public import Idealize.ShloMosaic.Adequacy
public import Idealize.ShloMosaic.Init

@[expose] public section

set_option maxRecDepth 16384
set_option maxHeartbeats 4000000

noncomputable section

namespace Cert.Proof.Ref

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo (held after seq afterL Plain atTrip entryContents finalContents CondSpec)

variable {F : FTy → Type} [FloatOps F]

/-- The operations before the loop: the masked scores, the empty records. -/
def rp : List (HloOp τ sig (Elt F)) := [
    StableHlo.unary main_arg0 main_v0 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    StableHlo.reshape main_v0 main_v1 (rfl : (.f32 : EltTy) = .f32) shapeCasts_S8x20000x1_S8x20000,
    StableHlo.unary main_arg0 main_v2 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    StableHlo.reshape main_v2 main_v3 (rfl : (.f32 : EltTy) = .f32) shapeCasts_S8x20000x1_S8x20000,
    StableHlo.binary main_v1 main_v3 main_v4 (subf : (⟨S8x20000, .f32⟩ : BufTy).Contents (Elt F) → (⟨S8x20000, .f32⟩ : BufTy).Contents (Elt F) → (⟨S8x20000, .f32⟩ : BufTy).Contents (Elt F)),
    StableHlo.unary main_arg0 main_v5 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    StableHlo.reshape main_v5 main_v6 (rfl : (.f32 : EltTy) = .f32) shapeCasts_S8x20000x1_S8x20000,
    StableHlo.unary main_arg0 main_v7 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    StableHlo.reshape main_v7 main_v8 (rfl : (.f32 : EltTy) = .f32) shapeCasts_S8x20000x1_S8x20000,
    StableHlo.binary main_v6 main_v8 main_v9 (subf : (⟨S8x20000, .f32⟩ : BufTy).Contents (Elt F) → (⟨S8x20000, .f32⟩ : BufTy).Contents (Elt F) → (⟨S8x20000, .f32⟩ : BufTy).Contents (Elt F)),
    StableHlo.binary main_v4 main_v9 main_v10 (mulf : (⟨S8x20000, .f32⟩ : BufTy).Contents (Elt F) → (⟨S8x20000, .f32⟩ : BufTy).Contents (Elt F) → (⟨S8x20000, .f32⟩ : BufTy).Contents (Elt F)),
    StableHlo.nullary main_cst (constant S_ .f32 0x44000000#32),
    StableHlo.unary main_cst main_v11 (broadcastInDim S8x20000 ![] bcast_S_S8x20000 : (⟨S_, .f32⟩ : BufTy).Contents (Elt F) → (⟨S8x20000, .f32⟩ : BufTy).Contents (Elt F)),
    StableHlo.binary main_v9 main_v11 main_v12 (Host.divf : (⟨S8x20000, .f32⟩ : BufTy).Contents (Elt F) → (⟨S8x20000, .f32⟩ : BufTy).Contents (Elt F) → (⟨S8x20000, .f32⟩ : BufTy).Contents (Elt F)),
    StableHlo.nullary main_cst_0 (constant S_ .f32 0x3F800000#32),
    StableHlo.unary main_cst_0 main_v13 (broadcastInDim S8x20000 ![] bcast_S_S8x20000 : (⟨S_, .f32⟩ : BufTy).Contents (Elt F) → (⟨S8x20000, .f32⟩ : BufTy).Contents (Elt F)),
    StableHlo.binary main_v12 main_v13 main_v14 (cmpf .ole : (⟨S8x20000, .f32⟩ : BufTy).Contents (Elt F) → (⟨S8x20000, .f32⟩ : BufTy).Contents (Elt F) → (⟨S8x20000, .i1⟩ : BufTy).Contents (Elt F)),
    StableHlo.nullary main_cst_1 (constant S_ .f32 0x44000000#32),
    StableHlo.unary main_cst_1 main_v15 (broadcastInDim S8x20000 ![] bcast_S_S8x20000 : (⟨S_, .f32⟩ : BufTy).Contents (Elt F) → (⟨S8x20000, .f32⟩ : BufTy).Contents (Elt F)),
    StableHlo.binary main_v4 main_v15 main_v16 (Host.divf : (⟨S8x20000, .f32⟩ : BufTy).Contents (Elt F) → (⟨S8x20000, .f32⟩ : BufTy).Contents (Elt F) → (⟨S8x20000, .f32⟩ : BufTy).Contents (Elt F)),
    StableHlo.nullary main_cst_2 (constant S_ .f32 0x3F800000#32),
    StableHlo.unary main_cst_2 main_v17 (broadcastInDim S8x20000 ![] bcast_S_S8x20000 : (⟨S_, .f32⟩ : BufTy).Contents (Elt F) → (⟨S8x20000, .f32⟩ : BufTy).Contents (Elt F)),
    StableHlo.binary main_v16 main_v17 main_v18 (cmpf .ole : (⟨S8x20000, .f32⟩ : BufTy).Contents (Elt F) → (⟨S8x20000, .f32⟩ : BufTy).Contents (Elt F) → (⟨S8x20000, .i1⟩ : BufTy).Contents (Elt F)),
    StableHlo.binary main_v14 main_v18 main_v19 (andi : (⟨S8x20000, .i1⟩ : BufTy).Contents (Elt F) → (⟨S8x20000, .i1⟩ : BufTy).Contents (Elt F) → (⟨S8x20000, .i1⟩ : BufTy).Contents (Elt F)),
    StableHlo.nullary main_cst_3 (constant S_ .f32 0x42C80000#32),
    StableHlo.unary main_cst_3 main_v20 (broadcastInDim S8x20000 ![] bcast_S_S8x20000 : (⟨S_, .f32⟩ : BufTy).Contents (Elt F) → (⟨S8x20000, .f32⟩ : BufTy).Contents (Elt F)),
    StableHlo.binary main_v10 main_v20 main_v21 (cmpf .ogt : (⟨S8x20000, .f32⟩ : BufTy).Contents (Elt F) → (⟨S8x20000, .f32⟩ : BufTy).Contents (Elt F) → (⟨S8x20000, .i1⟩ : BufTy).Contents (Elt F)),
    StableHlo.binary main_v19 main_v21 main_v22 (andi : (⟨S8x20000, .i1⟩ : BufTy).Contents (Elt F) → (⟨S8x20000, .i1⟩ : BufTy).Contents (Elt F) → (⟨S8x20000, .i1⟩ : BufTy).Contents (Elt F)),
    StableHlo.nullary main_cst_4 (constant S_ .f32 0x3ECCCCCD#32),
    StableHlo.unary main_cst_4 main_v23 (broadcastInDim S8x20000 ![] bcast_S_S8x20000 : (⟨S_, .f32⟩ : BufTy).Contents (Elt F) → (⟨S8x20000, .f32⟩ : BufTy).Contents (Elt F)),
    StableHlo.binary main_arg1 main_v23 main_v24 (cmpf .oge : (⟨S8x20000, .f32⟩ : BufTy).Contents (Elt F) → (⟨S8x20000, .f32⟩ : BufTy).Contents (Elt F) → (⟨S8x20000, .i1⟩ : BufTy).Contents (Elt F)),
    StableHlo.binary main_v22 main_v24 main_v25 (andi : (⟨S8x20000, .i1⟩ : BufTy).Contents (Elt F) → (⟨S8x20000, .i1⟩ : BufTy).Contents (Elt F) → (⟨S8x20000, .i1⟩ : BufTy).Contents (Elt F)),
    StableHlo.nullary main_cst_5 (constant S_ .f32 0xBF800000#32),
    StableHlo.TRef.unary (.of main_cst_5 : StableHlo.TRef sig ⟨S_, .f32⟩) main_call0.v0 id,
    StableHlo.TRef.unary main_call0.v0 main_call0.v1 (broadcastInDim S8x20000 ![] bcast_S_S8x20000),
    StableHlo.TRef.ternary (.of main_v25 : StableHlo.TRef sig ⟨S8x20000, .i1⟩) (.of main_arg1 : StableHlo.TRef sig ⟨S8x20000, .f32⟩) main_call0.v1 main_call0.v2 select,
    StableHlo.nullary main_v27 (iotaInDim S20000 32 0),
    StableHlo.unary main_v27 main_v28 (broadcastInDim S1x20000 ![1] bcast_S20000_S1x20000_1 : (⟨S20000, .i32⟩ : BufTy).Contents (Elt F) → (⟨S1x20000, .i32⟩ : BufTy).Contents (Elt F)),
    StableHlo.nullary main_c (constantI S_ 32 0#32),
    StableHlo.unary main_c main_v29 (broadcastInDim S100x8 ![] bcast_S_S100x8 : (⟨S_, .i32⟩ : BufTy).Contents (Elt F) → (⟨S100x8, .i32⟩ : BufTy).Contents (Elt F)),
    StableHlo.nullary main_cst_6 (constant S_ .f32 0x00000000#32),
    StableHlo.unary main_cst_6 main_v30 (broadcastInDim S100x8 ![] bcast_S_S100x8 : (⟨S_, .f32⟩ : BufTy).Contents (Elt F) → (⟨S100x8, .f32⟩ : BufTy).Contents (Elt F)),
    StableHlo.nullary main_c_7 (constantI S_ 32 0#32),
    StableHlo.unary main_arg0 main_v31_0 id,
    StableHlo.unary main_v28 main_v31_1 id,
    StableHlo.unary main_c_7 main_v31_2 id,
    StableHlo.unary main_v26 main_v31_3 id,
    StableHlo.unary main_v29 main_v31_4 id,
    StableHlo.unary main_v30 main_v31_5 id]
/-- What those operations write. -/
def rpW : List (Ref sig .tc) := [main_v0, main_v1, main_v2, main_v3, main_v4, main_v5, main_v6, main_v7, main_v8, main_v9, main_v10, main_cst, main_v11, main_v12, main_cst_0, main_v13, main_v14, main_cst_1, main_v15, main_v16, main_cst_2, main_v17, main_v18, main_v19, main_cst_3, main_v20, main_v21, main_v22, main_cst_4, main_v23, main_v24, main_v25, main_cst_5, main_call0_v0, main_call0_v1, main_v26, main_v27, main_v28, main_c, main_v29, main_cst_6, main_v30, main_c_7, main_v31_0, main_v31_1, main_v31_2, main_v31_3, main_v31_4, main_v31_5]
/-- The body: the row with the largest masked score. -/
def rb1 : List (HloOp τ sig (Elt F)) := [
    StableHlo.TRef.nullary main_while0b_call1.v0 (iotaInDim S8x20000 32 1),
    StableHlo.TRef.nullary main_while0b_call1.cst (constant S_ .f32 0xFF800000#32),
    StableHlo.TRef.nullary main_while0b_call1.c (constantI S_ 32 0#32),
    StableHlo.TRef.quaternary (.of main_v31_3 : StableHlo.TRef sig ⟨S8x20000, .f32⟩) main_while0b_call1.v0 main_while0b_call1.cst main_while0b_call1.c main_while0b_call1.v1_0 (fun x y u v j => (Host.argReduce reducer_argmax_f32_i32 x y u v reducesTo_S8x20000_S8_d1 h_S_ j).1),
    StableHlo.TRef.quaternary (.of main_v31_3 : StableHlo.TRef sig ⟨S8x20000, .f32⟩) main_while0b_call1.v0 main_while0b_call1.cst main_while0b_call1.c main_while0b_call1.v1_1 (fun x y u v j => (Host.argReduce reducer_argmax_f32_i32 x y u v reducesTo_S8x20000_S8_d1 h_S_ j).2),
    StableHlo.unary main_while0b_v49 main_while0b_v50 (broadcastInDim S8x1 ![0] bcast_S8_S8x1_0 : (⟨S8, .i32⟩ : BufTy).Contents (Elt F) → (⟨S8x1, .i32⟩ : BufTy).Contents (Elt F))]
/-- What those operations write. -/
def rb1W : List (Ref sig .tc) := [main_while0b_call1_v0, main_while0b_call1_cst, main_while0b_call1_c, main_while0b_call1_v1_0, main_while0b_v49, main_while0b_v50]
/-- The body: that score. -/
def rb2 : List (HloOp τ sig (Elt F)) := [
    StableHlo.TRef.nullary main_while0b_call2.c (constantI S_ 32 0#32),
    StableHlo.TRef.unary main_while0b_call2.c main_while0b_call2.v0 (broadcastInDim S8x1 ![] bcast_S_S8x1),
    StableHlo.TRef.binary (.of main_while0b_v50 : StableHlo.TRef sig ⟨S8x1, .i32⟩) main_while0b_call2.v0 main_while0b_call2.v1 (cmpi .slt),
    StableHlo.TRef.nullary main_while0b_call2.c_0 (constantI S_ 32 20000#32),
    StableHlo.TRef.unary main_while0b_call2.c_0 main_while0b_call2.v2 (broadcastInDim S8x1 ![] bcast_S_S8x1),
    StableHlo.TRef.binary (.of main_while0b_v50 : StableHlo.TRef sig ⟨S8x1, .i32⟩) main_while0b_call2.v2 main_while0b_call2.v3 addi,
    StableHlo.TRef.ternary main_while0b_call2.v1 main_while0b_call2.v3 (.of main_while0b_v50 : StableHlo.TRef sig ⟨S8x1, .i32⟩) main_while0b_call2.v4 select,
    StableHlo.TRef.reshape main_while0b_call2.v4 main_while0b_call2.v5 (rfl : (.i32 : EltTy) = .i32) shapeCasts_S8x1_S8x1x1,
    StableHlo.TRef.nullary main_while0b_call2.c_1 (constantI S1 32 19999#32),
    StableHlo.TRef.nullary main_while0b_call2.c_2 (constantI S_ 32 0#32),
    StableHlo.TRef.unary main_while0b_call2.c_2 main_while0b_call2.v6 (broadcastInDim S8x1x1 ![] bcast_S_S8x1x1),
    StableHlo.TRef.binary main_while0b_call2.v5 main_while0b_call2.v6 main_while0b_call2.v7 (cmpi .sge),
    StableHlo.TRef.unary main_while0b_call2.c_1 main_while0b_call2.v8 (broadcastInDim S1x1x1 ![2] bcast_S1_S1x1x1_2),
    StableHlo.TRef.unary main_while0b_call2.v8 main_while0b_call2.v9 (broadcastInDim S8x1x1 ![0, 1, 2] bcast_S1x1x1_S8x1x1_0_1_2),
    StableHlo.TRef.binary main_while0b_call2.v5 main_while0b_call2.v9 main_while0b_call2.v10 (cmpi .sle),
    StableHlo.TRef.binary main_while0b_call2.v7 main_while0b_call2.v10 main_while0b_call2.v11 andi,
    StableHlo.TRef.nullary main_while0b_call2.c_3 (constantI S_ 1 1#1),
    StableHlo.TRef.binary main_while0b_call2.v11 main_while0b_call2.c_3 main_while0b_call2.v12 (fun x v => Host.reduce IntOp.andi x v reducesTo_S8x1x1_S8x1_d2 h_S_),
    StableHlo.TRef.binary (.of main_v31_3 : StableHlo.TRef sig ⟨S8x20000, .f32⟩) main_while0b_call2.v5 main_while0b_call2.v13 (fun x i => Host.gather gather_S8x20000_S8x1x1_S8x1_n_1_0_0_1_2_11 x i),
    StableHlo.TRef.nullary main_while0b_call2.cst (constant S_ .f32 0x7FC00000#32),
    StableHlo.TRef.unary main_while0b_call2.cst main_while0b_call2.v14 (broadcastInDim S8x1 ![] bcast_S_S8x1),
    StableHlo.TRef.ternary main_while0b_call2.v12 main_while0b_call2.v13 main_while0b_call2.v14 main_while0b_call2.v15 select]
/-- What those operations write. -/
def rb2W : List (Ref sig .tc) := [main_while0b_call2_c, main_while0b_call2_v0, main_while0b_call2_v1, main_while0b_call2_c_0, main_while0b_call2_v2, main_while0b_call2_v3, main_while0b_call2_v4, main_while0b_call2_v5, main_while0b_call2_c_1, main_while0b_call2_c_2, main_while0b_call2_v6, main_while0b_call2_v7, main_while0b_call2_v8, main_while0b_call2_v9, main_while0b_call2_v10, main_while0b_call2_v11, main_while0b_call2_c_3, main_while0b_call2_v12, main_while0b_call2_v13, main_while0b_call2_cst, main_while0b_call2_v14, main_while0b_v51]
/-- The body: that box. -/
def rb3 : List (HloOp τ sig (Elt F)) := [
    StableHlo.unary main_while0b_v50 main_while0b_v52 (broadcastInDim S8x1x1 ![0, 1] bcast_S8x1_S8x1x1_0_1 : (⟨S8x1, .i32⟩ : BufTy).Contents (Elt F) → (⟨S8x1x1, .i32⟩ : BufTy).Contents (Elt F)),
    StableHlo.TRef.nullary main_while0b_call3.c (constantI S_ 32 0#32),
    StableHlo.TRef.unary main_while0b_call3.c main_while0b_call3.v0 (broadcastInDim S8x1x1 ![] bcast_S_S8x1x1),
    StableHlo.TRef.binary (.of main_while0b_v52 : StableHlo.TRef sig ⟨S8x1x1, .i32⟩) main_while0b_call3.v0 main_while0b_call3.v1 (cmpi .slt),
    StableHlo.TRef.nullary main_while0b_call3.c_0 (constantI S_ 32 20000#32),
    StableHlo.TRef.unary main_while0b_call3.c_0 main_while0b_call3.v2 (broadcastInDim S8x1x1 ![] bcast_S_S8x1x1),
    StableHlo.TRef.binary (.of main_while0b_v52 : StableHlo.TRef sig ⟨S8x1x1, .i32⟩) main_while0b_call3.v2 main_while0b_call3.v3 addi,
    StableHlo.TRef.ternary main_while0b_call3.v1 main_while0b_call3.v3 (.of main_while0b_v52 : StableHlo.TRef sig ⟨S8x1x1, .i32⟩) main_while0b_call3.v4 select,
    StableHlo.TRef.nullary main_while0b_call3.c_1 (constantI S1 32 19999#32),
    StableHlo.TRef.nullary main_while0b_call3.c_2 (constantI S_ 32 0#32),
    StableHlo.TRef.unary main_while0b_call3.c_2 main_while0b_call3.v5 (broadcastInDim S8x1x1 ![] bcast_S_S8x1x1),
    StableHlo.TRef.binary main_while0b_call3.v4 main_while0b_call3.v5 main_while0b_call3.v6 (cmpi .sge),
    StableHlo.TRef.unary main_while0b_call3.c_1 main_while0b_call3.v7 (broadcastInDim S1x1x1 ![2] bcast_S1_S1x1x1_2),
    StableHlo.TRef.unary main_while0b_call3.v7 main_while0b_call3.v8 (broadcastInDim S8x1x1 ![0, 1, 2] bcast_S1x1x1_S8x1x1_0_1_2),
    StableHlo.TRef.binary main_while0b_call3.v4 main_while0b_call3.v8 main_while0b_call3.v9 (cmpi .sle),
    StableHlo.TRef.binary main_while0b_call3.v6 main_while0b_call3.v9 main_while0b_call3.v10 andi,
    StableHlo.TRef.nullary main_while0b_call3.c_3 (constantI S_ 1 1#1),
    StableHlo.TRef.binary main_while0b_call3.v10 main_while0b_call3.c_3 main_while0b_call3.v11 (fun x v => Host.reduce IntOp.andi x v reducesTo_S8x1x1_S8x1_d2 h_S_),
    StableHlo.TRef.binary (.of main_v31_0 : StableHlo.TRef sig ⟨S8x20000x4, .f32⟩) main_while0b_call3.v4 main_while0b_call3.v12 (fun x i => Host.gather gather_S8x20000x4_S8x1x1_S8x1x4_2_1_0_0_1_2_114 x i),
    StableHlo.TRef.unary main_while0b_call3.v11 main_while0b_call3.v13 (broadcastInDim S8x1x4 ![0, 1] bcast_S8x1_S8x1x4_0_1),
    StableHlo.TRef.nullary main_while0b_call3.cst (constant S_ .f32 0x7FC00000#32),
    StableHlo.TRef.unary main_while0b_call3.cst main_while0b_call3.v14 (broadcastInDim S8x1x4 ![] bcast_S_S8x1x4),
    StableHlo.TRef.ternary main_while0b_call3.v13 main_while0b_call3.v12 main_while0b_call3.v14 main_while0b_call3.v15 select]
/-- What those operations write. -/
def rb3W : List (Ref sig .tc) := [main_while0b_v52, main_while0b_call3_c, main_while0b_call3_v0, main_while0b_call3_v1, main_while0b_call3_c_0, main_while0b_call3_v2, main_while0b_call3_v3, main_while0b_call3_v4, main_while0b_call3_c_1, main_while0b_call3_c_2, main_while0b_call3_v5, main_while0b_call3_v6, main_while0b_call3_v7, main_while0b_call3_v8, main_while0b_call3_v9, main_while0b_call3_v10, main_while0b_call3_c_3, main_while0b_call3_v11, main_while0b_call3_v12, main_while0b_call3_v13, main_while0b_call3_cst, main_while0b_call3_v14, main_while0b_v53]
/-- The body: the overlaps, the next masked scores. -/
def rb4 : List (HloOp τ sig (Elt F)) := [
    StableHlo.unary main_while0b_v53 main_while0b_v54 ((extractStridedSlice S8x1x1 ![0, 0, 0] · slices_S8x1x4_S8x1x1_0_0_0) : (⟨S8x1x4, .f32⟩ : BufTy).Contents (Elt F) → (⟨S8x1x1, .f32⟩ : BufTy).Contents (Elt F)),
    StableHlo.reshape main_while0b_v54 main_while0b_v55 (rfl : (.f32 : EltTy) = .f32) shapeCasts_S8x1x1_S8x1,
    StableHlo.unary main_v31_0 main_while0b_v56 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    StableHlo.reshape main_while0b_v56 main_while0b_v57 (rfl : (.f32 : EltTy) = .f32) shapeCasts_S8x20000x1_S8x20000,
    StableHlo.unary main_while0b_v55 main_while0b_v58 (broadcastInDim S8x20000 ![0, 1] bcast_S8x1_S8x20000_0_1 : (⟨S8x1, .f32⟩ : BufTy).Contents (Elt F) → (⟨S8x20000, .f32⟩ : BufTy).Contents (Elt F)),
    StableHlo.binary main_while0b_v58 main_while0b_v57 main_while0b_v59 (maximumf : (⟨S8x20000, .f32⟩ : BufTy).Contents (Elt F) → (⟨S8x20000, .f32⟩ : BufTy).Contents (Elt F) → (⟨S8x20000, .f32⟩ : BufTy).Contents (Elt F)),
    StableHlo.unary main_while0b_v53 main_while0b_v60 ((extractStridedSlice S8x1x1 ![0, 0, 1] · slices_S8x1x4_S8x1x1_0_0_1) : (⟨S8x1x4, .f32⟩ : BufTy).Contents (Elt F) → (⟨S8x1x1, .f32⟩ : BufTy).Contents (Elt F)),
    StableHlo.reshape main_while0b_v60 main_while0b_v61 (rfl : (.f32 : EltTy) = .f32) shapeCasts_S8x1x1_S8x1,
    StableHlo.unary main_v31_0 main_while0b_v62 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    StableHlo.reshape main_while0b_v62 main_while0b_v63 (rfl : (.f32 : EltTy) = .f32) shapeCasts_S8x20000x1_S8x20000,
    StableHlo.unary main_while0b_v61 main_while0b_v64 (broadcastInDim S8x20000 ![0, 1] bcast_S8x1_S8x20000_0_1 : (⟨S8x1, .f32⟩ : BufTy).Contents (Elt F) → (⟨S8x20000, .f32⟩ : BufTy).Contents (Elt F)),
    StableHlo.binary main_while0b_v64 main_while0b_v63 main_while0b_v65 (maximumf : (⟨S8x20000, .f32⟩ : BufTy).Contents (Elt F) → (⟨S8x20000, .f32⟩ : BufTy).Contents (Elt F) → (⟨S8x20000, .f32⟩ : BufTy).Contents (Elt F)),
    StableHlo.unary main_while0b_v53 main_while0b_v66 ((extractStridedSlice S8x1x1 ![0, 0, 2] · slices_S8x1x4_S8x1x1_0_0_2) : (⟨S8x1x4, .f32⟩ : BufTy).Contents (Elt F) → (⟨S8x1x1, .f32⟩ : BufTy).Contents (Elt F)),
    StableHlo.reshape main_while0b_v66 main_while0b_v67 (rfl : (.f32 : EltTy) = .f32) shapeCasts_S8x1x1_S8x1,
    StableHlo.unary main_v31_0 main_while0b_v68 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    StableHlo.reshape main_while0b_v68 main_while0b_v69 (rfl : (.f32 : EltTy) = .f32) shapeCasts_S8x20000x1_S8x20000,
    StableHlo.unary main_while0b_v67 main_while0b_v70 (broadcastInDim S8x20000 ![0, 1] bcast_S8x1_S8x20000_0_1 : (⟨S8x1, .f32⟩ : BufTy).Contents (Elt F) → (⟨S8x20000, .f32⟩ : BufTy).Contents (Elt F)),
    StableHlo.binary main_while0b_v70 main_while0b_v69 main_while0b_v71 (minimumf : (⟨S8x20000, .f32⟩ : BufTy).Contents (Elt F) → (⟨S8x20000, .f32⟩ : BufTy).Contents (Elt F) → (⟨S8x20000, .f32⟩ : BufTy).Contents (Elt F)),
    StableHlo.unary main_while0b_v53 main_while0b_v72 ((extractStridedSlice S8x1x1 ![0, 0, 3] · slices_S8x1x4_S8x1x1_0_0_3) : (⟨S8x1x4, .f32⟩ : BufTy).Contents (Elt F) → (⟨S8x1x1, .f32⟩ : BufTy).Contents (Elt F)),
    StableHlo.reshape main_while0b_v72 main_while0b_v73 (rfl : (.f32 : EltTy) = .f32) shapeCasts_S8x1x1_S8x1,
    StableHlo.unary main_v31_0 main_while0b_v74 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    StableHlo.reshape main_while0b_v74 main_while0b_v75 (rfl : (.f32 : EltTy) = .f32) shapeCasts_S8x20000x1_S8x20000,
    StableHlo.unary main_while0b_v73 main_while0b_v76 (broadcastInDim S8x20000 ![0, 1] bcast_S8x1_S8x20000_0_1 : (⟨S8x1, .f32⟩ : BufTy).Contents (Elt F) → (⟨S8x20000, .f32⟩ : BufTy).Contents (Elt F)),
    StableHlo.binary main_while0b_v76 main_while0b_v75 main_while0b_v77 (minimumf : (⟨S8x20000, .f32⟩ : BufTy).Contents (Elt F) → (⟨S8x20000, .f32⟩ : BufTy).Contents (Elt F) → (⟨S8x20000, .f32⟩ : BufTy).Contents (Elt F)),
    StableHlo.binary main_while0b_v71 main_while0b_v59 main_while0b_v78 (subf : (⟨S8x20000, .f32⟩ : BufTy).Contents (Elt F) → (⟨S8x20000, .f32⟩ : BufTy).Contents (Elt F) → (⟨S8x20000, .f32⟩ : BufTy).Contents (Elt F)),
    StableHlo.nullary main_while0b_cst_22 (constant S_ .f32 0x00000000#32),
    StableHlo.unary main_while0b_cst_22 main_while0b_v79 (broadcastInDim S8x20000 ![] bcast_S_S8x20000 : (⟨S_, .f32⟩ : BufTy).Contents (Elt F) → (⟨S8x20000, .f32⟩ : BufTy).Contents (Elt F)),
    StableHlo.binary main_while0b_v78 main_while0b_v79 main_while0b_v80 (maximumf : (⟨S8x20000, .f32⟩ : BufTy).Contents (Elt F) → (⟨S8x20000, .f32⟩ : BufTy).Contents (Elt F) → (⟨S8x20000, .f32⟩ : BufTy).Contents (Elt F)),
    StableHlo.binary main_while0b_v77 main_while0b_v65 main_while0b_v81 (subf : (⟨S8x20000, .f32⟩ : BufTy).Contents (Elt F) → (⟨S8x20000, .f32⟩ : BufTy).Contents (Elt F) → (⟨S8x20000, .f32⟩ : BufTy).Contents (Elt F)),
    StableHlo.nullary main_while0b_cst_23 (constant S_ .f32 0x00000000#32),
    StableHlo.unary main_while0b_cst_23 main_while0b_v82 (broadcastInDim S8x20000 ![] bcast_S_S8x20000 : (⟨S_, .f32⟩ : BufTy).Contents (Elt F) → (⟨S8x20000, .f32⟩ : BufTy).Contents (Elt F)),
    StableHlo.binary main_while0b_v81 main_while0b_v82 main_while0b_v83 (maximumf : (⟨S8x20000, .f32⟩ : BufTy).Contents (Elt F) → (⟨S8x20000, .f32⟩ : BufTy).Contents (Elt F) → (⟨S8x20000, .f32⟩ : BufTy).Contents (Elt F)),
    StableHlo.binary main_while0b_v80 main_while0b_v83 main_while0b_v84 (mulf : (⟨S8x20000, .f32⟩ : BufTy).Contents (Elt F) → (⟨S8x20000, .f32⟩ : BufTy).Contents (Elt F) → (⟨S8x20000, .f32⟩ : BufTy).Contents (Elt F)),
    StableHlo.unary main_while0b_v53 main_while0b_v85 ((extractStridedSlice S8x1x1 ![0, 0, 2] · slices_S8x1x4_S8x1x1_0_0_2) : (⟨S8x1x4, .f32⟩ : BufTy).Contents (Elt F) → (⟨S8x1x1, .f32⟩ : BufTy).Contents (Elt F)),
    StableHlo.reshape main_while0b_v85 main_while0b_v86 (rfl : (.f32 : EltTy) = .f32) shapeCasts_S8x1x1_S8x1,
    StableHlo.unary main_while0b_v53 main_while0b_v87 ((extractStridedSlice S8x1x1 ![0, 0, 0] · slices_S8x1x4_S8x1x1_0_0_0) : (⟨S8x1x4, .f32⟩ : BufTy).Contents (Elt F) → (⟨S8x1x1, .f32⟩ : BufTy).Contents (Elt F)),
    StableHlo.reshape main_while0b_v87 main_while0b_v88 (rfl : (.f32 : EltTy) = .f32) shapeCasts_S8x1x1_S8x1,
    StableHlo.binary main_while0b_v86 main_while0b_v88 main_while0b_v89 (subf : (⟨S8x1, .f32⟩ : BufTy).Contents (Elt F) → (⟨S8x1, .f32⟩ : BufTy).Contents (Elt F) → (⟨S8x1, .f32⟩ : BufTy).Contents (Elt F)),
    StableHlo.unary main_while0b_v53 main_while0b_v90 ((extractStridedSlice S8x1x1 ![0, 0, 3] · slices_S8x1x4_S8x1x1_0_0_3) : (⟨S8x1x4, .f32⟩ : BufTy).Contents (Elt F) → (⟨S8x1x1, .f32⟩ : BufTy).Contents (Elt F)),
    StableHlo.reshape main_while0b_v90 main_while0b_v91 (rfl : (.f32 : EltTy) = .f32) shapeCasts_S8x1x1_S8x1,
    StableHlo.unary main_while0b_v53 main_while0b_v92 ((extractStridedSlice S8x1x1 ![0, 0, 1] · slices_S8x1x4_S8x1x1_0_0_1) : (⟨S8x1x4, .f32⟩ : BufTy).Contents (Elt F) → (⟨S8x1x1, .f32⟩ : BufTy).Contents (Elt F)),
    StableHlo.reshape main_while0b_v92 main_while0b_v93 (rfl : (.f32 : EltTy) = .f32) shapeCasts_S8x1x1_S8x1,
    StableHlo.binary main_while0b_v91 main_while0b_v93 main_while0b_v94 (subf : (⟨S8x1, .f32⟩ : BufTy).Contents (Elt F) → (⟨S8x1, .f32⟩ : BufTy).Contents (Elt F) → (⟨S8x1, .f32⟩ : BufTy).Contents (Elt F)),
    StableHlo.binary main_while0b_v89 main_while0b_v94 main_while0b_v95 (mulf : (⟨S8x1, .f32⟩ : BufTy).Contents (Elt F) → (⟨S8x1, .f32⟩ : BufTy).Contents (Elt F) → (⟨S8x1, .f32⟩ : BufTy).Contents (Elt F)),
    StableHlo.unary main_v31_0 main_while0b_v96 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    StableHlo.reshape main_while0b_v96 main_while0b_v97 (rfl : (.f32 : EltTy) = .f32) shapeCasts_S8x20000x1_S8x20000,
    StableHlo.unary main_v31_0 main_while0b_v98 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    StableHlo.reshape main_while0b_v98 main_while0b_v99 (rfl : (.f32 : EltTy) = .f32) shapeCasts_S8x20000x1_S8x20000,
    StableHlo.binary main_while0b_v97 main_while0b_v99 main_while0b_v100 (subf : (⟨S8x20000, .f32⟩ : BufTy).Contents (Elt F) → (⟨S8x20000, .f32⟩ : BufTy).Contents (Elt F) → (⟨S8x20000, .f32⟩ : BufTy).Contents (Elt F)),
    StableHlo.unary main_v31_0 main_while0b_v101 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    StableHlo.reshape main_while0b_v101 main_while0b_v102 (rfl : (.f32 : EltTy) = .f32) shapeCasts_S8x20000x1_S8x20000,
    StableHlo.unary main_v31_0 main_while0b_v103 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    StableHlo.reshape main_while0b_v103 main_while0b_v104 (rfl : (.f32 : EltTy) = .f32) shapeCasts_S8x20000x1_S8x20000,
    StableHlo.binary main_while0b_v102 main_while0b_v104 main_while0b_v105 (subf : (⟨S8x20000, .f32⟩ : BufTy).Contents (Elt F) → (⟨S8x20000, .f32⟩ : BufTy).Contents (Elt F) → (⟨S8x20000, .f32⟩ : BufTy).Contents (Elt F)),
    StableHlo.binary main_while0b_v100 main_while0b_v105 main_while0b_v106 (mulf : (⟨S8x20000, .f32⟩ : BufTy).Contents (Elt F) → (⟨S8x20000, .f32⟩ : BufTy).Contents (Elt F) → (⟨S8x20000, .f32⟩ : BufTy).Contents (Elt F)),
    StableHlo.unary main_while0b_v95 main_while0b_v107 (broadcastInDim S8x20000 ![0, 1] bcast_S8x1_S8x20000_0_1 : (⟨S8x1, .f32⟩ : BufTy).Contents (Elt F) → (⟨S8x20000, .f32⟩ : BufTy).Contents (Elt F)),
    StableHlo.binary main_while0b_v107 main_while0b_v106 main_while0b_v108 (addf : (⟨S8x20000, .f32⟩ : BufTy).Contents (Elt F) → (⟨S8x20000, .f32⟩ : BufTy).Contents (Elt F) → (⟨S8x20000, .f32⟩ : BufTy).Contents (Elt F)),
    StableHlo.binary main_while0b_v108 main_while0b_v84 main_while0b_v109 (subf : (⟨S8x20000, .f32⟩ : BufTy).Contents (Elt F) → (⟨S8x20000, .f32⟩ : BufTy).Contents (Elt F) → (⟨S8x20000, .f32⟩ : BufTy).Contents (Elt F)),
    StableHlo.nullary main_while0b_cst_24 (constant S_ .f32 0x322BCC77#32),
    StableHlo.unary main_while0b_cst_24 main_while0b_v110 (broadcastInDim S8x20000 ![] bcast_S_S8x20000 : (⟨S_, .f32⟩ : BufTy).Contents (Elt F) → (⟨S8x20000, .f32⟩ : BufTy).Contents (Elt F)),
    StableHlo.binary main_while0b_v109 main_while0b_v110 main_while0b_v111 (addf : (⟨S8x20000, .f32⟩ : BufTy).Contents (Elt F) → (⟨S8x20000, .f32⟩ : BufTy).Contents (Elt F) → (⟨S8x20000, .f32⟩ : BufTy).Contents (Elt F)),
    StableHlo.binary main_while0b_v84 main_while0b_v111 main_while0b_v112 (Host.divf : (⟨S8x20000, .f32⟩ : BufTy).Contents (Elt F) → (⟨S8x20000, .f32⟩ : BufTy).Contents (Elt F) → (⟨S8x20000, .f32⟩ : BufTy).Contents (Elt F)),
    StableHlo.nullary main_while0b_cst_25 (constant S_ .f32 0x3F000000#32),
    StableHlo.unary main_while0b_cst_25 main_while0b_v113 (broadcastInDim S8x20000 ![] bcast_S_S8x20000 : (⟨S_, .f32⟩ : BufTy).Contents (Elt F) → (⟨S8x20000, .f32⟩ : BufTy).Contents (Elt F)),
    StableHlo.binary main_while0b_v112 main_while0b_v113 main_while0b_v114 (cmpf .ogt : (⟨S8x20000, .f32⟩ : BufTy).Contents (Elt F) → (⟨S8x20000, .f32⟩ : BufTy).Contents (Elt F) → (⟨S8x20000, .i1⟩ : BufTy).Contents (Elt F)),
    StableHlo.unary main_v31_1 main_while0b_v115 (broadcastInDim S8x20000 ![0, 1] bcast_S1x20000_S8x20000_0_1 : (⟨S1x20000, .i32⟩ : BufTy).Contents (Elt F) → (⟨S8x20000, .i32⟩ : BufTy).Contents (Elt F)),
    StableHlo.unary main_while0b_v50 main_while0b_v116 (broadcastInDim S8x20000 ![0, 1] bcast_S8x1_S8x20000_0_1 : (⟨S8x1, .i32⟩ : BufTy).Contents (Elt F) → (⟨S8x20000, .i32⟩ : BufTy).Contents (Elt F)),
    StableHlo.binary main_while0b_v115 main_while0b_v116 main_while0b_v117 (cmpi .eq : (⟨S8x20000, .i32⟩ : BufTy).Contents (Elt F) → (⟨S8x20000, .i32⟩ : BufTy).Contents (Elt F) → (⟨S8x20000, .i1⟩ : BufTy).Contents (Elt F)),
    StableHlo.binary main_while0b_v114 main_while0b_v117 main_while0b_v118 (ori : (⟨S8x20000, .i1⟩ : BufTy).Contents (Elt F) → (⟨S8x20000, .i1⟩ : BufTy).Contents (Elt F) → (⟨S8x20000, .i1⟩ : BufTy).Contents (Elt F)),
    StableHlo.nullary main_while0b_cst_26 (constant S_ .f32 0xBF800000#32),
    StableHlo.TRef.unary (.of main_while0b_cst_26 : StableHlo.TRef sig ⟨S_, .f32⟩) main_while0b_call4.v0 id,
    StableHlo.TRef.unary main_while0b_call4.v0 main_while0b_call4.v1 (broadcastInDim S8x20000 ![] bcast_S_S8x20000),
    StableHlo.TRef.ternary (.of main_while0b_v118 : StableHlo.TRef sig ⟨S8x20000, .i1⟩) main_while0b_call4.v1 (.of main_v31_3 : StableHlo.TRef sig ⟨S8x20000, .f32⟩) main_while0b_call4.v2 select]
/-- What those operations write. -/
def rb4W : List (Ref sig .tc) := [main_while0b_v54, main_while0b_v55, main_while0b_v56, main_while0b_v57, main_while0b_v58, main_while0b_v59, main_while0b_v60, main_while0b_v61, main_while0b_v62, main_while0b_v63, main_while0b_v64, main_while0b_v65, main_while0b_v66, main_while0b_v67, main_while0b_v68, main_while0b_v69, main_while0b_v70, main_while0b_v71, main_while0b_v72, main_while0b_v73, main_while0b_v74, main_while0b_v75, main_while0b_v76, main_while0b_v77, main_while0b_v78, main_while0b_cst_22, main_while0b_v79, main_while0b_v80, main_while0b_v81, main_while0b_cst_23, main_while0b_v82, main_while0b_v83, main_while0b_v84, main_while0b_v85, main_while0b_v86, main_while0b_v87, main_while0b_v88, main_while0b_v89, main_while0b_v90, main_while0b_v91, main_while0b_v92, main_while0b_v93, main_while0b_v94, main_while0b_v95, main_while0b_v96, main_while0b_v97, main_while0b_v98, main_while0b_v99, main_while0b_v100, main_while0b_v101, main_while0b_v102, main_while0b_v103, main_while0b_v104, main_while0b_v105, main_while0b_v106, main_while0b_v107, main_while0b_v108, main_while0b_v109, main_while0b_cst_24, main_while0b_v110, main_while0b_v111, main_while0b_v112, main_while0b_cst_25, main_while0b_v113, main_while0b_v114, main_while0b_v115, main_while0b_v116, main_while0b_v117, main_while0b_v118, main_while0b_cst_26, main_while0b_call4_v0, main_while0b_call4_v1, main_while0b_v119]
/-- The body: the records, the counter, the values carried on. -/
def rb5 : List (HloOp τ sig (Elt F)) := [
    StableHlo.reshape main_while0b_v50 main_while0b_v120 (rfl : (.i32 : EltTy) = .i32) shapeCasts_S8x1_S8,
    StableHlo.reshape main_while0b_v51 main_while0b_v121 (rfl : (.f32 : EltTy) = .f32) shapeCasts_S8x1_S8,
    StableHlo.TRef.unary (.of main_while0b_v120 : StableHlo.TRef sig ⟨S8, .i32⟩) main_while0b_call5.v0 (broadcastInDim S1x8 ![1] bcast_S8_S1x8_1),
    StableHlo.TRef.nullary main_while0b_call5.c (constantI S_ 32 0#32),
    StableHlo.TRef.binaryIndexed (.of main_v31_4 : StableHlo.TRef sig ⟨S100x8, .i32⟩) main_while0b_call5.v0 ![(.of main_v31_2 : StableHlo.TRef sig ⟨S_, .i32⟩), main_while0b_call5.c] main_while0b_call5.v1 (fun x u i => Host.dynamicUpdateSlice x u (fun k => (i k (Shape.Idx.first h_S_)).toInt) updateFits_S100x8_S1x8),
    StableHlo.TRef.unary (.of main_while0b_v121 : StableHlo.TRef sig ⟨S8, .f32⟩) main_while0b_call6.v0 (broadcastInDim S1x8 ![1] bcast_S8_S1x8_1),
    StableHlo.TRef.nullary main_while0b_call6.c (constantI S_ 32 0#32),
    StableHlo.TRef.binaryIndexed (.of main_v31_5 : StableHlo.TRef sig ⟨S100x8, .f32⟩) main_while0b_call6.v0 ![(.of main_v31_2 : StableHlo.TRef sig ⟨S_, .i32⟩), main_while0b_call6.c] main_while0b_call6.v1 (fun x u i => Host.dynamicUpdateSlice x u (fun k => (i k (Shape.Idx.first h_S_)).toInt) updateFits_S100x8_S1x8),
    StableHlo.nullary main_while0b_c_27 (constantI S_ 32 1#32),
    StableHlo.binary main_v31_2 main_while0b_c_27 main_while0b_v124 (addi : (⟨S_, .i32⟩ : BufTy).Contents (Elt F) → (⟨S_, .i32⟩ : BufTy).Contents (Elt F) → (⟨S_, .i32⟩ : BufTy).Contents (Elt F)),
    StableHlo.unary main_while0b_v124 main_v31_2 id,
    StableHlo.unary main_while0b_v119 main_v31_3 id,
    StableHlo.unary main_while0b_v122 main_v31_4 id,
    StableHlo.unary main_while0b_v123 main_v31_5 id]
/-- What those operations write. -/
def rb5W : List (Ref sig .tc) := [main_while0b_v120, main_while0b_v121, main_while0b_call5_v0, main_while0b_call5_c, main_while0b_v122, main_while0b_call6_v0, main_while0b_call6_c, main_while0b_v123, main_while0b_c_27, main_while0b_v124, main_v31_2, main_v31_3, main_v31_4, main_v31_5]
/-- After the loop: the records turned, which of them count. -/
def rq1 : List (HloOp τ sig (Elt F)) := [
    StableHlo.unary main_v31_4 main_v32 ((transpose S8x100 [1, 0] · transposes_S100x8_S8x100_1_0) : (⟨S100x8, .i32⟩ : BufTy).Contents (Elt F) → (⟨S8x100, .i32⟩ : BufTy).Contents (Elt F)),
    StableHlo.unary main_v31_5 main_v33 ((transpose S8x100 [1, 0] · transposes_S100x8_S8x100_1_0) : (⟨S100x8, .f32⟩ : BufTy).Contents (Elt F) → (⟨S8x100, .f32⟩ : BufTy).Contents (Elt F)),
    StableHlo.nullary main_cst_8 (constant S_ .f32 0x00000000#32),
    StableHlo.unary main_cst_8 main_v34 (broadcastInDim S8x100 ![] bcast_S_S8x100 : (⟨S_, .f32⟩ : BufTy).Contents (Elt F) → (⟨S8x100, .f32⟩ : BufTy).Contents (Elt F)),
    StableHlo.binary main_v33 main_v34 main_v35 (cmpf .ogt : (⟨S8x100, .f32⟩ : BufTy).Contents (Elt F) → (⟨S8x100, .f32⟩ : BufTy).Contents (Elt F) → (⟨S8x100, .i1⟩ : BufTy).Contents (Elt F)),
    StableHlo.unary main_v35 main_v36 (broadcastInDim S8x100x1 ![0, 1] bcast_S8x100_S8x100x1_0_1 : (⟨S8x100, .i1⟩ : BufTy).Contents (Elt F) → (⟨S8x100x1, .i1⟩ : BufTy).Contents (Elt F)),
    StableHlo.unary main_v32 main_v37 (broadcastInDim S8x100x1 ![0, 1] bcast_S8x100_S8x100x1_0_1 : (⟨S8x100, .i32⟩ : BufTy).Contents (Elt F) → (⟨S8x100x1, .i32⟩ : BufTy).Contents (Elt F))]
/-- What those operations write. -/
def rq1W : List (Ref sig .tc) := [main_v32, main_v33, main_cst_8, main_v34, main_v35, main_v36, main_v37]
/-- After the loop: the boxes selected. -/
def rq2 : List (HloOp τ sig (Elt F)) := [
    StableHlo.TRef.nullary main_call7.c (constantI S_ 32 0#32),
    StableHlo.TRef.unary main_call7.c main_call7.v0 (broadcastInDim S8x100x1 ![] bcast_S_S8x100x1),
    StableHlo.TRef.binary (.of main_v37 : StableHlo.TRef sig ⟨S8x100x1, .i32⟩) main_call7.v0 main_call7.v1 (cmpi .slt),
    StableHlo.TRef.nullary main_call7.c_0 (constantI S_ 32 20000#32),
    StableHlo.TRef.unary main_call7.c_0 main_call7.v2 (broadcastInDim S8x100x1 ![] bcast_S_S8x100x1),
    StableHlo.TRef.binary (.of main_v37 : StableHlo.TRef sig ⟨S8x100x1, .i32⟩) main_call7.v2 main_call7.v3 addi,
    StableHlo.TRef.ternary main_call7.v1 main_call7.v3 (.of main_v37 : StableHlo.TRef sig ⟨S8x100x1, .i32⟩) main_call7.v4 select,
    StableHlo.TRef.nullary main_call7.c_1 (constantI S1 32 19999#32),
    StableHlo.TRef.nullary main_call7.c_2 (constantI S_ 32 0#32),
    StableHlo.TRef.unary main_call7.c_2 main_call7.v5 (broadcastInDim S8x100x1 ![] bcast_S_S8x100x1),
    StableHlo.TRef.binary main_call7.v4 main_call7.v5 main_call7.v6 (cmpi .sge),
    StableHlo.TRef.unary main_call7.c_1 main_call7.v7 (broadcastInDim S1x1x1 ![2] bcast_S1_S1x1x1_2),
    StableHlo.TRef.unary main_call7.v7 main_call7.v8 (broadcastInDim S8x100x1 ![0, 1, 2] bcast_S1x1x1_S8x100x1_0_1_2),
    StableHlo.TRef.binary main_call7.v4 main_call7.v8 main_call7.v9 (cmpi .sle),
    StableHlo.TRef.binary main_call7.v6 main_call7.v9 main_call7.v10 andi,
    StableHlo.TRef.nullary main_call7.c_3 (constantI S_ 1 1#1),
    StableHlo.TRef.binary main_call7.v10 main_call7.c_3 main_call7.v11 (fun x v => Host.reduce IntOp.andi x v reducesTo_S8x100x1_S8x100_d2 h_S_),
    StableHlo.TRef.binary (.of main_arg0 : StableHlo.TRef sig ⟨S8x20000x4, .f32⟩) main_call7.v4 main_call7.v12 (fun x i => Host.gather gather_S8x20000x4_S8x100x1_S8x100x4_2_1_0_0_1_2_114 x i),
    StableHlo.TRef.unary main_call7.v11 main_call7.v13 (broadcastInDim S8x100x4 ![0, 1] bcast_S8x100_S8x100x4_0_1),
    StableHlo.TRef.nullary main_call7.cst (constant S_ .f32 0x7FC00000#32),
    StableHlo.TRef.unary main_call7.cst main_call7.v14 (broadcastInDim S8x100x4 ![] bcast_S_S8x100x4),
    StableHlo.TRef.ternary main_call7.v13 main_call7.v12 main_call7.v14 main_call7.v15 select]
/-- What those operations write. -/
def rq2W : List (Ref sig .tc) := [main_call7_c, main_call7_v0, main_call7_v1, main_call7_c_0, main_call7_v2, main_call7_v3, main_call7_v4, main_call7_c_1, main_call7_c_2, main_call7_v5, main_call7_v6, main_call7_v7, main_call7_v8, main_call7_v9, main_call7_v10, main_call7_c_3, main_call7_v11, main_call7_v12, main_call7_v13, main_call7_cst, main_call7_v14, main_v38]
/-- After the loop: clamped, those that do not count zero. -/
def rq3 : List (HloOp τ sig (Elt F)) := [
    StableHlo.nullary main_cst_9 (constant S_ .f32 0x00000000#32),
    StableHlo.nullary main_cst_10 (constant S_ .f32 0x44000000#32),
    StableHlo.TRef.unary (.of main_cst_9 : StableHlo.TRef sig ⟨S_, .f32⟩) main_call8.v0 id,
    StableHlo.TRef.unary main_call8.v0 main_call8.v1 (broadcastInDim S8x100x4 ![] bcast_S_S8x100x4),
    StableHlo.TRef.binary main_call8.v1 (.of main_v38 : StableHlo.TRef sig ⟨S8x100x4, .f32⟩) main_call8.v2 maximumf,
    StableHlo.TRef.unary (.of main_cst_10 : StableHlo.TRef sig ⟨S_, .f32⟩) main_call8.v3 id,
    StableHlo.TRef.unary main_call8.v3 main_call8.v4 (broadcastInDim S8x100x4 ![] bcast_S_S8x100x4),
    StableHlo.TRef.binary main_call8.v4 main_call8.v2 main_call8.v5 minimumf,
    StableHlo.nullary main_cst_11 (constant S_ .f32 0x00000000#32),
    StableHlo.TRef.unary (.of main_cst_11 : StableHlo.TRef sig ⟨S_, .f32⟩) main_call9.v0 id,
    StableHlo.TRef.unary (.of main_v36 : StableHlo.TRef sig ⟨S8x100x1, .i1⟩) main_call9.v1 (broadcastInDim S8x100x4 ![0, 1, 2] bcast_S8x100x1_S8x100x4_0_1_2),
    StableHlo.TRef.unary main_call9.v0 main_call9.v2 (broadcastInDim S8x100x4 ![] bcast_S_S8x100x4),
    StableHlo.TRef.ternary main_call9.v1 (.of main_v39 : StableHlo.TRef sig ⟨S8x100x4, .f32⟩) main_call9.v2 main_call9.v3 select]
/-- What those operations write. -/
def rq3W : List (Ref sig .tc) := [main_cst_9, main_cst_10, main_call8_v0, main_call8_v1, main_call8_v2, main_call8_v3, main_call8_v4, main_v39, main_cst_11, main_call9_v0, main_call9_v1, main_call9_v2, main_v40]
/-- After the loop: the scores selected. -/
def rq4 : List (HloOp τ sig (Elt F)) := [
    StableHlo.TRef.nullary main_call10.c (constantI S_ 32 0#32),
    StableHlo.TRef.unary main_call10.c main_call10.v0 (broadcastInDim S8x100 ![] bcast_S_S8x100),
    StableHlo.TRef.binary (.of main_v32 : StableHlo.TRef sig ⟨S8x100, .i32⟩) main_call10.v0 main_call10.v1 (cmpi .slt),
    StableHlo.TRef.nullary main_call10.c_0 (constantI S_ 32 20000#32),
    StableHlo.TRef.unary main_call10.c_0 main_call10.v2 (broadcastInDim S8x100 ![] bcast_S_S8x100),
    StableHlo.TRef.binary (.of main_v32 : StableHlo.TRef sig ⟨S8x100, .i32⟩) main_call10.v2 main_call10.v3 addi,
    StableHlo.TRef.ternary main_call10.v1 main_call10.v3 (.of main_v32 : StableHlo.TRef sig ⟨S8x100, .i32⟩) main_call10.v4 select,
    StableHlo.TRef.reshape main_call10.v4 main_call10.v5 (rfl : (.i32 : EltTy) = .i32) shapeCasts_S8x100_S8x100x1,
    StableHlo.TRef.nullary main_call10.c_1 (constantI S1 32 19999#32),
    StableHlo.TRef.nullary main_call10.c_2 (constantI S_ 32 0#32),
    StableHlo.TRef.unary main_call10.c_2 main_call10.v6 (broadcastInDim S8x100x1 ![] bcast_S_S8x100x1),
    StableHlo.TRef.binary main_call10.v5 main_call10.v6 main_call10.v7 (cmpi .sge),
    StableHlo.TRef.unary main_call10.c_1 main_call10.v8 (broadcastInDim S1x1x1 ![2] bcast_S1_S1x1x1_2),
    StableHlo.TRef.unary main_call10.v8 main_call10.v9 (broadcastInDim S8x100x1 ![0, 1, 2] bcast_S1x1x1_S8x100x1_0_1_2),
    StableHlo.TRef.binary main_call10.v5 main_call10.v9 main_call10.v10 (cmpi .sle),
    StableHlo.TRef.binary main_call10.v7 main_call10.v10 main_call10.v11 andi,
    StableHlo.TRef.nullary main_call10.c_3 (constantI S_ 1 1#1),
    StableHlo.TRef.binary main_call10.v11 main_call10.c_3 main_call10.v12 (fun x v => Host.reduce IntOp.andi x v reducesTo_S8x100x1_S8x100_d2 h_S_),
    StableHlo.TRef.binary (.of main_arg1 : StableHlo.TRef sig ⟨S8x20000, .f32⟩) main_call10.v5 main_call10.v13 (fun x i => Host.gather gather_S8x20000_S8x100x1_S8x100_n_1_0_0_1_2_11 x i),
    StableHlo.TRef.nullary main_call10.cst (constant S_ .f32 0x7FC00000#32),
    StableHlo.TRef.unary main_call10.cst main_call10.v14 (broadcastInDim S8x100 ![] bcast_S_S8x100),
    StableHlo.TRef.ternary main_call10.v12 main_call10.v13 main_call10.v14 main_call10.v15 select]
/-- What those operations write. -/
def rq4W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_cst, main_call10_v14, main_v41]
/-- After the loop: those that do not count zero. -/
def rq5 : List (HloOp τ sig (Elt F)) := [
    StableHlo.nullary main_cst_12 (constant S_ .f32 0x00000000#32),
    StableHlo.TRef.unary (.of main_cst_12 : StableHlo.TRef sig ⟨S_, .f32⟩) main_call11.v0 id,
    StableHlo.TRef.unary main_call11.v0 main_call11.v1 (broadcastInDim S8x100 ![] bcast_S_S8x100),
    StableHlo.TRef.ternary (.of main_v35 : StableHlo.TRef sig ⟨S8x100, .i1⟩) (.of main_v41 : StableHlo.TRef sig ⟨S8x100, .f32⟩) main_call11.v1 main_call11.v2 select]
/-- What those operations write. -/
def rq5W : List (Ref sig .tc) := [main_cst_12, main_call11_v0, main_call11_v1, main_v42]
/-- After the loop: the loss. -/
def rq6 : List (HloOp τ sig (Elt F)) := [
    StableHlo.nullary main_cst_13 (constant S_ .f32 0xFF800000#32),
    StableHlo.binary main_v42 main_cst_13 main_v43 ((fun x v => Host.reduce FloatOps.maximumf x v reducesTo_S8x100_S8_d1 h_S_) : (⟨S8x100, .f32⟩ : BufTy).Contents (Elt F) → (⟨S_, .f32⟩ : BufTy).Contents (Elt F) → (⟨S8, .f32⟩ : BufTy).Contents (Elt F)),
    StableHlo.nullary main_cst_14 (constant S_ .f32 0x00000000#32),
    StableHlo.unary main_cst_14 main_v44 (broadcastInDim S8 ![] bcast_S_S8 : (⟨S_, .f32⟩ : BufTy).Contents (Elt F) → (⟨S8, .f32⟩ : BufTy).Contents (Elt F)),
    StableHlo.binary main_v43 main_v44 main_v45 (maximumf : (⟨S8, .f32⟩ : BufTy).Contents (Elt F) → (⟨S8, .f32⟩ : BufTy).Contents (Elt F) → (⟨S8, .f32⟩ : BufTy).Contents (Elt F)),
    StableHlo.nullary main_cst_15 (constant S_ .f32 0x40000000#32),
    StableHlo.unary main_cst_15 main_v46 (broadcastInDim S8 ![] bcast_S_S8 : (⟨S_, .f32⟩ : BufTy).Contents (Elt F) → (⟨S8, .f32⟩ : BufTy).Contents (Elt F)),
    StableHlo.binary main_v45 main_v46 main_v47 (Host.powf : (⟨S8, .f32⟩ : BufTy).Contents (Elt F) → (⟨S8, .f32⟩ : BufTy).Contents (Elt F) → (⟨S8, .f32⟩ : BufTy).Contents (Elt F)),
    StableHlo.nullary main_cst_16 (constant S_ .f32 0x00000000#32),
    StableHlo.binary main_v47 main_cst_16 main_v48 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F))]
/-- What those operations write. -/
def rq6W : List (Ref sig .tc) := [main_cst_13, main_v43, main_cst_14, main_v44, main_v45, main_cst_15, main_v46, main_v47, main_cst_16, main_v48]
/-- The loop's test. -/
def rc : List (HloOp τ sig (Elt F)) := [
    StableHlo.nullary main_while0c_c_22 (constantI S_ 32 100#32),
    StableHlo.binary main_v31_2 main_while0c_c_22 main_while0c_v49 (cmpi .slt : (⟨S_, .i32⟩ : BufTy).Contents (Elt F) → (⟨S_, .i32⟩ : BufTy).Contents (Elt F) → (⟨S_, .i1⟩ : BufTy).Contents (Elt F))]
/-- What the test writes. -/
def rcW : List (Ref sig .tc) := [main_while0c_c_22, main_while0c_v49]

theorem rp_writes : (rp (F := F)).Forall fun op => op.writes ⊆ (rpW.map (Proc.devRef (τ := τ) .tc)).toFinset :=
  StableHlo.forall_writes_sub_of_map rfl
theorem rp_fresh : ∀ op ∈ (rp (F := F)), op.fresh = ∅ := List.forall_iff_forall_mem.mp (StableHlo.forall_fresh_of_map rfl)
theorem rp_bufs : (rp (F := F)).Forall fun op => op.bufs ⊆ StableHlo.tcRefs τ sig := by
  rw [List.forall_iff_forall_mem]
  simp only [rp, List.forall_mem_cons, StableHlo.TRef.nullary, StableHlo.TRef.unary, StableHlo.TRef.binary, StableHlo.TRef.ternary, StableHlo.TRef.quaternary, StableHlo.TRef.reshape, StableHlo.TRef.binaryIndexed, StableHlo.nullary_bufs_sub, StableHlo.unary_bufs_sub, StableHlo.binary_bufs_sub, StableHlo.ternary_bufs_sub, StableHlo.quaternary_bufs_sub, StableHlo.reshape_bufs_sub, StableHlo.binaryIndexed_bufs_sub, List.not_mem_nil, _root_.true_and, _root_.and_true, IsEmpty.forall_iff, implies_true]
theorem rb1_writes : (rb1 (F := F)).Forall fun op => op.writes ⊆ (rb1W.map (Proc.devRef (τ := τ) .tc)).toFinset :=
  StableHlo.forall_writes_sub_of_map rfl
theorem rb1_fresh : ∀ op ∈ (rb1 (F := F)), op.fresh = ∅ := List.forall_iff_forall_mem.mp (StableHlo.forall_fresh_of_map rfl)
theorem rb1_bufs : (rb1 (F := F)).Forall fun op => op.bufs ⊆ StableHlo.tcRefs τ sig := by
  rw [List.forall_iff_forall_mem]
  simp only [rb1, List.forall_mem_cons, StableHlo.TRef.nullary, StableHlo.TRef.unary, StableHlo.TRef.binary, StableHlo.TRef.ternary, StableHlo.TRef.quaternary, StableHlo.TRef.reshape, StableHlo.TRef.binaryIndexed, StableHlo.nullary_bufs_sub, StableHlo.unary_bufs_sub, StableHlo.binary_bufs_sub, StableHlo.ternary_bufs_sub, StableHlo.quaternary_bufs_sub, StableHlo.reshape_bufs_sub, StableHlo.binaryIndexed_bufs_sub, List.not_mem_nil, _root_.true_and, _root_.and_true, IsEmpty.forall_iff, implies_true]
theorem rb2_writes : (rb2 (F := F)).Forall fun op => op.writes ⊆ (rb2W.map (Proc.devRef (τ := τ) .tc)).toFinset :=
  StableHlo.forall_writes_sub_of_map rfl
theorem rb2_fresh : ∀ op ∈ (rb2 (F := F)), op.fresh = ∅ := List.forall_iff_forall_mem.mp (StableHlo.forall_fresh_of_map rfl)
theorem rb2_bufs : (rb2 (F := F)).Forall fun op => op.bufs ⊆ StableHlo.tcRefs τ sig := by
  rw [List.forall_iff_forall_mem]
  simp only [rb2, List.forall_mem_cons, StableHlo.TRef.nullary, StableHlo.TRef.unary, StableHlo.TRef.binary, StableHlo.TRef.ternary, StableHlo.TRef.quaternary, StableHlo.TRef.reshape, StableHlo.TRef.binaryIndexed, StableHlo.nullary_bufs_sub, StableHlo.unary_bufs_sub, StableHlo.binary_bufs_sub, StableHlo.ternary_bufs_sub, StableHlo.quaternary_bufs_sub, StableHlo.reshape_bufs_sub, StableHlo.binaryIndexed_bufs_sub, List.not_mem_nil, _root_.true_and, _root_.and_true, IsEmpty.forall_iff, implies_true]
theorem rb3_writes : (rb3 (F := F)).Forall fun op => op.writes ⊆ (rb3W.map (Proc.devRef (τ := τ) .tc)).toFinset :=
  StableHlo.forall_writes_sub_of_map rfl
theorem rb3_fresh : ∀ op ∈ (rb3 (F := F)), op.fresh = ∅ := List.forall_iff_forall_mem.mp (StableHlo.forall_fresh_of_map rfl)
theorem rb3_bufs : (rb3 (F := F)).Forall fun op => op.bufs ⊆ StableHlo.tcRefs τ sig := by
  rw [List.forall_iff_forall_mem]
  simp only [rb3, List.forall_mem_cons, StableHlo.TRef.nullary, StableHlo.TRef.unary, StableHlo.TRef.binary, StableHlo.TRef.ternary, StableHlo.TRef.quaternary, StableHlo.TRef.reshape, StableHlo.TRef.binaryIndexed, StableHlo.nullary_bufs_sub, StableHlo.unary_bufs_sub, StableHlo.binary_bufs_sub, StableHlo.ternary_bufs_sub, StableHlo.quaternary_bufs_sub, StableHlo.reshape_bufs_sub, StableHlo.binaryIndexed_bufs_sub, List.not_mem_nil, _root_.true_and, _root_.and_true, IsEmpty.forall_iff, implies_true]
theorem rb4_writes : (rb4 (F := F)).Forall fun op => op.writes ⊆ (rb4W.map (Proc.devRef (τ := τ) .tc)).toFinset :=
  StableHlo.forall_writes_sub_of_map rfl
theorem rb4_fresh : ∀ op ∈ (rb4 (F := F)), op.fresh = ∅ := List.forall_iff_forall_mem.mp (StableHlo.forall_fresh_of_map rfl)
theorem rb4_bufs : (rb4 (F := F)).Forall fun op => op.bufs ⊆ StableHlo.tcRefs τ sig := by
  rw [List.forall_iff_forall_mem]
  simp only [rb4, List.forall_mem_cons, StableHlo.TRef.nullary, StableHlo.TRef.unary, StableHlo.TRef.binary, StableHlo.TRef.ternary, StableHlo.TRef.quaternary, StableHlo.TRef.reshape, StableHlo.TRef.binaryIndexed, StableHlo.nullary_bufs_sub, StableHlo.unary_bufs_sub, StableHlo.binary_bufs_sub, StableHlo.ternary_bufs_sub, StableHlo.quaternary_bufs_sub, StableHlo.reshape_bufs_sub, StableHlo.binaryIndexed_bufs_sub, List.not_mem_nil, _root_.true_and, _root_.and_true, IsEmpty.forall_iff, implies_true]
theorem rb5_writes : (rb5 (F := F)).Forall fun op => op.writes ⊆ (rb5W.map (Proc.devRef (τ := τ) .tc)).toFinset :=
  StableHlo.forall_writes_sub_of_map rfl
theorem rb5_fresh : ∀ op ∈ (rb5 (F := F)), op.fresh = ∅ := List.forall_iff_forall_mem.mp (StableHlo.forall_fresh_of_map rfl)
theorem rb5_bufs : (rb5 (F := F)).Forall fun op => op.bufs ⊆ StableHlo.tcRefs τ sig := by
  rw [List.forall_iff_forall_mem]
  simp only [rb5, List.forall_mem_cons, StableHlo.TRef.nullary, StableHlo.TRef.unary, StableHlo.TRef.binary, StableHlo.TRef.ternary, StableHlo.TRef.quaternary, StableHlo.TRef.reshape, StableHlo.TRef.binaryIndexed, StableHlo.nullary_bufs_sub, StableHlo.unary_bufs_sub, StableHlo.binary_bufs_sub, StableHlo.ternary_bufs_sub, StableHlo.quaternary_bufs_sub, StableHlo.reshape_bufs_sub, StableHlo.binaryIndexed_bufs_sub, List.not_mem_nil, _root_.true_and, _root_.and_true, IsEmpty.forall_iff, implies_true]
theorem rq1_writes : (rq1 (F := F)).Forall fun op => op.writes ⊆ (rq1W.map (Proc.devRef (τ := τ) .tc)).toFinset :=
  StableHlo.forall_writes_sub_of_map rfl
theorem rq1_fresh : ∀ op ∈ (rq1 (F := F)), op.fresh = ∅ := List.forall_iff_forall_mem.mp (StableHlo.forall_fresh_of_map rfl)
theorem rq1_bufs : (rq1 (F := F)).Forall fun op => op.bufs ⊆ StableHlo.tcRefs τ sig := by
  rw [List.forall_iff_forall_mem]
  simp only [rq1, List.forall_mem_cons, StableHlo.TRef.nullary, StableHlo.TRef.unary, StableHlo.TRef.binary, StableHlo.TRef.ternary, StableHlo.TRef.quaternary, StableHlo.TRef.reshape, StableHlo.TRef.binaryIndexed, StableHlo.nullary_bufs_sub, StableHlo.unary_bufs_sub, StableHlo.binary_bufs_sub, StableHlo.ternary_bufs_sub, StableHlo.quaternary_bufs_sub, StableHlo.reshape_bufs_sub, StableHlo.binaryIndexed_bufs_sub, List.not_mem_nil, _root_.true_and, _root_.and_true, IsEmpty.forall_iff, implies_true]
theorem rq2_writes : (rq2 (F := F)).Forall fun op => op.writes ⊆ (rq2W.map (Proc.devRef (τ := τ) .tc)).toFinset :=
  StableHlo.forall_writes_sub_of_map rfl
theorem rq2_fresh : ∀ op ∈ (rq2 (F := F)), op.fresh = ∅ := List.forall_iff_forall_mem.mp (StableHlo.forall_fresh_of_map rfl)
theorem rq2_bufs : (rq2 (F := F)).Forall fun op => op.bufs ⊆ StableHlo.tcRefs τ sig := by
  rw [List.forall_iff_forall_mem]
  simp only [rq2, List.forall_mem_cons, StableHlo.TRef.nullary, StableHlo.TRef.unary, StableHlo.TRef.binary, StableHlo.TRef.ternary, StableHlo.TRef.quaternary, StableHlo.TRef.reshape, StableHlo.TRef.binaryIndexed, StableHlo.nullary_bufs_sub, StableHlo.unary_bufs_sub, StableHlo.binary_bufs_sub, StableHlo.ternary_bufs_sub, StableHlo.quaternary_bufs_sub, StableHlo.reshape_bufs_sub, StableHlo.binaryIndexed_bufs_sub, List.not_mem_nil, _root_.true_and, _root_.and_true, IsEmpty.forall_iff, implies_true]
theorem rq3_writes : (rq3 (F := F)).Forall fun op => op.writes ⊆ (rq3W.map (Proc.devRef (τ := τ) .tc)).toFinset :=
  StableHlo.forall_writes_sub_of_map rfl
theorem rq3_fresh : ∀ op ∈ (rq3 (F := F)), op.fresh = ∅ := List.forall_iff_forall_mem.mp (StableHlo.forall_fresh_of_map rfl)
theorem rq3_bufs : (rq3 (F := F)).Forall fun op => op.bufs ⊆ StableHlo.tcRefs τ sig := by
  rw [List.forall_iff_forall_mem]
  simp only [rq3, List.forall_mem_cons, StableHlo.TRef.nullary, StableHlo.TRef.unary, StableHlo.TRef.binary, StableHlo.TRef.ternary, StableHlo.TRef.quaternary, StableHlo.TRef.reshape, StableHlo.TRef.binaryIndexed, StableHlo.nullary_bufs_sub, StableHlo.unary_bufs_sub, StableHlo.binary_bufs_sub, StableHlo.ternary_bufs_sub, StableHlo.quaternary_bufs_sub, StableHlo.reshape_bufs_sub, StableHlo.binaryIndexed_bufs_sub, List.not_mem_nil, _root_.true_and, _root_.and_true, IsEmpty.forall_iff, implies_true]
theorem rq4_writes : (rq4 (F := F)).Forall fun op => op.writes ⊆ (rq4W.map (Proc.devRef (τ := τ) .tc)).toFinset :=
  StableHlo.forall_writes_sub_of_map rfl
theorem rq4_fresh : ∀ op ∈ (rq4 (F := F)), op.fresh = ∅ := List.forall_iff_forall_mem.mp (StableHlo.forall_fresh_of_map rfl)
theorem rq4_bufs : (rq4 (F := F)).Forall fun op => op.bufs ⊆ StableHlo.tcRefs τ sig := by
  rw [List.forall_iff_forall_mem]
  simp only [rq4, List.forall_mem_cons, StableHlo.TRef.nullary, StableHlo.TRef.unary, StableHlo.TRef.binary, StableHlo.TRef.ternary, StableHlo.TRef.quaternary, StableHlo.TRef.reshape, StableHlo.TRef.binaryIndexed, StableHlo.nullary_bufs_sub, StableHlo.unary_bufs_sub, StableHlo.binary_bufs_sub, StableHlo.ternary_bufs_sub, StableHlo.quaternary_bufs_sub, StableHlo.reshape_bufs_sub, StableHlo.binaryIndexed_bufs_sub, List.not_mem_nil, _root_.true_and, _root_.and_true, IsEmpty.forall_iff, implies_true]
theorem rq5_writes : (rq5 (F := F)).Forall fun op => op.writes ⊆ (rq5W.map (Proc.devRef (τ := τ) .tc)).toFinset :=
  StableHlo.forall_writes_sub_of_map rfl
theorem rq5_fresh : ∀ op ∈ (rq5 (F := F)), op.fresh = ∅ := List.forall_iff_forall_mem.mp (StableHlo.forall_fresh_of_map rfl)
theorem rq5_bufs : (rq5 (F := F)).Forall fun op => op.bufs ⊆ StableHlo.tcRefs τ sig := by
  rw [List.forall_iff_forall_mem]
  simp only [rq5, List.forall_mem_cons, StableHlo.TRef.nullary, StableHlo.TRef.unary, StableHlo.TRef.binary, StableHlo.TRef.ternary, StableHlo.TRef.quaternary, StableHlo.TRef.reshape, StableHlo.TRef.binaryIndexed, StableHlo.nullary_bufs_sub, StableHlo.unary_bufs_sub, StableHlo.binary_bufs_sub, StableHlo.ternary_bufs_sub, StableHlo.quaternary_bufs_sub, StableHlo.reshape_bufs_sub, StableHlo.binaryIndexed_bufs_sub, List.not_mem_nil, _root_.true_and, _root_.and_true, IsEmpty.forall_iff, implies_true]
theorem rq6_writes : (rq6 (F := F)).Forall fun op => op.writes ⊆ (rq6W.map (Proc.devRef (τ := τ) .tc)).toFinset :=
  StableHlo.forall_writes_sub_of_map rfl
theorem rq6_fresh : ∀ op ∈ (rq6 (F := F)), op.fresh = ∅ := List.forall_iff_forall_mem.mp (StableHlo.forall_fresh_of_map rfl)
theorem rq6_bufs : (rq6 (F := F)).Forall fun op => op.bufs ⊆ StableHlo.tcRefs τ sig := by
  rw [List.forall_iff_forall_mem]
  simp only [rq6, List.forall_mem_cons, StableHlo.TRef.nullary, StableHlo.TRef.unary, StableHlo.TRef.binary, StableHlo.TRef.ternary, StableHlo.TRef.quaternary, StableHlo.TRef.reshape, StableHlo.TRef.binaryIndexed, StableHlo.nullary_bufs_sub, StableHlo.unary_bufs_sub, StableHlo.binary_bufs_sub, StableHlo.ternary_bufs_sub, StableHlo.quaternary_bufs_sub, StableHlo.reshape_bufs_sub, StableHlo.binaryIndexed_bufs_sub, List.not_mem_nil, _root_.true_and, _root_.and_true, IsEmpty.forall_iff, implies_true]
theorem rc_writes : (rc (F := F)).Forall fun op => op.writes ⊆ (rcW.map (Proc.devRef (τ := τ) .tc)).toFinset :=
  StableHlo.forall_writes_sub_of_map rfl
theorem rc_fresh : ∀ op ∈ (rc (F := F)), op.fresh = ∅ := List.forall_iff_forall_mem.mp (StableHlo.forall_fresh_of_map rfl)
theorem rc_bufs : (rc (F := F)).Forall fun op => op.bufs ⊆ StableHlo.tcRefs τ sig := by
  rw [List.forall_iff_forall_mem]
  simp only [rc, List.forall_mem_cons, StableHlo.TRef.nullary, StableHlo.TRef.unary, StableHlo.TRef.binary, StableHlo.TRef.ternary, StableHlo.TRef.quaternary, StableHlo.TRef.reshape, StableHlo.TRef.binaryIndexed, StableHlo.nullary_bufs_sub, StableHlo.unary_bufs_sub, StableHlo.binary_bufs_sub, StableHlo.ternary_bufs_sub, StableHlo.quaternary_bufs_sub, StableHlo.reshape_bufs_sub, StableHlo.binaryIndexed_bufs_sub, List.not_mem_nil, _root_.true_and, _root_.and_true, IsEmpty.forall_iff, implies_true]

/-- What runs before the loop. -/
def preI : List (List (HloOp τ sig (Elt F))) := [rp]
/-- What the body runs. -/
def bodyI : List (List (HloOp τ sig (Elt F))) := [rb1, rb2, rb3, rb4, rb5]
/-- What runs after the loop. -/
def postI : List (List (HloOp τ sig (Elt F))) := [rq1, rq2, rq3, rq4, rq5, rq6]

theorem preI_plain : Plain (preI (F := F)) := StableHlo.Plain.cons rp_bufs (StableHlo.Plain.nil) rp_fresh
theorem bodyI_plain : Plain (bodyI (F := F)) := StableHlo.Plain.cons rb1_bufs (StableHlo.Plain.cons rb2_bufs (StableHlo.Plain.cons rb3_bufs (StableHlo.Plain.cons rb4_bufs (StableHlo.Plain.cons rb5_bufs (StableHlo.Plain.nil) rb5_fresh) rb4_fresh) rb3_fresh) rb2_fresh) rb1_fresh
theorem postI_plain : Plain (postI (F := F)) := StableHlo.Plain.cons rq1_bufs (StableHlo.Plain.cons rq2_bufs (StableHlo.Plain.cons rq3_bufs (StableHlo.Plain.cons rq4_bufs (StableHlo.Plain.cons rq5_bufs (StableHlo.Plain.cons rq6_bufs (StableHlo.Plain.nil) rq6_fresh) rq5_fresh) rq4_fresh) rq3_fresh) rq2_fresh) rq1_fresh

theorem main_eq (c : Dev nD) : main (F := F) c = Pipeline.chain ((preI.map fun ops => (seq ops : Prog _ PUnit)) ++ HostLoop.enter 0 :: postI.map fun ops => (seq ops : Prog _ PUnit)) := by
  rfl
theorem body_eq : main_while0_body (F := F) = Pipeline.chain (bodyI.map fun ops => (seq ops : Prog _ PUnit)) := by
  rfl

end Cert.Proof.Ref
-- ==== Proof.RefRun.lean ====
/-
  The reference's run: its loop makes a hundred trips; it ends, its arguments are as they were.
-/
module

public import proofs.«01_k».proof.Proof.Ref

@[expose] public section

set_option maxRecDepth 16384
set_option maxHeartbeats 4000000

noncomputable section

namespace Cert.Proof.Ref

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo (held after seq afterL Plain atTrip entryContents finalContents CondSpec)

variable {F : FTy → Type} [FloatOps F]

local notation "dr" => Proc.devRef (τ := τ) (sig := sig) Proc.tc

variable (m : (ℓ : Loc nD τ sig) → Buf (Elt F) ℓ)

/-- What the buffers hold when the loop begins. -/
abbrev W0 (c : Dev nD) : Valuation τ sig (Elt F) := entryContents preI m c
/-- What they hold before the test of trip `k`. -/
abbrev Wk (k : ℕ) (c : Dev nD) : Valuation τ sig (Elt F) := atTrip rc bodyI (entryContents preI m) k c
/-- One trip, the test included. -/
def trip (V : Valuation τ sig (Elt F)) : Valuation τ sig (Elt F) := after rb5 (after rb4 (after rb3 (after rb2 (after rb1 (after rc V)))))

theorem Wk_succ (k : ℕ) (c : Dev nD) : Wk m (k + 1) c = trip (Wk m k c) := rfl

/-- What a trip does not write it keeps. -/
theorem trip_keep (V : Valuation τ sig (Elt F)) {r : Ref sig .tc} (h0 : r ∉ rcW) (h1 : r ∉ rb1W) (h2 : r ∉ rb2W) (h3 : r ∉ rb3W) (h4 : r ∉ rb4W) (h5 : r ∉ rb5W) :
    trip V (dr r) = V (dr r) := by
  unfold trip
  rw [StableHlo.after_of_writes_sub _ _ rb5_writes h5, StableHlo.after_of_writes_sub _ _ rb4_writes h4, StableHlo.after_of_writes_sub _ _ rb3_writes h3,
    StableHlo.after_of_writes_sub _ _ rb2_writes h2, StableHlo.after_of_writes_sub _ _ rb1_writes h1, StableHlo.after_of_writes_sub _ _ rc_writes h0]

theorem rb5_ctr (V : Valuation τ sig (Elt F)) : after rb5 V (dr main_v31_2) = addi (V (dr main_v31_2)) (constantI S_ 32 1#32) := by
  unfold rb5
  after_reads_simp
  rfl

theorem trip_ctr (V : Valuation τ sig (Elt F)) : trip V (dr main_v31_2) = addi (V (dr main_v31_2)) (constantI S_ 32 1#32) := by
  unfold trip
  rw [rb5_ctr, StableHlo.after_of_writes_sub _ _ rb4_writes (by decide), StableHlo.after_of_writes_sub _ _ rb3_writes (by decide),
    StableHlo.after_of_writes_sub _ _ rb2_writes (by decide), StableHlo.after_of_writes_sub _ _ rb1_writes (by decide), StableHlo.after_of_writes_sub _ _ rc_writes (by decide)]

theorem entry_ctr (c : Dev nD) : W0 m c (dr main_v31_2) = fun _ => (0#32 : BitVec 32) := by
  show after rp _ (dr main_v31_2) = _
  unfold rp
  after_reads_simp
  rfl

/-- Before trip `k` the counter is `k`. -/
theorem Wk_ctr (c : Dev nD) : ∀ k, Wk m k c (dr main_v31_2) = fun _ => Scf.iv 0#32 1#32 k
  | 0 => by rw [show Wk m 0 c = W0 m c from rfl, entry_ctr, Scf.iv_zero]
  | k + 1 => by
    rw [Wk_succ, trip_ctr, Wk_ctr c k, Scf.iv_succ]
    rfl

set_option backward.isDefEq.respectTransparency.types false in
/-- The loop's test holds a hundred times. -/
theorem cond_spec : CondSpec (pcfgs (F := F)) defs₀ loops (main_while0_cond (F := F)) rc bodyI (entryContents preI m) 100 := by
  intro k hk c bd
  have hctr := Wk_ctr m c k
  unfold main_while0_cond
  simp only [bind_pure]
  rw [wp_bind]
  iintro ⟨Hb, Hh⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk m k c) main_v31_2 HostLoop.idx0)
        (HloOp.result _ (Wk m k c) main_while0c_c_22 HostLoop.idx0) = 1#1) (k < 100)
    rw [StableHlo.nullary_result_ne _ _ _ _ (by decide), StableHlo.nullary_result, hctr]
    exact Scf.cmpi_slt_iv_ub_iff (lb := 0#32) (ub := 100#32) (st := 1#32) (by decide) (show k ≤ Scf.trips 0#32 100#32 1#32 from hk)
  isplitl [Hb]; · iexact Hb
  rw [show after rc (atTrip rc bodyI (entryContents preI m) k c) = _ from rfl]
  iexact Hh

/-- What the buffers hold at the end. -/
abbrev Wend (c : Dev nD) : Valuation τ sig (Elt F) := finalContents rc preI bodyI postI 100 m c

/-- The reference's run. -/
theorem run_ref [∀ e, Nonempty (Elt F e)] (ρ : Dev nD → PrngReg) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = Wend m c (Proc.devRef .tc b)) :=
  StableHlo.run_loop (pcfgs (F := F)) defs₀ loops main 0 main_while0_cond main_while0_body rfl preI bodyI postI rc
    preI_plain bodyI_plain postI_plain main_eq body_eq 100 m ρ (cond_spec m)

theorem Wk_keep (k : ℕ) (c : Dev nD) {r : Ref sig .tc} (h0 : r ∉ rcW) (h1 : r ∉ rb1W) (h2 : r ∉ rb2W) (h3 : r ∉ rb3W) (h4 : r ∉ rb4W) (h5 : r ∉ rb5W) :
    Wk m k c (dr r) = W0 m c (dr r) := by
  induction k with
  | zero => rfl
  | succ k ih => rw [Wk_succ, trip_keep _ h0 h1 h2 h3 h4 h5, ih]

/-- The buffers when the loop has ended and its test has failed. -/
def Wx (c : Dev nD) : Valuation τ sig (Elt F) := after rc (Wk m 100 c)

theorem Wend_eq (c : Dev nD) : Wend m c = after rq6 (after rq5 (after rq4 (after rq3 (after rq2 (after rq1 (Wx m c)))))) := rfl

theorem Wx_keep (c : Dev nD) {r : Ref sig .tc} (h0 : r ∉ rcW) (h1 : r ∉ rb1W) (h2 : r ∉ rb2W) (h3 : r ∉ rb3W) (h4 : r ∉ rb4W) (h5 : r ∉ rb5W) :
    Wx m c (dr r) = W0 m c (dr r) := by
  rw [Wx, StableHlo.after_of_writes_sub _ _ rc_writes h0, Wk_keep m 100 c h0 h1 h2 h3 h4 h5]

theorem W0_keep (c : Dev nD) {r : Ref sig .tc} (h : r ∉ rpW) : W0 m c (dr r) = m (c, dr r) :=
  StableHlo.after_of_writes_sub rp _ rp_writes h

/-- An argument ends as it was. -/
theorem Wend_arg (c : Dev nD) {r : Ref sig .tc} (hr : r = main_arg0 ∨ r = main_arg1) : Wend m c (dr r) = m (c, dr r) := by
  rw [Wend_eq]
  rcases hr with rfl | rfl <;>
  rw [StableHlo.after_of_writes_sub _ _ rq6_writes (by decide), StableHlo.after_of_writes_sub _ _ rq5_writes (by decide),
    StableHlo.after_of_writes_sub _ _ rq4_writes (by decide), StableHlo.after_of_writes_sub _ _ rq3_writes (by decide),
    StableHlo.after_of_writes_sub _ _ rq2_writes (by decide), StableHlo.after_of_writes_sub _ _ rq1_writes (by decide),
    Wx_keep m c (by decide) (by decide) (by decide) (by decide) (by decide) (by decide), W0_keep m c (by decide)]

/-- The reference ends with its two arguments unchanged and every counter at zero. -/
theorem frame_ref : Cert.quiescent_ReferenceIdeal := fun m ρ _ =>
  (θ_run defs _ _).mono
    (fun r h => ⟨fun c => ⟨(h c main_arg0 (by decide)).trans (Wend_arg m c (.inl rfl)), (h c main_arg1 (by decide)).trans (Wend_arg m c (.inr rfl))⟩,
      Idealize.ShloMosaic.sem_eq_zero_of_no_sems (by decide) r.2⟩)
    (run_ref m ρ)

end Cert.Proof.Ref
-- ==== Proof.Best.lean ====
/-
  The best of a set of positions, over the ideal numbers, and the levels that keep it.
-/
module

public import proofs.«01_k».proof.Proof.Phase
public import Idealize.ShloMosaic.PureOps.Ideal
public import Idealize.ShloMosaic.PureOps.Ideal.Laws

@[expose] public section

set_option maxRecDepth 4096
set_option maxHeartbeats 1000000

noncomputable section

namespace Cert.Proof.Nms

open Cert.KernelIdeal Cert.KernelIdeal.Gen
open Idealize.ShloMosaic

/-! ## The constants -/

/-- Below every score: −3. -/
abbrev cLow : EReal := Ideal.ofBits .f32 0xC0400000#32
/-- A score not considered: −1. -/
abbrev cNo : EReal := Ideal.ofBits .f32 0xBF800000#32
/-- The threshold of a score. -/
abbrev cMin : EReal := Ideal.ofBits .f32 0x3ECCCCCD#32
/-- The threshold of an overlap. -/
abbrev cHalf : EReal := Ideal.ofBits .f32 0x3F000000#32
/-- The small number added to a union. -/
abbrev cEps : EReal := Ideal.ofBits .f32 0x322BCC77#32
/-- The far end of an empty slot. -/
abbrev cFar : EReal := Ideal.ofBits .f32 0x4EEE6B28#32
/-- The near end of an empty slot. -/
abbrev cNear : EReal := Ideal.ofBits .f32 0x4E6E6B28#32

theorem cLow_eq : cLow = ((-3 : ℝ) : EReal) := by
  simp [cLow, Ideal.ofBits, Ideal.ieee, -EReal.coe_mul, -EReal.coe_neg]; norm_num
theorem cNo_eq : cNo = ((-1 : ℝ) : EReal) := by
  simp [cNo, Ideal.ofBits, Ideal.ieee, -EReal.coe_mul, -EReal.coe_neg]; norm_num
theorem cMin_eq : cMin = ((13421773 / 33554432 : ℝ) : EReal) := by
  simp [cMin, Ideal.ofBits, Ideal.ieee, -EReal.coe_mul, -EReal.coe_neg]; norm_num
theorem cHalf_eq : cHalf = ((1 / 2 : ℝ) : EReal) := by
  simp [cHalf, Ideal.ofBits, Ideal.ieee, -EReal.coe_mul, -EReal.coe_neg]; norm_num
theorem cFar_eq : cFar = ((2000000000 : ℝ) : EReal) := by
  simp [cFar, Ideal.ofBits, Ideal.ieee, -EReal.coe_mul, -EReal.coe_neg]; norm_num
theorem cNear_eq : cNear = ((1000000000 : ℝ) : EReal) := by
  simp [cNear, Ideal.ofBits, Ideal.ieee, -EReal.coe_mul, -EReal.coe_neg]; norm_num

theorem cLow_lt_cNo : cLow < cNo := by rw [cLow_eq, cNo_eq, EReal.coe_lt_coe_iff]; norm_num
theorem cNo_neg : cNo < 0 := by rw [cNo_eq, ← EReal.coe_zero, EReal.coe_lt_coe_iff]; norm_num
theorem cMin_pos : 0 < cMin := by rw [cMin_eq, ← EReal.coe_zero, EReal.coe_lt_coe_iff]; norm_num
theorem cHalf_pos : 0 < cHalf := by rw [cHalf_eq, ← EReal.coe_zero, EReal.coe_lt_coe_iff]; norm_num
theorem cNear_lt_cFar : cNear < cFar := by rw [cNear_eq, cFar_eq, EReal.coe_lt_coe_iff]; norm_num
theorem cNo_lt_cMin : cNo < cMin := lt_trans cNo_neg cMin_pos
theorem cLow_lt_cMin : cLow < cMin := lt_trans cLow_lt_cNo cNo_lt_cMin

/-! ## The best of a set -/

/-- The best of the positions in `S`: its value and the first position that has it. -/
def Best (S : ℕ → Prop) (f : ℕ → EReal) (v : EReal) (i : ℕ) : Prop :=
  ((∀ j, ¬ S j) ∧ v = cLow) ∨ (S i ∧ v = f i ∧ ∀ j, S j → f j < v ∨ (f j = v ∧ i ≤ j))

theorem Best.congr {S S' : ℕ → Prop} {f f' : ℕ → EReal} {v : EReal} {i : ℕ} (h : Best S f v i) (hS : ∀ j, S j ↔ S' j) (hf : ∀ j, S j → f j = f' j) :
    Best S' f' v i := by
  rcases h with ⟨h1, h2⟩ | ⟨h1, h2, h3⟩
  · exact .inl ⟨fun j hj => h1 j ((hS j).2 hj), h2⟩
  · refine .inr ⟨(hS i).1 h1, h2.trans (hf i h1), fun j hj => ?_⟩
    have hj' := (hS j).2 hj
    rw [← hf j hj']
    exact h3 j hj'

/-- Two sets, the first before the second: the second's best counts if it is larger. -/
theorem Best.join {S T : ℕ → Prop} {f : ℕ → EReal} {v w : EReal} {i k : ℕ} (h : Best S f v i) (h' : Best T f w k)
    (hST : ∀ a b, S a → T b → a < b) (hS : ∀ a, S a → cLow < f a) (hT : ∀ b, T b → cLow < f b) :
    (v < w → Best (fun j => S j ∨ T j) f w k) ∧ (¬ v < w → Best (fun j => S j ∨ T j) f v i) := by
  rcases h with ⟨h1, h2⟩ | ⟨h1, h2, h3⟩
  · rcases h' with ⟨g1, g2⟩ | ⟨g1, g2, g3⟩
    · subst h2 g2
      refine ⟨fun h => absurd h (lt_irrefl _), fun _ => .inl ⟨fun j hj => ?_, rfl⟩⟩
      rcases hj with hj | hj
      · exact h1 j hj
      · exact g1 j hj
    · refine ⟨fun _ => .inr ⟨.inr g1, g2, fun j hj => ?_⟩, fun h => absurd ?_ h⟩
      · rcases hj with hj | hj
        · exact absurd hj (h1 j)
        · exact g3 j hj
      · rw [h2, g2]; exact hT k g1
  · rcases h' with ⟨g1, g2⟩ | ⟨g1, g2, g3⟩
    · refine ⟨fun h => absurd h ?_, fun _ => .inr ⟨.inl h1, h2, fun j hj => ?_⟩⟩
      · rw [g2, h2]; exact not_lt.2 (le_of_lt (hS i h1))
      · rcases hj with hj | hj
        · exact h3 j hj
        · exact absurd hj (g1 j)
    · constructor
      · intro h
        refine .inr ⟨.inr g1, g2, fun j hj => ?_⟩
        rcases hj with hj | hj
        · refine .inl ?_
          rcases h3 j hj with e | ⟨e, -⟩
          · exact lt_trans e h
          · rw [e]; exact h
        · exact g3 j hj
      · intro h
        refine .inr ⟨.inl h1, h2, fun j hj => ?_⟩
        rcases hj with hj | hj
        · exact h3 j hj
        · have hij : i ≤ j := le_of_lt (hST i j h1 hj)
          rcases g3 j hj with e | ⟨e, -⟩
          · exact .inl (lt_of_lt_of_le e (not_lt.1 h))
          · rcases lt_or_eq_of_le (not_lt.1 h) with h4 | h4
            · exact .inl (e ▸ h4)
            · exact .inr ⟨e.trans h4, hij⟩

theorem ofBool_one (b : Bool) : BitVec.ofBool b = 1#1 ↔ b = true := by cases b <;> decide

theorem cmp_gt (x y : EReal) : (Ideal.cmp .ogt x y = 1#1) ↔ y < x := by
  unfold Ideal.cmp; rw [ofBool_one, decide_eq_true_iff]
theorem cmp_ge (x y : EReal) : (Ideal.cmp .oge x y = 1#1) ↔ y ≤ x := by
  unfold Ideal.cmp; rw [ofBool_one, decide_eq_true_iff]
theorem cmp_lt (x y : EReal) : (Ideal.cmp .olt x y = 1#1) ↔ x < y := by
  unfold Ideal.cmp; rw [ofBool_one, decide_eq_true_iff]
theorem cmp_le (x y : EReal) : (Ideal.cmp .ole x y = 1#1) ↔ x ≤ y := by
  unfold Ideal.cmp; rw [ofBool_one, decide_eq_true_iff]
theorem cmp_eq (x y : EReal) : (Ideal.cmp .oeq x y = 1#1) ↔ x = y := by
  unfold Ideal.cmp; rw [ofBool_one, decide_eq_true_iff]

theorem sel_pos {α : Type} {c : BitVec 1} (h : c = 1#1) (a b : α) : Scalar.select c a b = a := if_pos h
theorem sel_neg {α : Type} {c : BitVec 1} (h : ¬ c = 1#1) (a b : α) : Scalar.select c a b = b := if_neg h

/-- The best of each lane over rows whose entries are the bests of sets one after the other. -/
theorem fold_best (f : ℕ → EReal) (v : ℕ → EReal) (ix : ℕ → BitVec 32) (o : ℕ) (S : ℕ → ℕ → Prop) (x : S16.Idx) (n : ℕ)
    (hb : ∀ t < n, Best (S t) f (v (o + t * 16 + (x 0).val)) (ix (o + t * 16 + (x 0).val)).toNat)
    (ho : ∀ t t' a b, t < t' → S t a → S t' b → a < b) (hf : ∀ t a, S t a → cLow < f a) :
    Best (fun j => ∃ t < n, S t j) f ((fold (F := Ideal) v ix o n).1 x) ((fold (F := Ideal) v ix o n).2 x).toNat := by
  induction n with
  | zero => exact .inl ⟨fun j ⟨t, ht, _⟩ => absurd ht (Nat.not_lt_zero t), rfl⟩
  | succ n ih =>
    have h1 := ih fun t ht => hb t (by omega)
    have h2 := hb n (by omega)
    obtain ⟨j1, j2⟩ := h1.join h2 (fun a b ⟨t, ht, ha⟩ hb' => ho t n a b ht ha hb') (fun a ⟨t, _, ha⟩ => hf t a ha) (fun b hb' => hf n b hb')
    have hS : ∀ j, ((∃ t < n, S t j) ∨ S n j) ↔ ∃ t < n + 1, S t j := by
      intro j
      constructor
      · rintro (⟨t, ht, h⟩ | h)
        · exact ⟨t, by omega, h⟩
        · exact ⟨n, by omega, h⟩
      · rintro ⟨t, ht, h⟩
        rcases Nat.lt_succ_iff_lt_or_eq.1 ht with h' | rfl
        · exact .inl ⟨t, h', h⟩
        · exact .inr h
    show Best _ f (Scalar.select (Ideal.cmp .ogt (v (o + n * 16 + (x 0).val)) ((fold (F := Ideal) v ix o n).1 x)) (v (o + n * 16 + (x 0).val)) ((fold (F := Ideal) v ix o n).1 x))
      (Scalar.select (Ideal.cmp .ogt (v (o + n * 16 + (x 0).val)) ((fold (F := Ideal) v ix o n).1 x)) (ix (o + n * 16 + (x 0).val)) ((fold (F := Ideal) v ix o n).2 x)).toNat
    by_cases hlt : (fold (F := Ideal) v ix o n).1 x < v (o + n * 16 + (x 0).val)
    · rw [sel_pos ((cmp_gt _ _).2 hlt), sel_pos ((cmp_gt _ _).2 hlt)]
      exact (j1 hlt).congr hS fun _ _ => rfl
    · rw [sel_neg (fun e => hlt ((cmp_gt _ _).1 e)), sel_neg (fun e => hlt ((cmp_gt _ _).1 e))]
      exact (j2 hlt).congr hS fun _ _ => rfl

/-! ## The tree over sixteen lanes -/

/-- An operation that answers one of its two arguments answers one of the sixteen. -/
theorem tree_mem {α : Type} (op : α → α → α) (h : ∀ a b, op a b = a ∨ op a b = b) (w : S16.Idx → α) : ∃ x, tree op w = w x := by
  have h2 : ∀ a b : α, (∃ x, a = w x) → (∃ x, b = w x) → ∃ x, op a b = w x := by
    rintro a b ⟨x, hx⟩ ⟨y, hy⟩
    rcases h a b with e | e
    · exact ⟨x, e.trans hx⟩
    · exact ⟨y, e.trans hy⟩
  unfold tree
  repeat' apply h2
  all_goals exact ⟨_, rfl⟩

theorem lane_cases (P : S16.Idx → Prop) (h : ∀ n < 16, P (lane n)) (x : S16.Idx) : P x := by
  have hx : (x 0).val < 16 := (x 0).isLt
  have e : x = lane (x 0).val := by
    funext a
    obtain rfl : a = (0 : Fin 1) := Subsingleton.elim (α := Fin 1) _ _
    exact Fin.ext (Nat.mod_eq_of_lt hx).symm
  rw [e]
  exact h _ hx

/-- A bound through an operation that is below both its arguments bounds the tree below all sixteen. -/
theorem tree_rel {α : Type} (op : α → α → α) (R : α → α → Prop) (ht : ∀ a b c, R a b → R b c → R a c) (hl : ∀ a b, R (op a b) a) (hr : ∀ a b, R (op a b) b)
    (w : S16.Idx → α) (x : S16.Idx) : R (tree op w) (w x) := by
  have L : ∀ a b c, R a c → R (op a b) c := fun a b c h => ht _ _ _ (hl a b) h
  have M : ∀ a b c, R b c → R (op a b) c := fun a b c h => ht _ _ _ (hr a b) h
  refine lane_cases (fun x => R (tree op w) (w x)) (fun n hn => ?_) x
  unfold tree
  interval_cases n
  · exact L _ _ _ (L _ _ _ (L _ _ _ (hl _ _)))
  · exact M _ _ _ (L _ _ _ (L _ _ _ (hl _ _)))
  · exact L _ _ _ (M _ _ _ (L _ _ _ (hl _ _)))
  · exact M _ _ _ (M _ _ _ (L _ _ _ (hl _ _)))
  · exact L _ _ _ (L _ _ _ (M _ _ _ (hl _ _)))
  · exact M _ _ _ (L _ _ _ (M _ _ _ (hl _ _)))
  · exact L _ _ _ (M _ _ _ (M _ _ _ (hl _ _)))
  · exact M _ _ _ (M _ _ _ (M _ _ _ (hl _ _)))
  · exact L _ _ _ (L _ _ _ (L _ _ _ (hr _ _)))
  · exact M _ _ _ (L _ _ _ (L _ _ _ (hr _ _)))
  · exact L _ _ _ (M _ _ _ (L _ _ _ (hr _ _)))
  · exact M _ _ _ (M _ _ _ (L _ _ _ (hr _ _)))
  · exact L _ _ _ (L _ _ _ (M _ _ _ (hr _ _)))
  · exact M _ _ _ (L _ _ _ (M _ _ _ (hr _ _)))
  · exact L _ _ _ (M _ _ _ (M _ _ _ (hr _ _)))
  · exact M _ _ _ (M _ _ _ (M _ _ _ (hr _ _)))

theorem tree_max_ge (w : S16.Idx → EReal) (x : S16.Idx) : w x ≤ tree (FloatOps.maximumf (F := Ideal) (φ := .f32)) w :=
  tree_rel (FloatOps.maximumf (F := Ideal) (φ := .f32)) (fun a b => b ≤ a) (fun _ _ _ h h' => le_trans h' h) (fun a b => le_max_left a b) (fun a b => le_max_right a b) w x
theorem tree_max_mem (w : S16.Idx → EReal) : ∃ x, tree (FloatOps.maximumf (F := Ideal) (φ := .f32)) w = w x :=
  tree_mem _ (fun a b => max_choice a b) w

theorem minsi_toNat {x y : BitVec 32} (hx : x.toNat < 2 ^ 31) (hy : y.toNat < 2 ^ 31) : (IntOp.minsi x y).toNat = min x.toNat y.toNat := by
  have h := minsi_small hx hy
  have h' := congrArg BitVec.toNat h
  rw [toNat_small (by omega)] at h'
  exact h'

theorem tree_min_mem (w : S16.Idx → BitVec 32) : ∃ x, tree IntOp.minsi w = w x :=
  tree_mem _ (fun a b => by unfold IntOp.minsi; split; exacts [.inl rfl, .inr rfl]) w

/-- The tree's smallest word, where all sixteen are nonnegative. -/
theorem tree_min_le (w : S16.Idx → BitVec 32) (h : ∀ x, (w x).toNat < 2 ^ 31) (x : S16.Idx) : (tree IntOp.minsi w).toNat ≤ (w x).toNat := by
  let m : {a : BitVec 32 // a.toNat < 2 ^ 31} → {a : BitVec 32 // a.toNat < 2 ^ 31} → {a : BitVec 32 // a.toNat < 2 ^ 31} :=
    fun a b => ⟨IntOp.minsi a.1 b.1, minsi_lt a.2 b.2⟩
  have e : tree IntOp.minsi w = (tree m fun x => ⟨w x, h x⟩).1 := rfl
  rw [e]
  exact tree_rel m (fun a b => a.1.toNat ≤ b.1.toNat) (fun _ _ _ h h' => le_trans h h')
    (fun a b => by show (IntOp.minsi a.1 b.1).toNat ≤ _; rw [minsi_toNat a.2 b.2]; exact Nat.min_le_left _ _)
    (fun a b => by show (IntOp.minsi a.1 b.1).toNat ≤ _; rw [minsi_toNat a.2 b.2]; exact Nat.min_le_right _ _) (fun x => ⟨w x, h x⟩) x

end Cert.Proof.Nms
-- ==== Proof.Levels.lean ====
/-
  What the three levels hold over the extended reals: the best of each class of positions, before and after a pop; and the
  pop's candidate as the first best position of all.
-/
module

public import proofs.«01_k».proof.Proof.Best

@[expose] public section

noncomputable section

namespace Cert.Proof.Nms

open Cert.KernelIdeal Cert.KernelIdeal.Gen
open Idealize.ShloMosaic

/-- The positions of a first-level entry. -/
def S1 (g x n : ℕ) : Prop := n < 20016 ∧ n / 256 = g ∧ n % 16 = x
/-- The positions of a second-level entry. -/
def S2 (G x n : ℕ) : Prop := n < 20016 ∧ n / 4096 = G ∧ n % 16 = x
/-- The positions of a lane. -/
def S3 (x n : ℕ) : Prop := n < 20016 ∧ n % 16 = x

theorem lane_val (x : S16.Idx) : (x 0).val < 16 := (x 0).isLt

theorem lane_self (x : S16.Idx) : lane (x 0).val = x := by
  funext a
  obtain rfl : a = (0 : Fin 1) := Subsingleton.elim (α := Fin 1) _ _
  exact Fin.ext (Nat.mod_eq_of_lt (lane_val x))

theorem lane_zero {n : ℕ} (h : n < 16) : ((lane n) 0).val = n := Nat.mod_eq_of_lt h

/-- A group of the first level, computed from the scores. -/
theorem fold1_best (f : ℕ → EReal) (hf : ∀ n < 20016, cLow < f n) (g : ℕ) (hg : g < 80) (x : S16.Idx) :
    Best (S1 g (x 0).val) f ((fold (F := Ideal) f (fun n => BitVec.ofNat 32 n) (g * 256) (rowsOf g)).1 x)
      ((fold (F := Ideal) f (fun n => BitVec.ofNat 32 n) (g * 256) (rowsOf g)).2 x).toNat := by
  have hx := lane_val x
  refine (fold_best f f (fun n => BitVec.ofNat 32 n) (g * 256) (fun t j => j = g * 256 + t * 16 + (x 0).val ∧ j < 20016) x (rowsOf g) ?_ ?_ ?_).congr ?_ fun _ _ => rfl
  · intro t ht
    unfold rowsOf at ht
    beta_reduce
    rw [toNat_small (by omega)]
    refine .inr ⟨⟨rfl, by omega⟩, rfl, ?_⟩
    rintro j ⟨rfl, -⟩
    exact .inr ⟨rfl, le_refl _⟩
  · rintro t t' a b h ⟨rfl, -⟩ ⟨rfl, -⟩
    omega
  · rintro t a ⟨-, h⟩
    exact hf a h
  · intro j
    unfold S1 rowsOf
    constructor
    · rintro ⟨t, ht, rfl, h⟩
      omega
    · rintro ⟨h1, h2, h3⟩
      exact ⟨(j - g * 256) / 16, by omega, by omega, h1⟩

/-- A group of the second level, computed from the first. -/
theorem fold2_best (f v : ℕ → EReal) (ix : ℕ → BitVec 32) (hf : ∀ n < 20016, cLow < f n)
    (h1 : ∀ g < 80, ∀ x < 16, Best (S1 g x) f (v (g * 16 + x)) (ix (g * 16 + x)).toNat) (G : ℕ) (hG : G < 5) (x : S16.Idx) :
    Best (S2 G (x 0).val) f ((fold (F := Ideal) v ix (G * 256) 16).1 x) ((fold (F := Ideal) v ix (G * 256) 16).2 x).toNat := by
  have hx := lane_val x
  refine (fold_best f v ix (G * 256) (fun t j => S1 (G * 16 + t) (x 0).val j) x 16 ?_ ?_ ?_).congr ?_ fun _ _ => rfl
  · intro t ht
    have := h1 (G * 16 + t) (by omega) _ hx
    rw [show (G * 16 + t) * 16 + (x 0).val = G * 256 + t * 16 + (x 0).val by omega] at this
    exact this
  · rintro t t' a b h ⟨-, ha, -⟩ ⟨-, hb, -⟩
    omega
  · rintro t a ⟨h, -⟩
    exact hf a h
  · intro j
    unfold S1 S2
    constructor
    · rintro ⟨t, ht, h, h2, h3⟩
      omega
    · rintro ⟨h, h2, h3⟩
      exact ⟨j / 256 - G * 16, by omega, h, by omega, h3⟩

/-- The levels hold what they should. -/
structure Lev (s : St Ideal) : Prop where
  low : ∀ n < 20016, cLow < s.mv n
  l1 : ∀ g < 80, ∀ x < 16, Best (S1 g x) s.mv (s.l1v (g * 16 + x)) (s.l1i (g * 16 + x)).toNat
  l2 : ∀ G < 5, ∀ x < 16, Best (S2 G x) s.mv (s.l2v (G * 16 + x)) (s.l2i (G * 16 + x)).toNat

theorem Lev.top {s : St Ideal} (h : Lev s) (x : S16.Idx) : Best (S3 (x 0).val) s.mv ((top s).1 x) ((top s).2 x).toNat := by
  have hx := lane_val x
  refine (fold_best s.mv s.l2v s.l2i 0 (fun t j => S2 t (x 0).val j) x 5 ?_ ?_ ?_).congr ?_ fun _ _ => rfl
  · intro t ht
    have := h.l2 t ht _ hx
    rw [show t * 16 + (x 0).val = 0 + t * 16 + (x 0).val by omega] at this
    exact this
  · rintro t t' a b h ⟨-, ha, -⟩ ⟨-, hb, -⟩
    omega
  · rintro t a ⟨hl, -⟩
    exact h.low a hl
  · intro j
    unfold S2 S3
    constructor
    · rintro ⟨t, ht, h, h2, h3⟩
      exact ⟨h, h3⟩
    · rintro ⟨h, h2⟩
      exact ⟨j / 4096, by omega, h, rfl, h2⟩

theorem Lev.top' {s : St Ideal} (h : Lev s) (x : S16.Idx) : S3 (x 0).val ((Nms.top s).2 x).toNat ∧ (Nms.top s).1 x = s.mv ((Nms.top s).2 x).toNat ∧
    ∀ j, S3 (x 0).val j → s.mv j < (Nms.top s).1 x ∨ (s.mv j = (Nms.top s).1 x ∧ ((Nms.top s).2 x).toNat ≤ j) := by
  have hx := lane_val x
  rcases h.top x with ⟨h1, -⟩ | h1
  · exact absurd ⟨by omega, Nat.mod_eq_of_lt hx⟩ (h1 (x 0).val)
  · exact h1

/-- The candidate is the first best position of all. -/
theorem Lev.best {s : St Ideal} (h : Lev s) : (atW s).toNat < 20016 ∧ Nms.best s = s.mv (atW s).toNat ∧
    ∀ j < 20016, s.mv j < Nms.best s ∨ (s.mv j = Nms.best s ∧ (atW s).toNat ≤ j) := by
  have hc : ∀ x, ((Nms.top s).1 x = Nms.best s → cand (Nms.top s) (Nms.best s) x = (Nms.top s).2 x) ∧
      (¬ (Nms.top s).1 x = Nms.best s → cand (Nms.top s) (Nms.best s) x = 1073741824#32) := fun x =>
    ⟨fun e => sel_pos ((cmp_eq _ _).2 e) _ _, fun e => sel_neg (fun e' => e ((cmp_eq _ _).1 e')) _ _⟩
  have hle : ∀ x, (Nms.top s).1 x ≤ Nms.best s := fun x => tree_max_ge (Nms.top s).1 x
  have hlt : ∀ x, (cand (Nms.top s) (Nms.best s) x).toNat < 2 ^ 31 := by
    intro x
    by_cases e : (Nms.top s).1 x = Nms.best s
    · rw [(hc x).1 e]
      have := (h.top' x).1.1
      omega
    · rw [(hc x).2 e]; decide
  have hmin : ∀ x, (atW s).toNat ≤ (cand (Nms.top s) (Nms.best s) x).toNat := tree_min_le _ hlt
  obtain ⟨y, hy⟩ := tree_max_mem (Nms.top s).1
  have hy' : (Nms.top s).1 y = Nms.best s := hy.symm
  obtain ⟨x, hx⟩ := tree_min_mem (cand (Nms.top s) (Nms.best s))
  have hx' : atW s = cand (Nms.top s) (Nms.best s) x := hx
  have hb : (Nms.top s).1 x = Nms.best s := by
    by_contra e
    have h1 := hmin y
    rw [hx', (hc x).2 e, (hc y).1 hy'] at h1
    have := (h.top' y).1.1
    have h3 : (1073741824#32).toNat = 1073741824 := by decide
    omega
  rw [(hc x).1 hb] at hx'
  obtain ⟨t1, t2, t3⟩ := h.top' x
  refine ⟨hx' ▸ t1.1, ?_, fun j hj => ?_⟩
  · rw [← hb, t2, hx']
  · obtain ⟨u1, u2, u3⟩ := h.top' (lane j)
    rcases u3 j ⟨hj, rfl⟩ with e | ⟨e, e'⟩
    · exact .inl (lt_of_lt_of_le e (hle _))
    · rcases lt_or_eq_of_le (hle (lane j)) with l | l
      · exact .inl (e ▸ l)
      · refine .inr ⟨e.trans l, le_trans ?_ e'⟩
        have := hmin (lane j)
        rw [(hc _).1 l] at this
        exact this

theorem st_grp {α : Type} (f : ℕ → α) (w : S16.Idx → α) (g g' x : ℕ) (hx : x < 16) :
    st f (g * 16) w (g' * 16 + x) = if g' = g then w (lane x) else f (g' * 16 + x) := by
  unfold st
  by_cases e : g' = g
  · subst e
    rw [if_pos (by omega), if_pos rfl, Nat.add_sub_cancel_left]
  · rw [if_neg (by omega), if_neg e]

/-- After one score fell, and its groups are computed again, the levels hold what they should. -/
theorem Lev.pop {s : St Ideal} (h : Lev s) : Lev (Nms.pop s) := by
  have hp : at' s ≤ 20000 := pos_le (atW s)
  have hne : ∀ n, n ≠ at' s → mv1 s n = s.mv n := by
    intro n hn
    unfold mv1 put
    split
    · exact Function.update_of_ne hn _ _
    · rfl
  have hlow : ∀ n < 20016, cLow < mv1 s n := by
    intro n hn
    by_cases e : n = at' s
    · unfold mv1 put
      split
      · rw [e, Function.update_self]
        exact cLow_lt_cNo
      · exact h.low n hn
    · rw [hne n e]; exact h.low n hn
  have h1 : ∀ g < 80, ∀ x < 16, Best (S1 g x) (mv1 s) (l1v1 s (g * 16 + x)) (l1i1 s (g * 16 + x)).toNat := by
    intro g hg x hx
    unfold l1v1 l1i1
    rw [st_grp _ _ _ _ _ hx, st_grp _ _ _ _ _ hx]
    by_cases e : g = at' s / 256
    · rw [if_pos e, if_pos e, e]
      have := fold1_best (mv1 s) hlow (at' s / 256) (by omega) (lane x)
      rw [lane_zero hx] at this
      exact this
    · rw [if_neg e, if_neg e]
      refine (h.l1 g hg x hx).congr (fun _ => Iff.rfl) fun j hj => (hne j ?_).symm
      intro ej
      obtain ⟨-, h2, -⟩ := hj
      exact e (ej ▸ h2.symm)
  refine ⟨hlow, h1, ?_⟩
  intro G hG x hx
  show Best (S2 G x) (mv1 s) (st s.l2v (at' s / 4096 * 16) (grp2 s).1 (G * 16 + x)) (st s.l2i (at' s / 4096 * 16) (grp2 s).2 (G * 16 + x)).toNat
  rw [st_grp _ _ _ _ _ hx, st_grp _ _ _ _ _ hx]
  by_cases e : G = at' s / 4096
  · rw [if_pos e, if_pos e, e]
    have := fold2_best (mv1 s) (l1v1 s) (l1i1 s) hlow h1 (at' s / 4096) (by omega) (lane x)
    rw [lane_zero hx] at this
    unfold grp2
    exact this
  · rw [if_neg e, if_neg e]
    refine (h.l2 G hG x hx).congr (fun _ => Iff.rfl) fun j hj => (hne j ?_).symm
    intro ej
    obtain ⟨-, h2, -⟩ := hj
    exact e (ej ▸ h2.symm)

theorem blk_grp {α : Type} (f : ℕ → α) (w : ℕ → S16.Idx → α) (N g x : ℕ) (hg : g < N) (hx : x < 16) : blk f w N (g * 16 + x) = w g (lane x) := by
  rw [blk_at, if_pos (by omega), show (g * 16 + x) / 16 = g by omega]
  refine congrArg (w g) (funext fun a => Fin.ext ?_)
  show (g * 16 + x) % 16 = x % 16
  omega

/-- The levels once built. -/
theorem lev_built (s : St Ideal) (h : ∀ n < 20016, cLow < mscAt s n) : Lev (begun (built2 (built1 s))) := by
  have hm : ∀ n < 20016, mscAt s n = mvF s 20016 n := fun n hn => (if_pos hn).symm
  have hlow : ∀ n < 20016, cLow < mvF s 20016 n := fun n hn => hm n hn ▸ h n hn
  have h1 : ∀ g < 80, ∀ x < 16, Best (S1 g x) (mvF s 20016) (l1vB s 80 (g * 16 + x)) (l1iB s 80 (g * 16 + x)).toNat := by
    intro g hg x hx
    unfold l1vB l1iB
    rw [blk_grp _ _ _ _ _ hg hx, blk_grp _ _ _ _ _ hg hx]
    have := fold1_best (mscAt s) h g hg (lane x)
    rw [lane_zero hx] at this
    exact this.congr (fun _ => Iff.rfl) fun j hj => hm j hj.1
  refine ⟨hlow, h1, ?_⟩
  intro G hG x hx
  show Best (S2 G x) (mvF s 20016) (l2vB (built1 s) 5 (G * 16 + x)) (l2iB (built1 s) 5 (G * 16 + x)).toNat
  unfold l2vB l2iB
  rw [blk_grp _ _ _ _ _ hG hx, blk_grp _ _ _ _ _ hG hx]
  have := fold2_best (mvF s 20016) (l1vB s 80) (l1iB s 80) hlow h1 G hG (lane x)
  rw [lane_zero hx] at this
  unfold lev2
  exact this

end Cert.Proof.Nms
-- ==== Proof.Search.lean ====
/-
  The search over the extended reals against the plain greedy selection: the kept boxes are the selection's first ones, and
  when the search ends nothing is left to select.
-/
module

public import proofs.«01_k».proof.Proof.Levels

@[expose] public section

noncomputable section

namespace Cert.Proof.Nms

open Cert.KernelIdeal Cert.KernelIdeal.Gen
open Idealize.ShloMosaic
open scoped Classical

/-- One row of boxes with their masked scores. -/
structure Row where
  y0 : ℕ → EReal
  x0 : ℕ → EReal
  y1 : ℕ → EReal
  x1 : ℕ → EReal
  m : ℕ → EReal

/-- A box's area. -/
def Row.area (W : Row) (n : ℕ) : EReal := (W.y1 n - W.y0 n) * (W.x1 n - W.x0 n)
/-- The overlap of box `n` with the selected box `k`. -/
def Row.iou (W : Row) (n k : ℕ) : EReal :=
  iouV (F := Ideal) (W.y0 n) (W.x0 n) (W.y1 n) (W.x1 n) (W.area n) (W.y0 k) (W.x0 k) (W.y1 k) (W.x1 k) (W.area k)
/-- Whether box `n` overlaps the selected box `k` too much. -/
def Row.sup (W : Row) (n k : ℕ) : Prop := cHalf < W.iou n k

/-- The greedy selection: `R t` the scores before turn `t`, `k t` the box it selects. -/
structure Sel (W : Row) (R : ℕ → ℕ → EReal) (k : ℕ → ℕ) : Prop where
  zero : ∀ n < 20000, R 0 n = W.m n
  lt : ∀ t < 100, k t < 20000
  first : ∀ t < 100, ∀ n < 20000, R t n < R t (k t) ∨ (R t n = R t (k t) ∧ k t ≤ n)
  next : ∀ t < 100, ∀ n < 20000, R (t + 1) n = if W.sup n (k t) ∨ n = k t then cNo else R t n

/-- What the masked scores are. -/
structure Row.Ok (W : Row) : Prop where
  m : ∀ n < 20016, W.m n = cNo ∨ cMin ≤ W.m n
  pad : ∀ n, 20000 ≤ n → n < 20016 → W.m n = cNo

/-- Box `n` is selected or overlaps a selected one, before turn `t`. -/
def Gone (W : Row) (k : ℕ → ℕ) (t n : ℕ) : Prop := ∃ u < t, W.sup n (k u) ∨ n = k u

theorem Sel.closed {W : Row} {R : ℕ → ℕ → EReal} {k : ℕ → ℕ} (h : Sel W R k) (t : ℕ) (ht : t ≤ 100) (n : ℕ) (hn : n < 20000) :
    R t n = if Gone W k t n then cNo else W.m n := by
  induction t with
  | zero =>
    rw [if_neg (fun ⟨u, hu, _⟩ => absurd hu (Nat.not_lt_zero u))]
    exact h.zero n hn
  | succ t ih =>
    rw [h.next t (by omega) n hn]
    by_cases e : W.sup n (k t) ∨ n = k t
    · rw [if_pos e, if_pos ⟨t, by omega, e⟩]
    · rw [if_neg e, ih (by omega)]
      by_cases e' : Gone W k t n
      · obtain ⟨u, hu, h'⟩ := e'
        rw [if_pos ⟨u, hu, h'⟩, if_pos ⟨u, by omega, h'⟩]
      · rw [if_neg e', if_neg]
        rintro ⟨u, hu, h'⟩
        rcases Nat.lt_succ_iff_lt_or_eq.1 hu with l | rfl
        · exact e' ⟨u, l, h'⟩
        · exact e h'

/-- What the search holds once `c` boxes are kept. -/
structure Inv (W : Row) (R : ℕ → ℕ → EReal) (k : ℕ → ℕ) (c : ℕ) (s : St Ideal) : Prop where
  cnt : (kn s).toNat = c
  y0 : s.y0v = W.y0
  x0 : s.x0v = W.x0
  y1 : s.y1v = W.y1
  x1 : s.x1v = W.x1
  live : ∀ t < c, cMin ≤ R t (k t)
  kept : ∀ t < c, s.ky0 t = W.y0 (k t) ∧ s.kx0 t = W.x0 (k t) ∧ s.ky1 t = W.y1 (k t) ∧ s.kx1 t = W.x1 (k t) ∧ s.ka t = W.area (k t) ∧ s.ksc t = R t (k t)
  free : ∀ t, c ≤ t → t < 112 → s.ky0 t = cFar ∧ s.kx0 t = cFar ∧ s.ky1 t = cNear ∧ s.kx1 t = cNear
  left : ∀ n < 20016, s.mv n = W.m n ∨ (s.mv n = cNo ∧ Gone W k c n)
  used : ∀ t < c, s.mv (k t) = cNo
  fin : s.sm 1 ≠ 0#32 → c = 100 ∨ ∀ t, c ≤ t → t < 100 → R t (k t) = cNo

theorem wfold_le (s : St Ideal) (p N : ℕ) (x : S16.Idx) (b : EReal) (hb : 0 ≤ b) : wfold (F := Ideal) s p N x ≤ b ↔
    ∀ n < N, iouV (F := Ideal) (s.y0v p) (s.x0v p) (s.y1v p) (s.x1v p) (areaAt s p) (s.ky0 (n * 16 + (x 0).val)) (s.kx0 (n * 16 + (x 0).val)) (s.ky1 (n * 16 + (x 0).val))
      (s.kx1 (n * 16 + (x 0).val)) (s.ka (n * 16 + (x 0).val)) ≤ b := by
  induction N with
  | zero =>
    refine ⟨fun _ n hn => absurd hn (Nat.not_lt_zero n), fun _ => ?_⟩
    show Ideal.ofBits .f32 0x00000000#32 ≤ b
    rw [Ideal.ofBits_zero_f32]
    exact hb
  | succ N ih =>
    show max (wfold (F := Ideal) s p N x) _ ≤ b ↔ _
    rw [max_le_iff, ih]
    constructor
    · rintro ⟨h1, h2⟩ n hn
      rcases Nat.lt_succ_iff_lt_or_eq.1 hn with l | rfl
      · exact h1 n l
      · exact h2
    · intro h
      exact ⟨fun n hn => h n (by omega), h N (by omega)⟩

/-- A slot not yet filled overlaps nothing. -/
theorem iou_free (a b c d e g : EReal) : iouV (F := Ideal) a b c d e cFar cFar cNear cNear g ≤ cHalf := by
  have hz : ∀ u v : EReal, max (min cNear u - max cFar v) (Ideal.ofBits .f32 0x00000000#32) = 0 := by
    intro u v
    rw [Ideal.ofBits_zero_f32]
    refine max_eq_right ?_
    have h1 : min cNear u - max cFar v ≤ cNear - cFar := EReal.sub_le_sub (min_le_left _ _) (le_max_left _ _)
    refine le_trans h1 ?_
    rw [cNear_eq, cFar_eq, ← EReal.coe_sub, ← EReal.coe_zero, EReal.coe_le_coe_iff]
    norm_num
  have hd : ∀ y, Ideal.div 0 y ≤ cHalf := by
    intro y
    unfold Ideal.div
    split
    · rw [if_neg (lt_irrefl _)]; exact bot_le
    · rw [zero_mul]; exact le_of_lt cHalf_pos
  have e : iouV (F := Ideal) a b c d e cFar cFar cNear cNear g =
      Ideal.div (max (min cNear c - max cFar a) (Ideal.ofBits .f32 0x00000000#32) * max (min cNear d - max cFar b) (Ideal.ofBits .f32 0x00000000#32))
        (((g + e) - (max (min cNear c - max cFar a) (Ideal.ofBits .f32 0x00000000#32) * max (min cNear d - max cFar b) (Ideal.ofBits .f32 0x00000000#32))) + cEps) := rfl
  rw [e, hz, hz, mul_zero]
  exact hd _

/-- The candidate's largest overlap is small exactly when no kept box overlaps it too much. -/
theorem Inv.worst {W : Row} {R : ℕ → ℕ → EReal} {k : ℕ → ℕ} {c : ℕ} {s : St Ideal} (h : Inv W R k c s) (hc : c ≤ 99) :
    Nms.worst s ≤ cHalf ↔ ∀ t < c, ¬ W.sup (at' s) (k t) := by
  have h0 : (0 : EReal) ≤ cHalf := le_of_lt cHalf_pos
  have harea : areaAt s (at' s) = W.area (at' s) := by
    show (s.y1v (at' s) - s.y0v (at' s)) * (s.x1v (at' s) - s.x0v (at' s)) = _
    rw [h.y0, h.x0, h.y1, h.x1]; rfl
  have h1 : Nms.worst s ≤ cHalf ↔ ∀ x : S16.Idx, wfold (F := Ideal) s (at' s) ((c + 15) / 16) x ≤ cHalf := by
    unfold Nms.worst
    rw [h.cnt]
    generalize wfold (F := Ideal) s (at' s) ((c + 15) / 16) = w
    constructor
    · exact fun hle x => le_trans (tree_max_ge w x) hle
    · intro hx
      obtain ⟨x, e⟩ := tree_max_mem w
      rw [e]; exact hx x
  rw [h1]
  constructor
  · intro hx t ht hsup
    have := (wfold_le s (at' s) _ (lane t) cHalf h0).1 (hx (lane t)) (t / 16) (by omega)
    have hl : t / 16 * 16 + ((lane t) 0).val = t := by
      show t / 16 * 16 + t % 16 = t
      omega
    rw [hl] at this
    obtain ⟨k1, k2, k3, k4, k5, -⟩ := h.kept t ht
    rw [k1, k2, k3, k4, k5, harea, h.y0, h.x0, h.y1, h.x1] at this
    exact absurd hsup (not_lt.2 this)
  · intro hx x
    have hl := lane_val x
    refine (wfold_le s (at' s) _ x cHalf h0).2 fun n hn => ?_
    by_cases ht : n * 16 + (x 0).val < c
    · obtain ⟨k1, k2, k3, k4, k5, -⟩ := h.kept _ ht
      rw [k1, k2, k3, k4, k5, harea, h.y0, h.x0, h.y1, h.x1]
      exact not_lt.1 (hx _ ht)
    · obtain ⟨k1, k2, k3, k4⟩ := h.free (n * 16 + (x 0).val) (by omega) (by omega)
      rw [k1, k2, k3, k4]
      exact iou_free _ _ _ _ _ _

theorem put_pos {α : Type} {c : BitVec 1} (h : c = 1#1) (f : ℕ → α) (n : ℕ) (v : α) : put c f n v = Function.update f n v := if_pos h
theorem put_zero {α : Type} (f : ℕ → α) (n : ℕ) (v : α) : put 0#1 f n v = f := if_neg (by decide)

/-- How many of the first `N` scores are left. -/
def leftTo (N : ℕ) (f : ℕ → EReal) : ℕ := ((Finset.range N).filter fun n => cMin ≤ f n).card

theorem leftTo_le (N : ℕ) (f : ℕ → EReal) : leftTo N f ≤ N := by
  have : leftTo N f ≤ (Finset.range N).card := Finset.card_filter_le _ _
  rw [Finset.card_range] at this
  exact this

theorem leftTo_update {N : ℕ} {f : ℕ → EReal} {p : ℕ} (hp : p < N) (h : cMin ≤ f p) : leftTo N (Function.update f p cNo) + 1 ≤ leftTo N f := by
  refine Finset.card_lt_card (Finset.ssubset_iff_subset_ne.2 ⟨?_, ?_⟩)
  · intro n hn
    rw [Finset.mem_filter] at hn ⊢
    refine ⟨hn.1, ?_⟩
    by_cases e : n = p
    · subst e
      exact h
    · rw [Function.update_of_ne e] at hn
      exact hn.2
  · intro e
    have hm : p ∈ (Finset.range N).filter fun n => cMin ≤ f n := Finset.mem_filter.2 ⟨Finset.mem_range.2 hp, h⟩
    rw [← e, Finset.mem_filter, Function.update_self] at hm
    exact absurd cNo_lt_cMin (not_lt.2 hm.2)

/-- How many scores are left. -/
def leftN (s : St Ideal) : ℕ := leftTo 20016 s.mv

theorem sge_100 {w : BitVec 32} (h : w.toNat ≤ 100) (e : Scalar.cmpi .sge w 100#32 = 1#1) : w.toNat = 100 := by
  by_contra hne
  have h2 : Scalar.cmpi .sge w 100#32 = BitVec.ofBool ((100#32).sle w) := rfl
  rw [h2, ofBool_one, BitVec.sle_eq_decide, decide_eq_true_iff, BitVec.toInt_eq_toNat_of_lt (x := w) (by omega)] at e
  have h3 : (100#32).toInt = 100 := by decide
  rw [h3] at e
  omega

/-- One pop. -/
theorem Inv.step {W : Row} {R : ℕ → ℕ → EReal} {k : ℕ → ℕ} {c : ℕ} {s : St Ideal} (hS : Sel W R k) (hW : W.Ok) (hg : Good s) (hl : Lev s) (h : Inv W R k c s)
    (h0 : s.sm 1 = 0#32) : ∃ c', Inv W R k c' (Nms.step s) ∧ ((Nms.step s).sm 1 = 0#32 → leftN (Nms.step s) + 1 ≤ leftN s) := by
  have hc : c ≤ 99 := h.cnt ▸ hg.room h0
  obtain ⟨b1, b2, b3⟩ := hl.best
  have hmle : ∀ n < 20000, cNo ≤ W.m n := fun n hn => by
    rcases hW.m n (by omega) with e | e
    · exact e ▸ le_refl _
    · exact le_trans (le_of_lt cNo_lt_cMin) e
  have hcl : ∀ n < 20000, R c n = if Gone W k c n then cNo else W.m n := fun n hn => hS.closed c (by omega) n hn
  have hRle : ∀ n < 20000, R c n ≤ s.mv n := by
    intro n hn
    rw [hcl n hn]
    rcases h.left n (by omega) with e | ⟨e, e'⟩
    · rw [e]
      split
      · exact hmle n hn
      · exact le_refl _
    · rw [e, if_pos e']
  have hstep : Nms.step s = { pop s with sm := Function.update (pop s).sm 1 (Scalar.select (stop s) 1#32 0#32) } := if_pos h0
  have hflag : (Nms.step s).sm 1 = Scalar.select (stop s) 1#32 0#32 := by rw [hstep]; simp only [Function.update_self]
  have hkn : kn (Nms.step s) = Scalar.addi (kn s) (Scalar.extui (okB s)) := by rw [hstep]; rfl
  have hcnt : (kn (Nms.step s)).toNat = c + (okB s).toNat := by
    rw [hkn, succ_kn (hg.room h0), h.cnt]
  have hdead : dead s = 1#1 ↔ Nms.best s < cMin := cmp_lt _ _
  by_cases hd : Nms.best s < cMin
  · -- nothing is left
    have e1 : dead s = 1#1 := hdead.2 hd
    have e2 : okB s = 0#1 := by
      unfold okB
      rw [e1]
      rcases bit_cases (Scalar.cmpf .ole (Nms.worst s) (Scalar.ofBits .f32 0x3F000000#32)) with e | e <;> rw [e] <;> rfl
    have e3 : stop s = 1#1 := by
      unfold stop
      rw [e1]
      rcases bit_cases (Scalar.cmpi .sge (Scalar.addi (kn s) (Scalar.extui (okB s))) 100#32) with e | e <;> rw [e] <;> rfl
    have e4 : mv1 s = s.mv := by
      unfold mv1
      rw [e1]
      exact put_zero _ _ _
    have hR : ∀ n < 20000, R c n = cNo := by
      intro n hn
      have hlt : R c n < cMin := by
        refine lt_of_le_of_lt (hRle n hn) ?_
        rcases b3 n (by omega) with e | ⟨e, -⟩
        · exact lt_trans e hd
        · exact e ▸ hd
      rw [hcl n hn] at hlt ⊢
      split
      · rfl
      · next hng =>
        rw [if_neg hng] at hlt
        rcases hW.m n (by omega) with e | e
        · exact e
        · exact absurd hlt (not_lt.2 e)
    have hR' : ∀ t, c ≤ t → t < 100 → R t (k t) = cNo := by
      intro t ht ht'
      have hk := hS.lt t ht'
      rw [hS.closed t (by omega) _ hk]
      split
      · rfl
      · next hng =>
        have hng' : ¬ Gone W k c (k t) := fun ⟨u, hu, hx⟩ => hng ⟨u, by omega, hx⟩
        have := hcl _ hk
        rw [if_neg hng', hR _ hk] at this
        exact this.symm
    refine ⟨c, ⟨?_, ?_, ?_, ?_, ?_, h.live, ?_, ?_, ?_, ?_, fun _ => .inr hR'⟩, ?_⟩
    · rw [hcnt, e2]; rfl
    · rw [hstep]; exact h.y0
    · rw [hstep]; exact h.x0
    · rw [hstep]; exact h.y1
    · rw [hstep]; exact h.x1
    · rw [hstep]; simp only [pop, e2, put_zero]; exact h.kept
    · rw [hstep]; simp only [pop, e2, put_zero]; exact h.free
    · rw [hstep]; simp only [pop, e4]; exact h.left
    · rw [hstep]; simp only [pop, e4]; exact h.used
    · rw [hflag, e3]; exact fun e => absurd e (by decide)
  · -- the candidate is considered
    have hge : cMin ≤ Nms.best s := not_lt.1 hd
    have e1 : dead s = 0#1 := by
      rcases bit_cases (dead s) with e | e
      · exact e
      · exact absurd (hdead.1 e) hd
    have hp : (atW s).toNat < 20000 := by
      by_contra hnl
      have : s.mv (atW s).toNat = cNo := by
        rcases h.left _ b1 with e | ⟨e, -⟩
        · rw [e]; exact hW.pad _ (by omega) b1
        · exact e
      rw [b2, this] at hge
      exact absurd cNo_lt_cMin (not_lt.2 hge)
    have hat : at' s = (atW s).toNat := by unfold at' pos; omega
    have hbest : Nms.best s = s.mv (at' s) := by rw [hat]; exact b2
    have b3' : ∀ j < 20016, s.mv j < Nms.best s ∨ (s.mv j = Nms.best s ∧ at' s ≤ j) := by rw [hat]; exact b3
    have hp' : at' s < 20000 := by rw [hat]; exact hp
    clear b1 b2 b3 hat hp
    have e4 : mv1 s = Function.update s.mv (at' s) cNo := by
      unfold mv1
      rw [e1]
      exact put_pos rfl _ _ _
    have hus : ∀ t < c, k t ≠ at' s := by
      intro t ht e
      have := h.used t ht
      rw [e, ← hbest] at this
      rw [this] at hge
      exact absurd cNo_lt_cMin (not_lt.2 hge)
    have hleft : (Nms.step s).sm 1 = 0#32 → leftN (Nms.step s) + 1 ≤ leftN s := by
      intro _
      have hmv : (Nms.step s).mv = Function.update s.mv (at' s) cNo := by rw [hstep]; exact e4
      unfold leftN
      rw [hmv]
      exact leftTo_update (lt_trans hp' (by norm_num)) (hbest ▸ hge)
    have hworst := h.worst hc
    have hle1 : (Scalar.cmpf .ole (Nms.worst s) (Scalar.ofBits .f32 0x3F000000#32) : BitVec 1) = 1#1 ↔ Nms.worst s ≤ cHalf := cmp_le _ _
    by_cases hw : Nms.worst s ≤ cHalf
    · -- it is kept
      have e2 : okB s = 1#1 := by
        unfold okB
        rw [e1, hle1.2 hw]
        rfl
      have hng : ¬ Gone W k c (at' s) := by
        rintro ⟨u, hu, hx | hx⟩
        · exact hworst.1 hw u hu hx
        · exact hus u hu hx.symm
      have hRb : R c (at' s) = Nms.best s := by
        rw [hcl _ hp', if_neg hng, hbest]
        rcases h.left (at' s) (by omega) with e | ⟨-, e⟩
        · exact e.symm
        · exact absurd e hng
      have hk := hS.lt c (by omega)
      have hkle : R c (k c) ≤ Nms.best s := by
        refine le_trans (hRle _ hk) ?_
        rcases b3' (k c) (by omega) with e | ⟨e, -⟩
        · exact le_of_lt e
        · exact le_of_eq e
      have hkc : k c = at' s := by
        rcases hS.first c (by omega) (at' s) hp' with e | ⟨e, e'⟩
        · rw [hRb] at e
          exact absurd hkle (not_le.2 e)
        · refine le_antisymm e' ?_
          rcases b3' (k c) (by omega) with l | ⟨-, l⟩
          · have := hRle _ hk
            rw [← e, hRb] at this
            exact absurd l (not_lt.2 this)
          · exact l
      have hcn : (kn s).toNat = c := h.cnt
      have harea : areaAt s (at' s) = W.area (at' s) := by
        show (s.y1v (at' s) - s.y0v (at' s)) * (s.x1v (at' s) - s.x0v (at' s)) = _
        rw [h.y0, h.x0, h.y1, h.x1]; rfl
      refine ⟨c + 1, ⟨?_, ?_, ?_, ?_, ?_, ?_, ?_, ?_, ?_, ?_, ?_⟩, hleft⟩
      · rw [hcnt, e2]; rfl
      · rw [hstep]; exact h.y0
      · rw [hstep]; exact h.x0
      · rw [hstep]; exact h.y1
      · rw [hstep]; exact h.x1
      · intro t ht
        rcases Nat.lt_succ_iff_lt_or_eq.1 ht with l | rfl
        · exact h.live t l
        · rw [hkc, hRb]; exact hge
      · rw [hstep]
        simp only [pop, e2, put_pos, hcn]
        intro t ht
        rcases Nat.lt_succ_iff_lt_or_eq.1 ht with l | rfl
        · have hne : t ≠ c := by omega
          simp only [Function.update_of_ne hne]
          exact h.kept t l
        · simp only [Function.update_self]
          rw [hkc, harea, h.y0, h.x0, h.y1, h.x1, hRb]
          exact ⟨rfl, rfl, rfl, rfl, rfl, rfl⟩
      · rw [hstep]
        simp only [pop, e2, put_pos, hcn]
        intro t ht ht'
        have hne : t ≠ c := by omega
        simp only [Function.update_of_ne hne]
        exact h.free t (by omega) ht'
      · rw [hstep]
        simp only [pop, e4]
        intro n hn
        by_cases e : n = at' s
        · have hgn : Gone W k (c + 1) n := ⟨c, Nat.lt_succ_self c, .inr (e.trans hkc.symm)⟩
          refine .inr ⟨?_, hgn⟩
          rw [e, Function.update_self]
        · rw [Function.update_of_ne e]
          rcases h.left n hn with e | ⟨e, u, hu, hx⟩
          · exact .inl e
          · exact .inr ⟨e, u, by omega, hx⟩
      · rw [hstep]
        simp only [pop, e4]
        intro t ht
        rcases Nat.lt_succ_iff_lt_or_eq.1 ht with l | rfl
        · rw [Function.update_of_ne (hus t l)]
          exact h.used t l
        · rw [hkc, Function.update_self]
      · rw [hflag]
        intro hf
        refine .inl ?_
        have hst : stop s = 1#1 := by
          rcases bit_cases (stop s) with e | e
          · rw [e] at hf; exact absurd rfl hf
          · exact e
        unfold stop at hst
        rw [e1, ← hkn] at hst
        have h5 : (Scalar.cmpi .sge (kn (Nms.step s)) 100#32 : BitVec 1) = 1#1 := by
          rcases bit_cases (Scalar.cmpi .sge (kn (Nms.step s)) 100#32) with e | e
          · rw [e] at hst; exact absurd hst (by decide)
          · exact e
        have h6 := sge_100 (by rw [hcnt, e2]; show c + 1 ≤ 100; omega) h5
        rw [hcnt, e2] at h6
        exact h6
    · -- it overlaps a kept box too much
      have e2 : okB s = 0#1 := by
        unfold okB
        rcases bit_cases (Scalar.cmpf .ole (Nms.worst s) (Scalar.ofBits .f32 0x3F000000#32)) with e | e
        · rw [e]; rcases bit_cases (dead s) with e | e <;> rw [e] <;> rfl
        · exact absurd (hle1.1 e) hw
      have hsup : ∃ u < c, W.sup (at' s) (k u) := by
        by_contra hn
        exact hw (hworst.2 fun t ht hx => hn ⟨t, ht, hx⟩)
      obtain ⟨u, hu, hx⟩ := hsup
      refine ⟨c, ⟨?_, ?_, ?_, ?_, ?_, h.live, ?_, ?_, ?_, ?_, ?_⟩, hleft⟩
      · rw [hcnt, e2]; rfl
      · rw [hstep]; exact h.y0
      · rw [hstep]; exact h.x0
      · rw [hstep]; exact h.y1
      · rw [hstep]; exact h.x1
      · rw [hstep]; simp only [pop, e2, put_zero]; exact h.kept
      · rw [hstep]; simp only [pop, e2, put_zero]; exact h.free
      · rw [hstep]
        simp only [pop, e4]
        intro n hn
        by_cases e : n = at' s
        · have hgn : Gone W k c n := ⟨u, hu, .inl (e ▸ hx)⟩
          refine .inr ⟨?_, hgn⟩
          rw [e, Function.update_self]
        · rw [Function.update_of_ne e]
          exact h.left n hn
      · rw [hstep]
        simp only [pop, e4]
        intro t ht
        rw [Function.update_of_ne (hus t ht)]
        exact h.used t ht
      · rw [hflag]
        intro hf
        exfalso
        have hst : stop s = 1#1 := by
          rcases bit_cases (stop s) with e | e
          · rw [e] at hf; exact absurd rfl hf
          · exact e
        unfold stop at hst
        rw [e1, ← hkn] at hst
        have h5 : (Scalar.cmpi .sge (kn (Nms.step s)) 100#32 : BitVec 1) = 1#1 := by
          rcases bit_cases (Scalar.cmpi .sge (kn (Nms.step s)) 100#32) with e | e
          · rw [e] at hst; exact absurd hst (by decide)
          · exact e
        have h6 := sge_100 (by rw [hcnt, e2]; show c + 0 ≤ 100; omega) h5
        rw [hcnt, e2] at h6
        have : c = 100 := h6
        omega

theorem Lev.step {s : St Ideal} (h : Lev s) : Lev (Nms.step s) := by
  unfold Nms.step
  split
  · have := h.pop
    exact ⟨this.low, this.l1, this.l2⟩
  · exact h

/-- The whole search. -/
theorem Inv.iter {W : Row} {R : ℕ → ℕ → EReal} {k : ℕ → ℕ} {c : ℕ} {s : St Ideal} (hS : Sel W R k) (hW : W.Ok) (hg : Good s) (hl : Lev s) (h : Inv W R k c s) (n : ℕ) :
    ∃ c', Inv W R k c' (Nms.step^[n] s) ∧ Lev (Nms.step^[n] s) ∧ ((Nms.step^[n] s).sm 1 = 0#32 → leftN (Nms.step^[n] s) + n ≤ 20016) := by
  induction n with
  | zero =>
    refine ⟨c, h, hl, fun _ => ?_⟩
    have := leftTo_le 20016 s.mv
    rw [Nat.add_zero]
    exact this
  | succ n ih =>
    obtain ⟨c', i1, i2, i3⟩ := ih
    have hg' := hg.iter n
    rw [Function.iterate_succ_apply']
    generalize Nms.step^[n] s = u at i1 i2 i3 hg'
    by_cases h0 : u.sm 1 = 0#32
    · obtain ⟨c'', j1, j2⟩ := i1.step hS hW hg' i2 h0
      refine ⟨c'', j1, i2.step, fun e => ?_⟩
      have := j2 e
      have := i3 h0
      omega
    · rw [step_done h0]
      exact ⟨c', i1, i2, fun e => absurd e h0⟩

/-- The search's end: the kept boxes are the selection's, and the selection finds nothing more. -/
theorem search_end {W : Row} {R : ℕ → ℕ → EReal} {k : ℕ → ℕ} {s : St Ideal} (hS : Sel W R k) (hW : W.Ok) (hg : Good s) (hl : Lev s) (h : Inv W R k 0 s) :
    ∃ c ≤ 100, Inv W R k c (Nms.step^[21504] s) ∧ ∀ t, c ≤ t → t < 100 → R t (k t) = cNo := by
  have key := h.iter hS hW hg hl 21504
  have hg' := hg.iter 21504
  generalize Nms.step^[21504] s = u at key hg'
  obtain ⟨c, i1, i2, i3⟩ := key
  have hf : u.sm 1 ≠ 0#32 := by
    intro e
    have := i3 e
    omega
  refine ⟨c, i1.cnt ▸ hg'.cnt, i1, fun t ht ht' => ?_⟩
  rcases i1.fin hf with e | e
  · omega
  · exact e t ht ht'

end Cert.Proof.Nms
-- ==== Proof.KerVal.lean ====
/-
  A tile's result over the extended reals, in terms of the plain greedy selection from its row.
-/
module

public import proofs.«01_k».proof.Proof.Search
public import proofs.«01_k».proof.Proof.Body

@[expose] public section

noncomputable section

namespace Cert.Proof.Nms

open Cert.KernelIdeal Cert.KernelIdeal.Gen
open Idealize.ShloMosaic
open scoped Classical

/-- The row of boxes a tile reads, with their masked scores. -/
def rowOf (a : In Ideal) : Row :=
  ⟨a.i0, a.i1, a.i2, a.i3, fun n => msc (F := Ideal) (a.i4 n) (a.i0 n) (a.i1 n) (a.i2 n) (a.i3 n)⟩

theorem mask_cases (p q : BitVec 1) (s : EReal) (hq : q = 1#1 → cMin ≤ s) :
    (Scalar.select (IntOp.andi p q) s cNo = s ∧ cMin ≤ s) ∨ Scalar.select (IntOp.andi p q) s cNo = cNo := by
  have ha : ∀ x y : BitVec 1, IntOp.andi x y = 1#1 → y = 1#1 := by decide
  by_cases h : IntOp.andi p q = 1#1
  · exact .inl ⟨sel_pos h _ _, hq (ha _ _ h)⟩
  · exact .inr (sel_neg h _ _)

/-- A masked score is the score, at least the threshold, or the mark for none. -/
theorem msc_cases (s a b c d : EReal) : (msc (F := Ideal) s a b c d = s ∧ cMin ≤ s) ∨ msc (F := Ideal) s a b c d = cNo :=
  mask_cases _ _ s (fun h => (cmp_ge _ _).1 h)

theorem rowOf_ok (a : In Ideal) (hp : ∀ n, 20000 ≤ n → n < 20016 → a.i4 n = (0 : EReal)) : (rowOf a).Ok := by
  refine ⟨fun n _ => ?_, fun n h1 h2 => ?_⟩
  · rcases msc_cases (a.i4 n) (a.i0 n) (a.i1 n) (a.i2 n) (a.i3 n) with ⟨e, l⟩ | e
    · exact .inr (le_of_le_of_eq l e.symm)
    · exact .inl e
  · rcases msc_cases (a.i4 n) (a.i0 n) (a.i1 n) (a.i2 n) (a.i3 n) with ⟨e, l⟩ | e
    · rw [hp n h1 h2] at l
      exact absurd cMin_pos (not_lt.2 l)
    · exact e

/-- The position test of an output slot against the number kept. -/
theorem slot_lt (k : BitVec 32) (n : ℕ) (hk : k.toNat ≤ 100) (hn : n < 112) : IntOp.cmpi .slt (BitVec.ofNat 32 n) k = 1#1 ↔ n < k.toNat := by
  have h2 : IntOp.cmpi .slt (BitVec.ofNat 32 n) k = BitVec.ofBool ((BitVec.ofNat 32 n).slt k) := rfl
  have h3 : (BitVec.ofNat 32 n).toNat = n := by rw [BitVec.toNat_ofNat, Nat.mod_eq_of_lt (by omega)]
  rw [h2, ofBool_one, BitVec.slt_eq_decide, decide_eq_true_iff, BitVec.toInt_eq_toNat_of_lt (x := k) (by omega),
    BitVec.toInt_eq_toNat_of_lt (x := BitVec.ofNat 32 n) (by omega), h3]
  omega

theorem cut_lt {k : BitVec 32} {f : ℕ → EReal} {n : ℕ} (hk : k.toNat ≤ 100) (hn : n < 112) (h : n < k.toNat) : cut (F := Ideal) k f n = f n :=
  sel_pos ((slot_lt k n hk hn).2 h) _ _
theorem cut_ge {k : BitVec 32} {f : ℕ → EReal} {n : ℕ} (hk : k.toNat ≤ 100) (hn : n < 112) (h : ¬ n < k.toNat) : cut (F := Ideal) k f n = (0 : EReal) :=
  (sel_neg (fun e => h ((slot_lt k n hk hn).1 e)) _ _).trans Ideal.ofBits_zero_f32

/-- The state the search starts from has kept nothing. -/
theorem inv_start (a : In Ideal) (s : St Ideal) (h : Fd a s 112 112 112 112 112 112) (R : ℕ → ℕ → EReal) (k : ℕ → ℕ) :
    Inv (rowOf a) R k 0 (begun (built2 (built1 s))) := by
  refine ⟨rfl, h.y0v, h.x0v, h.y1v, h.x1v, fun t ht => absurd ht (Nat.not_lt_zero t), fun t ht => absurd ht (Nat.not_lt_zero t),
    fun t _ ht => ⟨h.ky0 t ht, h.kx0 t ht, h.ky1 t ht, h.kx1 t ht⟩, fun n hn => .inl ?_, fun t ht => absurd ht (Nat.not_lt_zero t), fun e => absurd rfl e⟩
  have e1 : (begun (built2 (built1 s))).mv n = mvF s 20016 n := rfl
  have e2 : mvF s 20016 n = mscAt s n := if_pos hn
  rw [e1, e2]
  unfold mscAt
  rw [h.mv, h.y0v, h.x0v, h.y1v, h.x1v]
  rfl

/-- A tile's result: at each turn, the selected box and its score if its score is above zero, nothing otherwise. -/
theorem tile_out (a : In Ideal) (z : Out Ideal) (h : Res a z) (hp : ∀ n, 20000 ≤ n → n < 20016 → a.i4 n = (0 : EReal))
    (R : ℕ → ℕ → EReal) (k : ℕ → ℕ) (hS : Sel (rowOf a) R k) (t : ℕ) (ht : t < 100) :
    z.o0 t = Scalar.select (Ideal.cmp .ogt (R t (k t)) 0) (a.i0 (k t)) (0 : EReal) ∧
    z.o1 t = Scalar.select (Ideal.cmp .ogt (R t (k t)) 0) (a.i1 (k t)) (0 : EReal) ∧
    z.o2 t = Scalar.select (Ideal.cmp .ogt (R t (k t)) 0) (a.i2 (k t)) (0 : EReal) ∧
    z.o3 t = Scalar.select (Ideal.cmp .ogt (R t (k t)) 0) (a.i3 (k t)) (0 : EReal) ∧
    z.o4 t = Scalar.select (Ideal.cmp .ogt (R t (k t)) 0) (a.i4 (k t)) (0 : EReal) := by
  obtain ⟨s, hf, h0, h1, h2, h3, h4⟩ := h
  have hW := rowOf_ok a hp
  have hlev : Lev (begun (built2 (built1 s))) := by
    refine lev_built s fun n hn => ?_
    unfold mscAt
    rcases msc_cases (s.mv n) (s.y0v n) (s.x0v n) (s.y1v n) (s.x1v n) with ⟨e, l⟩ | e
    · exact lt_of_lt_of_eq (lt_of_lt_of_le cLow_lt_cMin l) e.symm
    · exact lt_of_lt_of_eq cLow_lt_cNo e.symm
  obtain ⟨c, hc, hI, hE⟩ := search_end hS hW (good_start' s) hlev (inv_start a s hf R k)
  rw [h0, h1, h2, h3, h4]
  generalize step^[21504] (begun (built2 (built1 s))) = u at hI
  have hk : (kn u).toNat ≤ 100 := hI.cnt ▸ hc
  by_cases l : t < c
  · have l' : t < (kn u).toNat := hI.cnt.symm ▸ l
    have hpos : Ideal.cmp .ogt (R t (k t)) 0 = 1#1 := (cmp_gt _ _).2 (lt_of_lt_of_le cMin_pos (hI.live t l))
    obtain ⟨q0, q1, q2, q3, -, q5⟩ := hI.kept t l
    rw [cut_lt hk (by omega) l', cut_lt hk (by omega) l', cut_lt hk (by omega) l', cut_lt hk (by omega) l', cut_lt hk (by omega) l',
      sel_pos hpos, sel_pos hpos, sel_pos hpos, sel_pos hpos, sel_pos hpos]
    refine ⟨q0, q1, q2, q3, q5.trans ?_⟩
    have hl := hI.live t l
    have hcl := hS.closed t (by omega) (k t) (hS.lt t ht)
    by_cases g : Gone (rowOf a) k t (k t)
    · rw [if_pos g] at hcl
      rw [hcl] at hl
      exact absurd cNo_lt_cMin (not_lt.2 hl)
    · rw [if_neg g] at hcl
      rw [hcl] at hl
      rw [hcl]
      rcases msc_cases (a.i4 (k t)) (a.i0 (k t)) (a.i1 (k t)) (a.i2 (k t)) (a.i3 (k t)) with ⟨e, -⟩ | e
      · exact e
      · have hl' : cMin ≤ cNo := le_of_le_of_eq hl e
        exact absurd cNo_lt_cMin (not_lt.2 hl')
  · have l' : ¬ t < (kn u).toNat := fun x => l (hI.cnt ▸ x)
    have hneg : ¬ Ideal.cmp .ogt (R t (k t)) 0 = 1#1 := by
      rw [cmp_gt, hE t (by omega) ht]
      exact not_lt.2 (le_of_lt cNo_neg)
    rw [cut_ge hk (by omega) l', cut_ge hk (by omega) l', cut_ge hk (by omega) l', cut_ge hk (by omega) l', cut_ge hk (by omega) l',
      sel_neg hneg, sel_neg hneg, sel_neg hneg, sel_neg hneg, sel_neg hneg]
    exact ⟨rfl, rfl, rfl, rfl, rfl⟩

end Cert.Proof.Nms
-- ==== Proof.KerHost.lean ====
/-
  The kernel's operations around the call, read at an index over the extended reals.
-/
module

public import proofs.«01_k».proof.Proof.Launch
public import proofs.«01_k».proof.Proof.KerVal
public import Idealize.ShloMosaic.Lib.Pointwise
public import Idealize.ShloMosaic.Lib.StableHlo.ReadAt

@[expose] public section

set_option maxRecDepth 16384
set_option maxHeartbeats 4000000

noncomputable section

namespace Cert.Proof.Nms

open Cert.KernelIdeal Cert.KernelIdeal.Gen
open Idealize.ShloMosaic Idealize.ShloMosaic.TcCoe
open Idealize.ShloMosaic.StableHlo (held after seq)

local notation "dr" => Proc.devRef (τ := τ) (sig := sig) Proc.tc

/-- An array of numbers, by shape. -/
abbrev g2 (a b : ℕ) (x : (⟨2, ![a, b]⟩ : Shape).Idx → EReal) : (⟨2, ![a, b]⟩ : Shape).Idx → EReal := x
abbrev g3 (a b c : ℕ) (x : (⟨3, ![a, b, c]⟩ : Shape).Idx → EReal) : (⟨3, ![a, b, c]⟩ : Shape).Idx → EReal := x

theorem pad_zero : (FloatOps.sitofp (F := Ideal) .f32 (0#32) : EReal) = 0 := by
  show (((0#32 : BitVec 32).toInt : ℝ) : EReal) = 0
  simp

/-- A padded coordinate of the boxes. -/
theorem pre_y0 (V : Valuation τ sig (Elt Ideal)) (r : Fin 8) (i : Fin 20016) :
    g2 8 20016 (after pre V (dr main_v2)) (ix2 r i) = if h : i.val < 20000 then g3 8 20000 4 (V (dr main_arg0)) (ix3 r ⟨i.val, h⟩ 0) else 0 := by
  rw [← pad_zero]
  unfold pre g2 g3
  after_reads_at

/-- A padded coordinate of the boxes. -/
theorem pre_x0 (V : Valuation τ sig (Elt Ideal)) (r : Fin 8) (i : Fin 20016) :
    g2 8 20016 (after pre V (dr main_v5)) (ix2 r i) = if h : i.val < 20000 then g3 8 20000 4 (V (dr main_arg0)) (ix3 r ⟨i.val, h⟩ 1) else 0 := by
  rw [← pad_zero]
  unfold pre g2 g3
  after_reads_at

/-- A padded coordinate of the boxes. -/
theorem pre_y1 (V : Valuation τ sig (Elt Ideal)) (r : Fin 8) (i : Fin 20016) :
    g2 8 20016 (after pre V (dr main_v8)) (ix2 r i) = if h : i.val < 20000 then g3 8 20000 4 (V (dr main_arg0)) (ix3 r ⟨i.val, h⟩ 2) else 0 := by
  rw [← pad_zero]
  unfold pre g2 g3
  after_reads_at

/-- A padded coordinate of the boxes. -/
theorem pre_x1 (V : Valuation τ sig (Elt Ideal)) (r : Fin 8) (i : Fin 20016) :
    g2 8 20016 (after pre V (dr main_v11)) (ix2 r i) = if h : i.val < 20000 then g3 8 20000 4 (V (dr main_arg0)) (ix3 r ⟨i.val, h⟩ 3) else 0 := by
  rw [← pad_zero]
  unfold pre g2 g3
  after_reads_at

/-- The padded scores. -/
theorem pre_s (V : Valuation τ sig (Elt Ideal)) (r : Fin 8) (i : Fin 20016) :
    g2 8 20016 (after pre V (dr main_v12)) (ix2 r i) = if h : i.val < 20000 then g2 8 20000 (V (dr main_arg1)) (ix2 r ⟨i.val, h⟩) else 0 := by
  rw [← pad_zero]
  unfold pre g2
  after_reads_at

/-- A kept coordinate when the coordinates are put together. -/
theorem up_0 (V : Valuation τ sig (Elt Ideal)) (r : Fin 8) (t : Fin 112) :
    g3 8 112 1 (StableHlo.upto post V 4 (dr main_v14)) (ix3 r t 0) = g2 8 112 (V (dr main_v13_0)) (ix2 r t) := by
  unfold post g3 g2
  after_reads_at

/-- A kept coordinate when the coordinates are put together. -/
theorem up_1 (V : Valuation τ sig (Elt Ideal)) (r : Fin 8) (t : Fin 112) :
    g3 8 112 1 (StableHlo.upto post V 4 (dr main_v15)) (ix3 r t 0) = g2 8 112 (V (dr main_v13_1)) (ix2 r t) := by
  unfold post g3 g2
  after_reads_at

/-- A kept coordinate when the coordinates are put together. -/
theorem up_2 (V : Valuation τ sig (Elt Ideal)) (r : Fin 8) (t : Fin 112) :
    g3 8 112 1 (StableHlo.upto post V 4 (dr main_v16)) (ix3 r t 0) = g2 8 112 (V (dr main_v13_2)) (ix2 r t) := by
  unfold post g3 g2
  after_reads_at

/-- A kept coordinate when the coordinates are put together. -/
theorem up_3 (V : Valuation τ sig (Elt Ideal)) (r : Fin 8) (t : Fin 112) :
    g3 8 112 1 (StableHlo.upto post V 4 (dr main_v17)) (ix3 r t 0) = g2 8 112 (V (dr main_v13_3)) (ix2 r t) := by
  unfold post g3 g2
  after_reads_at

/-- A coordinate clamped to the image. -/
def clip1 (x : EReal) : EReal := min (id (constant (F := Ideal) S_ .f32 0x44000000#32) ix0) (max (id (constant (F := Ideal) S_ .f32 0x00000000#32) ix0) x)

theorem clip1_eq (x : EReal) : clip1 x = min (Ideal.ofBits .f32 0x44000000#32) (max 0 x) := by
  rw [show (0 : EReal) = Ideal.ofBits .f32 0x00000000#32 from Ideal.ofBits_zero_f32.symm]
  rfl

/-- A coordinate of the result's boxes, from what is put together. -/
theorem post_0u (V : Valuation τ sig (Elt Ideal)) (r : Fin 8) (t : Fin 100) (y : EReal)
    (hy : y = g3 8 112 1 (StableHlo.upto post V 4 (dr main_v14)) (ix3 r ⟨t.val, by omega⟩ 0)) :
    g3 8 100 4 (after post V (dr main_v20)) (ix3 r t 0) = clip1 y := by
  unfold post g3
  after_reads_at
  subst hy
  rfl

/-- A coordinate of the result's boxes. -/
theorem post_0 (V : Valuation τ sig (Elt Ideal)) (r : Fin 8) (t : Fin 100) :
    g3 8 100 4 (after post V (dr main_v20)) (ix3 r t 0) = clip1 (g2 8 112 (V (dr main_v13_0)) (ix2 r ⟨t.val, by omega⟩)) :=
  post_0u V r t _ (up_0 V r ⟨t.val, by omega⟩).symm

/-- A coordinate of the result's boxes, from what is put together. -/
theorem post_1u (V : Valuation τ sig (Elt Ideal)) (r : Fin 8) (t : Fin 100) (y : EReal)
    (hy : y = g3 8 112 1 (StableHlo.upto post V 4 (dr main_v15)) (ix3 r ⟨t.val, by omega⟩ 0)) :
    g3 8 100 4 (after post V (dr main_v20)) (ix3 r t 1) = clip1 y := by
  unfold post g3
  after_reads_at
  subst hy
  rfl

/-- A coordinate of the result's boxes. -/
theorem post_1 (V : Valuation τ sig (Elt Ideal)) (r : Fin 8) (t : Fin 100) :
    g3 8 100 4 (after post V (dr main_v20)) (ix3 r t 1) = clip1 (g2 8 112 (V (dr main_v13_1)) (ix2 r ⟨t.val, by omega⟩)) :=
  post_1u V r t _ (up_1 V r ⟨t.val, by omega⟩).symm

/-- A coordinate of the result's boxes, from what is put together. -/
theorem post_2u (V : Valuation τ sig (Elt Ideal)) (r : Fin 8) (t : Fin 100) (y : EReal)
    (hy : y = g3 8 112 1 (StableHlo.upto post V 4 (dr main_v16)) (ix3 r ⟨t.val, by omega⟩ 0)) :
    g3 8 100 4 (after post V (dr main_v20)) (ix3 r t 2) = clip1 y := by
  unfold post g3
  after_reads_at
  subst hy
  rfl

/-- A coordinate of the result's boxes. -/
theorem post_2 (V : Valuation τ sig (Elt Ideal)) (r : Fin 8) (t : Fin 100) :
    g3 8 100 4 (after post V (dr main_v20)) (ix3 r t 2) = clip1 (g2 8 112 (V (dr main_v13_2)) (ix2 r ⟨t.val, by omega⟩)) :=
  post_2u V r t _ (up_2 V r ⟨t.val, by omega⟩).symm

/-- A coordinate of the result's boxes, from what is put together. -/
theorem post_3u (V : Valuation τ sig (Elt Ideal)) (r : Fin 8) (t : Fin 100) (y : EReal)
    (hy : y = g3 8 112 1 (StableHlo.upto post V 4 (dr main_v17)) (ix3 r ⟨t.val, by omega⟩ 0)) :
    g3 8 100 4 (after post V (dr main_v20)) (ix3 r t 3) = clip1 y := by
  unfold post g3
  after_reads_at
  subst hy
  rfl

/-- A coordinate of the result's boxes. -/
theorem post_3 (V : Valuation τ sig (Elt Ideal)) (r : Fin 8) (t : Fin 100) :
    g3 8 100 4 (after post V (dr main_v20)) (ix3 r t 3) = clip1 (g2 8 112 (V (dr main_v13_3)) (ix2 r ⟨t.val, by omega⟩)) :=
  post_3u V r t _ (up_3 V r ⟨t.val, by omega⟩).symm

/-- The result's scores. -/
theorem post_s (V : Valuation τ sig (Elt Ideal)) (r : Fin 8) (t : Fin 100) :
    g2 8 100 (after post V (dr main_v21)) (ix2 r t) = g2 8 112 (V (dr main_v13_4)) (ix2 r ⟨t.val, by omega⟩) := by
  unfold post g2
  after_reads_at

end Cert.Proof.Nms
-- ==== Proof.Gat.lean ====
/-
  Three host operations read over the extended reals: a batched gather along a row, a conjunction along a unit axis, the
  first maximum of a row.
-/
module

public import proofs.«01_k».proof.Defs
public import Idealize.ShloMosaic.PureOps.Ideal
public import Idealize.ShloMosaic.PureOps.Ideal.Laws
public import Idealize.ShloMosaic.Lib.Pointwise
public import Idealize.ShloMosaic.PureOps.Reduce

@[expose] public section

noncomputable section

namespace Cert.Proof.Ref

open Idealize.ShloMosaic

/-- One element per row and place: rows are the batch, the place's index picks the column. -/
abbrev dims2 (R N C : ℕ)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- The same of rows of `K` numbers each. -/
abbrev dims3 (R N C K : ℕ)
    (wf : GatherDims.WF ⟨3, ![R, N, K]⟩ ⟨3, ![R, C, 1]⟩ ⟨3, ![R, C, K]⟩ [2] [1] [0] [1] [0] 2 ![1, 1, K]) :
    GatherDims ⟨3, ![R, N, K]⟩ ⟨3, ![R, C, 1]⟩ ⟨3, ![R, C, K]⟩ where
  offsetDims := [2]
  collapsedSliceDims := [1]
  operandBatchingDims := [0]
  startIndicesBatchingDims := [0]
  startIndexMap := [1]
  indexVectorDim := 2
  sliceSizes := ![1, 1, K]
  wf := wf

/-- The gather at a row and place is the row's element at the index there. -/
theorem take2 {α : Type} {w R N C : ℕ}
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (r : Fin R) (t : Fin C) (k : Fin N)
    (hk : (idx (ix3 r t 0)).toInt.toNat = k.val) :
    Host.gather (dims2 R N C wf) x idx (ix2 r t) = x (ix2 r k) := by
  unfold Host.gather
  congr 1
  funext a
  refine Fin.ext ?_
  show (dims2 R N C wf).start (ix2 r t) idx a + (dims2 R N C wf).batchCoord (ix2 r t) a
      + (dims2 R N C wf).offCoord (ix2 r t) a = _
  have h01 : a = 1 ∨ a = 0 := by
    match a with
    | ⟨0, _⟩ => exact Or.inr rfl
    | ⟨1, _⟩ => exact Or.inl rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (dims2 R N C wf).startIndexMap from List.mem_singleton.mpr rfl)]
    have hsi : (dims2 R N C wf).siIdx (ix2 r t) ⟨List.idxOf (1 : Fin 2) (dims2 R N C wf).startIndexMap,
        List.idxOf_lt_length_iff.2 (List.mem_singleton.mpr rfl)⟩ = ix3 r t 0 := by
      funext b; refine Fin.ext ?_
      match b with
      | ⟨0, _⟩ => rfl
      | ⟨1, _⟩ => rfl
      | ⟨2, _⟩ => rfl
    rw [hsi, hk]
    show min k.val (N - 1) = k.val
    have := k.isLt
    omega
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl

/-- The gather of rows of `K` numbers likewise. -/
theorem take3 {α : Type} {w R N C K : ℕ}
    (wf : GatherDims.WF ⟨3, ![R, N, K]⟩ ⟨3, ![R, C, 1]⟩ ⟨3, ![R, C, K]⟩ [2] [1] [0] [1] [0] 2 ![1, 1, K])
    (x : (⟨3, ![R, N, K]⟩ : Shape).Idx → α) (idx : IVec ⟨3, ![R, C, 1]⟩ w) (r : Fin R) (t : Fin C) (c : Fin K)
    (k : Fin N) (hk : (idx (ix3 r t 0)).toInt.toNat = k.val) :
    Host.gather (dims3 R N C K wf) x idx (ix3 r t c) = x (ix3 r k c) := by
  unfold Host.gather
  congr 1
  funext a
  refine Fin.ext ?_
  show (dims3 R N C K wf).start (ix3 r t c) idx a + (dims3 R N C K wf).batchCoord (ix3 r t c) a
      + (dims3 R N C K wf).offCoord (ix3 r t c) a = _
  have h01 : a = 1 ∨ a = 0 ∨ a = 2 := by
    match a with
    | ⟨0, _⟩ => exact Or.inr (Or.inl rfl)
    | ⟨1, _⟩ => exact Or.inl rfl
    | ⟨2, _⟩ => exact Or.inr (Or.inr rfl)
  rcases h01 with rfl | rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (dims3 R N C K wf).startIndexMap from List.mem_singleton.mpr rfl)]
    have hsi : (dims3 R N C K wf).siIdx (ix3 r t c) ⟨List.idxOf (1 : Fin 3) (dims3 R N C K wf).startIndexMap,
        List.idxOf_lt_length_iff.2 (List.mem_singleton.mpr rfl)⟩ = ix3 r t 0 := by
      funext b; refine Fin.ext ?_
      match b with
      | ⟨0, _⟩ => rfl
      | ⟨1, _⟩ => rfl
      | ⟨2, _⟩ => rfl
    rw [hsi, hk]
    show min k.val (N - 1) = k.val
    have := k.isLt
    omega
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h)]
    unfold GatherDims.start GatherDims.offCoord
    rw [dif_neg (fun h => by simp at h),
      dif_pos ((GatherDims.mem_sKept _ _).mpr ⟨fun h => by simp at h, fun h => by simp at h⟩)]
    simp only [Nat.zero_add]
    rfl

/-- A conjunction of ones is one. -/
theorem all_ones {s t u : Shape} {axes : List (Fin s.rank)} (x : s.Idx → BitVec 1) (init : u.Idx → BitVec 1)
    (h : s.ReducesTo axes t) (hu : 0 < u.numel) (j : t.Idx) (hi : ∀ i, init i = 1#1) (hx : ∀ i, x i = 1#1) :
    Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx a]
    exact ih

/-- The pair with the larger first part, the smaller index where those agree. -/
def Better (p q : EReal × BitVec 32) : Prop := q.1 < p.1 ∨ (q.1 = p.1 ∧ p.2.toNat ≤ q.2.toNat)

theorem Better.refl (p : EReal × BitVec 32) : Better p p := Or.inr ⟨rfl, le_rfl⟩

theorem Better.trans {p q r : EReal × BitVec 32} (h : Better p q) (h' : Better q r) : Better p r := by
  rcases h with h | ⟨h, hi⟩ <;> rcases h' with h' | ⟨h', hi'⟩
  · exact Or.inl (h'.trans h)
  · exact Or.inl (h' ▸ h)
  · exact Or.inl (h ▸ h')
  · exact Or.inr ⟨h'.trans h, hi.trans hi'⟩

/-- A fold that keeps one of its two pairs, the better one, keeps the best. -/
theorem fold_better (f : EReal × BitVec 32 → EReal × BitVec 32 → EReal × BitVec 32) (ok : EReal × BitVec 32 → Prop)
    (hf : ∀ a b, ok a → ok b → (f a b = a ∧ Better a b) ∨ (f a b = b ∧ Better b a)) :
    ∀ (l : List (EReal × BitVec 32)) (a : EReal × BitVec 32), ok a → (∀ p ∈ l, ok p) →
      (l.foldl f a = a ∨ l.foldl f a ∈ l) ∧ Better (l.foldl f a) a ∧ ∀ p ∈ l, Better (l.foldl f a) p := by
  intro l
  induction l with
  | nil => intro a ha hl; exact ⟨Or.inl rfl, Better.refl a, fun p hp => absurd hp (List.not_mem_nil)⟩
  | cons b l ih =>
    intro a ha hl
    have hb := hl b (List.mem_cons_self)
    have hl' : ∀ p ∈ l, ok p := fun p hp => hl p (List.mem_cons_of_mem _ hp)
    rw [List.foldl_cons]
    rcases hf a b ha hb with ⟨e, h⟩ | ⟨e, h⟩
    · rw [e]
      obtain ⟨h1, h2, h3⟩ := ih a ha hl'
      refine ⟨h1.imp id (List.mem_cons_of_mem _), h2, fun p hp => ?_⟩
      rcases List.mem_cons.mp hp with hp | hp
      · rw [hp]; exact h2.trans h
      · exact h3 p hp
    · rw [e]
      obtain ⟨h1, h2, h3⟩ := ih b hb hl'
      refine ⟨Or.inr ?_, h2.trans h, fun p hp => ?_⟩
      · rcases h1 with h1 | h1
        · rw [h1]; exact List.mem_cons_self
        · exact List.mem_cons_of_mem _ h1
      · rcases List.mem_cons.mp hp with hp | hp
        · rw [hp]; exact h2
        · exact h3 p hp

/-- The body of the search for a maximum keeps the better of its two pairs. -/
theorem argmax_step (a b : EReal × BitVec 32) (ha : a.2.toNat < 2147483648) (hb : b.2.toNat < 2147483648) :
    ((Cert.ReferenceIdeal.reducer_argmax_f32_i32 (F := Ideal) a b : EReal × BitVec 32) = a ∧ Better a b) ∨
      ((Cert.ReferenceIdeal.reducer_argmax_f32_i32 (F := Ideal) a b : EReal × BitVec 32) = b ∧ Better b a) := by
  obtain ⟨x, i⟩ := a
  obtain ⟨y, j⟩ := b
  have hti : i.toInt = i.toNat := BitVec.toInt_eq_toNat_of_lt (by simp only at ha; omega)
  have htj : j.toInt = j.toNat := BitVec.toInt_eq_toNat_of_lt (by simp only at hb; omega)
  simp only [Cert.ReferenceIdeal.reducer_argmax_f32_i32, Better, FloatOps.cmpf, Ideal.cmp, IntOp.ori, IntOp.andi,
    IntOp.cmpi, Scalar.select, ne_eq, not_true_eq_false, decide_false]
  rcases lt_trichotomy x y with h | h | h
  · right
    simp [h, h.ne, not_lt.mpr h.le]
  · subst h
    rcases lt_or_ge i.toNat j.toNat with h | h
    · left
      have : i.slt j = true := by rw [BitVec.slt, decide_eq_true_iff]; omega
      simp [this, h.le]
    · right
      have : i.slt j = false := by rw [BitVec.slt, decide_eq_false_iff_not]; omega
      simp [this, h]
  · left
    simp [h, h.ne']

/-- The first of a row's largest elements. -/
def FirstMax (N : ℕ) (x : ℕ → EReal) (k : ℕ) : Prop := k < N ∧ ∀ i < N, x i < x k ∨ (x i = x k ∧ k ≤ i)

theorem fold_first (N : ℕ) (hN : 0 < N) (hN' : N < 2147483648) (x : ℕ → EReal) (l : List (EReal × BitVec 32))
    (h : ∀ p, p ∈ l ↔ ∃ i < N, p = (x i, BitVec.ofNat 32 i)) :
    ∃ k, FirstMax N x k ∧
      (l.foldl (Cert.ReferenceIdeal.reducer_argmax_f32_i32 (F := Ideal)) ((⊥ : EReal), 0#32) : EReal × BitVec 32).2
        = BitVec.ofNat 32 k := by
  have ht : ∀ i < N, (BitVec.ofNat 32 i).toNat = i := fun i hi => by
    rw [BitVec.toNat_ofNat]; exact Nat.mod_eq_of_lt (by omega)
  obtain ⟨h1, h2, h3⟩ := fold_better (Cert.ReferenceIdeal.reducer_argmax_f32_i32 (F := Ideal))
    (fun p => p.2.toNat < 2147483648) (fun a b ha hb => argmax_step a b ha hb) l ((⊥ : EReal), 0#32) (by simp)
    (fun p hp => by
      obtain ⟨i, hi, rfl⟩ := (h p).mp hp
      show (BitVec.ofNat 32 i).toNat < _
      rw [ht i hi]; omega)
  generalize l.foldl (Cert.ReferenceIdeal.reducer_argmax_f32_i32 (F := Ideal)) ((⊥ : EReal), 0#32) = q at h1 h2 h3
  have h4 : ∀ i < N, Better q (x i, BitVec.ofNat 32 i) := fun i hi => h3 _ ((h _).mpr ⟨i, hi, rfl⟩)
  have key : ∃ k < N, q = (x k, BitVec.ofNat 32 k) := by
    rcases h1 with h1 | h1
    · refine ⟨0, hN, ?_⟩
      rcases h4 0 hN with h5 | ⟨h5, -⟩
      · rw [h1] at h5; exact absurd h5 not_lt_bot
      · rw [h1] at h5 ⊢
        show ((⊥ : EReal), 0#32) = (x 0, BitVec.ofNat 32 0)
        rw [show x 0 = ⊥ from h5]
    · obtain ⟨i, hi, e⟩ := (h q).mp h1
      exact ⟨i, hi, e⟩
  obtain ⟨k, hk, e⟩ := key
  refine ⟨k, ⟨hk, fun i hi => ?_⟩, by rw [e]⟩
  have h5 := h4 i hi
  rw [e] at h5
  rcases h5 with h5 | ⟨h5, h6⟩
  · exact Or.inl h5
  · refine Or.inr ⟨h5, ?_⟩
    have h6' : (BitVec.ofNat 32 k).toNat ≤ (BitVec.ofNat 32 i).toNat := h6
    rwa [ht k hk, ht i hi] at h6'

/-- Minus infinity's pattern over the extended reals. -/
theorem ofBits_ninf : Ideal.ofBits .f32 0xFF800000#32 = (⊥ : EReal) := by
  simp [Ideal.ofBits, Ideal.ieee]

/-- The index that the search for a row's maximum returns is the first maximum's. -/
theorem argmax_row (x : FVec Ideal Cert.ReferenceIdeal.S8x20000 .f32) (y : IVec Cert.ReferenceIdeal.S8x20000 32)
    (hy : ∀ (r : Fin 8) (i : Fin 20000), y (ix2 r i) = BitVec.ofNat 32 i.val)
    (u : FVec Ideal Cert.ReferenceIdeal.S_ .f32) (v : IVec Cert.ReferenceIdeal.S_ 32) (hu : ∀ i, u i = (⊥ : EReal))
    (hv : ∀ i, v i = 0#32) (h : Cert.ReferenceIdeal.S8x20000.ReducesTo [1] Cert.ReferenceIdeal.S8)
    (h_ : 0 < Cert.ReferenceIdeal.S_.numel) (r : Fin 8) (f : ℕ → EReal) (hf : ∀ i : Fin 20000, x (ix2 r i) = f i.val) :
    ∃ k, FirstMax 20000 f k ∧
      (Host.argReduce Cert.ReferenceIdeal.reducer_argmax_f32_i32 x y u v h h_ (ix1 r)).2 = BitVec.ofNat 32 k := by
  rw [Ideal.argReduce_eq_reduce2, Host.reduce2_eq_foldl_fiber, hu, hv]
  refine fold_first 20000 (by decide) (by decide) f _ fun p => ?_
  unfold Host.argReduceFiber
  rw [List.mem_map]
  constructor
  · rintro ⟨n, hn, rfl⟩
    have hd := of_decide_eq_true (List.mem_filter.mp hn).2
    generalize Cert.ReferenceIdeal.S8x20000.rowMajor.symm n = i at hd ⊢
    obtain ⟨r', i', e⟩ : ∃ (r' : Fin 8) (i' : Fin 20000), i = ix2 r' i' := ⟨i 0, i 1, eq_ix2 i⟩
    rw [e] at hd ⊢
    have h0 : r' = r := by
      refine Fin.ext ?_
      have h1 := h.drop_apply_val_of_eq (ix2 r' i') 0 0
      rw [hd] at h1
      exact h1.symm
    rw [h0]
    refine ⟨i'.val, i'.isLt, ?_⟩
    rw [hf, hy]
  · rintro ⟨i, hi, rfl⟩
    refine ⟨Cert.ReferenceIdeal.S8x20000.rowMajor (ix2 r ⟨i, hi⟩), List.mem_filter.mpr ⟨List.mem_finRange _, ?_⟩, ?_⟩
    · rw [Equiv.symm_apply_apply]
      refine decide_eq_true ?_
      funext b
      have hb : b = 0 := Fin.ext (by have := b.isLt; simp only [Cert.ReferenceIdeal.S8] at this; show b.val = 0; omega)
      rw [hb]
      exact Fin.ext (h.drop_apply_val_of_eq (ix2 r ⟨i, hi⟩) 0 0)
    · rw [Equiv.symm_apply_apply, hf, hy]

end Cert.Proof.Ref
-- ==== Proof.RefEl.lean ====
/-
  The reference read at an index: the masked scores, one trip of the loop, the results.
-/
module

public import proofs.«01_k».proof.Proof.RefRun
public import proofs.«01_k».proof.Proof.Search
public import proofs.«01_k».proof.Proof.Gat
public import Idealize.ShloMosaic.Lib.Pointwise
public import Idealize.ShloMosaic.Lib.StableHlo.ReadAt

@[expose] public section

set_option maxRecDepth 16384
set_option maxHeartbeats 4000000

noncomputable section

namespace Cert.Proof.Ref

open Cert.ReferenceIdeal Cert.ReferenceIdeal.Gen
open Idealize.ShloMosaic Idealize.ShloMosaic.TcCoe
open Idealize.ShloMosaic.StableHlo (held after seq afterL Plain atTrip entryContents finalContents CondSpec)
open Cert.Proof.Nms (iouV msc cNo cHalf)

local notation "dr" => Proc.devRef (τ := τ) (sig := sig) Proc.tc

/-- A valuation's word or number arrays, by shape. -/
abbrev f2 (a b : ℕ) (x : (⟨2, ![a, b]⟩ : Shape).Idx → EReal) : (⟨2, ![a, b]⟩ : Shape).Idx → EReal := x
abbrev f3 (a b c : ℕ) (x : (⟨3, ![a, b, c]⟩ : Shape).Idx → EReal) : (⟨3, ![a, b, c]⟩ : Shape).Idx → EReal := x
abbrev i1 (a : ℕ) (x : (⟨1, ![a]⟩ : Shape).Idx → BitVec 32) : (⟨1, ![a]⟩ : Shape).Idx → BitVec 32 := x
abbrev i2 (a b : ℕ) (x : (⟨2, ![a, b]⟩ : Shape).Idx → BitVec 32) : (⟨2, ![a, b]⟩ : Shape).Idx → BitVec 32 := x
abbrev i3 (a b c : ℕ) (x : (⟨3, ![a, b, c]⟩ : Shape).Idx → BitVec 32) : (⟨3, ![a, b, c]⟩ : Shape).Idx → BitVec 32 := x

/-- The masked scores before the loop. -/
theorem rp_at (V : Valuation τ sig (Elt Ideal)) (r : Fin 8) (i : Fin 20000) :
    f2 8 20000 (after rp V (dr main_v31_3)) (ix2 r i) =
      msc (F := Ideal) (f2 8 20000 (V (dr main_arg1)) (ix2 r i)) (f3 8 20000 4 (V (dr main_arg0)) (ix3 r i 0))
        (f3 8 20000 4 (V (dr main_arg0)) (ix3 r i 1)) (f3 8 20000 4 (V (dr main_arg0)) (ix3 r i 2))
        (f3 8 20000 4 (V (dr main_arg0)) (ix3 r i 3)) := by
  unfold rp f2 f3
  after_reads_at
  rfl

/-- The positions' numbers before the loop. -/
theorem rp_iota (V : Valuation τ sig (Elt Ideal)) (i : Fin 20000) :
    i2 1 20000 (after rp V (dr main_v31_1)) (ix2 0 i) = BitVec.ofNat 32 i.val := by
  unfold rp i2
  after_reads_at
  simp only [id]
  pointwise

/-- The boxes before the loop. -/
theorem rp_box (V : Valuation τ sig (Elt Ideal)) : after rp V (dr main_v31_0) = V (dr main_arg0) := by
  unfold rp
  after_reads_simp
  rfl

/-- One trip's next masked scores, from the box selected. -/
theorem rb4_at (V : Valuation τ sig (Elt Ideal)) (r : Fin 8) (i : Fin 20000) :
    f2 8 20000 (after rb4 V (dr main_while0b_v119)) (ix2 r i) =
      (let b := fun c : Fin 4 => f3 8 1 4 (V (dr main_while0b_v53)) (ix3 r 0 c)
       let x := fun c : Fin 4 => f3 8 20000 4 (V (dr main_v31_0)) (ix3 r i c)
       Scalar.select (IntOp.ori (Ideal.cmp .ogt (iouV (F := Ideal) (x 0) (x 1) (x 2) (x 3) ((x 2 - x 0) * (x 3 - x 1))
          (b 0) (b 1) (b 2) (b 3) ((b 2 - b 0) * (b 3 - b 1))) cHalf)
        (IntOp.cmpi .eq (i2 1 20000 (V (dr main_v31_1)) (ix2 0 i)) (i2 8 1 (V (dr main_while0b_v50)) (ix2 r 0))))
        cNo (f2 8 20000 (V (dr main_v31_3)) (ix2 r i))) := by
  unfold rb4 f2 f3 i2
  after_reads_at
  simp only [iouV, FloatOps.mulf, FloatOps.maximumf, FloatOps.minimumf, FloatOps.subf, FloatOps.addf, FloatOps.divf, Scalar.ofBits, Ideal.ofBits_zero_f32]
  rfl

theorem fold_one (n : ℕ) (w : BitVec 1) (h : w = 1#1) :
    Finset.fold IntOp.andi (1#1) (fun _ : Fin n => w) Finset.univ = 1#1 := by
  subst h
  generalize (Finset.univ : Finset (Fin n)) = s
  induction s using Finset.induction_on with
  | empty => rfl
  | insert a s ha ih => rw [Finset.fold_insert ha, ih]; rfl

/-- An index in range is not moved. -/
theorem wrap_of_lt (w : BitVec 32) (hw : w.toNat < 20000) :
    Scalar.select (IntOp.cmpi .slt w 0#32) (IntOp.addi w 20000#32) w = w := by
  have h : w.toInt = w.toNat := BitVec.toInt_eq_toNat_of_lt (by omega)
  have : IntOp.cmpi .slt w 0#32 = 0#1 := by
    have : w.slt 0#32 = false := by rw [BitVec.slt, decide_eq_false_iff_not]; simp; omega
    simp [IntOp.cmpi, this]
  rw [this]
  rfl

theorem mask_one (n : ℕ) (w : BitVec 32) (hw : w.toNat < 20000) :
    Finset.fold IntOp.andi (1#1) (fun _ : Fin n => IntOp.andi
      (IntOp.cmpi .sge (Scalar.select (IntOp.cmpi .slt w 0#32) (IntOp.addi w 20000#32) w) 0#32)
      (IntOp.cmpi .sle (Scalar.select (IntOp.cmpi .slt w 0#32) (IntOp.addi w 20000#32) w) 19999#32)) Finset.univ = 1#1 := by
  rw [wrap_of_lt w hw, fold_one]
  have h : w.toInt = w.toNat := BitVec.toInt_eq_toNat_of_lt (by omega)
  have h1 : (0#32).sle w = true := by rw [BitVec.sle, decide_eq_true_iff]; simp; omega
  have h2 : w.sle 19999#32 = true := by rw [BitVec.sle, decide_eq_true_iff, h]; simp; omega
  simp [IntOp.cmpi, IntOp.andi, h1, h2]

/-- An index in range reads what it names. -/
theorem mask_fn (w : Fin 1 → BitVec 32) (hw : (w 0).toNat < 20000) :
    Finset.fold IntOp.andi (1#1) (fun x : Fin 1 => IntOp.andi
      (IntOp.cmpi .sge (Scalar.select (IntOp.cmpi .slt (w x) 0#32) (IntOp.addi (w x) 20000#32) (w x)) 0#32)
      (IntOp.cmpi .sle (Scalar.select (IntOp.cmpi .slt (w x) 0#32) (IntOp.addi (w x) 20000#32) (w x)) 19999#32)) Finset.univ = 1#1 := by
  obtain ⟨v, rfl⟩ : ∃ v, w = fun _ => v := ⟨w 0, funext fun x => congrArg w (Subsingleton.elim x 0)⟩
  exact mask_one 1 v hw

theorem masked {α : Type} (n : ℕ) (w : BitVec 32) (hw : w.toNat < 20000) (a b : α) :
    Scalar.select (Finset.fold IntOp.andi (1#1) (fun _ : Fin n => IntOp.andi
      (IntOp.cmpi .sge (Scalar.select (IntOp.cmpi .slt w 0#32) (IntOp.addi w 20000#32) w) 0#32)
      (IntOp.cmpi .sle (Scalar.select (IntOp.cmpi .slt w 0#32) (IntOp.addi w 20000#32) w) 19999#32)) Finset.univ) a b = a := by
  rw [mask_one n w hw]
  rfl

theorem at_wrap (w : BitVec 32) (k : Fin 20000) (h : w = BitVec.ofNat 32 k.val) :
    w.toNat < 20000 ∧ (Scalar.select (IntOp.cmpi .slt w 0#32) (IntOp.addi w 20000#32) w).toInt.toNat = k.val := by
  have hk := k.isLt
  have hw : w.toNat = k.val := by rw [h, BitVec.toNat_ofNat]; exact Nat.mod_eq_of_lt (by omega)
  have hl : w.toNat < 20000 := by omega
  refine ⟨hl, ?_⟩
  rw [wrap_of_lt w hl, BitVec.toInt_eq_toNat_of_lt (by omega)]
  omega

/-- One trip's largest score. -/
theorem rb2_at (V : Valuation τ sig (Elt Ideal)) (r : Fin 8) (k : Fin 20000)
    (hk : i2 8 1 (V (dr main_while0b_v50)) (ix2 r 0) = BitVec.ofNat 32 k.val) :
    f2 8 1 (after rb2 V (dr main_while0b_v51)) (ix2 r 0) = f2 8 20000 (V (dr main_v31_3)) (ix2 r k) := by
  have hw := at_wrap _ k hk
  unfold rb2 f2
  after_reads_at
  exact (masked 1 _ hw.1 _ _).trans (take2 _ _ _ r 0 k hw.2)

/-- One trip's box. -/
theorem rb3_at (V : Valuation τ sig (Elt Ideal)) (r : Fin 8) (c : Fin 4) (k : Fin 20000)
    (hk : i2 8 1 (V (dr main_while0b_v50)) (ix2 r 0) = BitVec.ofNat 32 k.val) :
    f3 8 1 4 (after rb3 V (dr main_while0b_v53)) (ix3 r 0 c) = f3 8 20000 4 (V (dr main_v31_0)) (ix3 r k c) := by
  have hw := at_wrap _ k hk
  unfold rb3 f3
  after_reads_at
  refine (masked 1 _ hw.1 _ _).trans (take3 _ _ _ r 0 c k ?_)
  pointwise
  exact hw.2

/-- The index that one trip finds. -/
theorem rb1_at (V : Valuation τ sig (Elt Ideal)) (r : Fin 8) (f : ℕ → EReal)
    (hf : ∀ i : Fin 20000, f2 8 20000 (V (dr main_v31_3)) (ix2 r i) = f i.val) :
    ∃ k, FirstMax 20000 f k ∧ i2 8 1 (after rb1 V (dr main_while0b_v50)) (ix2 r 0) = BitVec.ofNat 32 k := by
  unfold rb1 i2
  after_reads_at
  exact argmax_row _ _ (fun r i => by pointwise) _ _ (fun _ => ofBits_ninf) (fun _ => rfl) _ _ r f hf

variable {F : FTy → Type} [FloatOps F] in
/-- The indices of the boxes selected, and that they are in range. -/
def rq2a : List (HloOp τ sig (Elt F)) := [
    StableHlo.TRef.nullary main_call7.c (constantI S_ 32 0#32),
    StableHlo.TRef.unary main_call7.c main_call7.v0 (broadcastInDim S8x100x1 ![] bcast_S_S8x100x1),
    StableHlo.TRef.binary (.of main_v37 : StableHlo.TRef sig ⟨S8x100x1, .i32⟩) main_call7.v0 main_call7.v1 (cmpi .slt),
    StableHlo.TRef.nullary main_call7.c_0 (constantI S_ 32 20000#32),
    StableHlo.TRef.unary main_call7.c_0 main_call7.v2 (broadcastInDim S8x100x1 ![] bcast_S_S8x100x1),
    StableHlo.TRef.binary (.of main_v37 : StableHlo.TRef sig ⟨S8x100x1, .i32⟩) main_call7.v2 main_call7.v3 addi,
    StableHlo.TRef.ternary main_call7.v1 main_call7.v3 (.of main_v37 : StableHlo.TRef sig ⟨S8x100x1, .i32⟩) main_call7.v4 select,
    StableHlo.TRef.nullary main_call7.c_1 (constantI S1 32 19999#32),
    StableHlo.TRef.nullary main_call7.c_2 (constantI S_ 32 0#32),
    StableHlo.TRef.unary main_call7.c_2 main_call7.v5 (broadcastInDim S8x100x1 ![] bcast_S_S8x100x1),
    StableHlo.TRef.binary main_call7.v4 main_call7.v5 main_call7.v6 (cmpi .sge),
    StableHlo.TRef.unary main_call7.c_1 main_call7.v7 (broadcastInDim S1x1x1 ![2] bcast_S1_S1x1x1_2),
    StableHlo.TRef.unary main_call7.v7 main_call7.v8 (broadcastInDim S8x100x1 ![0, 1, 2] bcast_S1x1x1_S8x100x1_0_1_2),
    StableHlo.TRef.binary main_call7.v4 main_call7.v8 main_call7.v9 (cmpi .sle),
    StableHlo.TRef.binary main_call7.v6 main_call7.v9 main_call7.v10 andi,
    StableHlo.TRef.nullary main_call7.c_3 (constantI S_ 1 1#1),
    StableHlo.TRef.binary main_call7.v10 main_call7.c_3 main_call7.v11 (fun x v => Host.reduce IntOp.andi x v reducesTo_S8x100x1_S8x100_d2 h_S_),
    StableHlo.TRef.binary (.of main_arg0 : StableHlo.TRef sig ⟨S8x20000x4, .f32⟩) main_call7.v4 main_call7.v12 (fun x i => Host.gather gather_S8x20000x4_S8x100x1_S8x100x4_2_1_0_0_1_2_114 x i)]
variable {F : FTy → Type} [FloatOps F] in
/-- The boxes at those indices. -/
def rq2b : List (HloOp τ sig (Elt F)) := [
    StableHlo.TRef.unary main_call7.v11 main_call7.v13 (broadcastInDim S8x100x4 ![0, 1] bcast_S8x100_S8x100x4_0_1),
    StableHlo.TRef.nullary main_call7.cst (constant S_ .f32 0x7FC00000#32),
    StableHlo.TRef.unary main_call7.cst main_call7.v14 (broadcastInDim S8x100x4 ![] bcast_S_S8x100x4),
    StableHlo.TRef.ternary main_call7.v13 main_call7.v12 main_call7.v14 main_call7.v15 select]

theorem rq2_cut (V : Valuation τ sig (Elt Ideal)) : after rq2 V = after rq2b (after rq2a V) := rfl

theorem rq2a_mask (V : Valuation τ sig (Elt Ideal)) (r : Fin 8) (t : Fin 100)
    (hw : (i3 8 100 1 (V (dr main_v37)) (ix3 r t 0)).toNat < 20000) :
    (after rq2a V (dr main_call7_v11) : (⟨2, ![8, 100]⟩ : Shape).Idx → BitVec 1) (ix2 r t) = 1#1 := by
  unfold rq2a
  after_reads_at
  exact mask_fn (fun x => i3 8 100 1 (V (dr main_v37)) (ix3 r t x)) hw

theorem rq2a_idx (V : Valuation τ sig (Elt Ideal)) (r : Fin 8) (t : Fin 100) :
    i3 8 100 1 (after rq2a V (dr main_call7_v4)) (ix3 r t 0) =
      (let w := i3 8 100 1 (V (dr main_v37)) (ix3 r t 0)
       Scalar.select (IntOp.cmpi .slt w 0#32) (IntOp.addi w 20000#32) w) := by
  unfold rq2a i3
  after_reads_at

theorem rq2a_arg (V : Valuation τ sig (Elt Ideal)) : after rq2a V (dr main_arg0) = V (dr main_arg0) := by
  unfold rq2a
  after_reads_simp

theorem rq2b_at (V : Valuation τ sig (Elt Ideal)) (r : Fin 8) (t : Fin 100) (c : Fin 4) :
    f3 8 100 4 (after rq2b V (dr main_v38)) (ix3 r t c) =
      Scalar.select ((V (dr main_call7_v11) : (⟨2, ![8, 100]⟩ : Shape).Idx → BitVec 1) (ix2 r t))
        (f3 8 100 4 (V (dr main_call7_v12)) (ix3 r t c)) (Ideal.ofBits .f32 0x7FC00000#32) := by
  unfold rq2b f3
  after_reads_at

/-- What is selected once the loop has ended, before clamping. -/
theorem rq2_at (V : Valuation τ sig (Elt Ideal)) (r : Fin 8) (t : Fin 100) (c : Fin 4) (k : Fin 20000)
    (hk : i3 8 100 1 (V (dr main_v37)) (ix3 r t 0) = BitVec.ofNat 32 k.val) :
    f3 8 100 4 (after rq2 V (dr main_v38)) (ix3 r t c) = f3 8 20000 4 (V (dr main_arg0)) (ix3 r k c) := by
  have hw := at_wrap _ k hk
  rw [rq2_cut, rq2b_at, rq2a_mask V r t hw.1]
  refine (show _ = f3 8 100 4 (after rq2a V (dr main_call7_v12)) (ix3 r t c) from rfl).trans ?_
  have e : after rq2a V (dr main_call7_v12) =
      Host.gather gather_S8x20000x4_S8x100x1_S8x100x4_2_1_0_0_1_2_114 (f3 8 20000 4 (V (dr main_arg0)))
        (i3 8 100 1 (after rq2a V (dr main_call7_v4))) := by
    unfold rq2a
    after_reads_simp
    rfl
  rw [e]
  exact take3 _ _ _ r t c k ((congrArg (fun w : BitVec 32 => w.toInt.toNat) (rq2a_idx V r t)).trans hw.2)

theorem rq4_at (V : Valuation τ sig (Elt Ideal)) (r : Fin 8) (t : Fin 100) (k : Fin 20000)
    (hk : i2 8 100 (V (dr main_v32)) (ix2 r t) = BitVec.ofNat 32 k.val) :
    f2 8 100 (after rq4 V (dr main_v41)) (ix2 r t) = f2 8 20000 (V (dr main_arg1)) (ix2 r k) := by
  have hw := at_wrap _ k hk
  unfold rq4 f2
  after_reads_at
  exact (masked 1 _ hw.1 _ _).trans (take2 _ _ _ r t k hw.2)

theorem rq1_at32 (V : Valuation τ sig (Elt Ideal)) (r : Fin 8) (t : Fin 100) :
    i2 8 100 (after rq1 V (dr main_v32)) (ix2 r t) = i2 100 8 (V (dr main_v31_4)) (ix2 t r) := by
  unfold rq1 i2
  after_reads_at

theorem rq1_at37 (V : Valuation τ sig (Elt Ideal)) (r : Fin 8) (t : Fin 100) :
    i3 8 100 1 (after rq1 V (dr main_v37)) (ix3 r t 0) = i2 100 8 (V (dr main_v31_4)) (ix2 t r) := by
  unfold rq1 i2 i3
  after_reads_at

/-- Which of the selected count. -/
theorem rq1_at35 (V : Valuation τ sig (Elt Ideal)) (r : Fin 8) (t : Fin 100) :
    (after rq1 V (dr main_v35) : (⟨2, ![8, 100]⟩ : Shape).Idx → BitVec 1) (ix2 r t) =
      Ideal.cmp .ogt (f2 100 8 (V (dr main_v31_5)) (ix2 t r)) 0 := by
  unfold rq1 f2
  after_reads_at

theorem rq1_at36 (V : Valuation τ sig (Elt Ideal)) (r : Fin 8) (t : Fin 100) :
    (after rq1 V (dr main_v36) : (⟨3, ![8, 100, 1]⟩ : Shape).Idx → BitVec 1) (ix3 r t 0) =
      Ideal.cmp .ogt (f2 100 8 (V (dr main_v31_5)) (ix2 t r)) 0 := by
  unfold rq1 f2
  after_reads_at

/-- The boxes returned. -/
theorem rq3_at (V : Valuation τ sig (Elt Ideal)) (r : Fin 8) (t : Fin 100) (c : Fin 4) :
    f3 8 100 4 (after rq3 V (dr main_v40)) (ix3 r t c) =
      Scalar.select ((V (dr main_v36) : (⟨3, ![8, 100, 1]⟩ : Shape).Idx → BitVec 1) (ix3 r t 0))
        (min (Ideal.ofBits .f32 0x44000000#32) (max 0 (f3 8 100 4 (V (dr main_v38)) (ix3 r t c)))) (0 : EReal) := by
  unfold rq3 f3
  after_reads_at
  rw [show (0 : EReal) = constant (F := Ideal) S_ .f32 0#32 ix0 from Ideal.ofBits_zero_f32.symm]
  rfl

/-- The scores returned. -/
theorem rq5_at (V : Valuation τ sig (Elt Ideal)) (r : Fin 8) (t : Fin 100) :
    f2 8 100 (after rq5 V (dr main_v42)) (ix2 r t) =
      Scalar.select ((V (dr main_v35) : (⟨2, ![8, 100]⟩ : Shape).Idx → BitVec 1) (ix2 r t))
        (f2 8 100 (V (dr main_v41)) (ix2 r t)) (0 : EReal) := by
  unfold rq5 f2
  after_reads_at
  rw [show (0 : EReal) = constant (F := Ideal) S_ .f32 0#32 ix0 from Ideal.ofBits_zero_f32.symm]
  rfl

/-- A row written into an array of rows. -/
theorem row_put {α : Type} (x : S100x8.Idx → α) (upd : S1x8.Idx → α) (start : Fin 2 → Int) (h : S100x8.Slices (fun _ => 0) S1x8)
    (t : ℕ) (ht : t < 100) (h0 : start 0 = (t : Int)) (h1 : start 1 = 0) (t' : Fin 100) (r : Fin 8) :
    Host.dynamicUpdateSlice x upd start h (ix2 t' r) = if t'.val = t then upd (ix2 0 r) else x (ix2 t' r) := by
  have c0 : Host.clampedStart S100x8 S1x8 h.1 start 0 = t :=
    Host.clampedStart_of_le h.1 start 0 t h0 (by show t + 1 ≤ 100; omega)
  have c1 : Host.clampedStart S100x8 S1x8 h.1 start 1 = 0 :=
    Host.clampedStart_of_le h.1 start 1 0 h1 (by show 0 + 8 ≤ 8; omega)
  have hr := r.isLt
  rw [Host.dynamicUpdateSlice_apply]
  by_cases e : t'.val = t
  · rw [if_pos e, dif_pos]
    · refine congrArg upd ?_
      funext b
      refine Fin.ext ?_
      match b with
      | ⟨0, _⟩ =>
        show t'.val - Host.clampedStart S100x8 S1x8 h.1 start 0 = 0
        rw [c0]; omega
      | ⟨1, _⟩ =>
        show r.val - Host.clampedStart S100x8 S1x8 h.1 start 1 = r.val
        rw [c1]; omega
    · intro a
      match a with
      | ⟨0, _⟩ =>
        show Host.clampedStart S100x8 S1x8 h.1 start 0 ≤ t'.val ∧ t'.val < Host.clampedStart S100x8 S1x8 h.1 start 0 + 1
        rw [c0]; omega
      | ⟨1, _⟩ =>
        show Host.clampedStart S100x8 S1x8 h.1 start 1 ≤ r.val ∧ r.val < Host.clampedStart S100x8 S1x8 h.1 start 1 + 8
        rw [c1]; omega
  · rw [if_neg e, dif_neg]
    intro hin
    have h2 : Host.clampedStart S100x8 S1x8 h.1 start 0 ≤ t'.val ∧ t'.val < Host.clampedStart S100x8 S1x8 h.1 start 0 + 1 := hin 0
    rw [c0] at h2
    omega

/-- The records of the selected boxes after a trip. -/
theorem rb5_4 (V : Valuation τ sig (Elt Ideal)) (t : ℕ) (ht : t < 100)
    (hc : ((V (dr main_v31_2) : S_.Idx → BitVec 32) (Shape.Idx.first h_S_)).toInt = t) (t' : Fin 100) (r : Fin 8) :
    i2 100 8 (after rb5 V (dr main_v31_4)) (ix2 t' r) =
      if t'.val = t then i2 8 1 (V (dr main_while0b_v50)) (ix2 r 0) else i2 100 8 (V (dr main_v31_4)) (ix2 t' r) := by
  unfold rb5 i2
  after_reads_simp
  simp -implicitDefEqProofs only [StableHlo.TRef.toBuf, StableHlo.TRef.ofBuf, cast_cast, cast_eq, id]
  refine (row_put (i2 100 8 (V (dr main_v31_4))) _ _ updateFits_S100x8_S1x8 t ht ?_ ?_ t' r).trans ?_
  · show BitVec.toInt ((StableHlo.upto _ V 4 (dr main_v31_2) : S_.Idx → BitVec 32) (Shape.Idx.first h_S_)) = _
    after_reads_simp
    exact hc
  · show BitVec.toInt ((StableHlo.upto _ V 4 (dr main_while0b_call5_c) : S_.Idx → BitVec 32) (Shape.Idx.first h_S_)) = _
    after_reads_simp
    rfl
  · congr 1
    pointwise

/-- The records of their scores. -/
theorem rb5_5 (V : Valuation τ sig (Elt Ideal)) (t : ℕ) (ht : t < 100)
    (hc : ((V (dr main_v31_2) : S_.Idx → BitVec 32) (Shape.Idx.first h_S_)).toInt = t) (t' : Fin 100) (r : Fin 8) :
    f2 100 8 (after rb5 V (dr main_v31_5)) (ix2 t' r) =
      if t'.val = t then f2 8 1 (V (dr main_while0b_v51)) (ix2 r 0) else f2 100 8 (V (dr main_v31_5)) (ix2 t' r) := by
  unfold rb5 f2
  after_reads_simp
  simp -implicitDefEqProofs only [StableHlo.TRef.toBuf, StableHlo.TRef.ofBuf, cast_cast, cast_eq, id]
  refine (row_put (f2 100 8 (V (dr main_v31_5))) _ _ updateFits_S100x8_S1x8 t ht ?_ ?_ t' r).trans ?_
  · show BitVec.toInt ((StableHlo.upto _ V 7 (dr main_v31_2) : S_.Idx → BitVec 32) (Shape.Idx.first h_S_)) = _
    after_reads_simp
    exact hc
  · show BitVec.toInt ((StableHlo.upto _ V 7 (dr main_while0b_call6_c) : S_.Idx → BitVec 32) (Shape.Idx.first h_S_)) = _
    after_reads_simp
    rfl
  · congr 1
    pointwise

theorem rb5_3 (V : Valuation τ sig (Elt Ideal)) : after rb5 V (dr main_v31_3) = V (dr main_while0b_v119) := by
  unfold rb5
  after_reads_simp
  rfl

end Cert.Proof.Ref
-- ==== Proof.RefVal.lean ====
/-
  The reference as a greedy selection: what its hundred trips select, and its results in terms of that.
-/
module

public import proofs.«01_k».proof.Proof.RefEl
public import Idealize.ShloMosaic.Lib.Pointwise
public import Idealize.ShloMosaic.Lib.StableHlo.ReadAt

@[expose] public section

set_option maxRecDepth 16384
set_option maxHeartbeats 4000000

noncomputable section

namespace Cert.Proof.Ref

open Cert.ReferenceIdeal Cert.ReferenceIdeal.Gen
open Idealize.ShloMosaic Idealize.ShloMosaic.TcCoe
open Idealize.ShloMosaic.StableHlo (held after seq afterL Plain atTrip entryContents finalContents CondSpec)
open Cert.Proof.Nms (iouV msc cNo cHalf)

local notation "dr" => Proc.devRef (τ := τ) (sig := sig) Proc.tc

open Cert.Proof.Nms (Row Sel)

/-- A row of an array, by position. -/
def row (x : S8x20000.Idx → EReal) (r : Fin 8) (n : ℕ) : EReal := if h : n < 20000 then x (ix2 r ⟨n, h⟩) else 0
/-- A coordinate of a row's boxes, by position. -/
def box (x : S8x20000x4.Idx → EReal) (r : Fin 8) (c : Fin 4) (n : ℕ) : EReal := if h : n < 20000 then x (ix3 r ⟨n, h⟩ c) else 0

theorem row_lt (x : S8x20000.Idx → EReal) (r : Fin 8) (i : Fin 20000) : row x r i.val = x (ix2 r i) := dif_pos i.isLt
theorem box_lt (x : S8x20000x4.Idx → EReal) (r : Fin 8) (c : Fin 4) (i : Fin 20000) : box x r c i.val = x (ix3 r i c) := dif_pos i.isLt

/-- The next score of a box whose overlap test and own test are known. -/
theorem next_eq (p : Prop) [Decidable p] (w v : BitVec 32) (a : BitVec 1) (x y : EReal) (ha : a = 1#1 ↔ p) (n k : ℕ) (hn : n < 20000) (hk : k < 20000)
    (hw : w = BitVec.ofNat 32 n) (hv : v = BitVec.ofNat 32 k) :
    Scalar.select (IntOp.ori a (IntOp.cmpi .eq w v)) x y = if p ∨ n = k then x else y := by
  have he : IntOp.cmpi .eq w v = 1#1 ↔ n = k := by
    rw [hw, hv]
    have h1 : (BitVec.ofNat 32 n = BitVec.ofNat 32 k) ↔ n = k := by
      constructor
      · intro h
        have h2 := congrArg BitVec.toNat h
        rw [BitVec.toNat_ofNat, BitVec.toNat_ofNat, Nat.mod_eq_of_lt (by omega), Nat.mod_eq_of_lt (by omega)] at h2
        exact h2
      · intro h; rw [h]
    rw [← h1]
    show BitVec.ofBool (BitVec.ofNat 32 n == BitVec.ofNat 32 k) = 1#1 ↔ _
    by_cases e : BitVec.ofNat 32 n = BitVec.ofNat 32 k
    · simp [e]
    · rw [show (BitVec.ofNat 32 n == BitVec.ofNat 32 k) = false from beq_false_of_ne e]
      exact ⟨fun h => absurd h (by decide), fun h => absurd h e⟩
  have ho : ∀ b d : BitVec 1, IntOp.ori b d = 1#1 ↔ b = 1#1 ∨ d = 1#1 := by decide
  by_cases e : p ∨ n = k
  · rw [if_pos e, Nms.sel_pos ((ho _ _).mpr (e.imp ha.mpr he.mpr))]
  · rw [if_neg e, Nms.sel_neg (fun h => e (((ho _ _).mp h).imp ha.mp he.mp))]

/-- What one trip does: each row's first largest score is found, recorded, and the next scores are made from it. -/
theorem trip_at (V : Valuation τ sig (Elt Ideal)) (t : ℕ) (ht : t < 100) (X : S8x20000x4.Idx → EReal) (hX : V (dr main_v31_0) = X)
    (hc : ((V (dr main_v31_2) : S_.Idx → BitVec 32) (Shape.Idx.first h_S_)).toInt = t)
    (hi : ∀ i : Fin 20000, i2 1 20000 (V (dr main_v31_1)) (ix2 0 i) = BitVec.ofNat 32 i.val) :
    ∃ k : Fin 8 → ℕ, ∀ r,
      FirstMax 20000 (row (V (dr main_v31_3)) r) (k r) ∧
      (∀ i : Fin 20000, f2 8 20000 (trip V (dr main_v31_3)) (ix2 r i) =
        (let b := fun c : Fin 4 => box X r c (k r)
         let x := fun c : Fin 4 => box X r c i.val
         Scalar.select (IntOp.ori (Ideal.cmp .ogt (iouV (F := Ideal) (x 0) (x 1) (x 2) (x 3) ((x 2 - x 0) * (x 3 - x 1))
            (b 0) (b 1) (b 2) (b 3) ((b 2 - b 0) * (b 3 - b 1))) cHalf)
          (IntOp.cmpi .eq (BitVec.ofNat 32 i.val) (BitVec.ofNat 32 (k r))))
          cNo (row (V (dr main_v31_3)) r i.val))) ∧
      (∀ t' : Fin 100, i2 100 8 (trip V (dr main_v31_4)) (ix2 t' r) =
        if t'.val = t then BitVec.ofNat 32 (k r) else i2 100 8 (V (dr main_v31_4)) (ix2 t' r)) ∧
      (∀ t' : Fin 100, f2 100 8 (trip V (dr main_v31_5)) (ix2 t' r) =
        if t'.val = t then row (V (dr main_v31_3)) r (k r) else f2 100 8 (V (dr main_v31_5)) (ix2 t' r)) := by
  subst hX
  have c0 : ∀ {q : Ref sig .tc}, q ∉ rcW → after rc V (dr q) = V (dr q) := fun h => StableHlo.after_of_writes_sub _ _ rc_writes h
  generalize hA : after rc V = A at c0
  have c1 : ∀ {q : Ref sig .tc}, q ∉ rb1W → after rb1 A (dr q) = A (dr q) := fun h => StableHlo.after_of_writes_sub _ _ rb1_writes h
  have hk : ∀ r : Fin 8, ∃ k, FirstMax 20000 (row (V (dr main_v31_3)) r) k ∧
      i2 8 1 (after rb1 A (dr main_while0b_v50)) (ix2 r 0) = BitVec.ofNat 32 k := fun r =>
    rb1_at A r _ (fun i => by rw [c0 (by decide)]; exact (row_lt _ r i).symm)
  choose k hk using hk
  generalize hB : after rb1 A = B at c1 hk
  have c2 : ∀ {q : Ref sig .tc}, q ∉ rb2W → after rb2 B (dr q) = B (dr q) := fun h => StableHlo.after_of_writes_sub _ _ rb2_writes h
  have e2 : ∀ r : Fin 8, f2 8 1 (after rb2 B (dr main_while0b_v51)) (ix2 r 0) = row (V (dr main_v31_3)) r (k r) := fun r => by
    refine (rb2_at B r ⟨k r, (hk r).1.1⟩ (hk r).2).trans ?_
    rw [c1 (by decide), c0 (by decide)]
    exact (row_lt _ r ⟨k r, (hk r).1.1⟩).symm
  generalize hC : after rb2 B = C at c2 e2
  have c3 : ∀ {q : Ref sig .tc}, q ∉ rb3W → after rb3 C (dr q) = C (dr q) := fun h => StableHlo.after_of_writes_sub _ _ rb3_writes h
  have e3 : ∀ (r : Fin 8) (c : Fin 4), f3 8 1 4 (after rb3 C (dr main_while0b_v53)) (ix3 r 0 c) = box (V (dr main_v31_0)) r c (k r) := fun r c => by
    refine (rb3_at C r c ⟨k r, (hk r).1.1⟩ ?_).trans ?_
    · rw [c2 (by decide)]; exact (hk r).2
    · rw [c2 (by decide), c1 (by decide), c0 (by decide)]
      exact (box_lt _ r c ⟨k r, (hk r).1.1⟩).symm
  generalize hD : after rb3 C = D at c3 e3
  have c4 : ∀ {q : Ref sig .tc}, q ∉ rb4W → after rb4 D (dr q) = D (dr q) := fun h => StableHlo.after_of_writes_sub _ _ rb4_writes h
  have ht' : trip V = after rb5 (after rb4 D) := by rw [← hD, ← hC, ← hB, ← hA]; rfl
  have hcE : ((after rb4 D (dr main_v31_2) : S_.Idx → BitVec 32) (Shape.Idx.first h_S_)).toInt = t := by
    rw [c4 (by decide), c3 (by decide), c2 (by decide), c1 (by decide), c0 (by decide)]; exact hc
  refine ⟨k, fun r => ⟨(hk r).1, fun i => ?_, fun t' => ?_, fun t' => ?_⟩⟩
  · rw [ht', rb5_3, rb4_at]
    simp only [e3]
    rw [c3 (by decide), c2 (by decide), c1 (by decide), c0 (by decide), c3 (by decide), c2 (by decide), c1 (by decide), c0 (by decide), hi,
      c3 (by decide), c2 (by decide), (hk r).2, c3 (by decide), c2 (by decide), c1 (by decide), c0 (by decide), row_lt]
    simp only [box_lt]
  · rw [ht', rb5_4 _ t ht hcE]
    rw [c4 (by decide), c3 (by decide), c2 (by decide), (hk r).2, c4 (by decide), c3 (by decide), c2 (by decide), c1 (by decide), c0 (by decide)]
  · rw [ht', rb5_5 _ t ht hcE]
    rw [c4 (by decide), c3 (by decide), e2, c4 (by decide), c3 (by decide), c2 (by decide), c1 (by decide), c0 (by decide)]

variable (m : (ℓ : Loc nD τ sig) → Buf (Elt Ideal) ℓ)

theorem ctr_at (c : Dev nD) (t : ℕ) (ht : t < 100) :
    ((Wk m t c (dr main_v31_2) : S_.Idx → BitVec 32) (Shape.Idx.first h_S_)).toInt = t := by
  rw [Wk_ctr]
  show (Scf.iv 0#32 1#32 t).toInt = t
  have e : Scf.iv 0#32 1#32 t = BitVec.ofNat 32 t := by
    simp [Scf.iv]
  rw [e, BitVec.toInt_eq_toNat_of_lt (by rw [BitVec.toNat_ofNat]; omega), BitVec.toNat_ofNat, Nat.mod_eq_of_lt (by omega)]

/-- The boxes and the scores handed to the reference. -/
abbrev boxes (c : Dev nD) : S8x20000x4.Idx → EReal := m (c, dr main_arg0)
abbrev scores (c : Dev nD) : S8x20000.Idx → EReal := m (c, dr main_arg1)

theorem Wk_box (c : Dev nD) (t : ℕ) : Wk m t c (dr main_v31_0) = m (c, dr main_arg0) := by
  rw [Wk_keep m t c (by decide) (by decide) (by decide) (by decide) (by decide) (by decide)]
  exact rp_box _

theorem Wk_iota (c : Dev nD) (t : ℕ) (i : Fin 20000) : i2 1 20000 (Wk m t c (dr main_v31_1)) (ix2 0 i) = BitVec.ofNat 32 i.val := by
  rw [Wk_keep m t c (by decide) (by decide) (by decide) (by decide) (by decide) (by decide)]
  exact rp_iota _ i

/-- What a row is, as far as the selection looks at it. -/
def IsRow (c : Dev nD) (r : Fin 8) (W : Row) : Prop :=
  ∀ n < 20000, W.y0 n = box (boxes m c) r 0 n ∧ W.x0 n = box (boxes m c) r 1 n ∧ W.y1 n = box (boxes m c) r 2 n ∧
    W.x1 n = box (boxes m c) r 3 n ∧ W.m n = msc (F := Ideal) (row (scores m c) r n) (box (boxes m c) r 0 n) (box (boxes m c) r 1 n)
      (box (boxes m c) r 2 n) (box (boxes m c) r 3 n)

open scoped Classical in
/-- The reference's loop is the greedy selection, and its records are what it selects. -/
theorem ref_sel (c : Dev nD) : ∃ (k : Fin 8 → ℕ → ℕ) (R : Fin 8 → ℕ → ℕ → EReal), ∀ r : Fin 8,
    (∀ W : Row, IsRow m c r W → Sel W (R r) (k r)) ∧
    ∀ t : Fin 100, k r t.val < 20000 ∧
      i2 100 8 (Wk m 100 c (dr main_v31_4)) (ix2 t r) = BitVec.ofNat 32 (k r t.val) ∧
      f2 100 8 (Wk m 100 c (dr main_v31_5)) (ix2 t r) = R r t.val (k r t.val) := by
  have h : ∀ t : ℕ, ∃ k : Fin 8 → ℕ, t < 100 → ∀ r : Fin 8, _ := fun t => by
    by_cases ht : t < 100
    · obtain ⟨k, hk⟩ := trip_at (Wk m t c) t ht (boxes m c) (Wk_box m c t) (ctr_at m c t ht) (Wk_iota m c t)
      exact ⟨k, fun _ => hk⟩
    · exact ⟨fun _ => 0, fun h => absurd h ht⟩
  choose k hk using h
  simp only [← Wk_succ] at hk
  refine ⟨fun r t => k t r, fun r t n => row (Wk m t c (dr main_v31_3)) r n, fun r => ⟨fun W hW => ?_, fun t => ?_⟩⟩
  · refine ⟨fun n hn => ?_, fun t ht => (hk t ht r).1.1, fun t ht n hn => (hk t ht r).1.2 n hn, fun t ht n hn => ?_⟩
    · have h1 : row (Wk m 0 c (dr main_v31_3)) r n = f2 8 20000 (Wk m 0 c (dr main_v31_3)) (ix2 r ⟨n, hn⟩) := dif_pos hn
      show row (Wk m 0 c (dr main_v31_3)) r n = _
      rw [h1, (hW n hn).2.2.2.2]
      refine (rp_at _ r ⟨n, hn⟩).trans ?_
      simp only [row, box, dif_pos hn]
    · have h1 := (hk t ht r).2.1 ⟨n, hn⟩
      have hl := (hk t ht r).1.1
      have h2 : row (Wk m (t + 1) c (dr main_v31_3)) r n = f2 8 20000 (Wk m (t + 1) c (dr main_v31_3)) (ix2 r ⟨n, hn⟩) := dif_pos hn
      show row (Wk m (t + 1) c (dr main_v31_3)) r n = _
      rw [h2, h1]
      refine next_eq (W.sup n (k t r)) _ _ _ _ _ ?_ n (k t r) hn hl rfl rfl
      rw [Nms.cmp_gt]
      unfold Nms.Row.sup Nms.Row.iou Nms.Row.area
      obtain ⟨a0, a1, a2, a3, -⟩ := hW n hn
      obtain ⟨b0, b1, b2, b3, -⟩ := hW (k t r) hl
      rw [a0, a1, a2, a3, b0, b1, b2, b3]
  · refine ⟨(hk t.val t.isLt r).1.1, ?_⟩
    have hs : ∀ T, t.val < T → T ≤ 100 →
        i2 100 8 (Wk m T c (dr main_v31_4)) (ix2 t r) = BitVec.ofNat 32 (k t.val r) ∧
        f2 100 8 (Wk m T c (dr main_v31_5)) (ix2 t r) = row (Wk m t.val c (dr main_v31_3)) r (k t.val r) := by
      intro T
      induction T with
      | zero => intro h; exact absurd h (Nat.not_lt_zero _)
      | succ T ih =>
        intro h h'
        have h3 := (hk T (by omega) r).2.2.1 t
        have h4 := (hk T (by omega) r).2.2.2 t
        rw [h3, h4]
        by_cases e : t.val = T
        · rw [if_pos e, if_pos e, ← e]
          exact ⟨rfl, rfl⟩
        · rw [if_neg e, if_neg e]
          exact ih (by omega) (by omega)
    exact hs 100 t.isLt le_rfl

/-- The loss of an array of returned scores. -/
def loss (x : FVec Ideal S8x100 .f32) : FVec Ideal S_ .f32 :=
  Host.reduceAdd (Host.powf (maximumf (Host.reduce FloatOps.maximumf x (constant S_ .f32 0xFF800000#32) reducesTo_S8x100_S8_d1 h_S_)
    (broadcastInDim S8 ![] bcast_S_S8 (constant S_ .f32 0x00000000#32)))
    (broadcastInDim S8 ![] bcast_S_S8 (constant S_ .f32 0x40000000#32))) (constant S_ .f32 0x00000000#32) reducesTo_S8_S_d0 h_S_

theorem rq6_at (V : Valuation τ sig (Elt Ideal)) : after rq6 V (dr main_v48) = loss (V (dr main_v42)) := by
  unfold rq6
  after_reads_simp
  rfl

theorem Wend_loss (c : Dev nD) : Wend m c (dr main_v48) = loss (Wend m c (dr main_v42)) := by
  rw [Wend_eq, rq6_at, StableHlo.after_of_writes_sub _ _ rq6_writes (by decide)]

/-- The reference's results, in terms of what it selects. -/
theorem ref_out (c : Dev nD) : ∃ (k : Fin 8 → ℕ → ℕ) (R : Fin 8 → ℕ → ℕ → EReal), ∀ r : Fin 8,
    (∀ W : Row, IsRow m c r W → Sel W (R r) (k r)) ∧
    ∀ t : Fin 100,
      f2 8 100 (Wend m c (dr main_v42)) (ix2 r t) =
        Scalar.select (Ideal.cmp .ogt (R r t.val (k r t.val)) 0) (row (scores m c) r (k r t.val)) (0 : EReal) ∧
      ∀ q : Fin 4, f3 8 100 4 (Wend m c (dr main_v40)) (ix3 r t q) =
        Scalar.select (Ideal.cmp .ogt (R r t.val (k r t.val)) 0)
          (min (Ideal.ofBits .f32 0x44000000#32) (max 0 (box (boxes m c) r q (k r t.val)))) (0 : EReal) := by
  obtain ⟨k, R, h⟩ := ref_sel m c
  refine ⟨k, R, fun r => ⟨(h r).1, fun t => ?_⟩⟩
  obtain ⟨hl, h4, h5⟩ := (h r).2 t
  have x : ∀ {q : Ref sig .tc}, q ∉ rcW → Wx m c (dr q) = Wk m 100 c (dr q) := fun h => StableHlo.after_of_writes_sub _ _ rc_writes h
  have xa0 : Wx m c (dr main_arg0) = boxes m c := by
    rw [Wx_keep m c (by decide) (by decide) (by decide) (by decide) (by decide) (by decide), W0_keep m c (by decide)]
  have xa1 : Wx m c (dr main_arg1) = scores m c := by
    rw [Wx_keep m c (by decide) (by decide) (by decide) (by decide) (by decide) (by decide), W0_keep m c (by decide)]
  have x4 : Wx m c (dr main_v31_4) = Wk m 100 c (dr main_v31_4) := x (by decide)
  have x5 : Wx m c (dr main_v31_5) = Wk m 100 c (dr main_v31_5) := x (by decide)
  rw [Wend_eq]
  generalize Wx m c = A at xa0 xa1 x4 x5
  have k1 : ∀ {q : Ref sig .tc}, q ∉ rq1W → after rq1 A (dr q) = A (dr q) := fun h => StableHlo.after_of_writes_sub _ _ rq1_writes h
  have e32 : i2 8 100 (after rq1 A (dr main_v32)) (ix2 r t) = BitVec.ofNat 32 (k r t.val) := by rw [rq1_at32, x4, h4]
  have e37 : i3 8 100 1 (after rq1 A (dr main_v37)) (ix3 r t 0) = BitVec.ofNat 32 (k r t.val) := by rw [rq1_at37, x4, h4]
  have e35 := rq1_at35 A r t
  have e36 := rq1_at36 A r t
  rw [x5, h5] at e35 e36
  have b0 : after rq1 A (dr main_arg0) = boxes m c := (k1 (by decide)).trans xa0
  have b1 : after rq1 A (dr main_arg1) = scores m c := (k1 (by decide)).trans xa1
  generalize after rq1 A = B at e32 e37 e35 e36 b0 b1
  have k2 : ∀ {q : Ref sig .tc}, q ∉ rq2W → after rq2 B (dr q) = B (dr q) := fun h => StableHlo.after_of_writes_sub _ _ rq2_writes h
  have e38 : ∀ q : Fin 4, f3 8 100 4 (after rq2 B (dr main_v38)) (ix3 r t q) = box (boxes m c) r q (k r t.val) := fun q => by
    rw [rq2_at B r t q ⟨k r t.val, hl⟩ e37, b0]
    exact (box_lt _ r q ⟨k r t.val, hl⟩).symm
  rw [← k2 (by decide)] at e32 e35 e36 b1
  generalize after rq2 B = C at e32 e35 e36 b1 e38
  have k3 : ∀ {q : Ref sig .tc}, q ∉ rq3W → after rq3 C (dr q) = C (dr q) := fun h => StableHlo.after_of_writes_sub _ _ rq3_writes h
  have e40 : ∀ q : Fin 4, _ := fun q => rq3_at C r t q
  rw [e36] at e40
  simp only [e38] at e40
  rw [← k3 (by decide)] at e32 e35 b1
  generalize after rq3 C = D at e32 e35 b1 e40
  have k4 : ∀ {q : Ref sig .tc}, q ∉ rq4W → after rq4 D (dr q) = D (dr q) := fun h => StableHlo.after_of_writes_sub _ _ rq4_writes h
  have e41 : f2 8 100 (after rq4 D (dr main_v41)) (ix2 r t) = row (scores m c) r (k r t.val) := by
    rw [rq4_at D r t ⟨k r t.val, hl⟩ e32, b1]
    exact (row_lt _ r ⟨k r t.val, hl⟩).symm
  have e40' : ∀ q : Fin 4, _ := fun q => (congrFun (k4 (q := main_v40) (by decide)) (ix3 r t q)).trans (e40 q)
  rw [← k4 (by decide)] at e35
  generalize after rq4 D = E at e35 e40' e41
  have e42 := rq5_at E r t
  rw [e35, e41] at e42
  refine ⟨?_, fun q => ?_⟩
  · rw [StableHlo.after_of_writes_sub _ _ rq6_writes (by decide)]
    exact e42
  · rw [StableHlo.after_of_writes_sub _ _ rq6_writes (by decide), StableHlo.after_of_writes_sub _ _ rq5_writes (by decide)]
    exact e40' q

end Cert.Proof.Ref
-- ==== Proof.Value.lean ====
/-
  The results over the extended reals: the kernel's three are the reference's three.
-/
module

public import proofs.«01_k».proof.Defs
public import proofs.«01_k».proof.Proof.KerHost
public import proofs.«01_k».proof.Proof.RefVal

@[expose] public section

set_option maxRecDepth 16384
set_option maxHeartbeats 8000000

noncomputable section

namespace Cert.Proof.Nms

open Cert.KernelIdeal Cert.KernelIdeal.Gen
open Idealize.ShloMosaic Idealize.ShloMosaic.TcCoe Idealize.SL.Sem
open Idealize.ShloMosaic.StableHlo (held after seq)
open Cert.Proof.Ref (row box boxes scores IsRow loss Wend)

local notation "dr" => Proc.devRef (τ := τ) (sig := sig) Proc.tc
local notation "dR" => Proc.devRef (τ := Cert.ReferenceIdeal.τ) (sig := Cert.ReferenceIdeal.sig) Proc.tc

/-- The side of the image. -/
theorem c512_nonneg : (0 : EReal) ≤ Ideal.ofBits .f32 0x44000000#32 := by
  have h : Ideal.ofBits .f32 0x44000000#32 = ((512 : ℝ) : EReal) := by
    simp [Ideal.ofBits, Ideal.ieee, -EReal.coe_mul, -EReal.coe_neg]; norm_num
  rw [h, ← EReal.coe_zero, EReal.coe_le_coe_iff]
  norm_num

/-- Clamping a coordinate or nothing. -/
theorem clip1_sel (p : BitVec 1) (x : EReal) :
    clip1 (Scalar.select p x 0) = Scalar.select p (min (Ideal.ofBits .f32 0x44000000#32) (max 0 x)) (0 : EReal) := by
  rw [clip1_eq]
  by_cases h : p = 1#1
  · rw [sel_pos h, sel_pos h]
  · rw [sel_neg h, sel_neg h, max_self, min_eq_right c512_nonneg]

theorem pin_ix (r : Fin 8) (n : ℕ) (h : n < 20016) : pin r.val n = ix2 r ⟨n, h⟩ := by
  funext a
  match a with
  | 0 => exact Fin.ext (Nat.mod_eq_of_lt r.isLt)
  | 1 => exact Fin.ext (Nat.mod_eq_of_lt h)

/-- The loss is a function of the scores returned. -/
theorem post_loss (V : Valuation τ sig (Elt Ideal)) : after post V (dr main_v27) = loss (after post V (dr main_v21)) := by
  unfold post
  after_reads_simp
  rfl

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The row of boxes a tile is handed is the reference's. -/
theorem isRow (d : Dev nD) (h0 : boxes m' d = m (d, dr main_arg0)) (h1 : scores m' d = m (d, dr main_arg1)) (r : Fin 8) :
    IsRow m' d r (rowOf ((insM m d).row r.val)) ∧ (∀ n < 20000, ((insM m d).row r.val).i4 n = row (scores m' d) r n) ∧
      ∀ n, 20000 ≤ n → n < 20016 → ((insM m d).row r.val).i4 n = (0 : EReal) := by
  have b0 : ∀ n < 20000, ((insM m d).row r.val).i0 n = box (boxes m' d) r 0 n := fun n hn =>
    (congrArg (insM m d).A0 (pin_ix r n (by omega))).trans ((pre_y0 (fun b => m (d, b)) r ⟨n, by omega⟩).trans ((dif_pos hn).trans (by rw [h0]; exact (Ref.box_lt _ r 0 ⟨n, hn⟩).symm)))
  have b1 : ∀ n < 20000, ((insM m d).row r.val).i1 n = box (boxes m' d) r 1 n := fun n hn =>
    (congrArg (insM m d).A1 (pin_ix r n (by omega))).trans ((pre_x0 (fun b => m (d, b)) r ⟨n, by omega⟩).trans ((dif_pos hn).trans (by rw [h0]; exact (Ref.box_lt _ r 1 ⟨n, hn⟩).symm)))
  have b2 : ∀ n < 20000, ((insM m d).row r.val).i2 n = box (boxes m' d) r 2 n := fun n hn =>
    (congrArg (insM m d).A2 (pin_ix r n (by omega))).trans ((pre_y1 (fun b => m (d, b)) r ⟨n, by omega⟩).trans ((dif_pos hn).trans (by rw [h0]; exact (Ref.box_lt _ r 2 ⟨n, hn⟩).symm)))
  have b3 : ∀ n < 20000, ((insM m d).row r.val).i3 n = box (boxes m' d) r 3 n := fun n hn =>
    (congrArg (insM m d).A3 (pin_ix r n (by omega))).trans ((pre_x1 (fun b => m (d, b)) r ⟨n, by omega⟩).trans ((dif_pos hn).trans (by rw [h0]; exact (Ref.box_lt _ r 3 ⟨n, hn⟩).symm)))
  have b4 : ∀ n < 20000, ((insM m d).row r.val).i4 n = row (scores m' d) r n := fun n hn =>
    (congrArg (insM m d).A4 (pin_ix r n (by omega))).trans ((pre_s (fun b => m (d, b)) r ⟨n, by omega⟩).trans ((dif_pos hn).trans (by rw [h1]; exact (Ref.row_lt _ r ⟨n, hn⟩).symm)))
  refine ⟨fun n hn => ⟨b0 n hn, b1 n hn, b2 n hn, b3 n hn, ?_⟩, b4, fun n hn hn' => ?_⟩
  · rw [← b0 n hn, ← b1 n hn, ← b2 n hn, ← b3 n hn, ← b4 n hn]
    rfl
  · exact (congrArg (insM m d).A4 (pin_ix r n (by omega))).trans ((pre_s (fun b => m (d, b)) r ⟨n, by omega⟩).trans (dif_neg (by show ¬ n < 20000; omega)))

/-- The buffers the kernel ends with are the reference's results. -/
theorem results (d : Dev nD) (h0 : boxes m' d = m (d, dr main_arg0)) (h1 : scores m' d = m (d, dr main_arg1)) (G : Outs Ideal) (hG : Post (insM m d) G) :
    V3 m d G (dr main_v20) = Wend m' d (dR Cert.ReferenceIdeal.main_v40) ∧ V3 m d G (dr main_v21) = Wend m' d (dR Cert.ReferenceIdeal.main_v42) ∧
      V3 m d G (dr main_v27) = Wend m' d (dR Cert.ReferenceIdeal.main_v48) := by
  obtain ⟨Z, rfl, hZ⟩ := hG
  obtain ⟨k, R, h⟩ := Ref.ref_out m' d
  have hT : ∀ (r : Fin 8) (t : Fin 100), k r t.val < 20000 ∧ _ := fun r t =>
    have hr := isRow m m' d h0 h1 r
    have hS := (h r).1 _ hr.1
    ⟨hS.lt t.val t.isLt, tile_out _ (Z r.val) (hZ r.val r.isLt) hr.2.2 (R r) (k r) hS t.val t.isLt⟩
  have hs : V3 m d (gather Z) (dr main_v21) = Wend m' d (dR Cert.ReferenceIdeal.main_v42) := by
    funext j
    rw [show j = ix2 (j 0) (j 1) from eq_ix2 j]
    generalize (j 0 : Fin 8) = r
    generalize (j 1 : Fin 100) = t
    obtain ⟨hk, -, -, -, -, o⟩ := hT r t
    have hr := isRow m m' d h0 h1 r
    rw [hr.2.1 _ hk] at o
    have q := post_s (putOuts (V1 m d) (gather Z)) r t
    rw [putOuts_4] at q
    exact q.trans (o.trans ((h r).2 t).1.symm)
  refine ⟨?_, hs, ?_⟩
  · have key : ∀ (r : Fin 8) (t : Fin 100) (c : Fin 4), g3 8 100 4 (V3 m d (gather Z) (dr main_v20)) (ix3 r t c) =
        g3 8 100 4 (Wend m' d (dR Cert.ReferenceIdeal.main_v40)) (ix3 r t c) := by
      intro r t
      obtain ⟨hk, o0, o1, o2, o3, -⟩ := hT r t
      have hr := isRow m m' d h0 h1 r
      obtain ⟨b0, b1, b2, b3, -⟩ := hr.1 _ hk
      have hq := ((h r).2 t).2
      intro c
      match c with
      | 0 =>
        have q := post_0 (putOuts (V1 m d) (gather Z)) r t
        rw [putOuts_0] at q
        exact q.trans ((congrArg clip1 (o0.trans (congrArg (fun x : EReal => Scalar.select _ x (0 : EReal)) b0))).trans ((clip1_sel _ _).trans (hq 0).symm))
      | 1 =>
        have q := post_1 (putOuts (V1 m d) (gather Z)) r t
        rw [putOuts_1] at q
        exact q.trans ((congrArg clip1 (o1.trans (congrArg (fun x : EReal => Scalar.select _ x (0 : EReal)) b1))).trans ((clip1_sel _ _).trans (hq 1).symm))
      | 2 =>
        have q := post_2 (putOuts (V1 m d) (gather Z)) r t
        rw [putOuts_2] at q
        exact q.trans ((congrArg clip1 (o2.trans (congrArg (fun x : EReal => Scalar.select _ x (0 : EReal)) b2))).trans ((clip1_sel _ _).trans (hq 2).symm))
      | 3 =>
        have q := post_3 (putOuts (V1 m d) (gather Z)) r t
        rw [putOuts_3] at q
        exact q.trans ((congrArg clip1 (o3.trans (congrArg (fun x : EReal => Scalar.select _ x (0 : EReal)) b3))).trans ((clip1_sel _ _).trans (hq 3).symm))
    funext j
    rw [show j = ix3 (j 0) (j 1) (j 2) from eq_ix3 j]
    exact key (j 0) (j 1) (j 2)
  · exact (post_loss _).trans ((congrArg loss hs).trans (Ref.Wend_loss m' d).symm)

/-- The kernel and the reference, run over the ideal numbers from the same arguments, return the same three arrays. -/
theorem value_ideal : Cert.algebraic_KernelIdeal_ReferenceIdeal := by
  intro m g m' g' _ hm
  refine ⟨fun c => Wend m' c (dR Cert.ReferenceIdeal.main_v40), fun c => Wend m' c (dR Cert.ReferenceIdeal.main_v42), fun c => Wend m' c (dR Cert.ReferenceIdeal.main_v48), ?_, ?_⟩
  · refine (θ_run Cert.KernelIdeal.defs _ _).mono (fun s hs c => ?_) (run_main m g)
    have hE := hs.1 c
    obtain ⟨G, hG, hb⟩ := hs.1 c
    have hr := results m m' c (hm c).1 (hm c).2 G hG
    exact ⟨(hb _ (mem_uc main_v20 (by decide))).trans hr.1, (hb _ (mem_uc main_v21 (by decide))).trans hr.2.1, (hb _ (mem_uc main_v27 (by decide))).trans hr.2.2,
      ends_kept m c _ hE main_arg0 (by decide) (by decide) (by decide) (by decide), ends_kept m c _ hE main_arg1 (by decide) (by decide) (by decide) (by decide)⟩
  · refine (θ_run Cert.ReferenceIdeal.defs _ _).mono (fun s hs c => ?_) (Ref.run_ref m' g')
    exact ⟨hs c _ (by decide), hs c _ (by decide), hs c _ (by decide),
      (hs c _ (by decide)).trans (Ref.Wend_arg m' c (.inl rfl)), (hs c _ (by decide)).trans (Ref.Wend_arg m' c (.inr rfl))⟩

end Cert.Proof.Nms
-- ==== Proof.lean ====
/-
  The certificate's claim.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Frames
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts,
  Nms.frame_kernel, Nms.frame_ideal, Ref.frame_ref, trivial, Nms.value_ideal⟩

end Cert.Proof

end
